-- ==== Defs.lean ====
def Pre_InputBwd (m : (ℓ : Loc Cert.InputBwd.nD Cert.InputBwd.τ Cert.InputBwd.sig) → Buf (Elt Bits) ℓ) : Prop :=
  True

def Pre_InputBwdIdeal (m : (ℓ : Loc Cert.InputBwdIdeal.nD Cert.InputBwdIdeal.τ Cert.InputBwdIdeal.sig) → Buf (Elt Ideal) ℓ) : Prop :=
  True

def Pre_InputBwdIdeal_input_finite [hPre_input_finite : Cert.Pre_input_finite.Facts] (m : (ℓ : Loc Cert.InputBwdIdeal.nD Cert.InputBwdIdeal.τ Cert.InputBwdIdeal.sig) → Buf (Elt Ideal) ℓ) : Prop :=
  ∀ c : Dev Cert.InputBwdIdeal.nD,
    (Cert.Pre_input_finite.fn (F := Ideal) (m ((c.tc : Thread Cert.InputBwdIdeal.nD Cert.InputBwdIdeal.τ).loc Cert.InputBwdIdeal.main_arg0)) (m ((c.tc : Thread Cert.InputBwdIdeal.nD Cert.InputBwdIdeal.τ).loc Cert.InputBwdIdeal.main_arg1)) (m ((c.tc : Thread Cert.InputBwdIdeal.nD Cert.InputBwdIdeal.τ).loc Cert.InputBwdIdeal.main_arg2)) (m ((c.tc : Thread Cert.InputBwdIdeal.nD Cert.InputBwdIdeal.τ).loc Cert.InputBwdIdeal.main_arg3)) (m ((c.tc : Thread Cert.InputBwdIdeal.nD Cert.InputBwdIdeal.τ).loc Cert.InputBwdIdeal.main_arg4)) (m ((c.tc : Thread Cert.InputBwdIdeal.nD Cert.InputBwdIdeal.τ).loc Cert.InputBwdIdeal.main_arg5))) = (fun _ => 1#1)

def Pre_InputRefIdeal (m : (ℓ : Loc Cert.InputRefIdeal.nD Cert.InputRefIdeal.τ Cert.InputRefIdeal.sig) → Buf (Elt Ideal) ℓ) : Prop :=
  True

def Pre_InputRefIdeal_input_finite [hPre_input_finite : Cert.Pre_input_finite.Facts] (m : (ℓ : Loc Cert.InputRefIdeal.nD Cert.InputRefIdeal.τ Cert.InputRefIdeal.sig) → Buf (Elt Ideal) ℓ) : Prop :=
  ∀ c : Dev Cert.InputRefIdeal.nD,
    (Cert.Pre_input_finite.fn (F := Ideal) (m ((c.tc : Thread Cert.InputRefIdeal.nD Cert.InputRefIdeal.τ).loc Cert.InputRefIdeal.main_arg0)) (m ((c.tc : Thread Cert.InputRefIdeal.nD Cert.InputRefIdeal.τ).loc Cert.InputRefIdeal.main_arg1)) (m ((c.tc : Thread Cert.InputRefIdeal.nD Cert.InputRefIdeal.τ).loc Cert.InputRefIdeal.main_arg2)) (m ((c.tc : Thread Cert.InputRefIdeal.nD Cert.InputRefIdeal.τ).loc Cert.InputRefIdeal.main_arg3)) (m ((c.tc : Thread Cert.InputRefIdeal.nD Cert.InputRefIdeal.τ).loc Cert.InputRefIdeal.main_arg4)) (m ((c.tc : Thread Cert.InputRefIdeal.nD Cert.InputRefIdeal.τ).loc Cert.InputRefIdeal.main_arg5))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleIdeal_middle_finite [hPre_middle_finite : Cert.Pre_middle_finite.Facts] (m : (ℓ : Loc Cert.MiddleIdeal.nD Cert.MiddleIdeal.τ Cert.MiddleIdeal.sig) → Buf (Elt Ideal) ℓ) : Prop :=
  ∀ c : Dev Cert.MiddleIdeal.nD,
    (Cert.Pre_middle_finite.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))) = (fun _ => 1#1)

def Pre_MiddleRefIdeal (m : (ℓ : Loc Cert.MiddleRefIdeal.nD Cert.MiddleRefIdeal.τ Cert.MiddleRefIdeal.sig) → Buf (Elt Ideal) ℓ) : Prop :=
  True

def Pre_MiddleRefIdeal_middle_finite [hPre_middle_finite : Cert.Pre_middle_finite.Facts] (m : (ℓ : Loc Cert.MiddleRefIdeal.nD Cert.MiddleRefIdeal.τ Cert.MiddleRefIdeal.sig) → Buf (Elt Ideal) ℓ) : Prop :=
  ∀ c : Dev Cert.MiddleRefIdeal.nD,
    (Cert.Pre_middle_finite.fn (F := Ideal) (m ((c.tc : Thread Cert.MiddleRefIdeal.nD Cert.MiddleRefIdeal.τ).loc Cert.MiddleRefIdeal.main_arg0)) (m ((c.tc : Thread Cert.MiddleRefIdeal.nD Cert.MiddleRefIdeal.τ).loc Cert.MiddleRefIdeal.main_arg1)) (m ((c.tc : Thread Cert.MiddleRefIdeal.nD Cert.MiddleRefIdeal.τ).loc Cert.MiddleRefIdeal.main_arg2)) (m ((c.tc : Thread Cert.MiddleRefIdeal.nD Cert.MiddleRefIdeal.τ).loc Cert.MiddleRefIdeal.main_arg3)) (m ((c.tc : Thread Cert.MiddleRefIdeal.nD Cert.MiddleRefIdeal.τ).loc Cert.MiddleRefIdeal.main_arg4)) (m ((c.tc : Thread Cert.MiddleRefIdeal.nD Cert.MiddleRefIdeal.τ).loc Cert.MiddleRefIdeal.main_arg5)) (m ((c.tc : Thread Cert.MiddleRefIdeal.nD Cert.MiddleRefIdeal.τ).loc Cert.MiddleRefIdeal.main_arg6)) (m ((c.tc : Thread Cert.MiddleRefIdeal.nD Cert.MiddleRefIdeal.τ).loc Cert.MiddleRefIdeal.main_arg7)) (m ((c.tc : Thread Cert.MiddleRefIdeal.nD Cert.MiddleRefIdeal.τ).loc Cert.MiddleRefIdeal.main_arg8)) (m ((c.tc : Thread Cert.MiddleRefIdeal.nD Cert.MiddleRefIdeal.τ).loc Cert.MiddleRefIdeal.main_arg9)) (m ((c.tc : Thread Cert.MiddleRefIdeal.nD Cert.MiddleRefIdeal.τ).loc Cert.MiddleRefIdeal.main_arg10)) (m ((c.tc : Thread Cert.MiddleRefIdeal.nD Cert.MiddleRefIdeal.τ).loc Cert.MiddleRefIdeal.main_arg11))) = (fun _ => 1#1)

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_PrepBwd (m : (ℓ : Loc Cert.PrepBwd.nD Cert.PrepBwd.τ Cert.PrepBwd.sig) → Buf (Elt Bits) ℓ) : Prop :=
  True

def Pre_PrepBwdIdeal (m : (ℓ : Loc Cert.PrepBwdIdeal.nD Cert.PrepBwdIdeal.τ Cert.PrepBwdIdeal.sig) → Buf (Elt Ideal) ℓ) : Prop :=
  True

def Pre_PrepBwdIdeal_prep_finite [hPre_prep_finite : Cert.Pre_prep_finite.Facts] (m : (ℓ : Loc Cert.PrepBwdIdeal.nD Cert.PrepBwdIdeal.τ Cert.PrepBwdIdeal.sig) → Buf (Elt Ideal) ℓ) : Prop :=
  ∀ c : Dev Cert.PrepBwdIdeal.nD,
    (Cert.Pre_prep_finite.fn (F := Ideal) (m ((c.tc : Thread Cert.PrepBwdIdeal.nD Cert.PrepBwdIdeal.τ).loc Cert.PrepBwdIdeal.main_arg0)) (m ((c.tc : Thread Cert.PrepBwdIdeal.nD Cert.PrepBwdIdeal.τ).loc Cert.PrepBwdIdeal.main_arg1)) (m ((c.tc : Thread Cert.PrepBwdIdeal.nD Cert.PrepBwdIdeal.τ).loc Cert.PrepBwdIdeal.main_arg2)) (m ((c.tc : Thread Cert.PrepBwdIdeal.nD Cert.PrepBwdIdeal.τ).loc Cert.PrepBwdIdeal.main_arg3)) (m ((c.tc : Thread Cert.PrepBwdIdeal.nD Cert.PrepBwdIdeal.τ).loc Cert.PrepBwdIdeal.main_arg4)) (m ((c.tc : Thread Cert.PrepBwdIdeal.nD Cert.PrepBwdIdeal.τ).loc Cert.PrepBwdIdeal.main_arg5)) (m ((c.tc : Thread Cert.PrepBwdIdeal.nD Cert.PrepBwdIdeal.τ).loc Cert.PrepBwdIdeal.main_arg6)) (m ((c.tc : Thread Cert.PrepBwdIdeal.nD Cert.PrepBwdIdeal.τ).loc Cert.PrepBwdIdeal.main_arg7)) (m ((c.tc : Thread Cert.PrepBwdIdeal.nD Cert.PrepBwdIdeal.τ).loc Cert.PrepBwdIdeal.main_arg8)) (m ((c.tc : Thread Cert.PrepBwdIdeal.nD Cert.PrepBwdIdeal.τ).loc Cert.PrepBwdIdeal.main_arg9)) (m ((c.tc : Thread Cert.PrepBwdIdeal.nD Cert.PrepBwdIdeal.τ).loc Cert.PrepBwdIdeal.main_arg10)) (m ((c.tc : Thread Cert.PrepBwdIdeal.nD Cert.PrepBwdIdeal.τ).loc Cert.PrepBwdIdeal.main_arg11)) (m ((c.tc : Thread Cert.PrepBwdIdeal.nD Cert.PrepBwdIdeal.τ).loc Cert.PrepBwdIdeal.main_arg12))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9)) (m ((c.tc : Thread Cert.PrepRefIdeal.nD Cert.PrepRefIdeal.τ).loc Cert.PrepRefIdeal.main_arg10)) (m ((c.tc : Thread Cert.PrepRefIdeal.nD Cert.PrepRefIdeal.τ).loc Cert.PrepRefIdeal.main_arg11)) (m ((c.tc : Thread Cert.PrepRefIdeal.nD Cert.PrepRefIdeal.τ).loc Cert.PrepRefIdeal.main_arg12))) = (fun _ => 1#1)

def Pre_AdaNorm (m : (ℓ : Loc Cert.AdaNorm.nD Cert.AdaNorm.τ Cert.AdaNorm.sig) → Buf (Elt Bits) ℓ) : Prop :=
  True

def Pre_AdaNormIdeal (m : (ℓ : Loc Cert.AdaNormIdeal.nD Cert.AdaNormIdeal.τ Cert.AdaNormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_InputBwd [hInputBwd : Cert.InputBwd.Facts] : Prop :=
  ∀ (m : (ℓ : Loc Cert.InputBwd.nD Cert.InputBwd.τ Cert.InputBwd.sig) → Buf (Elt Bits) ℓ) (g : Dev Cert.InputBwd.nD → PrngReg), Pre_InputBwd m →
    θ_run (Cert.InputBwd.defs (F := Bits)) (onTc (τ := Cert.InputBwd.τ) (Cert.InputBwd.main (F := Bits))) ⟨m, fun _ => 0, g⟩ (fun r => (∀ c : Dev Cert.InputBwd.nD,
      r.2.mem ((c.tc : Thread Cert.InputBwd.nD Cert.InputBwd.τ).loc Cert.InputBwd.main_arg0) = m ((c.tc : Thread Cert.InputBwd.nD Cert.InputBwd.τ).loc Cert.InputBwd.main_arg0)
      ∧ r.2.mem ((c.tc : Thread Cert.InputBwd.nD Cert.InputBwd.τ).loc Cert.InputBwd.main_arg1) = m ((c.tc : Thread Cert.InputBwd.nD Cert.InputBwd.τ).loc Cert.InputBwd.main_arg1)
      ∧ r.2.mem ((c.tc : Thread Cert.InputBwd.nD Cert.InputBwd.τ).loc Cert.InputBwd.main_arg2) = m ((c.tc : Thread Cert.InputBwd.nD Cert.InputBwd.τ).loc Cert.InputBwd.main_arg2)
      ∧ r.2.mem ((c.tc : Thread Cert.InputBwd.nD Cert.InputBwd.τ).loc Cert.InputBwd.main_arg3) = m ((c.tc : Thread Cert.InputBwd.nD Cert.InputBwd.τ).loc Cert.InputBwd.main_arg3)
      ∧ r.2.mem ((c.tc : Thread Cert.InputBwd.nD Cert.InputBwd.τ).loc Cert.InputBwd.main_arg4) = m ((c.tc : Thread Cert.InputBwd.nD Cert.InputBwd.τ).loc Cert.InputBwd.main_arg4)
      ∧ r.2.mem ((c.tc : Thread Cert.InputBwd.nD Cert.InputBwd.τ).loc Cert.InputBwd.main_arg5) = m ((c.tc : Thread Cert.InputBwd.nD Cert.InputBwd.τ).loc Cert.InputBwd.main_arg5))
      ∧ r.2.sem = fun _ => 0)

def quiescent_InputBwdIdeal [hInputBwdIdeal : Cert.InputBwdIdeal.Facts] : Prop :=
  ∀ (m : (ℓ : Loc Cert.InputBwdIdeal.nD Cert.InputBwdIdeal.τ Cert.InputBwdIdeal.sig) → Buf (Elt Ideal) ℓ) (g : Dev Cert.InputBwdIdeal.nD → PrngReg), Pre_InputBwdIdeal m →
    θ_run (Cert.InputBwdIdeal.defs (F := Ideal)) (onTc (τ := Cert.InputBwdIdeal.τ) (Cert.InputBwdIdeal.main (F := Ideal))) ⟨m, fun _ => 0, g⟩ (fun r => (∀ c : Dev Cert.InputBwdIdeal.nD,
      r.2.mem ((c.tc : Thread Cert.InputBwdIdeal.nD Cert.InputBwdIdeal.τ).loc Cert.InputBwdIdeal.main_arg0) = m ((c.tc : Thread Cert.InputBwdIdeal.nD Cert.InputBwdIdeal.τ).loc Cert.InputBwdIdeal.main_arg0)
      ∧ r.2.mem ((c.tc : Thread Cert.InputBwdIdeal.nD Cert.InputBwdIdeal.τ).loc Cert.InputBwdIdeal.main_arg1) = m ((c.tc : Thread Cert.InputBwdIdeal.nD Cert.InputBwdIdeal.τ).loc Cert.InputBwdIdeal.main_arg1)
      ∧ r.2.mem ((c.tc : Thread Cert.InputBwdIdeal.nD Cert.InputBwdIdeal.τ).loc Cert.InputBwdIdeal.main_arg2) = m ((c.tc : Thread Cert.InputBwdIdeal.nD Cert.InputBwdIdeal.τ).loc Cert.InputBwdIdeal.main_arg2)
      ∧ r.2.mem ((c.tc : Thread Cert.InputBwdIdeal.nD Cert.InputBwdIdeal.τ).loc Cert.InputBwdIdeal.main_arg3) = m ((c.tc : Thread Cert.InputBwdIdeal.nD Cert.InputBwdIdeal.τ).loc Cert.InputBwdIdeal.main_arg3)
      ∧ r.2.mem ((c.tc : Thread Cert.InputBwdIdeal.nD Cert.InputBwdIdeal.τ).loc Cert.InputBwdIdeal.main_arg4) = m ((c.tc : Thread Cert.InputBwdIdeal.nD Cert.InputBwdIdeal.τ).loc Cert.InputBwdIdeal.main_arg4)
      ∧ r.2.mem ((c.tc : Thread Cert.InputBwdIdeal.nD Cert.InputBwdIdeal.τ).loc Cert.InputBwdIdeal.main_arg5) = m ((c.tc : Thread Cert.InputBwdIdeal.nD Cert.InputBwdIdeal.τ).loc Cert.InputBwdIdeal.main_arg5))
      ∧ r.2.sem = fun _ => 0)

def quiescent_InputBwdIdeal_pre_input_finite [hInputBwdIdeal : Cert.InputBwdIdeal.Facts] [hPre_input_finite : Cert.Pre_input_finite.Facts] : Prop :=
  ∀ (m : (ℓ : Loc Cert.InputBwdIdeal.nD Cert.InputBwdIdeal.τ Cert.InputBwdIdeal.sig) → Buf (Elt Ideal) ℓ) (g : Dev Cert.InputBwdIdeal.nD → PrngReg), Pre_InputBwdIdeal_input_finite m →
    θ_run (Cert.InputBwdIdeal.defs (F := Ideal)) (onTc (τ := Cert.InputBwdIdeal.τ) (Cert.InputBwdIdeal.main (F := Ideal))) ⟨m, fun _ => 0, g⟩ (fun r => (∀ c : Dev Cert.InputBwdIdeal.nD,
      r.2.mem ((c.tc : Thread Cert.InputBwdIdeal.nD Cert.InputBwdIdeal.τ).loc Cert.InputBwdIdeal.main_arg0) = m ((c.tc : Thread Cert.InputBwdIdeal.nD Cert.InputBwdIdeal.τ).loc Cert.InputBwdIdeal.main_arg0)
      ∧ r.2.mem ((c.tc : Thread Cert.InputBwdIdeal.nD Cert.InputBwdIdeal.τ).loc Cert.InputBwdIdeal.main_arg1) = m ((c.tc : Thread Cert.InputBwdIdeal.nD Cert.InputBwdIdeal.τ).loc Cert.InputBwdIdeal.main_arg1)
      ∧ r.2.mem ((c.tc : Thread Cert.InputBwdIdeal.nD Cert.InputBwdIdeal.τ).loc Cert.InputBwdIdeal.main_arg2) = m ((c.tc : Thread Cert.InputBwdIdeal.nD Cert.InputBwdIdeal.τ).loc Cert.InputBwdIdeal.main_arg2)
      ∧ r.2.mem ((c.tc : Thread Cert.InputBwdIdeal.nD Cert.InputBwdIdeal.τ).loc Cert.InputBwdIdeal.main_arg3) = m ((c.tc : Thread Cert.InputBwdIdeal.nD Cert.InputBwdIdeal.τ).loc Cert.InputBwdIdeal.main_arg3)
      ∧ r.2.mem ((c.tc : Thread Cert.InputBwdIdeal.nD Cert.InputBwdIdeal.τ).loc Cert.InputBwdIdeal.main_arg4) = m ((c.tc : Thread Cert.InputBwdIdeal.nD Cert.InputBwdIdeal.τ).loc Cert.InputBwdIdeal.main_arg4)
      ∧ r.2.mem ((c.tc : Thread Cert.InputBwdIdeal.nD Cert.InputBwdIdeal.τ).loc Cert.InputBwdIdeal.main_arg5) = m ((c.tc : Thread Cert.InputBwdIdeal.nD Cert.InputBwdIdeal.τ).loc Cert.InputBwdIdeal.main_arg5))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4)
      ∧ r.2.mem ((c.tc : Thread Cert.InputRefIdeal.nD Cert.InputRefIdeal.τ).loc Cert.InputRefIdeal.main_arg5) = m ((c.tc : Thread Cert.InputRefIdeal.nD Cert.InputRefIdeal.τ).loc Cert.InputRefIdeal.main_arg5))
      ∧ r.2.sem = fun _ => 0)

def quiescent_InputRefIdeal_pre_input_finite [hInputRefIdeal : Cert.InputRefIdeal.Facts] [hPre_input_finite : Cert.Pre_input_finite.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal_input_finite m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4)
      ∧ r.2.mem ((c.tc : Thread Cert.InputRefIdeal.nD Cert.InputRefIdeal.τ).loc Cert.InputRefIdeal.main_arg5) = m ((c.tc : Thread Cert.InputRefIdeal.nD Cert.InputRefIdeal.τ).loc Cert.InputRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5)
      ∧ r.2.mem ((c.tc : Thread Cert.Middle.nD Cert.Middle.τ).loc Cert.Middle.main_arg6) = m ((c.tc : Thread Cert.Middle.nD Cert.Middle.τ).loc Cert.Middle.main_arg6)
      ∧ r.2.mem ((c.tc : Thread Cert.Middle.nD Cert.Middle.τ).loc Cert.Middle.main_arg7) = m ((c.tc : Thread Cert.Middle.nD Cert.Middle.τ).loc Cert.Middle.main_arg7)
      ∧ r.2.mem ((c.tc : Thread Cert.Middle.nD Cert.Middle.τ).loc Cert.Middle.main_arg8) = m ((c.tc : Thread Cert.Middle.nD Cert.Middle.τ).loc Cert.Middle.main_arg8)
      ∧ r.2.mem ((c.tc : Thread Cert.Middle.nD Cert.Middle.τ).loc Cert.Middle.main_arg9) = m ((c.tc : Thread Cert.Middle.nD Cert.Middle.τ).loc Cert.Middle.main_arg9)
      ∧ r.2.mem ((c.tc : Thread Cert.Middle.nD Cert.Middle.τ).loc Cert.Middle.main_arg10) = m ((c.tc : Thread Cert.Middle.nD Cert.Middle.τ).loc Cert.Middle.main_arg10)
      ∧ r.2.mem ((c.tc : Thread Cert.Middle.nD Cert.Middle.τ).loc Cert.Middle.main_arg11) = m ((c.tc : Thread Cert.Middle.nD Cert.Middle.τ).loc Cert.Middle.main_arg11))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ r.2.sem = fun _ => 0)

def quiescent_MiddleIdeal_pre_middle_finite [hMiddleIdeal : Cert.MiddleIdeal.Facts] [hPre_middle_finite : Cert.Pre_middle_finite.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal_middle_finite m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ r.2.sem = fun _ => 0)

def quiescent_MiddleRefIdeal [hMiddleRefIdeal : Cert.MiddleRefIdeal.Facts] : Prop :=
  ∀ (m : (ℓ : Loc Cert.MiddleRefIdeal.nD Cert.MiddleRefIdeal.τ Cert.MiddleRefIdeal.sig) → Buf (Elt Ideal) ℓ) (g : Dev Cert.MiddleRefIdeal.nD → PrngReg), Pre_MiddleRefIdeal m →
    θ_run (Cert.MiddleRefIdeal.defs (F := Ideal)) (onTc (τ := Cert.MiddleRefIdeal.τ) (Cert.MiddleRefIdeal.main (F := Ideal))) ⟨m, fun _ => 0, g⟩ (fun r => (∀ c : Dev Cert.MiddleRefIdeal.nD,
      r.2.mem ((c.tc : Thread Cert.MiddleRefIdeal.nD Cert.MiddleRefIdeal.τ).loc Cert.MiddleRefIdeal.main_arg0) = m ((c.tc : Thread Cert.MiddleRefIdeal.nD Cert.MiddleRefIdeal.τ).loc Cert.MiddleRefIdeal.main_arg0)
      ∧ r.2.mem ((c.tc : Thread Cert.MiddleRefIdeal.nD Cert.MiddleRefIdeal.τ).loc Cert.MiddleRefIdeal.main_arg1) = m ((c.tc : Thread Cert.MiddleRefIdeal.nD Cert.MiddleRefIdeal.τ).loc Cert.MiddleRefIdeal.main_arg1)
      ∧ r.2.mem ((c.tc : Thread Cert.MiddleRefIdeal.nD Cert.MiddleRefIdeal.τ).loc Cert.MiddleRefIdeal.main_arg2) = m ((c.tc : Thread Cert.MiddleRefIdeal.nD Cert.MiddleRefIdeal.τ).loc Cert.MiddleRefIdeal.main_arg2)
      ∧ r.2.mem ((c.tc : Thread Cert.MiddleRefIdeal.nD Cert.MiddleRefIdeal.τ).loc Cert.MiddleRefIdeal.main_arg3) = m ((c.tc : Thread Cert.MiddleRefIdeal.nD Cert.MiddleRefIdeal.τ).loc Cert.MiddleRefIdeal.main_arg3)
      ∧ r.2.mem ((c.tc : Thread Cert.MiddleRefIdeal.nD Cert.MiddleRefIdeal.τ).loc Cert.MiddleRefIdeal.main_arg4) = m ((c.tc : Thread Cert.MiddleRefIdeal.nD Cert.MiddleRefIdeal.τ).loc Cert.MiddleRefIdeal.main_arg4)
      ∧ r.2.mem ((c.tc : Thread Cert.MiddleRefIdeal.nD Cert.MiddleRefIdeal.τ).loc Cert.MiddleRefIdeal.main_arg5) = m ((c.tc : Thread Cert.MiddleRefIdeal.nD Cert.MiddleRefIdeal.τ).loc Cert.MiddleRefIdeal.main_arg5)
      ∧ r.2.mem ((c.tc : Thread Cert.MiddleRefIdeal.nD Cert.MiddleRefIdeal.τ).loc Cert.MiddleRefIdeal.main_arg6) = m ((c.tc : Thread Cert.MiddleRefIdeal.nD Cert.MiddleRefIdeal.τ).loc Cert.MiddleRefIdeal.main_arg6)
      ∧ r.2.mem ((c.tc : Thread Cert.MiddleRefIdeal.nD Cert.MiddleRefIdeal.τ).loc Cert.MiddleRefIdeal.main_arg7) = m ((c.tc : Thread Cert.MiddleRefIdeal.nD Cert.MiddleRefIdeal.τ).loc Cert.MiddleRefIdeal.main_arg7)
      ∧ r.2.mem ((c.tc : Thread Cert.MiddleRefIdeal.nD Cert.MiddleRefIdeal.τ).loc Cert.MiddleRefIdeal.main_arg8) = m ((c.tc : Thread Cert.MiddleRefIdeal.nD Cert.MiddleRefIdeal.τ).loc Cert.MiddleRefIdeal.main_arg8)
      ∧ r.2.mem ((c.tc : Thread Cert.MiddleRefIdeal.nD Cert.MiddleRefIdeal.τ).loc Cert.MiddleRefIdeal.main_arg9) = m ((c.tc : Thread Cert.MiddleRefIdeal.nD Cert.MiddleRefIdeal.τ).loc Cert.MiddleRefIdeal.main_arg9)
      ∧ r.2.mem ((c.tc : Thread Cert.MiddleRefIdeal.nD Cert.MiddleRefIdeal.τ).loc Cert.MiddleRefIdeal.main_arg10) = m ((c.tc : Thread Cert.MiddleRefIdeal.nD Cert.MiddleRefIdeal.τ).loc Cert.MiddleRefIdeal.main_arg10)
      ∧ r.2.mem ((c.tc : Thread Cert.MiddleRefIdeal.nD Cert.MiddleRefIdeal.τ).loc Cert.MiddleRefIdeal.main_arg11) = m ((c.tc : Thread Cert.MiddleRefIdeal.nD Cert.MiddleRefIdeal.τ).loc Cert.MiddleRefIdeal.main_arg11))
      ∧ r.2.sem = fun _ => 0)

def quiescent_MiddleRefIdeal_pre_middle_finite [hMiddleRefIdeal : Cert.MiddleRefIdeal.Facts] [hPre_middle_finite : Cert.Pre_middle_finite.Facts] : Prop :=
  ∀ (m : (ℓ : Loc Cert.MiddleRefIdeal.nD Cert.MiddleRefIdeal.τ Cert.MiddleRefIdeal.sig) → Buf (Elt Ideal) ℓ) (g : Dev Cert.MiddleRefIdeal.nD → PrngReg), Pre_MiddleRefIdeal_middle_finite m →
    θ_run (Cert.MiddleRefIdeal.defs (F := Ideal)) (onTc (τ := Cert.MiddleRefIdeal.τ) (Cert.MiddleRefIdeal.main (F := Ideal))) ⟨m, fun _ => 0, g⟩ (fun r => (∀ c : Dev Cert.MiddleRefIdeal.nD,
      r.2.mem ((c.tc : Thread Cert.MiddleRefIdeal.nD Cert.MiddleRefIdeal.τ).loc Cert.MiddleRefIdeal.main_arg0) = m ((c.tc : Thread Cert.MiddleRefIdeal.nD Cert.MiddleRefIdeal.τ).loc Cert.MiddleRefIdeal.main_arg0)
      ∧ r.2.mem ((c.tc : Thread Cert.MiddleRefIdeal.nD Cert.MiddleRefIdeal.τ).loc Cert.MiddleRefIdeal.main_arg1) = m ((c.tc : Thread Cert.MiddleRefIdeal.nD Cert.MiddleRefIdeal.τ).loc Cert.MiddleRefIdeal.main_arg1)
      ∧ r.2.mem ((c.tc : Thread Cert.MiddleRefIdeal.nD Cert.MiddleRefIdeal.τ).loc Cert.MiddleRefIdeal.main_arg2) = m ((c.tc : Thread Cert.MiddleRefIdeal.nD Cert.MiddleRefIdeal.τ).loc Cert.MiddleRefIdeal.main_arg2)
      ∧ r.2.mem ((c.tc : Thread Cert.MiddleRefIdeal.nD Cert.MiddleRefIdeal.τ).loc Cert.MiddleRefIdeal.main_arg3) = m ((c.tc : Thread Cert.MiddleRefIdeal.nD Cert.MiddleRefIdeal.τ).loc Cert.MiddleRefIdeal.main_arg3)
      ∧ r.2.mem ((c.tc : Thread Cert.MiddleRefIdeal.nD Cert.MiddleRefIdeal.τ).loc Cert.MiddleRefIdeal.main_arg4) = m ((c.tc : Thread Cert.MiddleRefIdeal.nD Cert.MiddleRefIdeal.τ).loc Cert.MiddleRefIdeal.main_arg4)
      ∧ r.2.mem ((c.tc : Thread Cert.MiddleRefIdeal.nD Cert.MiddleRefIdeal.τ).loc Cert.MiddleRefIdeal.main_arg5) = m ((c.tc : Thread Cert.MiddleRefIdeal.nD Cert.MiddleRefIdeal.τ).loc Cert.MiddleRefIdeal.main_arg5)
      ∧ r.2.mem ((c.tc : Thread Cert.MiddleRefIdeal.nD Cert.MiddleRefIdeal.τ).loc Cert.MiddleRefIdeal.main_arg6) = m ((c.tc : Thread Cert.MiddleRefIdeal.nD Cert.MiddleRefIdeal.τ).loc Cert.MiddleRefIdeal.main_arg6)
      ∧ r.2.mem ((c.tc : Thread Cert.MiddleRefIdeal.nD Cert.MiddleRefIdeal.τ).loc Cert.MiddleRefIdeal.main_arg7) = m ((c.tc : Thread Cert.MiddleRefIdeal.nD Cert.MiddleRefIdeal.τ).loc Cert.MiddleRefIdeal.main_arg7)
      ∧ r.2.mem ((c.tc : Thread Cert.MiddleRefIdeal.nD Cert.MiddleRefIdeal.τ).loc Cert.MiddleRefIdeal.main_arg8) = m ((c.tc : Thread Cert.MiddleRefIdeal.nD Cert.MiddleRefIdeal.τ).loc Cert.MiddleRefIdeal.main_arg8)
      ∧ r.2.mem ((c.tc : Thread Cert.MiddleRefIdeal.nD Cert.MiddleRefIdeal.τ).loc Cert.MiddleRefIdeal.main_arg9) = m ((c.tc : Thread Cert.MiddleRefIdeal.nD Cert.MiddleRefIdeal.τ).loc Cert.MiddleRefIdeal.main_arg9)
      ∧ r.2.mem ((c.tc : Thread Cert.MiddleRefIdeal.nD Cert.MiddleRefIdeal.τ).loc Cert.MiddleRefIdeal.main_arg10) = m ((c.tc : Thread Cert.MiddleRefIdeal.nD Cert.MiddleRefIdeal.τ).loc Cert.MiddleRefIdeal.main_arg10)
      ∧ r.2.mem ((c.tc : Thread Cert.MiddleRefIdeal.nD Cert.MiddleRefIdeal.τ).loc Cert.MiddleRefIdeal.main_arg11) = m ((c.tc : Thread Cert.MiddleRefIdeal.nD Cert.MiddleRefIdeal.τ).loc Cert.MiddleRefIdeal.main_arg11))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5)
      ∧ r.2.mem ((c.tc : Thread Cert.ConvBwd.nD Cert.ConvBwd.τ).loc Cert.ConvBwd.main_arg6) = m ((c.tc : Thread Cert.ConvBwd.nD Cert.ConvBwd.τ).loc Cert.ConvBwd.main_arg6)
      ∧ r.2.mem ((c.tc : Thread Cert.ConvBwd.nD Cert.ConvBwd.τ).loc Cert.ConvBwd.main_arg7) = m ((c.tc : Thread Cert.ConvBwd.nD Cert.ConvBwd.τ).loc Cert.ConvBwd.main_arg7))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
      ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6)
      ∧ r.2.mem ((c.tc : Thread Cert.ConvBwdIdeal.nD Cert.ConvBwdIdeal.τ).loc Cert.ConvBwdIdeal.main_arg7) = m ((c.tc : Thread Cert.ConvBwdIdeal.nD Cert.ConvBwdIdeal.τ).loc Cert.ConvBwdIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def quiescent_PrepBwd [hPrepBwd : Cert.PrepBwd.Facts] : Prop :=
  ∀ (m : (ℓ : Loc Cert.PrepBwd.nD Cert.PrepBwd.τ Cert.PrepBwd.sig) → Buf (Elt Bits) ℓ) (g : Dev Cert.PrepBwd.nD → PrngReg), Pre_PrepBwd m →
    θ_run (Cert.PrepBwd.defs (F := Bits)) (onTc (τ := Cert.PrepBwd.τ) (Cert.PrepBwd.main (F := Bits))) ⟨m, fun _ => 0, g⟩ (fun r => (∀ c : Dev Cert.PrepBwd.nD,
      r.2.mem ((c.tc : Thread Cert.PrepBwd.nD Cert.PrepBwd.τ).loc Cert.PrepBwd.main_arg0) = m ((c.tc : Thread Cert.PrepBwd.nD Cert.PrepBwd.τ).loc Cert.PrepBwd.main_arg0)
      ∧ r.2.mem ((c.tc : Thread Cert.PrepBwd.nD Cert.PrepBwd.τ).loc Cert.PrepBwd.main_arg1) = m ((c.tc : Thread Cert.PrepBwd.nD Cert.PrepBwd.τ).loc Cert.PrepBwd.main_arg1)
      ∧ r.2.mem ((c.tc : Thread Cert.PrepBwd.nD Cert.PrepBwd.τ).loc Cert.PrepBwd.main_arg2) = m ((c.tc : Thread Cert.PrepBwd.nD Cert.PrepBwd.τ).loc Cert.PrepBwd.main_arg2)
      ∧ r.2.mem ((c.tc : Thread Cert.PrepBwd.nD Cert.PrepBwd.τ).loc Cert.PrepBwd.main_arg3) = m ((c.tc : Thread Cert.PrepBwd.nD Cert.PrepBwd.τ).loc Cert.PrepBwd.main_arg3)
      ∧ r.2.mem ((c.tc : Thread Cert.PrepBwd.nD Cert.PrepBwd.τ).loc Cert.PrepBwd.main_arg4) = m ((c.tc : Thread Cert.PrepBwd.nD Cert.PrepBwd.τ).loc Cert.PrepBwd.main_arg4)
      ∧ r.2.mem ((c.tc : Thread Cert.PrepBwd.nD Cert.PrepBwd.τ).loc Cert.PrepBwd.main_arg5) = m ((c.tc : Thread Cert.PrepBwd.nD Cert.PrepBwd.τ).loc Cert.PrepBwd.main_arg5)
      ∧ r.2.mem ((c.tc : Thread Cert.PrepBwd.nD Cert.PrepBwd.τ).loc Cert.PrepBwd.main_arg6) = m ((c.tc : Thread Cert.PrepBwd.nD Cert.PrepBwd.τ).loc Cert.PrepBwd.main_arg6)
      ∧ r.2.mem ((c.tc : Thread Cert.PrepBwd.nD Cert.PrepBwd.τ).loc Cert.PrepBwd.main_arg7) = m ((c.tc : Thread Cert.PrepBwd.nD Cert.PrepBwd.τ).loc Cert.PrepBwd.main_arg7)
      ∧ r.2.mem ((c.tc : Thread Cert.PrepBwd.nD Cert.PrepBwd.τ).loc Cert.PrepBwd.main_arg8) = m ((c.tc : Thread Cert.PrepBwd.nD Cert.PrepBwd.τ).loc Cert.PrepBwd.main_arg8)
      ∧ r.2.mem ((c.tc : Thread Cert.PrepBwd.nD Cert.PrepBwd.τ).loc Cert.PrepBwd.main_arg9) = m ((c.tc : Thread Cert.PrepBwd.nD Cert.PrepBwd.τ).loc Cert.PrepBwd.main_arg9)
      ∧ r.2.mem ((c.tc : Thread Cert.PrepBwd.nD Cert.PrepBwd.τ).loc Cert.PrepBwd.main_arg10) = m ((c.tc : Thread Cert.PrepBwd.nD Cert.PrepBwd.τ).loc Cert.PrepBwd.main_arg10)
      ∧ r.2.mem ((c.tc : Thread Cert.PrepBwd.nD Cert.PrepBwd.τ).loc Cert.PrepBwd.main_arg11) = m ((c.tc : Thread Cert.PrepBwd.nD Cert.PrepBwd.τ).loc Cert.PrepBwd.main_arg11)
      ∧ r.2.mem ((c.tc : Thread Cert.PrepBwd.nD Cert.PrepBwd.τ).loc Cert.PrepBwd.main_arg12) = m ((c.tc : Thread Cert.PrepBwd.nD Cert.PrepBwd.τ).loc Cert.PrepBwd.main_arg12))
      ∧ r.2.sem = fun _ => 0)

def quiescent_PrepBwdIdeal [hPrepBwdIdeal : Cert.PrepBwdIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
      ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8)
      ∧ r.2.mem ((c.tc : Thread Cert.PrepBwdIdeal.nD Cert.PrepBwdIdeal.τ).loc Cert.PrepBwdIdeal.main_arg9) = m ((c.tc : Thread Cert.PrepBwdIdeal.nD Cert.PrepBwdIdeal.τ).loc Cert.PrepBwdIdeal.main_arg9)
      ∧ r.2.mem ((c.tc : Thread Cert.PrepBwdIdeal.nD Cert.PrepBwdIdeal.τ).loc Cert.PrepBwdIdeal.main_arg10) = m ((c.tc : Thread Cert.PrepBwdIdeal.nD Cert.PrepBwdIdeal.τ).loc Cert.PrepBwdIdeal.main_arg10)
      ∧ r.2.mem ((c.tc : Thread Cert.PrepBwdIdeal.nD Cert.PrepBwdIdeal.τ).loc Cert.PrepBwdIdeal.main_arg11) = m ((c.tc : Thread Cert.PrepBwdIdeal.nD Cert.PrepBwdIdeal.τ).loc Cert.PrepBwdIdeal.main_arg11)
      ∧ r.2.mem ((c.tc : Thread Cert.PrepBwdIdeal.nD Cert.PrepBwdIdeal.τ).loc Cert.PrepBwdIdeal.main_arg12) = m ((c.tc : Thread Cert.PrepBwdIdeal.nD Cert.PrepBwdIdeal.τ).loc Cert.PrepBwdIdeal.main_arg12))
      ∧ r.2.sem = fun _ => 0)

def quiescent_PrepBwdIdeal_pre_prep_finite [hPrepBwdIdeal : Cert.PrepBwdIdeal.Facts] [hPre_prep_finite : Cert.Pre_prep_finite.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal_prep_finite m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
      ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8)
      ∧ r.2.mem ((c.tc : Thread Cert.PrepBwdIdeal.nD Cert.PrepBwdIdeal.τ).loc Cert.PrepBwdIdeal.main_arg9) = m ((c.tc : Thread Cert.PrepBwdIdeal.nD Cert.PrepBwdIdeal.τ).loc Cert.PrepBwdIdeal.main_arg9)
      ∧ r.2.mem ((c.tc : Thread Cert.PrepBwdIdeal.nD Cert.PrepBwdIdeal.τ).loc Cert.PrepBwdIdeal.main_arg10) = m ((c.tc : Thread Cert.PrepBwdIdeal.nD Cert.PrepBwdIdeal.τ).loc Cert.PrepBwdIdeal.main_arg10)
      ∧ r.2.mem ((c.tc : Thread Cert.PrepBwdIdeal.nD Cert.PrepBwdIdeal.τ).loc Cert.PrepBwdIdeal.main_arg11) = m ((c.tc : Thread Cert.PrepBwdIdeal.nD Cert.PrepBwdIdeal.τ).loc Cert.PrepBwdIdeal.main_arg11)
      ∧ r.2.mem ((c.tc : Thread Cert.PrepBwdIdeal.nD Cert.PrepBwdIdeal.τ).loc Cert.PrepBwdIdeal.main_arg12) = m ((c.tc : Thread Cert.PrepBwdIdeal.nD Cert.PrepBwdIdeal.τ).loc Cert.PrepBwdIdeal.main_arg12))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12))
      ∧ r.2.sem = fun _ => 0)

def quiescent_AdaNorm [hAdaNorm : Cert.AdaNorm.Facts] : Prop :=
  ∀ (m : (ℓ : Loc Cert.AdaNorm.nD Cert.AdaNorm.τ Cert.AdaNorm.sig) → Buf (Elt Bits) ℓ) (g : Dev Cert.AdaNorm.nD → PrngReg), Pre_AdaNorm m →
    θ_run (Cert.AdaNorm.defs (F := Bits)) (onTc (τ := Cert.AdaNorm.τ) (Cert.AdaNorm.main (F := Bits))) ⟨m, fun _ => 0, g⟩ (fun r => (∀ c : Dev Cert.AdaNorm.nD,
      r.2.mem ((c.tc : Thread Cert.AdaNorm.nD Cert.AdaNorm.τ).loc Cert.AdaNorm.main_arg0) = m ((c.tc : Thread Cert.AdaNorm.nD Cert.AdaNorm.τ).loc Cert.AdaNorm.main_arg0)
      ∧ r.2.mem ((c.tc : Thread Cert.AdaNorm.nD Cert.AdaNorm.τ).loc Cert.AdaNorm.main_arg1) = m ((c.tc : Thread Cert.AdaNorm.nD Cert.AdaNorm.τ).loc Cert.AdaNorm.main_arg1)
      ∧ r.2.mem ((c.tc : Thread Cert.AdaNorm.nD Cert.AdaNorm.τ).loc Cert.AdaNorm.main_arg2) = m ((c.tc : Thread Cert.AdaNorm.nD Cert.AdaNorm.τ).loc Cert.AdaNorm.main_arg2)
      ∧ r.2.mem ((c.tc : Thread Cert.AdaNorm.nD Cert.AdaNorm.τ).loc Cert.AdaNorm.main_arg3) = m ((c.tc : Thread Cert.AdaNorm.nD Cert.AdaNorm.τ).loc Cert.AdaNorm.main_arg3))
      ∧ r.2.sem = fun _ => 0)

def quiescent_AdaNormIdeal [hAdaNormIdeal : Cert.AdaNormIdeal.Facts] : Prop :=
  ∀ (m : (ℓ : Loc Cert.AdaNormIdeal.nD Cert.AdaNormIdeal.τ Cert.AdaNormIdeal.sig) → Buf (Elt Ideal) ℓ) (g : Dev Cert.AdaNormIdeal.nD → PrngReg), Pre_AdaNormIdeal m →
    θ_run (Cert.AdaNormIdeal.defs (F := Ideal)) (onTc (τ := Cert.AdaNormIdeal.τ) (Cert.AdaNormIdeal.main (F := Ideal))) ⟨m, fun _ => 0, g⟩ (fun r => (∀ c : Dev Cert.AdaNormIdeal.nD,
      r.2.mem ((c.tc : Thread Cert.AdaNormIdeal.nD Cert.AdaNormIdeal.τ).loc Cert.AdaNormIdeal.main_arg0) = m ((c.tc : Thread Cert.AdaNormIdeal.nD Cert.AdaNormIdeal.τ).loc Cert.AdaNormIdeal.main_arg0)
      ∧ r.2.mem ((c.tc : Thread Cert.AdaNormIdeal.nD Cert.AdaNormIdeal.τ).loc Cert.AdaNormIdeal.main_arg1) = m ((c.tc : Thread Cert.AdaNormIdeal.nD Cert.AdaNormIdeal.τ).loc Cert.AdaNormIdeal.main_arg1)
      ∧ r.2.mem ((c.tc : Thread Cert.AdaNormIdeal.nD Cert.AdaNormIdeal.τ).loc Cert.AdaNormIdeal.main_arg2) = m ((c.tc : Thread Cert.AdaNormIdeal.nD Cert.AdaNormIdeal.τ).loc Cert.AdaNormIdeal.main_arg2)
      ∧ r.2.mem ((c.tc : Thread Cert.AdaNormIdeal.nD Cert.AdaNormIdeal.τ).loc Cert.AdaNormIdeal.main_arg3) = m ((c.tc : Thread Cert.AdaNormIdeal.nD Cert.AdaNormIdeal.τ).loc Cert.AdaNormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4)
      ∧ r.2.mem ((c.tc : Thread Cert.PrepFwd.nD Cert.PrepFwd.τ).loc Cert.PrepFwd.main_arg5) = m ((c.tc : Thread Cert.PrepFwd.nD Cert.PrepFwd.τ).loc Cert.PrepFwd.main_arg5)
      ∧ r.2.mem ((c.tc : Thread Cert.PrepFwd.nD Cert.PrepFwd.τ).loc Cert.PrepFwd.main_arg6) = m ((c.tc : Thread Cert.PrepFwd.nD Cert.PrepFwd.τ).loc Cert.PrepFwd.main_arg6)
      ∧ r.2.mem ((c.tc : Thread Cert.PrepFwd.nD Cert.PrepFwd.τ).loc Cert.PrepFwd.main_arg7) = m ((c.tc : Thread Cert.PrepFwd.nD Cert.PrepFwd.τ).loc Cert.PrepFwd.main_arg7))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
      ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
      ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
      ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4)
      ∧ r.2.mem ((c.tc : Thread Cert.PrepFwdRefIdeal.nD Cert.PrepFwdRefIdeal.τ).loc Cert.PrepFwdRefIdeal.main_arg5) = m ((c.tc : Thread Cert.PrepFwdRefIdeal.nD Cert.PrepFwdRefIdeal.τ).loc Cert.PrepFwdRefIdeal.main_arg5)
      ∧ r.2.mem ((c.tc : Thread Cert.PrepFwdRefIdeal.nD Cert.PrepFwdRefIdeal.τ).loc Cert.PrepFwdRefIdeal.main_arg6) = m ((c.tc : Thread Cert.PrepFwdRefIdeal.nD Cert.PrepFwdRefIdeal.τ).loc Cert.PrepFwdRefIdeal.main_arg6)
      ∧ r.2.mem ((c.tc : Thread Cert.PrepFwdRefIdeal.nD Cert.PrepFwdRefIdeal.τ).loc Cert.PrepFwdRefIdeal.main_arg7) = m ((c.tc : Thread Cert.PrepFwdRefIdeal.nD Cert.PrepFwdRefIdeal.τ).loc Cert.PrepFwdRefIdeal.main_arg7))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1)
      ∧ r.2.mem ((c.tc : Thread Cert.GradInRefIdeal.nD Cert.GradInRefIdeal.τ).loc Cert.GradInRefIdeal.main_arg2) = m ((c.tc : Thread Cert.GradInRefIdeal.nD Cert.GradInRefIdeal.τ).loc Cert.GradInRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4)
      ∧ r.2.mem ((c.tc : Thread Cert.ConvFwd.nD Cert.ConvFwd.τ).loc Cert.ConvFwd.main_arg5) = m ((c.tc : Thread Cert.ConvFwd.nD Cert.ConvFwd.τ).loc Cert.ConvFwd.main_arg5)
      ∧ r.2.mem ((c.tc : Thread Cert.ConvFwd.nD Cert.ConvFwd.τ).loc Cert.ConvFwd.main_arg6) = m ((c.tc : Thread Cert.ConvFwd.nD Cert.ConvFwd.τ).loc Cert.ConvFwd.main_arg6))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4)
      ∧ r.2.mem ((c.tc : Thread Cert.ConvFwdIdeal.nD Cert.ConvFwdIdeal.τ).loc Cert.ConvFwdIdeal.main_arg5) = m ((c.tc : Thread Cert.ConvFwdIdeal.nD Cert.ConvFwdIdeal.τ).loc Cert.ConvFwdIdeal.main_arg5)
      ∧ r.2.mem ((c.tc : Thread Cert.ConvFwdIdeal.nD Cert.ConvFwdIdeal.τ).loc Cert.ConvFwdIdeal.main_arg6) = m ((c.tc : Thread Cert.ConvFwdIdeal.nD Cert.ConvFwdIdeal.τ).loc Cert.ConvFwdIdeal.main_arg6))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4)
      ∧ r.2.mem ((c.tc : Thread Cert.ConvFwdRefIdeal.nD Cert.ConvFwdRefIdeal.τ).loc Cert.ConvFwdRefIdeal.main_arg5) = m ((c.tc : Thread Cert.ConvFwdRefIdeal.nD Cert.ConvFwdRefIdeal.τ).loc Cert.ConvFwdRefIdeal.main_arg5)
      ∧ r.2.mem ((c.tc : Thread Cert.ConvFwdRefIdeal.nD Cert.ConvFwdRefIdeal.τ).loc Cert.ConvFwdRefIdeal.main_arg6) = m ((c.tc : Thread Cert.ConvFwdRefIdeal.nD Cert.ConvFwdRefIdeal.τ).loc Cert.ConvFwdRefIdeal.main_arg6))
      ∧ r.2.sem = fun _ => 0)

def preserves_InputBwd_InputBwdIdeal : Prop :=
  True

def algebraic_InputBwdIdeal_InputRefIdeal_pre_input_finite [hInputBwdIdeal : Cert.InputBwdIdeal.Facts] [hInputRefIdeal : Cert.InputRefIdeal.Facts] [hPre_input_finite : Cert.Pre_input_finite.Facts] : Prop :=
  ∀ (m : (ℓ : Loc Cert.InputBwdIdeal.nD Cert.InputBwdIdeal.τ Cert.InputBwdIdeal.sig) → Buf (Elt Ideal) ℓ) (g : Dev Cert.InputBwdIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputBwdIdeal_input_finite m →
    (∀ c : Dev Cert.InputBwdIdeal.nD,
      m' ((c.tc : Thread Cert.InputRefIdeal.nD Cert.InputRefIdeal.τ).loc Cert.InputRefIdeal.main_arg0) = m ((c.tc : Thread Cert.InputBwdIdeal.nD Cert.InputBwdIdeal.τ).loc Cert.InputBwdIdeal.main_arg0)
      ∧ m' ((c.tc : Thread Cert.InputRefIdeal.nD Cert.InputRefIdeal.τ).loc Cert.InputRefIdeal.main_arg1) = m ((c.tc : Thread Cert.InputBwdIdeal.nD Cert.InputBwdIdeal.τ).loc Cert.InputBwdIdeal.main_arg1)
      ∧ m' ((c.tc : Thread Cert.InputRefIdeal.nD Cert.InputRefIdeal.τ).loc Cert.InputRefIdeal.main_arg2) = m ((c.tc : Thread Cert.InputBwdIdeal.nD Cert.InputBwdIdeal.τ).loc Cert.InputBwdIdeal.main_arg2)
      ∧ m' ((c.tc : Thread Cert.InputRefIdeal.nD Cert.InputRefIdeal.τ).loc Cert.InputRefIdeal.main_arg3) = m ((c.tc : Thread Cert.InputBwdIdeal.nD Cert.InputBwdIdeal.τ).loc Cert.InputBwdIdeal.main_arg3)
      ∧ m' ((c.tc : Thread Cert.InputRefIdeal.nD Cert.InputRefIdeal.τ).loc Cert.InputRefIdeal.main_arg4) = m ((c.tc : Thread Cert.InputBwdIdeal.nD Cert.InputBwdIdeal.τ).loc Cert.InputBwdIdeal.main_arg4)
      ∧ m' ((c.tc : Thread Cert.InputRefIdeal.nD Cert.InputRefIdeal.τ).loc Cert.InputRefIdeal.main_arg5) = m ((c.tc : Thread Cert.InputBwdIdeal.nD Cert.InputBwdIdeal.τ).loc Cert.InputBwdIdeal.main_arg5)) →
    ∃ (v0 : (c : Dev Cert.InputBwdIdeal.nD) → Buf (Elt Ideal) ((c.tc : Thread Cert.InputBwdIdeal.nD Cert.InputBwdIdeal.τ).loc Cert.InputBwdIdeal.main_v16_0)) (v1 : (c : Dev Cert.InputBwdIdeal.nD) → Buf (Elt Ideal) ((c.tc : Thread Cert.InputBwdIdeal.nD Cert.InputBwdIdeal.τ).loc Cert.InputBwdIdeal.main_v16_1)),
      θ_run (Cert.InputBwdIdeal.defs (F := Ideal)) (onTc (τ := Cert.InputBwdIdeal.τ) (Cert.InputBwdIdeal.main (F := Ideal))) ⟨m, fun _ => 0, g⟩ (fun r => ∀ c : Dev Cert.InputBwdIdeal.nD,
          r.2.mem ((c.tc : Thread Cert.InputBwdIdeal.nD Cert.InputBwdIdeal.τ).loc Cert.InputBwdIdeal.main_v16_0) = v0 c
          ∧ r.2.mem ((c.tc : Thread Cert.InputBwdIdeal.nD Cert.InputBwdIdeal.τ).loc Cert.InputBwdIdeal.main_v16_1) = v1 c
          ∧ r.2.mem ((c.tc : Thread Cert.InputBwdIdeal.nD Cert.InputBwdIdeal.τ).loc Cert.InputBwdIdeal.main_arg0) = m ((c.tc : Thread Cert.InputBwdIdeal.nD Cert.InputBwdIdeal.τ).loc Cert.InputBwdIdeal.main_arg0)
          ∧ r.2.mem ((c.tc : Thread Cert.InputBwdIdeal.nD Cert.InputBwdIdeal.τ).loc Cert.InputBwdIdeal.main_arg1) = m ((c.tc : Thread Cert.InputBwdIdeal.nD Cert.InputBwdIdeal.τ).loc Cert.InputBwdIdeal.main_arg1)
          ∧ r.2.mem ((c.tc : Thread Cert.InputBwdIdeal.nD Cert.InputBwdIdeal.τ).loc Cert.InputBwdIdeal.main_arg2) = m ((c.tc : Thread Cert.InputBwdIdeal.nD Cert.InputBwdIdeal.τ).loc Cert.InputBwdIdeal.main_arg2)
          ∧ r.2.mem ((c.tc : Thread Cert.InputBwdIdeal.nD Cert.InputBwdIdeal.τ).loc Cert.InputBwdIdeal.main_arg3) = m ((c.tc : Thread Cert.InputBwdIdeal.nD Cert.InputBwdIdeal.τ).loc Cert.InputBwdIdeal.main_arg3)
          ∧ r.2.mem ((c.tc : Thread Cert.InputBwdIdeal.nD Cert.InputBwdIdeal.τ).loc Cert.InputBwdIdeal.main_arg4) = m ((c.tc : Thread Cert.InputBwdIdeal.nD Cert.InputBwdIdeal.τ).loc Cert.InputBwdIdeal.main_arg4)
          ∧ r.2.mem ((c.tc : Thread Cert.InputBwdIdeal.nD Cert.InputBwdIdeal.τ).loc Cert.InputBwdIdeal.main_arg5) = m ((c.tc : Thread Cert.InputBwdIdeal.nD Cert.InputBwdIdeal.τ).loc Cert.InputBwdIdeal.main_arg5))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v56) = v0 c
          ∧ r.2.mem ((c.tc : Thread Cert.InputRefIdeal.nD Cert.InputRefIdeal.τ).loc Cert.InputRefIdeal.main_v62) = v1 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4)
          ∧ r.2.mem ((c.tc : Thread Cert.InputRefIdeal.nD Cert.InputRefIdeal.τ).loc Cert.InputRefIdeal.main_arg5) = m' ((c.tc : Thread Cert.InputRefIdeal.nD Cert.InputRefIdeal.τ).loc Cert.InputRefIdeal.main_arg5))

def preserves_AttnBwd_AttnBwdIdeal : Prop :=
  IdealRules.named_const.Statement Cert.AttnBwdIdeal.κ "s_log2e" .f32 0x3DD53B95#32 (((Real.sqrt 192)⁻¹ * (Real.log 2)⁻¹ : ℝ) : EReal)
  ∧ IdealRules.named_const.Statement Cert.AttnBwdIdeal.κ "log2e" .f32 0x3FB8AA3B#32 (((Real.log 2)⁻¹ : ℝ) : EReal)

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)
      ∧ m' ((c.tc : Thread Cert.AttnRefIdeal.nD Cert.AttnRefIdeal.τ).loc Cert.AttnRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v43_0)) (v1 : (c : Dev Cert.AttnBwdIdeal.nD) → Buf (Elt Ideal) ((c.tc : Thread Cert.AttnBwdIdeal.nD Cert.AttnBwdIdeal.τ).loc Cert.AttnBwdIdeal.main_v43_1)) (v2 : (c : Dev Cert.AttnBwdIdeal.nD) → Buf (Elt Ideal) ((c.tc : Thread Cert.AttnBwdIdeal.nD Cert.AttnBwdIdeal.τ).loc Cert.AttnBwdIdeal.main_v43_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v43_0) = v0 c
          ∧ r.2.mem ((c.tc : Thread Cert.AttnBwdIdeal.nD Cert.AttnBwdIdeal.τ).loc Cert.AttnBwdIdeal.main_v43_1) = v1 c
          ∧ r.2.mem ((c.tc : Thread Cert.AttnBwdIdeal.nD Cert.AttnBwdIdeal.τ).loc Cert.AttnBwdIdeal.main_v43_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_v73) = v1 c
          ∧ r.2.mem ((c.tc : Thread Cert.AttnRefIdeal.nD Cert.AttnRefIdeal.τ).loc Cert.AttnRefIdeal.main_v74) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Middle_MiddleIdeal : Prop :=
  True

def algebraic_MiddleIdeal_MiddleRefIdeal_pre_middle_finite [hMiddleIdeal : Cert.MiddleIdeal.Facts] [hMiddleRefIdeal : Cert.MiddleRefIdeal.Facts] [hPre_middle_finite : Cert.Pre_middle_finite.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleRefIdeal.nD Cert.MiddleRefIdeal.τ Cert.MiddleRefIdeal.sig) → Buf (Elt Ideal) ℓ) (g' : Dev Cert.MiddleRefIdeal.nD → PrngReg), Pre_MiddleIdeal_middle_finite m →
    (∀ c : Dev Cert.MiddleIdeal.nD,
      m' ((c.tc : Thread Cert.MiddleRefIdeal.nD Cert.MiddleRefIdeal.τ).loc Cert.MiddleRefIdeal.main_arg0) = m ((c.tc : Thread Cert.MiddleIdeal.nD Cert.MiddleIdeal.τ).loc Cert.MiddleIdeal.main_arg0)
      ∧ m' ((c.tc : Thread Cert.MiddleRefIdeal.nD Cert.MiddleRefIdeal.τ).loc Cert.MiddleRefIdeal.main_arg1) = m ((c.tc : Thread Cert.MiddleIdeal.nD Cert.MiddleIdeal.τ).loc Cert.MiddleIdeal.main_arg1)
      ∧ m' ((c.tc : Thread Cert.MiddleRefIdeal.nD Cert.MiddleRefIdeal.τ).loc Cert.MiddleRefIdeal.main_arg2) = m ((c.tc : Thread Cert.MiddleIdeal.nD Cert.MiddleIdeal.τ).loc Cert.MiddleIdeal.main_arg2)
      ∧ m' ((c.tc : Thread Cert.MiddleRefIdeal.nD Cert.MiddleRefIdeal.τ).loc Cert.MiddleRefIdeal.main_arg3) = m ((c.tc : Thread Cert.MiddleIdeal.nD Cert.MiddleIdeal.τ).loc Cert.MiddleIdeal.main_arg3)
      ∧ m' ((c.tc : Thread Cert.MiddleRefIdeal.nD Cert.MiddleRefIdeal.τ).loc Cert.MiddleRefIdeal.main_arg4) = m ((c.tc : Thread Cert.MiddleIdeal.nD Cert.MiddleIdeal.τ).loc Cert.MiddleIdeal.main_arg4)
      ∧ m' ((c.tc : Thread Cert.MiddleRefIdeal.nD Cert.MiddleRefIdeal.τ).loc Cert.MiddleRefIdeal.main_arg5) = m ((c.tc : Thread Cert.MiddleIdeal.nD Cert.MiddleIdeal.τ).loc Cert.MiddleIdeal.main_arg5)
      ∧ m' ((c.tc : Thread Cert.MiddleRefIdeal.nD Cert.MiddleRefIdeal.τ).loc Cert.MiddleRefIdeal.main_arg6) = m ((c.tc : Thread Cert.MiddleIdeal.nD Cert.MiddleIdeal.τ).loc Cert.MiddleIdeal.main_arg6)
      ∧ m' ((c.tc : Thread Cert.MiddleRefIdeal.nD Cert.MiddleRefIdeal.τ).loc Cert.MiddleRefIdeal.main_arg7) = m ((c.tc : Thread Cert.MiddleIdeal.nD Cert.MiddleIdeal.τ).loc Cert.MiddleIdeal.main_arg7)
      ∧ m' ((c.tc : Thread Cert.MiddleRefIdeal.nD Cert.MiddleRefIdeal.τ).loc Cert.MiddleRefIdeal.main_arg8) = m ((c.tc : Thread Cert.MiddleIdeal.nD Cert.MiddleIdeal.τ).loc Cert.MiddleIdeal.main_arg8)
      ∧ m' ((c.tc : Thread Cert.MiddleRefIdeal.nD Cert.MiddleRefIdeal.τ).loc Cert.MiddleRefIdeal.main_arg9) = m ((c.tc : Thread Cert.MiddleIdeal.nD Cert.MiddleIdeal.τ).loc Cert.MiddleIdeal.main_arg9)
      ∧ m' ((c.tc : Thread Cert.MiddleRefIdeal.nD Cert.MiddleRefIdeal.τ).loc Cert.MiddleRefIdeal.main_arg10) = m ((c.tc : Thread Cert.MiddleIdeal.nD Cert.MiddleIdeal.τ).loc Cert.MiddleIdeal.main_arg10)
      ∧ m' ((c.tc : Thread Cert.MiddleRefIdeal.nD Cert.MiddleRefIdeal.τ).loc Cert.MiddleRefIdeal.main_arg11) = m ((c.tc : Thread Cert.MiddleIdeal.nD Cert.MiddleIdeal.τ).loc Cert.MiddleIdeal.main_arg11)) →
    ∃ (v0 : (c : Dev Cert.MiddleIdeal.nD) → Buf (Elt Ideal) ((c.tc : Thread Cert.MiddleIdeal.nD Cert.MiddleIdeal.τ).loc Cert.MiddleIdeal.main_v7_0)) (v1 : (c : Dev Cert.MiddleIdeal.nD) → Buf (Elt Ideal) ((c.tc : Thread Cert.MiddleIdeal.nD Cert.MiddleIdeal.τ).loc Cert.MiddleIdeal.main_v7_1)) (v2 : (c : Dev Cert.MiddleIdeal.nD) → Buf (Elt Ideal) ((c.tc : Thread Cert.MiddleIdeal.nD Cert.MiddleIdeal.τ).loc Cert.MiddleIdeal.main_v7_2)) (v3 : (c : Dev Cert.MiddleIdeal.nD) → Buf (Elt Ideal) ((c.tc : Thread Cert.MiddleIdeal.nD Cert.MiddleIdeal.τ).loc Cert.MiddleIdeal.main_v7_3)) (v4 : (c : Dev Cert.MiddleIdeal.nD) → Buf (Elt Ideal) ((c.tc : Thread Cert.MiddleIdeal.nD Cert.MiddleIdeal.τ).loc Cert.MiddleIdeal.main_v7_4)) (v5 : (c : Dev Cert.MiddleIdeal.nD) → Buf (Elt Ideal) ((c.tc : Thread Cert.MiddleIdeal.nD Cert.MiddleIdeal.τ).loc Cert.MiddleIdeal.main_v7_5)) (v6 : (c : Dev Cert.MiddleIdeal.nD) → Buf (Elt Ideal) ((c.tc : Thread Cert.MiddleIdeal.nD Cert.MiddleIdeal.τ).loc Cert.MiddleIdeal.main_v7_6)) (v7 : (c : Dev Cert.MiddleIdeal.nD) → Buf (Elt Ideal) ((c.tc : Thread Cert.MiddleIdeal.nD Cert.MiddleIdeal.τ).loc Cert.MiddleIdeal.main_v7_7)) (v8 : (c : Dev Cert.MiddleIdeal.nD) → Buf (Elt Ideal) ((c.tc : Thread Cert.MiddleIdeal.nD Cert.MiddleIdeal.τ).loc Cert.MiddleIdeal.main_v7_8)) (v9 : (c : Dev Cert.MiddleIdeal.nD) → Buf (Elt Ideal) ((c.tc : Thread Cert.MiddleIdeal.nD Cert.MiddleIdeal.τ).loc Cert.MiddleIdeal.main_v7_9)) (v10 : (c : Dev Cert.MiddleIdeal.nD) → Buf (Elt Ideal) ((c.tc : Thread Cert.MiddleIdeal.nD Cert.MiddleIdeal.τ).loc Cert.MiddleIdeal.main_v7_10)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v7_0) = v0 c
          ∧ r.2.mem ((c.tc : Thread Cert.MiddleIdeal.nD Cert.MiddleIdeal.τ).loc Cert.MiddleIdeal.main_v7_1) = v1 c
          ∧ r.2.mem ((c.tc : Thread Cert.MiddleIdeal.nD Cert.MiddleIdeal.τ).loc Cert.MiddleIdeal.main_v7_2) = v2 c
          ∧ r.2.mem ((c.tc : Thread Cert.MiddleIdeal.nD Cert.MiddleIdeal.τ).loc Cert.MiddleIdeal.main_v7_3) = v3 c
          ∧ r.2.mem ((c.tc : Thread Cert.MiddleIdeal.nD Cert.MiddleIdeal.τ).loc Cert.MiddleIdeal.main_v7_4) = v4 c
          ∧ r.2.mem ((c.tc : Thread Cert.MiddleIdeal.nD Cert.MiddleIdeal.τ).loc Cert.MiddleIdeal.main_v7_5) = v5 c
          ∧ r.2.mem ((c.tc : Thread Cert.MiddleIdeal.nD Cert.MiddleIdeal.τ).loc Cert.MiddleIdeal.main_v7_6) = v6 c
          ∧ r.2.mem ((c.tc : Thread Cert.MiddleIdeal.nD Cert.MiddleIdeal.τ).loc Cert.MiddleIdeal.main_v7_7) = v7 c
          ∧ r.2.mem ((c.tc : Thread Cert.MiddleIdeal.nD Cert.MiddleIdeal.τ).loc Cert.MiddleIdeal.main_v7_8) = v8 c
          ∧ r.2.mem ((c.tc : Thread Cert.MiddleIdeal.nD Cert.MiddleIdeal.τ).loc Cert.MiddleIdeal.main_v7_9) = v9 c
          ∧ r.2.mem ((c.tc : Thread Cert.MiddleIdeal.nD Cert.MiddleIdeal.τ).loc Cert.MiddleIdeal.main_v7_10) = v10 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
          ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
          ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
          ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
          ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
          ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
          ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ θ_run (Cert.MiddleRefIdeal.defs (F := Ideal)) (onTc (τ := Cert.MiddleRefIdeal.τ) (Cert.MiddleRefIdeal.main (F := Ideal))) ⟨m', fun _ => 0, g'⟩ (fun r => ∀ c : Dev Cert.MiddleRefIdeal.nD,
          r.2.mem ((c.tc : Thread Cert.MiddleRefIdeal.nD Cert.MiddleRefIdeal.τ).loc Cert.MiddleRefIdeal.main_v80) = v0 c
          ∧ r.2.mem ((c.tc : Thread Cert.MiddleRefIdeal.nD Cert.MiddleRefIdeal.τ).loc Cert.MiddleRefIdeal.main_v94) = v1 c
          ∧ r.2.mem ((c.tc : Thread Cert.MiddleRefIdeal.nD Cert.MiddleRefIdeal.τ).loc Cert.MiddleRefIdeal.main_v131) = v2 c
          ∧ r.2.mem ((c.tc : Thread Cert.MiddleRefIdeal.nD Cert.MiddleRefIdeal.τ).loc Cert.MiddleRefIdeal.main_v103) = v3 c
          ∧ r.2.mem ((c.tc : Thread Cert.MiddleRefIdeal.nD Cert.MiddleRefIdeal.τ).loc Cert.MiddleRefIdeal.main_v132) = v4 c
          ∧ r.2.mem ((c.tc : Thread Cert.MiddleRefIdeal.nD Cert.MiddleRefIdeal.τ).loc Cert.MiddleRefIdeal.main_v133) = v5 c
          ∧ r.2.mem ((c.tc : Thread Cert.MiddleRefIdeal.nD Cert.MiddleRefIdeal.τ).loc Cert.MiddleRefIdeal.main_v134) = v6 c
          ∧ r.2.mem ((c.tc : Thread Cert.MiddleRefIdeal.nD Cert.MiddleRefIdeal.τ).loc Cert.MiddleRefIdeal.main_v135) = v7 c
          ∧ r.2.mem ((c.tc : Thread Cert.MiddleRefIdeal.nD Cert.MiddleRefIdeal.τ).loc Cert.MiddleRefIdeal.main_v136) = v8 c
          ∧ r.2.mem ((c.tc : Thread Cert.MiddleRefIdeal.nD Cert.MiddleRefIdeal.τ).loc Cert.MiddleRefIdeal.main_v137) = v9 c
          ∧ r.2.mem ((c.tc : Thread Cert.MiddleRefIdeal.nD Cert.MiddleRefIdeal.τ).loc Cert.MiddleRefIdeal.main_v130) = v10 c
          ∧ r.2.mem ((c.tc : Thread Cert.MiddleRefIdeal.nD Cert.MiddleRefIdeal.τ).loc Cert.MiddleRefIdeal.main_arg0) = m' ((c.tc : Thread Cert.MiddleRefIdeal.nD Cert.MiddleRefIdeal.τ).loc Cert.MiddleRefIdeal.main_arg0)
          ∧ r.2.mem ((c.tc : Thread Cert.MiddleRefIdeal.nD Cert.MiddleRefIdeal.τ).loc Cert.MiddleRefIdeal.main_arg1) = m' ((c.tc : Thread Cert.MiddleRefIdeal.nD Cert.MiddleRefIdeal.τ).loc Cert.MiddleRefIdeal.main_arg1)
          ∧ r.2.mem ((c.tc : Thread Cert.MiddleRefIdeal.nD Cert.MiddleRefIdeal.τ).loc Cert.MiddleRefIdeal.main_arg2) = m' ((c.tc : Thread Cert.MiddleRefIdeal.nD Cert.MiddleRefIdeal.τ).loc Cert.MiddleRefIdeal.main_arg2)
          ∧ r.2.mem ((c.tc : Thread Cert.MiddleRefIdeal.nD Cert.MiddleRefIdeal.τ).loc Cert.MiddleRefIdeal.main_arg3) = m' ((c.tc : Thread Cert.MiddleRefIdeal.nD Cert.MiddleRefIdeal.τ).loc Cert.MiddleRefIdeal.main_arg3)
          ∧ r.2.mem ((c.tc : Thread Cert.MiddleRefIdeal.nD Cert.MiddleRefIdeal.τ).loc Cert.MiddleRefIdeal.main_arg4) = m' ((c.tc : Thread Cert.MiddleRefIdeal.nD Cert.MiddleRefIdeal.τ).loc Cert.MiddleRefIdeal.main_arg4)
          ∧ r.2.mem ((c.tc : Thread Cert.MiddleRefIdeal.nD Cert.MiddleRefIdeal.τ).loc Cert.MiddleRefIdeal.main_arg5) = m' ((c.tc : Thread Cert.MiddleRefIdeal.nD Cert.MiddleRefIdeal.τ).loc Cert.MiddleRefIdeal.main_arg5)
          ∧ r.2.mem ((c.tc : Thread Cert.MiddleRefIdeal.nD Cert.MiddleRefIdeal.τ).loc Cert.MiddleRefIdeal.main_arg6) = m' ((c.tc : Thread Cert.MiddleRefIdeal.nD Cert.MiddleRefIdeal.τ).loc Cert.MiddleRefIdeal.main_arg6)
          ∧ r.2.mem ((c.tc : Thread Cert.MiddleRefIdeal.nD Cert.MiddleRefIdeal.τ).loc Cert.MiddleRefIdeal.main_arg7) = m' ((c.tc : Thread Cert.MiddleRefIdeal.nD Cert.MiddleRefIdeal.τ).loc Cert.MiddleRefIdeal.main_arg7)
          ∧ r.2.mem ((c.tc : Thread Cert.MiddleRefIdeal.nD Cert.MiddleRefIdeal.τ).loc Cert.MiddleRefIdeal.main_arg8) = m' ((c.tc : Thread Cert.MiddleRefIdeal.nD Cert.MiddleRefIdeal.τ).loc Cert.MiddleRefIdeal.main_arg8)
          ∧ r.2.mem ((c.tc : Thread Cert.MiddleRefIdeal.nD Cert.MiddleRefIdeal.τ).loc Cert.MiddleRefIdeal.main_arg9) = m' ((c.tc : Thread Cert.MiddleRefIdeal.nD Cert.MiddleRefIdeal.τ).loc Cert.MiddleRefIdeal.main_arg9)
          ∧ r.2.mem ((c.tc : Thread Cert.MiddleRefIdeal.nD Cert.MiddleRefIdeal.τ).loc Cert.MiddleRefIdeal.main_arg10) = m' ((c.tc : Thread Cert.MiddleRefIdeal.nD Cert.MiddleRefIdeal.τ).loc Cert.MiddleRefIdeal.main_arg10)
          ∧ r.2.mem ((c.tc : Thread Cert.MiddleRefIdeal.nD Cert.MiddleRefIdeal.τ).loc Cert.MiddleRefIdeal.main_arg11) = m' ((c.tc : Thread Cert.MiddleRefIdeal.nD Cert.MiddleRefIdeal.τ).loc Cert.MiddleRefIdeal.main_arg11))

def preserves_AdaBwd_AdaBwdIdeal : Prop :=
  True

def algebraic_AdaBwdIdeal_AdaRefIdeal [hAdaBwdIdeal : Cert.AdaBwdIdeal.Facts] [hAdaRefIdeal : Cert.AdaRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaBwdIdeal m →
    (∀ c : Dev Cert.AdaBwdIdeal.nD,
      m' ((c.tc : Thread Cert.AdaRefIdeal.nD Cert.AdaRefIdeal.τ).loc Cert.AdaRefIdeal.main_arg0) = m ((c.tc : Thread Cert.AdaBwdIdeal.nD Cert.AdaBwdIdeal.τ).loc Cert.AdaBwdIdeal.main_arg0)
      ∧ m' ((c.tc : Thread Cert.AdaRefIdeal.nD Cert.AdaRefIdeal.τ).loc Cert.AdaRefIdeal.main_arg1) = m ((c.tc : Thread Cert.AdaBwdIdeal.nD Cert.AdaBwdIdeal.τ).loc Cert.AdaBwdIdeal.main_arg1)
      ∧ m' ((c.tc : Thread Cert.AdaRefIdeal.nD Cert.AdaRefIdeal.τ).loc Cert.AdaRefIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v1) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_ConvBwd_ConvBwdIdeal : Prop :=
  True

def preserves_PrepBwd_PrepBwdIdeal : Prop :=
  True

def algebraic_PrepBwdIdeal_PrepRefIdeal_pre_prep_finite [hPrepBwdIdeal : Cert.PrepBwdIdeal.Facts] [hPrepRefIdeal : Cert.PrepRefIdeal.Facts] [hPre_prep_finite : Cert.Pre_prep_finite.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepBwdIdeal_prep_finite m →
    (∀ c : Dev Cert.PrepBwdIdeal.nD,
      m' ((c.tc : Thread Cert.PrepRefIdeal.nD Cert.PrepRefIdeal.τ).loc Cert.PrepRefIdeal.main_arg0) = m ((c.tc : Thread Cert.PrepBwdIdeal.nD Cert.PrepBwdIdeal.τ).loc Cert.PrepBwdIdeal.main_arg0)
      ∧ m' ((c.tc : Thread Cert.PrepRefIdeal.nD Cert.PrepRefIdeal.τ).loc Cert.PrepRefIdeal.main_arg1) = m ((c.tc : Thread Cert.PrepBwdIdeal.nD Cert.PrepBwdIdeal.τ).loc Cert.PrepBwdIdeal.main_arg1)
      ∧ m' ((c.tc : Thread Cert.PrepRefIdeal.nD Cert.PrepRefIdeal.τ).loc Cert.PrepRefIdeal.main_arg2) = m ((c.tc : Thread Cert.PrepBwdIdeal.nD Cert.PrepBwdIdeal.τ).loc Cert.PrepBwdIdeal.main_arg2)
      ∧ m' ((c.tc : Thread Cert.PrepRefIdeal.nD Cert.PrepRefIdeal.τ).loc Cert.PrepRefIdeal.main_arg3) = m ((c.tc : Thread Cert.PrepBwdIdeal.nD Cert.PrepBwdIdeal.τ).loc Cert.PrepBwdIdeal.main_arg3)
      ∧ m' ((c.tc : Thread Cert.PrepRefIdeal.nD Cert.PrepRefIdeal.τ).loc Cert.PrepRefIdeal.main_arg4) = m ((c.tc : Thread Cert.PrepBwdIdeal.nD Cert.PrepBwdIdeal.τ).loc Cert.PrepBwdIdeal.main_arg4)
      ∧ m' ((c.tc : Thread Cert.PrepRefIdeal.nD Cert.PrepRefIdeal.τ).loc Cert.PrepRefIdeal.main_arg5) = m ((c.tc : Thread Cert.PrepBwdIdeal.nD Cert.PrepBwdIdeal.τ).loc Cert.PrepBwdIdeal.main_arg5)
      ∧ m' ((c.tc : Thread Cert.PrepRefIdeal.nD Cert.PrepRefIdeal.τ).loc Cert.PrepRefIdeal.main_arg6) = m ((c.tc : Thread Cert.PrepBwdIdeal.nD Cert.PrepBwdIdeal.τ).loc Cert.PrepBwdIdeal.main_arg6)
      ∧ m' ((c.tc : Thread Cert.PrepRefIdeal.nD Cert.PrepRefIdeal.τ).loc Cert.PrepRefIdeal.main_arg7) = m ((c.tc : Thread Cert.PrepBwdIdeal.nD Cert.PrepBwdIdeal.τ).loc Cert.PrepBwdIdeal.main_arg7)
      ∧ m' ((c.tc : Thread Cert.PrepRefIdeal.nD Cert.PrepRefIdeal.τ).loc Cert.PrepRefIdeal.main_arg8) = m ((c.tc : Thread Cert.PrepBwdIdeal.nD Cert.PrepBwdIdeal.τ).loc Cert.PrepBwdIdeal.main_arg8)
      ∧ m' ((c.tc : Thread Cert.PrepRefIdeal.nD Cert.PrepRefIdeal.τ).loc Cert.PrepRefIdeal.main_arg9) = m ((c.tc : Thread Cert.PrepBwdIdeal.nD Cert.PrepBwdIdeal.τ).loc Cert.PrepBwdIdeal.main_arg9)
      ∧ m' ((c.tc : Thread Cert.PrepRefIdeal.nD Cert.PrepRefIdeal.τ).loc Cert.PrepRefIdeal.main_arg10) = m ((c.tc : Thread Cert.PrepBwdIdeal.nD Cert.PrepBwdIdeal.τ).loc Cert.PrepBwdIdeal.main_arg10)
      ∧ m' ((c.tc : Thread Cert.PrepRefIdeal.nD Cert.PrepRefIdeal.τ).loc Cert.PrepRefIdeal.main_arg11) = m ((c.tc : Thread Cert.PrepBwdIdeal.nD Cert.PrepBwdIdeal.τ).loc Cert.PrepBwdIdeal.main_arg11)
      ∧ m' ((c.tc : Thread Cert.PrepRefIdeal.nD Cert.PrepRefIdeal.τ).loc Cert.PrepRefIdeal.main_arg12) = m ((c.tc : Thread Cert.PrepBwdIdeal.nD Cert.PrepBwdIdeal.τ).loc Cert.PrepBwdIdeal.main_arg12)) →
    ∃ (v0 : (c : Dev Cert.PrepBwdIdeal.nD) → Buf (Elt Ideal) ((c.tc : Thread Cert.PrepBwdIdeal.nD Cert.PrepBwdIdeal.τ).loc Cert.PrepBwdIdeal.main_v75_0)) (v1 : (c : Dev Cert.PrepBwdIdeal.nD) → Buf (Elt Ideal) ((c.tc : Thread Cert.PrepBwdIdeal.nD Cert.PrepBwdIdeal.τ).loc Cert.PrepBwdIdeal.main_v75_1)) (v2 : (c : Dev Cert.PrepBwdIdeal.nD) → Buf (Elt Ideal) ((c.tc : Thread Cert.PrepBwdIdeal.nD Cert.PrepBwdIdeal.τ).loc Cert.PrepBwdIdeal.main_v75_2)) (v3 : (c : Dev Cert.PrepBwdIdeal.nD) → Buf (Elt Ideal) ((c.tc : Thread Cert.PrepBwdIdeal.nD Cert.PrepBwdIdeal.τ).loc Cert.PrepBwdIdeal.main_v75_3)),
      θ_run (Cert.PrepBwdIdeal.defs (F := Ideal)) (onTc (τ := Cert.PrepBwdIdeal.τ) (Cert.PrepBwdIdeal.main (F := Ideal))) ⟨m, fun _ => 0, g⟩ (fun r => ∀ c : Dev Cert.PrepBwdIdeal.nD,
          r.2.mem ((c.tc : Thread Cert.PrepBwdIdeal.nD Cert.PrepBwdIdeal.τ).loc Cert.PrepBwdIdeal.main_v75_0) = v0 c
          ∧ r.2.mem ((c.tc : Thread Cert.PrepBwdIdeal.nD Cert.PrepBwdIdeal.τ).loc Cert.PrepBwdIdeal.main_v75_1) = v1 c
          ∧ r.2.mem ((c.tc : Thread Cert.PrepBwdIdeal.nD Cert.PrepBwdIdeal.τ).loc Cert.PrepBwdIdeal.main_v75_2) = v2 c
          ∧ r.2.mem ((c.tc : Thread Cert.PrepBwdIdeal.nD Cert.PrepBwdIdeal.τ).loc Cert.PrepBwdIdeal.main_v75_3) = v3 c
          ∧ r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
          ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
          ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
          ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
          ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
          ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
          ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
          ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
          ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8)
          ∧ r.2.mem ((c.tc : Thread Cert.PrepBwdIdeal.nD Cert.PrepBwdIdeal.τ).loc Cert.PrepBwdIdeal.main_arg9) = m ((c.tc : Thread Cert.PrepBwdIdeal.nD Cert.PrepBwdIdeal.τ).loc Cert.PrepBwdIdeal.main_arg9)
          ∧ r.2.mem ((c.tc : Thread Cert.PrepBwdIdeal.nD Cert.PrepBwdIdeal.τ).loc Cert.PrepBwdIdeal.main_arg10) = m ((c.tc : Thread Cert.PrepBwdIdeal.nD Cert.PrepBwdIdeal.τ).loc Cert.PrepBwdIdeal.main_arg10)
          ∧ r.2.mem ((c.tc : Thread Cert.PrepBwdIdeal.nD Cert.PrepBwdIdeal.τ).loc Cert.PrepBwdIdeal.main_arg11) = m ((c.tc : Thread Cert.PrepBwdIdeal.nD Cert.PrepBwdIdeal.τ).loc Cert.PrepBwdIdeal.main_arg11)
          ∧ r.2.mem ((c.tc : Thread Cert.PrepBwdIdeal.nD Cert.PrepBwdIdeal.τ).loc Cert.PrepBwdIdeal.main_arg12) = m ((c.tc : Thread Cert.PrepBwdIdeal.nD Cert.PrepBwdIdeal.τ).loc Cert.PrepBwdIdeal.main_arg12))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v200) = v0 c
          ∧ r.2.mem ((c.tc : Thread Cert.PrepRefIdeal.nD Cert.PrepRefIdeal.τ).loc Cert.PrepRefIdeal.main_v194) = v1 c
          ∧ r.2.mem ((c.tc : Thread Cert.PrepRefIdeal.nD Cert.PrepRefIdeal.τ).loc Cert.PrepRefIdeal.main_v136) = v2 c
          ∧ r.2.mem ((c.tc : Thread Cert.PrepRefIdeal.nD Cert.PrepRefIdeal.τ).loc Cert.PrepRefIdeal.main_v199) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12))

def preserves_AdaNorm_AdaNormIdeal : Prop :=
  True

def algebraic_AdaNormIdeal_NormRefIdeal [hAdaNormIdeal : Cert.AdaNormIdeal.Facts] [hNormRefIdeal : Cert.NormRefIdeal.Facts] : Prop :=
  ∀ (m : (ℓ : Loc Cert.AdaNormIdeal.nD Cert.AdaNormIdeal.τ Cert.AdaNormIdeal.sig) → Buf (Elt Ideal) ℓ) (g : Dev Cert.AdaNormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_AdaNormIdeal m →
    (∀ c : Dev Cert.AdaNormIdeal.nD,
      m' ((c.tc : Thread Cert.NormRefIdeal.nD Cert.NormRefIdeal.τ).loc Cert.NormRefIdeal.main_arg0) = m ((c.tc : Thread Cert.AdaNormIdeal.nD Cert.AdaNormIdeal.τ).loc Cert.AdaNormIdeal.main_arg0)
      ∧ m' ((c.tc : Thread Cert.NormRefIdeal.nD Cert.NormRefIdeal.τ).loc Cert.NormRefIdeal.main_arg1) = m ((c.tc : Thread Cert.AdaNormIdeal.nD Cert.AdaNormIdeal.τ).loc Cert.AdaNormIdeal.main_arg1)
      ∧ m' ((c.tc : Thread Cert.NormRefIdeal.nD Cert.NormRefIdeal.τ).loc Cert.NormRefIdeal.main_arg2) = m ((c.tc : Thread Cert.AdaNormIdeal.nD Cert.AdaNormIdeal.τ).loc Cert.AdaNormIdeal.main_arg2)
      ∧ m' ((c.tc : Thread Cert.NormRefIdeal.nD Cert.NormRefIdeal.τ).loc Cert.NormRefIdeal.main_arg3) = m ((c.tc : Thread Cert.AdaNormIdeal.nD Cert.AdaNormIdeal.τ).loc Cert.AdaNormIdeal.main_arg3)) →
    ∃ (v0 : (c : Dev Cert.AdaNormIdeal.nD) → Buf (Elt Ideal) ((c.tc : Thread Cert.AdaNormIdeal.nD Cert.AdaNormIdeal.τ).loc Cert.AdaNormIdeal.main_v3)),
      θ_run (Cert.AdaNormIdeal.defs (F := Ideal)) (onTc (τ := Cert.AdaNormIdeal.τ) (Cert.AdaNormIdeal.main (F := Ideal))) ⟨m, fun _ => 0, g⟩ (fun r => ∀ c : Dev Cert.AdaNormIdeal.nD,
          r.2.mem ((c.tc : Thread Cert.AdaNormIdeal.nD Cert.AdaNormIdeal.τ).loc Cert.AdaNormIdeal.main_v3) = v0 c
          ∧ r.2.mem ((c.tc : Thread Cert.AdaNormIdeal.nD Cert.AdaNormIdeal.τ).loc Cert.AdaNormIdeal.main_arg0) = m ((c.tc : Thread Cert.AdaNormIdeal.nD Cert.AdaNormIdeal.τ).loc Cert.AdaNormIdeal.main_arg0)
          ∧ r.2.mem ((c.tc : Thread Cert.AdaNormIdeal.nD Cert.AdaNormIdeal.τ).loc Cert.AdaNormIdeal.main_arg1) = m ((c.tc : Thread Cert.AdaNormIdeal.nD Cert.AdaNormIdeal.τ).loc Cert.AdaNormIdeal.main_arg1)
          ∧ r.2.mem ((c.tc : Thread Cert.AdaNormIdeal.nD Cert.AdaNormIdeal.τ).loc Cert.AdaNormIdeal.main_arg2) = m ((c.tc : Thread Cert.AdaNormIdeal.nD Cert.AdaNormIdeal.τ).loc Cert.AdaNormIdeal.main_arg2)
          ∧ r.2.mem ((c.tc : Thread Cert.AdaNormIdeal.nD Cert.AdaNormIdeal.τ).loc Cert.AdaNormIdeal.main_arg3) = m ((c.tc : Thread Cert.AdaNormIdeal.nD Cert.AdaNormIdeal.τ).loc Cert.AdaNormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v21) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)
      ∧ m' ((c.tc : Thread Cert.PrepFwdRefIdeal.nD Cert.PrepFwdRefIdeal.τ).loc Cert.PrepFwdRefIdeal.main_arg5) = m ((c.tc : Thread Cert.PrepFwdIdeal.nD Cert.PrepFwdIdeal.τ).loc Cert.PrepFwdIdeal.main_arg5)
      ∧ m' ((c.tc : Thread Cert.PrepFwdRefIdeal.nD Cert.PrepFwdRefIdeal.τ).loc Cert.PrepFwdRefIdeal.main_arg6) = m ((c.tc : Thread Cert.PrepFwdIdeal.nD Cert.PrepFwdIdeal.τ).loc Cert.PrepFwdIdeal.main_arg6)
      ∧ m' ((c.tc : Thread Cert.PrepFwdRefIdeal.nD Cert.PrepFwdRefIdeal.τ).loc Cert.PrepFwdRefIdeal.main_arg7) = m ((c.tc : Thread Cert.PrepFwdIdeal.nD Cert.PrepFwdIdeal.τ).loc Cert.PrepFwdIdeal.main_arg7)) →
    ∃ (v0 : (c : Dev Cert.PrepFwdIdeal.nD) → Buf (Elt Ideal) ((c.tc : Thread Cert.PrepFwdIdeal.nD Cert.PrepFwdIdeal.τ).loc Cert.PrepFwdIdeal.main_v39_0)) (v1 : (c : Dev Cert.PrepFwdIdeal.nD) → Buf (Elt Ideal) ((c.tc : Thread Cert.PrepFwdIdeal.nD Cert.PrepFwdIdeal.τ).loc Cert.PrepFwdIdeal.main_v39_1)) (v2 : (c : Dev Cert.PrepFwdIdeal.nD) → Buf (Elt Ideal) ((c.tc : Thread Cert.PrepFwdIdeal.nD Cert.PrepFwdIdeal.τ).loc Cert.PrepFwdIdeal.main_v39_2)) (v3 : (c : Dev Cert.PrepFwdIdeal.nD) → Buf (Elt Ideal) ((c.tc : Thread Cert.PrepFwdIdeal.nD Cert.PrepFwdIdeal.τ).loc Cert.PrepFwdIdeal.main_v39_3)) (v4 : (c : Dev Cert.PrepFwdIdeal.nD) → Buf (Elt Ideal) ((c.tc : Thread Cert.PrepFwdIdeal.nD Cert.PrepFwdIdeal.τ).loc Cert.PrepFwdIdeal.main_v39_4)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v39_0) = v0 c
          ∧ r.2.mem ((c.tc : Thread Cert.PrepFwdIdeal.nD Cert.PrepFwdIdeal.τ).loc Cert.PrepFwdIdeal.main_v39_1) = v1 c
          ∧ r.2.mem ((c.tc : Thread Cert.PrepFwdIdeal.nD Cert.PrepFwdIdeal.τ).loc Cert.PrepFwdIdeal.main_v39_2) = v2 c
          ∧ r.2.mem ((c.tc : Thread Cert.PrepFwdIdeal.nD Cert.PrepFwdIdeal.τ).loc Cert.PrepFwdIdeal.main_v39_3) = v3 c
          ∧ r.2.mem ((c.tc : Thread Cert.PrepFwdIdeal.nD Cert.PrepFwdIdeal.τ).loc Cert.PrepFwdIdeal.main_v39_4) = v4 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
          ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
          ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6)
          ∧ r.2.mem ((c.tc : Thread Cert.PrepFwdIdeal.nD Cert.PrepFwdIdeal.τ).loc Cert.PrepFwdIdeal.main_arg7) = m ((c.tc : Thread Cert.PrepFwdIdeal.nD Cert.PrepFwdIdeal.τ).loc Cert.PrepFwdIdeal.main_arg7))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v76) = v0 c
          ∧ r.2.mem ((c.tc : Thread Cert.PrepFwdRefIdeal.nD Cert.PrepFwdRefIdeal.τ).loc Cert.PrepFwdRefIdeal.main_v77) = v1 c
          ∧ r.2.mem ((c.tc : Thread Cert.PrepFwdRefIdeal.nD Cert.PrepFwdRefIdeal.τ).loc Cert.PrepFwdRefIdeal.main_v81) = v2 c
          ∧ r.2.mem ((c.tc : Thread Cert.PrepFwdRefIdeal.nD Cert.PrepFwdRefIdeal.τ).loc Cert.PrepFwdRefIdeal.main_v85) = v3 c
          ∧ r.2.mem ((c.tc : Thread Cert.PrepFwdRefIdeal.nD Cert.PrepFwdRefIdeal.τ).loc Cert.PrepFwdRefIdeal.main_v90) = v4 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4)
          ∧ r.2.mem ((c.tc : Thread Cert.PrepFwdRefIdeal.nD Cert.PrepFwdRefIdeal.τ).loc Cert.PrepFwdRefIdeal.main_arg5) = m' ((c.tc : Thread Cert.PrepFwdRefIdeal.nD Cert.PrepFwdRefIdeal.τ).loc Cert.PrepFwdRefIdeal.main_arg5)
          ∧ r.2.mem ((c.tc : Thread Cert.PrepFwdRefIdeal.nD Cert.PrepFwdRefIdeal.τ).loc Cert.PrepFwdRefIdeal.main_arg6) = m' ((c.tc : Thread Cert.PrepFwdRefIdeal.nD Cert.PrepFwdRefIdeal.τ).loc Cert.PrepFwdRefIdeal.main_arg6)
          ∧ r.2.mem ((c.tc : Thread Cert.PrepFwdRefIdeal.nD Cert.PrepFwdRefIdeal.τ).loc Cert.PrepFwdRefIdeal.main_arg7) = m' ((c.tc : Thread Cert.PrepFwdRefIdeal.nD Cert.PrepFwdRefIdeal.τ).loc Cert.PrepFwdRefIdeal.main_arg7))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v4) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)
      ∧ m' ((c.tc : Thread Cert.GradInRefIdeal.nD Cert.GradInRefIdeal.τ).loc Cert.GradInRefIdeal.main_arg2) = m ((c.tc : Thread Cert.GradInIdeal.nD Cert.GradInIdeal.τ).loc Cert.GradInIdeal.main_arg2)) →
    ∃ (v0 : (c : Dev Cert.GradInIdeal.nD) → Buf (Elt Ideal) ((c.tc : Thread Cert.GradInIdeal.nD Cert.GradInIdeal.τ).loc Cert.GradInIdeal.main_v2)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v2) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v3) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1)
          ∧ r.2.mem ((c.tc : Thread Cert.GradInRefIdeal.nD Cert.GradInRefIdeal.τ).loc Cert.GradInRefIdeal.main_arg2) = m' ((c.tc : Thread Cert.GradInRefIdeal.nD Cert.GradInRefIdeal.τ).loc Cert.GradInRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_ConvFwd_ConvFwdIdeal : Prop :=
  True

def Claim : Prop :=
  ∃ (hInputBwd : Cert.InputBwd.Facts) (hInputBwdIdeal : Cert.InputBwdIdeal.Facts) (hInputRefIdeal : Cert.InputRefIdeal.Facts) (hAttnBwd : Cert.AttnBwd.Facts) (hAttnBwdIdeal : Cert.AttnBwdIdeal.Facts) (hAttnRefIdeal : Cert.AttnRefIdeal.Facts) (hMiddle : Cert.Middle.Facts) (hMiddleIdeal : Cert.MiddleIdeal.Facts) (hMiddleRefIdeal : Cert.MiddleRefIdeal.Facts) (hAdaBwd : Cert.AdaBwd.Facts) (hAdaBwdIdeal : Cert.AdaBwdIdeal.Facts) (hAdaRefIdeal : Cert.AdaRefIdeal.Facts) (hConvBwd : Cert.ConvBwd.Facts) (hConvBwdIdeal : Cert.ConvBwdIdeal.Facts) (hConvRefIdeal : Cert.ConvRefIdeal.Facts) (hPrepBwd : Cert.PrepBwd.Facts) (hPrepBwdIdeal : Cert.PrepBwdIdeal.Facts) (hPrepRefIdeal : Cert.PrepRefIdeal.Facts) (hAdaNorm : Cert.AdaNorm.Facts) (hAdaNormIdeal : Cert.AdaNormIdeal.Facts) (hNormRefIdeal : Cert.NormRefIdeal.Facts) (hPrepFwd : Cert.PrepFwd.Facts) (hPrepFwdIdeal : Cert.PrepFwdIdeal.Facts) (hPrepFwdRefIdeal : Cert.PrepFwdRefIdeal.Facts) (hAdaFwd : Cert.AdaFwd.Facts) (hAdaFwdIdeal : Cert.AdaFwdIdeal.Facts) (hAdaFwdRefIdeal : Cert.AdaFwdRefIdeal.Facts) (hProj : Cert.Proj.Facts) (hProjIdeal : Cert.ProjIdeal.Facts) (hProjRefIdeal : Cert.ProjRefIdeal.Facts) (hGradIn : Cert.GradIn.Facts) (hGradInIdeal : Cert.GradInIdeal.Facts) (hGradInRefIdeal : Cert.GradInRefIdeal.Facts) (hAdam : Cert.Adam.Facts) (hAdamIdeal : Cert.AdamIdeal.Facts) (hAdamRefIdeal : Cert.AdamRefIdeal.Facts) (hConvFwd : Cert.ConvFwd.Facts) (hConvFwdIdeal : Cert.ConvFwdIdeal.Facts) (hConvFwdRefIdeal : Cert.ConvFwdRefIdeal.Facts) (hPre_input_finite : Cert.Pre_input_finite.Facts) (hPre_attn_finite : Cert.Pre_attn_finite.Facts) (hPre_middle_finite : Cert.Pre_middle_finite.Facts) (hPre_prep_finite : Cert.Pre_prep_finite.Facts),
    quiescent_InputBwd (hInputBwd := hInputBwd)
    ∧ quiescent_InputBwdIdeal (hInputBwdIdeal := hInputBwdIdeal)
    ∧ quiescent_InputBwdIdeal_pre_input_finite (hInputBwdIdeal := hInputBwdIdeal) (hPre_input_finite := hPre_input_finite)
    ∧ quiescent_InputRefIdeal (hInputRefIdeal := hInputRefIdeal)
    ∧ quiescent_InputRefIdeal_pre_input_finite (hInputRefIdeal := hInputRefIdeal) (hPre_input_finite := hPre_input_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Middle (hMiddle := hMiddle)
    ∧ quiescent_MiddleIdeal (hMiddleIdeal := hMiddleIdeal)
    ∧ quiescent_MiddleIdeal_pre_middle_finite (hMiddleIdeal := hMiddleIdeal) (hPre_middle_finite := hPre_middle_finite)
    ∧ quiescent_MiddleRefIdeal (hMiddleRefIdeal := hMiddleRefIdeal)
    ∧ quiescent_MiddleRefIdeal_pre_middle_finite (hMiddleRefIdeal := hMiddleRefIdeal) (hPre_middle_finite := hPre_middle_finite)
    ∧ quiescent_AdaBwd (hAdaBwd := hAdaBwd)
    ∧ quiescent_AdaBwdIdeal (hAdaBwdIdeal := hAdaBwdIdeal)
    ∧ quiescent_AdaRefIdeal (hAdaRefIdeal := hAdaRefIdeal)
    ∧ quiescent_ConvBwd (hConvBwd := hConvBwd)
    ∧ quiescent_ConvBwdIdeal (hConvBwdIdeal := hConvBwdIdeal)
    ∧ quiescent_ConvRefIdeal (hConvRefIdeal := hConvRefIdeal)
    ∧ quiescent_PrepBwd (hPrepBwd := hPrepBwd)
    ∧ quiescent_PrepBwdIdeal (hPrepBwdIdeal := hPrepBwdIdeal)
    ∧ quiescent_PrepBwdIdeal_pre_prep_finite (hPrepBwdIdeal := hPrepBwdIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_AdaNorm (hAdaNorm := hAdaNorm)
    ∧ quiescent_AdaNormIdeal (hAdaNormIdeal := hAdaNormIdeal)
    ∧ quiescent_NormRefIdeal (hNormRefIdeal := hNormRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_Proj (hProj := hProj)
    ∧ quiescent_ProjIdeal (hProjIdeal := hProjIdeal)
    ∧ quiescent_ProjRefIdeal (hProjRefIdeal := hProjRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_Adam (hAdam := hAdam)
    ∧ quiescent_AdamIdeal (hAdamIdeal := hAdamIdeal)
    ∧ quiescent_AdamRefIdeal (hAdamRefIdeal := hAdamRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_InputBwd_InputBwdIdeal
    ∧ algebraic_InputBwdIdeal_InputRefIdeal_pre_input_finite (hInputBwdIdeal := hInputBwdIdeal) (hInputRefIdeal := hInputRefIdeal) (hPre_input_finite := hPre_input_finite)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_Middle_MiddleIdeal
    ∧ algebraic_MiddleIdeal_MiddleRefIdeal_pre_middle_finite (hMiddleIdeal := hMiddleIdeal) (hMiddleRefIdeal := hMiddleRefIdeal) (hPre_middle_finite := hPre_middle_finite)
    ∧ preserves_AdaBwd_AdaBwdIdeal
    ∧ algebraic_AdaBwdIdeal_AdaRefIdeal (hAdaBwdIdeal := hAdaBwdIdeal) (hAdaRefIdeal := hAdaRefIdeal)
    ∧ preserves_ConvBwd_ConvBwdIdeal
    ∧ preserves_PrepBwd_PrepBwdIdeal
    ∧ algebraic_PrepBwdIdeal_PrepRefIdeal_pre_prep_finite (hPrepBwdIdeal := hPrepBwdIdeal) (hPrepRefIdeal := hPrepRefIdeal) (hPre_prep_finite := hPre_prep_finite)
    ∧ preserves_AdaNorm_AdaNormIdeal
    ∧ algebraic_AdaNormIdeal_NormRefIdeal (hAdaNormIdeal := hAdaNormIdeal) (hNormRefIdeal := hNormRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_Proj_ProjIdeal
    ∧ algebraic_ProjIdeal_ProjRefIdeal (hProjIdeal := hProjIdeal) (hProjRefIdeal := hProjRefIdeal)
    ∧ preserves_GradIn_GradInIdeal
    ∧ algebraic_GradInIdeal_GradInRefIdeal (hGradInIdeal := hGradInIdeal) (hGradInRefIdeal := hGradInRefIdeal)
    ∧ preserves_Adam_AdamIdeal
    ∧ algebraic_AdamIdeal_AdamRefIdeal (hAdamIdeal := hAdamIdeal) (hAdamRefIdeal := hAdamRefIdeal)
    ∧ preserves_ConvFwd_ConvFwdIdeal
-- ==== Pre_attn_finite.lean ====
abbrev S4096x8x128 : Shape := ⟨3, ![4096, 8, 128]⟩
abbrev S4096x8x64 : Shape := ⟨3, ![4096, 8, 64]⟩
abbrev S4096x64 : Shape := ⟨2, ![4096, 64]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S4096x8x128 .f32) (main_arg5 : FVec F S4096x8x128 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S4096x8x128 .f32 := Host.absf main_arg4
  let main_cst_6 : FVec F S_ .f32 := constant S_ .f32 0x7F800000#32
  let main_v20 : FVec F S4096x8x128 .f32 := broadcastInDim S4096x8x128 ![] bcast_S_S4096x8x128 main_cst_6
  let main_v21 : IVec S4096x8x128 1 := cmpf .olt main_v19 main_v20
  let main_c_7 : IVec S_ 1 := constantI S_ 1 1#1
  let main_v22 : IVec S_ 1 := (fun x v => Host.reduce IntOp.andi x v reducesTo_S4096x8x128_S_d0_1_2 h_S_) main_v21 main_c_7
  let main_v23 : IVec S_ 1 := andi main_v18 main_v22
  let main_v24 : FVec F S4096x8x128 .f32 := Host.absf main_arg5
  let main_cst_8 : FVec F S_ .f32 := constant S_ .f32 0x7F800000#32
  let main_v25 : FVec F S4096x8x128 .f32 := broadcastInDim S4096x8x128 ![] bcast_S_S4096x8x128 main_cst_8
  let main_v26 : IVec S4096x8x128 1 := cmpf .olt main_v24 main_v25
  let main_c_9 : IVec S_ 1 := constantI S_ 1 1#1
  let main_v27 : IVec S_ 1 := (fun x v => Host.reduce IntOp.andi x v reducesTo_S4096x8x128_S_d0_1_2 h_S_) main_v26 main_c_9
  let main_v28 : IVec S_ 1 := andi main_v23 main_v27
  main_v28

def fn {F : FTy → Type} [FloatOps F] (main_arg0 : FVec F S4096x8x128 .f32) (main_arg1 : FVec F S4096x8x64 .f32) (main_arg2 : FVec F S4096x8x128 .f32) (main_arg3 : FVec F S4096x64 .f32) (main_arg4 : FVec F S4096x8x128 .f32) (main_arg5 : FVec F S4096x8x128 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x64 .f32 := Host.absf main_arg1
  let main_cst_0 : FVec F S_ .f32 := constant S_ .f32 0x7F800000#32
  let main_v5 : FVec F S4096x8x64 .f32 := broadcastInDim S4096x8x64 ![] bcast_S_S4096x8x64 main_cst_0
  let main_v6 : IVec S4096x8x64 1 := cmpf .olt main_v4 main_v5
  let main_c_1 : IVec S_ 1 := constantI S_ 1 1#1
  let main_v7 : IVec S_ 1 := (fun x v => Host.reduce IntOp.andi x v reducesTo_S4096x8x64_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_arg5 main_v13 main_v16
-- ==== Pre_input_finite.lean ====
abbrev S4096x1024 : Shape := ⟨2, ![4096, 1024]⟩
abbrev S1024 : Shape := ⟨1, ![1024]⟩
abbrev S1024x6720 : Shape := ⟨2, ![1024, 6720]⟩
abbrev S4096x6720 : Shape := ⟨2, ![4096, 6720]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6720 : S_.BroadcastsInDim S1024x6720 (![] : Fin 0 → Fin S1024x6720.rank)
  reducesTo_S1024x6720_S_d0_1 : S1024x6720.ReducesTo [0, 1] S_
  bcast_S_S4096x6720 : S_.BroadcastsInDim S4096x6720 (![] : Fin 0 → Fin S4096x6720.rank)
  reducesTo_S4096x6720_S_d0_1 : S4096x6720.ReducesTo [0, 1] S_

variable [Facts]

def fn_part1 {F : FTy → Type} [FloatOps F] (main_arg4 : FVec F S4096x6720 .f32) (main_v13 : IVec S_ 1) (main_v16 : IVec S1024x6720 1) : IVec S_ 1 :=
  let main_c_5 : IVec S_ 1 := constantI S_ 1 1#1
  let main_v17 : IVec S_ 1 := (fun x v => Host.reduce IntOp.andi x v reducesTo_S1024x6720_S_d0_1 h_S_) main_v16 main_c_5
  let main_v18 : IVec S_ 1 := andi main_v13 main_v17
  let main_v19 : FVec F S4096x6720 .f32 := Host.absf main_arg4
  let main_cst_6 : FVec F S_ .f32 := constant S_ .f32 0x7F800000#32
  let main_v20 : FVec F S4096x6720 .f32 := broadcastInDim S4096x6720 ![] bcast_S_S4096x6720 main_cst_6
  let main_v21 : IVec S4096x6720 1 := cmpf .olt main_v19 main_v20
  let main_c_7 : IVec S_ 1 := constantI S_ 1 1#1
  let main_v22 : IVec S_ 1 := (fun x v => Host.reduce IntOp.andi x v reducesTo_S4096x6720_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S1024 .f32) (main_arg3 : FVec F S1024x6720 .f32) (main_arg4 : FVec F S4096x6720 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x6720 .f32 := Host.absf main_arg3
  let main_cst_4 : FVec F S_ .f32 := constant S_ .f32 0x7F800000#32
  let main_v15 : FVec F S1024x6720 .f32 := broadcastInDim S1024x6720 ![] bcast_S_S1024x6720 main_cst_4
  let main_v16 : IVec S1024x6720 1 := cmpf .olt main_v14 main_v15
  fn_part1 (F := F) main_arg4 main_v13 main_v16
-- ==== Pre_middle_finite.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg9 : FVec F S1024x1024 .f32) (main_arg10 : FVec F S1024x1024 .f32) (main_arg11 : FVec F S4096x1024 .f32) (main_v33 : IVec S_ 1) : IVec S_ 1 :=
  let main_v34 : FVec F S1024x1024 .f32 := Host.absf main_arg9
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg10
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S4096x1024 .f32 := Host.absf main_arg11
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  main_v48

def fn_part1 {F : FTy → Type} [FloatOps F] (main_arg6 : FVec F S1024 .f32) (main_arg7 : FVec F S1024 .f32) (main_arg8 : FVec F S1024x1024 .f32) (main_arg9 : FVec F S1024x1024 .f32) (main_arg10 : FVec F S1024x1024 .f32) (main_arg11 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg8
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg9 main_arg10 main_arg11 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096x1024 .f32) (main_arg6 : FVec F S1024 .f32) (main_arg7 : FVec F S1024 .f32) (main_arg8 : FVec F S1024x1024 .f32) (main_arg9 : FVec F S1024x1024 .f32) (main_arg10 : FVec F S1024x1024 .f32) (main_arg11 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg5
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg6 main_arg7 main_arg8 main_arg9 main_arg10 main_arg11 main_v13 main_v16
-- ==== Pre_prep_finite.lean ====
abbrev S4096 : Shape := ⟨1, ![4096]⟩
abbrev S4096x256 : Shape := ⟨2, ![4096, 256]⟩
abbrev S4096x64 : Shape := ⟨2, ![4096, 64]⟩
abbrev S256 : Shape := ⟨1, ![256]⟩
abbrev S256x1536 : Shape := ⟨2, ![256, 1536]⟩
abbrev S256x2048 : Shape := ⟨2, ![256, 2048]⟩
abbrev S4096x8x128 : Shape := ⟨3, ![4096, 8, 128]⟩
abbrev S4096x8x64 : Shape := ⟨3, ![4096, 8, 64]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256 : S_.BroadcastsInDim S256 (![] : Fin 0 → Fin S256.rank)
  reducesTo_S256_S_d0 : S256.ReducesTo [0] S_
  bcast_S_S256x1536 : S_.BroadcastsInDim S256x1536 (![] : Fin 0 → Fin S256x1536.rank)
  reducesTo_S256x1536_S_d0_1 : S256x1536.ReducesTo [0, 1] S_
  bcast_S_S256x2048 : S_.BroadcastsInDim S256x2048 (![] : Fin 0 → Fin S256x2048.rank)
  reducesTo_S256x2048_S_d0_1 : S256x2048.ReducesTo [0, 1] S_
  bcast_S_S4096x8x128 : S_.BroadcastsInDim S4096x8x128 (![] : Fin 0 → Fin S4096x8x128.rank)
  reducesTo_S4096x8x128_S_d0_1_2 : S4096x8x128.ReducesTo [0, 1, 2] S_
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part3 {F : FTy → Type} [FloatOps F] (main_v48 : IVec S_ 1) (main_v49 : FVec F S4096x8x128 .f32) (main_v50 : FVec F S4096x8x128 .f32) : IVec S_ 1 :=
  let main_v51 : IVec S4096x8x128 1 := cmpf .olt main_v49 main_v50
  let main_c_19 : IVec S_ 1 := constantI S_ 1 1#1
  let main_v52 : IVec S_ 1 := (fun x v => Host.reduce IntOp.andi x v reducesTo_S4096x8x128_S_d0_1_2 h_S_) main_v51 main_c_19
  let main_v53 : IVec S_ 1 := andi main_v48 main_v52
  main_v53

def fn_part2 {F : FTy → Type} [FloatOps F] (main_arg9 : FVec F S4096x8x64 .f32) (main_arg10 : FVec F S4096x8x128 .f32) (main_arg11 : FVec F S4096x8x64 .f32) (main_arg12 : FVec F S4096x8x128 .f32) (main_v33 : IVec S_ 1) : IVec S_ 1 :=
  let main_v34 : FVec F S4096x8x64 .f32 := Host.absf main_arg9
  let main_cst_12 : FVec F S_ .f32 := constant S_ .f32 0x7F800000#32
  let main_v35 : FVec F S4096x8x64 .f32 := broadcastInDim S4096x8x64 ![] bcast_S_S4096x8x64 main_cst_12
  let main_v36 : IVec S4096x8x64 1 := cmpf .olt main_v34 main_v35
  let main_c_13 : IVec S_ 1 := constantI S_ 1 1#1
  let main_v37 : IVec S_ 1 := (fun x v => Host.reduce IntOp.andi x v reducesTo_S4096x8x64_S_d0_1_2 h_S_) main_v36 main_c_13
  let main_v38 : IVec S_ 1 := andi main_v33 main_v37
  let main_v39 : FVec F S4096x8x128 .f32 := Host.absf main_arg10
  let main_cst_14 : FVec F S_ .f32 := constant S_ .f32 0x7F800000#32
  let main_v40 : FVec F S4096x8x128 .f32 := broadcastInDim S4096x8x128 ![] bcast_S_S4096x8x128 main_cst_14
  let main_v41 : IVec S4096x8x128 1 := cmpf .olt main_v39 main_v40
  let main_c_15 : IVec S_ 1 := constantI S_ 1 1#1
  let main_v42 : IVec S_ 1 := (fun x v => Host.reduce IntOp.andi x v reducesTo_S4096x8x128_S_d0_1_2 h_S_) main_v41 main_c_15
  let main_v43 : IVec S_ 1 := andi main_v38 main_v42
  let main_v44 : FVec F S4096x8x64 .f32 := Host.absf main_arg11
  let main_cst_16 : FVec F S_ .f32 := constant S_ .f32 0x7F800000#32
  let main_v45 : FVec F S4096x8x64 .f32 := broadcastInDim S4096x8x64 ![] bcast_S_S4096x8x64 main_cst_16
  let main_v46 : IVec S4096x8x64 1 := cmpf .olt main_v44 main_v45
  let main_c_17 : IVec S_ 1 := constantI S_ 1 1#1
  let main_v47 : IVec S_ 1 := (fun x v => Host.reduce IntOp.andi x v reducesTo_S4096x8x64_S_d0_1_2 h_S_) main_v46 main_c_17
  let main_v48 : IVec S_ 1 := andi main_v43 main_v47
  let main_v49 : FVec F S4096x8x128 .f32 := Host.absf main_arg12
  let main_cst_18 : FVec F S_ .f32 := constant S_ .f32 0x7F800000#32
  let main_v50 : FVec F S4096x8x128 .f32 := broadcastInDim S4096x8x128 ![] bcast_S_S4096x8x128 main_cst_18
  fn_part3 (F := F) main_v48 main_v49 main_v50

def fn_part1 {F : FTy → Type} [FloatOps F] (main_arg6 : FVec F S256 .f32) (main_arg7 : FVec F S256x2048 .f32) (main_arg8 : FVec F S4096x8x128 .f32) (main_arg9 : FVec F S4096x8x64 .f32) (main_arg10 : FVec F S4096x8x128 .f32) (main_arg11 : FVec F S4096x8x64 .f32) (main_arg12 : FVec F S4096x8x128 .f32) (main_v13 : IVec S_ 1) (main_v16 : IVec S256x1536 1) : IVec S_ 1 :=
  let main_c_5 : IVec S_ 1 := constantI S_ 1 1#1
  let main_v17 : IVec S_ 1 := (fun x v => Host.reduce IntOp.andi x v reducesTo_S256x1536_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2048 .f32 := Host.absf main_arg7
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S4096x8x128 .f32 := Host.absf main_arg8
  let main_cst_10 : FVec F S_ .f32 := constant S_ .f32 0x7F800000#32
  let main_v30 : FVec F S4096x8x128 .f32 := broadcastInDim S4096x8x128 ![] bcast_S_S4096x8x128 main_cst_10
  let main_v31 : IVec S4096x8x128 1 := cmpf .olt main_v29 main_v30
  let main_c_11 : IVec S_ 1 := constantI S_ 1 1#1
  let main_v32 : IVec S_ 1 := (fun x v => Host.reduce IntOp.andi x v reducesTo_S4096x8x128_S_d0_1_2 h_S_) main_v31 main_c_11
  let main_v33 : IVec S_ 1 := andi main_v28 main_v32
  fn_part2 (F := F) main_arg9 main_arg10 main_arg11 main_arg12 main_v33

def fn {F : FTy → Type} [FloatOps F] (main_arg0 : IVec S4096 32) (main_arg1 : FVec F S4096x256 .f32) (main_arg2 : FVec F S4096x256 .f32) (main_arg3 : FVec F S4096x64 .f32) (main_arg4 : FVec F S256 .f32) (main_arg5 : FVec F S256x1536 .f32) (main_arg6 : FVec F S256 .f32) (main_arg7 : FVec F S256x2048 .f32) (main_arg8 : FVec F S4096x8x128 .f32) (main_arg9 : FVec F S4096x8x64 .f32) (main_arg10 : FVec F S4096x8x128 .f32) (main_arg11 : FVec F S4096x8x64 .f32) (main_arg12 : FVec F S4096x8x128 .f32) : IVec S_ 1 :=
  let main_v0 : FVec F S4096x256 .f32 := Host.absf main_arg1
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg2
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1536 .f32 := Host.absf main_arg5
  let main_cst_4 : FVec F S_ .f32 := constant S_ .f32 0x7F800000#32
  let main_v15 : FVec F S256x1536 .f32 := broadcastInDim S256x1536 ![] bcast_S_S256x1536 main_cst_4
  let main_v16 : IVec S256x1536 1 := cmpf .olt main_v14 main_v15
  fn_part1 (F := F) main_arg6 main_arg7 main_arg8 main_arg9 main_arg10 main_arg11 main_arg12 main_v13 main_v16
-- ==== InputBwd.lean ====
abbrev S4096x1024 : Shape := ⟨2, ![4096, 1024]⟩
abbrev S1024 : Shape := ⟨1, ![1024]⟩
abbrev S1024x6720 : Shape := ⟨2, ![1024, 6720]⟩
abbrev S4096x6720 : Shape := ⟨2, ![4096, 6720]⟩
abbrev S1024x3072 : Shape := ⟨2, ![1024, 3072]⟩
abbrev S1024x576 : Shape := ⟨2, ![1024, 576]⟩
abbrev S4096x3072 : Shape := ⟨2, ![4096, 3072]⟩
abbrev S4096x576 : Shape := ⟨2, ![4096, 576]⟩
abbrev S_ : Shape := ⟨0, ![]⟩
abbrev S1024x640 : Shape := ⟨2, ![1024, 640]⟩
abbrev S4096x640 : Shape := ⟨2, ![4096, 640]⟩
abbrev S1x1024 : Shape := ⟨2, ![1, 1024]⟩
abbrev S8x1024 : Shape := ⟨2, ![8, 1024]⟩
abbrev S512x3072 : Shape := ⟨2, ![512, 3072]⟩
abbrev S512x640 : Shape := ⟨2, ![512, 640]⟩
abbrev S512x1024 : Shape := ⟨2, ![512, 1024]⟩
abbrev S512 : Shape := ⟨1, ![512]⟩
abbrev S512x1 : Shape := ⟨2, ![512, 1]⟩

abbrev nBuf : Space → Nat
  | .hbm => 28
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x6720, .f32⟩
  | .hbm, ⟨4, _⟩ => ⟨S4096x6720, .f32⟩
  | .hbm, ⟨5, _⟩ => ⟨S4096x1024, .f32⟩
  | .hbm, ⟨6, _⟩ => ⟨S1024x3072, .f32⟩
  | .hbm, ⟨7, _⟩ => ⟨S1024x576, .f32⟩
  | .hbm, ⟨8, _⟩ => ⟨S1024x3072, .f32⟩
  | .hbm, ⟨9, _⟩ => ⟨S4096x3072, .f32⟩
  | .hbm, ⟨10, _⟩ => ⟨S4096x576, .f32⟩
  | .hbm, ⟨11, _⟩ => ⟨S4096x3072, .f32⟩
  | .hbm, ⟨12, _⟩ => ⟨S_, .i32⟩
  | .hbm, ⟨13, _⟩ => ⟨S_, .f32⟩
  | .hbm, ⟨14, _⟩ => ⟨S1024x640, .f32⟩
  | .hbm, ⟨15, _⟩ => ⟨S_, .i32⟩
  | .hbm, ⟨16, _⟩ => ⟨S_, .f32⟩
  | .hbm, ⟨17, _⟩ => ⟨S4096x640, .f32⟩
  | .hbm, ⟨18, _⟩ => ⟨S4096x3072, .bf16⟩
  | .hbm, ⟨19, _⟩ => ⟨S4096x640, .bf16⟩
  | .hbm, ⟨20, _⟩ => ⟨S4096x3072, .bf16⟩
  | .hbm, ⟨21, _⟩ => ⟨S1024x3072, .bf16⟩
  | .hbm, ⟨22, _⟩ => ⟨S1024x640, .bf16⟩
  | .hbm, ⟨23, _⟩ => ⟨S1024x3072, .bf16⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x640, .bf16⟩
  | .local _ .vmem, ⟨3, _⟩ => ⟨S512x640, .bf16⟩
  | .local _ .vmem, ⟨4, _⟩ => ⟨S512x3072, .bf16⟩
  | .local _ .vmem, ⟨5, _⟩ => ⟨S512x3072, .bf16⟩
  | .local _ .vmem, ⟨6, _⟩ => ⟨S1024x3072, .bf16⟩
  | .local _ .vmem, ⟨7, _⟩ => ⟨S1024x640, .bf16⟩
  | .local _ .vmem, ⟨8, _⟩ => ⟨S1024x3072, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InputRefIdeal.lean ====
abbrev S4096x1024 : Shape := ⟨2, ![4096, 1024]⟩
abbrev S1024 : Shape := ⟨1, ![1024]⟩
abbrev S1024x6720 : Shape := ⟨2, ![1024, 6720]⟩
abbrev S4096x6720 : Shape := ⟨2, ![4096, 6720]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x6720, .f32⟩
  | .hbm, ⟨4, _⟩ => ⟨S4096x6720, .f32⟩
  | .hbm, ⟨5, _⟩ => ⟨S4096x1024, .f32⟩
  | .hbm, ⟨6, _⟩ => ⟨S_, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x6720, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S3x1024, .f32⟩
  | .hbm, ⟨82, _⟩ => ⟨S_, .f32⟩
  | .hbm, ⟨83, _⟩ => ⟨S5x1024, .f32⟩
  | .hbm, ⟨84, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== AttnBwd.lean ====
abbrev S4096x8x128 : Shape := ⟨3, ![4096, 8, 128]⟩
abbrev S4096x8x64 : Shape := ⟨3, ![4096, 8, 64]⟩
abbrev S4096x64 : Shape := ⟨2, ![4096, 64]⟩
abbrev S36 : Shape := ⟨1, ![36]⟩
abbrev S_ : Shape := ⟨0, ![]⟩
abbrev S8x4096x64 : Shape := ⟨3, ![8, 4096, 64]⟩
abbrev S8x4096x128 : Shape := ⟨3, ![8, 4096, 128]⟩
abbrev S8x4096x256 : Shape := ⟨3, ![8, 4096, 256]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S4096x1024 : Shape := ⟨2, ![4096, 1024]⟩
abbrev S2x512x256 : Shape := ⟨3, ![2, 512, 256]⟩
abbrev S1 : Shape := ⟨1, ![1]⟩
abbrev S512x256 : Shape := ⟨2, ![512, 256]⟩
abbrev S2x512x1 : Shape := ⟨3, ![2, 512, 1]⟩
abbrev S2x4096x256 : Shape := ⟨3, ![2, 4096, 256]⟩
abbrev S2x512x128 : Shape := ⟨3, ![2, 512, 128]⟩
abbrev S2x512x512 : Shape := ⟨3, ![2, 512, 512]⟩
abbrev S1x512x256 : Shape := ⟨3, ![1, 512, 256]⟩
abbrev S512x512 : Shape := ⟨2, ![512, 512]⟩
abbrev S1x512x512 : Shape := ⟨3, ![1, 512, 512]⟩
abbrev S512x128 : Shape := ⟨2, ![512, 128]⟩
abbrev S1x512x128 : Shape := ⟨3, ![1, 512, 128]⟩
abbrev S1x64x512 : Shape := ⟨3, ![1, 64, 512]⟩
abbrev S64x512 : Shape := ⟨2, ![64, 512]⟩
abbrev S1x64x1 : Shape := ⟨3, ![1, 64, 1]⟩
abbrev S64x1 : Shape := ⟨2, ![64, 1]⟩
abbrev S1x64x128 : Shape := ⟨3, ![1, 64, 128]⟩
abbrev S64x128 : Shape := ⟨2, ![64, 128]⟩
abbrev S64x384 : Shape := ⟨2, ![64, 384]⟩
abbrev S1x64x384 : Shape := ⟨3, ![1, 64, 384]⟩
abbrev S1x64x256 : Shape := ⟨3, ![1, 64, 256]⟩
abbrev S64x256 : Shape := ⟨2, ![64, 256]⟩

abbrev nBuf : Space → Nat
  | .hbm => 59
  | .vmem => 24
  | .smem => 2
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S8x4096x64, .f32⟩
  | .hbm, ⟨8, _⟩ => ⟨S8x4096x64, .f32⟩
  | .hbm, ⟨9, _⟩ => ⟨S8x4096x128, .f32⟩
  | .hbm, ⟨10, _⟩ => ⟨S8x4096x64, .f32⟩
  | .hbm, ⟨11, _⟩ => ⟨S8x4096x256, .f32⟩
  | .hbm, ⟨12, _⟩ => ⟨S8x4096x256, .bf16⟩
  | .hbm, ⟨13, _⟩ => ⟨S8x4096x128, .f32⟩
  | .hbm, ⟨14, _⟩ => ⟨S8x4096x256, .f32⟩
  | .hbm, ⟨15, _⟩ => ⟨S8x4096x256, .bf16⟩
  | .hbm, ⟨16, _⟩ => ⟨S8x4096x128, .f32⟩
  | .hbm, ⟨17, _⟩ => ⟨S_, .f32⟩
  | .hbm, ⟨18, _⟩ => ⟨S8x4096x128, .f32⟩
  | .hbm, ⟨19, _⟩ => ⟨S8x4096x256, .f32⟩
  | .hbm, ⟨20, _⟩ => ⟨S8x4096x256, .bf16⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .i32⟩
  | .hbm, ⟨29, _⟩ => ⟨S8x4096x4096, .i32⟩
  | .hbm, ⟨30, _⟩ => ⟨S8x4096x4096, .i1⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x128x4096, .f32⟩
  | .hbm, ⟨46, _⟩ => ⟨S4096x8x128, .f32⟩
  | .hbm, ⟨47, _⟩ => ⟨S4096x8x128, .f32⟩
  | .hbm, ⟨48, _⟩ => ⟨S_, .f32⟩
  | .hbm, ⟨49, _⟩ => ⟨S4096x8, .f32⟩
  | .hbm, ⟨50, _⟩ => ⟨S8x4096, .f32⟩
  | .hbm, ⟨51, _⟩ => ⟨S8x4096x1, .f32⟩
  | .hbm, ⟨52, _⟩ => ⟨S4096x1024, .f32⟩
  | .hbm, ⟨53, _⟩ => ⟨S4096x1024, .bf16⟩
  | .hbm, ⟨54, _⟩ => ⟨S8x4096x1, .f32⟩
  | .hbm, ⟨55, _⟩ => ⟨S8x4096x1, .f32⟩
  | .hbm, ⟨56, _⟩ => ⟨S8x4096x256, .f32⟩
  | .hbm, ⟨57, _⟩ => ⟨S8x4096x256, .f32⟩
  | .hbm, ⟨58, _⟩ => ⟨S8x4096x128, .f32⟩
  | .local _ .vmem, ⟨0, _⟩ => ⟨S2x512x256, .bf16⟩
  | .local _ .vmem, ⟨1, _⟩ => ⟨S2x512x256, .bf16⟩
  | .local _ .vmem, ⟨2, _⟩ => ⟨S2x512x256, .bf16⟩
  | .local _ .vmem, ⟨3, _⟩ => ⟨S2x512x256, .bf16⟩
  | .local _ .vmem, ⟨4, _⟩ => ⟨S2x512x256, .bf16⟩
  | .local _ .vmem, ⟨5, _⟩ => ⟨S2x512x256, .bf16⟩
  | .local _ .vmem, ⟨6, _⟩ => ⟨S512x256, .bf16⟩
  | .local _ .vmem, ⟨7, _⟩ => ⟨S512x256, .bf16⟩
  | .local _ .vmem, ⟨8, _⟩ => ⟨S2x512x1, .f32⟩
  | .local _ .vmem, ⟨9, _⟩ => ⟨S2x512x1, .f32⟩
  | .local _ .vmem, ⟨10, _⟩ => ⟨S2x512x1, .f32⟩
  | .local _ .vmem, ⟨11, _⟩ => ⟨S2x512x1, .f32⟩
  | .local _ .vmem, ⟨12, _⟩ => ⟨S2x4096x256, .f32⟩
  | .local _ .vmem, ⟨13, _⟩ => ⟨S2x4096x256, .f32⟩
  | .local _ .vmem, ⟨14, _⟩ => ⟨S2x512x256, .f32⟩
  | .local _ .vmem, ⟨15, _⟩ => ⟨S2x512x256, .f32⟩
  | .local _ .vmem, ⟨16, _⟩ => ⟨S2x512x128, .f32⟩
  | .local _ .vmem, ⟨17, _⟩ => ⟨S2x512x128, .f32⟩
  | .local _ .vmem, ⟨18, _⟩ => ⟨S2x512x256, .f32⟩
  | .local _ .vmem, ⟨19, _⟩ => ⟨S2x512x128, .f32⟩
  | .local _ .vmem, ⟨20, _⟩ => ⟨S2x512x512, .f32⟩
  | .local _ .vmem, ⟨21, _⟩ => ⟨S2x512x512, .f32⟩
  | .local _ .vmem, ⟨22, _⟩ => ⟨S2x512x512, .bf16⟩
  | .local _ .vmem, ⟨23, _⟩ => ⟨S2x512x512, .bf16⟩
  | .local _ .smem, ⟨0, _⟩ => ⟨S36, .i32⟩
  | .local _ .smem, ⟨1, _⟩ => ⟨S36, .i32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v467 : BitVec 32 := Scalar.muli v1 c512_i32
  v467
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 3 → Nat :=
  let c0_378 : Index := 0#32
  let c512_i32 : BitVec 32 := 512#32
  let v467 : BitVec 32 := Scalar.muli v1 c512_i32
  let v468 : BitVec 32 := v467
  let v491 : Index := Scalar.indexCast v468
  let c0_379 : Index := 0#32
  ![0, v491.toNat, 0]
def k0_off3 (v1 : BitVec 32) : Fin 3 → Nat :=
  let c1_414 : Index := 1#32
  let c512_i32 : BitVec 32 := 512#32
  let v467 : BitVec 32 := Scalar.muli v1 c512_i32
  let v468 : BitVec 32 := v467
  let v526 : Index := Scalar.indexCast v468
  let c0_415 : Index := 0#32
  ![1, v526.toNat, 0]
def k0_mult2 (v1 : BitVec 32) : BitVec 32 :=
  let c512_i32 : BitVec 32 := 512#32
  let v675 : BitVec 32 := Scalar.muli v1 c512_i32
  v675
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off4 (v1 : BitVec 32) : Fin 3 → Nat :=
  let c0_499 : Index := 0#32
  let c512_i32 : BitVec 32 := 512#32
  let v675 : BitVec 32 := Scalar.muli v1 c512_i32
  let v676 : BitVec 32 := v675
  let v699 : Index := Scalar.indexCast v676
  let c0_500 : Index := 0#32
  ![0, v699.toNat, 0]
def k0_off5 (v1 : BitVec 32) : Fin 3 → Nat :=
  let c1_535 : Index := 1#32
  let c512_i32 : BitVec 32 := 512#32
  let v675 : BitVec 32 := Scalar.muli v1 c512_i32
  let v676 : BitVec 32 := v675
  let v734 : Index := Scalar.indexCast v676
  let c0_536 : Index := 0#32
  ![1, v734.toNat, 0]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S1x512x256.size a ≤ S2x4096x256.size a) ∧
  (∀ (k0_h3 : k0_cond3 v1 v3 = 1#1), ∀ a, (k0_off3 v1) a + S1x512x256.size a ≤ S2x4096x256.size a) ∧
  (∀ (k0_h4 : k0_cond4 v1 v3 = 1#1), 512 ∣ (k0_mult2 v1).toNat) ∧
  (∀ (k0_h4 : k0_cond4 v1 v3 = 1#1), ∀ a, (k0_off4 v1) a + S1x512x256.size a ≤ S2x4096x256.size a) ∧
  (∀ (k0_h4 : k0_cond4 v1 v3 = 1#1), ∀ a, (k0_off5 v1) a + S1x512x256.size a ≤ S2x4096x256.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1x512x256.size a ≤ S2x4096x256.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S1x512x256.size a ≤ S2x4096x256.size a := fun v1 v3 k0_hw1 k0_h3 => k0_hw1.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.2.1 k0_h4
theorem k0_off4_inb : ∀ (v1 : BitVec 32) (v3 : BitVec 32) (k0_hw1 : k0_chk1 v1 v3), ∀ (k0_h4 : k0_cond4 v1 v3 = 1#1), ∀ a, (k0_off4 v1) a + S1x512x256.size a ≤ S2x4096x256.size a := fun v1 v3 k0_hw1 k0_h4 => k0_hw1.2.2.2.2.1 k0_h4
theorem k0_off5_inb : ∀ (v1 : BitVec 32) (v3 : BitVec 32) (k0_hw1 : k0_chk1 v1 v3), ∀ (k0_h4 : k0_cond4 v1 v3 = 1#1), ∀ a, (k0_off5 v1) a + S1x512x256.size a ≤ S2x4096x256.size a := fun v1 v3 k0_hw1 k0_h4 => k0_hw1.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdIdeal.lean ====
variable {F : FTy → Type} [FloatOps F] [Named F]
def κ : String → Option EReal := fun
  | "log2e" => some (((Real.log 2)⁻¹ : ℝ) : EReal)
  | "s_log2e" => some (((Real.sqrt 192)⁻¹ * (Real.log 2)⁻¹ : ℝ) : EReal)
  | _ => none
-- ==== AttnRefIdeal.lean ====
abbrev S4096x8x128 : Shape := ⟨3, ![4096, 8, 128]⟩
abbrev S4096x8x64 : Shape := ⟨3, ![4096, 8, 64]⟩
abbrev S4096x64 : Shape := ⟨2, ![4096, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩
abbrev S8x4096x256 : Shape := ⟨3, ![8, 4096, 256]⟩

abbrev nBuf : Space → Nat
  | .hbm => 98
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x8x128, .f32⟩
  | .hbm, ⟨6, _⟩ => ⟨S8x4096x64, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096x4096, .i32⟩
  | .hbm, ⟨15, _⟩ => ⟨S8x4096x4096, .i32⟩
  | .hbm, ⟨16, _⟩ => ⟨S8x4096x4096, .i1⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x128x4096, .f32⟩
  | .hbm, ⟨61, _⟩ => ⟨S4096x8x128, .f32⟩
  | .hbm, ⟨62, _⟩ => ⟨S8x128x4096, .f32⟩
  | .hbm, ⟨63, _⟩ => ⟨S8x4096x4096, .f32⟩
  | .hbm, ⟨64, _⟩ => ⟨S8x128x4096, .f32⟩
  | .hbm, ⟨65, _⟩ => ⟨S4096x8x128, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x4096x1, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096x4096, .f32⟩
  | .hbm, ⟨82, _⟩ => ⟨S8x4096x4096, .f32⟩
  | .hbm, ⟨83, _⟩ => ⟨S8x4096x64, .f32⟩
  | .hbm, ⟨84, _⟩ => ⟨S8x4096x64, .f32⟩
  | .hbm, ⟨85, _⟩ => ⟨S4096x8x64, .f32⟩
  | .hbm, ⟨86, _⟩ => ⟨S8x4096x128, .f32⟩
  | .hbm, ⟨87, _⟩ => ⟨S4096x8x128, .f32⟩
  | .hbm, ⟨88, _⟩ => ⟨S8x4096x128, .f32⟩
  | .hbm, ⟨89, _⟩ => ⟨S4096x8x128, .f32⟩
  | .hbm, ⟨90, _⟩ => ⟨S_, .f32⟩
  | .hbm, ⟨91, _⟩ => ⟨S8x4096x64, .f32⟩
  | .hbm, ⟨92, _⟩ => ⟨S8x4096x128, .f32⟩
  | .hbm, ⟨93, _⟩ => ⟨S8x4096x64, .f32⟩
  | .hbm, ⟨94, _⟩ => ⟨S8x4096x256, .f32⟩
  | .hbm, ⟨95, _⟩ => ⟨S8x4096x128, .f32⟩
  | .hbm, ⟨96, _⟩ => ⟨S8x4096x256, .f32⟩
  | .hbm, ⟨97, _⟩ => ⟨S8x4096x128, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Middle.lean ====
abbrev S4096x1024 : Shape := ⟨2, ![4096, 1024]⟩
abbrev S1024 : Shape := ⟨1, ![1024]⟩
abbrev S1024x1024 : Shape := ⟨2, ![1024, 1024]⟩
abbrev S4096x3072 : Shape := ⟨2, ![4096, 3072]⟩
abbrev S1x1024 : Shape := ⟨2, ![1, 1024]⟩
abbrev S8x4096x1 : Shape := ⟨3, ![8, 4096, 1]⟩
abbrev S8x1024 : Shape := ⟨2, ![8, 1024]⟩
abbrev S256x1024 : Shape := ⟨2, ![256, 1024]⟩
abbrev S8x256x1 : Shape := ⟨3, ![8, 256, 1]⟩
abbrev S256x3072 : Shape := ⟨2, ![256, 3072]⟩
abbrev S256 : Shape := ⟨1, ![256]⟩
abbrev S256x1 : Shape := ⟨2, ![256, 1]⟩
abbrev S256x128 : Shape := ⟨2, ![256, 128]⟩
abbrev S1x256x1 : Shape := ⟨3, ![1, 256, 1]⟩

abbrev nBuf : Space → Nat
  | .hbm => 30
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4096x1024, .f32⟩
  | .hbm, ⟨12, _⟩ => ⟨S4096x3072, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S8x4096x1, .f32⟩
  | .hbm, ⟨23, _⟩ => ⟨S4096x3072, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x1024, .bf16⟩
  | .hbm, ⟨29, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S8x256x1, .f32⟩
  | .local _ .vmem, ⟨26, _⟩ => ⟨S8x256x1, .f32⟩
  | .local _ .vmem, ⟨27, _⟩ => ⟨S256x3072, .bf16⟩
  | .local _ .vmem, ⟨28, _⟩ => ⟨S256x3072, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev main_v7_7 : Ref sig .tc := ⟨.hbm, 26, rfl⟩
abbrev main_v7_8 : Ref sig .tc := ⟨.hbm, 27, rfl⟩
abbrev main_v7_9 : Ref sig .tc := ⟨.hbm, 28, rfl⟩
abbrev main_v7_10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MiddleRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S4096 : Shape := ⟨1, ![4096]⟩
abbrev S4096x1 : Shape := ⟨2, ![4096, 1]⟩
abbrev S4096x8x128 : Shape := ⟨3, ![4096, 8, 128]⟩
abbrev S4096x8 : Shape := ⟨2, ![4096, 8]⟩
abbrev S8x4096 : Shape := ⟨2, ![8, 4096]⟩
abbrev S8x4096x1 : Shape := ⟨3, ![8, 4096, 1]⟩
abbrev S4096x3072 : Shape := ⟨2, ![4096, 3072]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 196
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S1024, .f32⟩
  | 7 => ⟨S1024, .f32⟩
  | 8 => ⟨S1024x1024, .f32⟩
  | 9 => ⟨S1024x1024, .f32⟩
  | 10 => ⟨S1024x1024, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S4096, .f32⟩
  | 87 => ⟨S_, .f32⟩
  | 88 => ⟨S4096, .f32⟩
  | 89 => ⟨S4096, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S4096, .f32⟩
  | 98 => ⟨S_, .f32⟩
  | 99 => ⟨S4096, .f32⟩
  | 100 => ⟨S4096, .f32⟩
  | 101 => ⟨S4096x1024, .f32⟩
  | 102 => ⟨S4096x1024, .f32⟩
  | 103 => ⟨S4096x1024, .f32⟩
  | 104 => ⟨S_, .f32⟩
  | 105 => ⟨S1024, .f32⟩
  | 106 => ⟨S1x1024, .f32⟩
  | 107 => ⟨S4096x1024, .f32⟩
  | 108 => ⟨S4096x1024, .f32⟩
  | 109 => ⟨S_, .f32⟩
  | 110 => ⟨S1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1024, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S1024, .f32⟩
  | 5 => ⟨S1x1024, .f32⟩
  | 6 => ⟨S_, .f32⟩
  | 7 => ⟨S1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x8x128, .f32⟩
  | 25 => ⟨S_, .f32⟩
  | 26 => ⟨S4096x8, .f32⟩
  | 27 => ⟨S8x4096, .f32⟩
  | 28 => ⟨S8x4096x1, .f32⟩
  | 29 => ⟨S4096x3072, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1, .f32⟩
  | 45 => ⟨S4096x1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S1024, .f32⟩
  | 54 => ⟨S1x1024, .f32⟩
  | 55 => ⟨S1x1024, .f32⟩
  | 56 => ⟨S1x1024, .f32⟩
  | 57 => ⟨S3x1024, .f32⟩
  | 58 => ⟨S_, .f32⟩
  | 59 => ⟨S5x1024, .f32⟩
  | 60 => ⟨S8x1024, .f32⟩
  | 61 => ⟨S4096x1024, .bf16⟩
  | 62 => ⟨S4096x3072, .bf16⟩
  | 63 => ⟨S4096x1024, .bf16⟩
  | 64 => ⟨S4096x1024, .bf16⟩
  | 65 => ⟨S4096x1024, .bf16⟩
  | 66 => ⟨S4096x1024, .bf16⟩
  | 67 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v1_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v1_1 : Ref sig .tc := ⟨.hbm, 24, rfl⟩
abbrev main_v1_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_cst_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_cst_10 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_v53 : Ref sig .tc := ⟨.hbm, 91, rfl⟩
abbrev main_cst_13 : Ref sig .tc := ⟨.hbm, 92, rfl⟩
abbrev main_v54 : Ref sig .tc := ⟨.hbm, 93, rfl⟩
abbrev main_cst_14 : Ref sig .tc := ⟨.hbm, 94, rfl⟩
abbrev main_cst_15 : Ref sig .tc := ⟨.hbm, 95, rfl⟩
abbrev main_v55 : Ref sig .tc := ⟨.hbm, 96, rfl⟩
abbrev main_v56 : Ref sig .tc := ⟨.hbm, 97, rfl⟩
abbrev main_cst_16 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_17 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_18 : Ref sig .tc := ⟨.hbm, 109, rfl⟩
abbrev main_v66 : Ref sig .tc := ⟨.hbm, 110, rfl⟩
abbrev main_v67 : Ref sig .tc := ⟨.hbm, 111, rfl⟩
abbrev main_cst_19 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_20 : Ref sig .tc := ⟨.hbm, 118, rfl⟩
abbrev main_v73 : Ref sig .tc := ⟨.hbm, 119, rfl⟩
abbrev main_v74 : Ref sig .tc := ⟨.hbm, 120, rfl⟩
abbrev main_cst_21 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_22 : Ref sig .tc := ⟨.hbm, 131, rfl⟩
abbrev main_v84 : Ref sig .tc := ⟨.hbm, 132, rfl⟩
abbrev main_v85 : Ref sig .tc := ⟨.hbm, 133, rfl⟩
abbrev main_cst_23 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_24 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_25 : Ref sig .tc := ⟨.hbm, 163, rfl⟩
abbrev main_v110 : Ref sig .tc := ⟨.hbm, 164, rfl⟩
abbrev main_v111 : Ref sig .tc := ⟨.hbm, 165, rfl⟩
abbrev main_cst_26 : Ref sig .tc := ⟨.hbm, 166, rfl⟩
abbrev main_v112 : Ref sig .tc := ⟨.hbm, 167, rfl⟩
abbrev main_v113 : Ref sig .tc := ⟨.hbm, 168, rfl⟩
abbrev main_cst_27 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_28 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_29 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩

abbrev nD : Nat := 1
abbrev τ : Topo := Topo.v7x

variable {F : FTy → Type} [FloatOps F]
-- ==== AdaBwd.lean ====
abbrev S8x1024 : Shape := ⟨2, ![8, 1024]⟩
abbrev S1024x768 : Shape := ⟨2, ![1024, 768]⟩
abbrev S8x768 : Shape := ⟨2, ![8, 768]⟩
abbrev S1024x8 : Shape := ⟨2, ![1024, 8]⟩

abbrev nBuf : Space → Nat
  | .hbm => 5
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .hbm, ⟨3, _⟩ => ⟨S1024x8, .f32⟩
  | .hbm, ⟨4, _⟩ => ⟨S1024x768, .f32⟩
  | .local _ .vmem, ⟨0, _⟩ => ⟨S1024x8, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaRefIdeal.lean ====
abbrev S8x1024 : Shape := ⟨2, ![8, 1024]⟩
abbrev S1024x768 : Shape := ⟨2, ![1024, 768]⟩
abbrev S8x768 : Shape := ⟨2, ![8, 768]⟩
abbrev S_ : Shape := ⟨0, ![]⟩
abbrev S768x1024 : Shape := ⟨2, ![768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S768x1024, .f32⟩
  | .hbm, ⟨14, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== ConvBwd.lean ====
abbrev S4096x1024 : Shape := ⟨2, ![4096, 1024]⟩
abbrev S31x1024 : Shape := ⟨2, ![31, 1024]⟩
abbrev S1024 : Shape := ⟨1, ![1024]⟩
abbrev S4096x3072 : Shape := ⟨2, ![4096, 3072]⟩
abbrev S_ : Shape := ⟨0, ![]⟩
abbrev S30x1024 : Shape := ⟨2, ![30, 1024]⟩
abbrev S4126x1024 : Shape := ⟨2, ![4126, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S31x1x1024 : Shape := ⟨3, ![31, 1, 1024]⟩
abbrev S1x1024 : Shape := ⟨2, ![1, 1024]⟩
abbrev S32x1024 : Shape := ⟨2, ![32, 1024]⟩
abbrev S8x1024 : Shape := ⟨2, ![8, 1024]⟩
abbrev S256x1024 : Shape := ⟨2, ![256, 1024]⟩
abbrev S256x3072 : Shape := ⟨2, ![256, 3072]⟩
abbrev S288x1024 : Shape := ⟨2, ![288, 1024]⟩
abbrev S7x288x1024 : Shape := ⟨3, ![7, 288, 1024]⟩
abbrev S256 : Shape := ⟨1, ![256]⟩
abbrev S256x1 : Shape := ⟨2, ![256, 1]⟩
abbrev S280x1024 : Shape := ⟨2, ![280, 1024]⟩
abbrev S1x280x1024 : Shape := ⟨3, ![1, 280, 1024]⟩
abbrev S1x32x1024 : Shape := ⟨3, ![1, 32, 1024]⟩
abbrev S4x8x1024 : Shape := ⟨3, ![4, 8, 1024]⟩

abbrev nBuf : Space → Nat
  | .hbm => 102
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096x3072, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S30x1024, .f32⟩
  | .hbm, ⟨20, _⟩ => ⟨S4126x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S16x4096x1024, .f32⟩
  | .hbm, ⟨84, _⟩ => ⟨S15x4096x1024, .f32⟩
  | .hbm, ⟨85, _⟩ => ⟨S31x4096x1024, .f32⟩
  | .hbm, ⟨86, _⟩ => ⟨S31x1x1024, .f32⟩
  | .hbm, ⟨87, _⟩ => ⟨S31x4096x1024, .f32⟩
  | .hbm, ⟨88, _⟩ => ⟨S31x4096x1024, .f32⟩
  | .hbm, ⟨89, _⟩ => ⟨S_, .f32⟩
  | .hbm, ⟨90, _⟩ => ⟨S4096x1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S_, .i32⟩
  | .hbm, ⟨95, _⟩ => ⟨S_, .f32⟩
  | .hbm, ⟨96, _⟩ => ⟨S32x1024, .f32⟩
  | .hbm, ⟨97, _⟩ => ⟨S1x1024, .f32⟩
  | .hbm, ⟨98, _⟩ => ⟨S1x1024, .f32⟩
  | .hbm, ⟨99, _⟩ => ⟨S4096x3072, .bf16⟩
  | .hbm, ⟨100, _⟩ => ⟨S32x1024, .f32⟩
  | .hbm, ⟨101, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S32x1024, .f32⟩
  | .local _ .vmem, ⟨11, _⟩ => ⟨S32x1024, .f32⟩
  | .local _ .vmem, ⟨12, _⟩ => ⟨S256x1024, .f32⟩
  | .local _ .vmem, ⟨13, _⟩ => ⟨S256x1024, .f32⟩
  | .local _ .vmem, ⟨14, _⟩ => ⟨S32x1024, .f32⟩
  | .local _ .vmem, ⟨15, _⟩ => ⟨S1x1024, .f32⟩
  | .local _ .vmem, ⟨16, _⟩ => ⟨S1x1024, .f32⟩
  | .local _ .vmem, ⟨17, _⟩ => ⟨S256x3072, .bf16⟩
  | .local _ .vmem, ⟨18, _⟩ => ⟨S256x3072, .bf16⟩
  | .local _ .vmem, ⟨19, _⟩ => ⟨S32x1024, .f32⟩
  | .local _ .vmem, ⟨20, _⟩ => ⟨S8x1024, .f32⟩
  | .local _ .vmem, ⟨21, _⟩ => ⟨S288x1024, .f32⟩
  | .local _ .vmem, ⟨22, _⟩ => ⟨S288x1024, .f32⟩
  | .local _ .vmem, ⟨23, _⟩ => ⟨S256x1024, .f32⟩
  | .local _ .vmem, ⟨24, _⟩ => ⟨S256x1024, .f32⟩
  | .local _ .vmem, ⟨25, _⟩ => ⟨S7x288x1024, .f32⟩
  | .local _ .vmem, ⟨26, _⟩ => ⟨S7x288x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_cst_2 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_c : Ref sig .tc := ⟨.hbm, 94, rfl⟩
abbrev main_call0_v0 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85_0 : Ref sig .tc := ⟨.hbm, 99, rfl⟩
abbrev main_v85_1 : Ref sig .tc := ⟨.hbm, 100, rfl⟩
abbrev main_v85_2 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_3269 : BitVec 32 := 15#32
  let v4362 : BitVec 1 := Scalar.cmpi .eq arg0 c15_i32_3269
  let v4363 : BitVec 32 := Scalar.extui v4362
  let c0_i32_3270 : BitVec 32 := 0#32
  let v4364 : BitVec 1 := Scalar.cmpi .ne v4363 c0_i32_3270
  v4364

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRefIdeal.lean ====
abbrev S4096x1024 : Shape := ⟨2, ![4096, 1024]⟩
abbrev S31x1024 : Shape := ⟨2, ![31, 1024]⟩
abbrev S1024 : Shape := ⟨1, ![1024]⟩
abbrev S_ : Shape := ⟨0, ![]⟩
abbrev S30x1024 : Shape := ⟨2, ![30, 1024]⟩
abbrev S4126x1024 : Shape := ⟨2, ![4126, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S31x1x1024 : Shape := ⟨3, ![31, 1, 1024]⟩
abbrev S1x1024 : Shape := ⟨2, ![1, 1024]⟩
abbrev S4096 : Shape := ⟨1, ![4096]⟩
abbrev S4096x1 : Shape := ⟨2, ![4096, 1]⟩
abbrev S4096x3072 : Shape := ⟨2, ![4096, 3072]⟩
abbrev S32x1024 : Shape := ⟨2, ![32, 1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 393
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S31x1024, .f32⟩
  | 4 => ⟨S1024, .f32⟩
  | 5 => ⟨S1024, .f32⟩
  | 6 => ⟨S1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S30x1024, .f32⟩
  | 23 => ⟨S4126x1024, .f32⟩
  | 24 => ⟨S_, .f32⟩
  | 25 => ⟨S30x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S1x4096x1024, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S16x4096x1024, .f32⟩
  | 89 => ⟨S15x4096x1024, .f32⟩
  | 90 => ⟨S31x4096x1024, .f32⟩
  | 91 => ⟨S31x1x1024, .f32⟩
  | 92 => ⟨S31x4096x1024, .f32⟩
  | 93 => ⟨S31x4096x1024, .f32⟩
  | 94 => ⟨S_, .f32⟩
  | 95 => ⟨S4096x1024, .f32⟩
  | 96 => ⟨S1x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S4096x1024, .f32⟩
  | 106 => ⟨S4096x1024, .f32⟩
  | 107 => ⟨S4096x1024, .f32⟩
  | 108 => ⟨S_, .f32⟩
  | 109 => ⟨S4096, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096x1, .f32⟩
  | 116 => ⟨S4096x1, .f32⟩
  | 117 => ⟨S4096x1, .f32⟩
  | 118 => ⟨S4096x1, .f32⟩
  | 119 => ⟨S_, .f32⟩
  | 120 => ⟨S4096x1, .f32⟩
  | 121 => ⟨S4096x1, .f32⟩
  | 122 => ⟨S4096x1024, .f32⟩
  | 123 => ⟨S4096x1024, .f32⟩
  | 124 => ⟨S1x1024, .f32⟩
  | 125 => ⟨S4096x1024, .f32⟩
  | 126 => ⟨S4096x1024, .f32⟩
  | 127 => ⟨S1x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S_, .f32⟩
  | 5 => ⟨S4096x1024, .f32⟩
  | 6 => ⟨S4096x1024, .f32⟩
  | 7 => ⟨S_, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S_, .f32⟩
  | 40 => ⟨S1024, .f32⟩
  | 41 => ⟨S1x1024, .f32⟩
  | 42 => ⟨S_, .f32⟩
  | 43 => ⟨S1024, .f32⟩
  | 44 => ⟨S4096x1024, .f32⟩
  | 45 => ⟨S_, .f32⟩
  | 46 => ⟨S1024, .f32⟩
  | 47 => ⟨S1x1024, .f32⟩
  | 48 => ⟨S4096x1024, .f32⟩
  | 49 => ⟨S4096x1024, .f32⟩
  | 50 => ⟨S_, .f32⟩
  | 51 => ⟨S1024, .f32⟩
  | 52 => ⟨S4096x1024, .f32⟩
  | 53 => ⟨S_, .f32⟩
  | 54 => ⟨S4096, .f32⟩
  | 55 => ⟨S4096x1, .f32⟩
  | 56 => ⟨S4096x1024, .f32⟩
  | 57 => ⟨S4096x1024, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096, .f32⟩
  | 78 => ⟨S4096x1024, .f32⟩
  | 79 => ⟨S4096x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S31x4096x1024, .f32⟩
  | 86 => ⟨S31x4096x1024, .f32⟩
  | 87 => ⟨S_, .f32⟩
  | 88 => ⟨S31x1024, .f32⟩
  | 89 => ⟨S31x1x1024, .f32⟩
  | 90 => ⟨S31x4096x1024, .f32⟩
  | 91 => ⟨S31x4096x1024, .f32⟩
  | 92 => ⟨S_, .f32⟩
  | 93 => ⟨S31x1024, .f32⟩
  | 94 => ⟨S1x4096x1024, .f32⟩
  | 95 => ⟨S4096x1024, .f32⟩
  | 96 => ⟨S1x4096x1024, .f32⟩
  | 97 => ⟨S4096x1024, .f32⟩
  | 98 => ⟨S1x4096x1024, .f32⟩
  | 99 => ⟨S4096x1024, .f32⟩
  | 100 => ⟨S1x4096x1024, .f32⟩
  | 101 => ⟨S4096x1024, .f32⟩
  | 102 => ⟨S1x4096x1024, .f32⟩
  | 103 => ⟨S4096x1024, .f32⟩
  | 104 => ⟨S1x4096x1024, .f32⟩
  | 105 => ⟨S4096x1024, .f32⟩
  | 106 => ⟨S1x4096x1024, .f32⟩
  | 107 => ⟨S4096x1024, .f32⟩
  | 108 => ⟨S1x4096x1024, .f32⟩
  | 109 => ⟨S4096x1024, .f32⟩
  | 110 => ⟨S1x4096x1024, .f32⟩
  | 111 => ⟨S4096x1024, .f32⟩
  | 112 => ⟨S1x4096x1024, .f32⟩
  | 113 => ⟨S4096x1024, .f32⟩
  | 114 => ⟨S1x4096x1024, .f32⟩
  | 115 => ⟨S4096x1024, .f32⟩
  | 116 => ⟨S1x4096x1024, .f32⟩
  | 117 => ⟨S4096x1024, .f32⟩
  | 118 => ⟨S1x4096x1024, .f32⟩
  | 119 => ⟨S4096x1024, .f32⟩
  | 120 => ⟨S1x4096x1024, .f32⟩
  | 121 => ⟨S4096x1024, .f32⟩
  | 122 => ⟨S1x4096x1024, .f32⟩
  | 123 => ⟨S4096x1024, .f32⟩
  | 124 => ⟨S1x4096x1024, .f32⟩
  | 125 => ⟨S4096x1024, .f32⟩
  | 126 => ⟨S1x4096x1024, .f32⟩
  | 127 => ⟨S4096x1024, .f32⟩
  | _ => ⟨S4096x1024, .f32⟩

abbrev hbmTy0_2 (i : Nat) : BufTy := match i % 128 with
  | 0 => ⟨S1x4096x1024, .f32⟩
  | 1 => ⟨S4096x1024, .f32⟩
  | 2 => ⟨S1x4096x1024, .f32⟩
  | 3 => ⟨S4096x1024, .f32⟩
  | 4 => ⟨S1x4096x1024, .f32⟩
  | 5 => ⟨S4096x1024, .f32⟩
  | 6 => ⟨S1x4096x1024, .f32⟩
  | 7 => ⟨S4096x1024, .f32⟩
  | 8 => ⟨S1x4096x1024, .f32⟩
  | 9 => ⟨S4096x1024, .f32⟩
  | 10 => ⟨S1x4096x1024, .f32⟩
  | 11 => ⟨S4096x1024, .f32⟩
  | 12 => ⟨S1x4096x1024, .f32⟩
  | 13 => ⟨S4096x1024, .f32⟩
  | 14 => ⟨S1x4096x1024, .f32⟩
  | 15 => ⟨S4096x1024, .f32⟩
  | 16 => ⟨S1x4096x1024, .f32⟩
  | 17 => ⟨S4096x1024, .f32⟩
  | 18 => ⟨S1x4096x1024, .f32⟩
  | 19 => ⟨S4096x1024, .f32⟩
  | 20 => ⟨S1x4096x1024, .f32⟩
  | 21 => ⟨S4096x1024, .f32⟩
  | 22 => ⟨S1x4096x1024, .f32⟩
  | 23 => ⟨S4096x1024, .f32⟩
  | 24 => ⟨S1x4096x1024, .f32⟩
  | 25 => ⟨S4096x1024, .f32⟩
  | 26 => ⟨S1x4096x1024, .f32⟩
  | 27 => ⟨S4096x1024, .f32⟩
  | 28 => ⟨S_, .f32⟩
  | 29 => ⟨S4126x1024, .f32⟩
  | 30 => ⟨S_, .f32⟩
  | 31 => ⟨S4126x1024, .f32⟩
  | 32 => ⟨S4126x1024, .f32⟩
  | 33 => ⟨S_, .f32⟩
  | 34 => ⟨S4126x1024, .f32⟩
  | 35 => ⟨S4126x1024, .f32⟩
  | 36 => ⟨S_, .f32⟩
  | 37 => ⟨S4126x1024, .f32⟩
  | 38 => ⟨S4126x1024, .f32⟩
  | 39 => ⟨S_, .f32⟩
  | 40 => ⟨S4126x1024, .f32⟩
  | 41 => ⟨S4126x1024, .f32⟩
  | 42 => ⟨S_, .f32⟩
  | 43 => ⟨S4126x1024, .f32⟩
  | 44 => ⟨S4126x1024, .f32⟩
  | 45 => ⟨S_, .f32⟩
  | 46 => ⟨S4126x1024, .f32⟩
  | 47 => ⟨S4126x1024, .f32⟩
  | 48 => ⟨S_, .f32⟩
  | 49 => ⟨S4126x1024, .f32⟩
  | 50 => ⟨S4126x1024, .f32⟩
  | 51 => ⟨S_, .f32⟩
  | 52 => ⟨S4126x1024, .f32⟩
  | 53 => ⟨S4126x1024, .f32⟩
  | 54 => ⟨S_, .f32⟩
  | 55 => ⟨S4126x1024, .f32⟩
  | 56 => ⟨S4126x1024, .f32⟩
  | 57 => ⟨S_, .f32⟩
  | 58 => ⟨S4126x1024, .f32⟩
  | 59 => ⟨S4126x1024, .f32⟩
  | 60 => ⟨S_, .f32⟩
  | 61 => ⟨S4126x1024, .f32⟩
  | 62 => ⟨S4126x1024, .f32⟩
  | 63 => ⟨S_, .f32⟩
  | 64 => ⟨S4126x1024, .f32⟩
  | 65 => ⟨S4126x1024, .f32⟩
  | 66 => ⟨S_, .f32⟩
  | 67 => ⟨S4126x1024, .f32⟩
  | 68 => ⟨S4126x1024, .f32⟩
  | 69 => ⟨S_, .f32⟩
  | 70 => ⟨S4126x1024, .f32⟩
  | 71 => ⟨S4126x1024, .f32⟩
  | 72 => ⟨S_, .f32⟩
  | 73 => ⟨S4126x1024, .f32⟩
  | 74 => ⟨S4126x1024, .f32⟩
  | 75 => ⟨S_, .f32⟩
  | 76 => ⟨S4126x1024, .f32⟩
  | 77 => ⟨S4126x1024, .f32⟩
  | 78 => ⟨S_, .f32⟩
  | 79 => ⟨S4126x1024, .f32⟩
  | 80 => ⟨S4126x1024, .f32⟩
  | 81 => ⟨S_, .f32⟩
  | 82 => ⟨S4126x1024, .f32⟩
  | 83 => ⟨S4126x1024, .f32⟩
  | 84 => ⟨S_, .f32⟩
  | 85 => ⟨S4126x1024, .f32⟩
  | 86 => ⟨S4126x1024, .f32⟩
  | 87 => ⟨S_, .f32⟩
  | 88 => ⟨S4126x1024, .f32⟩
  | 89 => ⟨S4126x1024, .f32⟩
  | 90 => ⟨S_, .f32⟩
  | 91 => ⟨S4126x1024, .f32⟩
  | 92 => ⟨S4126x1024, .f32⟩
  | 93 => ⟨S_, .f32⟩
  | 94 => ⟨S4126x1024, .f32⟩
  | 95 => ⟨S4126x1024, .f32⟩
  | 96 => ⟨S_, .f32⟩
  | 97 => ⟨S4126x1024, .f32⟩
  | 98 => ⟨S4126x1024, .f32⟩
  | 99 => ⟨S_, .f32⟩
  | 100 => ⟨S4126x1024, .f32⟩
  | 101 => ⟨S4126x1024, .f32⟩
  | 102 => ⟨S_, .f32⟩
  | 103 => ⟨S4126x1024, .f32⟩
  | 104 => ⟨S4126x1024, .f32⟩
  | 105 => ⟨S_, .f32⟩
  | 106 => ⟨S4126x1024, .f32⟩
  | 107 => ⟨S4126x1024, .f32⟩
  | 108 => ⟨S_, .f32⟩
  | 109 => ⟨S4126x1024, .f32⟩
  | 110 => ⟨S4126x1024, .f32⟩
  | 111 => ⟨S_, .f32⟩
  | 112 => ⟨S4126x1024, .f32⟩
  | 113 => ⟨S4126x1024, .f32⟩
  | 114 => ⟨S_, .f32⟩
  | 115 => ⟨S4126x1024, .f32⟩
  | 116 => ⟨S4126x1024, .f32⟩
  | 117 => ⟨S_, .f32⟩
  | 118 => ⟨S4126x1024, .f32⟩
  | 119 => ⟨S4126x1024, .f32⟩
  | 120 => ⟨S30x1024, .f32⟩
  | 121 => ⟨S4096x1024, .f32⟩
  | 122 => ⟨S4096x1024, .f32⟩
  | 123 => ⟨S4096x1024, .f32⟩
  | 124 => ⟨S4096x1024, .f32⟩
  | 125 => ⟨S4096x3072, .f32⟩
  | 126 => ⟨S4096x3072, .bf16⟩
  | 127 => ⟨S_, .f32⟩
  | _ => ⟨S4096x1024, .f32⟩

abbrev hbmTy0_3 (i : Nat) : BufTy := match i % 128 with
  | 0 => ⟨S1x1024, .f32⟩
  | 1 => ⟨S32x1024, .f32⟩
  | 2 => ⟨S1x1024, .f32⟩
  | 3 => ⟨S1x1024, .f32⟩
  | 4 => ⟨S1x1024, .f32⟩
  | 5 => ⟨S3x1024, .f32⟩
  | 6 => ⟨S_, .f32⟩
  | 7 => ⟨S5x1024, .f32⟩
  | 8 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_4 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_5 : Ref sig .tc := ⟨.hbm, 99, rfl⟩
abbrev main_v85 : Ref sig .tc := ⟨.hbm, 100, rfl⟩
abbrev main_v86 : Ref sig .tc := ⟨.hbm, 101, rfl⟩
abbrev main_cst_6 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_7 : Ref sig .tc := ⟨.hbm, 108, rfl⟩
abbrev main_v92 : Ref sig .tc := ⟨.hbm, 109, rfl⟩
abbrev main_v93 : Ref sig .tc := ⟨.hbm, 110, rfl⟩
abbrev main_cst_8 : Ref sig .tc := ⟨.hbm, 111, rfl⟩
abbrev main_v94 : Ref sig .tc := ⟨.hbm, 112, rfl⟩
abbrev main_v95 : Ref sig .tc := ⟨.hbm, 113, rfl⟩
abbrev main_cst_9 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_10 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_call0_v0 : Ref sig .tc := ⟨.hbm, 130, rfl⟩
abbrev main_call0_v1 : Ref sig .tc := ⟨.hbm, 131, rfl⟩
abbrev main_call0_cst : Ref sig .tc := ⟨.hbm, 132, rfl⟩
abbrev main_call0_v2 : Ref sig .tc := ⟨.hbm, 133, rfl⟩
abbrev main_call0_v3 : Ref sig .tc := ⟨.hbm, 134, rfl⟩
abbrev main_call0_cst_0 : Ref sig .tc := ⟨.hbm, 135, rfl⟩
abbrev main_call0_v4 : Ref sig .tc := ⟨.hbm, 136, rfl⟩
abbrev main_v110_2 : Ref sig .tc := ⟨.hbm, 137, rfl⟩
abbrev main_call0_cst_1 : Ref sig .tc := ⟨.hbm, 138, rfl⟩
abbrev main_call0_v6 : Ref sig .tc := ⟨.hbm, 139, rfl⟩
abbrev main_call0_v7 : Ref sig .tc := ⟨.hbm, 140, rfl⟩
abbrev main_v110_1 : Ref sig .tc := ⟨.hbm, 141, rfl⟩
abbrev main_v110_0 : Ref sig .tc := ⟨.hbm, 142, rfl⟩
abbrev main_call1_v0 : Ref sig .tc := ⟨.hbm, 143, rfl⟩
abbrev main_call1_v1 : Ref sig .tc := ⟨.hbm, 144, rfl⟩
abbrev main_call1_cst : Ref sig .tc := ⟨.hbm, 145, rfl⟩
abbrev main_call1_v2 : Ref sig .tc := ⟨.hbm, 146, rfl⟩
abbrev main_call1_v3 : Ref sig .tc := ⟨.hbm, 147, rfl⟩
abbrev main_call1_cst_0 : Ref sig .tc := ⟨.hbm, 148, rfl⟩
abbrev main_call1_v4 : Ref sig .tc := ⟨.hbm, 149, rfl⟩
abbrev main_v111_2 : Ref sig .tc := ⟨.hbm, 150, rfl⟩
abbrev main_call1_cst_1 : Ref sig .tc := ⟨.hbm, 151, rfl⟩
abbrev main_call1_v6 : Ref sig .tc := ⟨.hbm, 152, rfl⟩
abbrev main_call1_v7 : Ref sig .tc := ⟨.hbm, 153, rfl⟩
abbrev main_v111_1 : Ref sig .tc := ⟨.hbm, 154, rfl⟩
abbrev main_v111_0 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v115 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_v116 : Ref sig .tc := ⟨.hbm, 166, rfl⟩
abbrev main_cst_11 : Ref sig .tc := ⟨.hbm, 167, rfl⟩
abbrev main_v117 : Ref sig .tc := ⟨.hbm, 168, rfl⟩
abbrev main_v118 : Ref sig .tc := ⟨.hbm, 169, rfl⟩
abbrev main_cst_12 : Ref sig .tc := ⟨.hbm, 170, rfl⟩
abbrev main_v119 : Ref sig .tc := ⟨.hbm, 171, rfl⟩
abbrev main_v120 : Ref sig .tc := ⟨.hbm, 172, rfl⟩
abbrev main_cst_13 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_14 : Ref sig .tc := ⟨.hbm, 178, rfl⟩
abbrev main_v125 : Ref sig .tc := ⟨.hbm, 179, rfl⟩
abbrev main_v126 : Ref sig .tc := ⟨.hbm, 180, rfl⟩
abbrev main_cst_15 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_16 : Ref sig .tc := ⟨.hbm, 187, rfl⟩
abbrev main_v132 : Ref sig .tc := ⟨.hbm, 188, rfl⟩
abbrev main_v133 : Ref sig .tc := ⟨.hbm, 189, rfl⟩
abbrev main_cst_17 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_18 : Ref sig .tc := ⟨.hbm, 198, rfl⟩
abbrev main_v141 : Ref sig .tc := ⟨.hbm, 199, rfl⟩
abbrev main_v142 : Ref sig .tc := ⟨.hbm, 200, rfl⟩
abbrev main_cst_19 : Ref sig .tc := ⟨.hbm, 201, rfl⟩
abbrev main_v143 : Ref sig .tc := ⟨.hbm, 202, rfl⟩
abbrev main_v144 : Ref sig .tc := ⟨.hbm, 203, rfl⟩
abbrev main_cst_20 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_21 : Ref sig .tc := ⟨.hbm, 208, rfl⟩
abbrev main_v148 : Ref sig .tc := ⟨.hbm, 209, rfl⟩
abbrev main_v149 : Ref sig .tc := ⟨.hbm, 210, rfl⟩
abbrev main_cst_22 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_23 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_24 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_cst_25 : Ref sig .tc := ⟨.hbm, 284, rfl⟩
abbrev main_v220 : Ref sig .tc := ⟨.hbm, 285, rfl⟩
abbrev main_cst_26 : Ref sig .tc := ⟨.hbm, 286, rfl⟩
abbrev main_v221 : Ref sig .tc := ⟨.hbm, 287, rfl⟩
abbrev main_v222 : Ref sig .tc := ⟨.hbm, 288, rfl⟩
abbrev main_cst_27 : Ref sig .tc := ⟨.hbm, 289, rfl⟩
abbrev main_v223 : Ref sig .tc := ⟨.hbm, 290, rfl⟩
abbrev main_v224 : Ref sig .tc := ⟨.hbm, 291, rfl⟩
abbrev main_cst_28 : Ref sig .tc := ⟨.hbm, 292, rfl⟩
abbrev main_v225 : Ref sig .tc := ⟨.hbm, 293, rfl⟩
abbrev main_v226 : Ref sig .tc := ⟨.hbm, 294, rfl⟩
abbrev main_cst_29 : Ref sig .tc := ⟨.hbm, 295, rfl⟩
abbrev main_v227 : Ref sig .tc := ⟨.hbm, 296, rfl⟩
abbrev main_v228 : Ref sig .tc := ⟨.hbm, 297, rfl⟩
abbrev main_cst_30 : Ref sig .tc := ⟨.hbm, 298, rfl⟩
abbrev main_v229 : Ref sig .tc := ⟨.hbm, 299, rfl⟩
abbrev main_v230 : Ref sig .tc := ⟨.hbm, 300, rfl⟩
abbrev main_cst_31 : Ref sig .tc := ⟨.hbm, 301, rfl⟩
abbrev main_v231 : Ref sig .tc := ⟨.hbm, 302, rfl⟩
abbrev main_v232 : Ref sig .tc := ⟨.hbm, 303, rfl⟩
abbrev main_cst_32 : Ref sig .tc := ⟨.hbm, 304, rfl⟩
abbrev main_v233 : Ref sig .tc := ⟨.hbm, 305, rfl⟩
abbrev main_v234 : Ref sig .tc := ⟨.hbm, 306, rfl⟩
abbrev main_cst_33 : Ref sig .tc := ⟨.hbm, 307, rfl⟩
abbrev main_v235 : Ref sig .tc := ⟨.hbm, 308, rfl⟩
abbrev main_v236 : Ref sig .tc := ⟨.hbm, 309, rfl⟩
abbrev main_cst_34 : Ref sig .tc := ⟨.hbm, 310, rfl⟩
abbrev main_v237 : Ref sig .tc := ⟨.hbm, 311, rfl⟩
abbrev main_v238 : Ref sig .tc := ⟨.hbm, 312, rfl⟩
abbrev main_cst_35 : Ref sig .tc := ⟨.hbm, 313, rfl⟩
abbrev main_v239 : Ref sig .tc := ⟨.hbm, 314, rfl⟩
abbrev main_v240 : Ref sig .tc := ⟨.hbm, 315, rfl⟩
abbrev main_cst_36 : Ref sig .tc := ⟨.hbm, 316, rfl⟩
abbrev main_v241 : Ref sig .tc := ⟨.hbm, 317, rfl⟩
abbrev main_v242 : Ref sig .tc := ⟨.hbm, 318, rfl⟩
abbrev main_cst_37 : Ref sig .tc := ⟨.hbm, 319, rfl⟩
abbrev main_v243 : Ref sig .tc := ⟨.hbm, 320, rfl⟩
abbrev main_v244 : Ref sig .tc := ⟨.hbm, 321, rfl⟩
abbrev main_cst_38 : Ref sig .tc := ⟨.hbm, 322, rfl⟩
abbrev main_v245 : Ref sig .tc := ⟨.hbm, 323, rfl⟩
abbrev main_v246 : Ref sig .tc := ⟨.hbm, 324, rfl⟩
abbrev main_cst_39 : Ref sig .tc := ⟨.hbm, 325, rfl⟩
abbrev main_v247 : Ref sig .tc := ⟨.hbm, 326, rfl⟩
abbrev main_v248 : Ref sig .tc := ⟨.hbm, 327, rfl⟩
abbrev main_cst_40 : Ref sig .tc := ⟨.hbm, 328, rfl⟩
abbrev main_v249 : Ref sig .tc := ⟨.hbm, 329, rfl⟩
abbrev main_v250 : Ref sig .tc := ⟨.hbm, 330, rfl⟩
abbrev main_cst_41 : Ref sig .tc := ⟨.hbm, 331, rfl⟩
abbrev main_v251 : Ref sig .tc := ⟨.hbm, 332, rfl⟩
abbrev main_v252 : Ref sig .tc := ⟨.hbm, 333, rfl⟩
abbrev main_cst_42 : Ref sig .tc := ⟨.hbm, 334, rfl⟩
abbrev main_v253 : Ref sig .tc := ⟨.hbm, 335, rfl⟩
abbrev main_v254 : Ref sig .tc := ⟨.hbm, 336, rfl⟩
abbrev main_cst_43 : Ref sig .tc := ⟨.hbm, 337, rfl⟩
abbrev main_v255 : Ref sig .tc := ⟨.hbm, 338, rfl⟩
abbrev main_v256 : Ref sig .tc := ⟨.hbm, 339, rfl⟩
abbrev main_cst_44 : Ref sig .tc := ⟨.hbm, 340, rfl⟩
abbrev main_v257 : Ref sig .tc := ⟨.hbm, 341, rfl⟩
abbrev main_v258 : Ref sig .tc := ⟨.hbm, 342, rfl⟩
abbrev main_cst_45 : Ref sig .tc := ⟨.hbm, 343, rfl⟩
abbrev main_v259 : Ref sig .tc := ⟨.hbm, 344, rfl⟩
abbrev main_v260 : Ref sig .tc := ⟨.hbm, 345, rfl⟩
abbrev main_cst_46 : Ref sig .tc := ⟨.hbm, 346, rfl⟩
abbrev main_v261 : Ref sig .tc := ⟨.hbm, 347, rfl⟩
abbrev main_v262 : Ref sig .tc := ⟨.hbm, 348, rfl⟩
abbrev main_cst_47 : Ref sig .tc := ⟨.hbm, 349, rfl⟩
abbrev main_v263 : Ref sig .tc := ⟨.hbm, 350, rfl⟩
abbrev main_v264 : Ref sig .tc := ⟨.hbm, 351, rfl⟩
abbrev main_cst_48 : Ref sig .tc := ⟨.hbm, 352, rfl⟩
abbrev main_v265 : Ref sig .tc := ⟨.hbm, 353, rfl⟩
abbrev main_v266 : Ref sig .tc := ⟨.hbm, 354, rfl⟩
abbrev main_cst_49 : Ref sig .tc := ⟨.hbm, 355, rfl⟩
abbrev main_v267 : Ref sig .tc := ⟨.hbm, 356, rfl⟩
abbrev main_v268 : Ref sig .tc := ⟨.hbm, 357, rfl⟩
abbrev main_cst_50 : Ref sig .tc := ⟨.hbm, 358, rfl⟩
abbrev main_v269 : Ref sig .tc := ⟨.hbm, 359, rfl⟩
abbrev main_v270 : Ref sig .tc := ⟨.hbm, 360, rfl⟩
abbrev main_cst_51 : Ref sig .tc := ⟨.hbm, 361, rfl⟩
abbrev main_v271 : Ref sig .tc := ⟨.hbm, 362, rfl⟩
abbrev main_v272 : Ref sig .tc := ⟨.hbm, 363, rfl⟩
abbrev main_cst_52 : Ref sig .tc := ⟨.hbm, 364, rfl⟩
abbrev main_v273 : Ref sig .tc := ⟨.hbm, 365, rfl⟩
abbrev main_v274 : Ref sig .tc := ⟨.hbm, 366, rfl⟩
abbrev main_cst_53 : Ref sig .tc := ⟨.hbm, 367, rfl⟩
abbrev main_v275 : Ref sig .tc := ⟨.hbm, 368, rfl⟩
abbrev main_v276 : Ref sig .tc := ⟨.hbm, 369, rfl⟩
abbrev main_cst_54 : Ref sig .tc := ⟨.hbm, 370, rfl⟩
abbrev main_v277 : Ref sig .tc := ⟨.hbm, 371, rfl⟩
abbrev main_v278 : Ref sig .tc := ⟨.hbm, 372, rfl⟩
abbrev main_cst_55 : Ref sig .tc := ⟨.hbm, 373, rfl⟩
abbrev main_v279 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_v287 : Ref sig .tc := ⟨.hbm, 382, rfl⟩
abbrev main_cst_56 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_cst_57 : Ref sig .tc := ⟨.hbm, 390, rfl⟩
abbrev main_v294 : Ref sig .tc := ⟨.hbm, 391, rfl⟩
abbrev main_v295 : Ref sig .tc := ⟨.hbm, 392, rfl⟩

abbrev nD : Nat := 1
abbrev τ : Topo := Topo.v7x

variable {F : FTy → Type} [FloatOps F]
-- ==== PrepBwd.lean ====
abbrev S4096 : Shape := ⟨1, ![4096]⟩
abbrev S4096x256 : Shape := ⟨2, ![4096, 256]⟩
abbrev S4096x64 : Shape := ⟨2, ![4096, 64]⟩
abbrev S256 : Shape := ⟨1, ![256]⟩
abbrev S256x1536 : Shape := ⟨2, ![256, 1536]⟩
abbrev S256x2048 : Shape := ⟨2, ![256, 2048]⟩
abbrev S4096x8x128 : Shape := ⟨3, ![4096, 8, 128]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x1x64 : Shape := ⟨4, ![1, 4096, 1, 64]⟩
abbrev S1x4096x2x64 : Shape := ⟨4, ![1, 4096, 2, 64]⟩
abbrev S256x8x192 : Shape := ⟨3, ![256, 8, 192]⟩
abbrev S256x8x128 : Shape := ⟨3, ![256, 8, 128]⟩
abbrev S256x1024 : Shape := ⟨2, ![256, 1024]⟩
abbrev S256x8x64 : Shape := ⟨3, ![256, 8, 64]⟩
abbrev S4096x640 : Shape := ⟨2, ![4096, 640]⟩
abbrev S1x256 : Shape := ⟨2, ![1, 256]⟩
abbrev S8x4096x64 : Shape := ⟨3, ![8, 4096, 64]⟩
abbrev S8x4096x128 : Shape := ⟨3, ![8, 4096, 128]⟩
abbrev S8x4096x256 : Shape := ⟨3, ![8, 4096, 256]⟩
abbrev S8x256 : Shape := ⟨2, ![8, 256]⟩
abbrev S8x256x256 : Shape := ⟨3, ![8, 256, 256]⟩
abbrev S8x256x128 : Shape := ⟨3, ![8, 256, 128]⟩
abbrev S256x640 : Shape := ⟨2, ![256, 640]⟩
abbrev S256x256 : Shape := ⟨2, ![256, 256]⟩
abbrev S256x128 : Shape := ⟨2, ![256, 128]⟩
abbrev S1x256x128 : Shape := ⟨3, ![1, 256, 128]⟩
abbrev S256x1 : Shape := ⟨2, ![256, 1]⟩

abbrev nBuf : Space → Nat
  | .hbm => 106
  | .vmem => 27
  | .smem => 0
  | _ => 0

abbrev bufTy : (tb : Table) → Fin (tcTables nBuf tb) → BufTy
  | .hbm, ⟨0, _⟩ => ⟨S4096, .i32⟩
  | .hbm, ⟨1, _⟩ => ⟨S4096x256, .f32⟩
  | .hbm, ⟨2, _⟩ => ⟨S4096x256, .f32⟩
  | .hbm, ⟨3, _⟩ => ⟨S4096x64, .f32⟩
  | .hbm, ⟨4, _⟩ => ⟨S256, .f32⟩
  | .hbm, ⟨5, _⟩ => ⟨S256x1536, .f32⟩
  | .hbm, ⟨6, _⟩ => ⟨S256, .f32⟩
  | .hbm, ⟨7, _⟩ => ⟨S256x2048, .f32⟩
  | .hbm, ⟨8, _⟩ => ⟨S4096x8x128, .f32⟩
  | .hbm, ⟨9, _⟩ => ⟨S4096x8x64, .f32⟩
  | .hbm, ⟨10, _⟩ => ⟨S4096x8x128, .f32⟩
  | .hbm, ⟨11, _⟩ => ⟨S4096x8x64, .f32⟩
  | .hbm, ⟨12, _⟩ => ⟨S4096x8x128, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4096, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S1x4096x1x32, .f32⟩
  | .hbm, ⟨36, _⟩ => ⟨S1x4096x4x32, .f32⟩
  | .hbm, ⟨37, _⟩ => ⟨S4096x128, .f32⟩
  | .hbm, ⟨38, _⟩ => ⟨S4096x32, .f32⟩
  | .hbm, ⟨39, _⟩ => ⟨S4096x64, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S256x1536, .bf16⟩
  | .hbm, ⟨44, _⟩ => ⟨S256x8x192, .bf16⟩
  | .hbm, ⟨45, _⟩ => ⟨S256x8x128, .bf16⟩
  | .hbm, ⟨46, _⟩ => ⟨S256x1024, .bf16⟩
  | .hbm, ⟨47, _⟩ => ⟨S256x8x64, .bf16⟩
  | .hbm, ⟨48, _⟩ => ⟨S_, .i32⟩
  | .hbm, ⟨49, _⟩ => ⟨S_, .bf16⟩
  | .hbm, ⟨50, _⟩ => ⟨S256x8x128, .bf16⟩
  | .hbm, ⟨51, _⟩ => ⟨S256x1024, .bf16⟩
  | .hbm, ⟨52, _⟩ => ⟨S256x2048, .bf16⟩
  | .hbm, ⟨53, _⟩ => ⟨S_, .f32⟩
  | .hbm, ⟨54, _⟩ => ⟨S4096x64, .f32⟩
  | .hbm, ⟨55, _⟩ => ⟨S4096x640, .f32⟩
  | .hbm, ⟨56, _⟩ => ⟨S4096x256, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x256, .f32⟩
  | .hbm, ⟨68, _⟩ => ⟨S4096x256, .f32⟩
  | .hbm, ⟨69, _⟩ => ⟨S1x256, .f32⟩
  | .hbm, ⟨70, _⟩ => ⟨S4096x256, .f32⟩
  | .hbm, ⟨71, _⟩ => ⟨S4096x256, .f32⟩
  | .hbm, ⟨72, _⟩ => ⟨S4096x256, .bf16⟩
  | .hbm, ⟨73, _⟩ => ⟨S4096x256, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x256, .f32⟩
  | .hbm, ⟨85, _⟩ => ⟨S4096x256, .f32⟩
  | .hbm, ⟨86, _⟩ => ⟨S1x256, .f32⟩
  | .hbm, ⟨87, _⟩ => ⟨S4096x256, .f32⟩
  | .hbm, ⟨88, _⟩ => ⟨S4096x256, .f32⟩
  | .hbm, ⟨89, _⟩ => ⟨S4096x256, .bf16⟩
  | .hbm, ⟨90, _⟩ => ⟨S_, .f32⟩
  | .hbm, ⟨91, _⟩ => ⟨S8x4096x64, .f32⟩
  | .hbm, ⟨92, _⟩ => ⟨S8x4096x128, .f32⟩
  | .hbm, ⟨93, _⟩ => ⟨S8x4096x64, .f32⟩
  | .hbm, ⟨94, _⟩ => ⟨S8x4096x256, .f32⟩
  | .hbm, ⟨95, _⟩ => ⟨S8x4096x128, .f32⟩
  | .hbm, ⟨96, _⟩ => ⟨S8x4096x64, .f32⟩
  | .hbm, ⟨97, _⟩ => ⟨S8x4096x256, .f32⟩
  | .hbm, ⟨98, _⟩ => ⟨S8x4096x128, .f32⟩
  | .hbm, ⟨99, _⟩ => ⟨S1x256, .f32⟩
  | .hbm, ⟨100, _⟩ => ⟨S1x256, .f32⟩
  | .hbm, ⟨101, _⟩ => ⟨S256x2048, .bf16⟩
  | .hbm, ⟨102, _⟩ => ⟨S4096x640, .bf16⟩
  | .hbm, ⟨103, _⟩ => ⟨S256x2048, .f32⟩
  | .hbm, ⟨104, _⟩ => ⟨S256x2048, .f32⟩
  | .hbm, ⟨105, _⟩ => ⟨S8x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x128, .f32⟩
  | .local _ .vmem, ⟨5, _⟩ => ⟨S8x256x128, .f32⟩
  | .local _ .vmem, ⟨6, _⟩ => ⟨S256x640, .f32⟩
  | .local _ .vmem, ⟨7, _⟩ => ⟨S256x640, .f32⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S1x256, .f32⟩
  | .local _ .vmem, ⟨13, _⟩ => ⟨S1x256, .f32⟩
  | .local _ .vmem, ⟨14, _⟩ => ⟨S256x2048, .bf16⟩
  | .local _ .vmem, ⟨15, _⟩ => ⟨S256x2048, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x640, .bf16⟩
  | .local _ .vmem, ⟨21, _⟩ => ⟨S256x640, .bf16⟩
  | .local _ .vmem, ⟨22, _⟩ => ⟨S256x2048, .f32⟩
  | .local _ .vmem, ⟨23, _⟩ => ⟨S256x2048, .f32⟩
  | .local _ .vmem, ⟨24, _⟩ => ⟨S8x256, .f32⟩
  | .local _ .vmem, ⟨25, _⟩ => ⟨S256x2048, .bf16⟩
  | .local _ .vmem, ⟨26, _⟩ => ⟨S256x2048, .bf16⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75_0 : Ref sig .tc := ⟨.hbm, 102, rfl⟩
abbrev main_v75_1 : Ref sig .tc := ⟨.hbm, 103, rfl⟩
abbrev main_v75_2 : Ref sig .tc := ⟨.hbm, 104, rfl⟩
abbrev main_v75_3 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PrepRefIdeal.lean ====
abbrev S4096 : Shape := ⟨1, ![4096]⟩
abbrev S4096x256 : Shape := ⟨2, ![4096, 256]⟩
abbrev S4096x64 : Shape := ⟨2, ![4096, 64]⟩
abbrev S256 : Shape := ⟨1, ![256]⟩
abbrev S256x1536 : Shape := ⟨2, ![256, 1536]⟩
abbrev S256x2048 : Shape := ⟨2, ![256, 2048]⟩
abbrev S4096x8x128 : Shape := ⟨3, ![4096, 8, 128]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x256 : Shape := ⟨2, ![1, 256]⟩
abbrev S4096x1536 : Shape := ⟨2, ![4096, 1536]⟩
abbrev S4096x8x192 : Shape := ⟨3, ![4096, 8, 192]⟩
abbrev S4096x2048 : Shape := ⟨2, ![4096, 2048]⟩
abbrev S4096x8x256 : Shape := ⟨3, ![4096, 8, 256]⟩
abbrev S4096x1x32 : Shape := ⟨3, ![4096, 1, 32]⟩
abbrev S4096x8x32 : Shape := ⟨3, ![4096, 8, 32]⟩
abbrev S4096x1x64 : Shape := ⟨3, ![4096, 1, 64]⟩
abbrev S2048x256 : Shape := ⟨2, ![2048, 256]⟩
abbrev S1536x256 : Shape := ⟨2, ![1536, 256]⟩
abbrev S4096x640 : Shape := ⟨2, ![4096, 640]⟩
abbrev S256x8x192 : Shape := ⟨3, ![256, 8, 192]⟩
abbrev S256x8x64 : Shape := ⟨3, ![256, 8, 64]⟩
abbrev S256x8x128 : Shape := ⟨3, ![256, 8, 128]⟩
abbrev S256x1024 : Shape := ⟨2, ![256, 1024]⟩
abbrev S2x256 : Shape := ⟨2, ![2, 256]⟩
abbrev S6x256 : Shape := ⟨2, ![6, 256]⟩
abbrev S8x256 : Shape := ⟨2, ![8, 256]⟩

abbrev nBuf : Space → Nat
  | .hbm => 257
  | .vmem => 0
  | .smem => 0
  | _ => 0

abbrev hbmTy0_0 (i : Nat) : BufTy := match i % 128 with
  | 0 => ⟨S4096, .i32⟩
  | 1 => ⟨S4096x256, .f32⟩
  | 2 => ⟨S4096x256, .f32⟩
  | 3 => ⟨S4096x64, .f32⟩
  | 4 => ⟨S256, .f32⟩
  | 5 => ⟨S256x1536, .f32⟩
  | 6 => ⟨S256, .f32⟩
  | 7 => ⟨S256x2048, .f32⟩
  | 8 => ⟨S4096x8x128, .f32⟩
  | 9 => ⟨S4096x8x64, .f32⟩
  | 10 => ⟨S4096x8x128, .f32⟩
  | 11 => ⟨S4096x8x64, .f32⟩
  | 12 => ⟨S4096x8x128, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S4096, .f32⟩
  | 28 => ⟨S4096x1, .f32⟩
  | 29 => ⟨S1x32, .f32⟩
  | 30 => ⟨S4096x32, .f32⟩
  | 31 => ⟨S4096x32, .f32⟩
  | 32 => ⟨S4096x32, .f32⟩
  | 33 => ⟨S4096x32, .f32⟩
  | 34 => ⟨S4096x32, .f32⟩
  | 35 => ⟨S4096x256, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x256, .f32⟩
  | 51 => ⟨S4096x256, .f32⟩
  | 52 => ⟨S1x256, .f32⟩
  | 53 => ⟨S4096x256, .f32⟩
  | 54 => ⟨S4096x256, .f32⟩
  | 55 => ⟨S4096x1536, .f32⟩
  | 56 => ⟨S4096x8x192, .f32⟩
  | 57 => ⟨S4096x8x128, .f32⟩
  | 58 => ⟨S4096x8x64, .f32⟩
  | 59 => ⟨S4096x256, .f32⟩
  | 60 => ⟨S_, .f32⟩
  | 61 => ⟨S4096, .f32⟩
  | 62 => ⟨S4096x1, .f32⟩
  | 63 => ⟨S_, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x256, .f32⟩
  | 75 => ⟨S4096x256, .f32⟩
  | 76 => ⟨S1x256, .f32⟩
  | 77 => ⟨S4096x256, .f32⟩
  | 78 => ⟨S4096x256, .f32⟩
  | 79 => ⟨S4096x2048, .f32⟩
  | 80 => ⟨S4096x8x256, .f32⟩
  | 81 => ⟨S4096x8x128, .f32⟩
  | 82 => ⟨S4096x8x128, .f32⟩
  | 83 => ⟨S4096x1x32, .f32⟩
  | 84 => ⟨S4096x1x32, .f32⟩
  | 85 => ⟨S4096x8x32, .f32⟩
  | 86 => ⟨S4096x8x32, .f32⟩
  | 87 => ⟨S4096x8x32, .f32⟩
  | 88 => ⟨S4096x8x32, .f32⟩
  | 89 => ⟨S4096x8x32, .f32⟩
  | 90 => ⟨S4096x8x32, .f32⟩
  | 91 => ⟨S4096x8x32, .f32⟩
  | 92 => ⟨S4096x8x32, .f32⟩
  | 93 => ⟨S4096x8x32, .f32⟩
  | 94 => ⟨S4096x8x32, .f32⟩
  | 95 => ⟨S4096x8x32, .f32⟩
  | 96 => ⟨S4096x8x32, .f32⟩
  | 97 => ⟨S4096x8x64, .f32⟩
  | 98 => ⟨S4096x32, .f32⟩
  | 99 => ⟨S4096x32, .f32⟩
  | 100 => ⟨S4096x32, .f32⟩
  | 101 => ⟨S4096x32, .f32⟩
  | 102 => ⟨S4096x32, .f32⟩
  | 103 => ⟨S4096x32, .f32⟩
  | 104 => ⟨S4096x32, .f32⟩
  | 105 => ⟨S4096x32, .f32⟩
  | 106 => ⟨S4096x64, .f32⟩
  | 107 => ⟨S4096x1x64, .f32⟩
  | 108 => ⟨S4096x8x64, .f32⟩
  | 109 => ⟨S_, .f32⟩
  | 110 => ⟨S4096x8x128, .f32⟩
  | 111 => ⟨S4096x8x128, .f32⟩
  | 112 => ⟨S_, .f32⟩
  | 113 => ⟨S4096x8x64, .f32⟩
  | 114 => ⟨S4096x8x64, .f32⟩
  | 115 => ⟨S_, .f32⟩
  | 116 => ⟨S4096x8x128, .f32⟩
  | 117 => ⟨S4096x8x128, .f32⟩
  | 118 => ⟨S_, .f32⟩
  | 119 => ⟨S4096x8x64, .f32⟩
  | 120 => ⟨S4096x8x64, .f32⟩
  | 121 => ⟨S_, .f32⟩
  | 122 => ⟨S4096x8x64, .f32⟩
  | 123 => ⟨S4096x8x64, .f32⟩
  | 124 => ⟨S_, .f32⟩
  | 125 => ⟨S4096x8x128, .f32⟩
  | 126 => ⟨S4096x8x128, .f32⟩
  | 127 => ⟨S_, .f32⟩
  | _ => ⟨S4096, .i32⟩

abbrev hbmTy0_1 (i : Nat) : BufTy := match i % 128 with
  | 0 => ⟨S4096x8x64, .f32⟩
  | 1 => ⟨S4096x8x64, .f32⟩
  | 2 => ⟨S_, .f32⟩
  | 3 => ⟨S4096x8x128, .f32⟩
  | 4 => ⟨S4096x8x128, .f32⟩
  | 5 => ⟨S_, .f32⟩
  | 6 => ⟨S4096x64, .f32⟩
  | 7 => ⟨S4096x1x64, .f32⟩
  | 8 => ⟨S_, .f32⟩
  | 9 => ⟨S4096x64, .f32⟩
  | 10 => ⟨S4096x32, .f32⟩
  | 11 => ⟨S4096x32, .f32⟩
  | 12 => ⟨S4096x32, .f32⟩
  | 13 => ⟨S4096x32, .f32⟩
  | 14 => ⟨S4096x32, .f32⟩
  | 15 => ⟨S4096x32, .f32⟩
  | 16 => ⟨S4096x32, .f32⟩
  | 17 => ⟨S4096x32, .f32⟩
  | 18 => ⟨S4096x32, .f32⟩
  | 19 => ⟨S_, .f32⟩
  | 20 => ⟨S4096x64, .f32⟩
  | 21 => ⟨S_, .f32⟩
  | 22 => ⟨S4096x64, .f32⟩
  | 23 => ⟨S4096x64, .f32⟩
  | 24 => ⟨S4096x8x32, .f32⟩
  | 25 => ⟨S4096x8x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S4096x8x32, .f32⟩
  | 33 => ⟨S4096x8x32, .f32⟩
  | 34 => ⟨S4096x8x32, .f32⟩
  | 35 => ⟨S4096x8x32, .f32⟩
  | 36 => ⟨S4096x8x32, .f32⟩
  | 37 => ⟨S_, .f32⟩
  | 38 => ⟨S4096x8x64, .f32⟩
  | 39 => ⟨S_, .f32⟩
  | 40 => ⟨S4096x8x64, .f32⟩
  | 41 => ⟨S4096x8x64, .f32⟩
  | 42 => ⟨S_, .f32⟩
  | 43 => ⟨S4096x8x256, .f32⟩
  | 44 => ⟨S_, .f32⟩
  | 45 => ⟨S4096x8x256, .f32⟩
  | 46 => ⟨S4096x8x256, .f32⟩
  | 47 => ⟨S4096x2048, .f32⟩
  | 48 => ⟨S2048x256, .f32⟩
  | 49 => ⟨S256x2048, .f32⟩
  | 50 => ⟨S4096x256, .f32⟩
  | 51 => ⟨S4096x256, .f32⟩
  | 52 => ⟨S_, .f32⟩
  | 53 => ⟨S256, .f32⟩
  | 54 => ⟨S1x256, .f32⟩
  | 55 => ⟨S4096x256, .f32⟩
  | 56 => ⟨S4096x256, .f32⟩
  | 57 => ⟨S_, .f32⟩
  | 58 => ⟨S256, .f32⟩
  | 59 => ⟨S4096x256, .f32⟩
  | 60 => ⟨S_, .f32⟩
  | 61 => ⟨S4096, .f32⟩
  | 62 => ⟨S4096x1, .f32⟩
  | 63 => ⟨S4096x256, .f32⟩
  | 64 => ⟨S4096x256, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096, .f32⟩
  | 71 => ⟨S4096x256, .f32⟩
  | 72 => ⟨S4096x256, .f32⟩
  | 73 => ⟨S4096x256, .f32⟩
  | 74 => ⟨S4096x256, .f32⟩
  | 75 => ⟨S4096x256, .f32⟩
  | 76 => ⟨S_, .f32⟩
  | 77 => ⟨S4096x8x192, .f32⟩
  | 78 => ⟨S_, .f32⟩
  | 79 => ⟨S4096x8x192, .f32⟩
  | 80 => ⟨S4096x8x192, .f32⟩
  | 81 => ⟨S4096x1536, .f32⟩
  | 82 => ⟨S1536x256, .f32⟩
  | 83 => ⟨S256x1536, .f32⟩
  | 84 => ⟨S4096x256, .f32⟩
  | 85 => ⟨S4096x256, .f32⟩
  | 86 => ⟨S_, .f32⟩
  | 87 => ⟨S256, .f32⟩
  | 88 => ⟨S1x256, .f32⟩
  | 89 => ⟨S4096x256, .f32⟩
  | 90 => ⟨S4096x256, .f32⟩
  | 91 => ⟨S_, .f32⟩
  | 92 => ⟨S256, .f32⟩
  | 93 => ⟨S4096x256, .f32⟩
  | 94 => ⟨S_, .f32⟩
  | 95 => ⟨S4096, .f32⟩
  | 96 => ⟨S4096x1, .f32⟩
  | 97 => ⟨S4096x256, .f32⟩
  | 98 => ⟨S4096x256, .f32⟩
  | 99 => ⟨S4096x1, .f32⟩
  | 100 => ⟨S_, .f32⟩
  | 101 => ⟨S4096x1, .f32⟩
  | 102 => ⟨S4096x1, .f32⟩
  | 103 => ⟨S_, .f32⟩
  | 104 => ⟨S4096, .f32⟩
  | 105 => ⟨S4096x256, .f32⟩
  | 106 => ⟨S4096x256, .f32⟩
  | 107 => ⟨S4096x256, .f32⟩
  | 108 => ⟨S4096x256, .f32⟩
  | 109 => ⟨S4096x256, .f32⟩
  | 110 => ⟨S_, .f32⟩
  | 111 => ⟨S4096x64, .f32⟩
  | 112 => ⟨S4096x640, .f32⟩
  | 113 => ⟨S256x8x192, .f32⟩
  | 114 => ⟨S256x8x64, .f32⟩
  | 115 => ⟨S_, .f32⟩
  | 116 => ⟨S256x8x64, .f32⟩
  | 117 => ⟨S256x8x128, .f32⟩
  | 118 => ⟨S256x8x128, .f32⟩
  | 119 => ⟨S256x1024, .f32⟩
  | 120 => ⟨S256x1024, .f32⟩
  | 121 => ⟨S256x2048, .f32⟩
  | 122 => ⟨S1x256, .f32⟩
  | 123 => ⟨S1x256, .f32⟩
  | 124 => ⟨S2x256, .f32⟩
  | 125 => ⟨S_, .f32⟩
  | 126 => ⟨S6x256, .f32⟩
  | 127 => ⟨S8x256, .f32⟩
  | _ => ⟨S4096, .i32⟩

abbrev hbmTy0_2 (i : Nat) : BufTy := match i % 128 with
  | 0 => ⟨S4096x640, .bf16⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_11 : Ref sig .tc := ⟨.hbm, 109, rfl⟩
abbrev main_v84 : Ref sig .tc := ⟨.hbm, 110, rfl⟩
abbrev main_v85 : Ref sig .tc := ⟨.hbm, 111, rfl⟩
abbrev main_cst_12 : Ref sig .tc := ⟨.hbm, 112, rfl⟩
abbrev main_v86 : Ref sig .tc := ⟨.hbm, 113, rfl⟩
abbrev main_v87 : Ref sig .tc := ⟨.hbm, 114, rfl⟩
abbrev main_cst_13 : Ref sig .tc := ⟨.hbm, 115, rfl⟩
abbrev main_v88 : Ref sig .tc := ⟨.hbm, 116, rfl⟩
abbrev main_v89 : Ref sig .tc := ⟨.hbm, 117, rfl⟩
abbrev main_cst_14 : Ref sig .tc := ⟨.hbm, 118, rfl⟩
abbrev main_v90 : Ref sig .tc := ⟨.hbm, 119, rfl⟩
abbrev main_v91 : Ref sig .tc := ⟨.hbm, 120, rfl⟩
abbrev main_cst_15 : Ref sig .tc := ⟨.hbm, 121, rfl⟩
abbrev main_v92 : Ref sig .tc := ⟨.hbm, 122, rfl⟩
abbrev main_v93 : Ref sig .tc := ⟨.hbm, 123, rfl⟩
abbrev main_cst_16 : Ref sig .tc := ⟨.hbm, 124, rfl⟩
abbrev main_v94 : Ref sig .tc := ⟨.hbm, 125, rfl⟩
abbrev main_v95 : Ref sig .tc := ⟨.hbm, 126, rfl⟩
abbrev main_cst_17 : Ref sig .tc := ⟨.hbm, 127, rfl⟩
abbrev main_v96 : Ref sig .tc := ⟨.hbm, 128, rfl⟩
abbrev main_v97 : Ref sig .tc := ⟨.hbm, 129, rfl⟩
abbrev main_cst_18 : Ref sig .tc := ⟨.hbm, 130, rfl⟩
abbrev main_v98 : Ref sig .tc := ⟨.hbm, 131, rfl⟩
abbrev main_v99 : Ref sig .tc := ⟨.hbm, 132, rfl⟩
abbrev main_cst_19 : Ref sig .tc := ⟨.hbm, 133, rfl⟩
abbrev main_v100 : Ref sig .tc := ⟨.hbm, 134, rfl⟩
abbrev main_v101 : Ref sig .tc := ⟨.hbm, 135, rfl⟩
abbrev main_cst_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_cst_22 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_23 : Ref sig .tc := ⟨.hbm, 165, rfl⟩
abbrev main_v128 : Ref sig .tc := ⟨.hbm, 166, rfl⟩
abbrev main_cst_24 : Ref sig .tc := ⟨.hbm, 167, rfl⟩
abbrev main_v129 : Ref sig .tc := ⟨.hbm, 168, rfl⟩
abbrev main_v130 : Ref sig .tc := ⟨.hbm, 169, rfl⟩
abbrev main_cst_25 : Ref sig .tc := ⟨.hbm, 170, rfl⟩
abbrev main_v131 : Ref sig .tc := ⟨.hbm, 171, rfl⟩
abbrev main_cst_26 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_27 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_28 : Ref sig .tc := ⟨.hbm, 185, rfl⟩
abbrev main_v143 : Ref sig .tc := ⟨.hbm, 186, rfl⟩
abbrev main_v144 : Ref sig .tc := ⟨.hbm, 187, rfl⟩
abbrev main_cst_29 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_30 : Ref sig .tc := ⟨.hbm, 194, rfl⟩
abbrev main_v150 : Ref sig .tc := ⟨.hbm, 195, rfl⟩
abbrev main_v151 : Ref sig .tc := ⟨.hbm, 196, rfl⟩
abbrev main_cst_31 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_32 : Ref sig .tc := ⟨.hbm, 204, rfl⟩
abbrev main_v158 : Ref sig .tc := ⟨.hbm, 205, rfl⟩
abbrev main_cst_33 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_34 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_35 : Ref sig .tc := ⟨.hbm, 219, rfl⟩
abbrev main_v170 : Ref sig .tc := ⟨.hbm, 220, rfl⟩
abbrev main_v171 : Ref sig .tc := ⟨.hbm, 221, rfl⟩
abbrev main_cst_36 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_37 : Ref sig .tc := ⟨.hbm, 228, rfl⟩
abbrev main_v177 : Ref sig .tc := ⟨.hbm, 229, rfl⟩
abbrev main_v178 : Ref sig .tc := ⟨.hbm, 230, rfl⟩
abbrev main_cst_38 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_39 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_cst_40 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_41 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩

abbrev nD : Nat := 1
abbrev τ : Topo := Topo.v7x

variable {F : FTy → Type} [FloatOps F]
-- ==== AdaNorm.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== PrepFwd.lean ====
abbrev S4096 : Shape := ⟨1, ![4096]⟩
abbrev S4096x256 : Shape := ⟨2, ![4096, 256]⟩
abbrev S4096x64 : Shape := ⟨2, ![4096, 64]⟩
abbrev S256 : Shape := ⟨1, ![256]⟩
abbrev S256x1536 : Shape := ⟨2, ![256, 1536]⟩
abbrev S256x2048 : Shape := ⟨2, ![256, 2048]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x1x64 : Shape := ⟨4, ![1, 4096, 1, 64]⟩
abbrev S1x4096x2x64 : Shape := ⟨4, ![1, 4096, 2, 64]⟩
abbrev S256x8x192 : Shape := ⟨3, ![256, 8, 192]⟩
abbrev S256x8x128 : Shape := ⟨3, ![256, 8, 128]⟩
abbrev S256x1024 : Shape := ⟨2, ![256, 1024]⟩
abbrev S256x8x64 : Shape := ⟨3, ![256, 8, 64]⟩
abbrev S4096x640 : Shape := ⟨2, ![4096, 640]⟩
abbrev S1x256 : Shape := ⟨2, ![1, 256]⟩
abbrev S8x4096x256 : Shape := ⟨3, ![8, 4096, 256]⟩
abbrev S256x640 : Shape := ⟨2, ![256, 640]⟩
abbrev S256x128 : Shape := ⟨2, ![256, 128]⟩
abbrev S256x256 : Shape := ⟨2, ![256, 256]⟩
abbrev S8x256x256 : Shape := ⟨3, ![8, 256, 256]⟩
abbrev S256x1 : Shape := ⟨2, ![256, 1]⟩
abbrev S1x256x128 : Shape := ⟨3, ![1, 256, 128]⟩

abbrev nBuf : Space → Nat
  | .hbm => 59
  | .vmem => 20
  | .smem => 0
  | _ => 0

abbrev bufTy : (tb : Table) → Fin (tcTables nBuf tb) → BufTy
  | .hbm, ⟨0, _⟩ => ⟨S4096, .i32⟩
  | .hbm, ⟨1, _⟩ => ⟨S4096x256, .f32⟩
  | .hbm, ⟨2, _⟩ => ⟨S4096x256, .f32⟩
  | .hbm, ⟨3, _⟩ => ⟨S4096x64, .f32⟩
  | .hbm, ⟨4, _⟩ => ⟨S256, .f32⟩
  | .hbm, ⟨5, _⟩ => ⟨S256x1536, .f32⟩
  | .hbm, ⟨6, _⟩ => ⟨S256, .f32⟩
  | .hbm, ⟨7, _⟩ => ⟨S256x2048, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S1x4096x1x32, .f32⟩
  | .hbm, ⟨31, _⟩ => ⟨S1x4096x4x32, .f32⟩
  | .hbm, ⟨32, _⟩ => ⟨S4096x128, .f32⟩
  | .hbm, ⟨33, _⟩ => ⟨S4096x32, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S256x1536, .bf16⟩
  | .hbm, ⟨39, _⟩ => ⟨S256x8x192, .bf16⟩
  | .hbm, ⟨40, _⟩ => ⟨S256x8x128, .bf16⟩
  | .hbm, ⟨41, _⟩ => ⟨S256x1024, .bf16⟩
  | .hbm, ⟨42, _⟩ => ⟨S256x8x64, .bf16⟩
  | .hbm, ⟨43, _⟩ => ⟨S_, .i32⟩
  | .hbm, ⟨44, _⟩ => ⟨S_, .bf16⟩
  | .hbm, ⟨45, _⟩ => ⟨S256x8x128, .bf16⟩
  | .hbm, ⟨46, _⟩ => ⟨S256x1024, .bf16⟩
  | .hbm, ⟨47, _⟩ => ⟨S256x2048, .bf16⟩
  | .hbm, ⟨48, _⟩ => ⟨S_, .f32⟩
  | .hbm, ⟨49, _⟩ => ⟨S4096x64, .f32⟩
  | .hbm, ⟨50, _⟩ => ⟨S4096x640, .f32⟩
  | .hbm, ⟨51, _⟩ => ⟨S1x256, .f32⟩
  | .hbm, ⟨52, _⟩ => ⟨S1x256, .f32⟩
  | .hbm, ⟨53, _⟩ => ⟨S256x2048, .bf16⟩
  | .hbm, ⟨54, _⟩ => ⟨S4096x256, .bf16⟩
  | .hbm, ⟨55, _⟩ => ⟨S4096x256, .bf16⟩
  | .hbm, ⟨56, _⟩ => ⟨S8x4096x256, .bf16⟩
  | .hbm, ⟨57, _⟩ => ⟨S8x4096x256, .bf16⟩
  | .hbm, ⟨58, _⟩ => ⟨S8x4096x256, .bf16⟩
  | .local _ .vmem, ⟨0, _⟩ => ⟨S256x640, .f32⟩
  | .local _ .vmem, ⟨1, _⟩ => ⟨S256x640, .f32⟩
  | .local _ .vmem, ⟨2, _⟩ => ⟨S1x256, .f32⟩
  | .local _ .vmem, ⟨3, _⟩ => ⟨S1x256, .f32⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S8x256x256, .bf16⟩
  | .local _ .vmem, ⟨15, _⟩ => ⟨S8x256x256, .bf16⟩
  | .local _ .vmem, ⟨16, _⟩ => ⟨S8x256x256, .bf16⟩
  | .local _ .vmem, ⟨17, _⟩ => ⟨S8x256x256, .bf16⟩
  | .local _ .vmem, ⟨18, _⟩ => ⟨S8x256x256, .bf16⟩
  | .local _ .vmem, ⟨19, _⟩ => ⟨S8x256x256, .bf16⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_v39_2 : Ref sig .tc := ⟨.hbm, 56, rfl⟩
abbrev main_v39_3 : Ref sig .tc := ⟨.hbm, 57, rfl⟩
abbrev main_v39_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepFwdRefIdeal.lean ====
abbrev S4096 : Shape := ⟨1, ![4096]⟩
abbrev S4096x256 : Shape := ⟨2, ![4096, 256]⟩
abbrev S4096x64 : Shape := ⟨2, ![4096, 64]⟩
abbrev S256 : Shape := ⟨1, ![256]⟩
abbrev S256x1536 : Shape := ⟨2, ![256, 1536]⟩
abbrev S256x2048 : Shape := ⟨2, ![256, 2048]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x256 : Shape := ⟨2, ![1, 256]⟩
abbrev S4096x1536 : Shape := ⟨2, ![4096, 1536]⟩
abbrev S4096x8x192 : Shape := ⟨3, ![4096, 8, 192]⟩
abbrev S4096x2048 : Shape := ⟨2, ![4096, 2048]⟩
abbrev S4096x8x256 : Shape := ⟨3, ![4096, 8, 256]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x1x64 : Shape := ⟨3, ![4096, 1, 64]⟩
abbrev S4096x8x128 : Shape := ⟨3, ![4096, 8, 128]⟩
abbrev S8x4096x256 : Shape := ⟨3, ![8, 4096, 256]⟩

abbrev nBuf : Space → Nat
  | .hbm => 111
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x256, .f32⟩
  | .hbm, ⟨2, _⟩ => ⟨S4096x256, .f32⟩
  | .hbm, ⟨3, _⟩ => ⟨S4096x64, .f32⟩
  | .hbm, ⟨4, _⟩ => ⟨S256, .f32⟩
  | .hbm, ⟨5, _⟩ => ⟨S256x1536, .f32⟩
  | .hbm, ⟨6, _⟩ => ⟨S256, .f32⟩
  | .hbm, ⟨7, _⟩ => ⟨S256x2048, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x256, .f32⟩
  | .hbm, ⟨42, _⟩ => ⟨S4096x256, .f32⟩
  | .hbm, ⟨43, _⟩ => ⟨S1x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x256, .f32⟩
  | .hbm, ⟨58, _⟩ => ⟨S4096x256, .f32⟩
  | .hbm, ⟨59, _⟩ => ⟨S1x256, .f32⟩
  | .hbm, ⟨60, _⟩ => ⟨S4096x256, .f32⟩
  | .hbm, ⟨61, _⟩ => ⟨S4096x256, .f32⟩
  | .hbm, ⟨62, _⟩ => ⟨S4096x1536, .f32⟩
  | .hbm, ⟨63, _⟩ => ⟨S4096x8x192, .f32⟩
  | .hbm, ⟨64, _⟩ => ⟨S4096x2048, .f32⟩
  | .hbm, ⟨65, _⟩ => ⟨S4096x8x256, .f32⟩
  | .hbm, ⟨66, _⟩ => ⟨S4096x8x64, .f32⟩
  | .hbm, ⟨67, _⟩ => ⟨S4096x1x32, .f32⟩
  | .hbm, ⟨68, _⟩ => ⟨S4096x1x32, .f32⟩
  | .hbm, ⟨69, _⟩ => ⟨S4096x8x32, .f32⟩
  | .hbm, ⟨70, _⟩ => ⟨S4096x8x32, .f32⟩
  | .hbm, ⟨71, _⟩ => ⟨S4096x8x32, .f32⟩
  | .hbm, ⟨72, _⟩ => ⟨S4096x8x32, .f32⟩
  | .hbm, ⟨73, _⟩ => ⟨S4096x8x32, .f32⟩
  | .hbm, ⟨74, _⟩ => ⟨S4096x8x32, .f32⟩
  | .hbm, ⟨75, _⟩ => ⟨S4096x8x32, .f32⟩
  | .hbm, ⟨76, _⟩ => ⟨S4096x8x32, .f32⟩
  | .hbm, ⟨77, _⟩ => ⟨S4096x8x32, .f32⟩
  | .hbm, ⟨78, _⟩ => ⟨S4096x8x32, .f32⟩
  | .hbm, ⟨79, _⟩ => ⟨S4096x8x32, .f32⟩
  | .hbm, ⟨80, _⟩ => ⟨S4096x8x32, .f32⟩
  | .hbm, ⟨81, _⟩ => ⟨S4096x8x64, .f32⟩
  | .hbm, ⟨82, _⟩ => ⟨S4096x32, .f32⟩
  | .hbm, ⟨83, _⟩ => ⟨S4096x32, .f32⟩
  | .hbm, ⟨84, _⟩ => ⟨S4096x32, .f32⟩
  | .hbm, ⟨85, _⟩ => ⟨S4096x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S4096x32, .f32⟩
  | .hbm, ⟨90, _⟩ => ⟨S4096x64, .f32⟩
  | .hbm, ⟨91, _⟩ => ⟨S4096x1x64, .f32⟩
  | .hbm, ⟨92, _⟩ => ⟨S4096x8x64, .f32⟩
  | .hbm, ⟨93, _⟩ => ⟨S_, .f32⟩
  | .hbm, ⟨94, _⟩ => ⟨S4096x8x64, .f32⟩
  | .hbm, ⟨95, _⟩ => ⟨S4096x256, .bf16⟩
  | .hbm, ⟨96, _⟩ => ⟨S4096x256, .bf16⟩
  | .hbm, ⟨97, _⟩ => ⟨S4096x8x128, .f32⟩
  | .hbm, ⟨98, _⟩ => ⟨S4096x8x256, .f32⟩
  | .hbm, ⟨99, _⟩ => ⟨S8x4096x256, .f32⟩
  | .hbm, ⟨100, _⟩ => ⟨S8x4096x256, .bf16⟩
  | .hbm, ⟨101, _⟩ => ⟨S4096x8x128, .f32⟩
  | .hbm, ⟨102, _⟩ => ⟨S4096x8x256, .f32⟩
  | .hbm, ⟨103, _⟩ => ⟨S8x4096x256, .f32⟩
  | .hbm, ⟨104, _⟩ => ⟨S8x4096x256, .bf16⟩
  | .hbm, ⟨105, _⟩ => ⟨S4096x8x128, .f32⟩
  | .hbm, ⟨106, _⟩ => ⟨S_, .f32⟩
  | .hbm, ⟨107, _⟩ => ⟨S4096x8x128, .f32⟩
  | .hbm, ⟨108, _⟩ => ⟨S4096x8x256, .f32⟩
  | .hbm, ⟨109, _⟩ => ⟨S8x4096x256, .f32⟩
  | .hbm, ⟨110, _⟩ => ⟨S8x4096x256, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩

abbrev nD : Nat := 1
abbrev τ : Topo := Topo.v7x

variable {F : FTy → Type} [FloatOps F]
-- ==== AdaFwd.lean ====
abbrev S8x1024 : Shape := ⟨2, ![8, 1024]⟩
abbrev S1024x768 : Shape := ⟨2, ![1024, 768]⟩
abbrev S768 : Shape := ⟨1, ![768]⟩
abbrev S1x768 : Shape := ⟨2, ![1, 768]⟩
abbrev S8x768 : Shape := ⟨2, ![8, 768]⟩

abbrev nBuf : Space → Nat
  | .hbm => 5
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S768, .f32⟩
  | .hbm, ⟨3, _⟩ => ⟨S1x768, .f32⟩
  | .hbm, ⟨4, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaFwdRefIdeal.lean ====
abbrev S8x1024 : Shape := ⟨2, ![8, 1024]⟩
abbrev S1024x768 : Shape := ⟨2, ![1024, 768]⟩
abbrev S768 : Shape := ⟨1, ![768]⟩
abbrev S_ : Shape := ⟨0, ![]⟩
abbrev S8x768 : Shape := ⟨2, ![8, 768]⟩
abbrev S1x768 : Shape := ⟨2, ![1, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S1x768, .f32⟩
  | .hbm, ⟨14, _⟩ => ⟨S8x768, .f32⟩
  | .hbm, ⟨15, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proj.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradIn.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .bf16⟩
  | .hbm, ⟨4, _⟩ => ⟨S4096x1024, .bf16⟩
  | .hbm, ⟨5, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S3072x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adam.lean ====
abbrev S1024x1680 : Shape := ⟨2, ![1024, 1680]⟩
abbrev S1680x1024 : Shape := ⟨2, ![1680, 1024]⟩
abbrev S336x1024 : Shape := ⟨2, ![336, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1024x1680, .f32⟩
  | .hbm, ⟨1, _⟩ => ⟨S1024x1680, .f32⟩
  | .hbm, ⟨2, _⟩ => ⟨S1024x1680, .f32⟩
  | .hbm, ⟨3, _⟩ => ⟨S1024x1680, .f32⟩
  | .hbm, ⟨4, _⟩ => ⟨S1680x1024, .f32⟩
  | .hbm, ⟨5, _⟩ => ⟨S1680x1024, .f32⟩
  | .hbm, ⟨6, _⟩ => ⟨S1680x1024, .f32⟩
  | .hbm, ⟨7, _⟩ => ⟨S1680x1024, .f32⟩
  | .hbm, ⟨8, _⟩ => ⟨S1680x1024, .f32⟩
  | .hbm, ⟨9, _⟩ => ⟨S1680x1024, .f32⟩
  | .hbm, ⟨10, _⟩ => ⟨S1680x1024, .f32⟩
  | .local _ .vmem, ⟨0, _⟩ => ⟨S336x1024, .f32⟩
  | .local _ .vmem, ⟨1, _⟩ => ⟨S336x1024, .f32⟩
  | .local _ .vmem, ⟨2, _⟩ => ⟨S336x1024, .f32⟩
  | .local _ .vmem, ⟨3, _⟩ => ⟨S336x1024, .f32⟩
  | .local _ .vmem, ⟨4, _⟩ => ⟨S336x1024, .f32⟩
  | .local _ .vmem, ⟨5, _⟩ => ⟨S336x1024, .f32⟩
  | .local _ .vmem, ⟨6, _⟩ => ⟨S336x1024, .f32⟩
  | .local _ .vmem, ⟨7, _⟩ => ⟨S336x1024, .f32⟩
  | .local _ .vmem, ⟨8, _⟩ => ⟨S336x1024, .f32⟩
  | .local _ .vmem, ⟨9, _⟩ => ⟨S336x1024, .f32⟩
  | .local _ .vmem, ⟨10, _⟩ => ⟨S336x1024, .f32⟩
  | .local _ .vmem, ⟨11, _⟩ => ⟨S336x1024, .f32⟩
  | .local _ .vmem, ⟨12, _⟩ => ⟨S336x1024, .f32⟩
  | .local _ .vmem, ⟨13, _⟩ => ⟨S336x1024, .f32⟩
  | _, _ => ⟨S1024x1680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S336x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S336x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S336x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S336x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S336x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S336x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S336x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1024x1680 : Shape := ⟨2, ![1024, 1680]⟩
abbrev S_ : Shape := ⟨0, ![]⟩
abbrev S1680x1024 : Shape := ⟨2, ![1680, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x1680, .f32⟩
  | .hbm, ⟨1, _⟩ => ⟨S1024x1680, .f32⟩
  | .hbm, ⟨2, _⟩ => ⟨S1024x1680, .f32⟩
  | .hbm, ⟨3, _⟩ => ⟨S1024x1680, .f32⟩
  | .hbm, ⟨4, _⟩ => ⟨S_, .f32⟩
  | .hbm, ⟨5, _⟩ => ⟨S1024x1680, .f32⟩
  | .hbm, ⟨6, _⟩ => ⟨S1024x1680, .f32⟩
  | .hbm, ⟨7, _⟩ => ⟨S_, .f32⟩
  | .hbm, ⟨8, _⟩ => ⟨S1024x1680, .f32⟩
  | .hbm, ⟨9, _⟩ => ⟨S1024x1680, .f32⟩
  | .hbm, ⟨10, _⟩ => ⟨S1024x1680, .f32⟩
  | .hbm, ⟨11, _⟩ => ⟨S_, .f32⟩
  | .hbm, ⟨12, _⟩ => ⟨S1024x1680, .f32⟩
  | .hbm, ⟨13, _⟩ => ⟨S1024x1680, .f32⟩
  | .hbm, ⟨14, _⟩ => ⟨S1024x1680, .f32⟩
  | .hbm, ⟨15, _⟩ => ⟨S_, .f32⟩
  | .hbm, ⟨16, _⟩ => ⟨S1024x1680, .f32⟩
  | .hbm, ⟨17, _⟩ => ⟨S1024x1680, .f32⟩
  | .hbm, ⟨18, _⟩ => ⟨S1024x1680, .f32⟩
  | .hbm, ⟨19, _⟩ => ⟨S_, .f32⟩
  | .hbm, ⟨20, _⟩ => ⟨S1024x1680, .f32⟩
  | .hbm, ⟨21, _⟩ => ⟨S1024x1680, .f32⟩
  | .hbm, ⟨22, _⟩ => ⟨S_, .f32⟩
  | .hbm, ⟨23, _⟩ => ⟨S1024x1680, .f32⟩
  | .hbm, ⟨24, _⟩ => ⟨S1024x1680, .f32⟩
  | .hbm, ⟨25, _⟩ => ⟨S1024x1680, .f32⟩
  | .hbm, ⟨26, _⟩ => ⟨S_, .f32⟩
  | .hbm, ⟨27, _⟩ => ⟨S1024x1680, .f32⟩
  | .hbm, ⟨28, _⟩ => ⟨S1024x1680, .f32⟩
  | .hbm, ⟨29, _⟩ => ⟨S1024x1680, .f32⟩
  | .hbm, ⟨30, _⟩ => ⟨S_, .f32⟩
  | .hbm, ⟨31, _⟩ => ⟨S1024x1680, .f32⟩
  | .hbm, ⟨32, _⟩ => ⟨S1024x1680, .f32⟩
  | .hbm, ⟨33, _⟩ => ⟨S1024x1680, .f32⟩
  | .hbm, ⟨34, _⟩ => ⟨S_, .f32⟩
  | .hbm, ⟨35, _⟩ => ⟨S1024x1680, .f32⟩
  | .hbm, ⟨36, _⟩ => ⟨S1024x1680, .f32⟩
  | .hbm, ⟨37, _⟩ => ⟨S1680x1024, .f32⟩
  | .hbm, ⟨38, _⟩ => ⟨S1680x1024, .f32⟩
  | .hbm, ⟨39, _⟩ => ⟨S1680x1024, .f32⟩
  | _, _ => ⟨S1024x1680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== ConvFwd.lean ====
abbrev S4096x1024 : Shape := ⟨2, ![4096, 1024]⟩
abbrev S31x1024 : Shape := ⟨2, ![31, 1024]⟩
abbrev S1024 : Shape := ⟨1, ![1024]⟩
abbrev S4096x3072 : Shape := ⟨2, ![4096, 3072]⟩
abbrev S_ : Shape := ⟨0, ![]⟩
abbrev S32x1024 : Shape := ⟨2, ![32, 1024]⟩
abbrev S1x1024 : Shape := ⟨2, ![1, 1024]⟩
abbrev S256x1024 : Shape := ⟨2, ![256, 1024]⟩
abbrev S288x1024 : Shape := ⟨2, ![288, 1024]⟩
abbrev S7x288x1024 : Shape := ⟨3, ![7, 288, 1024]⟩
abbrev S280x1024 : Shape := ⟨2, ![280, 1024]⟩
abbrev S1x280x1024 : Shape := ⟨3, ![1, 280, 1024]⟩
abbrev S1x32x1024 : Shape := ⟨3, ![1, 32, 1024]⟩
abbrev S256 : Shape := ⟨1, ![256]⟩
abbrev S256x1 : Shape := ⟨2, ![256, 1]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x3072, .f32⟩
  | .hbm, ⟨8, _⟩ => ⟨S_, .i32⟩
  | .hbm, ⟨9, _⟩ => ⟨S_, .f32⟩
  | .hbm, ⟨10, _⟩ => ⟨S32x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S288x1024, .f32⟩
  | .local _ .vmem, ⟨17, _⟩ => ⟨S7x288x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFwdRefIdeal.lean ====
abbrev S4096x1024 : Shape := ⟨2, ![4096, 1024]⟩
abbrev S31x1024 : Shape := ⟨2, ![31, 1024]⟩
abbrev S1024 : Shape := ⟨1, ![1024]⟩
abbrev S_ : Shape := ⟨0, ![]⟩
abbrev S30x1024 : Shape := ⟨2, ![30, 1024]⟩
abbrev S4126x1024 : Shape := ⟨2, ![4126, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S31x1x1024 : Shape := ⟨3, ![31, 1, 1024]⟩
abbrev S1x1024 : Shape := ⟨2, ![1, 1024]⟩
abbrev S4096 : Shape := ⟨1, ![4096]⟩
abbrev S4096x1 : Shape := ⟨2, ![4096, 1]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S31x1024, .f32⟩
  | 4 => ⟨S1024, .f32⟩
  | 5 => ⟨S1024, .f32⟩
  | 6 => ⟨S1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S30x1024, .f32⟩
  | 18 => ⟨S4126x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S1x4096x1024, .f32⟩
  | 51 => ⟨S1x4096x1024, .f32⟩
  | 52 => ⟨S1x4096x1024, .f32⟩
  | 53 => ⟨S1x4096x1024, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S16x4096x1024, .f32⟩
  | 82 => ⟨S15x4096x1024, .f32⟩
  | 83 => ⟨S31x4096x1024, .f32⟩
  | 84 => ⟨S31x1x1024, .f32⟩
  | 85 => ⟨S31x4096x1024, .f32⟩
  | 86 => ⟨S31x4096x1024, .f32⟩
  | 87 => ⟨S_, .f32⟩
  | 88 => ⟨S4096x1024, .f32⟩
  | 89 => ⟨S1x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x1, .f32⟩
  | 111 => ⟨S4096x1024, .f32⟩
  | 112 => ⟨S4096x1024, .f32⟩
  | 113 => ⟨S1x1024, .f32⟩
  | 114 => ⟨S4096x1024, .f32⟩
  | 115 => ⟨S4096x1024, .f32⟩
  | 116 => ⟨S1x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S4096x1024, .f32⟩
  | 9 => ⟨S4096x1024, .f32⟩
  | 10 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_2 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_3 : Ref sig .tc := ⟨.hbm, 92, rfl⟩
abbrev main_v81 : Ref sig .tc := ⟨.hbm, 93, rfl⟩
abbrev main_v82 : Ref sig .tc := ⟨.hbm, 94, rfl⟩
abbrev main_cst_4 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_5 : Ref sig .tc := ⟨.hbm, 101, rfl⟩
abbrev main_v88 : Ref sig .tc := ⟨.hbm, 102, rfl⟩
abbrev main_v89 : Ref sig .tc := ⟨.hbm, 103, rfl⟩
abbrev main_cst_6 : Ref sig .tc := ⟨.hbm, 104, rfl⟩
abbrev main_v90 : Ref sig .tc := ⟨.hbm, 105, rfl⟩
abbrev main_v91 : Ref sig .tc := ⟨.hbm, 106, rfl⟩
abbrev main_cst_7 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v103 : Ref sig .tc := ⟨.hbm, 127, rfl⟩
abbrev main_call1_v0 : Ref sig .tc := ⟨.hbm, 128, rfl⟩
abbrev main_call1_v1 : Ref sig .tc := ⟨.hbm, 129, rfl⟩
abbrev main_call1_cst : Ref sig .tc := ⟨.hbm, 130, rfl⟩
abbrev main_call1_v2 : Ref sig .tc := ⟨.hbm, 131, rfl⟩
abbrev main_call1_v3 : Ref sig .tc := ⟨.hbm, 132, rfl⟩
abbrev main_call1_cst_0 : Ref sig .tc := ⟨.hbm, 133, rfl⟩
abbrev main_call1_v4 : Ref sig .tc := ⟨.hbm, 134, rfl⟩
abbrev main_call1_v5 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩

abbrev nD : Nat := 1
abbrev τ : Topo := Topo.v7x

variable {F : FTy → Type} [FloatOps F]
-- ==== Proof.Rows.lean ====
/- Rows stored one at a time into a window, read at an index: the newest row that holds the index gives the value. -/
module

public import Idealize.ShloMosaic.Lib.Pipeline.ValueKit
public import Idealize.ShloMosaic.Lib.Pipeline.ReadBack
public import Idealize.ShloMosaic.Lib.Pointwise
public import Idealize.ShloMosaic.Lib.WritesUnit

@[expose] public section

noncomputable section

open Idealize.ShloMosaic
open scoped BigOperators

namespace Cert.Rows

variable {sig : RefSig} {κ : Kind} {sp : Space} {e : EltTy} {Val : EltTy → Type} {m n o : ℕ}

theorem emb_row (inb : ∀ a, (![o, 0] : Fin 2 → ℕ) a + (![1, n] : Fin 2 → ℕ) a ≤ (⟨2, ![m, n]⟩ : Shape).size a) (a : Fin m) (j : Fin n) (h : a.val = o) :
    (Rect.unit (s := (⟨2, ![m, n]⟩ : Shape)) ![o, 0] ![1, n] inb).emb (ix2 (0 : Fin 1) j) = (ix2 a j : (⟨2, ![m, n]⟩ : Shape).Idx) := by
  funext x
  refine Fin.cases ?_ (fun x => ?_) x
  · exact Fin.ext (by show o + 1 * 0 = a.val; omega)
  · obtain rfl : x = 0 := Subsingleton.elim _ _
    exact Fin.ext (by show 0 + 1 * j.val = j.val; omega)

theorem not_mem_row (inb : ∀ a, (![o, 0] : Fin 2 → ℕ) a + (![1, n] : Fin 2 → ℕ) a ≤ (⟨2, ![m, n]⟩ : Shape).size a) (a : Fin m) (j : Fin n) (h : a.val ≠ o) :
    (ix2 a j : (⟨2, ![m, n]⟩ : Shape).Idx) ∉ (Rect.unit (s := (⟨2, ![m, n]⟩ : Shape)) ![o, 0] ![1, n] inb).set := by
  rw [Rect.mem_set_unit]
  intro hall
  have h0 := hall (0 : Fin 2)
  have h1 : o ≤ a.val ∧ a.val < o + 1 := h0
  omega

/-- The newest piece is row `o`, and the index lies in row `o`. -/
theorem canon_hit [∀ e, Nonempty (Val e)] (inb : ∀ a, (![o, 0] : Fin 2 → ℕ) a + (![1, n] : Fin 2 → ℕ) a ≤ (⟨2, ![m, n]⟩ : Shape).size a)
    (w : (⟨2, ![1, n]⟩ : Shape).Idx → Val e) (L : List (View.Piece Val (⟨2, ![m, n]⟩ : Shape) e)) (a : Fin m) (j : Fin n) (h : a.val = o) :
    View.canon ((⟨Rect.unit (s := (⟨2, ![m, n]⟩ : Shape)) ![o, 0] ![1, n] inb, w⟩ : View.Piece Val (⟨2, ![m, n]⟩ : Shape) e) :: L) (ix2 a j) = w (ix2 0 j) := by
  rw [← emb_row inb a j h]
  exact View.canon_cons_emb _ _ _ _

/-- The newest piece is row `o`, and the index lies in another row. -/
theorem canon_miss [∀ e, Nonempty (Val e)] (inb : ∀ a, (![o, 0] : Fin 2 → ℕ) a + (![1, n] : Fin 2 → ℕ) a ≤ (⟨2, ![m, n]⟩ : Shape).size a)
    (w : (⟨2, ![1, n]⟩ : Shape).Idx → Val e) (L : List (View.Piece Val (⟨2, ![m, n]⟩ : Shape) e)) (a : Fin m) (j : Fin n) (h : a.val ≠ o) :
    View.canon ((⟨Rect.unit (s := (⟨2, ![m, n]⟩ : Shape)) ![o, 0] ![1, n] inb, w⟩ : View.Piece Val (⟨2, ![m, n]⟩ : Shape) e) :: L) (ix2 a j) = View.canon L (ix2 a j) :=
  View.canon_cons_of_not_mem _ L (not_mem_row inb a j h)

/-- The same over a buffer that held `f`. -/
theorem writes_hit (v : View sig κ sp (⟨2, ![m, n]⟩ : Shape) e) (f : v.ty.shape.Idx → Val v.ty.elt)
    (inb : ∀ a, (![o, 0] : Fin 2 → ℕ) a + (![1, n] : Fin 2 → ℕ) a ≤ (⟨2, ![m, n]⟩ : Shape).size a)
    (w : (⟨2, ![1, n]⟩ : Shape).Idx → Val e) (L : List (View.Piece Val (⟨2, ![m, n]⟩ : Shape) e)) (a : Fin m) (j : Fin n) (h : a.val = o) :
    v.read Val (v.writes Val f ((⟨Rect.unit (s := (⟨2, ![m, n]⟩ : Shape)) ![o, 0] ![1, n] inb, w⟩ : View.Piece Val (⟨2, ![m, n]⟩ : Shape) e) :: L)) (ix2 a j)
      = w (ix2 0 j) :=
  View.read_writes_cons_rows_of_mem v f inb w L (ix2 a j) (ix2 (0 : Fin 1) j) rfl (by show a.val = o + 0; omega) rfl

theorem writes_miss (v : View sig κ sp (⟨2, ![m, n]⟩ : Shape) e) (f : v.ty.shape.Idx → Val v.ty.elt)
    (inb : ∀ a, (![o, 0] : Fin 2 → ℕ) a + (![1, n] : Fin 2 → ℕ) a ≤ (⟨2, ![m, n]⟩ : Shape).size a)
    (w : (⟨2, ![1, n]⟩ : Shape).Idx → Val e) (L : List (View.Piece Val (⟨2, ![m, n]⟩ : Shape) e)) (a : Fin m) (j : Fin n) (h : a.val ≠ o) :
    v.read Val (v.writes Val f ((⟨Rect.unit (s := (⟨2, ![m, n]⟩ : Shape)) ![o, 0] ![1, n] inb, w⟩ : View.Piece Val (⟨2, ![m, n]⟩ : Shape) e) :: L)) (ix2 a j)
      = v.read Val (v.writes Val f L) (ix2 a j) :=
  View.read_writes_cons_rows_of_not_mem v f inb w L (ix2 a j) rfl rfl (by show a.val < o ∨ o + 1 ≤ a.val; omega)

/-- Row `o` of the array, loaded through its rectangle. -/
theorem ld_row (inb : ∀ a, (![o, 0] : Fin 2 → ℕ) a + (![1, n] : Fin 2 → ℕ) a ≤ (⟨2, ![m, n]⟩ : Shape).size a) (X : (⟨2, ![m, n]⟩ : Shape).Idx → Val e)
    (a : Fin m) (j : Fin n) (h : a.val = o) :
    View.ld X (Rect.unit (s := (⟨2, ![m, n]⟩ : Shape)) ![o, 0] ![1, n] inb) (ix2 (0 : Fin 1) j) = X (ix2 a j) := by
  rw [← emb_row inb a j h]; rfl

end Cert.Rows

end
-- ==== Proof.Reals.lean ====
/- Facts about extended reals that every value proof here uses: finite arrays are arrays of reals, the operations on them are
   the operations on reals, and the constants the programs name. -/
module

public import Idealize.ShloMosaic.PureOps.Ideal
public import Idealize.ShloMosaic.Lib.ReduceAll
public import Idealize.ShloMosaic.Lib.Pointwise

@[expose] public section

noncomputable section

open Idealize.ShloMosaic
open scoped BigOperators

namespace Cert.Reals

/-- The pattern of the largest exponent is the point at infinity. -/
theorem inf_eq : Ideal.ofBits .f32 0x7F800000#32 = (⊤ : EReal) := by
  simp [Ideal.ofBits, Ideal.ieee]

/-- An extended real whose absolute value lies below infinity is a real. -/
theorem real_of_cmp (x : EReal) (h : Ideal.cmp .olt (max x (-x)) (Ideal.ofBits .f32 0x7F800000#32) = 1#1) :
    x = ((x.toReal : ℝ) : EReal) := by
  rw [inf_eq] at h
  induction x with
  | bot => simp [Ideal.cmp] at h
  | top => simp [Ideal.cmp] at h
  | coe r => simp

/-- Where the test «every absolute value lies below infinity» is one, the array is one of reals. -/
theorem real_of_all {s t u z : Shape} {axes : List (Fin s.rank)} [Subsingleton t.Idx] (x : FVec Ideal s .f32)
    (dims : Fin z.rank → Fin s.rank) (hb : z.BroadcastsInDim s dims) (one : u.Idx → BitVec 1) (hr : s.ReducesTo axes t)
    (hu : 0 < u.numel) (j : t.Idx)
    (h : Host.reduce IntOp.andi (cmpf .olt (Host.absf x) (broadcastInDim s dims hb (constant (F := Ideal) z .f32 0x7F800000#32))) one hr hu j
      = 1#1) : ∃ r : s.Idx → ℝ, x = fun i => ((r i : ℝ) : EReal) := by
  refine ⟨fun i => (x i : EReal).toReal, funext fun i => ?_⟩
  have e := Host.reduce_andi_all _ one hr hu j h i
  exact real_of_cmp (x i) e

/-- A sum of reals, taken as extended reals, is the sum taken as reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sitofp_zero : (FloatOps.sitofp FTy.f32 (0#32) : Ideal .f32) = (0 : EReal) := by
  show (((0#32).toInt : ℝ) : EReal) = 0
  simp

theorem one_eq : Ideal.ofBits .f32 0x3F800000#32 = ((1 : ℝ) : EReal) := by
  simp [Ideal.ofBits, Ideal.ieee, -EReal.coe_mul]; norm_num
theorem k1024_eq : Ideal.ofBits .f32 0x44800000#32 = ((1024 : ℝ) : EReal) := by
  simp [Ideal.ofBits, Ideal.ieee, -EReal.coe_mul]; norm_num
theorem neg_half_eq : Ideal.ofBits .f32 0xBF000000#32 = ((-(1 / 2) : ℝ) : EReal) := by
  simp [Ideal.ofBits, Ideal.ieee, -EReal.coe_mul]; norm_num

/-- The constant added to a mean square before its root is taken. -/
def eps : ℝ := 8796093 / 8796093022208
theorem eps_eq : Ideal.ofBits .f32 0x358637BD#32 = ((eps : ℝ) : EReal) := by
  simp [Ideal.ofBits, Ideal.ieee, -EReal.coe_mul, eps]; norm_num
theorem eps_pos : 0 < eps := by norm_num [eps]

/-- The reciprocal root of a positive real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem div_coe' {y : ℝ} (h : y ≠ 0) (x : ℝ) : Ideal.div (x : EReal) (y : EReal) = ((x / y : ℝ) : EReal) := by
  rw [Ideal.div_coe h, ← EReal.coe_mul]; congr 1; ring

/-- A mean of squares and the constant is positive. -/
theorem ms_pos {n : ℕ} (k : ℝ) (hk : 0 < k) (f : Fin n → ℝ) : 0 < (∑ i, f i * f i) / k + eps :=
  add_pos_of_nonneg_of_pos (div_nonneg (Finset.sum_nonneg fun i _ => mul_self_nonneg _) hk.le) eps_pos

theorem inv_sqrt_sq {v : ℝ} (h : 0 < v) : (Real.sqrt v)⁻¹ * (Real.sqrt v)⁻¹ = 1 / v := by
  rw [← mul_inv, Real.mul_self_sqrt h.le, one_div]

/-- The logistic function, as the reference spells it. -/
theorem logistic_eq (x : EReal) : Ideal.div 1 (1 + Ideal.exp (-x)) = Ideal.logistic x := by
  induction x using EReal.rec with
  | bot =>
    have : (1 : EReal) + ⊤ = ⊤ := EReal.add_top_of_ne_bot (EReal.coe_ne_bot 1)
    simp [Ideal.div, this]
  | top => simp [Ideal.div]
  | coe r =>
    rw [← EReal.coe_neg, Ideal.exp_coe, Ideal.logistic_coe, ← EReal.coe_one, ← EReal.coe_add,
      div_coe' (by positivity), one_div]

/-- A value that is a real. -/
def Rl (x : EReal) : Prop := ∃ r : ℝ, x = (r : EReal)

theorem Rl.mul {x y : EReal} (hx : Rl x) (hy : Rl y) : Rl (x * y) := by
  obtain ⟨a, rfl⟩ := hx; obtain ⟨b, rfl⟩ := hy; exact ⟨a * b, (EReal.coe_mul a b).symm⟩
theorem Rl.add {x y : EReal} (hx : Rl x) (hy : Rl y) : Rl (x + y) := by
  obtain ⟨a, rfl⟩ := hx; obtain ⟨b, rfl⟩ := hy; exact ⟨a + b, (EReal.coe_add a b).symm⟩
theorem Rl.sub {x y : EReal} (hx : Rl x) (hy : Rl y) : Rl (x - y) := by
  obtain ⟨a, rfl⟩ := hx; obtain ⟨b, rfl⟩ := hy; exact ⟨a - b, (EReal.coe_sub a b).symm⟩
theorem Rl.neg {x : EReal} (hx : Rl x) : Rl (-x) := by
  obtain ⟨a, rfl⟩ := hx; exact ⟨-a, (EReal.coe_neg a).symm⟩
theorem Rl.sum {n : ℕ} {f : Fin n → EReal} (h : ∀ k, Rl (f k)) : Rl (∑ k, f k) := by
  choose g hg using h
  exact ⟨∑ k, g k, by simp only [hg, coe_sum]⟩
theorem Rl.cos {x : EReal} (hx : Rl x) : Rl (Ideal.cos x) := by obtain ⟨a, rfl⟩ := hx; exact ⟨_, Ideal.cos_coe a⟩
theorem Rl.sin {x : EReal} (hx : Rl x) : Rl (Ideal.sin x) := by obtain ⟨a, rfl⟩ := hx; exact ⟨_, Ideal.sin_coe a⟩
theorem Rl.logistic (x : EReal) : Rl (Ideal.logistic x) := by
  induction x using EReal.rec with
  | bot => exact ⟨0, by simp⟩
  | top => exact ⟨1, by simp⟩
  | coe r => exact ⟨_, Ideal.logistic_coe r⟩

end Cert.Reals

end
-- ==== Proof.InputPt.lean ====
/- The value facts of the gradient of the input projection and its norm. -/
module

public import proofs.«01_k».proof.Defs
public import proofs.«01_k».proof.Proof.Gen.InputBwdIdeal.Value
public import proofs.«01_k».proof.Proof.Gen.InputRefIdeal.Run
public import Idealize.ShloMosaic.Lib.Pipeline.ValueKit
public import Idealize.ShloMosaic.Lib.Pointwise
public import Idealize.ShloMosaic.Lib.WritesUnit
public import proofs.«01_k».proof.Proof.Rows
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.InputBwdIdeal.Value

open Cert.InputBwdIdeal Cert.InputBwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![0, 0] ∧ win0_9.index t = ![0, 0]
    ∧ win0_10.index t = ![t.val, 0] ∧ win0_11.index t = ![0, 0] :=
  (by decide +kernel : ∀ t : Fin grid0.N, _)

/-- The array row of row `r` of block `t`. -/
def row (t : Fin cfg0.N) (r : Fin 512) : Fin 4096 := ⟨t.val * 512 + r.val, by have := t.isLt; have : cfg0.N = 8 := N_0; omega⟩

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024 .f32 := m ((c : Thread nD τ).loc main_arg2)
abbrev A3 (c : Dev nD) : FVec Ideal S1024x6720 .f32 := m ((c : Thread nD τ).loc main_arg3)
abbrev A4 (c : Dev nD) : FVec Ideal S4096x6720 .f32 := m ((c : Thread nD τ).loc main_arg4)
abbrev A5 (c : Dev nD) : FVec Ideal S4096x1024 .f32 := m ((c : Thread nD τ).loc main_arg5)

theorem blk0 (c : Dev nD) (t : Fin cfg0.N) (r : Fin 512) (k : Fin 3072) :
    iblk m c 0 t (ix2 r k) = A4 m c (ix2 (row t r) ⟨k.val, by omega⟩) := by
  blk_simp [iblk, idx t]
  simp only [V, hostOps0, hostOps0_1, hostOps0_2, hostOps0_3, hostOps0_4, List.flatten_cons, List.flatten_nil, List.append_nil,
    List.cons_append, List.nil_append]
  entry_read; pointwise; blk_ext [idx t, row]
theorem blk1 (c : Dev nD) (t : Fin cfg0.N) (r : Fin 512) (k : Fin 640) :
    iblk m c 1 t (ix2 r k) = if h : k.val < 576 then A4 m c (ix2 (row t r) ⟨3072 + k.val, by omega⟩) else 0 := by
  blk_simp [iblk, idx t]
  simp only [V, hostOps0, hostOps0_1, hostOps0_2, hostOps0_3, hostOps0_4, List.flatten_cons, List.flatten_nil, List.append_nil,
    List.cons_append, List.nil_append]
  entry_read
  simp -implicitDefEqProofs only [StableHlo.TRef.toBuf, StableHlo.TRef.ofBuf, cast_cast, cast_eq]
  pointwise
  blk_simp [idx t]
  split_ifs with h
  · blk_ext [idx t, row]
  · exact Cert.Reals.sitofp_zero
theorem blk2 (c : Dev nD) (t : Fin cfg0.N) (r : Fin 512) (k : Fin 3072) :
    iblk m c 2 t (ix2 r k) = A4 m c (ix2 (row t r) ⟨3648 + k.val, by omega⟩) := by
  blk_simp [iblk, idx t]
  simp only [V, hostOps0, hostOps0_1, hostOps0_2, hostOps0_3, hostOps0_4, List.flatten_cons, List.flatten_nil, List.append_nil,
    List.cons_append, List.nil_append]
  entry_read; pointwise; blk_ext [idx t, row]
theorem blk3 (c : Dev nD) (t : Fin cfg0.N) (r : Fin 1024) (k : Fin 3072) :
    iblk m c 3 t (ix2 r k) = A3 m c (ix2 r ⟨k.val, by omega⟩) := by
  blk_simp [iblk, idx t]
  simp only [V, hostOps0, hostOps0_1, hostOps0_2, hostOps0_3, hostOps0_4, List.flatten_cons, List.flatten_nil, List.append_nil,
    List.cons_append, List.nil_append]
  entry_read; pointwise; blk_ext [idx t, row]
theorem blk4 (c : Dev nD) (t : Fin cfg0.N) (r : Fin 1024) (k : Fin 640) :
    iblk m c 4 t (ix2 r k) = if h : k.val < 576 then A3 m c (ix2 r ⟨3072 + k.val, by omega⟩) else 0 := by
  blk_simp [iblk, idx t]
  simp only [V, hostOps0, hostOps0_1, hostOps0_2, hostOps0_3, hostOps0_4, List.flatten_cons, List.flatten_nil, List.append_nil,
    List.cons_append, List.nil_append]
  entry_read
  simp -implicitDefEqProofs only [StableHlo.TRef.toBuf, StableHlo.TRef.ofBuf, cast_cast, cast_eq]
  pointwise
  blk_simp [idx t]
  split_ifs with h
  · blk_ext [idx t, row]
  · exact Cert.Reals.sitofp_zero
theorem blk5 (c : Dev nD) (t : Fin cfg0.N) (r : Fin 1024) (k : Fin 3072) :
    iblk m c 5 t (ix2 r k) = A3 m c (ix2 r ⟨3648 + k.val, by omega⟩) := by
  blk_simp [iblk, idx t]
  simp only [V, hostOps0, hostOps0_1, hostOps0_2, hostOps0_3, hostOps0_4, List.flatten_cons, List.flatten_nil, List.append_nil,
    List.cons_append, List.nil_append]
  entry_read; pointwise; blk_ext [idx t, row]
theorem blk6 (c : Dev nD) (t : Fin cfg0.N) (r : Fin 512) (k : Fin 1024) :
    iblk m c 6 t (ix2 r k) = A0 m c (ix2 (row t r) k) := by
  blk_ext [iblk, V, idx t, row]
theorem blk7 (c : Dev nD) (t : Fin cfg0.N) (r : Fin 512) (k : Fin 1024) :
    iblk m c 7 t (ix2 r k) = A5 m c (ix2 (row t r) k) := by
  blk_ext [iblk, V, idx t, row]
theorem blk8 (c : Dev nD) (t : Fin cfg0.N) (r : Fin 1) (k : Fin 1024) :
    iblk m c 8 t (ix2 r k) = A1 m c (ix1 k) := by
  blk_simp [iblk, idx t]
  simp only [V, hostOps0, hostOps0_1, hostOps0_2, hostOps0_3, hostOps0_4, List.flatten_cons, List.flatten_nil, List.append_nil,
    List.cons_append, List.nil_append]
  entry_read; pointwise; blk_ext [idx t, row]
theorem blk9 (c : Dev nD) (t : Fin cfg0.N) (r : Fin 1) (k : Fin 1024) :
    iblk m c 9 t (ix2 r k) = A2 m c (ix1 k) := by
  blk_simp [iblk, idx t]
  simp only [V, hostOps0, hostOps0_1, hostOps0_2, hostOps0_3, hostOps0_4, List.flatten_cons, List.flatten_nil, List.append_nil,
    List.cons_append, List.nil_append]
  entry_read; pointwise; blk_ext [idx t, row]

/-- The gradient of the projected rows. -/
def dh (a3 : FVec Ideal S1024x6720 .f32) (a4 : FVec Ideal S4096x6720 .f32) (s : Fin 4096) (d : Fin 1024) : EReal :=
  ∑ k : Fin 6720, (a4 (ix2 s k) : EReal) * a3 (ix2 d k)

/-- The three groups of columns, one after the other, are the columns. -/
theorem sum_groups (f : Fin 6720 → EReal) (g : Fin 640 → EReal) (hg : ∀ k : Fin 576, g (Fin.castAdd 64 k) = f ⟨3072 + k.val, by omega⟩)
    (hz : ∀ k : Fin 64, g (Fin.natAdd 576 k) = 0) :
    (∑ k : Fin 3072, f ⟨k.val, by omega⟩) + (∑ k : Fin 640, g k) + (∑ k : Fin 3072, f ⟨3648 + k.val, by omega⟩) = ∑ k, f k := by
  have e : (∑ k : Fin 640, g k) = ∑ k : Fin 576, f ⟨3072 + k.val, by omega⟩ := by
    refine (Fin.sum_univ_add (a := 576) (b := 64) g).trans ?_
    rw [Finset.sum_eq_zero (s := Finset.univ) (fun k _ => hz k), add_zero]
    exact Finset.sum_congr rfl fun k _ => hg k
  rw [e]
  have s1 := Fin.sum_univ_add (a := 3072) (b := 576 + 3072) (fun k : Fin (3072 + (576 + 3072)) => f k)
  have s2 := Fin.sum_univ_add (a := 576) (b := 3072) (fun k : Fin (576 + 3072) => f (Fin.natAdd 3072 k))
  refine Eq.trans ?_ s1.symm
  rw [s2, ← add_assoc]
  refine congrArg₂ (· + ·) rfl (Finset.sum_congr rfl fun k _ => congrArg f (Fin.ext ?_))
  show 3648 + k.val = 3072 + (576 + k.val)
  omega

theorem dh_blk (c : Dev nD) (t : Fin cfg0.N) (r : Fin 512) (d : Fin 1024) :
    k0_pay3 (iblk m c 0 t) (iblk m c 3 t) (iblk m c 1 t) (iblk m c 4 t) (iblk m c 2 t) (iblk m c 5 t) (ix2 r d)
      = dh (A3 m c) (A4 m c) (row t r) d := by
  pointwise [k0_pay3]
  simp only [blk0, blk1, blk2, blk3, blk4, blk5]
  refine sum_groups (fun k => (A4 m c (ix2 (row t r) k) : EReal) * A3 m c (ix2 d k)) _ (fun k => ?_) (fun k => ?_)
  · have h : (Fin.castAdd 64 k).val < 576 := k.isLt
    rw [dif_pos h, dif_pos h]; rfl
  · have h : ¬ (Fin.natAdd 576 k).val < 576 := by simp [Fin.natAdd]
    rw [dif_neg h]; exact zero_mul _

/-- The reciprocal root of the mean square of a row. -/
def rr (a0 : FVec Ideal S4096x1024 .f32) (s : Fin 4096) : EReal :=
  Ideal.rsqrt (Ideal.div (∑ x : Fin 1024, (a0 (ix2 s x) : EReal) * a0 (ix2 s x)) (Ideal.ofBits FTy.f32 1149239296#32) + Ideal.ofBits FTy.f32 897988541#32)

/-- The gradient of the normed rows. -/
def dxh (a1 a2 : FVec Ideal S1024 .f32) (a3 : FVec Ideal S1024x6720 .f32) (a4 : FVec Ideal S4096x6720 .f32) (s : Fin 4096) (d : Fin 1024) : EReal :=
  dh a3 a4 s d * (1 + (a2 (ix1 d) : EReal)) * a1 (ix1 d)

/-- The gradient of the rows, as the kernel computes it. -/
def gx (a0 : FVec Ideal S4096x1024 .f32) (a1 a2 : FVec Ideal S1024 .f32) (a3 : FVec Ideal S1024x6720 .f32) (a4 : FVec Ideal S4096x6720 .f32)
    (a5 : FVec Ideal S4096x1024 .f32) (s : Fin 4096) (d : Fin 1024) : EReal :=
  (a5 (ix2 s d) : EReal) + rr a0 s * (dxh a1 a2 a3 a4 s d - a0 (ix2 s d) * rr a0 s
    * Ideal.div (∑ x : Fin 1024, dxh a1 a2 a3 a4 s x * ((a0 (ix2 s x) : EReal) * rr a0 s)) (Ideal.ofBits FTy.f32 1149239296#32))

theorem final_10 (c : Dev nD) : (dats m 0 c).arrAt 10 (cfgs 0).N
    = (fun i => gx (A0 m c) (A1 m c) (A2 m c) (A3 m c) (A4 m c) (A5 m c) (i 0) (i 1) : FVec Ideal S4096x1024 .f32) := by
  refine (dats m 0 c).arrAt_eq_of_covers 10 _ (by decide +kernel) fun t hf y => ?_
  blk_simp; rw [after0_10]
  have out : (outsAt0 m c t.val t.isLt).1 = k0_pay1 (k0_pay4 (iblk m c 6 t)) (k0_pay5 (iblk m c 6 t))
      (k0_pay11 (k0_pay3 (iblk m c 0 t) (iblk m c 3 t) (iblk m c 1 t) (iblk m c 4 t) (iblk m c 2 t) (iblk m c 5 t))
        (k0_pay6 (iblk m c 8 t)) (iblk m c 9 t))
      (iblk m c 7 t)
      (k0_pay12 (k0_pay3 (iblk m c 0 t) (iblk m c 3 t) (iblk m c 1 t) (iblk m c 4 t) (iblk m c 2 t) (iblk m c 5 t))
        (k0_pay5 (iblk m c 6 t)) (k0_pay6 (iblk m c 8 t)) (iblk m c 9 t)) := by
    by_cases h : t.val % 8 = 0
    · rw [outsAt0_A m c t h]; frame_out
    · rw [outsAt0_B m c t h]; frame_out
  rw [out]
  idx_vars y
  have e0 : (((cfgs 0).win 10).blk t).view.emb (ix2 y0 y1) = (ix2 (row t y0) y1 : S4096x1024.Idx) := by blk_ext [idx t, row]
  pointwise [k0_pay1, k0_pay4, k0_pay5, k0_pay6, k0_pay11, k0_pay12]
  simp only [k0_pay9]
  pointwise
  simp only [dh_blk, blk6, blk7, blk8, blk9]
  refine Eq.trans ?_ (congrArg (fun i : S4096x1024.Idx => gx (A0 m c) (A1 m c) (A2 m c) (A3 m c) (A4 m c) (A5 m c) (i 0) (i 1)) e0.symm)
  rfl

/-- What one row adds to row `a` of the sums: the gradient of the shift, of the scale, of the norm's weight. -/
def part (a0 : FVec Ideal S4096x1024 .f32) (a1 a2 : FVec Ideal S1024 .f32) (a3 : FVec Ideal S1024x6720 .f32) (a4 : FVec Ideal S4096x6720 .f32)
    (a : Fin 8) (d : Fin 1024) (s : Fin 4096) : EReal :=
  if a.val = 2 then dh a3 a4 s d * (1 + (a2 (ix1 d) : EReal)) * ((a0 (ix2 s d) : EReal) * rr a0 s)
  else if a.val = 1 then dh a3 a4 s d * ((a0 (ix2 s d) : EReal) * rr a0 s * a1 (ix1 d))
  else if a.val = 0 then dh a3 a4 s d else 0

theorem zero_fill (i : S8x1024.Idx) : k0_pay2 (F := Ideal) i = (0 : EReal) := by
  idx_vars i
  pointwise [k0_pay2]

theorem step_A (c : Dev nD) (t : Fin cfg0.N) (h : t.val % 8 = 0) (j0 : Fin 8) (j1 : Fin 1024) :
    (outsAt0 m c t.val t.isLt).2 (ix2 j0 j1) = (0 : EReal) + ∑ r : Fin 512, part (A0 m c) (A1 m c) (A2 m c) (A3 m c) (A4 m c) j0 j1 (row t r) := by
  rw [outsAt0_A m c t h]; frame_open
  simp (disch := decide) only [↓ View.readCov_skip, ↓ View.readCov_cons_toLoadRect, ↓ View.readCov_fill]
  frame_out
  by_cases h2 : j0.val = 2
  · obtain rfl : j0 = 2 := Fin.ext h2
    rw [Cert.Rows.canon_hit _ _ _ 2 j1 h2]
    pointwise [k0_pay10, k0_pay9, k0_pay5, k0_pay4]
    simp only [dh_blk, blk6, blk7, blk8, blk9, zero_fill]
    refine (zero_add _).trans ?_
    rfl
  rw [Cert.Rows.canon_miss _ _ _ j0 j1 h2]
  by_cases h1 : j0.val = 1
  · obtain rfl : j0 = 1 := Fin.ext h1
    rw [Cert.Rows.canon_hit _ _ _ 1 j1 h1]
    pointwise [k0_pay8, k0_pay6, k0_pay5, k0_pay4]
    simp only [dh_blk, blk6, blk7, blk8, blk9, zero_fill]
    refine (zero_add _).trans ?_
    rfl
  rw [Cert.Rows.canon_miss _ _ _ j0 j1 h1]
  by_cases h0 : j0.val = 0
  · obtain rfl : j0 = 0 := Fin.ext h0
    rw [Cert.Rows.canon_hit _ _ _ 0 j1 h0]
    pointwise [k0_pay7]
    simp only [dh_blk, blk6, blk7, blk8, blk9, zero_fill]
    refine (zero_add _).trans ?_
    rfl
  rw [Cert.Rows.canon_miss _ _ _ j0 j1 h0]
  simp only [part, if_neg h2, if_neg h1, if_neg h0, Finset.sum_const_zero, add_zero]
  rw [View.canon_cons_unit_lit' _ _ _ (by decide)]
  exact zero_fill _

theorem step_B (c : Dev nD) (t : Fin cfg0.N) (h : ¬ t.val % 8 = 0)  (j0 : Fin 8) (j1 : Fin 1024) :
    (outsAt0 m c t.val t.isLt).2 (ix2 j0 j1) = ((outsAt0 m c (t.val - 1) (by omega)).2 (ix2 j0 j1) : EReal)
      + ∑ r : Fin 512, part (A0 m c) (A1 m c) (A2 m c) (A3 m c) (A4 m c) j0 j1 (row t r) := by
  rw [outsAt0_B m c t h]; frame_out
  by_cases h2 : j0.val = 2
  · obtain rfl : j0 = 2 := Fin.ext h2
    refine (Cert.Rows.writes_hit _ _ _ _ _ 2 j1 h2).trans ?_
    pointwise [k0_pay10, k0_pay9, k0_pay5, k0_pay4]
    simp only [dh_blk, blk6, blk7, blk8, blk9]
    rfl
  refine (Cert.Rows.writes_miss _ _ _ _ _ j0 j1 h2).trans ?_
  by_cases h1 : j0.val = 1
  · obtain rfl : j0 = 1 := Fin.ext h1
    refine (Cert.Rows.writes_hit _ _ _ _ _ 1 j1 h1).trans ?_
    pointwise [k0_pay8, k0_pay6, k0_pay5, k0_pay4]
    simp only [dh_blk, blk6, blk7, blk8, blk9]
    rfl
  refine (Cert.Rows.writes_miss _ _ _ _ _ j0 j1 h1).trans ?_
  by_cases h0 : j0.val = 0
  · obtain rfl : j0 = 0 := Fin.ext h0
    refine (Cert.Rows.writes_hit _ _ _ _ _ 0 j1 h0).trans ?_
    pointwise [k0_pay7]
    simp only [dh_blk, blk6, blk7, blk8, blk9]
    rfl
  refine (Cert.Rows.writes_miss _ _ _ _ _ j0 j1 h0).trans ?_
  simp only [part, if_neg h2, if_neg h1, if_neg h0, Finset.sum_const_zero, add_zero]
  exact congrFun ((hs0_11 t).read_unread _) _

theorem final_11 (c : Dev nD) : (dats m 0 c).arrAt 11 (cfgs 0).N
    = (fun i => ∑ s : Fin 4096, part (A0 m c) (A1 m c) (A2 m c) (A3 m c) (A4 m c) (i 0) (i 1) s : FVec Ideal S8x1024 .f32) := by
  refine (dats m 0 c).arrAt_eq_of_after_last 11 t0_7 (by decide +kernel) _ fun j => ?_
  blk_simp
  idx_vars j
  rw [after0_11, Pipeline.eq_sum_fin_of_reset_step_apply_last (fun n h => (outsAt0 m c n h).2) 8 (fun _ => (0 : EReal))
    (fun t j => (∑ r : Fin 512, part (A0 m c) (A1 m c) (A2 m c) (A3 m c) (A4 m c) (j 0) (j 1) (row t r) : EReal))
    (fun t h j => by idx_vars j; exact step_A m c t h j0 j1) (fun t h j => by idx_vars j; exact step_B m c t h j0 j1) (le_of_eq N_0) t0_7 rfl (ix2 j0 j1), zero_add]
  exact (Fin.sum_univ_tiles 8 512 rfl (fun s => part (A0 m c) (A1 m c) (A2 m c) (A3 m c) (A4 m c) j0 j1 s)).symm

end Cert.InputBwdIdeal.Value

end
-- ==== Proof.InputEq.lean ====
/- The gradient of the input projection and its norm: the kernel's results are the reference's. -/
module

public import proofs.«01_k».proof.Proof.InputPt
public import proofs.«01_k».proof.Proof.Gen.Pre_input_finite

@[expose] public section

set_option maxRecDepth 16384

noncomputable section

open Idealize.ShloMosaic Idealize.ShloMosaic.TcCoe Idealize.SL.Sem
open scoped BigOperators

namespace Cert.InputBwdIdeal.Value

open Cert.Reals

/-- The arguments the condition names are arrays of reals. -/
theorem reals {a0 : FVec Ideal S4096x1024 .f32} {a1 a2 : FVec Ideal S1024 .f32} {a3 : FVec Ideal S1024x6720 .f32}
    {a4 : FVec Ideal S4096x6720 .f32} {a5 : FVec Ideal S4096x1024 .f32}
    (h : Cert.Pre_input_finite.fn (F := Ideal) a0 a1 a2 a3 a4 a5 = fun _ => 1#1) :
    (∃ x0 : S4096x1024.Idx → ℝ, a0 = fun i => ((x0 i : ℝ) : EReal)) ∧ (∃ x1 : S1024.Idx → ℝ, a1 = fun i => ((x1 i : ℝ) : EReal))
    ∧ (∃ x2 : S1024.Idx → ℝ, a2 = fun i => ((x2 i : ℝ) : EReal)) ∧ (∃ x3 : S1024x6720.Idx → ℝ, a3 = fun i => ((x3 i : ℝ) : EReal))
    ∧ (∃ x4 : S4096x6720.Idx → ℝ, a4 = fun i => ((x4 i : ℝ) : EReal)) := by
  have e := congrFun h (fun a => a.elim0)
  simp only [Cert.Pre_input_finite.fn, Cert.Pre_input_finite.fn_part1, andi, IntOp.andi_eq_one] at e
  obtain ⟨⟨⟨⟨h0, h1⟩, h2⟩, h3⟩, h4⟩ := e
  exact ⟨real_of_all a0 _ _ _ _ _ _ h0, real_of_all a1 _ _ _ _ _ _ h1, real_of_all a2 _ _ _ _ _ _ h2, real_of_all a3 _ _ _ _ _ _ h3,
    real_of_all a4 _ _ _ _ _ _ h4⟩

section
variable (x0 : S4096x1024.Idx → ℝ) (x1 x2 : S1024.Idx → ℝ) (x3 : S1024x6720.Idx → ℝ) (x4 : S4096x6720.Idx → ℝ)

/-- The mean square of a row and the constant. -/
def msR (s : Fin 4096) : ℝ := (∑ x : Fin 1024, x0 (ix2 s x) * x0 (ix2 s x)) / 1024 + eps
def dxhR (s : Fin 4096) (d : Fin 1024) : ℝ := (∑ k : Fin 6720, x4 (ix2 s k) * x3 (ix2 d k)) * (1 + x2 (ix1 d)) * x1 (ix1 d)

theorem ms_eq (s : Fin 4096) : Ideal.div (∑ x : Fin 1024, ((x0 (ix2 s x) : ℝ) : EReal) * ((x0 (ix2 s x) : ℝ) : EReal)) (Ideal.ofBits FTy.f32 1149239296#32)
      + Ideal.ofBits FTy.f32 897988541#32 = ((msR x0 s : ℝ) : EReal) := by
  simp only [← EReal.coe_mul, coe_sum]
  rw [k1024_eq, eps_eq, div_coe' (by norm_num), ← EReal.coe_add]; rfl

theorem rr_eq (s : Fin 4096) : rr (fun i => ((x0 i : ℝ) : EReal)) s = (((Real.sqrt (msR x0 s))⁻¹ : ℝ) : EReal) := by
  unfold rr
  rw [ms_eq, rsqrt_pos]
  exact ms_pos 1024 (by norm_num) _

theorem dxh_eq (s : Fin 4096) (d : Fin 1024) :
    dxh (fun i => ((x1 i : ℝ) : EReal)) (fun i => ((x2 i : ℝ) : EReal)) (fun i => ((x3 i : ℝ) : EReal)) (fun i => ((x4 i : ℝ) : EReal)) s d
      = ((dxhR x1 x2 x3 x4 s d : ℝ) : EReal) := by
  simp only [dxh, dh, ← EReal.coe_mul, coe_sum, ← EReal.coe_one, ← EReal.coe_add]; rfl

/-- The factor of the row in the reference's gradient of the mean square. -/
def qE (a0 : FVec Ideal S4096x1024 .f32) (a1 a2 : FVec Ideal S1024 .f32) (a3 : FVec Ideal S1024x6720 .f32) (a4 : FVec Ideal S4096x6720 .f32) (s : Fin 4096) : EReal :=
  Ideal.div ((∑ x : Fin 1024, (a0 (ix2 s x) : EReal) * dxh a1 a2 a3 a4 s x) * (Ideal.ofBits FTy.f32 3204448256#32
    * Ideal.div (rr a0 s) (Ideal.div (∑ x : Fin 1024, (a0 (ix2 s x) : EReal) * a0 (ix2 s x)) (Ideal.ofBits FTy.f32 1149239296#32)
      + Ideal.ofBits FTy.f32 897988541#32))) (Ideal.ofBits FTy.f32 1149239296#32)

/-- The two ways of writing the gradient of the rows agree at reals. -/
theorem gx_eq (a5 : FVec Ideal S4096x1024 .f32) (s : Fin 4096) (d : Fin 1024) :
    let a0 : FVec Ideal S4096x1024 .f32 := fun i => ((x0 i : ℝ) : EReal)
    let a1 : FVec Ideal S1024 .f32 := fun i => ((x1 i : ℝ) : EReal)
    let a2 : FVec Ideal S1024 .f32 := fun i => ((x2 i : ℝ) : EReal)
    let a3 : FVec Ideal S1024x6720 .f32 := fun i => ((x3 i : ℝ) : EReal)
    let a4 : FVec Ideal S4096x6720 .f32 := fun i => ((x4 i : ℝ) : EReal)
    (a5 (ix2 s d) : EReal) + dxh a1 a2 a3 a4 s d * rr a0 s + a0 (ix2 s d) * qE a0 a1 a2 a3 a4 s + qE a0 a1 a2 a3 a4 s * a0 (ix2 s d)
      = gx a0 a1 a2 a3 a4 a5 s d := by
  intro a0 a1 a2 a3 a4
  have hv : 0 < msR x0 s := ms_pos 1024 (by norm_num) _
  simp only [gx, qE, a0, a1, a2, a3, a4, dxh_eq, rr_eq, ms_eq]
  simp only [k1024_eq, neg_half_eq, ← EReal.coe_mul, coe_sum, div_coe' hv.ne',
    div_coe' (show (1024 : ℝ) ≠ 0 by norm_num), ← EReal.coe_sub, add_assoc, ← EReal.coe_add]
  congr 2
  have hr := inv_sqrt_sq hv
  set r := (Real.sqrt (msR x0 s))⁻¹
  have hs : (∑ i : Fin 1024, dxhR x1 x2 x3 x4 s i * (x0 (ix2 s i) * r)) = (∑ i : Fin 1024, x0 (ix2 s i) * dxhR x1 x2 x3 x4 s i) * r := by
    rw [Finset.sum_mul]; exact Finset.sum_congr rfl fun _ _ => by ring
  rw [hs]
  have : r / msR x0 s = r * (r * r) := by rw [hr]; ring
  rw [this]; ring

end

/-- The reference's gradient of the rows, opened. -/
theorem ref_rows (m : (ℓ : Loc Cert.InputRefIdeal.nD Cert.InputRefIdeal.τ Cert.InputRefIdeal.sig) → Buf (Elt Ideal) ℓ) (c : Dev Cert.InputRefIdeal.nD)
    (a0 : FVec Ideal S4096x1024 .f32) (a1 a2 : FVec Ideal S1024 .f32) (a3 : FVec Ideal S1024x6720 .f32) (a4 : FVec Ideal S4096x6720 .f32)
    (a5 : FVec Ideal S4096x1024 .f32) (h0 : m ((c : Thread Cert.InputRefIdeal.nD Cert.InputRefIdeal.τ).loc Cert.InputRefIdeal.main_arg0) = a0)
    (h1 : m ((c : Thread Cert.InputRefIdeal.nD Cert.InputRefIdeal.τ).loc Cert.InputRefIdeal.main_arg1) = a1)
    (h2 : m ((c : Thread Cert.InputRefIdeal.nD Cert.InputRefIdeal.τ).loc Cert.InputRefIdeal.main_arg2) = a2)
    (h3 : m ((c : Thread Cert.InputRefIdeal.nD Cert.InputRefIdeal.τ).loc Cert.InputRefIdeal.main_arg3) = a3)
    (h4 : m ((c : Thread Cert.InputRefIdeal.nD Cert.InputRefIdeal.τ).loc Cert.InputRefIdeal.main_arg4) = a4)
    (h5 : m ((c : Thread Cert.InputRefIdeal.nD Cert.InputRefIdeal.τ).loc Cert.InputRefIdeal.main_arg5) = a5) (s : Fin 4096) (d : Fin 1024) :
    Cert.InputRefIdeal.Value.res_main_v56 m c (ix2 s d)
      = (a5 (ix2 s d) : EReal) + dxh a1 a2 a3 a4 s d * rr a0 s + a0 (ix2 s d) * qE a0 a1 a2 a3 a4 s + qE a0 a1 a2 a3 a4 s * a0 (ix2 s d) := by
  subst h0 h1 h2 h3 h4 h5
  pointwise [Cert.InputRefIdeal.Value.res_main_v56]
  simp only [Finset.univ_unique, Finset.sum_singleton]
  rfl

theorem algebraic : Cert.algebraic_InputBwdIdeal_InputRefIdeal_pre_input_finite (hInputBwdIdeal := Cert.InputBwdIdeal.Gen.facts)
    (hInputRefIdeal := Cert.InputRefIdeal.Gen.facts) (hPre_input_finite := Cert.Pre_input_finite.Gen.facts) := by
  intro m g m' g' hpre hargs
  refine ⟨_, _, run_blocks m g, (θ_run _ _ _).mono (fun r h c => ?_) (Cert.InputRefIdeal.Value.run m' g')⟩
  obtain ⟨e0, e1, e2, e3, e4, e5⟩ := hargs c
  obtain ⟨hv0, hv1, hk⟩ := h c
  refine ⟨hv0.trans ?_, hv1.trans ?_, hk⟩
  · rw [final_10]
    obtain ⟨⟨x0, h0⟩, ⟨x1, h1⟩, ⟨x2, h2⟩, ⟨x3, h3⟩, ⟨x4, h4⟩⟩ := reals (hpre c)
    funext i
    idx_vars i
    rw [ref_rows m' c _ _ _ _ _ _ (e0.trans h0) (e1.trans h1) (e2.trans h2) (e3.trans h3) (e4.trans h4) e5]
    refine (gx_eq x0 x1 x2 x3 x4 _ i0 i1).trans ?_
    simp only [A0, A1, A2, A3, A4, A5]
    rw [h0, h1, h2, h3, h4]
  · rw [final_11]
    funext i
    idx_vars i
    clear h hv0 hv1 hk hpre hargs
    fin_cases i0 <;> pointwise
    all_goals (try simp only [e0, e1, e2, e3, e4])
    all_goals (try simp only [Finset.univ_unique, Finset.sum_singleton])
    · rfl
    · exact Finset.sum_congr rfl fun s _ => mul_comm _ _
    · exact Finset.sum_congr rfl fun s _ => mul_comm _ _
    all_goals exact (Finset.sum_eq_zero fun s _ => rfl).symm

end Cert.InputBwdIdeal.Value

end
-- ==== Proof.AttnCut.lean ====
module

public import proofs.«01_k».proof.Defs
public import proofs.«01_k».proof.Proof.Gen.AttnBwdIdeal.Launch
public import proofs.«01_k».proof.Proof.Gen.AttnBwdIdeal.Skeleton
public import Idealize.ShloMosaic.Lib.Tactic.Stretches
public import Idealize.ShloMosaic.Lib.Tactic
public import Idealize.ShloMosaic.Lib.Pipeline.FrameBody
public import Idealize.ShloMosaic.Lib.WordCmp

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

set_option maxHeartbeats 4000000 in
cut_chain body := cc0_attn_bwd_skel at 4, 5, 6, 7, 8

variable (c : Dev nD) (i : grid0.Coords)
  (arg2 : Memref sig .tc .smem S36 .i32) (harg2 : arg2.IsWhole)
  (arg3 : Memref sig .tc .smem S36 .i32) (harg3 : arg3.IsWhole)
  (arg4 : Memref sig .tc .vmem S2x512x256 .bf16) (harg4 : arg4.IsWhole)
  (arg5 : Memref sig .tc .vmem S2x512x256 .bf16) (harg5 : arg5.IsWhole)
  (arg6 : Memref sig .tc .vmem S2x512x256 .bf16) (harg6 : arg6.IsWhole)
  (arg7 : Memref sig .tc .vmem S512x256 .bf16) (harg7 : arg7.IsWhole)
  (arg8 : Memref sig .tc .vmem S2x512x1 .f32) (harg8 : arg8.IsWhole)
  (arg9 : Memref sig .tc .vmem S2x512x1 .f32) (harg9 : arg9.IsWhole)
  (arg10 : Memref sig .tc .vmem S2x4096x256 .f32) (harg10 : arg10.IsWhole)
  (arg11 : Memref sig .tc .vmem S2x512x256 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2x512x128 .f32) (harg14 : arg14.IsWhole)
  (arg15 : Memref sig .tc .vmem S2x512x512 .f32) (harg15 : arg15.IsWhole)
  (arg16 : Memref sig .tc .vmem S2x512x512 .f32) (harg16 : arg16.IsWhole)
  (arg17 : Memref sig .tc .vmem S2x512x512 .bf16) (harg17 : arg17.IsWhole)
  (arg18 : Memref sig .tc .vmem S2x512x512 .bf16) (harg18 : arg18.IsWhole)
  (v1 v3 : BitVec 32) (hw : PLift (k0_chk1 v1 v3))
  (x0 x1 x2 : Vec F S2x512x256 .bf16) (x3 : Vec F S512x256 .bf16) (x4 x5 : Vec F S2x512x1 .f32)
  (y : Vec F S2x4096x256 .f32) (z0 : Vec F S2x512x256 .f32) (z1 : Vec F S2x512x128 .f32)

/-- What a step of the kernel holds: the blocks it reads, the query gradient of the head pair, the two sums of the key block,
    and the four buffers it works in, whose contents do not matter. -/
def Held : sProp (MT nD τ sig Unit (Elt F) ℕ (UR sig nD τ) ℕ) :=
  iprop(owns (c : Thread nD τ) arg4 fullShare x0 ∗ owns (c : Thread nD τ) arg5 fullShare x1
      ∗ owns (c : Thread nD τ) arg6 fullShare x2 ∗ owns (c : Thread nD τ) arg7 fullShare x3
      ∗ owns (c : Thread nD τ) arg8 fullShare x4 ∗ owns (c : Thread nD τ) arg9 fullShare x5
      ∗ owns (c : Thread nD τ) arg10 fullShare y ∗ owns (c : Thread nD τ) arg13 fullShare z0
      ∗ owns (c : Thread nD τ) arg14 fullShare z1
      ∗ (∃ d, owns (c : Thread nD τ) arg15 fullShare d) ∗ (∃ d, owns (c : Thread nD τ) arg16 fullShare d)
      ∗ (∃ d, owns (c : Thread nD τ) arg17 fullShare d) ∗ (∃ d, owns (c : Thread nD τ) arg18 fullShare d))

set_option maxHeartbeats 2000000 in
theorem held_of_raw {f10 : arg10.view.ty.Contents (Elt F)} {f13 : arg13.view.ty.Contents (Elt F)} {f14 : arg14.view.ty.Contents (Elt F)}
    {f15 : arg15.view.ty.Contents (Elt F)} {f16 : arg16.view.ty.Contents (Elt F)} {f17 : arg17.view.ty.Contents (Elt F)}
    {f18 : arg18.view.ty.Contents (Elt F)} :
    iprop((arg4.view.loc (c : Thread nD τ) ↦[arg4.view.set]{fullShare} harg4.unread x0) ∗ (arg5.view.loc (c : Thread nD τ) ↦[arg5.view.set]{fullShare} harg5.unread x1)
      ∗ (arg6.view.loc (c : Thread nD τ) ↦[arg6.view.set]{fullShare} harg6.unread x2) ∗ (arg7.view.loc (c : Thread nD τ) ↦[arg7.view.set]{fullShare} harg7.unread x3)
      ∗ (arg8.view.loc (c : Thread nD τ) ↦[arg8.view.set]{fullShare} harg8.unread x4) ∗ (arg9.view.loc (c : Thread nD τ) ↦[arg9.view.set]{fullShare} harg9.unread x5)
      ∗ (arg10.view.loc (c : Thread nD τ) ↦[arg10.view.set]{fullShare} f10) ∗ (arg13.view.loc (c : Thread nD τ) ↦[arg13.view.set]{fullShare} f13)
      ∗ (arg14.view.loc (c : Thread nD τ) ↦[arg14.view.set]{fullShare} f14) ∗ (arg15.view.loc (c : Thread nD τ) ↦[arg15.view.set]{fullShare} f15)
      ∗ (arg16.view.loc (c : Thread nD τ) ↦[arg16.view.set]{fullShare} f16) ∗ (arg17.view.loc (c : Thread nD τ) ↦[arg17.view.set]{fullShare} f17)
      ∗ (arg18.view.loc (c : Thread nD τ) ↦[arg18.view.set]{fullShare} f18))
      ⊢ Held (F := F) c arg4 arg5 arg6 arg7 arg8 arg9 arg10 arg13 arg14 arg15 arg16 arg17 arg18
          x0 x1 x2 x3 x4 x5 (arg10.view.read (Elt F) f10) (arg13.view.read (Elt F) f13) (arg14.view.read (Elt F) f14) := by
  unfold Held owns
  iintro ⟨H4, H5, H6, H7, H8, H9, H10, H13, H14, H15, H16, H17, H18⟩
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact harg9.read_unread _
                  iexact H9
  isplitl [H10]; · iexists _; isplitr; swap; · iexact H10
                   ipureintro; rfl
  isplitl [H13]; · iexists _; isplitr; swap; · iexact H13
                   ipureintro; rfl
  isplitl [H14]; · iexists _; isplitr; swap; · iexact H14
                   ipureintro; rfl
  isplitl [H15]; · iexists _; iexists _; isplitr; swap; · iexact H15
                   ipureintro; rfl
  isplitl [H16]; · iexists _; iexists _; isplitr; swap; · iexact H16
                   ipureintro; rfl
  isplitl [H17]; · iexists _; iexists _; isplitr; swap; · iexact H17
                   ipureintro; rfl
  iexists _; iexists _; isplitr; swap; · iexact H18
  ipureintro; rfl

set_option maxHeartbeats 2000000 in
theorem held_raw :
    Held (F := F) c arg4 arg5 arg6 arg7 arg8 arg9 arg10 arg13 arg14 arg15 arg16 arg17 arg18
        x0 x1 x2 x3 x4 x5 y z0 z1
      ⊢ iprop(∃ (f15 : arg15.view.ty.Contents (Elt F)) (f16 : arg16.view.ty.Contents (Elt F)) (f17 : arg17.view.ty.Contents (Elt F))
        (f18 : arg18.view.ty.Contents (Elt F)),
        (arg4.view.loc (c : Thread nD τ) ↦[arg4.view.set]{fullShare} harg4.unread x0) ∗ (arg5.view.loc (c : Thread nD τ) ↦[arg5.view.set]{fullShare} harg5.unread x1)
      ∗ (arg6.view.loc (c : Thread nD τ) ↦[arg6.view.set]{fullShare} harg6.unread x2) ∗ (arg7.view.loc (c : Thread nD τ) ↦[arg7.view.set]{fullShare} harg7.unread x3)
      ∗ (arg8.view.loc (c : Thread nD τ) ↦[arg8.view.set]{fullShare} harg8.unread x4) ∗ (arg9.view.loc (c : Thread nD τ) ↦[arg9.view.set]{fullShare} harg9.unread x5)
      ∗ (arg10.view.loc (c : Thread nD τ) ↦[arg10.view.set]{fullShare} harg10.unread y) ∗ (arg13.view.loc (c : Thread nD τ) ↦[arg13.view.set]{fullShare} harg13.unread z0)
      ∗ (arg14.view.loc (c : Thread nD τ) ↦[arg14.view.set]{fullShare} harg14.unread z1) ∗ (arg15.view.loc (c : Thread nD τ) ↦[arg15.view.set]{fullShare} f15)
      ∗ (arg16.view.loc (c : Thread nD τ) ↦[arg16.view.set]{fullShare} f16) ∗ (arg17.view.loc (c : Thread nD τ) ↦[arg17.view.set]{fullShare} f17)
      ∗ (arg18.view.loc (c : Thread nD τ) ↦[arg18.view.set]{fullShare} f18)) := by
  unfold Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%d10, %f10, -, H10⟩, ⟨%d11, %f11, -, H11⟩, ⟨%d12, %f12, -, H12⟩⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5
  obtain rfl := harg10.eq_unread hf6; obtain rfl := harg13.eq_unread hf7; obtain rfl := harg14.eq_unread hf8
  iexists f9; iexists f10; iexists f11; iexists f12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.AttnBwdIdeal.Run

end
-- ==== Proof.AttnOff.lean ====
module

public import proofs.«01_k».proof.Proof.AttnCut

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

variable (c : Dev nD) (i : grid0.Coords)
  (arg2 : Memref sig .tc .smem S36 .i32) (harg2 : arg2.IsWhole)
  (arg3 : Memref sig .tc .smem S36 .i32) (harg3 : arg3.IsWhole)
  (arg4 : Memref sig .tc .vmem S2x512x256 .bf16) (harg4 : arg4.IsWhole)
  (arg5 : Memref sig .tc .vmem S2x512x256 .bf16) (harg5 : arg5.IsWhole)
  (arg6 : Memref sig .tc .vmem S2x512x256 .bf16) (harg6 : arg6.IsWhole)
  (arg7 : Memref sig .tc .vmem S512x256 .bf16) (harg7 : arg7.IsWhole)
  (arg8 : Memref sig .tc .vmem S2x512x1 .f32) (harg8 : arg8.IsWhole)
  (arg9 : Memref sig .tc .vmem S2x512x1 .f32) (harg9 : arg9.IsWhole)
  (arg10 : Memref sig .tc .vmem S2x4096x256 .f32) (harg10 : arg10.IsWhole)
  (arg11 : Memref sig .tc .vmem S2x512x256 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2x512x128 .f32) (harg14 : arg14.IsWhole)
  (arg15 : Memref sig .tc .vmem S2x512x512 .f32) (harg15 : arg15.IsWhole)
  (arg16 : Memref sig .tc .vmem S2x512x512 .f32) (harg16 : arg16.IsWhole)
  (arg17 : Memref sig .tc .vmem S2x512x512 .bf16) (harg17 : arg17.IsWhole)
  (arg18 : Memref sig .tc .vmem S2x512x512 .bf16) (harg18 : arg18.IsWhole)
  (v1 v3 : BitVec 32) (hw : PLift (k0_chk1 v1 v3))
  (x0 x1 x2 : Vec F S2x512x256 .bf16) (x3 : Vec F S512x256 .bf16) (x4 x5 : Vec F S2x512x1 .f32)
  (y : Vec F S2x4096x256 .f32) (z0 : Vec F S2x512x256 .f32) (z1 : Vec F S2x512x128 .f32)

set_option maxHeartbeats 4000000 in
/-- The step of a pair of blocks off the diagonal: the pieces it leaves over the query gradient and over the two sums held for the
    key block, with the run that leaves them. -/
noncomputable def offRun (hc : k0_cond3 v1 v3 = 1#1) :
    Σ' (L10 : List (View.Piece (Elt F) S2x4096x256 .f32)), Σ' (L13 : List (View.Piece (Elt F) S2x512x256 .f32)),
      { L14 : List (View.Piece (Elt F) S2x512x128 .f32) //
        ∀ (E : Set ℕ) (Q : PUnit → sProp (MT nD τ sig Unit (Elt F) ℕ (UR sig nD τ) ℕ)) (κ : Prog (TpuEff nD τ sig (Elt F) Λ₀ .tc) PUnit),
          iprop(Held (F := F) c arg4 arg5 arg6 arg7 arg8 arg9 arg10 arg13 arg14 arg15 arg16 arg17 arg18
                x0 x1 x2 x3 x4 x5 y z0 z1
              ∗ (Held (F := F) c arg4 arg5 arg6 arg7 arg8 arg9 arg10 arg13 arg14 arg15 arg16 arg17 arg18
                  x0 x1 x2 x3 x4 x5 (arg10.view.read (Elt F) (arg10.view.writes (Elt F) (harg10.unread y) L10))
                  (arg13.view.read (Elt F) (arg13.view.writes (Elt F) (harg13.unread z0) L13))
                  (arg14.view.read (Elt F) (arg14.view.writes (Elt F) (harg14.unread z1) L14))
                -∗ wp frame (wpE (defs₀ (F := F)) Variants.none (c : Thread nD τ) none) E κ Q))
            ⊢ wp frame (wpE (defs₀ (F := F)) Variants.none (c : Thread nD τ) none) E
                (body4 i arg2 harg2 arg3 harg3 arg4 harg4 arg5 harg5 arg6 harg6 arg7 harg7 arg8 harg8 arg9 harg9 arg10
                  harg10 arg11 harg11 arg12 harg12 arg13 harg13 arg14 harg14 arg15 harg15 arg16 harg16 arg17 harg17 arg18 harg18 v1 v3 hw κ) Q } := by
  refine ⟨?_, ?_, ?_, fun E Q κ => ?run⟩
  case run =>
    unfold body4
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton]
    refine (Laws.sep_mono_left (held_raw (F := F) c arg4 harg4 arg5 harg5 arg6 harg6 arg7 harg7 arg8 harg8 arg9 harg9 arg10 harg10 arg13 harg13 arg14 harg14 arg15 arg16 arg17 arg18
      x0 x1 x2 x3 x4 x5 y z0 z1)).trans ?_
    iintro ⟨⟨%f9, %f10, %f11, %f12, H0, H1, H2, H3, H4, H5, H6, H7, H8, H9, H10, H11, H12⟩, Hk⟩
    sl_exec (disch := first | sl_exact hc)
    iapply Hk
    iapply (held_of_raw (F := F) c arg4 harg4 arg5 harg5 arg6 harg6 arg7 harg7 arg8 harg8 arg9 harg9 arg10 arg13 arg14 arg15 arg16 arg17 arg18)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.AttnBwdIdeal.Run

end
-- ==== Proof.AttnOn.lean ====
module

public import proofs.«01_k».proof.Proof.AttnCut

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

variable (c : Dev nD) (i : grid0.Coords)
  (arg2 : Memref sig .tc .smem S36 .i32) (harg2 : arg2.IsWhole)
  (arg3 : Memref sig .tc .smem S36 .i32) (harg3 : arg3.IsWhole)
  (arg4 : Memref sig .tc .vmem S2x512x256 .bf16) (harg4 : arg4.IsWhole)
  (arg5 : Memref sig .tc .vmem S2x512x256 .bf16) (harg5 : arg5.IsWhole)
  (arg6 : Memref sig .tc .vmem S2x512x256 .bf16) (harg6 : arg6.IsWhole)
  (arg7 : Memref sig .tc .vmem S512x256 .bf16) (harg7 : arg7.IsWhole)
  (arg8 : Memref sig .tc .vmem S2x512x1 .f32) (harg8 : arg8.IsWhole)
  (arg9 : Memref sig .tc .vmem S2x512x1 .f32) (harg9 : arg9.IsWhole)
  (arg10 : Memref sig .tc .vmem S2x4096x256 .f32) (harg10 : arg10.IsWhole)
  (arg11 : Memref sig .tc .vmem S2x512x256 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2x512x128 .f32) (harg14 : arg14.IsWhole)
  (arg15 : Memref sig .tc .vmem S2x512x512 .f32) (harg15 : arg15.IsWhole)
  (arg16 : Memref sig .tc .vmem S2x512x512 .f32) (harg16 : arg16.IsWhole)
  (arg17 : Memref sig .tc .vmem S2x512x512 .bf16) (harg17 : arg17.IsWhole)
  (arg18 : Memref sig .tc .vmem S2x512x512 .bf16) (harg18 : arg18.IsWhole)
  (v1 v3 : BitVec 32) (hw : PLift (k0_chk1 v1 v3))
  (x0 x1 x2 : Vec F S2x512x256 .bf16) (x3 : Vec F S512x256 .bf16) (x4 x5 : Vec F S2x512x1 .f32)
  (y : Vec F S2x4096x256 .f32) (z0 : Vec F S2x512x256 .f32) (z1 : Vec F S2x512x128 .f32)

set_option maxHeartbeats 4000000 in
/-- The step of a pair of blocks on the diagonal: the pieces it leaves over the query gradient and over the two sums held for the
    key block, with the run that leaves them. -/
noncomputable def onRun (hc : k0_cond4 v1 v3 = 1#1) :
    Σ' (L10 : List (View.Piece (Elt F) S2x4096x256 .f32)), Σ' (L13 : List (View.Piece (Elt F) S2x512x256 .f32)),
      { L14 : List (View.Piece (Elt F) S2x512x128 .f32) //
        ∀ (E : Set ℕ) (Q : PUnit → sProp (MT nD τ sig Unit (Elt F) ℕ (UR sig nD τ) ℕ)) (κ : Prog (TpuEff nD τ sig (Elt F) Λ₀ .tc) PUnit),
          iprop(Held (F := F) c arg4 arg5 arg6 arg7 arg8 arg9 arg10 arg13 arg14 arg15 arg16 arg17 arg18
                x0 x1 x2 x3 x4 x5 y z0 z1
              ∗ (Held (F := F) c arg4 arg5 arg6 arg7 arg8 arg9 arg10 arg13 arg14 arg15 arg16 arg17 arg18
                  x0 x1 x2 x3 x4 x5 (arg10.view.read (Elt F) (arg10.view.writes (Elt F) (harg10.unread y) L10))
                  (arg13.view.read (Elt F) (arg13.view.writes (Elt F) (harg13.unread z0) L13))
                  (arg14.view.read (Elt F) (arg14.view.writes (Elt F) (harg14.unread z1) L14))
                -∗ wp frame (wpE (defs₀ (F := F)) Variants.none (c : Thread nD τ) none) E κ Q))
            ⊢ wp frame (wpE (defs₀ (F := F)) Variants.none (c : Thread nD τ) none) E
                (body5 i arg2 harg2 arg3 harg3 arg4 harg4 arg5 harg5 arg6 harg6 arg7 harg7 arg8 harg8 arg9 harg9 arg10
                  harg10 arg11 harg11 arg12 harg12 arg13 harg13 arg14 harg14 arg15 harg15 arg16 harg16 arg17 harg17 arg18 harg18 v1 v3 hw κ) Q } := by
  refine ⟨?_, ?_, ?_, fun E Q κ => ?run⟩
  case run =>
    unfold body5
    simp only [k0_part17_eq_skeleton, k0_part18_eq_skeleton, k0_part19_eq_skeleton, k0_part20_eq_skeleton, k0_part21_eq_skeleton,
      k0_part22_eq_skeleton, k0_part23_eq_skeleton, k0_part24_eq_skeleton, k0_part25_eq_skeleton, k0_part26_eq_skeleton,
      k0_part27_eq_skeleton, k0_part28_eq_skeleton, k0_part29_eq_skeleton, k0_part30_eq_skeleton, k0_part31_eq_skeleton,
      k0_part32_eq_skeleton, k0_part33_eq_skeleton, k0_part34_eq_skeleton, k0_part35_eq_skeleton, k0_part36_eq_skeleton,
      k0_part37_eq_skeleton, k0_part38_eq_skeleton]
    refine (Laws.sep_mono_left (held_raw (F := F) c arg4 harg4 arg5 harg5 arg6 harg6 arg7 harg7 arg8 harg8 arg9 harg9 arg10 harg10 arg13 harg13 arg14 harg14 arg15 arg16 arg17 arg18
      x0 x1 x2 x3 x4 x5 y z0 z1)).trans ?_
    iintro ⟨⟨%f9, %f10, %f11, %f12, H0, H1, H2, H3, H4, H5, H6, H7, H8, H9, H10, H11, H12⟩, Hk⟩
    sl_exec (disch := first | sl_exact hc)
    iapply Hk
    iapply (held_of_raw (F := F) c arg4 harg4 arg5 harg5 arg6 harg6 arg7 harg7 arg8 harg8 arg9 harg9 arg10 arg13 arg14 arg15 arg16 arg17 arg18)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.AttnBwdIdeal.Run

end
-- ==== Proof.AttnTab.lean ====
module

public import proofs.«01_k».proof.Proof.AttnCut
public import Idealize.ShloMosaic.Lib.Affine

@[expose] public section

set_option maxRecDepth 16384

noncomputable section

namespace Cert.AttnBwdIdeal.Run

open Idealize.ShloMosaic Idealize.SL.Sem
open Cert.AttnBwdIdeal Cert.AttnBwdIdeal.Gen

variable {F : FTy → Type} [FloatOps F] [Named F]

/-- The two tables of the pairs of blocks: the query block and the key block of each pair. -/
def tab : pre0.Contents (Elt F)
  | 0 => fun x => lit0 (S36.rowMajor x)
  | 1 => fun x => lit1 (S36.rowMajor x)
  | ⟨_ + 2, h⟩ => absurd h (Nat.not_lt.2 (Nat.le_add_left _ _))

/-- The query block and the key block of a point of the grid. -/
def qw (i : grid0.Coords) : BitVec 32 := lit0 (i 1)
def kw (i : grid0.Coords) : BitVec 32 := lit1 (i 1)

/-- The place in a table which a point of the grid reads. -/
theorem place (i : grid0.Coords) :
    S36.rowMajor ((Rect.unit (s := S36) (k0_off1 i) S1.size (k0_off1_inb i)).emb (Shape.Idx.first (numel1_S1.symm ▸ Nat.one_pos))) = i 1 := by
  apply Fin.ext; revert i; decide +kernel

theorem place' (i : grid0.Coords) : ∃ h : ∀ a, k0_off1 i a + 1 ≤ S36.size a, S36.rowMajor (fun a => ⟨k0_off1 i a, h a⟩) = i 1 := by
  suffices h : ∃ h : ∀ a, k0_off1 i a + 1 ≤ S36.size a, (S36.rowMajor (fun a => ⟨k0_off1 i a, h a⟩)).val = (i 1).val from
    h.imp fun _ => Fin.ext
  revert i; decide +kernel

theorem at0 (i : grid0.Coords) :
    (tab (F := F)).at 0 (Rect.unit (s := S36) (k0_off1 i) S1.size (k0_off1_inb i)) numel1_S1 = qw i := congrArg lit0 (place i)

theorem at1 (i : grid0.Coords) :
    (tab (F := F)).at 1 (Rect.unit (s := S36) (k0_off1 i) S1.size (k0_off1_inb i)) numel1_S1 = kw i := congrArg lit1 (place i)

theorem atD0 (i : grid0.Coords) : (tab (F := F)).atD 0 (k0_off1 i) = qw i := by
  obtain ⟨h, e⟩ := place' i
  exact (dif_pos h).trans (congrArg lit0 e)

theorem atD1 (i : grid0.Coords) : (tab (F := F)).atD 1 (k0_off1 i) = kw i := by
  obtain ⟨h, e⟩ := place' i
  exact (dif_pos h).trans (congrArg lit1 e)

/-- What is checked of the two words holds at every point. -/
theorem words_ok (i : grid0.Coords) : k0_chk1 (qw i) (kw i) := by
  revert i; decide +kernel

theorem tr0 (i : grid0.Coords) : cc0_transform_0 k0_off1_inb numel1_S1 (tab (F := F)) i = ![(BitVec.ofNat 32 (i 0).val).toNat, (qw i).toNat, 0] := by
  show ![_, BitVec.toNat _, _] = _
  rw [← at0 (F := F) i]; rfl
theorem tr1 (i : grid0.Coords) : cc0_transform_1 k0_off1_inb numel1_S1 (tab (F := F)) i = ![(BitVec.ofNat 32 (i 0).val).toNat, (kw i).toNat, 0] := by
  rw [← at1 (F := F) i]; rfl
theorem tr2 (i : grid0.Coords) : cc0_transform_2 k0_off1_inb numel1_S1 (tab (F := F)) i = ![(BitVec.ofNat 32 (i 0).val).toNat, (kw i).toNat, 0] := by
  rw [← at1 (F := F) i]; rfl
theorem tr3 (i : grid0.Coords) : cc0_transform_3 k0_off1_inb numel1_S1 (tab (F := F)) i = ![(qw i).toNat, (BitVec.ofNat 32 (i 0).val).toNat] := by
  rw [← at0 (F := F) i]; rfl
theorem tr4 (i : grid0.Coords) : cc0_transform_4 k0_off1_inb numel1_S1 (tab (F := F)) i = ![(BitVec.ofNat 32 (i 0).val).toNat, (qw i).toNat, 0] := by
  rw [← at0 (F := F) i]; rfl
theorem tr5 (i : grid0.Coords) : cc0_transform_5 k0_off1_inb numel1_S1 (tab (F := F)) i = ![(BitVec.ofNat 32 (i 0).val).toNat, (qw i).toNat, 0] := by
  rw [← at0 (F := F) i]; rfl
theorem tr7 (i : grid0.Coords) : cc0_transform_7 k0_off1_inb numel1_S1 (tab (F := F)) i = ![(BitVec.ofNat 32 (i 0).val).toNat, (kw i).toNat, 0] := by
  rw [← at1 (F := F) i]; rfl
theorem tr8 (i : grid0.Coords) : cc0_transform_8 k0_off1_inb numel1_S1 (tab (F := F)) i = ![(BitVec.ofNat 32 (i 0).val).toNat, (kw i).toNat, 0] := by
  rw [← at1 (F := F) i]; rfl

theorem ok : ok0 (tab (F := F)) := by
  refine ⟨fun i => ?_, fun i => ?_, fun i => ?_, fun i => ?_, fun i => ?_, fun i => ?_, fun i => ?_, fun i => ?_⟩
  · refine ⟨?_, .inr (Affine.block_words_dvd (of_decide_eq_true rfl) (by decide))⟩
    rw [tr0]; revert i; decide +kernel
  · refine ⟨?_, .inr (Affine.block_words_dvd (of_decide_eq_true rfl) (by decide))⟩
    rw [tr1]; revert i; decide +kernel
  · refine ⟨?_, .inr (Affine.block_words_dvd (of_decide_eq_true rfl) (by decide))⟩
    rw [tr2]; revert i; decide +kernel
  · refine ⟨?_, .inr (Affine.block_words_dvd (of_decide_eq_true rfl) (by decide))⟩
    rw [tr3]; revert i; decide +kernel
  · refine ⟨?_, .inl rfl⟩
    rw [tr4]; revert i; decide +kernel
  · refine ⟨?_, .inl rfl⟩
    rw [tr5]; revert i; decide +kernel
  · refine ⟨?_, .inl rfl⟩
    rw [tr7]; revert i; decide +kernel
  · refine ⟨?_, .inl rfl⟩
    rw [tr8]; revert i; decide +kernel

/-- The call at these tables. -/
def adm : (p : Fin 1) → (pcfgs (F := F) p).Adm := fun _ => ⟨tab, ok⟩

abbrev cfg : Pipeline.Cfg sig Λ₀ := Pipeline.pin (pcfgs (F := F)) adm 0

theorem idle6 (t : Fin grid0.N) : (cfg (F := F)).idle 6 (grid0.coords t) = false := by
  show (!(k0_cond1 _ == 1#1) && !(k0_cond3 (tab (F := F).atD 0 _) (tab (F := F).atD 1 _) == 1#1) && !(k0_cond4 (tab (F := F).atD 0 _) (tab (F := F).atD 1 _) == 1#1)) = false
  rw [atD0, atD1]; revert t; decide +kernel

/-- A point that is not the last of its key block stores neither of the two sums back. -/
theorem idle7 (t : Fin grid0.N) : (cfg (F := F)).idle 7 (grid0.coords t) = !(k0_cond5 (qw (grid0.coords t)) == 1#1) := by
  show (!(k0_cond5 (tab (F := F).atD 0 _) == 1#1)) = _
  rw [atD0]
theorem idle8 (t : Fin grid0.N) : (cfg (F := F)).idle 8 (grid0.coords t) = !(k0_cond5 (qw (grid0.coords t)) == 1#1) := idle7 t

theorem stays (t : Fin grid0.N) (h : ¬ k0_cond5 (qw (grid0.coords t)) = 1#1) :
    (true && (decide (t.val + 1 = grid0.N) || decide (∃ h : t.val + 1 < grid0.N,
      ![(BitVec.ofNat 32 (grid0.coords ⟨t.val + 1, h⟩ 0).val).toNat, (kw (grid0.coords ⟨t.val + 1, h⟩)).toNat, 0]
        ≠ ![(BitVec.ofNat 32 (grid0.coords t 0).val).toNat, (kw (grid0.coords t)).toNat, 0]))) = false := by
  revert t; decide +kernel

theorem flush7 (t : Fin grid0.N) (h : ¬ k0_cond5 (qw (grid0.coords t)) = 1#1) : ((cfg (F := F)).win 7).flush t = false := by
  have e : ((cfg (F := F)).win 7).index = fun t => ![(BitVec.ofNat 32 (grid0.coords t 0).val).toNat, (kw (grid0.coords t)).toNat, 0] :=
    funext fun t => tr7 _
  unfold Pipeline.Window.flush
  rw [e]
  exact stays t h

theorem flush8 (t : Fin grid0.N) (h : ¬ k0_cond5 (qw (grid0.coords t)) = 1#1) : ((cfg (F := F)).win 8).flush t = false := by
  have e : ((cfg (F := F)).win 8).index = fun t => ![(BitVec.ofNat 32 (grid0.coords t 0).val).toNat, (kw (grid0.coords t)).toNat, 0] :=
    funext fun t => tr8 _
  unfold Pipeline.Window.flush
  rw [e]
  exact stays t h

end Cert.AttnBwdIdeal.Run

end
-- ==== Proof.AttnBody.lean ====
module

public import proofs.«01_k».proof.Proof.AttnOff
public import proofs.«01_k».proof.Proof.AttnOn
public import proofs.«01_k».proof.Proof.AttnTab
public import Idealize.ShloMosaic.Lib.VecWindow

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal Cert.AttnBwdIdeal.Gen

variable {F : FTy → Type} [FloatOps F] [Named F]

variable (c : Dev nD) (i : grid0.Coords)
  (arg2 : Memref sig .tc .smem S36 .i32) (harg2 : arg2.IsWhole)
  (arg3 : Memref sig .tc .smem S36 .i32) (harg3 : arg3.IsWhole)
  (arg4 : Memref sig .tc .vmem S2x512x256 .bf16) (harg4 : arg4.IsWhole)
  (arg5 : Memref sig .tc .vmem S2x512x256 .bf16) (harg5 : arg5.IsWhole)
  (arg6 : Memref sig .tc .vmem S2x512x256 .bf16) (harg6 : arg6.IsWhole)
  (arg7 : Memref sig .tc .vmem S512x256 .bf16) (harg7 : arg7.IsWhole)
  (arg8 : Memref sig .tc .vmem S2x512x1 .f32) (harg8 : arg8.IsWhole)
  (arg9 : Memref sig .tc .vmem S2x512x1 .f32) (harg9 : arg9.IsWhole)
  (arg10 : Memref sig .tc .vmem S2x4096x256 .f32) (harg10 : arg10.IsWhole)
  (arg11 : Memref sig .tc .vmem S2x512x256 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2x512x128 .f32) (harg14 : arg14.IsWhole)
  (arg15 : Memref sig .tc .vmem S2x512x512 .f32) (harg15 : arg15.IsWhole)
  (arg16 : Memref sig .tc .vmem S2x512x512 .f32) (harg16 : arg16.IsWhole)
  (arg17 : Memref sig .tc .vmem S2x512x512 .bf16) (harg17 : arg17.IsWhole)
  (arg18 : Memref sig .tc .vmem S2x512x512 .bf16) (harg18 : arg18.IsWhole)
  (v1 v3 : BitVec 32) (hw : PLift (k0_chk1 v1 v3))
  (x0 x1 x2 : Vec F S2x512x256 .bf16) (x3 : Vec F S512x256 .bf16) (x4 x5 : Vec F S2x512x1 .f32)
  (y : Vec F S2x4096x256 .f32) (z0 : Vec F S2x512x256 .f32) (z1 : Vec F S2x512x128 .f32)

/-- The query gradient after the zeroing at a head pair's first point. -/
def zero10 (y : Vec F S2x4096x256 .f32) : Vec F S2x4096x256 .f32 := if k0_cond1 i = 1#1 then k0_pay1 else y
/-- The two sums after the zeroing at a key block's first point. -/
def zero13 (z : Vec F S2x512x256 .f32) : Vec F S2x512x256 .f32 :=
  if Scalar.cmpi .ne (Scalar.extui (Scalar.cmpi .eq v1 v3)) 0#32 = 1#1 then k0_pay2 else z
def zero14 (z : Vec F S2x512x128 .f32) : Vec F S2x512x128 .f32 :=
  if Scalar.cmpi .ne (Scalar.extui (Scalar.cmpi .eq v1 v3)) 0#32 = 1#1 then k0_pay3 else z

variable (q2 q3 : PosShare TreeShare) (f2 : Buf (Elt F) (arg2.view.loc (c : Thread nD τ))) (f3 : Buf (Elt F) (arg3.view.loc (c : Thread nD τ)))

theorem body1_run (h2 : v1 = (arg2.access (Rect.unit (s := S36) (k0_off1 i) S1.size (k0_off1_inb i))).read (Elt F) f2 (Shape.Idx.first (numel1_S1.symm ▸ Nat.one_pos)))
    (h3 : v3 = (arg3.access (Rect.unit (s := S36) (k0_off1 i) S1.size (k0_off1_inb i))).read (Elt F) f3 (Shape.Idx.first (numel1_S1.symm ▸ Nat.one_pos)))
    (E : Set ℕ) (Q : PUnit → sProp (MT nD τ sig Unit (Elt F) ℕ (UR sig nD τ) ℕ)) (κ : (w1 w3 : BitVec 32) → PLift (k0_chk1 w1 w3) → Prog (TpuEff nD τ sig (Elt F) Λ₀ .tc) PUnit) :
    iprop((arg2.view.loc (c : Thread nD τ) ↦[arg2.view.set]{q2} f2) ∗ (arg3.view.loc (c : Thread nD τ) ↦[arg3.view.set]{q3} f3)
        ∗ (iprop((arg2.view.loc (c : Thread nD τ) ↦[arg2.view.set]{q2} f2) ∗ (arg3.view.loc (c : Thread nD τ) ↦[arg3.view.set]{q3} f3))
          -∗ wp frame (wpE (defs₀ (F := F)) Variants.none (c : Thread nD τ) none) E (κ v1 v3 hw) Q))
      ⊢ wp frame (wpE (defs₀ (F := F)) Variants.none (c : Thread nD τ) none) E (body1 i arg2 arg3 κ) Q := by
  have hchk := hw.down
  unfold body1
  iintro ⟨H2, H3, Hk⟩
  sl_exec
  have e2 : body1_run.sl.r c i arg2 f2 = v1 := h2.symm
  have e3 : body1_run.sl.r_1 c i arg3 f3 = v3 := h3.symm
  rw [e2, e3]
  sl_exec
  iapply Hk
  isplitl [H2]; · iexact H2
  iexact H3

theorem body2_run (E : Set ℕ) (Q : PUnit → sProp (MT nD τ sig Unit (Elt F) ℕ (UR sig nD τ) ℕ)) (κ : Prog (TpuEff nD τ sig (Elt F) Λ₀ .tc) PUnit) :
    iprop(owns (c : Thread nD τ) arg10 fullShare y ∗ (owns (c : Thread nD τ) arg10 fullShare (zero10 i y) -∗ wp frame (wpE (defs₀ (F := F)) Variants.none (c : Thread nD τ) none) E κ Q))
      ⊢ wp frame (wpE (defs₀ (F := F)) Variants.none (c : Thread nD τ) none) E (body2 i arg10 κ) Q := by
  unfold body2 zero10
  by_cases h : k0_cond1 i = 1#1
  · rw [if_pos h]
    unfold owns
    iintro ⟨⟨%f, %hf, H⟩, Hk⟩
    sl_exec (disch := first | sl_exact h)
    iapply Hk
    iexists _; isplitr; swap; · iexact H
    ipureintro; exact View.read_writes_full _ _ _ _ _
  · rw [if_neg h]
    iintro ⟨H, Hk⟩
    sl_exec (disch := first | sl_exact h)
    iapply Hk
    iexact H

theorem body3_run (E : Set ℕ) (Q : PUnit → sProp (MT nD τ sig Unit (Elt F) ℕ (UR sig nD τ) ℕ)) (κ : Prog (TpuEff nD τ sig (Elt F) Λ₀ .tc) PUnit) :
    iprop(owns (c : Thread nD τ) arg13 fullShare z0 ∗ owns (c : Thread nD τ) arg14 fullShare z1
        ∗ (iprop(owns (c : Thread nD τ) arg13 fullShare (zero13 v1 v3 z0) ∗ owns (c : Thread nD τ) arg14 fullShare (zero14 v1 v3 z1)) -∗ wp frame (wpE (defs₀ (F := F)) Variants.none (c : Thread nD τ) none) E κ Q))
      ⊢ wp frame (wpE (defs₀ (F := F)) Variants.none (c : Thread nD τ) none) E (body3 arg13 arg14 v1 v3 κ) Q := by
  unfold body3 zero13 zero14
  by_cases h : Scalar.cmpi .ne (Scalar.extui (Scalar.cmpi .eq v1 v3)) 0#32 = 1#1
  · rw [if_pos h, if_pos h]
    unfold owns
    iintro ⟨⟨%f, %hf, H⟩, ⟨%g, %hg, G⟩, Hk⟩
    sl_exec (disch := first | sl_exact h)
    iapply Hk
    isplitl [H]
    · iexists _; isplitr; swap; · iexact H
      ipureintro; exact View.read_writes_full _ _ _ _ _
    · iexists _; isplitr; swap; · iexact G
      ipureintro; exact View.read_writes_full _ _ _ _ _
  · rw [if_neg h, if_neg h]
    iintro ⟨H, G, Hk⟩
    sl_exec (disch := first | sl_exact h)
    iapply Hk
    isplitl [H]; · iexact H
    iexact G

/-- The two outputs of a key block after the last pair of it. -/
def last11 (u z : Vec F S2x512x256 .f32) : Vec F S2x512x256 .f32 := if k0_cond5 v1 = 1#1 then z else u
def last12 (u z : Vec F S2x512x128 .f32) : Vec F S2x512x128 .f32 := if k0_cond5 v1 = 1#1 then z else u

theorem read_whole13 (f : arg13.view.ty.Contents (Elt F)) :
    arg13.view.readAt (Elt F) (Rect.unit ![0, 0, 0] S2x512x256.size (by decide)).toLoadRect f = arg13.view.read (Elt F) f :=
  funext fun x => congrArg (arg13.view.read (Elt F) f) (funext fun a => Fin.ext (by fin_cases a <;> exact (Nat.zero_add _).trans (Nat.one_mul _)))

theorem read_whole14 (f : arg14.view.ty.Contents (Elt F)) :
    arg14.view.readAt (Elt F) (Rect.unit ![0, 0, 0] S2x512x128.size (by decide)).toLoadRect f = arg14.view.read (Elt F) f :=
  funext fun x => congrArg (arg14.view.read (Elt F) f) (funext fun a => Fin.ext (by fin_cases a <;> exact (Nat.zero_add _).trans (Nat.one_mul _)))

theorem body6_run (u0 : Vec F S2x512x256 .f32) (u1 : Vec F S2x512x128 .f32) (E : Set ℕ) (Q : PUnit → sProp (MT nD τ sig Unit (Elt F) ℕ (UR sig nD τ) ℕ)) (κ : Prog (TpuEff nD τ sig (Elt F) Λ₀ .tc) PUnit) :
    iprop(owns (c : Thread nD τ) arg11 fullShare u0 ∗ owns (c : Thread nD τ) arg12 fullShare u1 ∗ owns (c : Thread nD τ) arg13 fullShare z0 ∗ owns (c : Thread nD τ) arg14 fullShare z1
        ∗ (iprop(owns (c : Thread nD τ) arg11 fullShare (last11 v1 u0 z0) ∗ owns (c : Thread nD τ) arg12 fullShare (last12 v1 u1 z1)
            ∗ owns (c : Thread nD τ) arg13 fullShare z0 ∗ owns (c : Thread nD τ) arg14 fullShare z1) -∗ wp frame (wpE (defs₀ (F := F)) Variants.none (c : Thread nD τ) none) E κ Q))
      ⊢ wp frame (wpE (defs₀ (F := F)) Variants.none (c : Thread nD τ) none) E (body6 arg11 arg12 arg13 arg14 v1 κ) Q := by
  unfold body6 last11 last12
  by_cases h : k0_cond5 v1 = 1#1
  · rw [if_pos h, if_pos h]
    unfold owns
    iintro ⟨⟨%f, %hf, H⟩, ⟨%g, %hg, G⟩, ⟨%f', %hf', H'⟩, ⟨%g', %hg', G'⟩, Hk⟩
    sl_exec (disch := first | sl_exact h)
    iapply Hk
    isplitl [H]
    · iexists _; isplitr; swap; · iexact H
      ipureintro; exact (View.read_writes_full _ _ _ _ _).trans (read_whole13 arg13 f' |>.trans hf')
    isplitl [G]
    · iexists _; isplitr; swap; · iexact G
      ipureintro; exact (View.read_writes_full _ _ _ _ _).trans (read_whole14 arg14 g' |>.trans hg')
    isplitl [H']
    · iexists _; isplitr; · ipureintro; exact hf'
      iexact H'
    iexists _; isplitr; · ipureintro; exact hg'
    iexact G'
  · rw [if_neg h, if_neg h]
    iintro ⟨H, G, H', G', Hk⟩
    sl_exec (disch := first | sl_exact h)
    iapply Hk
    isplitl [H]; · iexact H
    isplitl [G]; · iexact G
    isplitl [H']; · iexact H'
    iexact G'

/-- What the points carry: the query gradient of the head pair and the two sums of the key block. -/
abbrev State (F : FTy → Type) [FloatOps F] := Vec F S2x4096x256 .f32 × Vec F S2x512x256 .f32 × Vec F S2x512x128 .f32

/-- The state after the step off the diagonal. -/
def off (s : State F) : State F :=
  if h : k0_cond3 v1 v3 = 1#1 then
    (arg10.view.read (Elt F) (arg10.view.writes (Elt F) (harg10.unread s.1) (offRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s.1 s.2.1 s.2.2 h).1),
      arg13.view.read (Elt F) (arg13.view.writes (Elt F) (harg13.unread s.2.1) (offRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s.1 s.2.1 s.2.2 h).2.1),
      arg14.view.read (Elt F) (arg14.view.writes (Elt F) (harg14.unread s.2.2) (offRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s.1 s.2.1 s.2.2 h).2.2.1))
  else s

theorem body4_run (s : State F) (E : Set ℕ) (Q : PUnit → sProp (MT nD τ sig Unit (Elt F) ℕ (UR sig nD τ) ℕ)) (κ : Prog (TpuEff nD τ sig (Elt F) Λ₀ .tc) PUnit) :
    iprop(Held (F := F) c arg4 arg5 arg6 arg7 arg8 arg9 arg10 arg13 arg14 arg15 arg16 arg17 arg18 x0 x1 x2 x3 x4 x5 s.1 s.2.1 s.2.2 ∗ (Held (F := F) c arg4 arg5 arg6 arg7 arg8 arg9 arg10 arg13 arg14 arg15 arg16 arg17 arg18 x0 x1 x2 x3 x4 x5 (off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).1 (off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.1 (off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.2 -∗ wp frame (wpE (defs₀ (F := F)) Variants.none (c : Thread nD τ) none) E κ Q))
      ⊢ wp frame (wpE (defs₀ (F := F)) Variants.none (c : Thread nD τ) none) E (body4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw κ) Q := by
  by_cases h : k0_cond3 v1 v3 = 1#1
  · have e : off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s = _ := dif_pos h
    rw [e]
    exact (offRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s.1 s.2.1 s.2.2 h).2.2.2 E Q κ
  · have e : off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s = s := dif_neg h
    rw [e]
    unfold body4
    iintro ⟨H, Hk⟩
    sl_exec (disch := first | sl_exact h)
    iapply Hk
    iexact H

/-- The state after the step on the diagonal. -/
def on (s : State F) : State F :=
  if h : k0_cond4 v1 v3 = 1#1 then
    (arg10.view.read (Elt F) (arg10.view.writes (Elt F) (harg10.unread s.1) (onRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s.1 s.2.1 s.2.2 h).1),
      arg13.view.read (Elt F) (arg13.view.writes (Elt F) (harg13.unread s.2.1) (onRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s.1 s.2.1 s.2.2 h).2.1),
      arg14.view.read (Elt F) (arg14.view.writes (Elt F) (harg14.unread s.2.2) (onRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s.1 s.2.1 s.2.2 h).2.2.1))
  else s

theorem body5_run (s : State F) (E : Set ℕ) (Q : PUnit → sProp (MT nD τ sig Unit (Elt F) ℕ (UR sig nD τ) ℕ)) (κ : Prog (TpuEff nD τ sig (Elt F) Λ₀ .tc) PUnit) :
    iprop(Held (F := F) c arg4 arg5 arg6 arg7 arg8 arg9 arg10 arg13 arg14 arg15 arg16 arg17 arg18 x0 x1 x2 x3 x4 x5 s.1 s.2.1 s.2.2 ∗ (Held (F := F) c arg4 arg5 arg6 arg7 arg8 arg9 arg10 arg13 arg14 arg15 arg16 arg17 arg18 x0 x1 x2 x3 x4 x5 (on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).1 (on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.1 (on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.2 -∗ wp frame (wpE (defs₀ (F := F)) Variants.none (c : Thread nD τ) none) E κ Q))
      ⊢ wp frame (wpE (defs₀ (F := F)) Variants.none (c : Thread nD τ) none) E (body5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw κ) Q := by
  by_cases h : k0_cond4 v1 v3 = 1#1
  · have e : on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s = _ := dif_pos h
    rw [e]
    exact (onRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s.1 s.2.1 s.2.2 h).2.2.2 E Q κ
  · have e : on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s = s := dif_neg h
    rw [e]
    unfold body5
    iintro ⟨H, Hk⟩
    sl_exec (disch := first | sl_exact h)
    iapply Hk
    iexact H

/-- The state after a point. -/
def step (s : State F) : State F :=
  on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1, zero13 v1 v3 s.2.1, zero14 v1 v3 s.2.2))

/-- The three that change can be taken out and put back at other contents. -/
theorem held_swap :
    Held (F := F) c arg4 arg5 arg6 arg7 arg8 arg9 arg10 arg13 arg14 arg15 arg16 arg17 arg18 x0 x1 x2 x3 x4 x5 y z0 z1 ⊢ iprop(owns (c : Thread nD τ) arg10 fullShare y ∗ owns (c : Thread nD τ) arg13 fullShare z0 ∗ owns (c : Thread nD τ) arg14 fullShare z1
      ∗ (∀ y' z0' z1', iprop(owns (c : Thread nD τ) arg10 fullShare y' ∗ owns (c : Thread nD τ) arg13 fullShare z0' ∗ owns (c : Thread nD τ) arg14 fullShare z1')
          -∗ Held (F := F) c arg4 arg5 arg6 arg7 arg8 arg9 arg10 arg13 arg14 arg15 arg16 arg17 arg18 x0 x1 x2 x3 x4 x5 y' z0' z1')) := by
  unfold Held
  iintro ⟨H4, H5, H6, H7, H8, H9, H10, H13, H14, H15, H16, H17, H18⟩
  isplitl [H10]; · iexact H10
  isplitl [H13]; · iexact H13
  isplitl [H14]; · iexact H14
  iintro %y' %z0' %z1' ⟨H10, H13, H14⟩
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  isplitl [H15]; · iexact H15
  isplitl [H16]; · iexact H16
  isplitl [H17]; · iexact H17
  iexact H18

set_option maxHeartbeats 4000000 in
/-- The whole body at a point. -/
theorem body_run (s : State F) (u0 : Vec F S2x512x256 .f32) (u1 : Vec F S2x512x128 .f32)
    (h2 : v1 = (arg2.access (Rect.unit (s := S36) (k0_off1 i) S1.size (k0_off1_inb i))).read (Elt F) f2 (Shape.Idx.first (numel1_S1.symm ▸ Nat.one_pos)))
    (h3 : v3 = (arg3.access (Rect.unit (s := S36) (k0_off1 i) S1.size (k0_off1_inb i))).read (Elt F) f3 (Shape.Idx.first (numel1_S1.symm ▸ Nat.one_pos)))
    (E : Set ℕ) (Q : PUnit → sProp (MT nD τ sig Unit (Elt F) ℕ (UR sig nD τ) ℕ)) :
    iprop((arg2.view.loc (c : Thread nD τ) ↦[arg2.view.set]{q2} f2) ∗ (arg3.view.loc (c : Thread nD τ) ↦[arg3.view.set]{q3} f3) ∗ Held (F := F) c arg4 arg5 arg6 arg7 arg8 arg9 arg10 arg13 arg14 arg15 arg16 arg17 arg18 x0 x1 x2 x3 x4 x5 s.1 s.2.1 s.2.2 ∗ owns (c : Thread nD τ) arg11 fullShare u0 ∗ owns (c : Thread nD τ) arg12 fullShare u1
        ∗ (iprop((arg2.view.loc (c : Thread nD τ) ↦[arg2.view.set]{q2} f2) ∗ (arg3.view.loc (c : Thread nD τ) ↦[arg3.view.set]{q3} f3) ∗ Held (F := F) c arg4 arg5 arg6 arg7 arg8 arg9 arg10 arg13 arg14 arg15 arg16 arg17 arg18 x0 x1 x2 x3 x4 x5 (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).1 (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.1 (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.2
            ∗ owns (c : Thread nD τ) arg11 fullShare (last11 v1 u0 (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.1) ∗ owns (c : Thread nD τ) arg12 fullShare (last12 v1 u1 (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.2)) -∗ Q ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  rw [cc0_attn_bwd_eq_skeleton, body1.eq]
  iintro ⟨H2, H3, HH, U, W, Hk⟩
  iapply (body1_run c i arg2 arg3 v1 v3 hw q2 q3 f2 f3 h2 h3 E Q _)
  isplitl [H2]; · iexact H2
  isplitl [H3]; · iexact H3
  iintro ⟨H2, H3⟩
  ihave HH := (held_swap c arg4 arg5 arg6 arg7 arg8 arg9 arg10 arg13 arg14 arg15 arg16 arg17 arg18 x0 x1 x2 x3 x4 x5 s.1 s.2.1 s.2.2) $$ HH
  icases HH with ⟨Y, Z0, Z1, Hb⟩
  rw [body2.eq]
  iapply (body2_run c i arg10 s.1 E Q _)
  isplitl [Y]; · iexact Y
  iintro Y
  rw [body3.eq]
  iapply (body3_run c arg13 arg14 v1 v3 s.2.1 s.2.2 E Q _)
  isplitl [Z0]; · iexact Z0
  isplitl [Z1]; · iexact Z1
  iintro ⟨Z0, Z1⟩
  rw [body4.eq]
  iapply (body4_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1, zero13 v1 v3 s.2.1, zero14 v1 v3 s.2.2) E Q _)
  isplitl [Y Z0 Z1 Hb]
  · iapply Hb
    isplitl [Y]; · iexact Y
    isplitl [Z0]; · iexact Z0
    iexact Z1
  iintro HH
  rw [body5.eq]
  iapply (body5_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1, zero13 v1 v3 s.2.1, zero14 v1 v3 s.2.2)) E Q _)
  isplitl [HH]; · iexact HH
  iintro HH
  rw [body6.eq]
  ihave HH := (held_swap c arg4 arg5 arg6 arg7 arg8 arg9 arg10 arg13 arg14 arg15 arg16 arg17 arg18 x0 x1 x2 x3 x4 x5 _ _ _) $$ HH
  icases HH with ⟨Y, Z0, Z1, Hb⟩
  iapply (body6_run c arg11 arg12 arg13 arg14 v1 (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.1 (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 s).2.2 u0 u1 E Q _)
  isplitl [U]; · iexact U
  isplitl [W]; · iexact W
  isplitl [Z0]; · iexact Z0
  isplitl [Z1]; · iexact Z1
  iintro ⟨U, W, Z0, Z1⟩
  unfold body6.tail
  sl_exec
  rw [wp_ret]; imodintro
  iapply Hk
  isplitl [H2]; · iexact H2
  isplitl [H3]; · iexact H3
  isplitl [Y Z0 Z1 Hb]
  · iapply Hb
    isplitl [Y]; · iexact Y
    isplitl [Z0]; · iexact Z0
    iexact Z1
  isplitl [U]; · iexact U
  iexact W

end Cert.AttnBwdIdeal.Run

end
-- ==== Proof.AttnFrame.lean ====
module

public import proofs.«01_k».proof.Proof.AttnBody
public import Idealize.ShloMosaic.Lib.Pipeline.TableIdle
public import Idealize.ShloMosaic.Lib.Pipeline.Frame

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnBwdIdeal Cert.AttnBwdIdeal.Gen

variable {F : FTy → Type} [FloatOps F] [Named F]

variable (m : (ℓ : Loc nD τ sig) → Buf (Elt F) ℓ) (ρ : Dev nD → PrngReg)

/-- The buffers of a core when the kernel starts. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main [hostOps0] hostOps0_sub hostOps0_fresh main_chain

/-- The block of an operand at a point. -/
def iblk (c : Dev nD) (w : Fin (cfg (F := F)).W) (t : Fin grid0.N) : (((cfg (F := F)).win w).xblock ((cfg (F := F)).grid.coords t)).Idx → Elt F ((cfg (F := F)).win w).elt :=
  (((cfg (F := F)).win w).blk t).view.read (Elt F) (V m c (Pipeline.arrRef spec0 w))

abbrev ms0 (t : Fin grid0.N) : Memref sig .tc .vmem S2x512x256 .bf16 := spec0_0.stage ((cfg (F := F)).slots t 0)
abbrev hs0 (t : Fin grid0.N) : (ms0 (F := F) t).IsWhole := hstage0_0 (((cfg (F := F)).slots t 0).cast nbuf0_0)
abbrev ms1 (t : Fin grid0.N) : Memref sig .tc .vmem S2x512x256 .bf16 := spec0_1.stage ((cfg (F := F)).slots t 1)
abbrev hs1 (t : Fin grid0.N) : (ms1 (F := F) t).IsWhole := hstage0_1 (((cfg (F := F)).slots t 1).cast nbuf0_1)
abbrev ms2 (t : Fin grid0.N) : Memref sig .tc .vmem S2x512x256 .bf16 := spec0_2.stage ((cfg (F := F)).slots t 2)
abbrev hs2 (t : Fin grid0.N) : (ms2 (F := F) t).IsWhole := hstage0_2 (((cfg (F := F)).slots t 2).cast nbuf0_2)
abbrev ms3 (t : Fin grid0.N) : Memref sig .tc .vmem S512x256 .bf16 := spec0_3.stage ((cfg (F := F)).slots t 3)
abbrev hs3 (t : Fin grid0.N) : (ms3 (F := F) t).IsWhole := hstage0_3 (((cfg (F := F)).slots t 3).cast nbuf0_3)
abbrev ms4 (t : Fin grid0.N) : Memref sig .tc .vmem S2x512x1 .f32 := spec0_4.stage ((cfg (F := F)).slots t 4)
abbrev hs4 (t : Fin grid0.N) : (ms4 (F := F) t).IsWhole := hstage0_4 (((cfg (F := F)).slots t 4).cast nbuf0_4)
abbrev ms5 (t : Fin grid0.N) : Memref sig .tc .vmem S2x512x1 .f32 := spec0_5.stage ((cfg (F := F)).slots t 5)
abbrev hs5 (t : Fin grid0.N) : (ms5 (F := F) t).IsWhole := hstage0_5 (((cfg (F := F)).slots t 5).cast nbuf0_5)
abbrev ms6 (t : Fin grid0.N) : Memref sig .tc .vmem S2x4096x256 .f32 := spec0_6.stage ((cfg (F := F)).slots t 6)
abbrev hs6 (t : Fin grid0.N) : (ms6 (F := F) t).IsWhole := hstage0_6 (((cfg (F := F)).slots t 6).cast nbuf0_6)
abbrev ms7 (t : Fin grid0.N) : Memref sig .tc .vmem S2x512x256 .f32 := spec0_7.stage ((cfg (F := F)).slots t 7)
abbrev hs7 (t : Fin grid0.N) : (ms7 (F := F) t).IsWhole := hstage0_7 (((cfg (F := F)).slots t 7).cast nbuf0_7)
abbrev ms8 (t : Fin grid0.N) : Memref sig .tc .vmem S2x512x128 .f32 := spec0_8.stage ((cfg (F := F)).slots t 8)
abbrev hs8 (t : Fin grid0.N) : (ms8 (F := F) t).IsWhole := hstage0_8 (((cfg (F := F)).slots t 8).cast nbuf0_8)

/-- The state after a point, from the state before it. -/
def stepAt (c : Dev nD) (t : Fin grid0.N) (s : State F) : State F :=
  step c (grid0.coords t) (Memref.whole main_c) (Memref.isWhole_whole _) (Memref.whole main_c_0) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (qw (grid0.coords t)) (kw (grid0.coords t)) ⟨words_ok _⟩ (iblk m c 0 t) (iblk m c 1 t) (iblk m c 2 t) (iblk m c 3 t) (iblk m c 4 t) (iblk m c 5 t) s

/-- The state before a point, from any start. -/
def traj (c : Dev nD) : (n : ℕ) → n ≤ grid0.N → State F
  | 0, _ => (k0_pay1, k0_pay2, k0_pay3)
  | n + 1, h => stepAt m c ⟨n, h⟩ (traj c n (Nat.le_of_lt h))

/-- What the points leave in the buffers that are kept between them. -/
def Keep (c : Dev nD) (n : ℕ) (h : n ≤ grid0.N) : sProp (MT nD τ sig Unit (Elt F) ℕ (UR sig nD τ) ℕ) :=
  iprop((∃ s : Vec F S2x512x256 .f32 × Vec F S2x512x128 .f32, ⌜n ≠ 0 → s = (traj m c n h).2⌝ ∗ owns (c : Thread nD τ) (Memref.whole cc0_scratch0) fullShare s.1
      ∗ owns (c : Thread nD τ) (Memref.whole cc0_scratch1) fullShare s.2)
    ∗ (∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d) ∗ (∃ d, owns (c : Thread nD τ) (Memref.whole cc0_scratch5) fullShare d)
    ∗ (∃ r, prngReg c r) ∗ Pipeline.ΦT pre0 tab c)

def dats (_ : Fin 1) (c : Dev nD) : Dat τ (Elt F) Unit ℕ (UR sig nD τ) ℕ (cfg (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (traj m c (t.val + 1) t.isLt).1
    | ⟨7, _⟩ => (traj m c (t.val + 1) t.isLt).2.1
    | ⟨8, _⟩ => (traj m c (t.val + 1) t.isLt).2.2
    | ⟨_ + 9, h⟩ => absurd h (Nat.not_lt.2 (Nat.le_add_left _ _))
  Φ t := Keep m c t.val (Nat.le_of_lt_succ t.isLt)
  q _ := fullShare
  owed _ := 0

theorem A_eq (c : Dev nD) (w : Fin (cfg (F := F)).W) : (dats m 0 c).A w = V m c (Pipeline.arrRef spec0 w) := by
  dsimp only [dats]

theorem after0 (c : Dev nD) (t : Fin grid0.N) : (dats m 0 c).after 0 t = iblk m c 0 t := by dsimp only [dats]; rfl
theorem after1 (c : Dev nD) (t : Fin grid0.N) : (dats m 0 c).after 1 t = iblk m c 1 t := by dsimp only [dats]; rfl
theorem after2 (c : Dev nD) (t : Fin grid0.N) : (dats m 0 c).after 2 t = iblk m c 2 t := by dsimp only [dats]; rfl
theorem after3 (c : Dev nD) (t : Fin grid0.N) : (dats m 0 c).after 3 t = iblk m c 3 t := by dsimp only [dats]; rfl
theorem after4 (c : Dev nD) (t : Fin grid0.N) : (dats m 0 c).after 4 t = iblk m c 4 t := by dsimp only [dats]; rfl
theorem after5 (c : Dev nD) (t : Fin grid0.N) : (dats m 0 c).after 5 t = iblk m c 5 t := by dsimp only [dats]; rfl
theorem after6 (c : Dev nD) (t : Fin grid0.N) : (dats m 0 c).after 6 t = (traj m c (t.val + 1) t.isLt).1 := by dsimp only [dats]; rfl
theorem after7 (c : Dev nD) (t : Fin grid0.N) : (dats m 0 c).after 7 t = (traj m c (t.val + 1) t.isLt).2.1 := by dsimp only [dats]; rfl
theorem after8 (c : Dev nD) (t : Fin grid0.N) : (dats m 0 c).after 8 t = (traj m c (t.val + 1) t.isLt).2.2 := by dsimp only [dats]; rfl

theorem before0 (c : Dev nD) (t : Fin grid0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin grid0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin grid0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin grid0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin grid0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin grid0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

theorem stays6 (t : Fin grid0.N) : decide ((t.val + 1) % 36 = 0) = (true && (decide (t.val + 1 = grid0.N) || decide (∃ h : t.val + 1 < grid0.N,
      ![(BitVec.ofNat 32 (grid0.coords ⟨t.val + 1, h⟩ 0).val).toNat, 0, 0] ≠ ![(BitVec.ofNat 32 (grid0.coords t 0).val).toNat, 0, 0]))) := by
  revert t; decide +kernel

theorem flush6 (t : Fin grid0.N) : ((cfg (F := F)).win 6).flush t = decide ((t.val + 1) % 36 = 0) := by
  have e : ((cfg (F := F)).win 6).index = fun t => ![(BitVec.ofNat 32 (grid0.coords t 0).val).toNat, 0, 0] := rfl
  unfold Pipeline.Window.flush
  rw [e]
  exact (stays6 t).symm

theorem fresh6 (n : ℕ) (h : n ≤ grid0.N) : (cfg (F := F)).fresh 6 n = decide (n % 36 = 0) :=
  Pipeline.Cfg.fresh_tab _ 6 (fun n => decide (n % 36 = 0)) rfl (fun t => by rw [idle6, flush6, Bool.false_and, Bool.or_false]) n h

theorem first (t : Fin grid0.N) : k0_cond1 (grid0.coords t) = 1#1 ↔ t.val % 36 = 0 := by revert t; decide +kernel

theorem start (t : Fin grid0.N) (h : t.val = 0) :
    Scalar.cmpi .ne (Scalar.extui (Scalar.cmpi .eq (qw (grid0.coords t)) (kw (grid0.coords t)))) 0#32 = 1#1 := by
  revert t; decide +kernel

theorem before6 (c : Dev nD) (t : Fin grid0.N) (h : ¬ t.val % 36 = 0) (d) :
    (dats m 0 c).before 6 t d = (traj m c t.val (Nat.le_of_lt t.isLt)).1 := by
  have h0 : t.val ≠ 0 := fun e => h (by rw [e])
  rw [(dats m 0 c).before_out_traj 6 rfl (fun _ _ => rfl) (fun t _ h _ => absurd (h.symm.trans (idle6 t)) (by decide)) t.val t rfl d, fresh6 _ (Nat.le_of_lt t.isLt)]
  rw [if_neg (by rw [decide_eq_false h]; decide)]
  obtain ⟨n, hn⟩ := t
  obtain ⟨k, rfl⟩ := Nat.exists_eq_succ_of_ne_zero h0
  exact after6 m c _

/-- A point leaves the state that the next begins with, whatever it found in the buffers it resets. -/
theorem stepAt_before (c : Dev nD) (t : Fin grid0.N) (d) (s : Vec F S2x512x256 .f32 × Vec F S2x512x128 .f32)
    (hs : t.val ≠ 0 → s = (traj m c t.val (Nat.le_of_lt t.isLt)).2) :
    stepAt m c t ((dats m 0 c).before 6 t d, s) = traj m c (t.val + 1) t.isLt := by
  show _ = stepAt m c t (traj m c t.val (Nat.le_of_lt t.isLt))
  have e0 : zero10 (grid0.coords t) ((dats m 0 c).before 6 t d) = zero10 (grid0.coords t) (traj m c t.val (Nat.le_of_lt t.isLt)).1 := by
    by_cases h : t.val % 36 = 0
    · exact (if_pos ((first t).mpr h)).trans (if_pos ((first t).mpr h)).symm
    · exact congrArg (zero10 (grid0.coords t)) (before6 m c t h d)
  have e1 : zero13 (qw (grid0.coords t)) (kw (grid0.coords t)) s.1 = zero13 (qw (grid0.coords t)) (kw (grid0.coords t)) (traj m c t.val (Nat.le_of_lt t.isLt)).2.1 := by
    by_cases h : t.val = 0
    · unfold zero13; rw [if_pos (start t h), if_pos (start t h)]
    · rw [hs h]
  have e2 : zero14 (qw (grid0.coords t)) (kw (grid0.coords t)) s.2 = zero14 (qw (grid0.coords t)) (kw (grid0.coords t)) (traj m c t.val (Nat.le_of_lt t.isLt)).2.2 := by
    by_cases h : t.val = 0
    · unfold zero14; rw [if_pos (start t h), if_pos (start t h)]
    · rw [hs h]
  unfold stepAt step
  exact congrArg _ (congrArg _ (Prod.ext e0 (Prod.ext e1 e2)))

/-! ## The body at a point -/

/-- The two tables at half the share. -/
theorem tables (c : Dev nD) : (Pipeline.ΦT pre0 tab c : sProp (MT nD τ sig Unit (Elt F) ℕ (UR sig nD τ) ℕ))
    = iprop(((Memref.whole main_c).view.loc (c : Thread nD τ) ↦[(Memref.whole main_c).view.set]{fullShare.right} tab 0)
      ∗ ((Memref.whole main_c_0).view.loc (c : Thread nD τ) ↦[(Memref.whole main_c_0).view.set]{fullShare.right} tab 1)) := by
  unfold Pipeline.ΦT Pipeline.prefHeld
  rw [View.set_whole, View.set_whole]
  exact bigSep_univ_two _

/-- The kernel's body with the buffers of a point. -/
abbrev bodyAt (t : Fin grid0.N) : Prog (TpuEff nD τ sig (Elt F) Λ₀ .tc) PUnit :=
  cc0_attn_bwd (F := F) (grid0.coords t) (Memref.whole main_c) (Memref.isWhole_whole _) (Memref.whole main_c_0) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

set_option maxHeartbeats 2000000 in
theorem point_run (c : Dev nD) (t : Fin grid0.N) (d) (u0 : Vec F S2x512x256 .f32) (u1 : Vec F S2x512x128 .f32) (Q : PUnit → sProp (MT nD τ sig Unit (Elt F) ℕ (UR sig nD τ) ℕ)) :
    iprop(Keep m c t.val (Nat.le_of_lt t.isLt) ∗ owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ owns (c : Thread nD τ) (ms6 (F := F) t) fullShare ((dats m 0 c).before 6 t d) ∗ owns (c : Thread nD τ) (ms7 (F := F) t) fullShare u0 ∗ owns (c : Thread nD τ) (ms8 (F := F) t) fullShare u1
      ∗ (iprop(Keep m c (t.val + 1) t.isLt ∗ owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ owns (c : Thread nD τ) (ms6 (F := F) t) fullShare (traj m c (t.val + 1) t.isLt).1 ∗ owns (c : Thread nD τ) (ms7 (F := F) t) fullShare (last11 (qw (grid0.coords t)) u0 (traj m c (t.val + 1) t.isLt).2.1) ∗ owns (c : Thread nD τ) (ms8 (F := F) t) fullShare (last12 (qw (grid0.coords t)) u1 (traj m c (t.val + 1) t.isLt).2.2)) -∗ Q ⟨⟩))
      ⊢ wp frame (wpE (defs₀ (F := F)) Variants.none (c : Thread nD τ) none) Set.univ (bodyAt t) Q := by
  rw [Keep, Keep, tables]
  iintro ⟨⟨⟨%s, %hs, Z0, Z1⟩, ⟨%d15, S2⟩, ⟨%d16, S3⟩, ⟨%d17, S4⟩, ⟨%d18, S5⟩, Hr, T0, T1⟩, H0, H1, H2, H3, H4, H5, H6, H7, H8, Hk⟩
  have e := stepAt_before m c t d s hs
  unfold stepAt at e
  iapply (body_run c (grid0.coords t) (Memref.whole main_c) (Memref.isWhole_whole _) (Memref.whole main_c_0) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (qw (grid0.coords t)) (kw (grid0.coords t)) ⟨words_ok (grid0.coords t)⟩ (iblk m c 0 t) (iblk m c 1 t) (iblk m c 2 t) (iblk m c 3 t) (iblk m c 4 t) (iblk m c 5 t) fullShare.right fullShare.right (tab 0) (tab 1) ((dats m 0 c).before 6 t d, s) u0 u1 (at0 (F := F) _).symm (at1 (F := F) _).symm Set.univ Q)
  rw [e]
  isplitl [T0]; · iexact T0
  isplitl [T1]; · iexact T1
  isplitl [H0 H1 H2 H3 H4 H5 H6 Z0 Z1 S2 S3 S4 S5]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Z0]; · iexact Z0
    isplitl [Z1]; · iexact Z1
    isplitl [S2]; · iexists d15; iexact S2
    isplitl [S3]; · iexists d16; iexact S3
    isplitl [S4]; · iexists d17; iexact S4
    iexists d18; iexact S5
  isplitl [H7]; · iexact H7
  isplitl [H8]; · iexact H8
  unfold Held
  iintro ⟨T0, T1, ⟨H0, H1, H2, H3, H4, H5, H6, Z0, Z1, S2, S3, S4, S5⟩, H7, H8⟩
  iapply Hk
  isplitl [T0 T1 Z0 Z1 S2 S3 S4 S5 Hr]
  · isplitl [Z0 Z1]
    · iexists (traj m c (t.val + 1) t.isLt).2
      isplitr; · ipureintro; exact fun _ => rfl
      isplitl [Z0]; · iexact Z0
      iexact Z1
    isplitl [S2]; · iexact S2
    isplitl [S3]; · iexact S3
    isplitl [S4]; · iexact S4
    isplitl [S5]; · iexact S5
    isplitl [Hr]; · iexact Hr
    isplitl [T0]; · iexact T0
    iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem kept6 (c : Dev nD) (t : Fin grid0.N) :
    (owns (c : Thread nD τ) (ms6 (F := F) t) fullShare (traj m c (t.val + 1) t.isLt).1 : sProp (MT nD τ sig Unit (Elt F) ℕ (UR sig nD τ) ℕ)) ⊢ (dats m 0 c).leavesExact 6 t := by
  unfold Dat.leavesExact
  rw [idle6, after6]; exact .rfl

theorem kept7 (c : Dev nD) (t : Fin grid0.N) (d) :
    (owns (c : Thread nD τ) (ms7 (F := F) t) fullShare (last11 (qw (grid0.coords t)) ((dats m 0 c).before 7 t d) (traj m c (t.val + 1) t.isLt).2.1) : sProp (MT nD τ sig Unit (Elt F) ℕ (UR sig nD τ) ℕ)) ⊢ (dats m 0 c).leavesExact 7 t := by
  unfold Dat.leavesExact
  by_cases h : k0_cond5 (qw (grid0.coords t)) = 1#1
  · rw [idle7, h, after7]; exact Entails.of_eq (congrArg (owns (c : Thread nD τ) (ms7 (F := F) t) fullShare) (if_pos h))
  · rw [idle7, flush7 t h, show (k0_cond5 (qw (grid0.coords t)) == 1#1) = false from beq_false_of_ne h]
    exact (Entails.of_eq (congrArg (owns (c : Thread nD τ) (ms7 (F := F) t) fullShare) (if_neg h))).trans (Idealize.SL.BI.Laws.exists_intro (Φ := fun d => owns (c : Thread nD τ) (ms7 (F := F) t) fullShare ((dats m 0 c).before 7 t d)) d)

theorem kept8 (c : Dev nD) (t : Fin grid0.N) (d) :
    (owns (c : Thread nD τ) (ms8 (F := F) t) fullShare (last12 (qw (grid0.coords t)) ((dats m 0 c).before 8 t d) (traj m c (t.val + 1) t.isLt).2.2) : sProp (MT nD τ sig Unit (Elt F) ℕ (UR sig nD τ) ℕ)) ⊢ (dats m 0 c).leavesExact 8 t := by
  unfold Dat.leavesExact
  by_cases h : k0_cond5 (qw (grid0.coords t)) = 1#1
  · rw [idle8, h, after8]; exact Entails.of_eq (congrArg (owns (c : Thread nD τ) (ms8 (F := F) t) fullShare) (if_pos h))
  · rw [idle8, flush8 t h, show (k0_cond5 (qw (grid0.coords t)) == 1#1) = false from beq_false_of_ne h]
    exact (Entails.of_eq (congrArg (owns (c : Thread nD τ) (ms8 (F := F) t) fullShare) (if_neg h))).trans (Idealize.SL.BI.Laws.exists_intro (Φ := fun d => owns (c : Thread nD τ) (ms8 (F := F) t) fullShare ((dats m 0 c).before 8 t d)) d)

theorem defs₀_row (t : Fin grid0.N) : defs₀ (F := F) .tc (cfg (F := F)).body ((cfg (F := F)).bodyArgs t ((cfg (F := F)).slots t)) = bodyAt t := by
  unfold defs₀; rw [Defs.onTc_tc]

theorem sound_body (c : Dev nD) (t : Fin grid0.N) :
    iprop(Keep m c t.val (Nat.le_of_lt t.isLt) ∗ (dats m 0 c).owesAt () t.castSucc ∗ iprop(∃ d, owns (c : Thread nD τ) (ms0 (F := F) t) fullShare ((dats m 0 c).before 0 t d)) ∗ iprop(∃ d, owns (c : Thread nD τ) (ms1 (F := F) t) fullShare ((dats m 0 c).before 1 t d)) ∗ iprop(∃ d, owns (c : Thread nD τ) (ms2 (F := F) t) fullShare ((dats m 0 c).before 2 t d)) ∗ iprop(∃ d, owns (c : Thread nD τ) (ms3 (F := F) t) fullShare ((dats m 0 c).before 3 t d)) ∗ iprop(∃ d, owns (c : Thread nD τ) (ms4 (F := F) t) fullShare ((dats m 0 c).before 4 t d)) ∗ iprop(∃ d, owns (c : Thread nD τ) (ms5 (F := F) t) fullShare ((dats m 0 c).before 5 t d)) ∗ iprop(∃ d, owns (c : Thread nD τ) (ms6 (F := F) t) fullShare ((dats m 0 c).before 6 t d)) ∗ iprop(∃ d, owns (c : Thread nD τ) (ms7 (F := F) t) fullShare ((dats m 0 c).before 7 t d)) ∗ iprop(∃ d, owns (c : Thread nD τ) (ms8 (F := F) t) fullShare ((dats m 0 c).before 8 t d)))
      ⊢ wp frame (wpE (defs₀ (F := F)) Variants.none (c : Thread nD τ) none) Set.univ (bodyAt t) (fun _ => iprop(Keep m c (t.val + 1) t.isLt ∗ (dats m 0 c).owesAt () t.succ ∗ owns (c : Thread nD τ) (ms0 (F := F) t) fullShare ((dats m 0 c).after 0 t) ∗ owns (c : Thread nD τ) (ms1 (F := F) t) fullShare ((dats m 0 c).after 1 t) ∗ owns (c : Thread nD τ) (ms2 (F := F) t) fullShare ((dats m 0 c).after 2 t) ∗ owns (c : Thread nD τ) (ms3 (F := F) t) fullShare ((dats m 0 c).after 3 t) ∗ owns (c : Thread nD τ) (ms4 (F := F) t) fullShare ((dats m 0 c).after 4 t) ∗ owns (c : Thread nD τ) (ms5 (F := F) t) fullShare ((dats m 0 c).after 5 t) ∗ (dats m 0 c).leavesExact 6 t ∗ (dats m 0 c).leavesExact 7 t ∗ (dats m 0 c).leavesExact 8 t)) := by
  iintro ⟨HK, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  simp only [before0, before1, before2, before3, before4, before5]
  iapply (point_run m c t d6 ((dats m 0 c).before 7 t d7) ((dats m 0 c).before 8 t d8) _)
  isplitl [HK]; · iexact HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨HK, H0, H1, H2, H3, H4, H5, H6, H7, H8⟩
  isplitl [HK]; · iexact HK
  isplitl [HO]; · iexact HO
  isplitl [H0]; · rw [after0]; iexact H0
  isplitl [H1]; · rw [after1]; iexact H1
  isplitl [H2]; · rw [after2]; iexact H2
  isplitl [H3]; · rw [after3]; iexact H3
  isplitl [H4]; · rw [after4]; iexact H4
  isplitl [H5]; · rw [after5]; iexact H5
  isplitl [H6]; · iapply (kept6 m c t) $$ H6
  isplitl [H7]
  · iapply (kept7 m c t d7) $$ H7
  iapply (kept8 m c t d8) $$ H8

theorem inv_before (c : Dev nD) (t : Fin grid0.N) : (dats m 0 c).Φ t.castSucc = Keep m c t.val (Nat.le_of_lt t.isLt) := by
  dsimp only [dats]; rfl
theorem inv_after (c : Dev nD) (t : Fin grid0.N) : (dats m 0 c).Φ t.succ = Keep m c (t.val + 1) t.isLt := by
  dsimp only [dats]; rfl

theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · exact sep_mono (Entails.of_eq (inv_before m c t)) (sep_mono .rfl (sep_mono .rfl (sep_mono .rfl (sep_mono .rfl (sep_mono .rfl (sep_mono .rfl (sep_mono .rfl (sep_mono .rfl (sep_mono .rfl (.rfl))))))))))
  · exact sep_mono (Entails.of_eq (inv_after m c t).symm) (sep_mono .rfl (sep_mono .rfl (sep_mono .rfl (sep_mono .rfl (sep_mono .rfl (sep_mono .rfl (sep_mono .rfl (sep_mono .rfl (sep_mono .rfl (.rfl))))))))))

end Cert.AttnBwdIdeal.Run

end
-- ==== Proof.AttnRun.lean ====
module

public import proofs.«01_k».proof.Proof.AttnFrame

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnBwdIdeal Cert.AttnBwdIdeal.Gen

variable {F : FTy → Type} [FloatOps F] [Named F]

variable (m : (ℓ : Loc nD τ sig) → Buf (Elt F) ℓ) (ρ : Dev nD → PrngReg)

set_option maxHeartbeats 2000000 in
theorem table0 (c : Dev nD) : V m c main_c = (tab (F := F)) 0 := by
  simp only [V, hostOps0, List.flatten_cons, List.flatten_nil, List.append_nil, List.cons_append, List.nil_append]
  rw [StableHlo.after_cons]
  refine (StableHlo.after_of_forall_not_mem (b := Proc.devRef .tc main_c) _ _ (List.forall_iff_forall_mem.mp (by
    simp only [List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))).trans ?_
  rfl

set_option maxHeartbeats 2000000 in
theorem table1 (c : Dev nD) : V m c main_c_0 = (tab (F := F)) 1 := by
  simp only [V, hostOps0, List.flatten_cons, List.flatten_nil, List.append_nil, List.cons_append, List.nil_append]
  rw [StableHlo.after_cons, StableHlo.after_cons]
  refine (StableHlo.after_of_forall_not_mem (b := Proc.devRef .tc main_c_0) _ _ (List.forall_iff_forall_mem.mp (by
    simp only [List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))).trans ?_
  rfl

theorem hin (c : Dev nD) : iprop(Pipeline.ΦA spec0 c ∗ Pipeline.ΦT pre0 tab c) ⊢ Keep m c 0 (Nat.zero_le _) := by
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, Hr⟩, HT⟩
  unfold Keep
  isplitl [S0 S1]
  · iexists ((Memref.whole cc0_scratch0).view.read (Elt F) f0, (Memref.whole cc0_scratch1).view.read (Elt F) f1)
    isplitr; · ipureintro; exact fun h => absurd rfl h
    isplitl [S0]; · rw [owns_whole]; iexact S0
    rw [owns_whole]; iexact S1
  isplitl [S2]; · iexists f2; rw [owns_whole]; iexact S2
  isplitl [S3]; · iexists f3; rw [owns_whole]; iexact S3
  isplitl [S4]; · iexists f4; rw [owns_whole]; iexact S4
  isplitl [S5]; · iexists f5; rw [owns_whole]; iexact S5
  isplitl [Hr]; · iexact Hr
  iexact HT

theorem hout (c : Dev nD) (n : ℕ) (h : n ≤ grid0.N) : Keep m c n h ⊢ Pipeline.ΦA spec0 c := by
  unfold Pipeline.ΦA Keep
  rw [scopedRest0_eq]
  simp only [owns_whole]
  iintro ⟨⟨%s, %hs, S0, S1⟩, ⟨%f2, S2⟩, ⟨%f3, S3⟩, ⟨%f4, S4⟩, ⟨%f5, S5⟩, Hr, -⟩
  isplitr [Hr]
  · isplitl [S0]; · iexists s.1; iexact S0
    isplitl [S1]; · iexists s.2; iexact S1
    isplitl [S2]; · iexists f2; iexact S2
    isplitl [S3]; · iexists f3; iexact S3
    isplitl [S4]; · iexists f4; iexact S4
    iexists f5; iexact S5
  iexact Hr

set_option maxHeartbeats 2000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

set_option maxHeartbeats 2000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

set_option maxHeartbeats 2000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

set_option maxHeartbeats 2000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

set_option maxHeartbeats 2000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

set_option maxHeartbeats 2000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

-- the implicit arguments of the launch theorem are found by unifying its conclusion with this one
set_option backward.isDefEq.respectTransparency.types false in
/-- The run of the kernel from any memory: every array of the call ends as the proof data say, every other buffer as the
    call found it, and every semaphore counter at zero. -/
theorem run : θ_run defs (onTc (τ := τ) (main (F := F))) ⟨m, fun _ => 0, ρ⟩
    (fun r => (Pipeline.FramePost (Pipeline.pin (pcfgs (F := F)) adm) (dats m) 0 (V m)) r ∧ r.2.sem = fun _ => 0) :=
  Pipeline.θ_run_frameP_track (Q' := _) pcfgs adm (dats m) (0 : Fin 1) launch0 defs₀ Variants.none m ρ main
    (fun c => (body_obligation m c).loose) (fun c => (dats m 0 c).share_full fun _ => rfl) (fun _ _ => rfl) (V m) (hmain m)
    (A_eq m) (fun c k => match k with | ⟨0, _⟩ => table0 m c | ⟨1, _⟩ => table1 m c)
    (fun c => hin m c) (fun c => hout m c _ _)

/-- The arguments of the program end unchanged. -/
theorem unchanged {r : PUnit × MemSt nD τ sig (Elt F)} (h : Pipeline.FramePost (Pipeline.pin (pcfgs (F := F)) adm) (dats m) 0 (V m) r) (c : Dev nD) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) := by
  refine ⟨?_, ?_, ?_, ?_, ?_, ?_⟩
  · exact ((h c).2 main_arg0 (Pipeline.mem_restRefs_of main_arg0 (by decide) (show ∀ w, (spec0 w).arr.view.ref ≠ main_arg0 by decide))).trans (V_main_arg0 m c)
  · exact ((h c).2 main_arg1 (Pipeline.mem_restRefs_of main_arg1 (by decide) (show ∀ w, (spec0 w).arr.view.ref ≠ main_arg1 by decide))).trans (V_main_arg1 m c)
  · exact ((h c).2 main_arg2 (Pipeline.mem_restRefs_of main_arg2 (by decide) (show ∀ w, (spec0 w).arr.view.ref ≠ main_arg2 by decide))).trans (V_main_arg2 m c)
  · exact ((h c).2 main_arg3 (Pipeline.mem_restRefs_of main_arg3 (by decide) (show ∀ w, (spec0 w).arr.view.ref ≠ main_arg3 by decide))).trans (V_main_arg3 m c)
  · exact ((h c).2 main_arg4 (Pipeline.mem_restRefs_of main_arg4 (by decide) (show ∀ w, (spec0 w).arr.view.ref ≠ main_arg4 by decide))).trans (V_main_arg4 m c)
  · exact ((h c).2 main_arg5 (Pipeline.mem_restRefs_of main_arg5 (by decide) (show ∀ w, (spec0 w).arr.view.ref ≠ main_arg5 by decide))).trans (V_main_arg5 m c)

end Cert.AttnBwdIdeal.Run

end
-- ==== Proof.AttnVals.lean ====
module

public import proofs.«01_k».proof.Proof.AttnBody
public import Idealize.ShloMosaic.Lib.Pipeline.ValueKit
public import Idealize.ShloMosaic.Lib.Pointwise
public import Idealize.ShloMosaic.Lib.WholeRead
public import Idealize.ShloMosaic.Lib.Ring

@[expose] public section

set_option maxRecDepth 16384

noncomputable section

open Idealize.ShloMosaic Idealize.ShloMosaic.TcCoe Idealize.SL.Sem
open Idealize.ShloMosaic.Tactic
open scoped BigOperators

namespace Cert.AttnBwdIdeal.Run

open Cert.AttnBwdIdeal Cert.AttnBwdIdeal.Gen

/-- The exponential of a score kept where its key comes no later than its query. -/
theorem masked (k r c : ℕ) (hk : k < 512) (hr : r < 512) (hc : c < 512) (s x : EReal) :
    (FloatOps.exp2 (F := Ideal) (φ := .f32) (Scalar.select (IntOp.cmpi CmpIPredicate.sle (BitVec.ofNat 32 c) (IntOp.addi (BitVec.ofNat 32 k) (BitVec.ofNat 32 r))) s
        (Ideal.ofBits FTy.f32 4286578688#32) - x : EReal) : EReal)
      = if k + r < c then (0 : EReal) else Ideal.exp2 (s - x) := by
  have e : IntOp.cmpi CmpIPredicate.sle (BitVec.ofNat 32 c) (IntOp.addi (BitVec.ofNat 32 k) (BitVec.ofNat 32 r)) = if k + r < c then 0#1 else 1#1 := by
    have hs : (BitVec.ofNat 32 c).sle (BitVec.ofNat 32 k + BitVec.ofNat 32 r) = decide (¬ k + r < c) := by
      rw [← BitVec.ofNat_add, BitVec.sle_eq_decide, BitVec.toInt_eq_toNat_of_lt (by simp only [BitVec.toNat_ofNat]; omega),
        BitVec.toInt_eq_toNat_of_lt (by simp only [BitVec.toNat_ofNat]; omega), decide_eq_decide, BitVec.toNat_ofNat, BitVec.toNat_ofNat,
        Nat.mod_eq_of_lt (by omega), Nat.mod_eq_of_lt (by omega)]
      omega
    unfold IntOp.cmpi IntOp.addi
    simp only [hs]
    by_cases h : k + r < c <;> simp [h]
  have b : (Ideal.ofBits FTy.f32 4286578688#32 : EReal) = ⊥ := by
    simp [Ideal.ofBits, Ideal.ieee]
  rw [e, b]
  split_ifs with h
  · show Ideal.exp2 ((⊥ : EReal) - x) = 0
    rw [EReal.bot_sub]
    rfl
  · rfl

variable (c : Dev nD) (i : grid0.Coords)
  (arg2 : Memref sig .tc .smem S36 .i32) (harg2 : arg2.IsWhole)
  (arg3 : Memref sig .tc .smem S36 .i32) (harg3 : arg3.IsWhole)
  (arg4 : Memref sig .tc .vmem S2x512x256 .bf16) (harg4 : arg4.IsWhole)
  (arg5 : Memref sig .tc .vmem S2x512x256 .bf16) (harg5 : arg5.IsWhole)
  (arg6 : Memref sig .tc .vmem S2x512x256 .bf16) (harg6 : arg6.IsWhole)
  (arg7 : Memref sig .tc .vmem S512x256 .bf16) (harg7 : arg7.IsWhole)
  (arg8 : Memref sig .tc .vmem S2x512x1 .f32) (harg8 : arg8.IsWhole)
  (arg9 : Memref sig .tc .vmem S2x512x1 .f32) (harg9 : arg9.IsWhole)
  (arg10 : Memref sig .tc .vmem S2x4096x256 .f32) (harg10 : arg10.IsWhole)
  (arg11 : Memref sig .tc .vmem S2x512x256 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2x512x128 .f32) (harg14 : arg14.IsWhole)
  (arg15 : Memref sig .tc .vmem S2x512x512 .f32) (harg15 : arg15.IsWhole)
  (arg16 : Memref sig .tc .vmem S2x512x512 .f32) (harg16 : arg16.IsWhole)
  (arg17 : Memref sig .tc .vmem S2x512x512 .bf16) (harg17 : arg17.IsWhole)
  (arg18 : Memref sig .tc .vmem S2x512x512 .bf16) (harg18 : arg18.IsWhole)
  (v1 v3 : BitVec 32) (hw : PLift (k0_chk1 v1 v3))
  (x0 x1 x2 : Vec Ideal S2x512x256 .bf16) (x3 : Vec Ideal S512x256 .bf16) (x4 x5 : Vec Ideal S2x512x1 .f32)
  (y : Vec Ideal S2x4096x256 .f32) (z0 : Vec Ideal S2x512x256 .f32) (z1 : Vec Ideal S2x512x128 .f32)

/-- The scores of a block of queries against a block of keys, before any factor. -/
def score : FVec Ideal S2x512x512 .f32 := fun y => ∑ d : Fin 256, x0 (ix3 (y 0) (y 1) d) * x1 (ix3 (y 0) (y 2) d)

/-- Column `d` of head `h` among the columns of a pair of heads. -/
def pairCol (h : Fin 2) (d : Fin 128) : Fin 256 := ⟨h.val * 128 + d.val, by omega⟩

/-- A value column among the columns of the key, the ones beside it left out. -/
def valCol (d : Fin 128) : Fin 256 := ⟨d.val, by omega⟩

/-- The products of the output gradient with the values. -/
def prods : FVec Ideal S2x512x512 .f32 := fun y => ∑ d : Fin 128, x3 (ix2 (y 1) (pairCol (y 0) d)) * x2 (ix3 (y 0) (y 2) (valCol d))

/-- The scale of the scores in powers of two. -/
abbrev c1 : EReal := Named.named (F := Ideal) κ "s_log2e" (φ := .f32) 0x3DD53B95#32

/-- The logarithm of e to base two. -/
abbrev c2 : EReal := Named.named (F := Ideal) κ "log2e" (φ := .f32) 0x3FB8AA3B#32

/-- The weights of the softmax, from the scores and the logarithms of their row sums; on a diagonal block those of later keys vanish. -/
def weight (diag : Prop) [Decidable diag] : FVec Ideal S2x512x512 .bf16 := fun y =>
  if diag ∧ (y 1).val < (y 2).val then (0 : EReal) else Ideal.exp2 (score x0 x1 y * c1 - x4 (ix3 (y 0) (y 1) 0) * c2)

/-- The gradients of the scores. -/
def slope (diag : Prop) [Decidable diag] : FVec Ideal S2x512x512 .bf16 := fun y =>
  (weight x0 x1 x4 diag y : EReal) * (prods x2 x3 y - x5 (ix3 (y 0) (y 1) 0))

/-- The held block of scores. -/
theorem off_score : View.canon (offRun.sl.H9_2 (F := Ideal) arg4 harg4 arg5 harg5 x0 x1) = score x0 x1 := by
  funext y
  idx_vars y
  unfold offRun.sl.H9_2
  canon_tiles w h
  all_goals
    idx_vars w
    obtain rfl := Fin.eq_zero w0
    obtain ⟨y0, q0⟩ := y0
    obtain ⟨y1, q1⟩ := y1
    obtain ⟨y2, q2⟩ := y2
    dsimp only at h0 h1 h2
    subst h0 h1 h2
    pointwise [k0_pay8, k0_pay10, View.readAt_eq_ld, Memref.IsWhole.read_unread, score]
    try rfl

/-- The held block of products. -/
theorem off_prods : View.canon (offRun.sl.H10_2 (F := Ideal) arg6 harg6 arg7 harg7 x2 x3) = prods x2 x3 := by
  funext y
  idx_vars y
  unfold offRun.sl.H10_2
  canon_tiles w h
  all_goals
    idx_vars w
    obtain rfl := Fin.eq_zero w0
    obtain ⟨y0, q0⟩ := y0
    obtain ⟨y1, q1⟩ := y1
    obtain ⟨y2, q2⟩ := y2
    dsimp only at h0 h1 h2
    subst h0 h1 h2
    pointwise [k0_pay9, k0_pay11, k0_pay12, offRun.sl.r, View.readAt_eq_ld, Memref.IsWhole.read_unread, prods]
    try rfl

/-- The held block of weights. -/
theorem off_weight : View.canon (offRun.sl.H11_16 (F := Ideal) arg4 harg4 arg5 harg5 arg8 harg8 arg15 x0 x1 x4) = weight x0 x1 x4 False := by
  funext y
  idx_vars y
  unfold offRun.sl.H11_16
  canon_tiles w h
  all_goals
    idx_vars w
    try simp only [
      offRun.sl.r_1, offRun.sl.r_2, offRun.sl.r_3, offRun.sl.r_4, offRun.sl.r_5, offRun.sl.r_6, offRun.sl.r_7, offRun.sl.r_8,
      offRun.sl.r_9, offRun.sl.r_10, offRun.sl.r_11, offRun.sl.r_12, offRun.sl.r_13, offRun.sl.r_14, offRun.sl.r_15, offRun.sl.r_16,
      offRun.sl.r_17, offRun.sl.r_18, offRun.sl.r_19, offRun.sl.v51, offRun.sl.v62, offRun.sl.v77, offRun.sl.v88, offRun.sl.v103,
      offRun.sl.v114, offRun.sl.v129, offRun.sl.v140, offRun.sl.v155, offRun.sl.v166, offRun.sl.v181, offRun.sl.v192, offRun.sl.v207,
      offRun.sl.v218, offRun.sl.v233, offRun.sl.v244, offRun.sl.v259, offRun.sl.v270, offRun.sl.v285, offRun.sl.v296, offRun.sl.v311,
      offRun.sl.v322, offRun.sl.v337, offRun.sl.v348, offRun.sl.v363, offRun.sl.v374, offRun.sl.v389, offRun.sl.v400, offRun.sl.v415,
      offRun.sl.v426, offRun.sl.v441, offRun.sl.v452, View.readCov_eq_canon', off_score, off_prods, View.readAt_eq_ld,
      Memref.IsWhole.read_unread]
    obtain rfl := Fin.eq_zero w0
    obtain ⟨y0, q0⟩ := y0
    obtain ⟨y1, q1⟩ := y1
    obtain ⟨y2, q2⟩ := y2
    dsimp only at h0 h1 h2
    subst h0 h1 h2
    pointwise [
      k0_pay13, k0_pay14, k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36, k0_pay37, k0_pay38,
      k0_pay39, k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, weight, slope]
    simp only [false_and, if_false]
    rfl

/-- The held block of score gradients. -/
theorem off_slope : View.canon (offRun.sl.H12_16 (F := Ideal) arg4 harg4 arg5 harg5 arg6 harg6 arg7 harg7 arg8 harg8 arg9 harg9 arg15 arg16 x0 x1 x2 x3 x4 x5) = slope x0 x1 x2 x3 x4 x5 False := by
  funext y
  idx_vars y
  unfold offRun.sl.H12_16
  canon_tiles w h
  all_goals
    idx_vars w
    try simp only [
      offRun.sl.r_1, offRun.sl.r_2, offRun.sl.r_3, offRun.sl.r_4, offRun.sl.r_5, offRun.sl.r_6, offRun.sl.r_7, offRun.sl.r_8,
      offRun.sl.r_9, offRun.sl.r_10, offRun.sl.r_11, offRun.sl.r_12, offRun.sl.r_13, offRun.sl.r_14, offRun.sl.r_15, offRun.sl.r_16,
      offRun.sl.r_17, offRun.sl.r_18, offRun.sl.r_19, offRun.sl.v51, offRun.sl.v62, offRun.sl.v77, offRun.sl.v88, offRun.sl.v103,
      offRun.sl.v114, offRun.sl.v129, offRun.sl.v140, offRun.sl.v155, offRun.sl.v166, offRun.sl.v181, offRun.sl.v192, offRun.sl.v207,
      offRun.sl.v218, offRun.sl.v233, offRun.sl.v244, offRun.sl.v259, offRun.sl.v270, offRun.sl.v285, offRun.sl.v296, offRun.sl.v311,
      offRun.sl.v322, offRun.sl.v337, offRun.sl.v348, offRun.sl.v363, offRun.sl.v374, offRun.sl.v389, offRun.sl.v400, offRun.sl.v415,
      offRun.sl.v426, offRun.sl.v441, offRun.sl.v452, View.readCov_eq_canon', off_score, off_prods, View.readAt_eq_ld,
      Memref.IsWhole.read_unread]
    obtain rfl := Fin.eq_zero w0
    obtain ⟨y0, q0⟩ := y0
    obtain ⟨y1, q1⟩ := y1
    obtain ⟨y2, q2⟩ := y2
    dsimp only at h0 h1 h2
    subst h0 h1 h2
    pointwise [
      k0_pay13, k0_pay14, k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36, k0_pay37, k0_pay38,
      k0_pay39, k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, weight, slope]
    simp only [false_and, if_false]
    rfl

/-- The held block of scores. -/
theorem on_score : View.canon (onRun.sl.H9_2 (F := Ideal) arg4 harg4 arg5 harg5 x0 x1) = score x0 x1 := by
  funext y
  idx_vars y
  unfold onRun.sl.H9_2
  canon_tiles w h
  all_goals
    idx_vars w
    obtain rfl := Fin.eq_zero w0
    obtain ⟨y0, q0⟩ := y0
    obtain ⟨y1, q1⟩ := y1
    obtain ⟨y2, q2⟩ := y2
    dsimp only at h0 h1 h2
    subst h0 h1 h2
    pointwise [k0_pay81, k0_pay83, View.readAt_eq_ld, Memref.IsWhole.read_unread, score]
    try rfl

/-- The held block of products. -/
theorem on_prods : View.canon (onRun.sl.H10_2 (F := Ideal) arg6 harg6 arg7 harg7 x2 x3) = prods x2 x3 := by
  funext y
  idx_vars y
  unfold onRun.sl.H10_2
  canon_tiles w h
  all_goals
    idx_vars w
    obtain rfl := Fin.eq_zero w0
    obtain ⟨y0, q0⟩ := y0
    obtain ⟨y1, q1⟩ := y1
    obtain ⟨y2, q2⟩ := y2
    dsimp only at h0 h1 h2
    subst h0 h1 h2
    pointwise [k0_pay82, k0_pay84, k0_pay85, onRun.sl.r, View.readAt_eq_ld, Memref.IsWhole.read_unread, prods]
    try rfl

/-- The held block of weights. -/
theorem on_weight : View.canon (onRun.sl.H11_28 (F := Ideal) arg4 harg4 arg5 harg5 arg8 harg8 arg15 x0 x1 x4) = weight x0 x1 x4 True := by
  funext y
  idx_vars y
  unfold onRun.sl.H11_28
  canon_tiles w h using (View.cover_of_tiledBy _ ![1, 64, 128] (by sl_kernel_rfl) _)
  all_goals
    idx_vars w
    try simp only [
      onRun.sl.cst_306, onRun.sl.r_1, onRun.sl.r_2, onRun.sl.r_3, onRun.sl.r_4, onRun.sl.r_5, onRun.sl.r_6, onRun.sl.r_7, onRun.sl.r_8,
      onRun.sl.r_9, onRun.sl.r_10, onRun.sl.r_11, onRun.sl.r_12, onRun.sl.r_13, onRun.sl.r_14, onRun.sl.r_15, onRun.sl.r_16,
      onRun.sl.r_17, onRun.sl.r_18, onRun.sl.r_19, onRun.sl.r_20, onRun.sl.r_21, onRun.sl.r_22, onRun.sl.r_23, onRun.sl.r_24,
      onRun.sl.r_25, onRun.sl.v51, onRun.sl.v69, onRun.sl.v92, onRun.sl.v110, onRun.sl.v133, onRun.sl.v151, onRun.sl.v174, onRun.sl.v192,
      onRun.sl.v215, onRun.sl.v233, onRun.sl.v241, onRun.sl.v256, onRun.sl.v274, onRun.sl.v297, onRun.sl.v315, onRun.sl.v330,
      onRun.sl.v348, onRun.sl.v363, onRun.sl.v381, onRun.sl.v404, onRun.sl.v422, onRun.sl.v445, onRun.sl.v463, onRun.sl.v486,
      onRun.sl.v504, onRun.sl.v527, onRun.sl.v545, onRun.sl.v568, onRun.sl.v586, onRun.sl.v609, onRun.sl.v627, onRun.sl.v642,
      onRun.sl.v660, View.readCov_eq_canon', on_score, on_prods, View.readAt_eq_ld, Memref.IsWhole.read_unread]
    obtain rfl := Fin.eq_zero w0
    obtain ⟨y0, q0⟩ := y0
    obtain ⟨y1, q1⟩ := y1
    obtain ⟨y2, q2⟩ := y2
    dsimp only at h0 h1 h2
    subst h0 h1 h2
    pointwise [
      k0_pay86, k0_pay87, k0_pay88, k0_pay89, k0_pay90, k0_pay91, k0_pay92, k0_pay93, k0_pay94, k0_pay95, k0_pay96, k0_pay97, k0_pay98,
      k0_pay99, k0_pay100, k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120, k0_pay121, k0_pay122,
      k0_pay123, k0_pay124, k0_pay125, k0_pay126, k0_pay127, k0_pay128, k0_pay129, k0_pay130, k0_pay131, k0_pay132, k0_pay133, k0_pay134,
      k0_pay135, k0_pay136, k0_pay137, k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155, k0_pay156, k0_pay157, k0_pay158,
      k0_pay159, k0_pay160, k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180, k0_pay181, weight,
      slope]
    try simp only [true_and]
    first
      | exact (if_pos (by omega)).symm
      | exact ((congrArg (fun a : EReal => a * _) (if_pos (by omega))).trans (zero_mul _)).symm
      | (refine (masked _ _ _ ?_ ?_ ?_ _ _).trans ?_ <;> first | omega | (split_ifs <;> first | rfl | (exfalso; omega)))
      | (refine congrArg₂ (fun a b : EReal => a * b) ((masked _ _ _ ?_ ?_ ?_ _ _).trans ?_) rfl <;>
          first | omega | (split_ifs <;> first | rfl | (exfalso; omega)))

/-- The held block of score gradients. -/
theorem on_slope : View.canon (onRun.sl.H12_28 (F := Ideal) arg4 harg4 arg5 harg5 arg6 harg6 arg7 harg7 arg8 harg8 arg9 harg9 arg15 arg16 x0 x1 x2 x3 x4 x5) = slope x0 x1 x2 x3 x4 x5 True := by
  funext y
  idx_vars y
  unfold onRun.sl.H12_28
  canon_tiles w h using (View.cover_of_tiledBy _ ![1, 64, 128] (by sl_kernel_rfl) _)
  all_goals
    idx_vars w
    try simp only [
      onRun.sl.cst_306, onRun.sl.r_1, onRun.sl.r_2, onRun.sl.r_3, onRun.sl.r_4, onRun.sl.r_5, onRun.sl.r_6, onRun.sl.r_7, onRun.sl.r_8,
      onRun.sl.r_9, onRun.sl.r_10, onRun.sl.r_11, onRun.sl.r_12, onRun.sl.r_13, onRun.sl.r_14, onRun.sl.r_15, onRun.sl.r_16,
      onRun.sl.r_17, onRun.sl.r_18, onRun.sl.r_19, onRun.sl.r_20, onRun.sl.r_21, onRun.sl.r_22, onRun.sl.r_23, onRun.sl.r_24,
      onRun.sl.r_25, onRun.sl.v51, onRun.sl.v69, onRun.sl.v92, onRun.sl.v110, onRun.sl.v133, onRun.sl.v151, onRun.sl.v174, onRun.sl.v192,
      onRun.sl.v215, onRun.sl.v233, onRun.sl.v241, onRun.sl.v256, onRun.sl.v274, onRun.sl.v297, onRun.sl.v315, onRun.sl.v330,
      onRun.sl.v348, onRun.sl.v363, onRun.sl.v381, onRun.sl.v404, onRun.sl.v422, onRun.sl.v445, onRun.sl.v463, onRun.sl.v486,
      onRun.sl.v504, onRun.sl.v527, onRun.sl.v545, onRun.sl.v568, onRun.sl.v586, onRun.sl.v609, onRun.sl.v627, onRun.sl.v642,
      onRun.sl.v660, View.readCov_eq_canon', on_score, on_prods, View.readAt_eq_ld, Memref.IsWhole.read_unread]
    obtain rfl := Fin.eq_zero w0
    obtain ⟨y0, q0⟩ := y0
    obtain ⟨y1, q1⟩ := y1
    obtain ⟨y2, q2⟩ := y2
    dsimp only at h0 h1 h2
    subst h0 h1 h2
    pointwise [
      k0_pay86, k0_pay87, k0_pay88, k0_pay89, k0_pay90, k0_pay91, k0_pay92, k0_pay93, k0_pay94, k0_pay95, k0_pay96, k0_pay97, k0_pay98,
      k0_pay99, k0_pay100, k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120, k0_pay121, k0_pay122,
      k0_pay123, k0_pay124, k0_pay125, k0_pay126, k0_pay127, k0_pay128, k0_pay129, k0_pay130, k0_pay131, k0_pay132, k0_pay133, k0_pay134,
      k0_pay135, k0_pay136, k0_pay137, k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155, k0_pay156, k0_pay157, k0_pay158,
      k0_pay159, k0_pay160, k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180, k0_pay181, weight,
      slope]
    try simp only [true_and]
    first
      | exact (if_pos (by omega)).symm
      | exact ((congrArg (fun a : EReal => a * _) (if_pos (by omega))).trans (zero_mul _)).symm
      | (refine (masked _ _ _ ?_ ?_ ?_ _ _).trans ?_ <;> first | omega | (split_ifs <;> first | rfl | (exfalso; omega)))
      | (refine congrArg₂ (fun a b : EReal => a * b) ((masked _ _ _ ?_ ?_ ?_ _ _).trans ?_) rfl <;>
          first | omega | (split_ifs <;> first | rfl | (exfalso; omega)))

end Cert.AttnBwdIdeal.Run
-- ==== Proof.AttnSteps.lean ====
module

public import proofs.«01_k».proof.Proof.AttnVals
public import Idealize.ShloMosaic.Lib.Pipeline.ValueKit
public import Idealize.ShloMosaic.Lib.Pointwise
public import Idealize.ShloMosaic.Lib.WritesUnit
public import Idealize.ShloMosaic.Lib.Ring

@[expose] public section

set_option maxRecDepth 16384

noncomputable section

open Idealize.ShloMosaic Idealize.ShloMosaic.TcCoe Idealize.SL.Sem
open Idealize.ShloMosaic.Tactic
open scoped BigOperators

namespace Cert.AttnBwdIdeal.Run

open Cert.AttnBwdIdeal Cert.AttnBwdIdeal.Gen

variable (c : Dev nD) (i : grid0.Coords)
  (arg2 : Memref sig .tc .smem S36 .i32) (harg2 : arg2.IsWhole)
  (arg3 : Memref sig .tc .smem S36 .i32) (harg3 : arg3.IsWhole)
  (arg4 : Memref sig .tc .vmem S2x512x256 .bf16) (harg4 : arg4.IsWhole)
  (arg5 : Memref sig .tc .vmem S2x512x256 .bf16) (harg5 : arg5.IsWhole)
  (arg6 : Memref sig .tc .vmem S2x512x256 .bf16) (harg6 : arg6.IsWhole)
  (arg7 : Memref sig .tc .vmem S512x256 .bf16) (harg7 : arg7.IsWhole)
  (arg8 : Memref sig .tc .vmem S2x512x1 .f32) (harg8 : arg8.IsWhole)
  (arg9 : Memref sig .tc .vmem S2x512x1 .f32) (harg9 : arg9.IsWhole)
  (arg10 : Memref sig .tc .vmem S2x4096x256 .f32) (harg10 : arg10.IsWhole)
  (arg11 : Memref sig .tc .vmem S2x512x256 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2x512x128 .f32) (harg14 : arg14.IsWhole)
  (arg15 : Memref sig .tc .vmem S2x512x512 .f32) (harg15 : arg15.IsWhole)
  (arg16 : Memref sig .tc .vmem S2x512x512 .f32) (harg16 : arg16.IsWhole)
  (arg17 : Memref sig .tc .vmem S2x512x512 .bf16) (harg17 : arg17.IsWhole)
  (arg18 : Memref sig .tc .vmem S2x512x512 .bf16) (harg18 : arg18.IsWhole)
  (v1 v3 : BitVec 32) (hw : PLift (k0_chk1 v1 v3))
  (x0 x1 x2 : Vec Ideal S2x512x256 .bf16) (x3 : Vec Ideal S512x256 .bf16) (x4 x5 : Vec Ideal S2x512x1 .f32)
  (y : Vec Ideal S2x4096x256 .f32) (z0 : Vec Ideal S2x512x256 .f32) (z1 : Vec Ideal S2x512x128 .f32)

theorem pairCol_zero (d : Fin 128) : pairCol 0 d = ⟨d.val, by omega⟩ := Fin.ext (show 0 * 128 + d.val = d.val by omega)
theorem pairCol_one (d : Fin 128) : pairCol 1 d = ⟨128 + d.val, by omega⟩ := Fin.ext (show 1 * 128 + d.val = 128 + d.val by omega)

section rows

variable {sig' : RefSig} {κ' : Kind} {sp : Space} (v : View sig' κ' sp S2x4096x256 .f32) (f : v.ty.Contents (Elt Ideal))
  {o2 o3 : Fin 3 → ℕ} (i2 : ∀ a, o2 a + S1x512x256.size a ≤ S2x4096x256.size a) (i3 : ∀ a, o3 a + S1x512x256.size a ≤ S2x4096x256.size a)
  (w2 w3 : FVec Ideal S1x512x256 .f32) (n : ℕ)

/-- What the rows of a block read after a store to those of each head. -/
theorem rows_read (e2 : o2 = ![0, n, 0]) (e3 : o3 = ![1, n, 0]) (j : S2x4096x256.Idx) :
    v.read (Elt Ideal) (v.writes (Elt Ideal) f [⟨Rect.unit o3 S1x512x256.size i3, w3⟩, ⟨Rect.unit o2 S1x512x256.size i2, w2⟩]) j
      = if h : n ≤ (j 1).val ∧ (j 1).val < n + 512 then
          (if (j 0).val = 1 then w3 (ix3 0 ⟨(j 1).val - n, by omega⟩ (j 2)) else w2 (ix3 0 ⟨(j 1).val - n, by omega⟩ (j 2)))
        else v.read (Elt Ideal) f j := by
  have b0 : (j 0).val < 2 := (j 0).isLt
  split_ifs with h h1
  · refine View.read_writes_cons_unit_of_mem (v := v) (f := f) _ _ _ j (ix3 0 ⟨(j 1).val - n, by omega⟩ (j 2)) e3 (fun a => ?_)
    fin_cases a
    · exact h1
    · exact (Nat.add_sub_of_le h.1).symm
    · exact (Nat.zero_add _).symm
  · refine (View.read_writes_cons_unit_of_not_mem (v := v) (f := f) _ _ _ j e3 0 (.inl (show (j 0).val < 1 by omega))).trans ?_
    refine View.read_writes_cons_unit_of_mem (v := v) (f := f) _ _ _ j (ix3 0 ⟨(j 1).val - n, by omega⟩ (j 2)) e2 (fun a => ?_)
    fin_cases a
    · exact (show (j 0).val = 0 by omega)
    · exact (Nat.add_sub_of_le h.1).symm
    · exact (Nat.zero_add _).symm
  · have h' : (j 1).val < n ∨ n + 512 ≤ (j 1).val := by omega
    refine (View.read_writes_cons_unit_of_not_mem (v := v) (f := f) _ _ _ j e3 1 ?_).trans
      ((View.read_writes_cons_unit_of_not_mem (v := v) (f := f) _ _ _ j e2 1 ?_).trans rfl)
    · exact h'
    · exact h'

/-- The second head's rows are as before after a store to the first head's. -/
theorem row_other (e2 : o2 = ![0, n, 0]) (j : S2x4096x256.Idx) (h : (j 0).val = 1) :
    v.read (Elt Ideal) (v.writes (Elt Ideal) f [⟨Rect.unit o2 S1x512x256.size i2, w2⟩]) j = v.read (Elt Ideal) f j :=
  (View.read_writes_cons_unit_of_not_mem (v := v) (f := f) _ _ _ j e2 0 (.inr (show 0 + 1 ≤ (j 0).val by omega))).trans rfl

/-- A block of rows read at its place. -/
theorem row_readAt (h : Fin 2) (e : o2 = ![h.val, n, 0]) (q : Fin 512) (d : Fin 256) (b : n + q.val < 4096) :
    v.readAt (Elt Ideal) (Rect.unit (s := S2x4096x256) o2 S1x512x256.size i2).toLoadRect f (ix3 0 q d) = v.read (Elt Ideal) f (ix3 h ⟨n + q.val, b⟩ d) := by
  subst e
  refine congrArg (v.read (Elt Ideal) f) (funext fun a => Fin.ext ?_)
  fin_cases a
  · exact (congrArg (h.val + ·) (Nat.one_mul _))
  · exact (congrArg (n + ·) (Nat.one_mul _))
  · exact (congrArg (0 + ·) (Nat.one_mul _)).trans (Nat.zero_add _)

end rows

/-- What a step adds to the sum held for the key gradient. -/
theorem off13 (hc : k0_cond3 v1 v3 = 1#1) :
    arg13.view.read (Elt Ideal) (arg13.view.writes (Elt Ideal) (harg13.unread z0)
        (offRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
          v1 v3 hw x0 x1 x2 x3 x4 x5 y z0 z1 hc).2.1)
      = fun j => (z0 j + (∑ q : Fin 512, (slope x0 x1 x2 x3 x4 x5 False (ix3 (j 0) q (j 1)) : EReal) * x0 (ix3 (j 0) q (j 2))) : EReal) := by
  dsimp only [offRun]
  refine (View.read_writes_eq_canon _ _ _ (fun y => View.cover_of_tiled_head _ _ _ (by rfl) y)).trans ?_
  funext y
  idx_vars y
  canon_tiles w h
  all_goals
    idx_vars w
    simp only [
      offRun.sl.r_17, offRun.sl.r_18, offRun.sl.r_19, offRun.sl.v467, offRun.sl.v471, offRun.sl.v482, offRun.sl.v504, offRun.sl.v506,
      offRun.sl.v515, offRun.sl.v517, offRun.sl.v529, View.readCov_eq_canon', off_weight, off_slope, View.readAt_eq_ld,
      Memref.IsWhole.read_unread]
    obtain rfl := Fin.eq_zero w0
    obtain ⟨y0, q0⟩ := y0
    obtain ⟨y1, q1⟩ := y1
    obtain ⟨y2, q2⟩ := y2
    dsimp only at h0 h1 h2
    subst h0 h1 h2
    pointwise [
      k0_pay4, k0_pay5, k0_pay74, k0_pay75, k0_pay76, k0_pay77, k0_pay78, k0_pay79, k0_pay80]
    try simp only [pairCol_zero, pairCol_one]
    try rfl

/-- What a step adds to the sum held for the value gradient. -/
theorem off14 (hc : k0_cond3 v1 v3 = 1#1) :
    arg14.view.read (Elt Ideal) (arg14.view.writes (Elt Ideal) (harg14.unread z1)
        (offRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
          v1 v3 hw x0 x1 x2 x3 x4 x5 y z0 z1 hc).2.2.1)
      = fun j => (z1 j + (∑ q : Fin 512, (weight x0 x1 x4 False (ix3 (j 0) q (j 1)) : EReal) * x3 (ix2 q (pairCol (j 0) (j 2)))) : EReal) := by
  dsimp only [offRun]
  refine (View.read_writes_eq_canon _ _ _ (fun y => View.cover_of_tiled_head _ _ _ (by rfl) y)).trans ?_
  funext y
  idx_vars y
  canon_tiles w h
  all_goals
    idx_vars w
    simp only [
      offRun.sl.r_17, offRun.sl.r_18, offRun.sl.r_19, offRun.sl.v467, offRun.sl.v471, offRun.sl.v482, offRun.sl.v504, offRun.sl.v506,
      offRun.sl.v515, offRun.sl.v517, offRun.sl.v529, View.readCov_eq_canon', off_weight, off_slope, View.readAt_eq_ld,
      Memref.IsWhole.read_unread]
    obtain rfl := Fin.eq_zero w0
    obtain ⟨y0, q0⟩ := y0
    obtain ⟨y1, q1⟩ := y1
    obtain ⟨y2, q2⟩ := y2
    dsimp only at h0 h1 h2
    subst h0 h1 h2
    pointwise [
      k0_pay4, k0_pay5, k0_pay74, k0_pay75, k0_pay76, k0_pay77, k0_pay78, k0_pay79, k0_pay80]
    try simp only [pairCol_zero, pairCol_one]
    try rfl

/-- What a step adds to the rows of its query block. -/
theorem off10 (n : ℕ) (e2 : k0_off2 v1 = ![0, n, 0]) (e3 : k0_off3 v1 = ![1, n, 0]) (hc : k0_cond3 v1 v3 = 1#1) (j : S2x4096x256.Idx) :
    arg10.view.read (Elt Ideal) (arg10.view.writes (Elt Ideal) (harg10.unread y)
        (offRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
          v1 v3 hw x0 x1 x2 x3 x4 x5 y z0 z1 hc).1) j
      = if h : n ≤ (j 1).val ∧ (j 1).val < n + 512 then
          (y j + ∑ q : Fin 512, (slope x0 x1 x2 x3 x4 x5 False (ix3 (j 0) ⟨(j 1).val - n, by omega⟩ q) : EReal) * x1 (ix3 (j 0) q (j 2)) : EReal)
        else y j := by
  dsimp only [offRun]
  unfold offRun.sl.H6_1
  refine (rows_read _ _ _ _ _ _ n e2 e3 j).trans ?_
  have b0 : (j 0).val < 2 := (j 0).isLt
  split_ifs with h h1
  · have eh : (1 : Fin 2) = j 0 := Fin.ext (show 1 = (j 0).val by omega)
    simp only [
        offRun.sl.r_17, offRun.sl.r_18, offRun.sl.r_19, offRun.sl.v467, offRun.sl.v471, offRun.sl.v482, offRun.sl.v504, offRun.sl.v506,
        offRun.sl.v515, offRun.sl.v517, offRun.sl.v529, View.readCov_eq_canon', off_weight, off_slope, View.readAt_eq_ld,
        Memref.IsWhole.read_unread]
    pointwise [
        k0_pay4, k0_pay5, k0_pay74, k0_pay75, k0_pay76, k0_pay77, k0_pay78, k0_pay79, k0_pay80]
    refine congrArg₂ (fun a b : EReal => a + b) (((row_other arg10.view _ _ _ n e2 _ (congrFun e3 0)).trans (congrFun (harg10.read_unread y) _)).trans (congrArg y (funext fun a => Fin.ext ?_)))
      (congrArg (fun h : Fin 2 => (∑ q : Fin 512, (slope x0 x1 x2 x3 x4 x5 False (ix3 h ⟨(j 1).val - n, by omega⟩ q) : EReal) * x1 (ix3 h q (j 2)) : EReal)) eh)
    fin_cases a
    · exact (congrFun e3 0).trans (congrArg Fin.val eh)
    · exact (congrArg (· + ((j 1).val - n)) (congrFun e3 1)).trans (Nat.add_sub_of_le h.1)
    · exact (congrArg (· + (j 2).val) (congrFun e3 2)).trans (Nat.zero_add _)
  · have eh : (0 : Fin 2) = j 0 := Fin.ext (show 0 = (j 0).val by omega)
    simp only [
        offRun.sl.r_17, offRun.sl.r_18, offRun.sl.r_19, offRun.sl.v467, offRun.sl.v471, offRun.sl.v482, offRun.sl.v504, offRun.sl.v506,
        offRun.sl.v515, offRun.sl.v517, offRun.sl.v529, View.readCov_eq_canon', off_weight, off_slope, View.readAt_eq_ld,
        Memref.IsWhole.read_unread]
    pointwise [
        k0_pay4, k0_pay5, k0_pay74, k0_pay75, k0_pay76, k0_pay77, k0_pay78, k0_pay79, k0_pay80]
    refine congrArg₂ (fun a b : EReal => a + b) ((congrArg y (funext fun a => Fin.ext ?_)))
      (congrArg (fun h : Fin 2 => (∑ q : Fin 512, (slope x0 x1 x2 x3 x4 x5 False (ix3 h ⟨(j 1).val - n, by omega⟩ q) : EReal) * x1 (ix3 h q (j 2)) : EReal)) eh)
    fin_cases a
    · exact (congrFun e2 0).trans (congrArg Fin.val eh)
    · exact (congrArg (· + ((j 1).val - n)) (congrFun e2 1)).trans (Nat.add_sub_of_le h.1)
    · exact (congrArg (· + (j 2).val) (congrFun e2 2)).trans (Nat.zero_add _)
  · exact congrFun (harg10.read_unread y) j

/-- What a step adds to the sum held for the key gradient. -/
theorem on13 (hc : k0_cond4 v1 v3 = 1#1) :
    arg13.view.read (Elt Ideal) (arg13.view.writes (Elt Ideal) (harg13.unread z0)
        (onRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
          v1 v3 hw x0 x1 x2 x3 x4 x5 y z0 z1 hc).2.1)
      = fun j => (z0 j + (∑ q : Fin 512, (slope x0 x1 x2 x3 x4 x5 True (ix3 (j 0) q (j 1)) : EReal) * x0 (ix3 (j 0) q (j 2))) : EReal) := by
  dsimp only [onRun]
  refine (View.read_writes_eq_canon _ _ _ (fun y => View.cover_of_tiled_head _ _ _ (by rfl) y)).trans ?_
  funext y
  idx_vars y
  canon_tiles w h
  all_goals
    idx_vars w
    simp only [
      onRun.sl.r_23, onRun.sl.r_24, onRun.sl.r_25, onRun.sl.v675, onRun.sl.v679, onRun.sl.v690, onRun.sl.v712, onRun.sl.v714,
      onRun.sl.v723, onRun.sl.v725, onRun.sl.v737, View.readCov_eq_canon', on_weight, on_slope, View.readAt_eq_ld,
      Memref.IsWhole.read_unread]
    obtain rfl := Fin.eq_zero w0
    obtain ⟨y0, q0⟩ := y0
    obtain ⟨y1, q1⟩ := y1
    obtain ⟨y2, q2⟩ := y2
    dsimp only at h0 h1 h2
    subst h0 h1 h2
    pointwise [
      k0_pay6, k0_pay7, k0_pay182, k0_pay183, k0_pay184, k0_pay185, k0_pay186, k0_pay187, k0_pay188]
    try simp only [pairCol_zero, pairCol_one]
    try rfl

/-- What a step adds to the sum held for the value gradient. -/
theorem on14 (hc : k0_cond4 v1 v3 = 1#1) :
    arg14.view.read (Elt Ideal) (arg14.view.writes (Elt Ideal) (harg14.unread z1)
        (onRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
          v1 v3 hw x0 x1 x2 x3 x4 x5 y z0 z1 hc).2.2.1)
      = fun j => (z1 j + (∑ q : Fin 512, (weight x0 x1 x4 True (ix3 (j 0) q (j 1)) : EReal) * x3 (ix2 q (pairCol (j 0) (j 2)))) : EReal) := by
  dsimp only [onRun]
  refine (View.read_writes_eq_canon _ _ _ (fun y => View.cover_of_tiled_head _ _ _ (by rfl) y)).trans ?_
  funext y
  idx_vars y
  canon_tiles w h
  all_goals
    idx_vars w
    simp only [
      onRun.sl.r_23, onRun.sl.r_24, onRun.sl.r_25, onRun.sl.v675, onRun.sl.v679, onRun.sl.v690, onRun.sl.v712, onRun.sl.v714,
      onRun.sl.v723, onRun.sl.v725, onRun.sl.v737, View.readCov_eq_canon', on_weight, on_slope, View.readAt_eq_ld,
      Memref.IsWhole.read_unread]
    obtain rfl := Fin.eq_zero w0
    obtain ⟨y0, q0⟩ := y0
    obtain ⟨y1, q1⟩ := y1
    obtain ⟨y2, q2⟩ := y2
    dsimp only at h0 h1 h2
    subst h0 h1 h2
    pointwise [
      k0_pay6, k0_pay7, k0_pay182, k0_pay183, k0_pay184, k0_pay185, k0_pay186, k0_pay187, k0_pay188]
    try simp only [pairCol_zero, pairCol_one]
    try rfl

/-- What a step adds to the rows of its query block. -/
theorem on10 (n : ℕ) (e2 : k0_off4 v1 = ![0, n, 0]) (e3 : k0_off5 v1 = ![1, n, 0]) (hc : k0_cond4 v1 v3 = 1#1) (j : S2x4096x256.Idx) :
    arg10.view.read (Elt Ideal) (arg10.view.writes (Elt Ideal) (harg10.unread y)
        (onRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
          v1 v3 hw x0 x1 x2 x3 x4 x5 y z0 z1 hc).1) j
      = if h : n ≤ (j 1).val ∧ (j 1).val < n + 512 then
          (y j + ∑ q : Fin 512, (slope x0 x1 x2 x3 x4 x5 True (ix3 (j 0) ⟨(j 1).val - n, by omega⟩ q) : EReal) * x1 (ix3 (j 0) q (j 2)) : EReal)
        else y j := by
  dsimp only [onRun]
  unfold onRun.sl.H6_1
  refine (rows_read _ _ _ _ _ _ n e2 e3 j).trans ?_
  have b0 : (j 0).val < 2 := (j 0).isLt
  split_ifs with h h1
  · have eh : (1 : Fin 2) = j 0 := Fin.ext (show 1 = (j 0).val by omega)
    simp only [
        onRun.sl.r_23, onRun.sl.r_24, onRun.sl.r_25, onRun.sl.v675, onRun.sl.v679, onRun.sl.v690, onRun.sl.v712, onRun.sl.v714,
        onRun.sl.v723, onRun.sl.v725, onRun.sl.v737, View.readCov_eq_canon', on_weight, on_slope, View.readAt_eq_ld,
        Memref.IsWhole.read_unread]
    pointwise [
        k0_pay6, k0_pay7, k0_pay182, k0_pay183, k0_pay184, k0_pay185, k0_pay186, k0_pay187, k0_pay188]
    refine congrArg₂ (fun a b : EReal => a + b) (((row_other arg10.view _ _ _ n e2 _ (congrFun e3 0)).trans (congrFun (harg10.read_unread y) _)).trans (congrArg y (funext fun a => Fin.ext ?_)))
      (congrArg (fun h : Fin 2 => (∑ q : Fin 512, (slope x0 x1 x2 x3 x4 x5 True (ix3 h ⟨(j 1).val - n, by omega⟩ q) : EReal) * x1 (ix3 h q (j 2)) : EReal)) eh)
    fin_cases a
    · exact (congrFun e3 0).trans (congrArg Fin.val eh)
    · exact (congrArg (· + ((j 1).val - n)) (congrFun e3 1)).trans (Nat.add_sub_of_le h.1)
    · exact (congrArg (· + (j 2).val) (congrFun e3 2)).trans (Nat.zero_add _)
  · have eh : (0 : Fin 2) = j 0 := Fin.ext (show 0 = (j 0).val by omega)
    simp only [
        onRun.sl.r_23, onRun.sl.r_24, onRun.sl.r_25, onRun.sl.v675, onRun.sl.v679, onRun.sl.v690, onRun.sl.v712, onRun.sl.v714,
        onRun.sl.v723, onRun.sl.v725, onRun.sl.v737, View.readCov_eq_canon', on_weight, on_slope, View.readAt_eq_ld,
        Memref.IsWhole.read_unread]
    pointwise [
        k0_pay6, k0_pay7, k0_pay182, k0_pay183, k0_pay184, k0_pay185, k0_pay186, k0_pay187, k0_pay188]
    refine congrArg₂ (fun a b : EReal => a + b) ((congrArg y (funext fun a => Fin.ext ?_)))
      (congrArg (fun h : Fin 2 => (∑ q : Fin 512, (slope x0 x1 x2 x3 x4 x5 True (ix3 h ⟨(j 1).val - n, by omega⟩ q) : EReal) * x1 (ix3 h q (j 2)) : EReal)) eh)
    fin_cases a
    · exact (congrFun e2 0).trans (congrArg Fin.val eh)
    · exact (congrArg (· + ((j 1).val - n)) (congrFun e2 1)).trans (Nat.add_sub_of_le h.1)
    · exact (congrArg (· + (j 2).val) (congrFun e2 2)).trans (Nat.zero_add _)
  · exact congrFun (harg10.read_unread y) j

theorem step_off10 (n : ℕ) (e2 : k0_off2 v1 = ![0, n, 0]) (e3 : k0_off3 v1 = ![1, n, 0]) (hc : k0_cond3 v1 v3 = 1#1) (hn : ¬ k0_cond4 v1 v3 = 1#1) (s : State Ideal) (j : S2x4096x256.Idx) :
    (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 s).1 j
      = if h : n ≤ (j 1).val ∧ (j 1).val < n + 512 then
          (zero10 i s.1 j + ∑ q : Fin 512, (slope x0 x1 x2 x3 x4 x5 False (ix3 (j 0) ⟨(j 1).val - n, by omega⟩ q) : EReal) * x1 (ix3 (j 0) q (j 2)) : EReal)
        else zero10 i s.1 j := by
  unfold step
  have e : on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      v1 v3 hw x0 x1 x2 x3 x4 x5
      (off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 (zero10 i s.1, zero13 v1 v3 s.2.1, zero14 v1 v3 s.2.2)) = _ := dif_neg hn
  rw [e]
  unfold off
  rw [dif_pos hc]
  exact off10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1) (zero13 v1 v3 s.2.1) (zero14 v1 v3 s.2.2) n e2 e3 hc j

theorem step_off13 (hc : k0_cond3 v1 v3 = 1#1) (hn : ¬ k0_cond4 v1 v3 = 1#1) (s : State Ideal) (j : S2x512x256.Idx) :
    (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 s).2.1 j
      = (zero13 v1 v3 s.2.1 j + ∑ q : Fin 512, (slope x0 x1 x2 x3 x4 x5 False (ix3 (j 0) q (j 1)) : EReal) * x0 (ix3 (j 0) q (j 2)) : EReal) := by
  unfold step
  have e : on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      v1 v3 hw x0 x1 x2 x3 x4 x5
      (off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 (zero10 i s.1, zero13 v1 v3 s.2.1, zero14 v1 v3 s.2.2)) = _ := dif_neg hn
  rw [e]
  unfold off
  rw [dif_pos hc]
  exact congrFun (off13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1) (zero13 v1 v3 s.2.1) (zero14 v1 v3 s.2.2) hc) j

theorem step_off14 (hc : k0_cond3 v1 v3 = 1#1) (hn : ¬ k0_cond4 v1 v3 = 1#1) (s : State Ideal) (j : S2x512x128.Idx) :
    (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 s).2.2 j
      = (zero14 v1 v3 s.2.2 j + ∑ q : Fin 512, (weight x0 x1 x4 False (ix3 (j 0) q (j 1)) : EReal) * x3 (ix2 q (pairCol (j 0) (j 2))) : EReal) := by
  unfold step
  have e : on c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      v1 v3 hw x0 x1 x2 x3 x4 x5
      (off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 (zero10 i s.1, zero13 v1 v3 s.2.1, zero14 v1 v3 s.2.2)) = _ := dif_neg hn
  rw [e]
  unfold off
  rw [dif_pos hc]
  exact congrFun (off14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1) (zero13 v1 v3 s.2.1) (zero14 v1 v3 s.2.2) hc) j

theorem step_on10 (n : ℕ) (e2 : k0_off4 v1 = ![0, n, 0]) (e3 : k0_off5 v1 = ![1, n, 0]) (hc : k0_cond4 v1 v3 = 1#1) (hn : ¬ k0_cond3 v1 v3 = 1#1) (s : State Ideal) (j : S2x4096x256.Idx) :
    (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 s).1 j
      = if h : n ≤ (j 1).val ∧ (j 1).val < n + 512 then
          (zero10 i s.1 j + ∑ q : Fin 512, (slope x0 x1 x2 x3 x4 x5 True (ix3 (j 0) ⟨(j 1).val - n, by omega⟩ q) : EReal) * x1 (ix3 (j 0) q (j 2)) : EReal)
        else zero10 i s.1 j := by
  unfold step
  have e : off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      v1 v3 hw x0 x1 x2 x3 x4 x5 (zero10 i s.1, zero13 v1 v3 s.2.1, zero14 v1 v3 s.2.2) = _ := dif_neg hn
  rw [e]
  unfold on
  rw [dif_pos hc]
  exact on10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1) (zero13 v1 v3 s.2.1) (zero14 v1 v3 s.2.2) n e2 e3 hc j

theorem step_on13 (hc : k0_cond4 v1 v3 = 1#1) (hn : ¬ k0_cond3 v1 v3 = 1#1) (s : State Ideal) (j : S2x512x256.Idx) :
    (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 s).2.1 j
      = (zero13 v1 v3 s.2.1 j + ∑ q : Fin 512, (slope x0 x1 x2 x3 x4 x5 True (ix3 (j 0) q (j 1)) : EReal) * x0 (ix3 (j 0) q (j 2)) : EReal) := by
  unfold step
  have e : off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      v1 v3 hw x0 x1 x2 x3 x4 x5 (zero10 i s.1, zero13 v1 v3 s.2.1, zero14 v1 v3 s.2.2) = _ := dif_neg hn
  rw [e]
  unfold on
  rw [dif_pos hc]
  exact congrFun (on13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1) (zero13 v1 v3 s.2.1) (zero14 v1 v3 s.2.2) hc) j

theorem step_on14 (hc : k0_cond4 v1 v3 = 1#1) (hn : ¬ k0_cond3 v1 v3 = 1#1) (s : State Ideal) (j : S2x512x128.Idx) :
    (step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        v1 v3 hw x0 x1 x2 x3 x4 x5 s).2.2 j
      = (zero14 v1 v3 s.2.2 j + ∑ q : Fin 512, (weight x0 x1 x4 True (ix3 (j 0) q (j 1)) : EReal) * x3 (ix2 q (pairCol (j 0) (j 2))) : EReal) := by
  unfold step
  have e : off c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      v1 v3 hw x0 x1 x2 x3 x4 x5 (zero10 i s.1, zero13 v1 v3 s.2.1, zero14 v1 v3 s.2.2) = _ := dif_neg hn
  rw [e]
  unfold on
  rw [dif_pos hc]
  exact congrFun (on14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw x0 x1 x2 x3 x4 x5 (zero10 i s.1) (zero13 v1 v3 s.2.1) (zero14 v1 v3 s.2.2) hc) j

end Cert.AttnBwdIdeal.Run
-- ==== Proof.AttnPt.lean ====
module

public import proofs.«01_k».proof.Proof.AttnRun
public import proofs.«01_k».proof.Proof.AttnSteps
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.AttnBwdIdeal.Run

open Cert.AttnBwdIdeal Cert.AttnBwdIdeal.Gen

/-- The pair of heads of a point, its query block and its key block. -/
def hd (t : Fin grid0.N) : Fin 4 := grid0.coords t 0
def qb (t : Fin grid0.N) : Fin 8 := ⟨(qw (grid0.coords t)).toNat, (by decide +kernel : ∀ t : Fin grid0.N, (qw (grid0.coords t)).toNat < 8) t⟩
def kb (t : Fin grid0.N) : Fin 8 := ⟨(kw (grid0.coords t)).toNat, (by decide +kernel : ∀ t : Fin grid0.N, (kw (grid0.coords t)).toNat < 8) t⟩

theorem hd_word (t : Fin grid0.N) : (BitVec.ofNat 32 (grid0.coords t 0).val).toNat = (hd t).val := by
  revert t; decide +kernel

theorem idx0 (t : Fin grid0.N) : ((cfg (F := Ideal)).win 0).index t = ![(hd t).val, (qb t).val, 0] :=
  (tr0 (F := Ideal) (grid0.coords t)).trans (by rw [hd_word]; rfl)
theorem idx1 (t : Fin grid0.N) : ((cfg (F := Ideal)).win 1).index t = ![(hd t).val, (kb t).val, 0] :=
  (tr1 (F := Ideal) (grid0.coords t)).trans (by rw [hd_word]; rfl)
theorem idx2 (t : Fin grid0.N) : ((cfg (F := Ideal)).win 2).index t = ![(hd t).val, (kb t).val, 0] :=
  (tr2 (F := Ideal) (grid0.coords t)).trans (by rw [hd_word]; rfl)
theorem idx3 (t : Fin grid0.N) : ((cfg (F := Ideal)).win 3).index t = ![(qb t).val, (hd t).val] :=
  (tr3 (F := Ideal) (grid0.coords t)).trans (by rw [hd_word]; rfl)
theorem idx4 (t : Fin grid0.N) : ((cfg (F := Ideal)).win 4).index t = ![(hd t).val, (qb t).val, 0] :=
  (tr4 (F := Ideal) (grid0.coords t)).trans (by rw [hd_word]; rfl)
theorem idx5 (t : Fin grid0.N) : ((cfg (F := Ideal)).win 5).index t = ![(hd t).val, (qb t).val, 0] :=
  (tr5 (F := Ideal) (grid0.coords t)).trans (by rw [hd_word]; rfl)
theorem idx6 (t : Fin grid0.N) : ((cfg (F := Ideal)).win 6).index t = ![(hd t).val, 0, 0] :=
  (by rw [hd_word] : ![(BitVec.ofNat 32 (grid0.coords t 0).val).toNat, 0, 0] = ![(hd t).val, 0, 0])
theorem idx7 (t : Fin grid0.N) : ((cfg (F := Ideal)).win 7).index t = ![(hd t).val, (kb t).val, 0] :=
  (tr7 (F := Ideal) (grid0.coords t)).trans (by rw [hd_word]; rfl)
theorem idx8 (t : Fin grid0.N) : ((cfg (F := Ideal)).win 8).index t = ![(hd t).val, (kb t).val, 0] :=
  (tr8 (F := Ideal) (grid0.coords t)).trans (by rw [hd_word]; rfl)

/-- A head of a pair, and a row of a block. -/
def head (g : Fin 4) (h : Fin 2) : Fin 8 := ⟨g.val * 2 + h.val, by omega⟩
def line (b : Fin 8) (r : Fin 512) : Fin 4096 := ⟨b.val * 512 + r.val, by omega⟩
def col4 (g : Fin 4) (d : Fin 256) : Fin 1024 := ⟨g.val * 256 + d.val, by omega⟩

variable (m : (ℓ : Loc nD τ sig) → Buf (Elt Ideal) ℓ) (c : Dev nD)

/-- The kernel's operands, as the host has prepared them. -/
abbrev Q : FVec Ideal S8x4096x256 .bf16 := V m c (Pipeline.arrRef spec0 0)
abbrev K : FVec Ideal S8x4096x256 .bf16 := V m c (Pipeline.arrRef spec0 1)
abbrev Vo : FVec Ideal S8x4096x256 .bf16 := V m c (Pipeline.arrRef spec0 2)
abbrev G : FVec Ideal S4096x1024 .bf16 := V m c (Pipeline.arrRef spec0 3)
abbrev L : FVec Ideal S8x4096x1 .f32 := V m c (Pipeline.arrRef spec0 4)
abbrev D : FVec Ideal S8x4096x1 .f32 := V m c (Pipeline.arrRef spec0 5)

theorem rd4 (t : Fin grid0.N) (f : FVec Ideal S8x4096x1 .f32) (h : Fin 2) (r : Fin 512) :
    ((((cfg (F := Ideal)).win 4).blk t).view.read (Elt Ideal) f : Vec Ideal S2x512x1 .f32) (ix3 h r 0) = f (ix3 (head (hd t) h) (line (qb t) r) 0) := by
  blk_ext [idx4 t, head, line]
theorem blk4 (t : Fin grid0.N) (h : Fin 2) (r : Fin 512) :
    (iblk m c 4 t : Vec Ideal S2x512x1 .f32) (ix3 h r 0) = L m c (ix3 (head (hd t) h) (line (qb t) r) 0) := by
  unfold iblk L
  exact rd4 t (V m c (Pipeline.arrRef spec0 4)) h r
theorem blk0 (t : Fin grid0.N) (h : Fin 2) (r : Fin 512) (d : Fin 256) :
    (iblk m c 0 t : Vec Ideal S2x512x256 .bf16) (ix3 h r d) = Q m c (ix3 (head (hd t) h) (line (qb t) r) d) := by
  blk_ext [iblk, idx0 t, head, line]
theorem blk1 (t : Fin grid0.N) (h : Fin 2) (r : Fin 512) (d : Fin 256) :
    (iblk m c 1 t : Vec Ideal S2x512x256 .bf16) (ix3 h r d) = K m c (ix3 (head (hd t) h) (line (kb t) r) d) := by
  blk_ext [iblk, idx1 t, head, line]
theorem blk2 (t : Fin grid0.N) (h : Fin 2) (r : Fin 512) (d : Fin 256) :
    (iblk m c 2 t : Vec Ideal S2x512x256 .bf16) (ix3 h r d) = Vo m c (ix3 (head (hd t) h) (line (kb t) r) d) := by
  blk_ext [iblk, idx2 t, head, line]
theorem blk3 (t : Fin grid0.N) (r : Fin 512) (d : Fin 256) :
    (iblk m c 3 t : Vec Ideal S512x256 .bf16) (ix2 r d) = G m c (ix2 (line (qb t) r) (col4 (hd t) d)) := by
  blk_ext [iblk, idx3 t, line, col4]
theorem blk5 (t : Fin grid0.N) (h : Fin 2) (r : Fin 512) :
    (iblk m c 5 t : Vec Ideal S2x512x1 .f32) (ix3 h r 0) = D m c (ix3 (head (hd t) h) (line (qb t) r) 0) := by
  blk_ext [iblk, idx5 t, head, line]

/-- The score of a query row and a key row of a head. -/
def S (h : Fin 8) (r k : Fin 4096) : EReal := ∑ d : Fin 256, (Q m c (ix3 h r d) : EReal) * K m c (ix3 h k d)

/-- Column `d` of head `h` among the columns of all heads. -/
def col8 (h : Fin 8) (d : Fin 128) : Fin 1024 := ⟨h.val * 128 + d.val, by omega⟩

/-- The product of the output gradient and a value row. -/
def DP (h : Fin 8) (r k : Fin 4096) : EReal := ∑ d : Fin 128, (G m c (ix2 r (col8 h d)) : EReal) * Vo m c (ix3 h k (valCol d))

/-- The weight of a key row for a query row. -/
def W (h : Fin 8) (r k : Fin 4096) : EReal :=
  if r.val < k.val then 0 else Ideal.exp2 (S m c h r k * c1 - L m c (ix3 h r 0) * c2)

/-- The gradient of a score. -/
def DS (h : Fin 8) (r k : Fin 4096) : EReal := W m c h r k * (DP m c h r k - D m c (ix3 h r 0))

theorem order (t : Fin grid0.N) : (kb t).val ≤ (qb t).val := by revert t; decide +kernel

theorem weight_at (t : Fin grid0.N) (diag : Prop) [Decidable diag] (hd' : diag ↔ qb t = kb t) (h : Fin 2) (r k : Fin 512) :
    (weight (iblk m c 0 t) (iblk m c 1 t) (iblk m c 4 t) diag (ix3 h r k) : EReal) = W m c (head (hd t) h) (line (qb t) r) (line (kb t) k) := by
  unfold weight W
  have e : (diag ∧ r.val < k.val) ↔ (line (qb t) r).val < (line (kb t) k).val := by
    have := order t
    have hr := r.isLt
    have hk := k.isLt
    rw [hd', Fin.ext_iff]
    show _ ↔ (qb t).val * 512 + r.val < (kb t).val * 512 + k.val
    omega
  refine (if_congr e rfl ?_)
  refine congrArg Ideal.exp2 (congrArg₂ (fun a b : EReal => a - b) (congrArg (· * c1) ?_) (congrArg (· * c2) (blk4 m c t h r)))
  exact Finset.sum_congr rfl fun d _ => congrArg₂ (fun a b : EReal => a * b) (blk0 m c t h r d) (blk1 m c t h k d)

theorem slope_at (t : Fin grid0.N) (diag : Prop) [Decidable diag] (hd' : diag ↔ qb t = kb t) (h : Fin 2) (r k : Fin 512) :
    (slope (iblk m c 0 t) (iblk m c 1 t) (iblk m c 2 t) (iblk m c 3 t) (iblk m c 4 t) (iblk m c 5 t) diag (ix3 h r k) : EReal)
      = DS m c (head (hd t) h) (line (qb t) r) (line (kb t) k) := by
  refine congrArg₂ (fun a b : EReal => a * b) (weight_at m c t diag hd' h r k) (congrArg₂ (fun a b : EReal => a - b) ?_ (blk5 m c t h r))
  refine Finset.sum_congr rfl fun d _ => congrArg₂ (fun a b : EReal => a * b) ((blk3 m c t r _).trans (congrArg (fun d => G m c (ix2 (line (qb t) r) d)) (Fin.ext ?_)))
    (blk2 m c t h k _)
  show (hd t).val * 256 + (h.val * 128 + d.val) = ((hd t).val * 2 + h.val) * 128 + d.val
  omega

theorem on_iff (t : Fin grid0.N) : k0_cond4 (qw (grid0.coords t)) (kw (grid0.coords t)) = 1#1 ↔ qb t = kb t := by revert t; decide +kernel
theorem off_iff (t : Fin grid0.N) : k0_cond3 (qw (grid0.coords t)) (kw (grid0.coords t)) = 1#1 ↔ ¬ qb t = kb t := by revert t; decide +kernel
theorem new_iff (t : Fin grid0.N) : Scalar.cmpi .ne (Scalar.extui (Scalar.cmpi .eq (qw (grid0.coords t)) (kw (grid0.coords t)))) 0#32 = 1#1 ↔ qb t = kb t := by
  revert t; decide +kernel
theorem first_iff (t : Fin grid0.N) : k0_cond1 (grid0.coords t) = 1#1 ↔ t.val % 36 = 0 := by revert t; decide +kernel
theorem rows2 (t : Fin grid0.N) : k0_off2 (qw (grid0.coords t)) = ![0, (qb t).val * 512, 0] := by revert t; decide +kernel
theorem rows3 (t : Fin grid0.N) : k0_off3 (qw (grid0.coords t)) = ![1, (qb t).val * 512, 0] := by revert t; decide +kernel
theorem rows4 (t : Fin grid0.N) : k0_off4 (qw (grid0.coords t)) = ![0, (qb t).val * 512, 0] := by revert t; decide +kernel
theorem rows5 (t : Fin grid0.N) : k0_off5 (qw (grid0.coords t)) = ![1, (qb t).val * 512, 0] := by revert t; decide +kernel

/-- What a point adds to the query gradient of a pair of heads. -/
def addQ (t : Fin grid0.N) (j : S2x4096x256.Idx) : EReal :=
  if (j 1).val / 512 = (qb t).val then ∑ k : Fin 512, DS m c (head (hd t) (j 0)) (j 1) (line (kb t) k) * (K m c (ix3 (head (hd t) (j 0)) (line (kb t) k) (j 2)) : EReal) else 0
/-- What a point adds to the sums held for a key block. -/
def addK (t : Fin grid0.N) (j : S2x512x256.Idx) : EReal :=
  ∑ q : Fin 512, DS m c (head (hd t) (j 0)) (line (qb t) q) (line (kb t) (j 1)) * (Q m c (ix3 (head (hd t) (j 0)) (line (qb t) q) (j 2)) : EReal)
def addV (t : Fin grid0.N) (j : S2x512x128.Idx) : EReal :=
  ∑ q : Fin 512, W m c (head (hd t) (j 0)) (line (qb t) q) (line (kb t) (j 1)) * (G m c (ix2 (line (qb t) q) (col8 (head (hd t) (j 0)) (j 2))) : EReal)

theorem zero10_at (t : Fin grid0.N) (y : Vec Ideal S2x4096x256 .f32) (j : S2x4096x256.Idx) :
    (zero10 (grid0.coords t) y j : EReal) = if t.val % 36 = 0 then (0 : EReal) else y j := by
  unfold zero10
  split_ifs with h h' h'
  · exact Ideal.ofBits_zero_f32
  · exact absurd ((first_iff t).1 h) h'
  · exact absurd ((first_iff t).2 h') h
  · rfl

theorem zero13_at (t : Fin grid0.N) (z : Vec Ideal S2x512x256 .f32) (j : S2x512x256.Idx) :
    (zero13 (qw (grid0.coords t)) (kw (grid0.coords t)) z j : EReal) = if qb t = kb t then (0 : EReal) else z j := by
  unfold zero13
  split_ifs with h h' h'
  · exact Ideal.ofBits_zero_f32
  · exact absurd ((new_iff t).1 h) h'
  · exact absurd ((new_iff t).2 h') h
  · rfl

theorem zero14_at (t : Fin grid0.N) (z : Vec Ideal S2x512x128 .f32) (j : S2x512x128.Idx) :
    (zero14 (qw (grid0.coords t)) (kw (grid0.coords t)) z j : EReal) = if qb t = kb t then (0 : EReal) else z j := by
  unfold zero14
  split_ifs with h h' h'
  · exact Ideal.ofBits_zero_f32
  · exact absurd ((new_iff t).1 h) h'
  · exact absurd ((new_iff t).2 h') h
  · rfl

/-- A sum held by row blocks, written by the row. -/
theorem rows_if (t : Fin grid0.N) (diag : Prop) [Decidable diag] (hd' : diag ↔ qb t = kb t) (y : Vec Ideal S2x4096x256 .f32) (j : S2x4096x256.Idx) :
    (if h : (qb t).val * 512 ≤ (j 1).val ∧ (j 1).val < (qb t).val * 512 + 512 then
          ((y j : EReal) + ∑ q : Fin 512, (slope (iblk m c 0 t) (iblk m c 1 t) (iblk m c 2 t) (iblk m c 3 t) (iblk m c 4 t) (iblk m c 5 t) diag (ix3 (j 0) ⟨(j 1).val - (qb t).val * 512, by omega⟩ q) : EReal) * (iblk m c 1 t : Vec Ideal S2x512x256 .bf16) (ix3 (j 0) q (j 2)) : EReal)
        else y j) = (y j : EReal) + addQ m c t j := by
  unfold addQ
  split_ifs with h h' h'
  · refine congrArg (fun x : EReal => (y j : EReal) + x) (Finset.sum_congr rfl fun q _ => congrArg₂ (fun a b : EReal => a * b) ?_ (blk1 m c t _ _ _))
    refine (slope_at m c t diag hd' _ _ _).trans ?_
    refine congrArg (fun r => DS m c (head (hd t) (j 0)) r (line (kb t) q)) (Fin.ext ?_)
    exact Nat.add_sub_of_le h.1
  · exact absurd (by omega) h'
  · exact absurd (by omega) h
  · exact (add_zero _).symm

theorem stepQ (t : Fin grid0.N) (s : State Ideal) (j : S2x4096x256.Idx) :
    ((stepAt m c t s).1 j : EReal) = (if t.val % 36 = 0 then (0 : EReal) else s.1 j) + addQ m c t j := by
  unfold stepAt
  by_cases e : qb t = kb t
  · refine (step_on10 _ _ _ _ _ _ _ _ _ _ _ _ _ _ _ _ _ _ _ _ _ _ _ _ _ _ _ _ _ _ _ _ _ _ _ _ _ _ _ _ _ _ _ _ _ _ (rows4 t) (rows5 t) ((on_iff t).2 e) (fun h => (off_iff t).1 h e) s j).trans ?_
    exact (rows_if m c t True (iff_of_true trivial e) _ j).trans (congrArg (· + addQ m c t j) (zero10_at t s.1 j))
  · refine (step_off10 _ _ _ _ _ _ _ _ _ _ _ _ _ _ _ _ _ _ _ _ _ _ _ _ _ _ _ _ _ _ _ _ _ _ _ _ _ _ _ _ _ _ _ _ _ _ (rows2 t) (rows3 t) ((off_iff t).2 e) (fun h => e ((on_iff t).1 h)) s j).trans ?_
    exact (rows_if m c t False (iff_of_false id e) _ j).trans (congrArg (· + addQ m c t j) (zero10_at t s.1 j))

theorem stepK (t : Fin grid0.N) (s : State Ideal) (j : S2x512x256.Idx) :
    ((stepAt m c t s).2.1 j : EReal) = (if qb t = kb t then (0 : EReal) else s.2.1 j) + addK m c t j := by
  unfold stepAt
  have main : ∀ (diag : Prop) [Decidable diag] (hd' : diag ↔ qb t = kb t),
      (∑ q : Fin 512, (slope (iblk m c 0 t) (iblk m c 1 t) (iblk m c 2 t) (iblk m c 3 t) (iblk m c 4 t) (iblk m c 5 t) diag (ix3 (j 0) q (j 1)) : EReal) * (iblk m c 0 t : Vec Ideal S2x512x256 .bf16) (ix3 (j 0) q (j 2)) : EReal) = addK m c t j := fun diag _ hd' =>
    Finset.sum_congr rfl fun q _ => congrArg₂ (fun a b : EReal => a * b) (slope_at m c t diag hd' _ _ _) (blk0 m c t _ _ _)
  by_cases e : qb t = kb t
  · refine (step_on13 _ _ _ _ _ _ _ _ _ _ _ _ _ _ _ _ _ _ _ _ _ _ _ _ _ _ _ _ _ _ _ _ _ _ _ _ _ _ _ _ _ _ _ _ _ ((on_iff t).2 e) (fun h => (off_iff t).1 h e) s j).trans ?_
    exact congrArg₂ (fun a b : EReal => a + b) (zero13_at t s.2.1 j) (main True (iff_of_true trivial e))
  · refine (step_off13 _ _ _ _ _ _ _ _ _ _ _ _ _ _ _ _ _ _ _ _ _ _ _ _ _ _ _ _ _ _ _ _ _ _ _ _ _ _ _ _ _ _ _ _ _ ((off_iff t).2 e) (fun h => e ((on_iff t).1 h)) s j).trans ?_
    exact congrArg₂ (fun a b : EReal => a + b) (zero13_at t s.2.1 j) (main False (iff_of_false id e))

theorem stepV (t : Fin grid0.N) (s : State Ideal) (j : S2x512x128.Idx) :
    ((stepAt m c t s).2.2 j : EReal) = (if qb t = kb t then (0 : EReal) else s.2.2 j) + addV m c t j := by
  unfold stepAt
  have main : ∀ (diag : Prop) [Decidable diag] (hd' : diag ↔ qb t = kb t),
      (∑ q : Fin 512, (weight (iblk m c 0 t) (iblk m c 1 t) (iblk m c 4 t) diag (ix3 (j 0) q (j 1)) : EReal) * (iblk m c 3 t : Vec Ideal S512x256 .bf16) (ix2 q (pairCol (j 0) (j 2))) : EReal) = addV m c t j := fun diag _ hd' =>
    Finset.sum_congr rfl fun q _ => congrArg₂ (fun a b : EReal => a * b) (weight_at m c t diag hd' _ _ _)
      ((blk3 m c t _ _).trans (congrArg (fun d => (G m c (ix2 (line (qb t) q) d) : EReal)) (Fin.ext (show (hd t).val * 256 + ((j 0).val * 128 + (j 2).val) = ((hd t).val * 2 + (j 0).val) * 128 + (j 2).val by omega))))
  by_cases e : qb t = kb t
  · refine (step_on14 _ _ _ _ _ _ _ _ _ _ _ _ _ _ _ _ _ _ _ _ _ _ _ _ _ _ _ _ _ _ _ _ _ _ _ _ _ _ _ _ _ _ _ _ _ ((on_iff t).2 e) (fun h => (off_iff t).1 h e) s j).trans ?_
    exact congrArg₂ (fun a b : EReal => a + b) (zero14_at t s.2.2 j) (main True (iff_of_true trivial e))
  · refine (step_off14 _ _ _ _ _ _ _ _ _ _ _ _ _ _ _ _ _ _ _ _ _ _ _ _ _ _ _ _ _ _ _ _ _ _ _ _ _ _ _ _ _ _ _ _ _ ((off_iff t).2 e) (fun h => e ((on_iff t).1 h)) s j).trans ?_
    exact congrArg₂ (fun a b : EReal => a + b) (zero14_at t s.2.2 j) (main False (iff_of_false id e))

end Cert.AttnBwdIdeal.Run
end
-- ==== Proof.AttnHost.lean ====
module

public import proofs.«01_k».proof.Proof.AttnPt

@[expose] public section

set_option maxRecDepth 16384

noncomputable section

open Idealize.ShloMosaic Idealize.ShloMosaic.TcCoe Idealize.SL.Sem
open Idealize.ShloMosaic.Pipeline (Dat)
open scoped BigOperators

namespace Cert.AttnBwdIdeal.Run

open Cert.AttnBwdIdeal Cert.AttnBwdIdeal.Gen

/-! The arrays the host prepares, as formulas of the arguments. -/

section formulas

variable (x0 : FVec Ideal S4096x8x128 .f32) (x1 : FVec Ideal S4096x8x64 .f32) (x2 : FVec Ideal S4096x8x128 .f32) (x3 : FVec Ideal S4096x64 .f32)
  (x4 x5 : FVec Ideal S4096x8x128 .f32)

/-- A row of queries, of keys: the two parts side by side, filled with zeros. -/
def fQ (h : Fin 8) (r : Fin 4096) (d : Fin 256) : EReal :=
  if h1 : d.val < 128 then x0 (ix3 r h ⟨d.val, h1⟩) else if h2 : d.val - 128 < 64 then x1 (ix3 r h ⟨d.val - 128, h2⟩) else 0
def fK (h : Fin 8) (r : Fin 4096) (d : Fin 256) : EReal :=
  if h1 : d.val < 128 then x2 (ix3 r h ⟨d.val, h1⟩) else if h2 : d.val - 128 < 64 then x3 (ix2 r ⟨d.val - 128, h2⟩) else 0

/-- The masked score, its largest value in a row, the weight before division, their sum. -/
def lgt (h : Fin 8) (r k : Fin 4096) : EReal :=
  Scalar.select (IntOp.cmpi .sle (BitVec.ofNat 32 k.val) (BitVec.ofNat 32 r.val))
    (((∑ d : Fin 128, (x0 (ix3 r h d) : EReal) * x2 (ix3 k h d)) + ∑ d : Fin 64, (x1 (ix3 r h d) : EReal) * x3 (ix2 k d))
      * Ideal.rsqrt (Ideal.ofBits .f32 0x43400000#32) : EReal) (Ideal.ofBits .f32 0xFF800000#32)
def top (h : Fin 8) (r : Fin 4096) : EReal := Finset.fold max (Ideal.ofBits .f32 0xFF800000#32) (fun k => lgt x0 x1 x2 x3 h r k) Finset.univ
def wt (h : Fin 8) (r k : Fin 4096) : EReal := Ideal.exp (lgt x0 x1 x2 x3 h r k - top x0 x1 x2 x3 h r)
def tot (h : Fin 8) (r : Fin 4096) : EReal := ∑ k : Fin 4096, wt x0 x1 x2 x3 h r k

/-- The saved logarithm and the saved product of output and cotangent. -/
def fL (h : Fin 8) (r : Fin 4096) : EReal := top x0 x1 x2 x3 h r + Ideal.log (tot x0 x1 x2 x3 h r)
def fD (h : Fin 8) (r : Fin 4096) : EReal :=
  ∑ d : Fin 128, (x5 (ix3 r h d) : EReal) * ∑ k : Fin 4096, (x4 (ix3 k h d) : EReal) * Ideal.div (wt x0 x1 x2 x3 h r k) (tot x0 x1 x2 x3 h r)

/-- The same arrays as the host's operations give them. -/
def hQ : FVec Ideal S8x4096x256 .bf16 :=
  truncf .bf16 (concatenate S8x4096x256 2 [⟨S8x4096x128, transpose S8x4096x128 [1, 0, 2] x0 transposes_S4096x8x128_S8x4096x128_1_0_2⟩,
    ⟨S8x4096x64, transpose S8x4096x64 [1, 0, 2] x1 transposes_S4096x8x64_S8x4096x64_1_0_2⟩,
    ⟨S8x4096x64, broadcastInDim S8x4096x64 ![] bcast_S_S8x4096x64 (constant S_ .f32 0x00000000#32)⟩] concatenates_S8x4096x128_S8x4096x64_S8x4096x64_S8x4096x256_d2) bitsLt_bf16_f32
def hK : FVec Ideal S8x4096x256 .bf16 :=
  truncf .bf16 (concatenate S8x4096x256 2 [⟨S8x4096x128, transpose S8x4096x128 [1, 0, 2] x2 transposes_S4096x8x128_S8x4096x128_1_0_2⟩,
    ⟨S8x4096x64, broadcastInDim S8x4096x64 ![1, 2] bcast_S4096x64_S8x4096x64_1_2 x3⟩,
    ⟨S8x4096x64, broadcastInDim S8x4096x64 ![] bcast_S_S8x4096x64 (constant S_ .f32 0x00000000#32)⟩] concatenates_S8x4096x128_S8x4096x64_S8x4096x64_S8x4096x256_d2) bitsLt_bf16_f32
def hV : FVec Ideal S8x4096x256 .bf16 :=
  truncf .bf16 (concatenate S8x4096x256 2 [⟨S8x4096x128, transpose S8x4096x128 [1, 0, 2] x4 transposes_S4096x8x128_S8x4096x128_1_0_2⟩,
    ⟨S8x4096x128, broadcastInDim S8x4096x128 ![] bcast_S_S8x4096x128 (constant S_ .f32 0x3F800000#32)⟩] concatenates_S8x4096x128_S8x4096x128_S8x4096x256_d2) bitsLt_bf16_f32
def hG : FVec Ideal S4096x1024 .bf16 := truncf .bf16 (shapeCast S4096x1024 x5 shapeCasts_S4096x8x128_S4096x1024) bitsLt_bf16_f32

def hlgt : FVec Ideal S8x4096x4096 .f32 :=
  select (cmpi .sle (iotaInDim S8x4096x4096 32 2) (iotaInDim S8x4096x4096 32 1))
    (mulf (addf (Host.dotGeneral dot_S4096x8x128_S4096x8x128_S8x4096x4096_2_2_0_0_1_1 none x0 x2)
        (Host.dotGeneral dot_S4096x8x64_S8x4096x64_S8x4096x4096_2_2_0_1_1_0 none x1 (broadcastInDim S8x4096x64 ![1, 2] bcast_S4096x64_S8x4096x64_1_2 x3)))
      (broadcastInDim S8x4096x4096 ![] bcast_S_S8x4096x4096 (Host.rsqrt (constant S_ .f32 0x43400000#32))))
    (broadcastInDim S8x4096x4096 ![] bcast_S_S8x4096x4096 (constant S_ .f32 0xFF800000#32))
def htop (g : FVec Ideal S8x4096x4096 .f32) : FVec Ideal S8x4096x1 .f32 :=
  broadcastInDim S8x4096x1 ![0, 1] bcast_S8x4096_S8x4096x1_0_1 (Host.reduce FloatOps.maximumf g (constant S_ .f32 0xFF800000#32) reducesTo_S8x4096x4096_S8x4096_d2 h_S_)
def hwt (g : FVec Ideal S8x4096x4096 .f32) : FVec Ideal S8x4096x4096 .f32 :=
  Host.exp (subf g (broadcastInDim S8x4096x4096 ![0, 1, 2] bcast_S8x4096x1_S8x4096x4096_0_1_2 (htop g)))
def htot (w : FVec Ideal S8x4096x4096 .f32) : FVec Ideal S8x4096x1 .f32 :=
  broadcastInDim S8x4096x1 ![0, 1] bcast_S8x4096_S8x4096x1_0_1 (Host.reduceAdd w (constant S_ .f32 0x00000000#32) reducesTo_S8x4096x4096_S8x4096_d2 h_S_)
def hD (w : FVec Ideal S8x4096x4096 .f32) (x4 x5 : FVec Ideal S4096x8x128 .f32) : FVec Ideal S8x4096x1 .f32 :=
  broadcastInDim S8x4096x1 ![0, 1] bcast_S8x4096_S8x4096x1_0_1 (transpose S8x4096 [1, 0] (Host.reduceAdd
    (mulf x5 (transpose S4096x8x128 [2, 0, 1] (Host.dotGeneral dot_S4096x8x128_S8x4096x4096_S8x128x4096_0_2_2_1_1_0 none x4
      (Host.divf w (broadcastInDim S8x4096x4096 ![0, 1, 2] bcast_S8x4096x1_S8x4096x4096_0_1_2 (htot w)))) transposes_S8x128x4096_S4096x8x128_2_0_1))
    (constant S_ .f32 0x00000000#32) reducesTo_S4096x8x128_S4096x8_d2 h_S_) transposes_S4096x8_S8x4096_1_0)

theorem hQ_at (h : Fin 8) (r : Fin 4096) (d : Fin 256) : (hQ x0 x1 (ix3 h r d) : EReal) = fQ x0 x1 h r d := by
  unfold hQ
  pointwise
  unfold fQ
  split_ifs <;> first | rfl | (exfalso; omega)
theorem hK_at (h : Fin 8) (r : Fin 4096) (d : Fin 256) : (hK x2 x3 (ix3 h r d) : EReal) = fK x2 x3 h r d := by
  unfold hK
  pointwise
  unfold fK
  split_ifs <;> first | rfl | (exfalso; omega)
theorem hV_at (h : Fin 8) (r : Fin 4096) (d : Fin 128) : (hV x4 (ix3 h r (valCol d)) : EReal) = x4 (ix3 r h d) := by
  unfold hV
  pointwise
  exact dif_pos d.isLt
theorem hG_at (h : Fin 8) (r : Fin 4096) (d : Fin 128) : (hG x5 (ix2 r (col8 h d)) : EReal) = x5 (ix3 r h d) := by
  unfold hG
  pointwise
  refine congrArg x5 (congrArg₂ (ix3 r) (Fin.ext ?_) (Fin.ext ?_))
  · show (h.val * 128 + d.val) / 128 = h.val
    omega
  · show (h.val * 128 + d.val) % 128 = d.val
    omega
theorem hlgt_at (h : Fin 8) (r k : Fin 4096) : (hlgt x0 x1 x2 x3 (ix3 h r k) : EReal) = lgt x0 x1 x2 x3 h r k := by
  unfold hlgt
  pointwise
  rfl
theorem htop_at (h : Fin 8) (r : Fin 4096) : (htop (hlgt x0 x1 x2 x3) (ix3 h r 0) : EReal) = top x0 x1 x2 x3 h r := by
  unfold htop
  pointwise
  simp only [hlgt_at]
  rfl
theorem hwt_at (h : Fin 8) (r k : Fin 4096) : (hwt (hlgt x0 x1 x2 x3) (ix3 h r k) : EReal) = wt x0 x1 x2 x3 h r k := by
  unfold hwt
  pointwise
  simp only [hlgt_at, htop_at]
  rfl
theorem htot_at (h : Fin 8) (r : Fin 4096) : (htot (hwt (hlgt x0 x1 x2 x3)) (ix3 h r 0) : EReal) = tot x0 x1 x2 x3 h r := by
  unfold htot
  pointwise
  simp only [hwt_at]
  rfl
theorem hD_at (h : Fin 8) (r : Fin 4096) : (hD (hwt (hlgt x0 x1 x2 x3)) x4 x5 (ix3 h r 0) : EReal) = fD x0 x1 x2 x3 x4 x5 h r := by
  unfold hD
  pointwise
  simp only [hwt_at, htot_at]
  rfl

end formulas

variable (m : (ℓ : Loc nD τ sig) → Buf (Elt Ideal) ℓ) (c : Dev nD)

/-- The arguments on a device. -/
abbrev A0 : FVec Ideal S4096x8x128 .f32 := m ((c : Thread nD τ).loc main_arg0)
abbrev A1 : FVec Ideal S4096x8x64 .f32 := m ((c : Thread nD τ).loc main_arg1)
abbrev A2 : FVec Ideal S4096x8x128 .f32 := m ((c : Thread nD τ).loc main_arg2)
abbrev A3 : FVec Ideal S4096x64 .f32 := m ((c : Thread nD τ).loc main_arg3)
abbrev A4 : FVec Ideal S4096x8x128 .f32 := m ((c : Thread nD τ).loc main_arg4)
abbrev A5 : FVec Ideal S4096x8x128 .f32 := m ((c : Thread nD τ).loc main_arg5)

theorem hostQ : V m c main_v5 = hQ (A0 m c) (A1 m c) := by
  simp only [V, hostOps0, List.flatten_cons, List.flatten_nil, List.append_nil, List.cons_append, List.nil_append]
  after_results_simp
  try dsimp only [Matrix.cons_val]
  try after_results_simp
  rfl
theorem hostK : V m c main_v8 = hK (A2 m c) (A3 m c) := by
  simp only [V, hostOps0, List.flatten_cons, List.flatten_nil, List.append_nil, List.cons_append, List.nil_append]
  after_results_simp
  try dsimp only [Matrix.cons_val]
  try after_results_simp
  rfl
theorem hostV : V m c main_v12 = hV (A4 m c) := by
  simp only [V, hostOps0, List.flatten_cons, List.flatten_nil, List.append_nil, List.cons_append, List.nil_append]
  after_results_simp
  try dsimp only [Matrix.cons_val]
  try after_results_simp
  rfl
theorem hostG : V m c main_v40 = hG (A5 m c) := by
  simp only [V, hostOps0, List.flatten_cons, List.flatten_nil, List.append_nil, List.cons_append, List.nil_append]
  after_results_simp
  try dsimp only [Matrix.cons_val]
  try after_results_simp
  rfl
/-- The scores, masked, as the host has them. -/
abbrev HL : FVec Ideal S8x4096x4096 .f32 := hlgt (A0 m c) (A1 m c) (A2 m c) (A3 m c)
theorem hostL : V m c main_v42 = addf (htop (HL m c)) (Host.log (htot (hwt (HL m c)))) := by
  simp only [V, hostOps0, List.flatten_cons, List.flatten_nil, List.append_nil, List.cons_append, List.nil_append]
  after_results_simp
  try dsimp only [Matrix.cons_val]
  try after_results_simp
  rfl
theorem hostD : V m c main_v38 = hD (hwt (HL m c)) (A4 m c) (A5 m c) := by
  simp only [V, hostOps0, List.flatten_cons, List.flatten_nil, List.append_nil, List.cons_append, List.nil_append]
  after_results_simp
  try dsimp only [Matrix.cons_val]
  try after_results_simp
  rfl

theorem Q_at (h : Fin 8) (r : Fin 4096) (d : Fin 256) : (Q m c (ix3 h r d) : EReal) = fQ (A0 m c) (A1 m c) h r d :=
  (congrFun (hostQ m c) _).trans (hQ_at _ _ h r d)
theorem K_at (h : Fin 8) (r : Fin 4096) (d : Fin 256) : (K m c (ix3 h r d) : EReal) = fK (A2 m c) (A3 m c) h r d :=
  (congrFun (hostK m c) _).trans (hK_at _ _ h r d)
theorem Vo_at (h : Fin 8) (r : Fin 4096) (d : Fin 128) : (Vo m c (ix3 h r (valCol d)) : EReal) = A4 m c (ix3 r h d) :=
  (congrFun (hostV m c) _).trans (hV_at _ h r d)
theorem G_at (h : Fin 8) (r : Fin 4096) (d : Fin 128) : (G m c (ix2 r (col8 h d)) : EReal) = A5 m c (ix3 r h d) :=
  (congrFun (hostG m c) _).trans (hG_at _ h r d)
theorem hostL' : L m c = addf (htop (HL m c)) (Host.log (htot (hwt (HL m c)))) := hostL m c

theorem add_log_at (a b : FVec Ideal S8x4096x1 .f32) (i : S8x4096x1.Idx) : (addf a (Host.log b) i : EReal) = a i + Ideal.log (b i) := rfl

theorem L_at (h : Fin 8) (r : Fin 4096) : (L m c (ix3 h r 0) : EReal) = fL (A0 m c) (A1 m c) (A2 m c) (A3 m c) h r := by
  rw [hostL' m c, add_log_at, htop_at, htot_at]
  rfl
theorem D_at (h : Fin 8) (r : Fin 4096) : (D m c (ix3 h r 0) : EReal) = fD (A0 m c) (A1 m c) (A2 m c) (A3 m c) (A4 m c) (A5 m c) h r :=
  (congrFun (hostD m c) _).trans (hD_at _ _ _ _ _ _ h r)

end Cert.AttnBwdIdeal.Run
end
-- ==== Proof.AttnRef.lean ====
module

public import proofs.«01_k».proof.Proof.AttnHost
public import proofs.«01_k».proof.Proof.Gen.AttnRefIdeal.Run

@[expose] public section

set_option maxRecDepth 16384

noncomputable section

open Idealize.ShloMosaic Idealize.ShloMosaic.TcCoe Idealize.SL.Sem
open Idealize.ShloMosaic.Pipeline (Dat)
open scoped BigOperators

namespace Cert.AttnRefIdeal.Grad

open Cert.AttnRefIdeal Cert.AttnRefIdeal.Gen
open Cert.AttnBwdIdeal.Run (lgt top)

/-! The reference's arrays as its operations give them, and their entries. -/

abbrev Sq := FVec Ideal S8x4096x4096 .f32

def mask : IVec S8x4096x4096 1 := cmpi .sle (iotaInDim S8x4096x4096 32 2) (iotaInDim S8x4096x4096 32 1)
def wide (t : FVec Ideal S8x4096x1 .f32) : Sq := broadcastInDim S8x4096x4096 ![0, 1, 2] bcast_S8x4096x1_S8x4096x4096_0_1_2 t
def flat (b : BitVec 32) : Sq := broadcastInDim S8x4096x4096 ![] bcast_S_S8x4096x4096 (constant S_ .f32 b)
def sums (w : Sq) : FVec Ideal S8x4096 .f32 := Host.reduceAdd w (constant S_ .f32 0x00000000#32) reducesTo_S8x4096x4096_S8x4096_d2 h_S_
def col (t : FVec Ideal S8x4096 .f32) : FVec Ideal S8x4096x1 .f32 := broadcastInDim S8x4096x1 ![0, 1] bcast_S8x4096_S8x4096x1_0_1 t
def peak (g : Sq) : FVec Ideal S8x4096 .f32 := Host.reduce FloatOps.maximumf g (constant S_ .f32 0xFF800000#32) reducesTo_S8x4096x4096_S8x4096_d2 h_S_
def atLeast (t : FVec Ideal S8x4096 .f32) : FVec Ideal S8x4096 .f32 :=
  maximumf (broadcastInDim S8x4096 ![] bcast_S_S8x4096 (constant S_ .f32 0xFF800000#32)) t
def best (g : Sq) : FVec Ideal S8x4096 .f32 := atLeast (peak g)
def weights (g : Sq) : Sq := Host.exp (subf g (wide (col (best g))))
def inverse (t : FVec Ideal S8x4096x1 .f32) : FVec Ideal S8x4096x1 .f32 :=
  Host.divf (broadcastInDim S8x4096x1 ![] bcast_S_S8x4096x1 (constant S_ .f32 0x3F800000#32)) (mulf t t)
def minus (t : FVec Ideal S8x4096 .f32) : FVec Ideal S8x4096 .f32 :=
  Host.reduceAdd (Host.negf (shapeCast _ t shapeCasts_S8x4096_S8x4096x1)) (constant S_ .f32 0x00000000#32) reducesTo_S8x4096x1_S8x4096_d2 h_S_
def slopes (p w : Sq) : Sq :=
  select mask (mulf (addf (Host.divf p (wide (col (sums w))))
    (broadcastInDim S8x4096x4096 ![0, 1] bcast_S8x4096_S8x4096x4096_0_1 (minus (sums (mulf (mulf p (wide (inverse (col (sums w))))) w))))) w) (flat 0x00000000#32)

section formulas

variable (x0 : FVec Ideal S4096x8x128 .f32) (x1 : FVec Ideal S4096x8x64 .f32) (x2 : FVec Ideal S4096x8x128 .f32) (x3 : FVec Ideal S4096x64 .f32)
  (x4 x5 : FVec Ideal S4096x8x128 .f32)

def scores : Sq :=
  select mask (mulf (addf (Host.dotGeneral dot_S4096x8x128_S4096x8x128_S8x4096x4096_2_2_0_0_1_1 none x0 x2)
    (Host.dotGeneral dot_S4096x8x64_S8x4096x64_S8x4096x4096_2_2_0_1_1_0 none x1 (broadcastInDim S8x4096x64 ![1, 2] bcast_S4096x64_S8x4096x64_1_2 x3)))
    (broadcastInDim S8x4096x4096 ![] bcast_S_S8x4096x4096 (Host.rsqrt (constant S_ .f32 0x43400000#32)))) (flat 0xFF800000#32)
def products : Sq :=
  Host.dotGeneral dot_S8x128x4096_S4096x8x128_S8x4096x4096_1_2_2_0_0_1 none (transpose S8x128x4096 [1, 2, 0] x5 transposes_S4096x8x128_S8x128x4096_1_2_0) x4

/-- The largest score of a row, the weights, their sum, the product of cotangent and values, the gradient of a score. -/
def rtop (h : Fin 8) (r : Fin 4096) : EReal := max (Ideal.ofBits .f32 0xFF800000#32) (top x0 x1 x2 x3 h r)
def rwt (h : Fin 8) (r k : Fin 4096) : EReal := Ideal.exp (lgt x0 x1 x2 x3 h r k - rtop x0 x1 x2 x3 h r)
def rtot (h : Fin 8) (r : Fin 4096) : EReal := ∑ k : Fin 4096, rwt x0 x1 x2 x3 h r k
def rdp (h : Fin 8) (r k : Fin 4096) : EReal := ∑ d : Fin 128, (x5 (ix3 r h d) : EReal) * x4 (ix3 k h d)
def rslope (h : Fin 8) (r k : Fin 4096) : EReal :=
  Scalar.select (IntOp.cmpi .sle (BitVec.ofNat 32 k.val) (BitVec.ofNat 32 r.val))
    ((Ideal.div (rdp x4 x5 h r k) (rtot x0 x1 x2 x3 h r)
      + ∑ _x : Fin 1, -∑ k : Fin 4096, rdp x4 x5 h r k * Ideal.div 1 (rtot x0 x1 x2 x3 h r * rtot x0 x1 x2 x3 h r) * rwt x0 x1 x2 x3 h r k)
      * rwt x0 x1 x2 x3 h r k : EReal) (0 : EReal)

theorem wide_at (t : FVec Ideal S8x4096x1 .f32) (h : Fin 8) (r k : Fin 4096) : wide t (ix3 h r k) = t (ix3 h r 0) := by
  unfold wide
  pointwise
theorem flat_at (b : BitVec 32) (h : Fin 8) (r k : Fin 4096) : (flat b (ix3 h r k) : EReal) = Ideal.ofBits .f32 b := by
  unfold flat
  pointwise
theorem col_at (t : FVec Ideal S8x4096 .f32) (h : Fin 8) (r : Fin 4096) : col t (ix3 h r 0) = t (ix2 h r) := by
  unfold col
  pointwise
theorem sums_at (w : Sq) (h : Fin 8) (r : Fin 4096) : (sums w (ix2 h r) : EReal) = ∑ k : Fin 4096, (w (ix3 h r k) : EReal) := by
  unfold sums
  pointwise
theorem mask_at (h : Fin 8) (r k : Fin 4096) : mask (ix3 h r k) = IntOp.cmpi .sle (BitVec.ofNat 32 k.val) (BitVec.ofNat 32 r.val) := by
  unfold mask
  pointwise
theorem inverse_at (t : FVec Ideal S8x4096x1 .f32) (h : Fin 8) (r : Fin 4096) : (inverse t (ix3 h r 0) : EReal) = Ideal.div 1 ((t (ix3 h r 0) : EReal) * t (ix3 h r 0)) := by
  unfold inverse
  pointwise
theorem minus_at (t : FVec Ideal S8x4096 .f32) (h : Fin 8) (r : Fin 4096) : (minus t (ix2 h r) : EReal) = ∑ _x : Fin 1, -(t (ix2 h r) : EReal) := by
  unfold minus
  pointwise
theorem scores_at (h : Fin 8) (r k : Fin 4096) : (scores x0 x1 x2 x3 (ix3 h r k) : EReal) = lgt x0 x1 x2 x3 h r k := by
  unfold scores
  pointwise
  simp only [mask_at, flat_at]
  rfl
theorem peak_at (h : Fin 8) (r : Fin 4096) : (peak (scores x0 x1 x2 x3) (ix2 h r) : EReal) = top x0 x1 x2 x3 h r := by
  unfold peak
  pointwise
  simp only [scores_at]
  rfl
theorem atLeast_at (t : FVec Ideal S8x4096 .f32) (h : Fin 8) (r : Fin 4096) : (atLeast t (ix2 h r) : EReal) = max (Ideal.ofBits .f32 0xFF800000#32) (t (ix2 h r)) := by
  unfold atLeast
  pointwise
theorem best_at (h : Fin 8) (r : Fin 4096) : (best (scores x0 x1 x2 x3) (ix2 h r) : EReal) = rtop x0 x1 x2 x3 h r := by
  unfold best
  rw [atLeast_at, peak_at]
  rfl
theorem weights_at (h : Fin 8) (r k : Fin 4096) : (weights (scores x0 x1 x2 x3) (ix3 h r k) : EReal) = rwt x0 x1 x2 x3 h r k := by
  unfold weights
  pointwise
  simp only [wide_at, col_at, best_at, scores_at]
  rfl
theorem products_at (h : Fin 8) (r k : Fin 4096) : (products x4 x5 (ix3 h r k) : EReal) = rdp x4 x5 h r k := by
  unfold products
  pointwise
  rfl
theorem slopes_at (h : Fin 8) (r k : Fin 4096) :
    (slopes (products x4 x5) (weights (scores x0 x1 x2 x3)) (ix3 h r k) : EReal) = rslope x0 x1 x2 x3 x4 x5 h r k := by
  unfold slopes
  pointwise
  simp only [mask_at, flat_at, wide_at, col_at, sums_at, minus_at, products_at, weights_at, Ideal.ofBits_zero_f32]
  pointwise
  simp only [mask_at, flat_at, wide_at, col_at, sums_at, inverse_at, minus_at, products_at, weights_at, Ideal.ofBits_zero_f32]
  rfl

end formulas

section result

variable (x0 : FVec Ideal S4096x8x128 .f32) (x1 : FVec Ideal S4096x8x64 .f32) (x2 : FVec Ideal S4096x8x128 .f32) (x3 : FVec Ideal S4096x64 .f32)
  (x4 x5 : FVec Ideal S4096x8x128 .f32)

/-- The three results, of the gradients of the scores or of the weights. -/
def outQ (g : Sq) : FVec Ideal S8x4096x256 .f32 :=
  concatenate S8x4096x256 2 [⟨S8x4096x128, transpose S8x4096x128 [1, 0, 2] (transpose S4096x8x128 [1, 0, 2] (Host.dotGeneral dot_S8x4096x4096_S4096x8x128_S8x4096x128_2_0_1_2_0_1 none g x2) transposes_S8x4096x128_S4096x8x128_1_0_2) transposes_S4096x8x128_S8x4096x128_1_0_2⟩,
    ⟨S8x4096x64, transpose S8x4096x64 [1, 0, 2] (transpose S4096x8x64 [1, 0, 2] (Host.dotGeneral dot_S8x4096x4096_S8x4096x64_S8x4096x64_2_1_1_2_0_0 none g (broadcastInDim S8x4096x64 ![1, 2] bcast_S4096x64_S8x4096x64_1_2 x3)) transposes_S8x4096x64_S4096x8x64_1_0_2) transposes_S4096x8x64_S8x4096x64_1_0_2⟩,
    ⟨S8x4096x64, broadcastInDim S8x4096x64 ![] bcast_S_S8x4096x64 (constant S_ .f32 0x00000000#32)⟩] concatenates_S8x4096x128_S8x4096x64_S8x4096x64_S8x4096x256_d2
def outK (g : Sq) : FVec Ideal S8x4096x256 .f32 :=
  concatenate S8x4096x256 2 [⟨S8x4096x128, transpose S8x4096x128 [1, 0, 2] (transpose S4096x8x128 [1, 0, 2] (Host.dotGeneral dot_S8x4096x4096_S4096x8x128_S8x4096x128_1_0_2_2_0_1 none g x0) transposes_S8x4096x128_S4096x8x128_1_0_2) transposes_S4096x8x128_S8x4096x128_1_0_2⟩,
    ⟨S8x4096x64, Host.dotGeneral dot_S8x4096x4096_S4096x8x64_S8x4096x64_1_0_2_2_0_1 none g x1⟩,
    ⟨S8x4096x64, broadcastInDim S8x4096x64 ![] bcast_S_S8x4096x64 (constant S_ .f32 0x00000000#32)⟩] concatenates_S8x4096x128_S8x4096x64_S8x4096x64_S8x4096x256_d2
def outV (w : Sq) : FVec Ideal S8x4096x128 .f32 :=
  transpose S8x4096x128 [1, 0, 2] (transpose S4096x8x128 [2, 0, 1] (Host.dotGeneral dot_S8x128x4096_S8x4096x4096_S8x128x4096_2_1_1_2_0_0 none
    (transpose S8x128x4096 [1, 2, 0] x5 transposes_S4096x8x128_S8x128x4096_1_2_0) (Host.divf w (wide (col (sums w))))) transposes_S8x128x4096_S4096x8x128_2_0_1) transposes_S4096x8x128_S8x4096x128_1_0_2

theorem outQ_at (g : Sq) (h : Fin 8) (r : Fin 4096) (d : Fin 256) :
    (outQ x2 x3 g (ix3 h r d) : EReal)
      = if h1 : d.val < 128 then ∑ k : Fin 4096, (g (ix3 h r k) : EReal) * x2 (ix3 k h ⟨d.val, h1⟩)
        else if h2 : d.val - 128 < 64 then ∑ k : Fin 4096, (g (ix3 h r k) : EReal) * x3 (ix2 k ⟨d.val - 128, h2⟩) else (0 : EReal) := by
  unfold outQ
  pointwise
theorem outK_at (g : Sq) (h : Fin 8) (r : Fin 4096) (d : Fin 256) :
    (outK x0 x1 g (ix3 h r d) : EReal)
      = if h1 : d.val < 128 then ∑ k : Fin 4096, (g (ix3 h k r) : EReal) * x0 (ix3 k h ⟨d.val, h1⟩)
        else if h2 : d.val - 128 < 64 then ∑ k : Fin 4096, (g (ix3 h k r) : EReal) * x1 (ix3 k h ⟨d.val - 128, h2⟩) else (0 : EReal) := by
  unfold outK
  pointwise
theorem outV_at (h : Fin 8) (r : Fin 4096) (d : Fin 128) :
    (outV x5 (weights (scores x0 x1 x2 x3)) (ix3 h r d) : EReal)
      = ∑ k : Fin 4096, (x5 (ix3 k h d) : EReal) * Ideal.div (rwt x0 x1 x2 x3 h k r) (rtot x0 x1 x2 x3 h k) := by
  unfold outV
  pointwise
  simp only [wide_at, col_at, sums_at, weights_at]
  rfl

end result

abbrev B0 (m : (ℓ : Loc nD τ sig) → Buf (Elt Ideal) ℓ) (c : Dev nD) : FVec Ideal S4096x8x128 .f32 := m ((c.tc : Thread nD τ).loc main_arg0)
abbrev B1 (m : (ℓ : Loc nD τ sig) → Buf (Elt Ideal) ℓ) (c : Dev nD) : FVec Ideal S4096x8x64 .f32 := m ((c.tc : Thread nD τ).loc main_arg1)
abbrev B2 (m : (ℓ : Loc nD τ sig) → Buf (Elt Ideal) ℓ) (c : Dev nD) : FVec Ideal S4096x8x128 .f32 := m ((c.tc : Thread nD τ).loc main_arg2)
abbrev B3 (m : (ℓ : Loc nD τ sig) → Buf (Elt Ideal) ℓ) (c : Dev nD) : FVec Ideal S4096x64 .f32 := m ((c.tc : Thread nD τ).loc main_arg3)
abbrev B4 (m : (ℓ : Loc nD τ sig) → Buf (Elt Ideal) ℓ) (c : Dev nD) : FVec Ideal S4096x8x128 .f32 := m ((c.tc : Thread nD τ).loc main_arg4)
abbrev B5 (m : (ℓ : Loc nD τ sig) → Buf (Elt Ideal) ℓ) (c : Dev nD) : FVec Ideal S4096x8x128 .f32 := m ((c.tc : Thread nD τ).loc main_arg5)

/-- The reference runs to these arrays. -/
theorem ran (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71)
        = outQ (B2 m c) (B3 m c) (slopes (products (B4 m c) (B5 m c)) (weights (scores (B0 m c) (B1 m c) (B2 m c) (B3 m c))))
      ∧ r.2.mem ((c.tc : Thread nD τ).loc main_v73)
        = outK (B0 m c) (B1 m c) (slopes (products (B4 m c) (B5 m c)) (weights (scores (B0 m c) (B1 m c) (B2 m c) (B3 m c))))
      ∧ r.2.mem ((c.tc : Thread nD τ).loc main_v74) = outV (B5 m c) (weights (scores (B0 m c) (B1 m c) (B2 m c) (B3 m c)))
      ∧ r.2.mem ((c.tc : Thread nD τ).loc main_arg0) = B0 m c
      ∧ r.2.mem ((c.tc : Thread nD τ).loc main_arg1) = B1 m c
      ∧ r.2.mem ((c.tc : Thread nD τ).loc main_arg2) = B2 m c
      ∧ r.2.mem ((c.tc : Thread nD τ).loc main_arg3) = B3 m c
      ∧ r.2.mem ((c.tc : Thread nD τ).loc main_arg4) = B4 m c
      ∧ r.2.mem ((c.tc : Thread nD τ).loc main_arg5) = B5 m c :=
  (θ_run defs _ _).mono (fun _ h c => ⟨(h c).1.trans rfl, (h c).2.1.trans rfl, (h c).2.2.1.trans rfl, (h c).2.2.2⟩) (Value.run m ρ)

end Cert.AttnRefIdeal.Grad
end
-- ==== Proof.AttnReal.lean ====
module

public import proofs.«01_k».proof.Proof.AttnRef
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.AttnReal

open Cert.AttnBwdIdeal Cert.AttnBwdIdeal.Run Cert.Reals
open Cert.AttnRefIdeal.Grad (rtop rwt rtot rdp rslope)

/-! The formulas at real arguments: the kernel's gradient of a score is the reference's. -/

variable (a0 : S4096x8x128.Idx → ℝ) (a1 : S4096x8x64.Idx → ℝ) (a2 : S4096x8x128.Idx → ℝ) (a3 : S4096x64.Idx → ℝ) (a4 a5 : S4096x8x128.Idx → ℝ)

/-- An array of reals, as the programs hold it. -/
abbrev up {s : Shape} (a : s.Idx → ℝ) : FVec Ideal s .f32 := fun i => ((a i : ℝ) : EReal)

/-- The score, its factor, the largest of a row, the weight, their sum, the product of cotangent and values. -/
def sc (h : Fin 8) (r k : Fin 4096) : ℝ := (∑ d : Fin 128, a0 (ix3 r h d) * a2 (ix3 k h d)) + ∑ d : Fin 64, a1 (ix3 r h d) * a3 (ix2 k d)
def fac : ℝ := (Real.sqrt 192)⁻¹
def pk (h : Fin 8) (r : Fin 4096) : ℝ := EReal.toReal (top (up a0) (up a1) (up a2) (up a3) h r)
def ex (h : Fin 8) (r k : Fin 4096) : ℝ := if k.val ≤ r.val then Real.exp (sc a0 a1 a2 a3 h r k * fac - pk a0 a1 a2 a3 h r) else 0
def ts (h : Fin 8) (r : Fin 4096) : ℝ := ∑ k : Fin 4096, ex a0 a1 a2 a3 h r k
def dp (h : Fin 8) (r k : Fin 4096) : ℝ := ∑ d : Fin 128, a5 (ix3 r h d) * a4 (ix3 k h d)

theorem sel (a b : EReal) (k r : Fin 4096) :
    Scalar.select (IntOp.cmpi .sle (BitVec.ofNat 32 k.val) (BitVec.ofNat 32 r.val)) a b = if k.val ≤ r.val then a else b := by
  have e : (BitVec.ofNat 32 k.val).sle (BitVec.ofNat 32 r.val) = decide (k.val ≤ r.val) := by
    have hk := k.isLt
    have hr := r.isLt
    rw [BitVec.sle_eq_decide, BitVec.toInt_eq_toNat_of_lt (by simp; omega), BitVec.toInt_eq_toNat_of_lt (by simp; omega)]
    simp only [BitVec.toNat_ofNat]
    congr 1
    apply propext
    omega
  by_cases h : k.val ≤ r.val <;> simp [Scalar.select, IntOp.cmpi, e, h]

theorem bot_eq : (Ideal.ofBits .f32 0xFF800000#32 : EReal) = ⊥ := by simp [Ideal.ofBits, Ideal.ieee]
theorem k192_eq : (Ideal.ofBits .f32 0x43400000#32 : EReal) = ((192 : ℝ) : EReal) := by
  simp [Ideal.ofBits, Ideal.ieee, -EReal.coe_mul]; norm_num

theorem lgt_eq (h : Fin 8) (r k : Fin 4096) :
    lgt (up a0) (up a1) (up a2) (up a3) h r k = if k.val ≤ r.val then ((sc a0 a1 a2 a3 h r k * fac : ℝ) : EReal) else ⊥ := by
  unfold lgt
  rw [sel, bot_eq, k192_eq, rsqrt_pos (by norm_num)]
  simp only [← EReal.coe_mul, coe_sum, ← EReal.coe_add]
  rfl

theorem top_eq (h : Fin 8) (r : Fin 4096) : top (up a0) (up a1) (up a2) (up a3) h r = ((pk a0 a1 a2 a3 h r : ℝ) : EReal) := by
  refine (EReal.coe_toReal (ne_of_lt ?_) (ne_of_gt ?_)).symm
  · unfold top
    rw [Finset.fold_max_lt, bot_eq]
    refine ⟨bot_lt_top, fun k _ => ?_⟩
    rw [lgt_eq]
    split_ifs
    · exact EReal.coe_lt_top _
    · exact bot_lt_top
  · refine lt_of_lt_of_le (EReal.bot_lt_coe (sc a0 a1 a2 a3 h r 0 * fac)) ?_
    unfold top
    rw [Finset.le_fold_max]
    refine Or.inr ⟨0, Finset.mem_univ _, ?_⟩
    rw [lgt_eq, if_pos (show (0 : Fin 4096).val ≤ r.val from Nat.zero_le _)]

theorem wt_eq (h : Fin 8) (r k : Fin 4096) : wt (up a0) (up a1) (up a2) (up a3) h r k = ((ex a0 a1 a2 a3 h r k : ℝ) : EReal) := by
  unfold wt ex
  rw [lgt_eq, top_eq]
  split_ifs
  · rw [← EReal.coe_sub, Ideal.exp_coe]
  · rw [EReal.bot_sub, Ideal.exp_bot]; rfl

theorem tot_eq (h : Fin 8) (r : Fin 4096) : tot (up a0) (up a1) (up a2) (up a3) h r = ((ts a0 a1 a2 a3 h r : ℝ) : EReal) := by
  unfold tot ts
  simp only [wt_eq, coe_sum]

theorem ts_pos (h : Fin 8) (r : Fin 4096) : 0 < ts a0 a1 a2 a3 h r := by
  refine Finset.sum_pos' (fun k _ => ?_) ⟨0, Finset.mem_univ _, ?_⟩
  · unfold ex
    split_ifs
    · exact (Real.exp_pos _).le
    · exact le_rfl
  · unfold ex
    rw [if_pos (show (0 : Fin 4096).val ≤ r.val from Nat.zero_le _)]
    exact Real.exp_pos _

theorem fL_eq (h : Fin 8) (r : Fin 4096) :
    fL (up a0) (up a1) (up a2) (up a3) h r = ((pk a0 a1 a2 a3 h r + Real.log (ts a0 a1 a2 a3 h r) : ℝ) : EReal) := by
  unfold fL
  rw [top_eq, tot_eq, Ideal.log_coe, EReal.coe_add]
  rw [if_neg (not_le.mpr (ts_pos a0 a1 a2 a3 h r))]

/-- The saved product is the row's sum of weights times products of cotangent and values. -/
def dl (h : Fin 8) (r : Fin 4096) : ℝ := (∑ k : Fin 4096, dp a4 a5 h r k * ex a0 a1 a2 a3 h r k) / ts a0 a1 a2 a3 h r

theorem fD_eq (h : Fin 8) (r : Fin 4096) : fD (up a0) (up a1) (up a2) (up a3) (up a4) (up a5) h r = ((dl a0 a1 a2 a3 a4 a5 h r : ℝ) : EReal) := by
  unfold fD
  simp only [wt_eq, tot_eq, div_coe' (ts_pos a0 a1 a2 a3 h r).ne', ← EReal.coe_mul, coe_sum]
  congr 1
  unfold dl dp
  simp only [Finset.mul_sum, Finset.sum_mul, Finset.sum_div]
  rw [Finset.sum_comm]
  exact Finset.sum_congr rfl fun k _ => Finset.sum_congr rfl fun d _ => by ring

/-- The gradient of a score. -/
def sl (h : Fin 8) (r k : Fin 4096) : ℝ := ex a0 a1 a2 a3 h r k / ts a0 a1 a2 a3 h r * (dp a4 a5 h r k - dl a0 a1 a2 a3 a4 a5 h r)

theorem rtop_eq (h : Fin 8) (r : Fin 4096) : rtop (up a0) (up a1) (up a2) (up a3) h r = top (up a0) (up a1) (up a2) (up a3) h r := by
  unfold rtop
  rw [bot_eq]
  exact max_eq_right bot_le
theorem rwt_eq (h : Fin 8) (r k : Fin 4096) : rwt (up a0) (up a1) (up a2) (up a3) h r k = ((ex a0 a1 a2 a3 h r k : ℝ) : EReal) := by
  unfold rwt
  rw [rtop_eq]
  exact wt_eq a0 a1 a2 a3 h r k
theorem rtot_eq (h : Fin 8) (r : Fin 4096) : rtot (up a0) (up a1) (up a2) (up a3) h r = ((ts a0 a1 a2 a3 h r : ℝ) : EReal) := by
  unfold rtot ts
  simp only [rwt_eq, coe_sum]
theorem rdp_eq (h : Fin 8) (r k : Fin 4096) : rdp (up a4) (up a5) h r k = ((dp a4 a5 h r k : ℝ) : EReal) := by
  unfold rdp dp
  simp only [← EReal.coe_mul, coe_sum]

theorem rslope_eq (h : Fin 8) (r k : Fin 4096) :
    rslope (up a0) (up a1) (up a2) (up a3) (up a4) (up a5) h r k = ((sl a0 a1 a2 a3 a4 a5 h r k : ℝ) : EReal) := by
  unfold rslope
  have ht := ts_pos a0 a1 a2 a3 h r
  rw [sel]
  have one : (1 : EReal) = ((1 : ℝ) : EReal) := rfl
  simp only [one, rwt_eq, rtot_eq, rdp_eq, ← EReal.coe_mul, div_coe' ht.ne', div_coe' (mul_pos ht ht).ne', coe_sum, Finset.univ_unique, Finset.sum_singleton,
    ← EReal.coe_neg, ← EReal.coe_add]
  split_ifs with e
  · congr 1
    unfold sl dl
    have : ∑ i, dp a4 a5 h r i * (1 / (ts a0 a1 a2 a3 h r * ts a0 a1 a2 a3 h r)) * ex a0 a1 a2 a3 h r i
        = (∑ i, dp a4 a5 h r i * ex a0 a1 a2 a3 h r i) / (ts a0 a1 a2 a3 h r * ts a0 a1 a2 a3 h r) := by
      rw [Finset.sum_div]
      exact Finset.sum_congr rfl fun i _ => by ring
    rw [this]
    field_simp
    try ring
  · unfold sl ex
    rw [if_neg e, zero_div, zero_mul]
    rfl

/-- The kernel's weight, from the score and the saved logarithm. -/
theorem power (x l t : ℝ) (ht : 0 < t) : Real.rpow 2 (x * (fac * (Real.log 2)⁻¹) - (l + Real.log t) * (Real.log 2)⁻¹) = Real.exp (x * fac - l) / t := by
  have h2 : Real.log 2 ≠ 0 := (Real.log_pos one_lt_two).ne'
  show (2 : ℝ) ^ (_ : ℝ) = _
  rw [Real.rpow_def_of_pos two_pos]
  have : Real.log 2 * (x * (fac * (Real.log 2)⁻¹) - (l + Real.log t) * (Real.log 2)⁻¹) = (x * fac - l) - Real.log t := by
    field_simp
    try ring
  rw [this, Real.exp_sub, Real.exp_log ht]

end Cert.AttnReal
end
-- ==== Proof.AttnSum.lean ====
module

public import proofs.«01_k».proof.Proof.AttnPt

@[expose] public section

set_option maxRecDepth 16384

noncomputable section

open Idealize.ShloMosaic Idealize.ShloMosaic.TcCoe Idealize.SL.Sem
open Idealize.ShloMosaic.Pipeline (Dat)
open scoped BigOperators

namespace Cert.AttnBwdIdeal.Run

open Cert.AttnBwdIdeal Cert.AttnBwdIdeal.Gen

/-- A sum over a stretch of a finite range. -/
def seg {N : ℕ} (f : Fin N → EReal) (a b : ℕ) : EReal := ∑ q : Fin N, if a ≤ q.val ∧ q.val ≤ b then f q else 0

theorem seg_one {N : ℕ} (f : Fin N → EReal) (a : Fin N) : seg f a a = f a := by
  unfold seg
  refine (Finset.sum_congr rfl fun q _ => ?_).trans (Fintype.sum_ite_eq' a f)
  exact if_congr (by rw [Fin.ext_iff]; omega) rfl rfl

theorem seg_succ {N : ℕ} (f : Fin N → EReal) (a b : ℕ) (h : b + 1 < N) (ha : a ≤ b + 1) : seg f a (b + 1) = seg f a b + f ⟨b + 1, h⟩ := by
  unfold seg
  rw [← Fintype.sum_ite_eq' (⟨b + 1, h⟩ : Fin N) f, ← Finset.sum_add_distrib]
  refine Finset.sum_congr rfl fun q _ => ?_
  by_cases e : q = ⟨b + 1, h⟩
  · subst e
    rw [if_pos ⟨ha, le_refl _⟩, if_neg (by simp), if_pos rfl, zero_add]
  · rw [if_neg e, add_zero]
    have : q.val ≠ b + 1 := fun h' => e (Fin.ext h')
    exact if_congr (by omega) rfl rfl

variable (m : (ℓ : Loc nD τ sig) → Buf (Elt Ideal) ℓ) (c : Dev nD)

/-- The `p`-th point of a pair of heads. -/
def pt (g : Fin 4) (p : Fin 36) : Fin grid0.N := ⟨36 * g.val + p.val, by have := g.isLt; have := p.isLt; show _ < 144; omega⟩

theorem pt_of (t : Fin grid0.N) : pt (hd t) ⟨t.val % 36, Nat.mod_lt _ (by decide)⟩ = t := by revert t; decide +kernel

/-- A trajectory of sums: restarted where `a` says, stretched otherwise. -/
theorem trajQ (n : ℕ) (h : n + 1 ≤ grid0.N) (j : S2x4096x256.Idx) :
    ((traj m c (n + 1) h).1 j : EReal) = seg (fun p : Fin 36 => addQ m c (pt (hd ⟨n, h⟩) p) j) 0 (n % 36) := by
  induction n with
  | zero =>
    refine (stepQ m c ⟨0, h⟩ _ j).trans ?_
    refine (congrArg (· + addQ m c ⟨0, h⟩ j) (if_pos rfl)).trans ?_
    rw [zero_add]
    exact (congrArg (fun t => addQ m c t j) (pt_of ⟨0, h⟩).symm).trans (seg_one (fun p : Fin 36 => addQ m c (pt (hd ⟨0, h⟩) p) j) 0).symm
  | succ n ih =>
    refine (stepQ m c ⟨n + 1, h⟩ _ j).trans ?_
    have ep := pt_of ⟨n + 1, h⟩
    by_cases e : (n + 1) % 36 = 0
    · rw [if_pos e, zero_add]
      have z : (⟨(n + 1) % 36, Nat.mod_lt _ (by decide)⟩ : Fin 36) = 0 := Fin.ext e
      refine Eq.trans ?_ (congrArg (seg (fun p : Fin 36 => addQ m c (pt (hd ⟨n + 1, h⟩) p) j) 0) e).symm
      refine Eq.trans ?_ (seg_one (fun p : Fin 36 => addQ m c (pt (hd ⟨n + 1, h⟩) p) j) 0).symm
      exact congrArg (fun t => addQ m c t j) (ep.symm.trans (congrArg (pt (hd ⟨n + 1, h⟩)) z))
    · rw [if_neg e]
      have eh : hd ⟨n, Nat.lt_of_succ_lt h⟩ = hd ⟨n + 1, h⟩ :=
        (by decide +kernel : ∀ (t t' : Fin grid0.N), t'.val = t.val + 1 → ¬ t'.val % 36 = 0 → hd t = hd t') ⟨n, Nat.lt_of_succ_lt h⟩ ⟨n + 1, h⟩ rfl e
      have em : (n + 1) % 36 = n % 36 + 1 := by omega
      rw [em, seg_succ _ _ _ (by omega) (Nat.zero_le _)]
      refine congrArg₂ (fun a b : EReal => a + b) ?_ ?_
      · refine (ih (Nat.le_of_lt h)).trans ?_
        rw [eh]
      · exact congrArg (fun t => addQ m c t j) (ep.symm.trans (congrArg (pt (hd ⟨n + 1, h⟩)) (Fin.ext em)))

/-- What query block `q` adds to the gradients of key block `k`. -/
def partK (g : Fin 4) (q k : Fin 8) (j : S2x512x256.Idx) : EReal :=
  ∑ r : Fin 512, DS m c (head g (j 0)) (line q r) (line k (j 1)) * (Q m c (ix3 (head g (j 0)) (line q r) (j 2)) : EReal)
def partV (g : Fin 4) (q k : Fin 8) (j : S2x512x128.Idx) : EReal :=
  ∑ r : Fin 512, W m c (head g (j 0)) (line q r) (line k (j 1)) * (G m c (ix2 (line q r) (col8 (head g (j 0)) (j 2))) : EReal)

/-- A point that is not the first of its key block follows one of the same key block. -/
theorem follows (t t' : Fin grid0.N) (h : t'.val = t.val + 1) (e : ¬ qb t' = kb t') : hd t = hd t' ∧ kb t = kb t' ∧ (qb t').val = (qb t).val + 1 :=
  (by decide +kernel : ∀ (t t' : Fin grid0.N), t'.val = t.val + 1 → ¬ qb t' = kb t' → hd t = hd t' ∧ kb t = kb t' ∧ (qb t').val = (qb t).val + 1) t t' h e

/-- Sums that restart at a key block's first point run over its query blocks. -/
theorem runs {α : Type} (a : ∀ n, n ≤ grid0.N → EReal) (f : Fin 4 → Fin 8 → Fin 8 → EReal)
    (ha : ∀ (n : ℕ) (h : n + 1 ≤ grid0.N), a (n + 1) h = (if qb ⟨n, h⟩ = kb ⟨n, h⟩ then (0 : EReal) else a n (Nat.le_of_lt h)) + f (hd ⟨n, h⟩) (qb ⟨n, h⟩) (kb ⟨n, h⟩))
    (n : ℕ) (h : n + 1 ≤ grid0.N) : a (n + 1) h = seg (fun q => f (hd ⟨n, h⟩) q (kb ⟨n, h⟩)) (kb ⟨n, h⟩).val (qb ⟨n, h⟩).val := by
  induction n with
  | zero =>
    have e : qb ⟨0, h⟩ = kb ⟨0, h⟩ := by revert h; decide +kernel
    rw [ha, if_pos e, zero_add, e, seg_one]
  | succ n ih =>
    rw [ha]
    by_cases e : qb ⟨n + 1, h⟩ = kb ⟨n + 1, h⟩
    · rw [if_pos e, zero_add, e, seg_one]
    · obtain ⟨e1, e2, e3⟩ := follows ⟨n, Nat.lt_of_succ_lt h⟩ ⟨n + 1, h⟩ rfl e
      have ho := order ⟨n + 1, h⟩
      have hq := (qb ⟨n + 1, h⟩).isLt
      rw [if_neg e, ih (Nat.le_of_lt h), e1, e2, e3, seg_succ _ _ _ (by omega) (by omega)]
      exact congrArg (fun q => seg _ _ _ + f (hd ⟨n + 1, h⟩) q (kb ⟨n + 1, h⟩)) (Fin.ext e3 : qb ⟨n + 1, h⟩ = ⟨(qb ⟨n, Nat.lt_of_succ_lt h⟩).val + 1, by omega⟩)

theorem trajK (n : ℕ) (h : n + 1 ≤ grid0.N) (j : S2x512x256.Idx) :
    ((traj m c (n + 1) h).2.1 j : EReal) = seg (fun q => partK m c (hd ⟨n, h⟩) q (kb ⟨n, h⟩) j) (kb ⟨n, h⟩).val (qb ⟨n, h⟩).val :=
  runs (α := Unit) (fun n h => ((traj m c n h).2.1 j : EReal)) (fun g q k => partK m c g q k j) (fun n h => stepK m c ⟨n, h⟩ (traj m c n (Nat.le_of_lt h)) j) n h
theorem trajV (n : ℕ) (h : n + 1 ≤ grid0.N) (j : S2x512x128.Idx) :
    ((traj m c (n + 1) h).2.2 j : EReal) = seg (fun q => partV m c (hd ⟨n, h⟩) q (kb ⟨n, h⟩) j) (kb ⟨n, h⟩).val (qb ⟨n, h⟩).val :=
  runs (α := Unit) (fun n h => ((traj m c n h).2.2 j : EReal)) (fun g q k => partV m c g q k j) (fun n h => stepV m c ⟨n, h⟩ (traj m c n (Nat.le_of_lt h)) j) n h

/-- The gradients, by the row. -/
def gradQ : FVec Ideal S8x4096x256 .f32 := fun i => (∑ k : Fin 4096, DS m c (i 0) (i 1) k * (K m c (ix3 (i 0) k (i 2)) : EReal) : EReal)
def gradK : FVec Ideal S8x4096x256 .f32 := fun i => (∑ r : Fin 4096, DS m c (i 0) r (i 1) * (Q m c (ix3 (i 0) r (i 2)) : EReal) : EReal)
def gradV : FVec Ideal S8x4096x128 .f32 := fun i => (∑ r : Fin 4096, W m c (i 0) r (i 1) * (G m c (ix2 r (col8 (i 0) (i 2))) : EReal) : EReal)

/-- A key row after the query row has no weight. -/
theorem W_later (h : Fin 8) (r k : Fin 4096) (e : r.val < k.val) : W m c h r k = 0 := if_pos e
theorem DS_later (h : Fin 8) (r k : Fin 4096) (e : r.val < k.val) : DS m c h r k = 0 := by
  unfold DS
  rw [W_later m c h r k e, zero_mul]

theorem endK (g : Fin 4) (k : Fin 8) (j : S2x512x256.Idx) :
    seg (fun q => partK m c g q k j) k.val 7 = gradK m c (ix3 (head g (j 0)) (line k (j 1)) (j 2)) := by
  unfold seg
  refine Eq.trans (Finset.sum_congr rfl fun q _ => ?_) (Fin.sum_univ_tiles 8 512 rfl fun r => (DS m c (head g (j 0)) r (line k (j 1)) * (Q m c (ix3 (head g (j 0)) r (j 2)) : EReal) : EReal)).symm
  split_ifs with e
  · rfl
  · refine (Finset.sum_eq_zero fun r _ => ?_).symm
    have hq := q.isLt
    have hr := r.isLt
    exact (congrArg (· * _) (DS_later m c _ _ _ (show q.val * 512 + r.val < k.val * 512 + (j 1).val by omega))).trans (zero_mul _)

theorem endV (g : Fin 4) (k : Fin 8) (j : S2x512x128.Idx) :
    seg (fun q => partV m c g q k j) k.val 7 = gradV m c (ix3 (head g (j 0)) (line k (j 1)) (j 2)) := by
  unfold seg
  refine Eq.trans (Finset.sum_congr rfl fun q _ => ?_) (Fin.sum_univ_tiles 8 512 rfl fun r => (W m c (head g (j 0)) r (line k (j 1)) * (G m c (ix2 r (col8 (head g (j 0)) (j 2))) : EReal) : EReal)).symm
  split_ifs with e
  · rfl
  · refine (Finset.sum_eq_zero fun r _ => ?_).symm
    have hq := q.isLt
    have hr := r.isLt
    exact (congrArg (· * _) (W_later m c _ _ _ (show q.val * 512 + r.val < k.val * 512 + (j 1).val by omega))).trans (zero_mul _)

/-- The points of a pair of heads that have query block `q` are its key blocks up to `q`. -/
def pointOf (q k : Fin 8) : Fin 36 := ⟨(k.val * (17 - k.val) / 2 + (q.val - k.val)) % 36, Nat.mod_lt _ (by decide)⟩

theorem sum_points (g : Fin 4) (q : Fin 8) (f : Fin 8 → EReal) :
    (∑ p : Fin 36, if q.val = (qb (pt g p)).val then f (kb (pt g p)) else 0) = ∑ k : Fin 8, if k.val ≤ q.val then f k else 0 := by
  rw [← Finset.sum_filter, ← Finset.sum_filter]
  refine Finset.sum_nbij' (fun p => kb (pt g p)) (fun k => pointOf q k) ?_ ?_ ?_ ?_ (fun _ _ => rfl)
  · revert g q; decide +kernel
  · revert g q; decide +kernel
  · revert g q; decide +kernel
  · revert g q; decide +kernel

theorem endQ (g : Fin 4) (j : S2x4096x256.Idx) :
    seg (fun p : Fin 36 => addQ m c (pt g p) j) 0 35 = gradQ m c (ix3 (head g (j 0)) (j 1) (j 2)) := by
  have hp : ∀ p, hd (pt g p) = g := by revert g; decide +kernel
  have hj : (j 1).val < 4096 := (j 1).isLt
  have hq : (j 1).val / 512 < 8 := by omega
  let f : Fin 8 → EReal := fun k => ∑ r : Fin 512, DS m c (head g (j 0)) (j 1) (line k r) * (K m c (ix3 (head g (j 0)) (line k r) (j 2)) : EReal)
  have e1 : seg (fun p : Fin 36 => addQ m c (pt g p) j) 0 35 = ∑ p : Fin 36, if (⟨(j 1).val / 512, hq⟩ : Fin 8).val = (qb (pt g p)).val then f (kb (pt g p)) else 0 := by
    unfold seg
    refine Finset.sum_congr rfl fun p _ => ?_
    have h35 : p.val ≤ 35 := by omega
    rw [if_pos ⟨Nat.zero_le _, h35⟩]
    exact congrArg (fun g' : Fin 4 => (if (j 1).val / 512 = (qb (pt g p)).val then
      ∑ k : Fin 512, DS m c (head g' (j 0)) (j 1) (line (kb (pt g p)) k) * (K m c (ix3 (head g' (j 0)) (line (kb (pt g p)) k) (j 2)) : EReal) else (0 : EReal))) (hp p)
  rw [e1, sum_points]
  refine Eq.trans (Finset.sum_congr rfl fun k _ => ?_) (Fin.sum_univ_tiles 8 512 rfl fun r => (DS m c (head g (j 0)) (j 1) r * (K m c (ix3 (head g (j 0)) r (j 2)) : EReal) : EReal)).symm
  split_ifs with e
  · rfl
  · refine (Finset.sum_eq_zero fun r _ => ?_).symm
    have hk := k.isLt
    have e' : ¬ k.val ≤ (j 1).val / 512 := e
    exact (congrArg (· * _) (DS_later m c _ _ _ (show (j 1).val < k.val * 512 + r.val by omega))).trans (zero_mul _)

theorem flush7_iff (t : Fin grid0.N) (h : ((cfg (F := Ideal)).win 7).flush t = true) : (qb t).val = 7 := by
  have e : k0_cond5 (qw (grid0.coords t)) = 1#1 := by
    by_contra e
    rw [flush7 t e] at h
    exact absurd h (by decide)
  exact (by decide +kernel : ∀ t : Fin grid0.N, k0_cond5 (qw (grid0.coords t)) = 1#1 → (qb t).val = 7) t e
theorem flush8_iff (t : Fin grid0.N) (h : ((cfg (F := Ideal)).win 8).flush t = true) : (qb t).val = 7 := by
  have e : k0_cond5 (qw (grid0.coords t)) = 1#1 := by
    by_contra e
    rw [flush8 t e] at h
    exact absurd h (by decide)
  exact (by decide +kernel : ∀ t : Fin grid0.N, k0_cond5 (qw (grid0.coords t)) = 1#1 → (qb t).val = 7) t e

theorem emb6 (t : Fin grid0.N) (h : Fin 2) (r : Fin 4096) (d : Fin 256) :
    (((cfg (F := Ideal)).win 6).blk t).view.emb (ix3 h r d) = ix3 (head (hd t) h) r d := by
  blk_ext [idx6 t, head]
theorem emb7 (t : Fin grid0.N) (h : Fin 2) (r : Fin 512) (d : Fin 256) :
    (((cfg (F := Ideal)).win 7).blk t).view.emb (ix3 h r d) = ix3 (head (hd t) h) (line (kb t) r) d := by
  blk_ext [idx7 t, head, line]
theorem emb8 (t : Fin grid0.N) (h : Fin 2) (r : Fin 512) (d : Fin 128) :
    (((cfg (F := Ideal)).win 8).blk t).view.emb (ix3 h r d) = ix3 (head (hd t) h) (line (kb t) r) d := by
  blk_ext [idx8 t, head, line]

/-- The arrays of the three gradients. -/
theorem arr6 : (dats m 0 c).arrAt 6 (cfg (F := Ideal)).N = gradQ m c := by
  refine (dats m 0 c).arrAt_eq_of_covers 6 _ (by decide +kernel) fun t hf y => ?_
  blk_simp
  rw [after6]
  idx_vars y
  refine (trajQ m c t.val t.isLt _).trans ?_
  have e : t.val % 36 = 35 := by
    rw [flush6 t] at hf
    have := of_decide_eq_true hf
    omega
  rw [e]
  refine (endQ m c (hd t) _).trans ?_
  exact congrArg (gradQ m c) (emb6 t y0 y1 y2).symm

theorem arr7 : (dats m 0 c).arrAt 7 (cfg (F := Ideal)).N = gradK m c := by
  refine (dats m 0 c).arrAt_eq_of_covers 7 _ (by decide +kernel) fun t hf y => ?_
  blk_simp
  rw [after7]
  idx_vars y
  refine (trajK m c t.val t.isLt _).trans ?_
  rw [flush7_iff t hf]
  refine (endK m c (hd t) (kb t) _).trans ?_
  exact congrArg (gradK m c) (emb7 t y0 y1 y2).symm

theorem arr8 : (dats m 0 c).arrAt 8 (cfg (F := Ideal)).N = gradV m c := by
  refine (dats m 0 c).arrAt_eq_of_covers 8 _ (by decide +kernel) fun t hf y => ?_
  blk_simp
  rw [after8]
  idx_vars y
  refine (trajV m c t.val t.isLt _).trans ?_
  rw [flush8_iff t hf]
  refine (endV m c (hd t) (kb t) _).trans ?_
  exact congrArg (gradV m c) (emb8 t y0 y1 y2).symm

end Cert.AttnBwdIdeal.Run
end
-- ==== Proof.AttnEq.lean ====
module

public import proofs.«01_k».proof.Proof.AttnReal
public import proofs.«01_k».proof.Proof.AttnSum

@[expose] public section

set_option maxRecDepth 16384

noncomputable section

open Idealize.ShloMosaic Idealize.ShloMosaic.TcCoe Idealize.SL.Sem
open Idealize.ShloMosaic.Pipeline (Dat)
open scoped BigOperators

namespace Cert.AttnBwdIdeal.Run

open Cert.AttnBwdIdeal Cert.AttnBwdIdeal.Gen Cert.AttnReal
open Cert.AttnRefIdeal.Grad (rtop rwt rtot rdp rslope)

/-! The kernel's arrays at real arguments are the reference's. -/

theorem c1_eq : c1 = ((fac * (Real.log 2)⁻¹ : ℝ) : EReal) := IdealRules.named_const.ideal_named_scalar _ _ _ _ rfl
theorem c2_eq : c2 = (((Real.log 2)⁻¹ : ℝ) : EReal) := IdealRules.named_const.ideal_named_scalar _ _ _ _ rfl

/-- A sum over the columns of a padded head: its first part, its rotary part, its empty part. -/
theorem split (f : Fin 256 → EReal) :
    ∑ d : Fin 256, f d = (∑ d : Fin 128, f ⟨d.val, by omega⟩) + ((∑ d : Fin 64, f ⟨128 + d.val, by omega⟩) + ∑ d : Fin 64, f ⟨192 + d.val, by omega⟩) := by
  refine (Fin.sum_univ_add (a := 128) (b := 128) f).trans (congrArg₂ (· + ·) rfl ?_)
  refine (Fin.sum_univ_add (a := 64) (b := 64) _).trans (congrArg₂ (· + ·) rfl ?_)
  refine Finset.sum_congr rfl fun d _ => congrArg f (Fin.ext ?_)
  show 128 + (64 + d.val) = 192 + d.val
  omega

section

variable (m : (ℓ : Loc nD τ sig) → Buf (Elt Ideal) ℓ) (c : Dev nD)
variable (a0 : S4096x8x128.Idx → ℝ) (a1 : S4096x8x64.Idx → ℝ) (a2 : S4096x8x128.Idx → ℝ) (a3 : S4096x64.Idx → ℝ) (a4 a5 : S4096x8x128.Idx → ℝ)
  (h0 : A0 m c = up a0) (h1 : A1 m c = up a1) (h2 : A2 m c = up a2) (h3 : A3 m c = up a3) (h4 : A4 m c = up a4) (h5 : A5 m c = up a5)

include h0 h1 h2 h3 in
theorem S_eq (h : Fin 8) (r k : Fin 4096) : S m c h r k = ((sc a0 a1 a2 a3 h r k : ℝ) : EReal) := by
  refine (Finset.sum_congr rfl fun d _ => congrArg₂ (fun a b : EReal => a * b) (Q_at m c h r d) (K_at m c h k d) :
    S m c h r k = ∑ d : Fin 256, fQ (A0 m c) (A1 m c) h r d * fK (A2 m c) (A3 m c) h k d).trans ?_
  rw [h0, h1, h2, h3, split]
  have e0 : ∑ d : Fin 128, fQ (up a0) (up a1) h r ⟨d.val, by omega⟩ * fK (up a2) (up a3) h k ⟨d.val, by omega⟩
      = ((∑ d : Fin 128, a0 (ix3 r h d) * a2 (ix3 k h d) : ℝ) : EReal) := by
    rw [← Reals.coe_sum]
    refine Finset.sum_congr rfl fun d _ => ?_
    unfold fQ fK
    rw [dif_pos d.isLt, dif_pos d.isLt, EReal.coe_mul]
  have e1 : ∑ d : Fin 64, fQ (up a0) (up a1) h r ⟨128 + d.val, by omega⟩ * fK (up a2) (up a3) h k ⟨128 + d.val, by omega⟩
      = ((∑ d : Fin 64, a1 (ix3 r h d) * a3 (ix2 k d) : ℝ) : EReal) := by
    rw [← Reals.coe_sum]
    refine Finset.sum_congr rfl fun d _ => ?_
    unfold fQ fK
    have n : ¬ 128 + d.val < 128 := by omega
    have p : 128 + d.val - 128 < 64 := by omega
    have q : (⟨128 + d.val - 128, p⟩ : Fin 64) = d := Fin.ext (by show 128 + d.val - 128 = d.val; omega)
    rw [dif_neg n, dif_neg n, dif_pos p, dif_pos p, q, EReal.coe_mul]
  have e2 : ∑ d : Fin 64, fQ (up a0) (up a1) h r ⟨192 + d.val, by omega⟩ * fK (up a2) (up a3) h k ⟨192 + d.val, by omega⟩ = 0 := by
    refine Finset.sum_eq_zero fun d _ => ?_
    unfold fQ
    rw [dif_neg (show ¬ 192 + d.val < 128 by omega), dif_neg (show ¬ 192 + d.val - 128 < 64 by omega), zero_mul]
  rw [e0, e1, e2, add_zero, ← EReal.coe_add]
  rfl

include h0 h1 h2 h3 in
theorem W_eq (h : Fin 8) (r k : Fin 4096) : W m c h r k = ((ex a0 a1 a2 a3 h r k / ts a0 a1 a2 a3 h r : ℝ) : EReal) := by
  unfold W
  rw [S_eq m c a0 a1 a2 a3 h0 h1 h2 h3, L_at, h0, h1, h2, h3, fL_eq, c1_eq, c2_eq]
  by_cases e : r.val < k.val
  · unfold ex
    rw [if_pos e, if_neg (by omega), zero_div]
    rfl
  · rw [if_neg e, ← EReal.coe_mul, ← EReal.coe_mul, ← EReal.coe_sub, Ideal.exp2_coe, power _ _ _ (ts_pos a0 a1 a2 a3 h r)]
    unfold ex
    rw [if_pos (by omega)]

include h4 h5 in
theorem DP_eq (h : Fin 8) (r k : Fin 4096) : DP m c h r k = ((dp a4 a5 h r k : ℝ) : EReal) := by
  refine (Finset.sum_congr rfl fun d _ => congrArg₂ (fun a b : EReal => a * b) (G_at m c h r d) (Vo_at m c h k d) :
    DP m c h r k = ∑ d : Fin 128, A5 m c (ix3 r h d) * A4 m c (ix3 k h d)).trans ?_
  unfold dp
  rw [h4, h5, ← Reals.coe_sum]
  exact Finset.sum_congr rfl fun d _ => (EReal.coe_mul _ _).symm

include h0 h1 h2 h3 h4 h5 in
theorem DS_eq (h : Fin 8) (r k : Fin 4096) : DS m c h r k = rslope (up a0) (up a1) (up a2) (up a3) (up a4) (up a5) h r k := by
  unfold DS
  rw [W_eq m c a0 a1 a2 a3 h0 h1 h2 h3, DP_eq m c a4 a5 h4 h5, D_at, h0, h1, h2, h3, h4, h5, fD_eq, rslope_eq, ← EReal.coe_sub, ← EReal.coe_mul]
  rfl

/-- The gradients of queries, keys and values at one place. -/
theorem gradQ_at (h : Fin 8) (r : Fin 4096) (d : Fin 256) :
    (gradQ m c (ix3 h r d) : EReal) = ∑ k : Fin 4096, DS m c h r k * fK (A2 m c) (A3 m c) h k d :=
  Finset.sum_congr rfl fun k _ => congrArg (DS m c h r k * ·) (K_at m c h k d)
theorem gradK_at (h : Fin 8) (k : Fin 4096) (d : Fin 256) :
    (gradK m c (ix3 h k d) : EReal) = ∑ r : Fin 4096, DS m c h r k * fQ (A0 m c) (A1 m c) h r d :=
  Finset.sum_congr rfl fun r _ => congrArg (DS m c h r k * ·) (Q_at m c h r d)
theorem gradV_at (h : Fin 8) (k : Fin 4096) (d : Fin 128) :
    (gradV m c (ix3 h k d) : EReal) = ∑ r : Fin 4096, W m c h r k * A5 m c (ix3 r h d) :=
  Finset.sum_congr rfl fun r _ => congrArg (W m c h r k * ·) (G_at m c h r d)

include h0 h1 h2 h3 h4 h5 in
open Cert.AttnRefIdeal.Grad in
theorem same : gradQ m c = outQ (up a2) (up a3) (slopes (products (up a4) (up a5)) (weights (scores (up a0) (up a1) (up a2) (up a3))))
    ∧ gradK m c = outK (up a0) (up a1) (slopes (products (up a4) (up a5)) (weights (scores (up a0) (up a1) (up a2) (up a3))))
    ∧ gradV m c = outV (up a5) (weights (scores (up a0) (up a1) (up a2) (up a3))) := by
  refine ⟨?_, ?_, ?_⟩
  · funext i
    idx_vars i
    refine (gradQ_at m c i0 i1 i2).trans ?_
    rw [outQ_at]
    simp only [slopes_at, DS_eq m c a0 a1 a2 a3 a4 a5 h0 h1 h2 h3 h4 h5, h2, h3]
    unfold fK
    split_ifs
    · rfl
    · rfl
    · exact Finset.sum_eq_zero fun k _ => mul_zero _
  · funext i
    idx_vars i
    refine (gradK_at m c i0 i1 i2).trans ?_
    rw [outK_at]
    simp only [slopes_at, DS_eq m c a0 a1 a2 a3 a4 a5 h0 h1 h2 h3 h4 h5, h0, h1]
    unfold fQ
    split_ifs
    · rfl
    · rfl
    · exact Finset.sum_eq_zero fun k _ => mul_zero _
  · funext i
    idx_vars i
    refine (gradV_at m c i0 i1 i2).trans ?_
    rw [outV_at]
    refine Finset.sum_congr rfl fun r _ => ?_
    rw [W_eq m c a0 a1 a2 a3 h0 h1 h2 h3, h5, rwt_eq, rtot_eq, Reals.div_coe' (ts_pos a0 a1 a2 a3 i0 r).ne', mul_comm]

end

end Cert.AttnBwdIdeal.Run
end
-- ==== Proof.AttnAlg.lean ====
module

public import proofs.«01_k».proof.Proof.AttnEq
public import proofs.«01_k».proof.Proof.AttnRun
public import proofs.«01_k».proof.Proof.Gen.Pre_attn_finite

@[expose] public section

set_option maxRecDepth 16384

noncomputable section

open Idealize.ShloMosaic Idealize.ShloMosaic.TcCoe Idealize.SL.Sem
open Idealize.ShloMosaic.Pipeline (Dat)
open scoped BigOperators

namespace Cert.AttnBwdIdeal.Run

open Cert.AttnBwdIdeal Cert.AttnBwdIdeal.Gen

/-! The gradients of the attention's inputs are those of the reference. -/

open Cert.AttnReal in
/-- The arguments are arrays of reals. -/
theorem reals {a0 : FVec Ideal S4096x8x128 .f32} {a1 : FVec Ideal S4096x8x64 .f32} {a2 : FVec Ideal S4096x8x128 .f32} {a3 : FVec Ideal S4096x64 .f32}
    {a4 a5 : FVec Ideal S4096x8x128 .f32} (h : Cert.Pre_attn_finite.fn (F := Ideal) a0 a1 a2 a3 a4 a5 = fun _ => 1#1) :
    (∃ x0, a0 = up x0) ∧ (∃ x1, a1 = up x1) ∧ (∃ x2, a2 = up x2) ∧ (∃ x3, a3 = up x3) ∧ (∃ x4, a4 = up x4) ∧ (∃ x5, a5 = up x5) := by
  have e := congrFun h (fun a => a.elim0)
  simp only [Cert.Pre_attn_finite.fn, Cert.Pre_attn_finite.fn_part1, andi, IntOp.andi_eq_one] at e
  obtain ⟨⟨⟨⟨⟨h0, h1⟩, h2⟩, h3⟩, h4⟩, h5⟩ := e
  exact ⟨Reals.real_of_all a0 _ _ _ _ _ _ h0, Reals.real_of_all a1 _ _ _ _ _ _ h1, Reals.real_of_all a2 _ _ _ _ _ _ h2,
    Reals.real_of_all a3 _ _ _ _ _ _ h3, Reals.real_of_all a4 _ _ _ _ _ _ h4, Reals.real_of_all a5 _ _ _ _ _ _ h5⟩

theorem algebraic : Cert.algebraic_AttnBwdIdeal_AttnRefIdeal_pre_attn_finite (hAttnBwdIdeal := Cert.AttnBwdIdeal.Gen.facts)
    (hAttnRefIdeal := Cert.AttnRefIdeal.Gen.facts) (hPre_attn_finite := Cert.Pre_attn_finite.Gen.facts) := by
  intro m g m' g' hpre hargs
  refine ⟨fun c => gradQ m c, fun c => gradK m c, fun c => gradV m c, (θ_run _ _ _).mono (fun r h c => ?_) (run m g),
    (θ_run _ _ _).mono (fun r h c => ?_) (Cert.AttnRefIdeal.Grad.ran m' g')⟩
  · exact ⟨((h.1 c).1 6).trans (arr6 m c), ((h.1 c).1 7).trans (arr7 m c), ((h.1 c).1 8).trans (arr8 m c), unchanged m h.1 c⟩
  · obtain ⟨e0, e1, e2, e3, e4, e5⟩ := hargs c
    obtain ⟨hv0, hv1, hv2, hk⟩ := h c
    obtain ⟨⟨x0, h0⟩, ⟨x1, h1⟩, ⟨x2, h2⟩, ⟨x3, h3⟩, ⟨x4, h4⟩, ⟨x5, h5⟩⟩ := reals (hpre c)
    obtain ⟨s0, s1, s2⟩ := same m c x0 x1 x2 x3 x4 x5 h0 h1 h2 h3 h4 h5
    have b0 : Cert.AttnRefIdeal.Grad.B0 m' c = Cert.AttnReal.up x0 := e0.trans h0
    have b1 : Cert.AttnRefIdeal.Grad.B1 m' c = Cert.AttnReal.up x1 := e1.trans h1
    have b2 : Cert.AttnRefIdeal.Grad.B2 m' c = Cert.AttnReal.up x2 := e2.trans h2
    have b3 : Cert.AttnRefIdeal.Grad.B3 m' c = Cert.AttnReal.up x3 := e3.trans h3
    have b4 : Cert.AttnRefIdeal.Grad.B4 m' c = Cert.AttnReal.up x4 := e4.trans h4
    have b5 : Cert.AttnRefIdeal.Grad.B5 m' c = Cert.AttnReal.up x5 := e5.trans h5
    refine ⟨hv0.trans (Eq.trans ?_ s0.symm), hv1.trans (Eq.trans ?_ s1.symm), hv2.trans (Eq.trans ?_ s2.symm), hk⟩
    · rw [b0, b1, b2, b3, b4, b5]
    · rw [b0, b1, b2, b3, b4, b5]
    · rw [b0, b1, b2, b3, b5]

end Cert.AttnBwdIdeal.Run
end
-- ==== Proof.AttnKeeps.lean ====
module

public import proofs.«01_k».proof.Defs
public import proofs.«01_k».proof.Proof.AttnRun
public import proofs.«01_k».proof.Proof.Gen.AttnBwd
public import proofs.«01_k».proof.Proof.Gen.AttnBwd.Launch

@[expose] public section

set_option maxRecDepth 16384

noncomputable section

namespace Cert.AttnBwdIdeal.Run

open Idealize.ShloMosaic Idealize.ShloMosaic.TcCoe Idealize.ShloMosaic.Tactic
open Idealize.SL.Sem
open Cert.AttnBwdIdeal Cert.AttnBwdIdeal.Gen

/-- The kernel leaves its arguments as they are and every counter at zero. -/
def Keeps (F : FTy → Type) [FloatOps F] [Named F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem keeps (F : FTy → Type) [FloatOps F] [Named F] : Keeps F := fun m g =>
  (θ_run _ _ _).mono (fun r h => ⟨fun c => unchanged m h.1 c, h.2⟩) (run m g)

end Cert.AttnBwdIdeal.Run

namespace Cert.AttnBwd.Run

open Idealize.ShloMosaic Idealize.ShloMosaic.TcCoe Idealize.ShloMosaic.Tactic
open Idealize.SL.Sem
open Cert.AttnBwd Cert.AttnBwd.Gen

/-- The constants at the machine's floats: each is the number its bits say. -/
abbrev asBits : Named Bits := ⟨fun _ _ _ bits => Scalar.ofBits _ bits⟩

def Keeps : Prop :=
  ∀ (m : (ℓ : Loc nD τ sig) → Buf (Elt Bits) ℓ) (g : Dev nD → PrngReg),
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The two programs are one program, up to how the constants are spelled. -/
theorem keeps_eq : Keeps = @Cert.AttnBwdIdeal.Run.Keeps Bits _ asBits := by
  sl_kernel_rfl

theorem keeps : Keeps := keeps_eq ▸ @Cert.AttnBwdIdeal.Run.keeps Bits _ asBits

end Cert.AttnBwd.Run

end
-- ==== Proof.MiddlePt.lean ====
/- The gradient from the loss to the branches: what the kernel reads, and its formulas over the whole arrays. -/
module

public import proofs.«01_k».proof.Defs
public import proofs.«01_k».proof.Proof.Gen.MiddleIdeal.Value
public import Idealize.ShloMosaic.Lib.Pipeline.ValueKit
public import Idealize.ShloMosaic.Lib.Pointwise
public import Idealize.ShloMosaic.Lib.WritesUnit
public import proofs.«01_k».proof.Proof.Rows
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.MiddleIdeal.Value

open Cert.MiddleIdeal Cert.MiddleIdeal.Gen

/-- The arguments of the call. -/
@[ext] structure Args where
  za : FVec Ideal S4096x1024 .f32
  o : FVec Ideal S4096x1024 .f32
  bg : FVec Ideal S4096x1024 .f32
  ga : FVec Ideal S4096x1024 .f32
  gb : FVec Ideal S4096x1024 .f32
  x : FVec Ideal S4096x1024 .f32
  gate : FVec Ideal S1024 .f32
  fnw : FVec Ideal S1024 .f32
  wc : FVec Ideal S1024x1024 .f32
  wa : FVec Ideal S1024x1024 .f32
  wo : FVec Ideal S1024x1024 .f32
  tgt : FVec Ideal S4096x1024 .f32

variable (m : (ℓ : Loc nD τ sig) → Buf (Elt Ideal) ℓ)

/-- The arguments one device holds. -/
abbrev args (c : Dev nD) : Args where
  za := m ((c : Thread nD τ).loc main_arg0)
  o := m ((c : Thread nD τ).loc main_arg1)
  bg := m ((c : Thread nD τ).loc main_arg2)
  ga := m ((c : Thread nD τ).loc main_arg3)
  gb := m ((c : Thread nD τ).loc main_arg4)
  x := m ((c : Thread nD τ).loc main_arg5)
  gate := m ((c : Thread nD τ).loc main_arg6)
  fnw := m ((c : Thread nD τ).loc main_arg7)
  wc := m ((c : Thread nD τ).loc main_arg8)
  wa := m ((c : Thread nD τ).loc main_arg9)
  wo := m ((c : Thread nD τ).loc main_arg10)
  tgt := m ((c : Thread nD τ).loc main_arg11)

theorem idx : ∀ t : Fin cfg0.N, win0_0.index t = ![t.val, 0] ∧ win0_1.index t = ![t.val, 0] ∧ win0_2.index t = ![t.val, 0]
    ∧ win0_3.index t = ![t.val, 1] ∧ win0_4.index t = ![t.val, 2] ∧ win0_5.index t = ![t.val, 0]
    ∧ win0_6.index t = ![t.val, 0] ∧ win0_7.index t = ![0, 0] ∧ win0_8.index t = ![0, 0] ∧ win0_9.index t = ![0, 0]
    ∧ win0_10.index t = ![0, 0] ∧ win0_11.index t = ![0, 0] ∧ win0_12.index t = ![t.val, 0] ∧ win0_13.index t = ![t.val, 0]
    ∧ win0_14.index t = ![t.val, 0] ∧ win0_15.index t = ![0, t.val, 0] ∧ win0_16.index t = ![t.val, 0] ∧ win0_17.index t = ![t.val, 0]
    ∧ win0_18.index t = ![t.val, 0] ∧ win0_19.index t = ![t.val, 0] ∧ win0_20.index t = ![t.val, 0] ∧ win0_21.index t = ![t.val, 0]
    ∧ win0_22.index t = ![0, 0] :=
  (by decide +kernel : ∀ t : Fin grid0.N, _)

/-- The array row of row `r` of block `t`. -/
def row (t : Fin cfg0.N) (r : Fin 256) : Fin 4096 := ⟨t.val * 256 + r.val, by have := t.isLt; have : cfg0.N = 16 := N_0; omega⟩

theorem blk0 (c : Dev nD) (t : Fin cfg0.N) (r : Fin 256) (k : Fin 1024) : iblk m c 0 t (ix2 r k) = (args m c).za (ix2 (row t r) k) := by
  blk_simp [iblk, idx t]
  simp only [V, hostOps0]
  entry_read; pointwise; blk_ext [idx t, row]
theorem blk1 (c : Dev nD) (t : Fin cfg0.N) (r : Fin 256) (k : Fin 1024) : iblk m c 1 t (ix2 r k) = (args m c).o (ix2 (row t r) k) := by
  blk_ext [iblk, V, idx t, row]
theorem blk2 (c : Dev nD) (t : Fin cfg0.N) (r : Fin 256) (k : Fin 1024) : iblk m c 2 t (ix2 r k) = (args m c).bg (ix2 (row t r) k) := by
  blk_simp [iblk, idx t]
  simp only [V, hostOps0]
  entry_read; pointwise; blk_simp [idx t]; rw [dif_pos (by omega)]; blk_ext [idx t, row]
theorem blk3 (c : Dev nD) (t : Fin cfg0.N) (r : Fin 256) (k : Fin 1024) : iblk m c 3 t (ix2 r k) = (args m c).ga (ix2 (row t r) k) := by
  blk_simp [iblk, idx t]
  simp only [V, hostOps0]
  entry_read; pointwise; blk_simp [idx t]; rw [dif_neg (by omega), dif_pos (by omega)]; blk_ext [idx t, row]
theorem blk4 (c : Dev nD) (t : Fin cfg0.N) (r : Fin 256) (k : Fin 1024) : iblk m c 4 t (ix2 r k) = (args m c).gb (ix2 (row t r) k) := by
  blk_simp [iblk, idx t]
  simp only [V, hostOps0]
  entry_read; pointwise; blk_simp [idx t]; rw [dif_neg (by omega), dif_neg (by omega)]; blk_ext [idx t, row]
theorem blk5 (c : Dev nD) (t : Fin cfg0.N) (r : Fin 256) (k : Fin 1024) : iblk m c 5 t (ix2 r k) = (args m c).x (ix2 (row t r) k) := by
  blk_ext [iblk, V, idx t, row]
theorem blk6 (c : Dev nD) (t : Fin cfg0.N) (r : Fin 256) (k : Fin 1024) : iblk m c 6 t (ix2 r k) = (args m c).tgt (ix2 (row t r) k) := by
  blk_ext [iblk, V, idx t, row]
theorem blk7 (c : Dev nD) (t : Fin cfg0.N) (r : Fin 1) (k : Fin 1024) : iblk m c 7 t (ix2 r k) = (args m c).gate (ix1 k) := by
  blk_simp [iblk, idx t]
  simp only [V, hostOps0]
  entry_read; pointwise; blk_ext [idx t, row]
theorem blk8 (c : Dev nD) (t : Fin cfg0.N) (r : Fin 1) (k : Fin 1024) : iblk m c 8 t (ix2 r k) = (args m c).fnw (ix1 k) := by
  blk_simp [iblk, idx t]
  simp only [V, hostOps0]
  entry_read; pointwise; blk_ext [idx t, row]
theorem blk9 (c : Dev nD) (t : Fin cfg0.N) (r : Fin 1024) (k : Fin 1024) : iblk m c 9 t (ix2 r k) = (args m c).wc (ix2 r k) := by
  blk_simp [iblk, idx t]
  simp only [V, hostOps0]
  entry_read; pointwise; blk_ext [idx t, row]
theorem blk10 (c : Dev nD) (t : Fin cfg0.N) (r : Fin 1024) (k : Fin 1024) : iblk m c 10 t (ix2 r k) = (args m c).wa (ix2 r k) := by
  blk_simp [iblk, idx t]
  simp only [V, hostOps0]
  entry_read; pointwise; blk_ext [idx t, row]
theorem blk11 (c : Dev nD) (t : Fin cfg0.N) (r : Fin 1024) (k : Fin 1024) : iblk m c 11 t (ix2 r k) = (args m c).wo (ix2 r k) := by
  blk_simp [iblk, idx t]
  simp only [V, hostOps0]
  entry_read; pointwise; blk_ext [idx t, row]

namespace Args
variable (p : Args) (s : Fin 4096) (d : Fin 1024)

/-- The output of the convolution's branch. -/
def ya : EReal := ∑ k : Fin 1024, (p.za (ix2 s k) : EReal) * p.wc (ix2 k d)
/-- The gate of the attention's branch. -/
def sg : EReal := Ideal.logistic (p.bg (ix2 s d))
def sl : EReal := (p.bg (ix2 s d) : EReal) * p.sg s d
def zb : EReal := (p.o (ix2 s d) : EReal) * p.sl s d
def yb : EReal := ∑ k : Fin 1024, p.zb s k * (p.wa (ix2 k d) : EReal)
/-- The weights of the two branches, their sum and its product. -/
def sa : EReal := Ideal.logistic (p.ga (ix2 s d))
def sb : EReal := Ideal.logistic (p.gb (ix2 s d))
def mg : EReal := p.sa s d * p.ya s d + p.sb s d * p.yb s d
def mo : EReal := ∑ k : Fin 1024, p.mg s k * (p.wo (ix2 k d) : EReal)
/-- The rows the last norm takes, what it makes of them, and the difference from the target. -/
def x2 : EReal := (p.x (ix2 s d) : EReal) + (p.gate (ix1 d) : EReal) * p.mo s d
def rr : EReal := Ideal.rsqrt (Ideal.div (∑ k : Fin 1024, p.x2 s k * p.x2 s k) (Ideal.ofBits FTy.f32 1149239296#32) + Ideal.ofBits FTy.f32 897988541#32)
def xh : EReal := p.x2 s d * p.rr s
def er : EReal := p.xh s d * (p.fnw (ix1 d) : EReal) - (p.tgt (ix2 s d) : EReal)
/-- The gradients, from the loss back to the branches. -/
def dy : EReal := p.er s d * Ideal.ofBits FTy.f32 981467136#32
def dxh : EReal := p.dy s d * (p.fnw (ix1 d) : EReal)
def dx : EReal := p.rr s * (p.dxh s d - p.xh s d * Ideal.div (∑ k : Fin 1024, p.dxh s k * p.xh s k) (Ideal.ofBits FTy.f32 1149239296#32))
def dmo : EReal := (p.gate (ix1 d) : EReal) * p.dx s d
def dmg : EReal := ∑ k : Fin 1024, p.dmo s k * (p.wo (ix2 d k) : EReal)
def dya : EReal := p.sa s d * p.dmg s d
def dyb : EReal := p.sb s d * p.dmg s d
def dga : EReal := p.dmg s d * p.ya s d * (p.sa s d * (1 - p.sa s d))
def dgb : EReal := p.dmg s d * p.yb s d * (p.sb s d * (1 - p.sb s d))
def dza : EReal := ∑ k : Fin 1024, p.dya s k * (p.wc (ix2 d k) : EReal)
def dzb : EReal := ∑ k : Fin 1024, p.dyb s k * (p.wa (ix2 d k) : EReal)
def dov : EReal := p.dzb s d * p.sl s d
def dbg : EReal := p.dzb s d * (p.o (ix2 s d) : EReal) * (p.sg s d * (1 + (p.bg (ix2 s d) : EReal) * (1 - p.sg s d)))
def dpr : EReal := p.dov s d * (p.o (ix2 s d) : EReal)
end Args

end Cert.MiddleIdeal.Value

end
-- ==== Proof.MiddleRef.lean ====
/- The gradient from the loss to the branches: the entries of the reference's values. -/
module

public import proofs.«01_k».proof.Proof.MiddlePt
public import proofs.«01_k».proof.Proof.Gen.MiddleRefIdeal.Run

@[expose] public section

set_option maxRecDepth 16384

noncomputable section

open Idealize.ShloMosaic Idealize.ShloMosaic.TcCoe Idealize.SL.Sem
open scoped BigOperators

namespace Cert.MiddleRefIdeal.Value

open Cert.MiddleRefIdeal
open Cert.MiddleIdeal.Value (Args)

/-- The reference's arguments. -/
abbrev rargs (W : Valuation τ sig (Elt Ideal)) : Args where
  za := W (Proc.devRef .tc main_arg0)
  o := W (Proc.devRef .tc main_arg1)
  bg := W (Proc.devRef .tc main_arg2)
  ga := W (Proc.devRef .tc main_arg3)
  gb := W (Proc.devRef .tc main_arg4)
  x := W (Proc.devRef .tc main_arg5)
  gate := W (Proc.devRef .tc main_arg6)
  fnw := W (Proc.devRef .tc main_arg7)
  wc := W (Proc.devRef .tc main_arg8)
  wa := W (Proc.devRef .tc main_arg9)
  wo := W (Proc.devRef .tc main_arg10)
  tgt := W (Proc.devRef .tc main_arg11)

variable (W : Valuation τ sig (Elt Ideal)) (s : Fin 4096) (d : Fin 1024)

theorem v0_at : res_main_v0 W (ix2 s d) = (rargs W).ya s d := by
  pointwise [res_main_v0]; rfl
theorem v1_2_at : res_main_v1_2 W (ix2 s d) = (rargs W).sg s d := by
  pointwise [res_main_v1_2]; exact Cert.Reals.logistic_eq _
theorem v1_0_at : res_main_v1_0 W (ix2 s d) = (rargs W).sl s d := by
  pointwise [res_main_v1_0]; simp only [v1_2_at]; rfl
theorem v2_at : res_main_v2 W (ix2 s d) = (rargs W).zb s d := by
  pointwise [res_main_v2]; simp only [v1_0_at]; rfl
theorem v3_at : res_main_v3 W (ix2 s d) = (rargs W).yb s d := by
  pointwise [res_main_v3]; simp only [v2_at]; rfl
theorem v9_at : res_main_v9 W (ix2 s d) = (rargs W).sa s d := by
  pointwise [res_main_v9]; exact Cert.Reals.logistic_eq _
theorem v19_at : res_main_v19 W (ix2 s d) = (rargs W).sb s d := by
  pointwise [res_main_v19]; exact Cert.Reals.logistic_eq _
theorem v24_at : res_main_v24 W (ix2 s d) = (rargs W).mg s d := by
  pointwise [res_main_v24]; simp only [v9_at, v0_at, v19_at, v3_at]; rfl
theorem v25_at : res_main_v25 W (ix2 s d) = (rargs W).mo s d := by
  pointwise [res_main_v25]; simp only [v24_at]; rfl
theorem v29_at : res_main_v29 W (ix2 s d) = (rargs W).x2 s d := by
  pointwise [res_main_v29, res_main_v26]; simp only [v25_at]; rfl
theorem v37_at (i : Fin 1) : res_main_v37 W (ix2 s i) = (rargs W).rr s := by
  pointwise [res_main_v37, res_main_v36]; simp only [v29_at]; rfl
theorem v42_at : res_main_v42 W (ix2 s d) = (rargs W).xh s d := by
  pointwise [res_main_v42]; simp only [v29_at, v37_at]; rfl
theorem v46_at : res_main_v46 W (ix2 s d) = (rargs W).er s d := by
  pointwise [res_main_v46, res_main_v43]; simp only [v42_at]; rfl
theorem v122_at : res_main_v122 W (ix2 s d) = (rargs W).er s d := by
  pointwise [res_main_v122, res_main_v108]; simp only [v25_at]; rfl

theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem inv_1024_eq : Ideal.ofBits .f32 0x3A800000#32 = ((1 / 1024 : ℝ) : EReal) := by
  simp [Ideal.ofBits, Ideal.ieee, -EReal.coe_mul]; norm_num

theorem v60_at : res_main_v60 W (ix2 s d) = (rargs W).dy s d := by
  pointwise [res_main_v60]; simp only [v46_at, Args.dy]
  rw [half_eq, Cert.Reals.k1024_eq, two_eq, inv_1024_eq, Cert.Reals.div_coe' (by norm_num), ← mul_assoc, ← EReal.coe_mul, mul_comm]
  congr 2; norm_num
theorem v65_at : res_main_v65 W (ix2 s d) = (rargs W).dxh s d := by
  pointwise [res_main_v65, res_main_v43]; simp only [v60_at]; rfl

/-- The factor of the row in the reference's gradient of the mean square. -/
def qE (p : Args) (s : Fin 4096) : EReal :=
  Ideal.div ((∑ k : Fin 1024, p.x2 s k * p.dxh s k) * (Ideal.ofBits FTy.f32 3204448256#32
    * Ideal.div (p.rr s) (Ideal.div (∑ k : Fin 1024, p.x2 s k * p.x2 s k) (Ideal.ofBits FTy.f32 1149239296#32) + Ideal.ofBits FTy.f32 897988541#32)))
    (Ideal.ofBits FTy.f32 1149239296#32)

theorem v76_at : res_main_v76 W (ix2 s d) = qE (rargs W) s := by
  pointwise [res_main_v76]; simp only [Finset.univ_unique, Finset.sum_singleton, v65_at, v29_at, v37_at, res_main_v36]
  pointwise
  simp only [v29_at]; rfl
theorem v80_at : res_main_v80 W (ix2 s d) = (rargs W).dxh s d * (rargs W).rr s + (rargs W).x2 s d * qE (rargs W) s + qE (rargs W) s * (rargs W).x2 s d := by
  pointwise [res_main_v80]; simp only [v65_at, v29_at, v37_at, v76_at]

end Cert.MiddleRefIdeal.Value

end
-- ==== Proof.MiddlePay.lean ====
/- The gradient from the loss to the branches: the entries of the values one grid point computes. -/
module

public import proofs.«01_k».proof.Proof.MiddlePt

@[expose] public section

set_option maxRecDepth 16384

noncomputable section

open Idealize.ShloMosaic Idealize.ShloMosaic.TcCoe Idealize.SL.Sem
open Idealize.ShloMosaic.Pipeline (Dat)
open scoped BigOperators

namespace Cert.MiddleIdeal.Value

open Cert.MiddleIdeal Cert.MiddleIdeal.Gen

variable (m : (ℓ : Loc nD τ sig) → Buf (Elt Ideal) ℓ) (c : Dev nD) (t : Fin cfg0.N)

/-- The block's values the later steps share. -/
abbrev mgB : FVec Ideal S256x1024 .bf16 := k0_pay13 (iblk m c 1 t) (iblk m c 2 t) (iblk m c 0 t) (iblk m c 9 t) (iblk m c 10 t) (iblk m c 3 t) (iblk m c 4 t)
abbrev rrB : FVec Ideal S256x1 .f32 := k0_pay18 (mgB m c t) (k0_pay14 (iblk m c 11 t)) (iblk m c 7 t) (iblk m c 5 t)
abbrev xhB : FVec Ideal S256x1024 .f32 := k0_pay19 (mgB m c t) (k0_pay14 (iblk m c 11 t)) (iblk m c 7 t) (iblk m c 5 t)
abbrev dyB : FVec Ideal S256x1024 .f32 := k0_pay23 (mgB m c t) (k0_pay14 (iblk m c 11 t)) (iblk m c 7 t) (iblk m c 5 t) (iblk m c 8 t) (iblk m c 6 t)
abbrev dxB : FVec Ideal S256x1024 .f32 := k0_pay25 (rrB m c t) (xhB m c t) (k0_pay20 (iblk m c 8 t)) (dyB m c t)
abbrev dmgB : FVec Ideal S256x1024 .f32 := k0_pay28 (k0_pay16 (iblk m c 7 t)) (rrB m c t) (xhB m c t) (k0_pay20 (iblk m c 8 t)) (dyB m c t) (iblk m c 11 t)
abbrev dyaB : FVec Ideal S256x1024 .bf16 := k0_pay29 (k0_pay11 (iblk m c 3 t)) (k0_pay16 (iblk m c 7 t)) (rrB m c t) (xhB m c t) (k0_pay20 (iblk m c 8 t)) (dyB m c t) (iblk m c 11 t)
abbrev dybB : FVec Ideal S256x1024 .bf16 := k0_pay30 (k0_pay12 (iblk m c 4 t)) (k0_pay16 (iblk m c 7 t)) (rrB m c t) (xhB m c t) (k0_pay20 (iblk m c 8 t)) (dyB m c t) (iblk m c 11 t)

variable (r : Fin 256) (d : Fin 1024)

theorem sg_at : k0_pay6 (iblk m c 2 t) (ix2 r d) = (args m c).sg (row t r) d := by
  pointwise [k0_pay6, k0_pay5]; simp only [blk2]; rfl
theorem sl_at : k0_pay7 (iblk m c 2 t) (ix2 r d) = (args m c).sl (row t r) d := by
  pointwise [k0_pay7, k0_pay5]; simp only [blk2, sg_at]; rfl
theorem zb_at : k0_pay8 (iblk m c 1 t) (iblk m c 2 t) (ix2 r d) = (args m c).zb (row t r) d := by
  pointwise [k0_pay8]; simp only [blk1, sl_at]; rfl
theorem ya_at : k0_pay9 (iblk m c 0 t) (iblk m c 9 t) (ix2 r d) = (args m c).ya (row t r) d := by
  pointwise [k0_pay9]; simp only [blk0, blk9]; rfl
theorem yb_at : k0_pay10 (iblk m c 1 t) (iblk m c 2 t) (iblk m c 10 t) (ix2 r d) = (args m c).yb (row t r) d := by
  pointwise [k0_pay10]; simp only [zb_at, blk10]; rfl
theorem sa_at : k0_pay11 (iblk m c 3 t) (ix2 r d) = (args m c).sa (row t r) d := by
  pointwise [k0_pay11]; simp only [blk3]; rfl
theorem sb_at : k0_pay12 (iblk m c 4 t) (ix2 r d) = (args m c).sb (row t r) d := by
  pointwise [k0_pay12]; simp only [blk4]; rfl
theorem mg_at : mgB m c t (ix2 r d) = (args m c).mg (row t r) d := by
  pointwise [mgB, k0_pay13]; simp only [sa_at, sb_at, ya_at, yb_at]; rfl
theorem mo_at : k0_pay15 (mgB m c t) (k0_pay14 (iblk m c 11 t)) (ix2 r d) = (args m c).mo (row t r) d := by
  pointwise [k0_pay15, k0_pay14]; simp only [mg_at, blk11]; rfl
theorem gate_at (i : Fin 1) : k0_pay16 (iblk m c 7 t) (ix2 i d) = (args m c).gate (ix1 d) := by
  pointwise [k0_pay16]; simp only [blk7]
theorem fnw_at (i : Fin 1) : k0_pay20 (iblk m c 8 t) (ix2 i d) = (args m c).fnw (ix1 d) := by
  pointwise [k0_pay20]; simp only [blk8]
theorem x2_at : k0_pay17 (mgB m c t) (k0_pay14 (iblk m c 11 t)) (iblk m c 7 t) (iblk m c 5 t) (ix2 r d) = (args m c).x2 (row t r) d := by
  pointwise [k0_pay17]; simp only [mo_at, gate_at, blk5]; rfl
theorem rr_at (i : Fin 1) : rrB m c t (ix2 r i) = (args m c).rr (row t r) := by
  pointwise [rrB, k0_pay18]; simp only [x2_at]; rfl
theorem xh_at : xhB m c t (ix2 r d) = (args m c).xh (row t r) d := by
  pointwise [xhB, k0_pay19]; simp only [x2_at, rr_at]; rfl
theorem er_at : k0_pay21 (mgB m c t) (k0_pay14 (iblk m c 11 t)) (iblk m c 7 t) (iblk m c 5 t) (iblk m c 8 t) (iblk m c 6 t) (ix2 r d)
    = (args m c).er (row t r) d := by
  pointwise [k0_pay21]; simp only [xh_at, fnw_at, blk6]; rfl
theorem dy_at : dyB m c t (ix2 r d) = (args m c).dy (row t r) d := by
  pointwise [dyB, k0_pay23]; simp only [er_at]; rfl
theorem dx_at : dxB m c t (ix2 r d) = (args m c).dx (row t r) d := by
  pointwise [dxB, k0_pay25]; simp only [dy_at, fnw_at, xh_at, rr_at]; rfl
theorem dmo_at : k0_pay27 (k0_pay16 (iblk m c 7 t)) (rrB m c t) (xhB m c t) (k0_pay20 (iblk m c 8 t)) (dyB m c t) (ix2 r d)
    = (args m c).dmo (row t r) d := by
  pointwise [k0_pay27]; simp only [dx_at, gate_at]; rfl
theorem dmg_at : dmgB m c t (ix2 r d) = (args m c).dmg (row t r) d := by
  pointwise [dmgB, k0_pay28]; simp only [dmo_at, blk11]; rfl
theorem dya_at : dyaB m c t (ix2 r d) = (args m c).dya (row t r) d := by
  pointwise [dyaB, k0_pay29]; simp only [dmg_at, sa_at]; rfl
theorem dyb_at : dybB m c t (ix2 r d) = (args m c).dyb (row t r) d := by
  pointwise [dybB, k0_pay30]; simp only [dmg_at, sb_at]; rfl
theorem dga_at : k0_pay31 (k0_pay9 (iblk m c 0 t) (iblk m c 9 t)) (k0_pay11 (iblk m c 3 t)) (dmgB m c t) (ix2 r d) = (args m c).dga (row t r) d := by
  pointwise [k0_pay31]; simp only [dmg_at, ya_at, sa_at]; rfl
theorem dgb_at : k0_pay32 (k0_pay10 (iblk m c 1 t) (iblk m c 2 t) (iblk m c 10 t)) (k0_pay12 (iblk m c 4 t)) (dmgB m c t) (ix2 r d)
    = (args m c).dgb (row t r) d := by
  pointwise [k0_pay32]; simp only [dmg_at, yb_at, sb_at]; rfl
theorem dza_at : k0_pay33 (dyaB m c t) (iblk m c 9 t) (ix2 r d) = (args m c).dza (row t r) d := by
  pointwise [k0_pay33]; simp only [dya_at, blk9]; rfl
theorem dzb_at : k0_pay34 (dybB m c t) (iblk m c 10 t) (ix2 r d) = (args m c).dzb (row t r) d := by
  pointwise [k0_pay34]; simp only [dyb_at, blk10]; rfl
theorem dov_at : k0_pay35 (k0_pay7 (iblk m c 2 t)) (dybB m c t) (iblk m c 10 t) (ix2 r d) = (args m c).dov (row t r) d := by
  pointwise [k0_pay35]; simp only [dzb_at, sl_at]; rfl
theorem do_at : k0_pay36 (k0_pay7 (iblk m c 2 t)) (dybB m c t) (iblk m c 10 t) (ix2 r d) = (args m c).dov (row t r) d := by
  pointwise [k0_pay36]; simp only [dov_at]
theorem dbg_at : k0_pay37 (iblk m c 1 t) (k0_pay5 (iblk m c 2 t)) (k0_pay6 (iblk m c 2 t)) (dybB m c t) (iblk m c 10 t) (ix2 r d)
    = (args m c).dbg (row t r) d := by
  pointwise [k0_pay37, k0_pay5]; simp only [dzb_at, sg_at, blk1, blk2]; rfl
theorem dpr_at : k0_pay38 (iblk m c 1 t) (k0_pay7 (iblk m c 2 t)) (dybB m c t) (iblk m c 10 t) (ix2 r d) = (args m c).dpr (row t r) d := by
  pointwise [k0_pay38]; simp only [dov_at, blk1]; rfl

end Cert.MiddleIdeal.Value

end
-- ==== Proof.Bands.lean ====
/- Reading an array that was stored in bands of columns. -/
module

public import Idealize.ShloMosaic.Lib.Pipeline.ValueKit
public import Idealize.ShloMosaic.Lib.Pipeline.ReadBack
public import Idealize.ShloMosaic.Lib.Pointwise
public import Idealize.ShloMosaic.Lib.WritesUnit

@[expose] public section

noncomputable section

open Idealize.ShloMosaic
open scoped BigOperators

namespace Cert.Bands

section
variable {Val : EltTy → Type} {e : EltTy} {n k o : ℕ}

/-- The newest piece is a band of columns, and the index lies in it. -/
theorem band_hit [∀ e, Nonempty (Val e)] {q : ℕ} (inb : ∀ a, (![0, o] : Fin 2 → ℕ) a + (![n, k] : Fin 2 → ℕ) a ≤ (⟨2, ![n, q]⟩ : Shape).size a)
    (w : (⟨2, ![n, k]⟩ : Shape).Idx → Val e) (L : List (View.Piece Val (⟨2, ![n, q]⟩ : Shape) e)) (a : Fin n) (j : Fin q) (i : Fin k) (h : j.val = o + i.val) :
    View.canon ((⟨Rect.unit (s := (⟨2, ![n, q]⟩ : Shape)) ![0, o] ![n, k] inb, w⟩ : View.Piece Val (⟨2, ![n, q]⟩ : Shape) e) :: L) (ix2 a j) = w (ix2 a i) := by
  have : (Rect.unit (s := (⟨2, ![n, q]⟩ : Shape)) ![0, o] ![n, k] inb).emb (ix2 a i) = (ix2 a j : (⟨2, ![n, q]⟩ : Shape).Idx) := by
    funext x
    refine Fin.cases ?_ (fun x => ?_) x
    · exact Fin.ext (by show 0 + 1 * a.val = a.val; omega)
    · obtain rfl : x = 0 := Subsingleton.elim _ _
      exact Fin.ext (by show o + 1 * i.val = j.val; omega)
  rw [← this]
  exact View.canon_cons_emb _ _ _ _

/-- The newest piece is a band of columns, and the index lies outside it. -/
theorem band_miss [∀ e, Nonempty (Val e)] {q : ℕ} (inb : ∀ a, (![0, o] : Fin 2 → ℕ) a + (![n, k] : Fin 2 → ℕ) a ≤ (⟨2, ![n, q]⟩ : Shape).size a)
    (w : (⟨2, ![n, k]⟩ : Shape).Idx → Val e) (L : List (View.Piece Val (⟨2, ![n, q]⟩ : Shape) e)) (a : Fin n) (j : Fin q) (h : j.val < o ∨ o + k ≤ j.val) :
    View.canon ((⟨Rect.unit (s := (⟨2, ![n, q]⟩ : Shape)) ![0, o] ![n, k] inb, w⟩ : View.Piece Val (⟨2, ![n, q]⟩ : Shape) e) :: L) (ix2 a j)
      = View.canon L (ix2 a j) := by
  refine View.canon_cons_of_not_mem _ L ?_
  rw [Rect.mem_set_unit]
  intro hall
  have h1 : o ≤ j.val ∧ j.val < o + k := hall (1 : Fin 2)
  omega

end

end Cert.Bands

end
-- ==== Proof.MiddleSums.lean ====
/- The gradient from the loss to the branches: the results the kernel writes in parts, and the sums it carries on. -/
module

public import proofs.«01_k».proof.Proof.MiddlePay
public import proofs.«01_k».proof.Proof.Bands

@[expose] public section

set_option maxRecDepth 16384

noncomputable section

open Idealize.ShloMosaic Idealize.ShloMosaic.TcCoe Idealize.SL.Sem
open Idealize.ShloMosaic.Pipeline (Dat)
open scoped BigOperators

namespace Cert.MiddleIdeal.Value

open Cert.MiddleIdeal Cert.MiddleIdeal.Gen

variable (m : (ℓ : Loc nD τ sig) → Buf (Elt Ideal) ℓ)

section
variable {Val : EltTy → Type} {e : EltTy} {n k o : ℕ}

/-- The newest piece is plane `o`, and the index lies in it. -/
theorem plane_hit [∀ e, Nonempty (Val e)] {q : ℕ} (inb : ∀ a, (![o, 0, 0] : Fin 3 → ℕ) a + (![1, n, 1] : Fin 3 → ℕ) a ≤ (⟨3, ![q, n, 1]⟩ : Shape).size a)
    (w : (⟨3, ![1, n, 1]⟩ : Shape).Idx → Val e) (L : List (View.Piece Val (⟨3, ![q, n, 1]⟩ : Shape) e)) (a : Fin q) (j : Fin n) (i : Fin 1) (h : a.val = o) :
    View.canon ((⟨Rect.unit (s := (⟨3, ![q, n, 1]⟩ : Shape)) ![o, 0, 0] ![1, n, 1] inb, w⟩ : View.Piece Val (⟨3, ![q, n, 1]⟩ : Shape) e) :: L) (ix3 a j i)
      = w (ix3 0 j i) := by
  have : (Rect.unit (s := (⟨3, ![q, n, 1]⟩ : Shape)) ![o, 0, 0] ![1, n, 1] inb).emb (ix3 (0 : Fin 1) j i) = (ix3 a j i : (⟨3, ![q, n, 1]⟩ : Shape).Idx) := by
    funext x
    refine Fin.cases ?_ (fun x => Fin.cases ?_ (fun x => ?_) x) x
    · exact Fin.ext (by show o + 1 * 0 = a.val; omega)
    · exact Fin.ext (by show 0 + 1 * j.val = j.val; omega)
    · obtain rfl : x = 0 := Subsingleton.elim _ _
      exact Fin.ext (by show 0 + 1 * i.val = i.val; omega)
  rw [← this]
  exact View.canon_cons_emb _ _ _ _

/-- The newest piece is plane `o`, and the index lies outside it. -/
theorem plane_miss [∀ e, Nonempty (Val e)] {q : ℕ} (inb : ∀ a, (![o, 0, 0] : Fin 3 → ℕ) a + (![1, n, 1] : Fin 3 → ℕ) a ≤ (⟨3, ![q, n, 1]⟩ : Shape).size a)
    (w : (⟨3, ![1, n, 1]⟩ : Shape).Idx → Val e) (L : List (View.Piece Val (⟨3, ![q, n, 1]⟩ : Shape) e)) (a : Fin q) (j : Fin n) (i : Fin 1) (h : a.val ≠ o) :
    View.canon ((⟨Rect.unit (s := (⟨3, ![q, n, 1]⟩ : Shape)) ![o, 0, 0] ![1, n, 1] inb, w⟩ : View.Piece Val (⟨3, ![q, n, 1]⟩ : Shape) e) :: L) (ix3 a j i)
      = View.canon L (ix3 a j i) := by
  refine View.canon_cons_of_not_mem _ L ?_
  rw [Rect.mem_set_unit]
  intro hall
  have h1 : o ≤ a.val ∧ a.val < o + 1 := hall (0 : Fin 3)
  omega
end

/-- The three groups of columns of the gradient of the projections. -/
def Args.dpg (p : Args) (s : Fin 4096) (j : Fin 3072) : EReal :=
  if h : j.val < 1024 then p.dbg s ⟨j.val, h⟩ else if h : j.val - 1024 < 1024 then p.dga s ⟨j.val - 1024, h⟩ else p.dgb s ⟨j.val - 1024 - 1024, by omega⟩

theorem bands (c : Dev nD) (t : Fin cfg0.N) : (outsAt0 m c t.val t.isLt).2.2.2.2.1 = View.canon
    [⟨Rect.unit (s := S256x3072) ![0, 0] ![256, 1024] inb_S256x3072_S256x1024_0_0,
        k0_pay37 (iblk m c 1 t) (k0_pay5 (iblk m c 2 t)) (k0_pay6 (iblk m c 2 t)) (dybB m c t) (iblk m c 10 t)⟩,
      ⟨Rect.unit (s := S256x3072) ![0, 2048] ![256, 1024] inb_S256x3072_S256x1024_0_2048,
        k0_pay32 (k0_pay10 (iblk m c 1 t) (iblk m c 2 t) (iblk m c 10 t)) (k0_pay12 (iblk m c 4 t)) (dmgB m c t)⟩,
      ⟨Rect.unit (s := S256x3072) ![0, 1024] ![256, 1024] inb_S256x3072_S256x1024_0_1024,
        k0_pay31 (k0_pay9 (iblk m c 0 t) (iblk m c 9 t)) (k0_pay11 (iblk m c 3 t)) (dmgB m c t)⟩] := by
  by_cases h : t.val % 16 = 0
  · rw [outsAt0_A m c t h]; frame_out
  · rw [outsAt0_B m c t h]; frame_out

theorem final_16 (c : Dev nD) : (dats m 0 c).arrAt 16 (cfgs 0).N = (fun i => (args m c).dpg (i 0) (i 1) : FVec Ideal S4096x3072 .bf16) := by
  refine (dats m 0 c).arrAt_eq_of_covers 16 _ (by decide +kernel) fun t hf y => ?_
  blk_simp; rw [after0_16, bands]
  idx_vars y
  have e0 : (((cfgs 0).win 16).blk t).view.emb (ix2 y0 y1) = (ix2 (row t y0) y1 : S4096x3072.Idx) := by blk_ext [idx t, row]
  refine Eq.trans ?_ (congrArg (fun i : S4096x3072.Idx => (args m c).dpg (i 0) (i 1)) e0).symm
  show _ = (args m c).dpg (row t y0) y1
  unfold Args.dpg
  have hy := y1.isLt
  split_ifs with h0 h1
  · exact (Cert.Bands.band_hit _ _ _ y0 y1 ⟨y1.val, h0⟩ (by show _ = 0 + y1.val; omega)).trans (dbg_at m c t y0 _)
  · refine (Cert.Bands.band_miss _ _ _ y0 y1 (by omega)).trans ((Cert.Bands.band_miss _ _ _ y0 y1 (by omega)).trans ?_)
    exact (Cert.Bands.band_hit _ _ _ y0 y1 ⟨y1.val - 1024, h1⟩ (by show _ = 1024 + (y1.val - 1024); omega)).trans (dga_at m c t y0 _)
  · refine (Cert.Bands.band_miss _ _ _ y0 y1 (by omega)).trans ?_
    exact (Cert.Bands.band_hit _ _ _ y0 y1 ⟨y1.val - 1024 - 1024, by omega⟩ (by show _ = 2048 + (y1.val - 1024 - 1024); omega)).trans (dgb_at m c t y0 _)

/-- The row sum of one head. -/
def Args.del (p : Args) (h : Fin 8) (s : Fin 4096) : EReal := ∑ k : Fin 128, p.dpr s ⟨h.val * 128 + k.val, by omega⟩

abbrev dprB (c : Dev nD) (t : Fin cfg0.N) : FVec Ideal S256x1024 .f32 := k0_pay38 (iblk m c 1 t) (k0_pay7 (iblk m c 2 t)) (dybB m c t) (iblk m c 10 t)

theorem planes (c : Dev nD) (t : Fin cfg0.N) : (outsAt0 m c t.val t.isLt).2.2.2.1 = View.canon
    [⟨Rect.unit (s := S8x256x1) ![7, 0, 0] ![1, 256, 1] inb_S8x256x1_S1x256x1_7_0_0, k0_pay3 (dprB m c t)⟩,
      ⟨Rect.unit (s := S8x256x1) ![6, 0, 0] ![1, 256, 1] inb_S8x256x1_S1x256x1_6_0_0, k0_pay2 (dprB m c t)⟩,
      ⟨Rect.unit (s := S8x256x1) ![5, 0, 0] ![1, 256, 1] inb_S8x256x1_S1x256x1_5_0_0, k0_pay1 (k0_pay44 (dprB m c t))⟩,
      ⟨Rect.unit (s := S8x256x1) ![4, 0, 0] ![1, 256, 1] inb_S8x256x1_S1x256x1_4_0_0, k0_pay43 (dprB m c t)⟩,
      ⟨Rect.unit (s := S8x256x1) ![3, 0, 0] ![1, 256, 1] inb_S8x256x1_S1x256x1_3_0_0, k0_pay42 (dprB m c t)⟩,
      ⟨Rect.unit (s := S8x256x1) ![2, 0, 0] ![1, 256, 1] inb_S8x256x1_S1x256x1_2_0_0, k0_pay41 (dprB m c t)⟩,
      ⟨Rect.unit (s := S8x256x1) ![1, 0, 0] ![1, 256, 1] inb_S8x256x1_S1x256x1_1_0_0, k0_pay40 (dprB m c t)⟩,
      ⟨Rect.unit (s := S8x256x1) ![0, 0, 0] ![1, 256, 1] inb_S8x256x1_S1x256x1_0_0_0, k0_pay39 (dprB m c t)⟩] := by
  by_cases h : t.val % 16 = 0
  · rw [outsAt0_A m c t h]; frame_out
  · rw [outsAt0_B m c t h]; frame_out

theorem head_at (c : Dev nD) (t : Fin cfg0.N) (r : Fin 256) (i : Fin 1) (h : Fin 8) (f : Fin 128 → Fin 1024) (hf : ∀ k, (f k).val = h.val * 128 + k.val) :
    ∑ k : Fin 128, dprB m c t (ix2 r (f k)) = (args m c).del h (row t r) :=
  Finset.sum_congr rfl fun k _ => (dpr_at m c t r _).trans (congrArg _ (Fin.ext (hf k)))

theorem final_15 (c : Dev nD) : (dats m 0 c).arrAt 15 (cfgs 0).N = (fun i => (args m c).del (i 0) (i 1) : FVec Ideal S8x4096x1 .f32) := by
  refine (dats m 0 c).arrAt_eq_of_covers 15 _ (by decide +kernel) fun t hf y => ?_
  blk_simp; rw [after0_15, planes]
  idx_vars y
  have e0 : (((cfgs 0).win 15).blk t).view.emb (ix3 y0 y1 y2) = (ix3 y0 (row t y1) y2 : S8x4096x1.Idx) := by blk_ext [idx t, row]
  refine Eq.trans ?_ (congrArg (fun i : S8x4096x1.Idx => (args m c).del (i 0) (i 1)) e0).symm
  show _ = (args m c).del y0 (row t y1)
  generalize hD : dprB m c t = D
  have hh := head_at m c t y1 y2 y0
  rw [hD] at hh
  by_cases h7 : y0.val = 7
  · refine (plane_hit _ _ _ y0 y1 y2 h7).trans ?_
    pointwise [k0_pay3]
    exact hh _ fun k => by show 896 + k.val = _; omega
  refine (plane_miss _ _ _ y0 y1 y2 h7).trans ?_
  by_cases h6 : y0.val = 6
  · refine (plane_hit _ _ _ y0 y1 y2 h6).trans ?_
    pointwise [k0_pay2]
    exact hh _ fun k => by show 768 + k.val = _; omega
  refine (plane_miss _ _ _ y0 y1 y2 h6).trans ?_
  by_cases h5 : y0.val = 5
  · refine (plane_hit _ _ _ y0 y1 y2 h5).trans ?_
    pointwise [k0_pay1, k0_pay44]
    exact hh _ fun k => by show 640 + k.val = _; omega
  refine (plane_miss _ _ _ y0 y1 y2 h5).trans ?_
  by_cases h4 : y0.val = 4
  · refine (plane_hit _ _ _ y0 y1 y2 h4).trans ?_
    pointwise [k0_pay43]
    exact hh _ fun k => by show 512 + k.val = _; omega
  refine (plane_miss _ _ _ y0 y1 y2 h4).trans ?_
  by_cases h3 : y0.val = 3
  · refine (plane_hit _ _ _ y0 y1 y2 h3).trans ?_
    pointwise [k0_pay42]
    exact hh _ fun k => by show 384 + k.val = _; omega
  refine (plane_miss _ _ _ y0 y1 y2 h3).trans ?_
  by_cases h2 : y0.val = 2
  · refine (plane_hit _ _ _ y0 y1 y2 h2).trans ?_
    pointwise [k0_pay41]
    exact hh _ fun k => by show 256 + k.val = _; omega
  refine (plane_miss _ _ _ y0 y1 y2 h2).trans ?_
  by_cases h1 : y0.val = 1
  · refine (plane_hit _ _ _ y0 y1 y2 h1).trans ?_
    pointwise [k0_pay40]
    exact hh _ fun k => by show 128 + k.val = _; omega
  refine (plane_miss _ _ _ y0 y1 y2 h1).trans ?_
  have h0 : y0.val = 0 := by omega
  refine (plane_hit _ _ _ y0 y1 y2 h0).trans ?_
  pointwise [k0_pay39]
  exact hh _ fun k => by show k.val = _; omega

/-- What one row adds to row `a` of the sums: the gradient of the norm's weight, of the gate, and the square of the difference. -/
def Args.part (p : Args) (a : Fin 8) (d : Fin 1024) (s : Fin 4096) : EReal :=
  if a.val = 1 then p.dx s d * p.mo s d else if a.val = 0 then p.dy s d * p.xh s d else if a.val = 2 then p.er s d * p.er s d else 0

theorem zero_fill (i : S8x1024.Idx) : k0_pay4 (F := Ideal) i = (0 : EReal) := by
  idx_vars i
  pointwise [k0_pay4]

theorem step_A (c : Dev nD) (t : Fin cfg0.N) (h : t.val % 16 = 0) (j0 : Fin 8) (j1 : Fin 1024) :
    (outsAt0 m c t.val t.isLt).2.2.2.2.2.2.2.2.2.2 (ix2 j0 j1) = (0 : EReal) + ∑ r : Fin 256, (args m c).part j0 j1 (row t r) := by
  rw [outsAt0_A m c t h]; frame_open
  simp (disch := decide) only [↓ View.readCov_skip, ↓ View.readCov_cons_toLoadRect, ↓ View.readCov_fill]
  frame_out
  by_cases h1 : j0.val = 1
  · obtain rfl : j0 = 1 := Fin.ext h1
    rw [Cert.Rows.canon_hit _ _ _ 1 j1 h1]
    pointwise [k0_pay26]
    simp only [dx_at, mo_at, zero_fill]
    refine (zero_add _).trans ?_
    rfl
  rw [Cert.Rows.canon_miss _ _ _ j0 j1 h1]
  by_cases h0 : j0.val = 0
  · obtain rfl : j0 = 0 := Fin.ext h0
    rw [Cert.Rows.canon_hit _ _ _ 0 j1 h0]
    pointwise [k0_pay24]
    simp only [dy_at, xh_at, zero_fill]
    refine (zero_add _).trans ?_
    rfl
  rw [Cert.Rows.canon_miss _ _ _ j0 j1 h0]
  by_cases h2 : j0.val = 2
  · obtain rfl : j0 = 2 := Fin.ext h2
    rw [Cert.Rows.canon_hit _ _ _ 2 j1 h2]
    pointwise [k0_pay22]
    simp only [er_at, zero_fill]
    refine (zero_add _).trans ?_
    rfl
  rw [Cert.Rows.canon_miss _ _ _ j0 j1 h2]
  simp only [Args.part, if_neg h2, if_neg h1, if_neg h0, Finset.sum_const_zero, add_zero]
  rw [View.canon_cons_unit_lit' _ _ _ (by decide)]
  exact zero_fill _

theorem step_B (c : Dev nD) (t : Fin cfg0.N) (h : ¬ t.val % 16 = 0) (j0 : Fin 8) (j1 : Fin 1024) :
    (outsAt0 m c t.val t.isLt).2.2.2.2.2.2.2.2.2.2 (ix2 j0 j1) = ((outsAt0 m c (t.val - 1) (by omega)).2.2.2.2.2.2.2.2.2.2 (ix2 j0 j1) : EReal)
      + ∑ r : Fin 256, (args m c).part j0 j1 (row t r) := by
  rw [outsAt0_B m c t h]; frame_out
  by_cases h1 : j0.val = 1
  · obtain rfl : j0 = 1 := Fin.ext h1
    refine (Cert.Rows.writes_hit _ _ _ _ _ 1 j1 h1).trans ?_
    pointwise [k0_pay26]
    simp only [dx_at, mo_at]
    rfl
  refine (Cert.Rows.writes_miss _ _ _ _ _ j0 j1 h1).trans ?_
  by_cases h0 : j0.val = 0
  · obtain rfl : j0 = 0 := Fin.ext h0
    refine (Cert.Rows.writes_hit _ _ _ _ _ 0 j1 h0).trans ?_
    pointwise [k0_pay24]
    simp only [dy_at, xh_at]
    rfl
  refine (Cert.Rows.writes_miss _ _ _ _ _ j0 j1 h0).trans ?_
  by_cases h2 : j0.val = 2
  · obtain rfl : j0 = 2 := Fin.ext h2
    refine (Cert.Rows.writes_hit _ _ _ _ _ 2 j1 h2).trans ?_
    pointwise [k0_pay22]
    simp only [er_at]
    rfl
  refine (Cert.Rows.writes_miss _ _ _ _ _ j0 j1 h2).trans ?_
  simp only [Args.part, if_neg h2, if_neg h1, if_neg h0, Finset.sum_const_zero, add_zero]
  exact congrFun ((hs0_22 t).read_unread _) _

theorem final_22 (c : Dev nD) : (dats m 0 c).arrAt 22 (cfgs 0).N
    = (fun i => ∑ s : Fin 4096, (args m c).part (i 0) (i 1) s : FVec Ideal S8x1024 .f32) := by
  refine (dats m 0 c).arrAt_eq_of_after_last 22 t0_15 (by decide +kernel) _ fun j => ?_
  blk_simp
  idx_vars j
  rw [after0_22, Pipeline.eq_sum_fin_of_reset_step_apply_last (fun n h => (outsAt0 m c n h).2.2.2.2.2.2.2.2.2.2) 16 (fun _ => (0 : EReal))
    (fun t j => (∑ r : Fin 256, (args m c).part (j 0) (j 1) (row t r) : EReal))
    (fun t h j => by idx_vars j; exact step_A m c t h j0 j1) (fun t h j => by idx_vars j; exact step_B m c t h j0 j1) (le_of_eq N_0) t0_15 rfl (ix2 j0 j1), zero_add]
  exact (Fin.sum_univ_tiles 16 256 rfl (fun s => (args m c).part j0 j1 s)).symm

end Cert.MiddleIdeal.Value

end
-- ==== Proof.MiddleOut.lean ====
/- The gradient from the loss to the branches: the results the kernel writes tile by tile. -/
module

public import proofs.«01_k».proof.Proof.MiddlePay

@[expose] public section

set_option maxRecDepth 16384

noncomputable section

open Idealize.ShloMosaic Idealize.ShloMosaic.TcCoe Idealize.SL.Sem
open Idealize.ShloMosaic.Pipeline (Dat)
open scoped BigOperators

namespace Cert.MiddleIdeal.Value

open Cert.MiddleIdeal Cert.MiddleIdeal.Gen

variable (m : (ℓ : Loc nD τ sig) → Buf (Elt Ideal) ℓ)

theorem final_12 (c : Dev nD) : (dats m 0 c).arrAt 12 (cfgs 0).N = (fun i => (args m c).dx (i 0) (i 1) : FVec Ideal S4096x1024 .f32) := by
  refine (dats m 0 c).arrAt_eq_of_covers 12 _ (by decide +kernel) fun t hf y => ?_
  blk_simp; rw [after0_12]
  have out : (outsAt0 m c t.val t.isLt).1 = dxB m c t := by
    by_cases h : t.val % 16 = 0
    · rw [outsAt0_A m c t h]; frame_out
    · rw [outsAt0_B m c t h]; frame_out
  rw [out]
  idx_vars y
  have e0 : (((cfgs 0).win 12).blk t).view.emb (ix2 y0 y1) = (ix2 (row t y0) y1 : S4096x1024.Idx) := by blk_ext [idx t, row]
  rw [dx_at]
  exact (congrArg (fun i : S4096x1024.Idx => (args m c).dx (i 0) (i 1)) e0).symm

theorem final_13 (c : Dev nD) : (dats m 0 c).arrAt 13 (cfgs 0).N = (fun i => (args m c).dza (i 0) (i 1) : FVec Ideal S4096x1024 .f32) := by
  refine (dats m 0 c).arrAt_eq_of_covers 13 _ (by decide +kernel) fun t hf y => ?_
  blk_simp; rw [after0_13]
  have out : (outsAt0 m c t.val t.isLt).2.1 = k0_pay33 (dyaB m c t) (iblk m c 9 t) := by
    by_cases h : t.val % 16 = 0
    · rw [outsAt0_A m c t h]; frame_out
    · rw [outsAt0_B m c t h]; frame_out
  rw [out]
  idx_vars y
  have e0 : (((cfgs 0).win 13).blk t).view.emb (ix2 y0 y1) = (ix2 (row t y0) y1 : S4096x1024.Idx) := by blk_ext [idx t, row]
  rw [dza_at]
  exact (congrArg (fun i : S4096x1024.Idx => (args m c).dza (i 0) (i 1)) e0).symm

theorem final_14 (c : Dev nD) : (dats m 0 c).arrAt 14 (cfgs 0).N = (fun i => (args m c).dov (i 0) (i 1) : FVec Ideal S4096x1024 .bf16) := by
  refine (dats m 0 c).arrAt_eq_of_covers 14 _ (by decide +kernel) fun t hf y => ?_
  blk_simp; rw [after0_14]
  have out : (outsAt0 m c t.val t.isLt).2.2.1 = k0_pay36 (k0_pay7 (iblk m c 2 t)) (dybB m c t) (iblk m c 10 t) := by
    by_cases h : t.val % 16 = 0
    · rw [outsAt0_A m c t h]; frame_out
    · rw [outsAt0_B m c t h]; frame_out
  rw [out]
  idx_vars y
  have e0 : (((cfgs 0).win 14).blk t).view.emb (ix2 y0 y1) = (ix2 (row t y0) y1 : S4096x1024.Idx) := by blk_ext [idx t, row]
  rw [do_at]
  exact (congrArg (fun i : S4096x1024.Idx => (args m c).dov (i 0) (i 1)) e0).symm

theorem final_17 (c : Dev nD) : (dats m 0 c).arrAt 17 (cfgs 0).N = (fun i => (args m c).zb (i 0) (i 1) : FVec Ideal S4096x1024 .bf16) := by
  refine (dats m 0 c).arrAt_eq_of_covers 17 _ (by decide +kernel) fun t hf y => ?_
  blk_simp; rw [after0_17]
  have out : (outsAt0 m c t.val t.isLt).2.2.2.2.2.1 = k0_pay8 (iblk m c 1 t) (iblk m c 2 t) := by
    by_cases h : t.val % 16 = 0
    · rw [outsAt0_A m c t h]; frame_out
    · rw [outsAt0_B m c t h]; frame_out
  rw [out]
  idx_vars y
  have e0 : (((cfgs 0).win 17).blk t).view.emb (ix2 y0 y1) = (ix2 (row t y0) y1 : S4096x1024.Idx) := by blk_ext [idx t, row]
  rw [zb_at]
  exact (congrArg (fun i : S4096x1024.Idx => (args m c).zb (i 0) (i 1)) e0).symm

theorem final_18 (c : Dev nD) : (dats m 0 c).arrAt 18 (cfgs 0).N = (fun i => (args m c).mg (i 0) (i 1) : FVec Ideal S4096x1024 .bf16) := by
  refine (dats m 0 c).arrAt_eq_of_covers 18 _ (by decide +kernel) fun t hf y => ?_
  blk_simp; rw [after0_18]
  have out : (outsAt0 m c t.val t.isLt).2.2.2.2.2.2.1 = mgB m c t := by
    by_cases h : t.val % 16 = 0
    · rw [outsAt0_A m c t h]; frame_out
    · rw [outsAt0_B m c t h]; frame_out
  rw [out]
  idx_vars y
  have e0 : (((cfgs 0).win 18).blk t).view.emb (ix2 y0 y1) = (ix2 (row t y0) y1 : S4096x1024.Idx) := by blk_ext [idx t, row]
  rw [mg_at]
  exact (congrArg (fun i : S4096x1024.Idx => (args m c).mg (i 0) (i 1)) e0).symm

theorem final_19 (c : Dev nD) : (dats m 0 c).arrAt 19 (cfgs 0).N = (fun i => (args m c).dmo (i 0) (i 1) : FVec Ideal S4096x1024 .bf16) := by
  refine (dats m 0 c).arrAt_eq_of_covers 19 _ (by decide +kernel) fun t hf y => ?_
  blk_simp; rw [after0_19]
  have out : (outsAt0 m c t.val t.isLt).2.2.2.2.2.2.2.1 = k0_pay27 (k0_pay16 (iblk m c 7 t)) (rrB m c t) (xhB m c t) (k0_pay20 (iblk m c 8 t)) (dyB m c t) := by
    by_cases h : t.val % 16 = 0
    · rw [outsAt0_A m c t h]; frame_out
    · rw [outsAt0_B m c t h]; frame_out
  rw [out]
  idx_vars y
  have e0 : (((cfgs 0).win 19).blk t).view.emb (ix2 y0 y1) = (ix2 (row t y0) y1 : S4096x1024.Idx) := by blk_ext [idx t, row]
  rw [dmo_at]
  exact (congrArg (fun i : S4096x1024.Idx => (args m c).dmo (i 0) (i 1)) e0).symm

theorem final_20 (c : Dev nD) : (dats m 0 c).arrAt 20 (cfgs 0).N = (fun i => (args m c).dya (i 0) (i 1) : FVec Ideal S4096x1024 .bf16) := by
  refine (dats m 0 c).arrAt_eq_of_covers 20 _ (by decide +kernel) fun t hf y => ?_
  blk_simp; rw [after0_20]
  have out : (outsAt0 m c t.val t.isLt).2.2.2.2.2.2.2.2.1 = dyaB m c t := by
    by_cases h : t.val % 16 = 0
    · rw [outsAt0_A m c t h]; frame_out
    · rw [outsAt0_B m c t h]; frame_out
  rw [out]
  idx_vars y
  have e0 : (((cfgs 0).win 20).blk t).view.emb (ix2 y0 y1) = (ix2 (row t y0) y1 : S4096x1024.Idx) := by blk_ext [idx t, row]
  rw [dya_at]
  exact (congrArg (fun i : S4096x1024.Idx => (args m c).dya (i 0) (i 1)) e0).symm

theorem final_21 (c : Dev nD) : (dats m 0 c).arrAt 21 (cfgs 0).N = (fun i => (args m c).dyb (i 0) (i 1) : FVec Ideal S4096x1024 .bf16) := by
  refine (dats m 0 c).arrAt_eq_of_covers 21 _ (by decide +kernel) fun t hf y => ?_
  blk_simp; rw [after0_21]
  have out : (outsAt0 m c t.val t.isLt).2.2.2.2.2.2.2.2.2.1 = dybB m c t := by
    by_cases h : t.val % 16 = 0
    · rw [outsAt0_A m c t h]; frame_out
    · rw [outsAt0_B m c t h]; frame_out
  rw [out]
  idx_vars y
  have e0 : (((cfgs 0).win 21).blk t).view.emb (ix2 y0 y1) = (ix2 (row t y0) y1 : S4096x1024.Idx) := by blk_ext [idx t, row]
  rw [dyb_at]
  exact (congrArg (fun i : S4096x1024.Idx => (args m c).dyb (i 0) (i 1)) e0).symm

end Cert.MiddleIdeal.Value

end
-- ==== Proof.MiddleEq.lean ====
/- The gradient from the loss to the branches: the kernel's results are the reference's. -/
module

public import proofs.«01_k».proof.Proof.MiddleRef
public import proofs.«01_k».proof.Proof.MiddleSums
public import proofs.«01_k».proof.Proof.MiddleOut
public import proofs.«01_k».proof.Proof.Gen.Pre_middle_finite

@[expose] public section

set_option maxRecDepth 16384

noncomputable section

open Idealize.ShloMosaic Idealize.ShloMosaic.TcCoe Idealize.SL.Sem
open scoped BigOperators

namespace Cert.MiddleRefIdeal.Value

open Cert.MiddleRefIdeal
open Cert.MiddleIdeal.Value (Args)
open Cert.Reals (Rl)

/-- The arguments but the two merge gates are reals. -/
structure Rls (p : Args) : Prop where
  za : ∀ i, Rl (p.za i)
  o : ∀ i, Rl (p.o i)
  bg : ∀ i, Rl (p.bg i)
  x : ∀ i, Rl (p.x i)
  gate : ∀ i, Rl (p.gate i)
  fnw : ∀ i, Rl (p.fnw i)
  wc : ∀ i, Rl (p.wc i)
  wa : ∀ i, Rl (p.wa i)
  wo : ∀ i, Rl (p.wo i)
  tgt : ∀ i, Rl (p.tgt i)

section
variable {p : Args} (h : Rls p) (s : Fin 4096) (d : Fin 1024)

theorem sg_real : Rl (p.sg s d) := Rl.logistic _
include h in
theorem x2_real : Rl (p.x2 s d) :=
  (h.x _).add ((h.gate _).mul (Rl.sum fun k => Rl.mul (Rl.add (Rl.mul (Rl.logistic _) (Rl.sum fun j => (h.za _).mul (h.wc _)))
    (Rl.mul (Rl.logistic _) (Rl.sum fun j => Rl.mul (Rl.mul (h.o _) (Rl.mul (h.bg _) (Rl.logistic _))) (h.wa _)))) (h.wo _)))

/-- The mean square of a row of reals and the constant. -/
def msR (X : Fin 1024 → ℝ) : ℝ := (∑ k, X k * X k) / 1024 + Cert.Reals.eps
theorem msR_pos (X : Fin 1024 → ℝ) : 0 < msR X := Cert.Reals.ms_pos 1024 (by norm_num) _

theorem ms_eq (X : Fin 1024 → ℝ) (hX : ∀ k, p.x2 s k = (X k : EReal)) :
    Ideal.div (∑ k : Fin 1024, p.x2 s k * p.x2 s k) (Ideal.ofBits FTy.f32 1149239296#32) + Ideal.ofBits FTy.f32 897988541#32 = ((msR X : ℝ) : EReal) := by
  simp only [hX, ← EReal.coe_mul, Cert.Reals.coe_sum]
  rw [Cert.Reals.k1024_eq, Cert.Reals.eps_eq, Cert.Reals.div_coe' (by norm_num), ← EReal.coe_add]; rfl
theorem rr_eq (X : Fin 1024 → ℝ) (hX : ∀ k, p.x2 s k = (X k : EReal)) : p.rr s = (((Real.sqrt (msR X))⁻¹ : ℝ) : EReal) := by
  unfold Args.rr
  rw [ms_eq s X hX, Cert.Reals.rsqrt_pos (msR_pos X)]
include h in
theorem dxh_real : Rl (p.dxh s d) := by
  choose X hX using fun k => x2_real h s k
  have : Rl (p.rr s) := ⟨_, rr_eq s X hX⟩
  exact Rl.mul (Rl.mul (Rl.sub (Rl.mul (Rl.mul (x2_real h s d) this) (h.fnw _)) (h.tgt _)) ⟨_, inv_1024_eq⟩) (h.fnw _)

include h in
/-- The two ways of writing the gradient of the rows agree at reals, and it is real. -/
theorem dx_eq : p.dxh s d * p.rr s + p.x2 s d * qE p s + qE p s * p.x2 s d = p.dx s d ∧ Rl (p.dx s d) := by
  choose X hX using fun k => x2_real h s k
  choose G hG using fun k => dxh_real h s k
  have hv := msR_pos X
  simp only [Args.dx, qE, Args.xh, hG, hX, rr_eq s X hX]
  have hm := ms_eq s X hX
  simp only [hX] at hm
  rw [hm]
  simp only [Cert.Reals.k1024_eq, Cert.Reals.neg_half_eq, ← EReal.coe_mul, Cert.Reals.coe_sum, Cert.Reals.div_coe' hv.ne',
    Cert.Reals.div_coe' (show (1024 : ℝ) ≠ 0 by norm_num), ← EReal.coe_sub, ← EReal.coe_add]
  refine ⟨?_, ⟨_, rfl⟩⟩
  congr 1
  have hr := Cert.Reals.inv_sqrt_sq hv
  set r := (Real.sqrt (msR X))⁻¹
  have hs : (∑ i : Fin 1024, G i * (X i * r)) = (∑ i : Fin 1024, X i * G i) * r := by
    rw [Finset.sum_mul]; exact Finset.sum_congr rfl fun _ _ => by ring
  rw [hs]
  have : r / msR X = r * (r * r) := by rw [hr]; ring
  rw [this]; ring

include h in
theorem dzb_real : Rl (p.dzb s d) :=
  Rl.sum fun k => Rl.mul (Rl.mul (Rl.logistic _) (Rl.sum fun j => Rl.mul (Rl.mul (h.gate _) (dx_eq h s _).2) (h.wo _))) (h.wa _)

include h in
/-- The two ways of writing the gradient through the gate agree at reals. -/
theorem dbg_eq : (p.o (ix2 s d) : EReal) * p.dzb s d * p.sg s d + p.bg (ix2 s d) * (p.o (ix2 s d) * p.dzb s d) * (p.sg s d * (1 - p.sg s d)) = p.dbg s d := by
  obtain ⟨a, ha⟩ := h.o (ix2 s d)
  obtain ⟨b, hb⟩ := h.bg (ix2 s d)
  obtain ⟨z, hz⟩ := dzb_real h s d
  obtain ⟨g, hg⟩ := sg_real (p := p) s d
  unfold Args.dbg
  rw [ha, hb, hz, hg]
  simp only [← EReal.coe_one, ← EReal.coe_mul, ← EReal.coe_sub, ← EReal.coe_add]
  congr 1; ring
end

section
variable {W : Valuation τ sig (Elt Ideal)} (h : Rls (rargs W)) (s : Fin 4096) (d : Fin 1024)
include h
theorem dx_at : res_main_v80 W (ix2 s d) = (rargs W).dx s d := (v80_at W s d).trans (dx_eq h s d).1
theorem v82_at : res_main_v82 W (ix2 s d) = (rargs W).dmo s d := by
  pointwise [res_main_v82, res_main_v26]; simp only [dx_at h]; rfl
theorem v87_at : res_main_v87 W (ix2 s d) = (rargs W).dmg s d := by
  pointwise [res_main_v87]; simp only [v82_at h]; rfl
theorem v88_at : res_main_v88 W (ix2 s d) = (rargs W).dyb s d := by
  pointwise [res_main_v88]; simp only [v87_at h, v19_at]; rfl
theorem v91_at : res_main_v91 W (ix2 s d) = (rargs W).dya s d := by
  pointwise [res_main_v91]; simp only [v87_at h, v9_at]; rfl
theorem v95_at : res_main_v95 W (ix2 s d) = (rargs W).dzb s d := by
  pointwise [res_main_v95]; simp only [v88_at h]; rfl
theorem v96_at : res_main_v96 W (ix2 s d) = ((rargs W).o (ix2 s d) : EReal) * (rargs W).dzb s d := by
  pointwise [res_main_v96]; simp only [v95_at h]
theorem v97_at : res_main_v97 W (ix2 s d) = (rargs W).dov s d := by
  pointwise [res_main_v97]; simp only [v95_at h, v1_0_at]; rfl
end

/-- The condition says that the arguments it names are reals. -/
theorem rls (p : Args) (h : Cert.Pre_middle_finite.fn (F := Ideal) p.za p.o p.bg p.ga p.gb p.x p.gate p.fnw p.wc p.wa p.wo p.tgt = fun _ => 1#1) : Rls p := by
  have e := congrFun h (fun a => a.elim0)
  simp only [Cert.Pre_middle_finite.fn, Cert.Pre_middle_finite.fn_part1, Cert.Pre_middle_finite.fn_part2, andi, IntOp.andi_eq_one] at e
  obtain ⟨⟨⟨⟨⟨⟨⟨⟨⟨h0, h1⟩, h2⟩, h3⟩, h4⟩, h5⟩, h6⟩, h7⟩, h8⟩, h9⟩ := e
  have on {t : Shape} {a : FVec Ideal t .f32} : (∃ x : t.Idx → ℝ, a = fun i => ((x i : ℝ) : EReal)) → ∀ i, Rl (a i) :=
    fun ⟨x, hx⟩ i => ⟨x i, congrFun hx i⟩
  exact ⟨on (Cert.Reals.real_of_all _ _ _ _ _ _ _ h0), on (Cert.Reals.real_of_all _ _ _ _ _ _ _ h1), on (Cert.Reals.real_of_all _ _ _ _ _ _ _ h2),
    on (Cert.Reals.real_of_all _ _ _ _ _ _ _ h3), on (Cert.Reals.real_of_all _ _ _ _ _ _ _ h4), on (Cert.Reals.real_of_all _ _ _ _ _ _ _ h5),
    on (Cert.Reals.real_of_all _ _ _ _ _ _ _ h6), on (Cert.Reals.real_of_all _ _ _ _ _ _ _ h7), on (Cert.Reals.real_of_all _ _ _ _ _ _ _ h8),
    on (Cert.Reals.real_of_all _ _ _ _ _ _ _ h9)⟩

open Cert.MiddleIdeal.Value (args) in
theorem algebraic : Cert.algebraic_MiddleIdeal_MiddleRefIdeal_pre_middle_finite (hMiddleIdeal := Cert.MiddleIdeal.Gen.facts)
    (hMiddleRefIdeal := Cert.MiddleRefIdeal.Gen.facts) (hPre_middle_finite := Cert.Pre_middle_finite.Gen.facts) := by
  intro m g m' g' hpre hargs
  refine ⟨_, _, _, _, _, _, _, _, _, _, _, Cert.MiddleIdeal.Value.run_blocks m g, (θ_run _ _ _).mono (fun r h c => ?_) (Cert.MiddleRefIdeal.Value.run m' g')⟩
  obtain ⟨e0, e1, e2, e3, e4, e5, e6, e7, e8, e9, e10, e11⟩ := hargs c
  obtain ⟨v0, v1, v2, v3, v4, v5, v6, v7, v8, v9, v10, hk⟩ := h c
  have hr : Rls (args m c) := rls (args m c) (hpre c)
  have hw : rargs (StableHlo.launchContents m' c) = args m c := Args.ext e0 e1 e2 e3 e4 e5 e6 e7 e8 e9 e10 e11
  clear h hargs hpre
  generalize StableHlo.launchContents m' c = W at *
  rw [← hw] at hr
  refine ⟨v0.trans ?_, v1.trans ?_, v2.trans ?_, v3.trans ?_, v4.trans ?_, v5.trans ?_, v6.trans ?_, v7.trans ?_, v8.trans ?_, v9.trans ?_, v10.trans ?_, hk⟩
  all_goals clear v0 v1 v2 v3 v4 v5 v6 v7 v8 v9 v10 hk e0 e1 e2 e3 e4 e5 e6 e7 e8 e9 e10 e11
  · rw [Cert.MiddleIdeal.Value.final_12, ← hw]
    funext i; idx_vars i
    exact dx_at hr i0 i1
  · rw [Cert.MiddleIdeal.Value.final_13, ← hw]
    funext i; idx_vars i
    pointwise; simp only [v91_at hr]; rfl
  · rw [Cert.MiddleIdeal.Value.final_14, ← hw]
    funext i; idx_vars i
    exact v97_at hr i0 i1
  · rw [Cert.MiddleIdeal.Value.final_15, ← hw]
    funext i; idx_vars i
    pointwise
    exact Finset.sum_congr rfl fun k _ => congrArg (fun z : EReal => z * _) (v97_at hr i1 _)
  · rw [Cert.MiddleIdeal.Value.final_16, ← hw]
    funext i; idx_vars i
    pointwise; simp only [v96_at hr, v87_at hr, v1_2_at, v0_at, v3_at, v9_at, v19_at]
    unfold Args.dpg
    exact dite_congr rfl (fun _ => dbg_eq hr i0 _) fun _ => dite_congr rfl (fun _ => rfl) fun _ => rfl
  · rw [Cert.MiddleIdeal.Value.final_17, ← hw]
    funext i; idx_vars i
    exact v2_at W i0 i1
  · rw [Cert.MiddleIdeal.Value.final_18, ← hw]
    funext i; idx_vars i
    exact v24_at W i0 i1
  · rw [Cert.MiddleIdeal.Value.final_19, ← hw]
    funext i; idx_vars i
    exact v82_at hr i0 i1
  · rw [Cert.MiddleIdeal.Value.final_20, ← hw]
    funext i; idx_vars i
    exact v91_at hr i0 i1
  · rw [Cert.MiddleIdeal.Value.final_21, ← hw]
    funext i; idx_vars i
    exact v88_at hr i0 i1
  · rw [Cert.MiddleIdeal.Value.final_22, ← hw]
    funext i; idx_vars i
    fin_cases i0 <;> pointwise
    all_goals (try simp only [Finset.univ_unique, Finset.sum_singleton, v42_at, v60_at, dx_at hr, v25_at, v122_at])
    · exact Finset.sum_congr rfl fun k _ => mul_comm _ _
    · rfl
    · rfl
    all_goals exact (Finset.sum_eq_zero fun k _ => rfl).symm

end Cert.MiddleRefIdeal.Value

end
-- ==== Proof.AdaEq.lean ====
/- The gradient of the modulation's weights: the kernel's result and the reference's are the same sums. -/
module

public import proofs.«01_k».proof.Defs
public import proofs.«01_k».proof.Proof.Gen.AdaBwdIdeal.Value
public import proofs.«01_k».proof.Proof.Gen.AdaRefIdeal.Run
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.AdaBwdIdeal.Value

open Cert.AdaBwdIdeal Cert.AdaBwdIdeal.Gen

/-- The gradient: over the devices' rows, the activated conditioning times the modulation's gradient. -/
def grad (c : FVec Ideal S8x1024 .f32) (dmod : FVec Ideal S8x768 .f32) (d : Fin 1024) (j : Fin 768) : EReal :=
  ∑ b : Fin 8, c (ix2 b d) * Ideal.logistic (c (ix2 b d)) * dmod (ix2 b j)

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem blk0 (c : Dev nD) (t : Fin cfg0.N) (d : Fin 1024) (b : Fin 8) :
    iblk m c 0 t (ix2 d b) = (m ((c : Thread nD τ).loc main_arg0) : FVec Ideal S8x1024 .f32) (ix2 b d) := by
  blk_simp [iblk, idx t]
  simp only [V, hostOps0]
  entry_read
  pointwise
  blk_ext [idx t]

theorem blk1 (c : Dev nD) (t : Fin cfg0.N) (b : Fin 8) (j : Fin 768) :
    iblk m c 1 t (ix2 b j) = (m ((c : Thread nD τ).loc main_arg2) : FVec Ideal S8x768 .f32) (ix2 b j) := by
  blk_ext [iblk, V, idx t]

theorem final_2 (c : Dev nD) : (dats m 0 c).arrAt 2 (cfgs 0).N
    = (fun i => grad (m ((c : Thread nD τ).loc main_arg0)) (m ((c : Thread nD τ).loc main_arg2)) (i 0) (i 1) : FVec Ideal S1024x768 .f32) := by
  refine (dats m 0 c).arrAt_eq_of_covers 2 _ (by decide +kernel) fun t hf y => ?_
  blk_simp; rw [after0_2]
  have out : out0_2 (iblk m c 0 t) (iblk m c 1 t) = k0_pay1 (iblk m c 0 t) (iblk m c 1 t) := by frame_out
  rw [out]
  idx_vars y
  have e0 : (((cfgs 0).win 2).blk t).view.emb (ix2 y0 y1) = (ix2 y0 y1 : S1024x768.Idx) := by blk_ext [idx t]
  have e : k0_pay1 (iblk m c 0 t) (iblk m c 1 t) (ix2 y0 y1)
      = grad (m ((c : Thread nD τ).loc main_arg0)) (m ((c : Thread nD τ).loc main_arg2)) y0 y1 := by
    pointwise [k0_pay1]; simp only [blk0, blk1]; rfl
  rw [e]
  exact (congrArg (fun i : S1024x768.Idx => grad (m ((c : Thread nD τ).loc main_arg0)) (m ((c : Thread nD τ).loc main_arg2)) (i 0) (i 1)) e0).symm

theorem algebraic : Cert.algebraic_AdaBwdIdeal_AdaRefIdeal (hAdaBwdIdeal := Cert.AdaBwdIdeal.Gen.facts)
    (hAdaRefIdeal := Cert.AdaRefIdeal.Gen.facts) := by
  intro m g m' g' _ hargs
  refine ⟨_, run_blocks m g, (θ_run _ _ _).mono (fun r h c => ?_) (Cert.AdaRefIdeal.Value.run m' g')⟩
  obtain ⟨e0, e1, e2⟩ := hargs c
  obtain ⟨v0, hk⟩ := h c
  refine ⟨v0.trans ?_, hk⟩
  rw [final_2, ← e0, ← e2]
  funext i; idx_vars i
  pointwise
  refine Finset.sum_congr rfl fun b _ => ?_
  rw [Cert.Reals.logistic_eq, mul_comm]

end Cert.AdaBwdIdeal.Value

end
-- ==== Proof.PrepPt.lean ====
/- The gradient of the latent projections: what the kernel reads, and its formulas over the whole arrays. -/
module

public import proofs.«01_k».proof.Defs
public import proofs.«01_k».proof.Proof.Gen.PrepBwdIdeal.Value
public import Idealize.ShloMosaic.Lib.Pipeline.ValueKit
public import Idealize.ShloMosaic.Lib.Pointwise
public import Idealize.ShloMosaic.Lib.WritesUnit
public import proofs.«01_k».proof.Proof.Rows
public import proofs.«01_k».proof.Proof.Reals

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.PrepBwdIdeal.Value

open Cert.PrepBwdIdeal Cert.PrepBwdIdeal.Gen

/-- The arguments of the call. -/
@[ext] structure Args where
  pos : IVec S4096 32
  cq : FVec Ideal S4096x256 .f32
  ckv : FVec Ideal S4096x256 .f32
  kpe : FVec Ideal S4096x64 .f32
  qw : FVec Ideal S256 .f32
  wuq : FVec Ideal S256x1536 .f32
  kvw : FVec Ideal S256 .f32
  wukv : FVec Ideal S256x2048 .f32
  dqn : FVec Ideal S4096x8x128 .f32
  dqr : FVec Ideal S4096x8x64 .f32
  dkn : FVec Ideal S4096x8x128 .f32
  dkr : FVec Ideal S4096x8x64 .f32
  dv : FVec Ideal S4096x8x128 .f32

variable (m : (ℓ : Loc nD τ sig) → Buf (Elt Ideal) ℓ)

/-- The arguments one device holds. -/
abbrev args (c : Dev nD) : Args where
  pos := m ((c : Thread nD τ).loc main_arg0)
  cq := m ((c : Thread nD τ).loc main_arg1)
  ckv := m ((c : Thread nD τ).loc main_arg2)
  kpe := m ((c : Thread nD τ).loc main_arg3)
  qw := m ((c : Thread nD τ).loc main_arg4)
  wuq := m ((c : Thread nD τ).loc main_arg5)
  kvw := m ((c : Thread nD τ).loc main_arg6)
  wukv := m ((c : Thread nD τ).loc main_arg7)
  dqn := m ((c : Thread nD τ).loc main_arg8)
  dqr := m ((c : Thread nD τ).loc main_arg9)
  dkn := m ((c : Thread nD τ).loc main_arg10)
  dkr := m ((c : Thread nD τ).loc main_arg11)
  dv := m ((c : Thread nD τ).loc main_arg12)

/-- The angle of position `s` at frequency `i`. -/
def Args.ang (p : Args) (s : Fin 4096) (i : Fin 32) : EReal :=
  (FloatOps.sitofp (F := Ideal) .f32 (p.pos (ix1 s)) : EReal) * Ideal.pow (Ideal.ofBits .f32 0x461C4000#32)
    (Ideal.div (-(Ideal.ofBits .f32 0x40000000#32 * (FloatOps.sitofp (F := Ideal) .f32 (BitVec.ofNat 32 i.val) : EReal))) (Ideal.ofBits .f32 0x42800000#32))

/-- The cosine and the signed sine as the kernel's tables hold them, lane by lane. -/
def Args.cosT (p : Args) (s : Fin 4096) (l : Fin 128) : EReal := Ideal.cos (p.ang s ⟨l.val % 32, by omega⟩)
def Args.sinT (p : Args) (s : Fin 4096) (l : Fin 128) : EReal :=
  if l.val % 64 < 32 then -Ideal.sin (p.ang s ⟨l.val % 32, by omega⟩) else Ideal.sin (p.ang s ⟨l.val % 32, by omega⟩)

/-- The gradients of the queries and keys, the two parts of a head side by side and filled up with zeros. -/
def Args.dq (p : Args) (s : Fin 4096) (h : Fin 8) (l : Fin 256) : EReal :=
  if h0 : l.val < 128 then p.dqn (ix3 s h ⟨l.val, h0⟩) else if h1 : l.val - 128 < 64 then p.dqr (ix3 s h ⟨l.val - 128, h1⟩) else 0
def Args.dk (p : Args) (s : Fin 4096) (h : Fin 8) (l : Fin 256) : EReal :=
  if h0 : l.val < 128 then p.dkn (ix3 s h ⟨l.val, h0⟩) else if h1 : l.val - 128 < 64 then p.dkr (ix3 s h ⟨l.val - 128, h1⟩) else 0

/-- The weights of the query heads as the kernel's layout holds them: the first parts of all heads, then the second parts filled up with zeros. -/
def Args.wq2 (p : Args) (k : Fin 256) (j : Fin 2048) : EReal :=
  if h0 : j.val < 1024 then p.wuq (ix2 k ⟨j.val / 128 * 192 + j.val % 128, by omega⟩)
  else if h1 : (j.val - 1024) % 128 < 64 then p.wuq (ix2 k ⟨(j.val - 1024) / 128 * 192 + (128 + (j.val - 1024) % 128), by omega⟩) else 0

/-- The mean square of a row of 256, with the small term that keeps it away from zero, and the row divided by its root. -/
def ms (v : Fin 256 → EReal) : EReal := Ideal.div (∑ k, v k * v k) (Ideal.ofBits .f32 0x43800000#32) + Ideal.ofBits .f32 0x358637BD#32
def rs (v : Fin 256 → EReal) : EReal := Ideal.rsqrt (ms v)
def hat (v : Fin 256 → EReal) (k : Fin 256) : EReal := v k * rs v
def Args.cqr (p : Args) (s : Fin 4096) (k : Fin 256) : EReal := p.cq (ix2 s k)
def Args.ckvr (p : Args) (s : Fin 4096) (k : Fin 256) : EReal := p.ckv (ix2 s k)

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0]
    ∧ win0_13.index t = ![0, 0] ∧ win0_14.index t = ![0, 0] ∧ win0_15.index t = ![0, 0] :=
  (by decide +kernel : ∀ t : Fin grid0.N, _)

/-- The array row of row `r` of block `t`. -/
def row (t : Fin cfg0.N) (r : Fin 256) : Fin 4096 := ⟨t.val * 256 + r.val, by have := t.isLt; have : cfg0.N = 16 := N_0; omega⟩

theorem blk2 (c : Dev nD) (t : Fin cfg0.N) (h : Fin 8) (r : Fin 256) (l : Fin 128) : iblk m c 2 t (ix3 h r l) = (args m c).dv (ix3 (row t r) h l) := by
  blk_simp [iblk, idx t]
  simp only [V, hostOps0, hostOps0_1, hostOps0_2, List.flatten_cons, List.flatten_nil, List.cons_append, List.nil_append, List.append_nil]
  entry_read
  pointwise
  blk_ext [idx t, row]

theorem blk4 (c : Dev nD) (t : Fin cfg0.N) (r : Fin 256) (k : Fin 256) : iblk m c 4 t (ix2 r k) = hat ((args m c).cqr (row t r)) k * (args m c).qw (ix1 k) := by
  blk_simp [iblk, idx t]
  simp only [V, hostOps0, hostOps0_1, hostOps0_2, List.flatten_cons, List.flatten_nil, List.cons_append, List.nil_append, List.append_nil]
  entry_read
  pointwise
  have e : (win0_4.blk t).view.emb (ix2 r k) = ix2 (row t r) k := by blk_ext [idx t, row]
  rw [e]; rfl

theorem blk5 (c : Dev nD) (t : Fin cfg0.N) (r : Fin 256) (k : Fin 256) : iblk m c 5 t (ix2 r k) = hat ((args m c).ckvr (row t r)) k * (args m c).kvw (ix1 k) := by
  blk_simp [iblk, idx t]
  simp only [V, hostOps0, hostOps0_1, hostOps0_2, List.flatten_cons, List.flatten_nil, List.cons_append, List.nil_append, List.append_nil]
  entry_read
  pointwise
  have e : (win0_5.blk t).view.emb (ix2 r k) = ix2 (row t r) k := by blk_ext [idx t, row]
  rw [e]; rfl

theorem blk6 (c : Dev nD) (t : Fin cfg0.N) (k : Fin 256) : iblk m c 6 t (ix2 0 k) = (args m c).qw (ix1 k) := by
  blk_simp [iblk, idx t]
  simp only [V, hostOps0, hostOps0_1, hostOps0_2, List.flatten_cons, List.flatten_nil, List.cons_append, List.nil_append, List.append_nil]
  entry_read
  pointwise
  blk_ext [idx t, row]

theorem blk7 (c : Dev nD) (t : Fin cfg0.N) (k : Fin 256) : iblk m c 7 t (ix2 0 k) = (args m c).kvw (ix1 k) := by
  blk_simp [iblk, idx t]
  simp only [V, hostOps0, hostOps0_1, hostOps0_2, List.flatten_cons, List.flatten_nil, List.cons_append, List.nil_append, List.append_nil]
  entry_read
  pointwise
  blk_ext [idx t, row]

theorem blk8 (c : Dev nD) (t : Fin cfg0.N) (k : Fin 256) (j : Fin 2048) : iblk m c 8 t (ix2 k j) = (args m c).wq2 k j := by
  blk_simp [iblk, idx t]
  simp only [V, hostOps0, hostOps0_1, hostOps0_2, List.flatten_cons, List.flatten_nil, List.cons_append, List.nil_append, List.append_nil]
  entry_read
  simp -implicitDefEqProofs only [StableHlo.TRef.toBuf, StableHlo.TRef.ofBuf, cast_cast, cast_eq]
  pointwise
  blk_simp [idx t]
  unfold Args.wq2
  refine dite_congr rfl (fun h0 => ?_) fun h0 => dite_congr (propext ⟨fun h => h.2, fun h => ⟨by omega, h⟩⟩) (fun h1 => ?_) fun h1 => ?_
  · blk_ext [idx t, row]
  · blk_ext [idx t, row]
  · exact Cert.Reals.sitofp_zero

theorem blk9 (c : Dev nD) (t : Fin cfg0.N) (k : Fin 256) (j : Fin 2048) : iblk m c 9 t (ix2 k j) = (args m c).wukv (ix2 k j) := by
  blk_simp [iblk, idx t]
  simp only [V, hostOps0, hostOps0_1, hostOps0_2, List.flatten_cons, List.flatten_nil, List.cons_append, List.nil_append, List.append_nil]
  entry_read
  pointwise
  blk_ext [idx t, row]

theorem blk10 (c : Dev nD) (t : Fin cfg0.N) (r : Fin 256) (l : Fin 128) : iblk m c 10 t (ix2 r l) = (args m c).cosT (row t r) l := by
  blk_simp [iblk, idx t]
  simp only [V, hostOps0, hostOps0_1, hostOps0_2, List.flatten_cons, List.flatten_nil, List.cons_append, List.nil_append, List.append_nil]
  entry_read
  pointwise
  have e : (win0_10.blk t).view.emb (ix2 r l) = ix2 (row t r) l := by blk_ext [idx t, row]
  rw [e]; rfl

theorem blk11 (c : Dev nD) (t : Fin cfg0.N) (r : Fin 256) (l : Fin 128) : iblk m c 11 t (ix2 r l) = (args m c).sinT (row t r) l := by
  blk_simp [iblk, idx t]
  simp only [V, hostOps0, hostOps0_1, hostOps0_2, List.flatten_cons, List.flatten_nil, List.cons_append, List.nil_append, List.append_nil]
  entry_read
  pointwise
  have e : (win0_11.blk t).view.emb (ix2 r l) = ix2 (row t r) l := by blk_ext [idx t, row]
  blk_simp [idx t]
  unfold Args.sinT
  by_cases h : l.val % 64 < 32
  · rw [dif_pos h, if_pos h, e]
    have h' : l.val % 64 = l.val % 32 := by omega
    simp only [h']; rfl
  · rw [dif_neg h, if_neg h, e]
    have h' : l.val % 64 - 32 = l.val % 32 := by omega
    simp only [h']; rfl

end Cert.PrepBwdIdeal.Value

end
-- ==== Proof.PrepHost.lean ====
/- The gradient of the latent projections: the arrays the host lays out for the kernel, read at an index. -/
module

public import proofs.«01_k».proof.Proof.PrepPt

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.PrepBwdIdeal.Value

open Cert.PrepBwdIdeal Cert.PrepBwdIdeal.Gen

variable (m : (ℓ : Loc nD τ sig) → Buf (Elt Ideal) ℓ)

/-- The two parts of all heads side by side, filled up with zeros, heads first. -/
def hd (x : FVec Ideal S4096x8x128 .f32) (y : FVec Ideal S4096x8x64 .f32) : FVec Ideal S8x4096x256 .f32 :=
  concatenate S8x4096x256 2 [⟨S8x4096x128, transpose S8x4096x128 [1, 0, 2] x transposes_S4096x8x128_S8x4096x128_1_0_2⟩,
    ⟨S8x4096x64, transpose S8x4096x64 [1, 0, 2] y transposes_S4096x8x64_S8x4096x64_1_0_2⟩,
    ⟨S8x4096x64, broadcastInDim S8x4096x64 ![] bcast_S_S8x4096x64 (constant (F := Ideal) S_ .f32 0x00000000#32)⟩]
    concatenates_S8x4096x128_S8x4096x64_S8x4096x64_S8x4096x256_d2

/-- The latents side by side. -/
def lat (x y : FVec Ideal S4096x256 .f32) (z : FVec Ideal S4096x64 .f32) : FVec Ideal S4096x640 .f32 :=
  concatenate S4096x640 1 [⟨S4096x256, x⟩, ⟨S4096x256, y⟩, ⟨S4096x64, z⟩,
    ⟨S4096x64, broadcastInDim S4096x64 ![] bcast_S_S4096x64 (constant (F := Ideal) S_ .f32 0x00000000#32)⟩]
    concatenates_S4096x256_S4096x256_S4096x64_S4096x64_S4096x640_d1

theorem hd_at (x : FVec Ideal S4096x8x128 .f32) (y : FVec Ideal S4096x8x64 .f32) (h : Fin 8) (r : Fin 4096) (l : Fin 256) : hd x y (ix3 h r l)
    = if h0 : l.val < 128 then x (ix3 r h ⟨l.val, h0⟩) else if h1 : l.val - 128 < 64 then y (ix3 r h ⟨l.val - 128, h1⟩) else (0 : EReal) := by
  unfold hd
  pointwise

theorem lat_cq (x y : FVec Ideal S4096x256 .f32) (z : FVec Ideal S4096x64 .f32) (r : Fin 4096) (k : Fin 256) (l : Fin 640) (h : l.val = k.val) :
    lat x y z (ix2 r l) = x (ix2 r k) := by
  unfold lat
  pointwise
  have := k.isLt
  rw [dif_pos (by omega)]
  exact congrArg (fun z => x (ix2 r z)) (Fin.ext (show l.val = k.val by omega))
theorem lat_ckv (x y : FVec Ideal S4096x256 .f32) (z : FVec Ideal S4096x64 .f32) (r : Fin 4096) (k : Fin 256) (l : Fin 640) (h : l.val = 256 + k.val) :
    lat x y z (ix2 r l) = y (ix2 r k) := by
  unfold lat
  pointwise
  have := k.isLt
  rw [dif_neg (by omega), dif_pos (by omega)]
  exact congrArg (fun z => y (ix2 r z)) (Fin.ext (show l.val - 256 = k.val by omega))

theorem host0 (c : Dev nD) : V m c main_v67 = hd (m ((c : Thread nD τ).loc main_arg8)) (m ((c : Thread nD τ).loc main_arg9)) := by
  simp only [V, hostOps0, hostOps0_1, hostOps0_2, List.flatten_cons, List.flatten_nil, List.cons_append, List.nil_append, List.append_nil]
  after_results_simp
  try dsimp only [Matrix.cons_val]
  try after_results_simp
  rfl

theorem host1 (c : Dev nD) : V m c main_v70 = hd (m ((c : Thread nD τ).loc main_arg10)) (m ((c : Thread nD τ).loc main_arg11)) := by
  simp only [V, hostOps0, hostOps0_1, hostOps0_2, List.flatten_cons, List.flatten_nil, List.cons_append, List.nil_append, List.append_nil]
  after_results_simp
  try dsimp only [Matrix.cons_val]
  try after_results_simp
  rfl

theorem host3 (c : Dev nD) : V m c main_v35 = lat (m ((c : Thread nD τ).loc main_arg1)) (m ((c : Thread nD τ).loc main_arg2)) (m ((c : Thread nD τ).loc main_arg3)) := by
  simp only [V, hostOps0, hostOps0_1, hostOps0_2, List.flatten_cons, List.flatten_nil, List.cons_append, List.nil_append, List.append_nil]
  after_results_simp
  try dsimp only [Matrix.cons_val]
  try after_results_simp
  rfl

theorem blk0 (c : Dev nD) (t : Fin cfg0.N) (h : Fin 8) (r : Fin 256) (l : Fin 256) : iblk m c 0 t (ix3 h r l) = (args m c).dq (row t r) h l := by
  have e : (win0_0.blk t).view.emb (ix3 h r l) = ix3 h (row t r) l := by blk_ext [idx t, row]
  exact (congrFun (host0 m c) _).trans ((congrArg _ e).trans (hd_at _ _ _ _ _))
theorem blk1 (c : Dev nD) (t : Fin cfg0.N) (h : Fin 8) (r : Fin 256) (l : Fin 256) : iblk m c 1 t (ix3 h r l) = (args m c).dk (row t r) h l := by
  have e : (win0_1.blk t).view.emb (ix3 h r l) = ix3 h (row t r) l := by blk_ext [idx t, row]
  exact (congrFun (host1 m c) _).trans ((congrArg _ e).trans (hd_at _ _ _ _ _))
theorem blk3_cq (c : Dev nD) (t : Fin cfg0.N) (r : Fin 256) (k : Fin 256) (l : Fin 640) (h : l.val = k.val) :
    iblk m c 3 t (ix2 r l) = (args m c).cqr (row t r) k := by
  have e : (win0_3.blk t).view.emb (ix2 r l) = ix2 (row t r) l := by blk_ext [idx t, row]
  exact (congrFun (host3 m c) _).trans ((congrArg _ e).trans (lat_cq _ _ _ _ _ _ h))
theorem blk3_ckv (c : Dev nD) (t : Fin cfg0.N) (r : Fin 256) (k : Fin 256) (l : Fin 640) (h : l.val = 256 + k.val) :
    iblk m c 3 t (ix2 r l) = (args m c).ckvr (row t r) k := by
  have e : (win0_3.blk t).view.emb (ix2 r l) = ix2 (row t r) l := by blk_ext [idx t, row]
  exact (congrFun (host3 m c) _).trans ((congrArg _ e).trans (lat_ckv _ _ _ _ _ _ h))

end Cert.PrepBwdIdeal.Value

end
-- ==== Proof.PrepPay.lean ====
/- The gradient of the latent projections: what one step of the kernel computes, at an index. -/
module

public import proofs.«01_k».proof.Proof.PrepHost
public import proofs.«01_k».proof.Proof.Bands

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.PrepBwdIdeal.Value

open Cert.PrepBwdIdeal Cert.PrepBwdIdeal.Gen

variable (m : (ℓ : Loc nD τ sig) → Buf (Elt Ideal) ℓ)

/-- The scale of the scores, left to this call. -/
def SC : EReal := Ideal.ofBits .f32 0x3D93CD3A#32

/-- The transposed rotation of a row of 128, with the scale. -/
def rope (cs sn g : Fin 128 → EReal) (l : Fin 128) : EReal :=
  g l * (cs l * SC) + if l.val % 64 < 32 then g ⟨(l.val + 128 - 96) % 128, by omega⟩ * (sn ⟨(l.val + 128 - 96) % 128, by omega⟩ * SC)
    else g ⟨(l.val + 128 - 32) % 128, by omega⟩ * (sn ⟨(l.val + 128 - 32) % 128, by omega⟩ * SC)

/-- The gradient of a row through its norm, from the gradient `d` of the normed row before the weight's product. -/
def back (v d : Fin 256 → EReal) (k : Fin 256) : EReal :=
  rs v * (d k - hat v k * Ideal.div (∑ x, d x * hat v x) (Ideal.ofBits .f32 0x43800000#32))

namespace Args
variable (p : Args)

/-- The gradient of the up-projected queries, of the up-projected keys and values, of the shared rotary key. -/
def dq2 (s : Fin 4096) (j : Fin 2048) : EReal :=
  if j.val < 1024 then p.dq s ⟨j.val / 128 % 8, by omega⟩ ⟨j.val % 128, by omega⟩ * SC
  else rope (p.cosT s) (p.sinT s) (fun l => p.dq s ⟨(j.val - 1024) / 128 % 8, by omega⟩ ⟨128 + l.val, by omega⟩) ⟨(j.val - 1024) % 128, by omega⟩
def dkv2 (s : Fin 4096) (j : Fin 2048) : EReal :=
  if j.val % 256 < 128 then p.dk s ⟨j.val / 256 % 8, by omega⟩ ⟨j.val % 128, by omega⟩ * SC
  else p.dv (ix3 s ⟨j.val / 256 % 8, by omega⟩ ⟨j.val % 128, by omega⟩)
def dpe (s : Fin 4096) (l : Fin 128) : EReal :=
  rope (p.cosT s) (p.sinT s) (fun l => ∑ h : Fin 8, p.dk s h ⟨128 + l.val, by omega⟩) l

/-- The gradients of the two normed latents. -/
def dqn2 (s : Fin 4096) (k : Fin 256) : EReal := ∑ j, p.dq2 s j * p.wq2 k j
def dkvn2 (s : Fin 4096) (k : Fin 256) : EReal := ∑ j, p.dkv2 s j * p.wukv (ix2 k j)
end Args

theorem mask_at (r : Fin 256) (l : Fin 128) : k0_pay9 (ix2 r l) = (if l.val % 64 < 32 then 1#1 else 0#1 : BitVec 1) := by
  pointwise [k0_pay9]
  revert l
  decide +kernel
theorem rope_at (b d : FVec Ideal S256x128 .f32) (g : FVec Ideal S1x256x128 .f32) (r : Fin 256) (l : Fin 128) :
    (k0_pay14 (F := Ideal) k0_pay9 (k0_pay10 b) (k0_pay11 d) g (ix2 r l) : EReal) = rope (fun l => b (ix2 r l)) (fun l => d (ix2 r l)) (fun l => g (ix3 0 r l)) l := by
  pointwise [k0_pay14, k0_pay10, k0_pay11]
  rw [mask_at]
  unfold rope
  split_ifs <;> rfl
theorem rope2_at (b d : FVec Ideal S256x128 .f32) (g : FVec Ideal S256x128 .f32) (r : Fin 256) (l : Fin 128) :
    (k0_pay5 (F := Ideal) k0_pay9 (k0_pay10 b) (k0_pay11 d) g (ix2 r l) : EReal) = rope (fun l => b (ix2 r l)) (fun l => d (ix2 r l)) (fun l => g (ix2 r l)) l := by
  pointwise [k0_pay5, k0_pay10, k0_pay11]
  rw [mask_at]
  unfold rope
  split_ifs <;> rfl
theorem nope_at (g : FVec Ideal S1x256x128 .f32) (r : Fin 256) (l : Fin 128) : (k0_pay13 (F := Ideal) (k0_pay12 g) (ix2 r l) : EReal) = g (ix3 0 r l) * SC := by
  pointwise [k0_pay13, k0_pay12]
  rfl
theorem nope2_at (g : FVec Ideal S1x256x128 .f32) (r : Fin 256) (l : Fin 128) : (k0_pay15 (F := Ideal) g (ix2 r l) : EReal) = g (ix3 0 r l) * SC := by
  pointwise [k0_pay15]
  rfl
theorem keep_at (g : FVec Ideal S1x256x128 .f32) (r : Fin 256) (l : Fin 128) : (k0_pay16 (F := Ideal) g (ix2 r l) : EReal) = g (ix3 0 r l) := by
  pointwise [k0_pay16]

/-- A part of one head read from a block of all heads. -/
theorem ld_at {q : ℕ} {e : EltTy} (X : (⟨3, ![8, 256, q]⟩ : Shape).Idx → Elt Ideal e) (h : Fin 8) (o : ℕ)
    (inb : ∀ a, (![h.val, 0, o] : Fin 3 → ℕ) a + (![1, 256, 128] : Fin 3 → ℕ) a ≤ (⟨3, ![8, 256, q]⟩ : Shape).size a) (r : Fin 256) (i : Fin 128)
    (j : Fin q) (hj : j.val = o + i.val) :
    View.ld X (Rect.unit (s := (⟨3, ![8, 256, q]⟩ : Shape)) ![h.val, 0, o] ![1, 256, 128] inb) (ix3 0 r i) = X (ix3 h r j) := by
  refine congrArg X (funext fun x => ?_)
  refine Fin.cases ?_ (fun x => Fin.cases ?_ (fun x => ?_) x) x
  · exact Fin.ext (by show h.val + 1 * 0 = h.val; omega)
  · exact Fin.ext (by show 0 + 1 * r.val = r.val; omega)
  · obtain rfl : x = 0 := Subsingleton.elim _ _
    exact Fin.ext (by show o + 1 * i.val = j.val; omega)

/-- A band of columns read from a block. -/
theorem ldb_at {p q n k : ℕ} {e : EltTy} (X : (⟨2, ![p, q]⟩ : Shape).Idx → Elt Ideal e) (a o : ℕ)
    (inb : ∀ x, (![a, o] : Fin 2 → ℕ) x + (![n, k] : Fin 2 → ℕ) x ≤ (⟨2, ![p, q]⟩ : Shape).size x) (r : Fin n) (i : Fin k)
    (r' : Fin p) (j : Fin q) (hr : r'.val = a + r.val) (hj : j.val = o + i.val) :
    View.ld X (Rect.unit (s := (⟨2, ![p, q]⟩ : Shape)) ![a, o] ![n, k] inb) (ix2 r i) = X (ix2 r' j) := by
  refine congrArg X (funext fun x => ?_)
  refine Fin.cases ?_ (fun x => ?_) x
  · exact Fin.ext (by show a + 1 * r.val = r'.val; omega)
  · obtain rfl : x = 0 := Subsingleton.elim _ _
    exact Fin.ext (by show o + 1 * i.val = j.val; omega)

variable (c : Dev nD) (t : Fin cfg0.N)

/-- The two parts of head `h` of the queries' gradient, of the keys', and the head of the values'. -/
theorem inA : ∀ (h : Fin 8) (a : Fin 3), (![h.val, 0, 0] : Fin 3 → ℕ) a + (![1, 256, 128] : Fin 3 → ℕ) a ≤ S8x256x256.size a := by decide
theorem inB : ∀ (h : Fin 8) (a : Fin 3), (![h.val, 0, 128] : Fin 3 → ℕ) a + (![1, 256, 128] : Fin 3 → ℕ) a ≤ S8x256x256.size a := by decide
theorem inV : ∀ (h : Fin 8) (a : Fin 3), (![h.val, 0, 0] : Fin 3 → ℕ) a + (![1, 256, 128] : Fin 3 → ℕ) a ≤ S8x256x128.size a := by decide
abbrev qA (h : Fin 8) : FVec Ideal S1x256x128 .f32 := View.ld (iblk m c 0 t) (Rect.unit (s := S8x256x256) ![h.val, 0, 0] ![1, 256, 128] (inA h))
abbrev qB (h : Fin 8) : FVec Ideal S1x256x128 .f32 := View.ld (iblk m c 0 t) (Rect.unit (s := S8x256x256) ![h.val, 0, 128] ![1, 256, 128] (inB h))
abbrev kA (h : Fin 8) : FVec Ideal S1x256x128 .f32 := View.ld (iblk m c 1 t) (Rect.unit (s := S8x256x256) ![h.val, 0, 0] ![1, 256, 128] (inA h))
abbrev kB (h : Fin 8) : FVec Ideal S1x256x128 .f32 := View.ld (iblk m c 1 t) (Rect.unit (s := S8x256x256) ![h.val, 0, 128] ![1, 256, 128] (inB h))
abbrev vA (h : Fin 8) : FVec Ideal S1x256x128 .f32 := View.ld (iblk m c 2 t) (Rect.unit (s := S8x256x128) ![h.val, 0, 0] ![1, 256, 128] (inV h))

theorem qA_at (h : Fin 8) (r : Fin 256) (i : Fin 128) : qA m c t h (ix3 0 r i) = (args m c).dq (row t r) h ⟨i.val, by omega⟩ :=
  (ld_at _ h 0 _ r i ⟨i.val, by omega⟩ (by simp)).trans (blk0 m c t h r _)
theorem qB_at (h : Fin 8) (r : Fin 256) (i : Fin 128) : qB m c t h (ix3 0 r i) = (args m c).dq (row t r) h ⟨128 + i.val, by omega⟩ :=
  (ld_at _ h 128 _ r i ⟨128 + i.val, by omega⟩ rfl).trans (blk0 m c t h r _)
theorem kA_at (h : Fin 8) (r : Fin 256) (i : Fin 128) : kA m c t h (ix3 0 r i) = (args m c).dk (row t r) h ⟨i.val, by omega⟩ :=
  (ld_at _ h 0 _ r i ⟨i.val, by omega⟩ (by simp)).trans (blk1 m c t h r _)
theorem kB_at (h : Fin 8) (r : Fin 256) (i : Fin 128) : kB m c t h (ix3 0 r i) = (args m c).dk (row t r) h ⟨128 + i.val, by omega⟩ :=
  (ld_at _ h 128 _ r i ⟨128 + i.val, by omega⟩ rfl).trans (blk1 m c t h r _)
theorem vA_at (h : Fin 8) (r : Fin 256) (i : Fin 128) : vA m c t h (ix3 0 r i) = (args m c).dv (ix3 (row t r) h i) :=
  (ld_at _ h 0 _ r i i (by simp)).trans (blk2 m c t h r _)

/-- The pieces of the scratch that holds the queries' gradient, one head's two; and of the scratch of the keys' and values'. -/
theorem inW : ∀ (o : Fin 1921) (a : Fin 2), (![0, o.val] : Fin 2 → ℕ) a + (![256, 128] : Fin 2 → ℕ) a ≤ S256x2048.size a := fun o a => by
  refine Fin.cases ?_ (fun x => ?_) a
  · exact le_refl 256
  · obtain rfl : x = 0 := Subsingleton.elim _ _
    have := o.isLt
    show o.val + 128 ≤ 2048
    omega
abbrev qPieces (h : Fin 8) : List (View.Piece (Elt Ideal) S256x2048 .bf16) :=
  [⟨Rect.unit (s := S256x2048) ![0, 1024 + 128 * h.val] ![256, 128] (inW ⟨1024 + 128 * h.val, by omega⟩),
      k0_pay14 (F := Ideal) k0_pay9 (k0_pay10 (F := Ideal) (iblk m c 10 t)) (k0_pay11 (F := Ideal) (iblk m c 11 t)) (qB m c t h)⟩,
    ⟨Rect.unit (s := S256x2048) ![0, 128 * h.val] ![256, 128] (inW ⟨128 * h.val, by omega⟩), k0_pay13 (F := Ideal) (k0_pay12 (F := Ideal) (qA m c t h))⟩]
abbrev kPieces (h : Fin 8) : List (View.Piece (Elt Ideal) S256x2048 .bf16) :=
  [⟨Rect.unit (s := S256x2048) ![0, 256 * h.val + 128] ![256, 128] (inW ⟨256 * h.val + 128, by omega⟩), k0_pay16 (F := Ideal) (vA m c t h)⟩,
    ⟨Rect.unit (s := S256x2048) ![0, 256 * h.val] ![256, 128] (inW ⟨256 * h.val, by omega⟩), k0_pay15 (F := Ideal) (kA m c t h)⟩]
abbrev qL : List (View.Piece (Elt Ideal) S256x2048 .bf16) :=
  qPieces m c t 7 ++ (qPieces m c t 6 ++ (qPieces m c t 5 ++ (qPieces m c t 4 ++ (qPieces m c t 3 ++ (qPieces m c t 2 ++ (qPieces m c t 1 ++ qPieces m c t 0))))))
abbrev kL : List (View.Piece (Elt Ideal) S256x2048 .bf16) :=
  kPieces m c t 7 ++ (kPieces m c t 6 ++ (kPieces m c t 5 ++ (kPieces m c t 4 ++ (kPieces m c t 3 ++ (kPieces m c t 2 ++ (kPieces m c t 1 ++ kPieces m c t 0))))))
abbrev dq2B : FVec Ideal S256x2048 .bf16 :=
  (View.whole cc0_scratch0).readCov (qL m c t) (Rect.unit (s := S256x2048) ![0, 0] ![256, 2048] inb_S256x2048_S256x2048_0_0).toLoadRect
abbrev dkv2B : FVec Ideal S256x2048 .bf16 :=
  (View.whole cc0_scratch1).readCov (kL m c t) (Rect.unit (s := S256x2048) ![0, 0] ![256, 2048] inb_S256x2048_S256x2048_0_0).toLoadRect

theorem q_step (h : Fin 8) (L : List (View.Piece (Elt Ideal) S256x2048 .bf16)) (r : Fin 256) (j : Fin 2048)
    (rest : ¬ (128 * h.val ≤ j.val ∧ j.val < 128 * h.val + 128) → ¬ (1024 + 128 * h.val ≤ j.val ∧ j.val < 1024 + 128 * h.val + 128) →
      View.canon L (ix2 r j) = (args m c).dq2 (row t r) j) :
    View.canon (qPieces m c t h ++ L) (ix2 r j) = (args m c).dq2 (row t r) j := by
  by_cases h1 : 1024 + 128 * h.val ≤ j.val ∧ j.val < 1024 + 128 * h.val + 128
  · refine (Cert.Bands.band_hit _ _ _ r j ⟨j.val - (1024 + 128 * h.val), by omega⟩ (by show j.val = 1024 + 128 * h.val + (j.val - (1024 + 128 * h.val)); omega)).trans ?_
    have e1 : (j.val - 1024) / 128 % 8 = h.val := by omega
    have e2 : (j.val - 1024) % 128 = j.val - (1024 + 128 * h.val) := by omega
    rw [rope_at]
    unfold Args.dq2
    rw [if_neg (by omega)]
    simp only [blk10, blk11, qB_at, e1, e2]
  refine (Cert.Bands.band_miss _ _ _ r j (by omega)).trans ?_
  by_cases h0 : 128 * h.val ≤ j.val ∧ j.val < 128 * h.val + 128
  · refine (Cert.Bands.band_hit _ _ _ r j ⟨j.val - 128 * h.val, by omega⟩ (by show j.val = 128 * h.val + (j.val - 128 * h.val); omega)).trans ?_
    have e1 : j.val / 128 % 8 = h.val := by omega
    have e2 : j.val % 128 = j.val - 128 * h.val := by omega
    rw [nope_at, qA_at]
    unfold Args.dq2
    rw [if_pos (by omega)]
    simp only [e1, e2]
  exact (Cert.Bands.band_miss _ _ _ r j (by omega)).trans (rest h0 h1)

theorem k_step (h : Fin 8) (L : List (View.Piece (Elt Ideal) S256x2048 .bf16)) (r : Fin 256) (j : Fin 2048)
    (rest : ¬ (256 * h.val ≤ j.val ∧ j.val < 256 * h.val + 256) → View.canon L (ix2 r j) = (args m c).dkv2 (row t r) j) :
    View.canon (kPieces m c t h ++ L) (ix2 r j) = (args m c).dkv2 (row t r) j := by
  by_cases h1 : 256 * h.val + 128 ≤ j.val ∧ j.val < 256 * h.val + 128 + 128
  · refine (Cert.Bands.band_hit _ _ _ r j ⟨j.val - (256 * h.val + 128), by omega⟩ (by show j.val = 256 * h.val + 128 + (j.val - (256 * h.val + 128)); omega)).trans ?_
    have e1 : j.val / 256 % 8 = h.val := by omega
    have e2 : j.val % 128 = j.val - (256 * h.val + 128) := by omega
    rw [keep_at, vA_at]
    unfold Args.dkv2
    rw [if_neg (by omega)]
    simp only [e1, e2]
  refine (Cert.Bands.band_miss _ _ _ r j (by omega)).trans ?_
  by_cases h0 : 256 * h.val ≤ j.val ∧ j.val < 256 * h.val + 128
  · refine (Cert.Bands.band_hit _ _ _ r j ⟨j.val - 256 * h.val, by omega⟩ (by show j.val = 256 * h.val + (j.val - 256 * h.val); omega)).trans ?_
    have e1 : j.val / 256 % 8 = h.val := by omega
    have e2 : j.val % 128 = j.val - 256 * h.val := by omega
    rw [nope2_at, kA_at]
    unfold Args.dkv2
    rw [if_pos (by omega)]
    simp only [e1, e2]
  exact (Cert.Bands.band_miss _ _ _ r j (by omega)).trans (rest (by omega))

theorem whole_idx (i : S256x2048.Idx) :
    (Rect.unit (s := S256x2048) ![0, 0] ![256, 2048] inb_S256x2048_S256x2048_0_0).toLoadRect.idx i = i := by
  idx_vars i
  funext x
  refine Fin.cases ?_ (fun x => ?_) x
  · exact Fin.ext (by show 0 + 1 * i0.val = i0.val; omega)
  · obtain rfl : x = 0 := Subsingleton.elim _ _
    exact Fin.ext (by show 0 + 1 * i1.val = i1.val; omega)

theorem dq2_at (r : Fin 256) (j : Fin 2048) : dq2B m c t (ix2 r j) = (args m c).dq2 (row t r) j := by
  rw [dq2B, View.readCov_eq_canon']
  show View.canon _ _ = _
  rw [whole_idx]
  refine q_step m c t 7 _ r j fun a7 b7 => q_step m c t 6 _ r j fun a6 b6 => q_step m c t 5 _ r j fun a5 b5 => q_step m c t 4 _ r j fun a4 b4 =>
    q_step m c t 3 _ r j fun a3 b3 => q_step m c t 2 _ r j fun a2 b2 => q_step m c t 1 _ r j fun a1 b1 => q_step m c t 0 [] r j fun a0 b0 => ?_
  exfalso
  have := j.isLt
  simp only [Fin.val_zero, Fin.val_one, Fin.isValue, show (2 : Fin 8).val = 2 from rfl, show (3 : Fin 8).val = 3 from rfl, show (4 : Fin 8).val = 4 from rfl,
    show (5 : Fin 8).val = 5 from rfl, show (6 : Fin 8).val = 6 from rfl, show (7 : Fin 8).val = 7 from rfl] at a0 b0 a1 b1 a2 b2 a3 b3 a4 b4 a5 b5 a6 b6 a7 b7
  omega
theorem dkv2_at (r : Fin 256) (j : Fin 2048) : dkv2B m c t (ix2 r j) = (args m c).dkv2 (row t r) j := by
  rw [dkv2B, View.readCov_eq_canon']
  show View.canon _ _ = _
  rw [whole_idx]
  refine k_step m c t 7 _ r j fun a7 => k_step m c t 6 _ r j fun a6 => k_step m c t 5 _ r j fun a5 => k_step m c t 4 _ r j fun a4 =>
    k_step m c t 3 _ r j fun a3 => k_step m c t 2 _ r j fun a2 => k_step m c t 1 _ r j fun a1 => k_step m c t 0 [] r j fun a0 => ?_
  exfalso
  have := j.isLt
  simp only [Fin.val_zero, Fin.val_one, Fin.isValue, show (2 : Fin 8).val = 2 from rfl, show (3 : Fin 8).val = 3 from rfl, show (4 : Fin 8).val = 4 from rfl,
    show (5 : Fin 8).val = 5 from rfl, show (6 : Fin 8).val = 6 from rfl, show (7 : Fin 8).val = 7 from rfl] at a0 a1 a2 a3 a4 a5 a6 a7
  omega

theorem backq_at (D : FVec Ideal S256x2048 .bf16) (x : FVec Ideal S256x256 .f32) (w : FVec Ideal S1x256 .f32) (W : FVec Ideal S256x2048 .bf16) (r k : Fin 256) :
    (k0_pay3 (F := Ideal) (k0_pay71 (k0_pay67 x) (k0_pay68 x) (k0_pay69 D w W) (k0_pay70 D x w W) (FloatOps.ofBits .f32 1132462080#32)) (ix2 r k) : EReal)
      = back (fun k => x (ix2 r k)) (fun k => (∑ j, D (ix2 r j) * W (ix2 k j)) * w (ix2 0 k)) k := by
  pointwise [k0_pay3, k0_pay71, k0_pay67, k0_pay68, k0_pay69, k0_pay70, k0_pay65, k0_pay66]
  rfl
theorem backk_at (D : FVec Ideal S256x2048 .bf16) (x : FVec Ideal S256x256 .f32) (w : FVec Ideal S1x256 .f32) (W : FVec Ideal S256x2048 .bf16) (r k : Fin 256) :
    (k0_pay4 (F := Ideal) (k0_pay77 D x w W) (ix2 r k) : EReal)
      = back (fun k => x (ix2 r k)) (fun k => (∑ j, D (ix2 r j) * W (ix2 k j)) * w (ix2 0 k)) k := by
  pointwise [k0_pay4, k0_pay77, k0_pay73, k0_pay74, k0_pay75, k0_pay76]
  rfl
theorem kpe_at (r : Fin 256) (l : Fin 128) : (k0_pay61 (F := Ideal) (k0_pay56 (k0_pay46 (k0_pay41 (k0_pay34 (k0_pay29 (k0_pay23 (k0_pay17 (kB m c t 0))
    (kB m c t 1)) (kB m c t 2)) (kB m c t 3)) (kB m c t 4)) (kB m c t 5)) (kB m c t 6)) (kB m c t 7) (ix2 r l) : EReal)
      = ∑ h : Fin 8, (args m c).dk (row t r) h ⟨128 + l.val, by omega⟩ := by
  have hz := fun h => kB_at m c t h r l
  generalize kB m c t = z at hz ⊢
  pointwise [k0_pay61, k0_pay56, k0_pay46, k0_pay41, k0_pay34, k0_pay29, k0_pay23, k0_pay17]
  simp only [hz]
  exact (Fin.sum_univ_eight (fun h => (args m c).dk (row t r) h ⟨128 + l.val, by omega⟩)).symm

end Cert.PrepBwdIdeal.Value

end
-- ==== Proof.PrepRef.lean ====
/- The gradient of the latent projections: the entries of the reference's values. -/
module

public import proofs.«01_k».proof.Proof.PrepPay
public import proofs.«01_k».proof.Proof.Gen.PrepRefIdeal.Run

@[expose] public section

set_option maxRecDepth 16384
set_option maxHeartbeats 4000000

noncomputable section

open Idealize.ShloMosaic Idealize.ShloMosaic.TcCoe Idealize.SL.Sem
open scoped BigOperators

namespace Cert.PrepRefIdeal.Value

open Cert.PrepRefIdeal Cert.PrepRefIdeal.Gen
open Cert.PrepBwdIdeal.Value (Args ms rs hat back SC)

/-- The reference's arguments. -/
abbrev rargs (W : Valuation τ sig (Elt Ideal)) : Args where
  pos := W (Proc.devRef .tc main_arg0)
  cq := W (Proc.devRef .tc main_arg1)
  ckv := W (Proc.devRef .tc main_arg2)
  kpe := W (Proc.devRef .tc main_arg3)
  qw := W (Proc.devRef .tc main_arg4)
  wuq := W (Proc.devRef .tc main_arg5)
  kvw := W (Proc.devRef .tc main_arg6)
  wukv := W (Proc.devRef .tc main_arg7)
  dqn := W (Proc.devRef .tc main_arg8)
  dqr := W (Proc.devRef .tc main_arg9)
  dkn := W (Proc.devRef .tc main_arg10)
  dkr := W (Proc.devRef .tc main_arg11)
  dv := W (Proc.devRef .tc main_arg12)

/-- The transposed rotation of a row of 64, as the reference adds its two halves. -/
def rot (p : Args) (s : Fin 4096) (g : Fin 64 → EReal) (l : Fin 64) : EReal :=
  if h : l.val < 32 then g ⟨32 + l.val, by omega⟩ * Ideal.sin (p.ang s ⟨l.val, h⟩) + g l * Ideal.cos (p.ang s ⟨l.val, h⟩)
  else g l * Ideal.cos (p.ang s ⟨l.val - 32, by omega⟩) + -g ⟨l.val - 32, by omega⟩ * Ideal.sin (p.ang s ⟨l.val - 32, by omega⟩)
/-- The gradient of the up-projected queries. -/
def q1 (p : Args) (s : Fin 4096) (h : Fin 8) (l : Fin 192) : EReal :=
  if h0 : l.val < 128 then p.dqn (ix3 s h ⟨l.val, h0⟩) * SC else rot p s (fun i => p.dqr (ix3 s h i) * SC) ⟨l.val - 128, by omega⟩

variable (W : Valuation τ sig (Elt Ideal)) (s : Fin 4096) (d : Fin 256)

theorem v15_at (i : Fin 32) : res_main_v15 W (ix2 s i) = (rargs W).ang s i := by
  pointwise [res_main_v15]; rfl
theorem v16_at (i : Fin 32) : res_main_v16 W (ix2 s i) = Ideal.cos ((rargs W).ang s i) := by
  pointwise [res_main_v16]; simp only [v15_at]
theorem v17_at (i : Fin 32) : res_main_v17 W (ix2 s i) = Ideal.sin ((rargs W).ang s i) := by
  pointwise [res_main_v17]; simp only [v15_at]
theorem v24_at (i : Fin 1) : res_main_v24 W (ix2 s i) = ms ((rargs W).cqr s) := by
  pointwise [res_main_v24]; rfl
theorem v25_at (i : Fin 1) : res_main_v25 W (ix2 s i) = rs ((rargs W).cqr s) := by
  pointwise [res_main_v25]; simp only [v24_at]; rfl
theorem v30_at : res_main_v30 W (ix2 s d) = hat ((rargs W).cqr s) d := by
  pointwise [res_main_v30]; simp only [v25_at]; rfl
theorem v33_at : res_main_v33 W (ix2 s d) = hat ((rargs W).cqr s) d * (rargs W).qw (ix1 d) := by
  pointwise [res_main_v33, res_main_v31]; simp only [v30_at]
theorem v44_at (i : Fin 1) : res_main_v44 W (ix2 s i) = ms ((rargs W).ckvr s) := by
  pointwise [res_main_v44]; rfl
theorem v45_at (i : Fin 1) : res_main_v45 W (ix2 s i) = rs ((rargs W).ckvr s) := by
  pointwise [res_main_v45]; simp only [v44_at]; rfl
theorem v50_at : res_main_v50 W (ix2 s d) = hat ((rargs W).ckvr s) d := by
  pointwise [res_main_v50]; simp only [v45_at]; rfl
theorem v53_at : res_main_v53 W (ix2 s d) = hat ((rargs W).ckvr s) d * (rargs W).kvw (ix1 d) := by
  pointwise [res_main_v53, res_main_v51]; simp only [v50_at]

theorem v102_at (l : Fin 64) : res_main_v102 W (ix2 s l) = ∑ h : Fin 8, (rargs W).dkr (ix3 s h l) * SC := by
  pointwise [res_main_v102]; simp only [Finset.univ_unique, Finset.sum_singleton]; rfl

section layout

/-- The two halves of a rotated row, added after each is filled up to the whole row. -/
def halves (a b : FVec Ideal S4096x8x32 .f32) (cs sn : FVec Ideal S4096x1x32 .f32) : FVec Ideal S4096x8x64 .f32 :=
  addf (pad S4096x8x64 ![0, 0, 32] ![0, 0, 0] ![0, 0, 0] (addf (mulf b (broadcastInDim S4096x8x32 ![0, 1, 2] bcast_S4096x1x32_S4096x8x32_0_1_2 cs))
      (mulf (Host.negf a) (broadcastInDim S4096x8x32 ![0, 1, 2] bcast_S4096x1x32_S4096x8x32_0_1_2 sn))) (constant S_ .f32 0x00000000#32) pads_S4096x8x32_S4096x8x64_000_000_3200 h_S_)
    (pad S4096x8x64 ![0, 0, 0] ![0, 0, 32] ![0, 0, 0] (addf (mulf b (broadcastInDim S4096x8x32 ![0, 1, 2] bcast_S4096x1x32_S4096x8x32_0_1_2 sn))
      (mulf a (broadcastInDim S4096x8x32 ![0, 1, 2] bcast_S4096x1x32_S4096x8x32_0_1_2 cs))) (constant S_ .f32 0x00000000#32) pads_S4096x8x32_S4096x8x64_000_000_0320 h_S_)
def halves2 (a b cs sn : FVec Ideal S4096x32 .f32) : FVec Ideal S4096x64 .f32 :=
  addf (pad S4096x64 ![0, 32] ![0, 0] ![0, 0] (addf (mulf b cs) (mulf (Host.negf a) sn)) (constant S_ .f32 0x00000000#32) pads_S4096x32_S4096x64_000_3200 h_S_)
    (pad S4096x64 ![0, 0] ![0, 32] ![0, 0] (addf (mulf b sn) (mulf a cs)) (constant S_ .f32 0x00000000#32) pads_S4096x32_S4096x64_000_0320 h_S_)
/-- A head's two parts side by side, added after each is filled up to the whole head. -/
def sides (x : FVec Ideal S4096x8x128 .f32) (y : FVec Ideal S4096x8x64 .f32) : FVec Ideal S4096x1536 .f32 :=
  shapeCast _ (addf (pad S4096x8x192 ![0, 0, 128] ![0, 0, 0] ![0, 0, 0] y (constant S_ .f32 0x00000000#32) pads_S4096x8x64_S4096x8x192_000_000_12800 h_S_)
    (pad S4096x8x192 ![0, 0, 0] ![0, 0, 64] ![0, 0, 0] x (constant S_ .f32 0x00000000#32) pads_S4096x8x128_S4096x8x192_000_000_0640 h_S_)) shapeCasts_S4096x8x192_S4096x1536
def sides2 (x y : FVec Ideal S4096x8x128 .f32) : FVec Ideal S4096x2048 .f32 :=
  shapeCast _ (addf (pad S4096x8x256 ![0, 0, 128] ![0, 0, 0] ![0, 0, 0] y (constant S_ .f32 0x00000000#32) pads_S4096x8x128_S4096x8x256_000_000_12800 h_S_)
    (pad S4096x8x256 ![0, 0, 0] ![0, 0, 128] ![0, 0, 0] x (constant S_ .f32 0x00000000#32) pads_S4096x8x128_S4096x8x256_000_000_01280 h_S_)) shapeCasts_S4096x8x256_S4096x2048

theorem halves_at (a b : FVec Ideal S4096x8x32 .f32) (cs sn : FVec Ideal S4096x1x32 .f32) (s : Fin 4096) (h : Fin 8) (l : Fin 64) :
    (halves a b cs sn (ix3 s h l) : EReal) = if q : l.val < 32 then b (ix3 s h ⟨l.val, q⟩) * sn (ix3 s 0 ⟨l.val, q⟩) + a (ix3 s h ⟨l.val, q⟩) * cs (ix3 s 0 ⟨l.val, q⟩)
      else b (ix3 s h ⟨l.val - 32, by omega⟩) * cs (ix3 s 0 ⟨l.val - 32, by omega⟩) + -a (ix3 s h ⟨l.val - 32, by omega⟩) * sn (ix3 s 0 ⟨l.val - 32, by omega⟩) := by
  have hl := l.isLt
  have hh := h.isLt
  pointwise [halves]
  split_ifs <;> first | omega | simp only [zero_add, add_zero]
theorem halves2_at (a b cs sn : FVec Ideal S4096x32 .f32) (s : Fin 4096) (l : Fin 64) :
    (halves2 a b cs sn (ix2 s l) : EReal) = if q : l.val < 32 then b (ix2 s ⟨l.val, q⟩) * sn (ix2 s ⟨l.val, q⟩) + a (ix2 s ⟨l.val, q⟩) * cs (ix2 s ⟨l.val, q⟩)
      else b (ix2 s ⟨l.val - 32, by omega⟩) * cs (ix2 s ⟨l.val - 32, by omega⟩) + -a (ix2 s ⟨l.val - 32, by omega⟩) * sn (ix2 s ⟨l.val - 32, by omega⟩) := by
  have hl := l.isLt
  pointwise [halves2]
  split_ifs <;> first | omega | simp only [zero_add, add_zero]
theorem sides_at (x : FVec Ideal S4096x8x128 .f32) (y : FVec Ideal S4096x8x64 .f32) (s : Fin 4096) (h : Fin 8) (l : Fin 192) (n : Fin 1536) (hn : n.val = h.val * 192 + l.val) :
    (sides x y (ix2 s n) : EReal) = if q : l.val < 128 then x (ix3 s h ⟨l.val, q⟩) else y (ix3 s h ⟨l.val - 128, by omega⟩) := by
  have hl := l.isLt
  have hh := h.isLt
  have e1 : n.val / 192 = h.val := by omega
  have e2 : n.val % 192 = l.val := by omega
  pointwise [sides]
  simp only [e1, e2]
  split_ifs <;> first | omega | simp only [zero_add, add_zero]
theorem sides2_at (x y : FVec Ideal S4096x8x128 .f32) (s : Fin 4096) (j : Fin 2048) :
    (sides2 x y (ix2 s j) : EReal) = if j.val % 256 < 128 then x (ix3 s ⟨j.val / 256 % 8, by omega⟩ ⟨j.val % 128, by omega⟩) else y (ix3 s ⟨j.val / 256 % 8, by omega⟩ ⟨j.val % 128, by omega⟩) := by
  have hj := j.isLt
  pointwise [sides2]
  split_ifs <;> first
    | omega
    | (rw [add_zero]; exact congrArg y (congrArg₂ (ix3 s) (Fin.ext (by show j.val / 256 = j.val / 256 % 8; omega)) (Fin.ext (by show j.val % 256 - 128 = j.val % 128; omega))))
    | (rw [zero_add]; exact congrArg x (congrArg₂ (ix3 s) (Fin.ext (by show j.val / 256 = j.val / 256 % 8; omega)) (Fin.ext (by show j.val % 256 = j.val % 128; omega))))

end layout

theorem v134_at (j : Fin 2048) : res_main_v134 W (ix2 s j) = (rargs W).dkv2 s j := by
  refine (sides2_at (mulf (rargs W).dkn (broadcastInDim S4096x8x128 ![] bcast_S_S4096x8x128 (constant S_ .f32 0x3D93CD3A#32))) (rargs W).dv s j).trans ?_
  unfold Args.dkv2 Args.dk
  refine if_congr Iff.rfl ?_ rfl
  rw [dif_pos (show j.val % 128 < 128 by omega)]
  pointwise; rfl
theorem v97_at (h : Fin 8) (l : Fin 64) : res_main_v97 W (ix3 s h l) = (rargs W).dqr (ix3 s h l) * SC := by
  pointwise [res_main_v97]; rfl
theorem v115_at (h : Fin 8) (i : Fin 32) : res_main_v115 W (ix3 s h i) = (rargs W).dqr (ix3 s h ⟨i.val, by omega⟩) * SC := by
  pointwise [res_main_v115]; exact v97_at W s h ⟨i.val, by omega⟩
theorem v116_at (h : Fin 8) (i : Fin 32) : res_main_v116 W (ix3 s h i) = (rargs W).dqr (ix3 s h ⟨32 + i.val, by omega⟩) * SC := by
  pointwise [res_main_v116]; exact v97_at W s h ⟨32 + i.val, by omega⟩
theorem v58_at (i : Fin 32) (x : Fin 1) : res_main_v58 W (ix3 s x i) = Ideal.cos ((rargs W).ang s i) := by
  pointwise [res_main_v58]; exact v16_at W s i
theorem v59_at (i : Fin 32) (x : Fin 1) : res_main_v59 W (ix3 s x i) = Ideal.sin ((rargs W).ang s i) := by
  pointwise [res_main_v59]; exact v17_at W s i
/-- A sum over the kernel's columns of the query heads, of which some are filled up with zeros, and over the reference's columns. -/
theorem sum_2048 (F : Fin 2048 → EReal) (hz : ∀ (h : Fin 8) (l : Fin 64), F ⟨1024 + (h.val * 128 + (64 + l.val)), by omega⟩ = 0) :
    ∑ j, F j = ∑ h : Fin 8, (∑ l : Fin 128, F ⟨h.val * 128 + l.val, by omega⟩ + ∑ l : Fin 64, F ⟨1024 + (h.val * 128 + l.val), by omega⟩) := by
  refine (Fin.sum_univ_add (a := 1024) (b := 1024) F).trans ?_
  rw [Finset.sum_add_distrib]
  refine congrArg₂ (fun x y : EReal => x + y) (Fin.sum_univ_tiles 8 128 rfl fun i : Fin 1024 => F ⟨i.val, by omega⟩)
    ((Fin.sum_univ_tiles 8 128 rfl fun i : Fin 1024 => F ⟨1024 + i.val, by omega⟩).trans (Finset.sum_congr rfl fun h _ => ?_))
  refine (Fin.sum_univ_add (a := 64) (b := 64) fun l : Fin 128 => F ⟨1024 + (h.val * 128 + l.val), by omega⟩).trans ?_
  exact (congrArg (fun y : EReal => _ + y) (Finset.sum_eq_zero fun l _ => hz h l)).trans (add_zero _)
theorem sum_1536 (F : Fin 1536 → EReal) :
    ∑ j, F j = ∑ h : Fin 8, (∑ l : Fin 128, F ⟨h.val * 192 + l.val, by omega⟩ + ∑ l : Fin 64, F ⟨h.val * 192 + (128 + l.val), by omega⟩) := by
  refine (Fin.sum_univ_tiles 8 192 rfl F).trans (Finset.sum_congr rfl fun h _ => ?_)
  exact Fin.sum_univ_add (a := 128) (b := 64) fun l : Fin 192 => F ⟨h.val * 192 + l.val, by omega⟩

section kernel

variable (p : Args) (s : Fin 4096) (k : Fin 256) (h : Fin 8)

/-- The kernel's rotation of a row of 128, of which the second half is zero. -/
theorem rope_lo (g : Fin 128 → EReal) (l : Fin 64) : Cert.PrepBwdIdeal.Value.rope (p.cosT s) (p.sinT s) g ⟨l.val, by omega⟩ = rot p s (fun i => g ⟨i.val, by omega⟩ * SC) l := by
  have hl := l.isLt
  unfold Cert.PrepBwdIdeal.Value.rope rot Args.cosT Args.sinT
  by_cases q : l.val < 32
  · have e0 : l.val % 64 < 32 := by omega
    have e1 : l.val % 32 = l.val := by omega
    have e2 : (l.val + 128 - 96) % 128 = 32 + l.val := by omega
    have e3 : (32 + l.val) % 32 = l.val := by omega
    have e4 : ¬ (32 + l.val) % 64 < 32 := by omega
    simp only [dif_pos q, if_pos e0, e2, e1, e3, if_neg e4]
    refine (add_comm _ _).trans (congrArg₂ (fun x y : EReal => x + y) ?_ ?_) <;> rw [mul_comm _ SC, mul_assoc]
  · have e0 : ¬ l.val % 64 < 32 := by omega
    have e1 : l.val % 32 = l.val - 32 := by omega
    have e2 : (l.val + 128 - 32) % 128 = l.val - 32 := by omega
    have e3 : (l.val - 32) % 32 = l.val - 32 := by omega
    have e4 : (l.val - 32) % 64 < 32 := by omega
    simp only [dif_neg q, if_neg e0, e2, e1, e3, if_pos e4]
    refine congrArg₂ (fun x y : EReal => x + y) ?_ ?_
    · rw [mul_comm _ SC, mul_assoc]
    · rw [neg_mul, neg_mul, mul_neg, mul_comm _ SC, mul_assoc]
theorem rope_hi (g : Fin 128 → EReal) (hz : ∀ i : Fin 64, g ⟨64 + i.val, by omega⟩ = 0) (l : Fin 64) :
    Cert.PrepBwdIdeal.Value.rope (p.cosT s) (p.sinT s) g ⟨64 + l.val, by omega⟩ = 0 := by
  have hl := l.isLt
  have hz' : ∀ i : Fin 128, 64 ≤ i.val → g i = 0 := fun i hi => (congrArg g (Fin.ext (by show i.val = 64 + (i.val - 64); omega))).trans (hz ⟨i.val - 64, by omega⟩)
  unfold Cert.PrepBwdIdeal.Value.rope
  rw [hz l, zero_mul, zero_add]
  split_ifs with q
  · rw [hz' _ (by show 64 ≤ (64 + l.val + 128 - 96) % 128; have : (64 + l.val) % 64 < 32 := q; omega), zero_mul]
  · rw [hz' _ (by show 64 ≤ (64 + l.val + 128 - 32) % 128; have : ¬ (64 + l.val) % 64 < 32 := q; omega), zero_mul]

theorem dq2_lo (l : Fin 128) : p.dq2 s ⟨h.val * 128 + l.val, by omega⟩ = p.dqn (ix3 s h l) * SC := by
  have hh := h.isLt
  have hl := l.isLt
  have e1 : (h.val * 128 + l.val) / 128 % 8 = h.val := by omega
  have e2 : (h.val * 128 + l.val) % 128 = l.val := by omega
  unfold Args.dq2 Args.dq
  simp only [if_pos (show h.val * 128 + l.val < 1024 by omega), e1, e2, dif_pos hl]
theorem dq2_hi (l : Fin 64) : p.dq2 s ⟨1024 + (h.val * 128 + l.val), by omega⟩ = rot p s (fun i => p.dqr (ix3 s h i) * SC) l := by
  have hh := h.isLt
  have hl := l.isLt
  have e0 : 1024 + (h.val * 128 + l.val) - 1024 = h.val * 128 + l.val := by omega
  have e1 : (h.val * 128 + l.val) / 128 % 8 = h.val := by omega
  have e2 : (h.val * 128 + l.val) % 128 = l.val := by omega
  unfold Args.dq2 Args.dq
  simp only [if_neg (show ¬ 1024 + (h.val * 128 + l.val) < 1024 by omega), e0, e1, e2]
  rw [rope_lo]
  refine congrArg (fun g => rot p s g l) (funext fun i => congrArg (fun x : EReal => x * SC) ?_)
  have hi := i.isLt
  have e3 : 128 + i.val - 128 = i.val := by omega
  simp only [dif_neg (show ¬ 128 + i.val < 128 by omega), e3, dif_pos hi]
/-- The kernel's columns that fill a head up carry no gradient. -/
theorem dq2_none (l : Fin 64) : p.dq2 s ⟨1024 + (h.val * 128 + (64 + l.val)), by omega⟩ = 0 := by
  have hh := h.isLt
  have hl := l.isLt
  have e0 : 1024 + (h.val * 128 + (64 + l.val)) - 1024 = h.val * 128 + (64 + l.val) := by omega
  have e2 : (h.val * 128 + (64 + l.val)) % 128 = 64 + l.val := by omega
  unfold Args.dq2
  simp only [if_neg (show ¬ 1024 + (h.val * 128 + (64 + l.val)) < 1024 by omega), e0, e2]
  refine rope_hi p s _ (fun i => ?_) l
  unfold Args.dq
  rw [dif_neg (by show ¬ 128 + (64 + i.val) < 128; omega), dif_neg (by show ¬ 128 + (64 + i.val) - 128 < 64; omega)]
theorem wq2_lo (l : Fin 128) : p.wq2 k ⟨h.val * 128 + l.val, by omega⟩ = p.wuq (ix2 k ⟨h.val * 192 + l.val, by omega⟩) := by
  have hh := h.isLt
  have hl := l.isLt
  have e1 : (h.val * 128 + l.val) / 128 = h.val := by omega
  have e2 : (h.val * 128 + l.val) % 128 = l.val := by omega
  unfold Args.wq2
  simp only [dif_pos (show h.val * 128 + l.val < 1024 by omega), e1, e2]
theorem wq2_hi (l : Fin 64) : p.wq2 k ⟨1024 + (h.val * 128 + l.val), by omega⟩ = p.wuq (ix2 k ⟨h.val * 192 + (128 + l.val), by omega⟩) := by
  have hh := h.isLt
  have hl := l.isLt
  have e0 : 1024 + (h.val * 128 + l.val) - 1024 = h.val * 128 + l.val := by omega
  have e1 : (h.val * 128 + l.val) / 128 = h.val := by omega
  have e2 : (h.val * 128 + l.val) % 128 = l.val := by omega
  unfold Args.wq2
  simp only [dif_neg (show ¬ 1024 + (h.val * 128 + l.val) < 1024 by omega), e0, e1, e2, dif_pos hl]
theorem wq2_none (l : Fin 64) : p.wq2 k ⟨1024 + (h.val * 128 + (64 + l.val)), by omega⟩ = 0 := by
  have hh := h.isLt
  have hl := l.isLt
  have e0 : 1024 + (h.val * 128 + (64 + l.val)) - 1024 = h.val * 128 + (64 + l.val) := by omega
  unfold Args.wq2
  simp only [dif_neg (show ¬ 1024 + (h.val * 128 + (64 + l.val)) < 1024 by omega), e0, dif_neg (show ¬ (h.val * 128 + (64 + l.val)) % 128 < 64 by omega)]

end kernel

theorem v161_at (h : Fin 8) (l : Fin 192) (n : Fin 1536) (hn : n.val = h.val * 192 + l.val) : res_main_v161 W (ix2 s n) = q1 (rargs W) s h l := by
  refine (sides_at (mulf (rargs W).dqn (broadcastInDim S4096x8x128 ![] bcast_S_S4096x8x128 (constant S_ .f32 0x3D93CD3A#32)))
    (halves (res_main_v115 W) (res_main_v116 W) (res_main_v58 W) (res_main_v59 W)) s h l n hn).trans ?_
  unfold q1
  refine dite_congr rfl (fun q => ?_) fun q => ?_
  · pointwise; rfl
  rw [halves_at]
  unfold rot
  refine dite_congr rfl (fun q => ?_) fun q => ?_
  · rw [v115_at, v116_at, v58_at, v59_at]
  · have q' : ¬ l.val - 128 < 32 := q
    have e : (⟨32 + (l.val - 128 - 32), by omega⟩ : Fin 64) = ⟨l.val - 128, by omega⟩ := Fin.ext (by show 32 + (l.val - 128 - 32) = l.val - 128; omega)
    rw [v115_at, v116_at, v58_at, v59_at, e]
theorem v137_at : res_main_v137 W (ix2 s d) = (rargs W).dkvn2 s d := by
  pointwise [res_main_v137]; simp only [v134_at]; rfl
theorem v142_at : res_main_v142 W (ix2 s d) = (rargs W).dkvn2 s d * (rargs W).kvw (ix1 d) := by
  pointwise [res_main_v142, res_main_v51]; simp only [v137_at]

/-- The factor of the row in the reference's gradient of the mean square. -/
def qE (v d : Fin 256 → EReal) : EReal :=
  Ideal.div ((∑ k, v k * d k) * (Ideal.ofBits .f32 0xBF000000#32 * Ideal.div (rs v) (ms v))) (Ideal.ofBits .f32 0x43800000#32)

theorem v153_at : res_main_v153 W (ix2 s d) = qE ((rargs W).ckvr s) (fun k => (rargs W).dkvn2 s k * (rargs W).kvw (ix1 k)) := by
  pointwise [res_main_v153]; simp only [Finset.univ_unique, Finset.sum_singleton, v142_at, v45_at, v44_at]
  rfl
theorem v164_at : res_main_v164 W (ix2 s d) = (rargs W).dqn2 s d := by
  pointwise [res_main_v164]
  refine (sum_1536 _).trans ((sum_2048 _ fun h l => ?_).trans (Finset.sum_congr rfl fun h _ => ?_)).symm
  · rw [wq2_none, mul_zero]
  refine congrArg₂ (fun x y : EReal => x + y) (Finset.sum_congr rfl fun l _ => ?_) (Finset.sum_congr rfl fun l _ => ?_)
  · rw [dq2_lo, wq2_lo]
    refine congrArg (fun x : EReal => x * _) ((v161_at W s h ⟨l.val, by omega⟩ _ rfl).trans ?_).symm
    exact dif_pos l.isLt
  · rw [dq2_hi, wq2_hi]
    refine congrArg (fun x : EReal => x * _) ((v161_at W s h ⟨128 + l.val, by omega⟩ _ rfl).trans ?_).symm
    refine (dif_neg (by show ¬ 128 + l.val < 128; omega)).trans (congrArg (rot _ s _) (Fin.ext (by show 128 + l.val - 128 = l.val; omega)))
theorem v169_at : res_main_v169 W (ix2 s d) = (rargs W).dqn2 s d * (rargs W).qw (ix1 d) := by
  pointwise [res_main_v169, res_main_v31]; simp only [v164_at]
theorem v180_at : res_main_v180 W (ix2 s d) = qE ((rargs W).cqr s) (fun k => (rargs W).dqn2 s k * (rargs W).qw (ix1 k)) := by
  pointwise [res_main_v180]; simp only [Finset.univ_unique, Finset.sum_singleton, v169_at, v25_at, v24_at]
  rfl
theorem v187_at (h : Fin 8) (l : Fin 192) : res_main_v187 W (ix3 d h l) = ∑ s : Fin 4096, q1 (rargs W) s h l * (hat ((rargs W).cqr s) d * (rargs W).qw (ix1 d)) := by
  pointwise [res_main_v187]
  exact congrArg (fun f : Fin 4096 → EReal => ∑ s, f s) (funext fun s => congrArg₂ (fun x y : EReal => x * y) (v161_at W s h l _ rfl) (v33_at W s d))

end Cert.PrepRefIdeal.Value

end
-- ==== Proof.PrepOut.lean ====
/- The gradient of the latent projections: what the kernel leaves in each result. -/
module

public import proofs.«01_k».proof.Proof.PrepPay
public import proofs.«01_k».proof.Proof.Rows

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.PrepBwdIdeal.Value

open Cert.PrepBwdIdeal Cert.PrepBwdIdeal.Gen

variable (m : (ℓ : Loc nD τ sig) → Buf (Elt Ideal) ℓ)

variable (c : Dev nD) (t : Fin cfg0.N)

abbrev cqB : FVec Ideal S256x256 .f32 := View.ld (iblk m c 3 t) (Rect.unit (s := S256x640) ![0, 0] ![256, 256] inb_S256x640_S256x256_0_0)
abbrev ckvB : FVec Ideal S256x256 .f32 := View.ld (iblk m c 3 t) (Rect.unit (s := S256x640) ![0, 256] ![256, 256] inb_S256x640_S256x256_0_256)
theorem cqB_at (r k : Fin 256) : cqB m c t (ix2 r k) = (args m c).cqr (row t r) k :=
  (ldb_at _ 0 0 _ r k r ⟨k.val, by omega⟩ (by omega) (by show k.val = 0 + k.val; omega)).trans (blk3_cq m c t r k _ rfl)
theorem ckvB_at (r k : Fin 256) : ckvB m c t (ix2 r k) = (args m c).ckvr (row t r) k :=
  (ldb_at _ 0 256 _ r k r ⟨256 + k.val, by omega⟩ (by omega) rfl).trans (blk3_ckv m c t r k _ rfl)

theorem dqn_at (r k : Fin 256) : ∑ j, dq2B m c t (ix2 r j) * iblk m c 8 t (ix2 k j) = (args m c).dqn2 (row t r) k := by
  simp only [dq2_at, blk8]; rfl
theorem dkvn_at (r k : Fin 256) : ∑ j, dkv2B m c t (ix2 r j) * iblk m c 9 t (ix2 k j) = (args m c).dkvn2 (row t r) k := by
  simp only [dkv2_at, blk9]; rfl

/-- The gradients of the two latents, and of the shared key before its rotation. -/
def Args.dcq (p : Args) (s : Fin 4096) (k : Fin 256) : EReal := back (p.cqr s) (fun k => p.dqn2 s k * p.qw (ix1 k)) k
def Args.dckv (p : Args) (s : Fin 4096) (k : Fin 256) : EReal := back (p.ckvr s) (fun k => p.dkvn2 s k * p.kvw (ix1 k)) k
def Args.dpl (p : Args) (s : Fin 4096) (l : Fin 640) : EReal :=
  if h : l.val < 256 then p.dcq s ⟨l.val, h⟩ else if h : l.val - 256 < 256 then p.dckv s ⟨l.val - 256, h⟩ else p.dpe s ⟨l.val - 256 - 256, by omega⟩

theorem bands : (outsAt0 m c t.val t.isLt).1 = View.canon
    [⟨Rect.unit (s := S256x640) ![0, 512] ![256, 128] inb_S256x640_S256x128_0_512,
        k0_pay5 k0_pay9 (k0_pay10 (iblk m c 10 t)) (k0_pay11 (iblk m c 11 t)) (k0_pay61 (k0_pay56 (k0_pay46 (k0_pay41 (k0_pay34 (k0_pay29 (k0_pay23
          (k0_pay17 (kB m c t 0)) (kB m c t 1)) (kB m c t 2)) (kB m c t 3)) (kB m c t 4)) (kB m c t 5)) (kB m c t 6)) (kB m c t 7))⟩,
      ⟨Rect.unit (s := S256x640) ![0, 256] ![256, 256] inb_S256x640_S256x256_0_256,
        k0_pay4 (k0_pay77 (dkv2B m c t) (ckvB m c t) (iblk m c 7 t) (iblk m c 9 t))⟩,
      ⟨Rect.unit (s := S256x640) ![0, 0] ![256, 256] inb_S256x640_S256x256_0_0,
        k0_pay3 (k0_pay71 (k0_pay67 (cqB m c t)) (k0_pay68 (cqB m c t)) (k0_pay69 (dq2B m c t) (iblk m c 6 t) (iblk m c 8 t))
          (k0_pay70 (dq2B m c t) (cqB m c t) (iblk m c 6 t) (iblk m c 8 t)) (FloatOps.ofBits .f32 1132462080#32))⟩] := by
  by_cases h : t.val % 16 = 0
  · rw [outsAt0_A m c t h]; frame_out; rfl
  · rw [outsAt0_B m c t h]; frame_out; rfl

theorem final_12 : (dats m 0 c).arrAt 12 (cfgs 0).N = (fun i => (args m c).dpl (i 0) (i 1) : FVec Ideal S4096x640 .bf16) := by
  refine (dats m 0 c).arrAt_eq_of_covers 12 _ (by decide +kernel) fun t hf y => ?_
  blk_simp; rw [after0_12, bands]
  idx_vars y
  have e0 : (((cfgs 0).win 12).blk t).view.emb (ix2 y0 y1) = (ix2 (row t y0) y1 : S4096x640.Idx) := by blk_ext [idx t, row]
  refine Eq.trans ?_ (congrArg (fun i : S4096x640.Idx => (args m c).dpl (i 0) (i 1)) e0).symm
  show _ = (args m c).dpl (row t y0) y1
  unfold Args.dpl
  have hy := y1.isLt
  split_ifs with h0 h1
  · refine (Cert.Bands.band_miss _ _ _ y0 y1 (by omega)).trans ((Cert.Bands.band_miss _ _ _ y0 y1 (by omega)).trans ?_)
    refine (Cert.Bands.band_hit _ _ _ y0 y1 ⟨y1.val, h0⟩ (by show _ = 0 + y1.val; omega)).trans ?_
    rw [backq_at]
    simp only [cqB_at, dqn_at, blk6]
    rfl
  · refine (Cert.Bands.band_miss _ _ _ y0 y1 (by omega)).trans ?_
    refine (Cert.Bands.band_hit _ _ _ y0 y1 ⟨y1.val - 256, h1⟩ (by show _ = 256 + (y1.val - 256); omega)).trans ?_
    rw [backk_at]
    simp only [ckvB_at, dkvn_at, blk7]
    rfl
  · refine (Cert.Bands.band_hit _ _ _ y0 y1 ⟨y1.val - 256 - 256, by omega⟩ (by show _ = 512 + (y1.val - 256 - 256); omega)).trans ?_
    rw [rope2_at]
    simp only [blk10, blk11, kpe_at]
    rfl

/-- The gradients of the two up-projections' weights, one row of the sequence at a time. -/
def Args.guq (p : Args) (k : Fin 256) (j : Fin 2048) (s : Fin 4096) : EReal := hat (p.cqr s) k * p.qw (ix1 k) * p.dq2 s j
def Args.gukv (p : Args) (k : Fin 256) (j : Fin 2048) (s : Fin 4096) : EReal := hat (p.ckvr s) k * p.kvw (ix1 k) * p.dkv2 s j

theorem stepq_A (h : t.val % 16 = 0) (k : Fin 256) (j : Fin 2048) :
    (outsAt0 m c t.val t.isLt).2.1 (ix2 k j) = (0 : EReal) + ∑ r : Fin 256, (args m c).guq k j (row t r) := by
  have out : (outsAt0 m c t.val t.isLt).2.1 = k0_pay63 (dq2B m c t) (k0_pay62 k0_pay6) (iblk m c 4 t) := by
    rw [outsAt0_A m c t h]; frame_open
    simp (disch := decide) only [↓ View.readCov_skip, ↓ View.readCov_cons_toLoadRect, ↓ View.readCov_fill]
    frame_out; rfl
  have hD := dq2_at m c t
  rw [out]
  generalize dq2B m c t = D at hD ⊢
  pointwise [k0_pay63, k0_pay62, k0_pay6]
  simp only [hD, blk4]
  rfl
theorem stepq_B (h : ¬ t.val % 16 = 0) (k : Fin 256) (j : Fin 2048) :
    (outsAt0 m c t.val t.isLt).2.1 (ix2 k j) = ((outsAt0 m c (t.val - 1) (by omega)).2.1 (ix2 k j) : EReal) + ∑ r : Fin 256, (args m c).guq k j (row t r) := by
  have out : (outsAt0 m c t.val t.isLt).2.1 = k0_pay63 (dq2B m c t) (k0_pay62 (outsAt0 m c (t.val - 1) (by omega)).2.1) (iblk m c 4 t) := by
    rw [outsAt0_B m c t h]; frame_out; rfl
  have hD := dq2_at m c t
  rw [out]
  generalize dq2B m c t = D at hD ⊢
  pointwise [k0_pay63, k0_pay62]
  simp only [hD, blk4]
  rfl
theorem stepk_A (h : t.val % 16 = 0) (k : Fin 256) (j : Fin 2048) :
    (outsAt0 m c t.val t.isLt).2.2.1 (ix2 k j) = (0 : EReal) + ∑ r : Fin 256, (args m c).gukv k j (row t r) := by
  have out : (outsAt0 m c t.val t.isLt).2.2.1 = k0_pay64 (dkv2B m c t) k0_pay7 (iblk m c 5 t) := by
    rw [outsAt0_A m c t h]; frame_open
    simp (disch := decide) only [↓ View.readCov_skip, ↓ View.readCov_cons_toLoadRect, ↓ View.readCov_fill]
    frame_out; rfl
  have hD := dkv2_at m c t
  rw [out]
  generalize dkv2B m c t = D at hD ⊢
  pointwise [k0_pay64, k0_pay7]
  simp only [hD, blk5]
  rfl
theorem stepk_B (h : ¬ t.val % 16 = 0) (k : Fin 256) (j : Fin 2048) :
    (outsAt0 m c t.val t.isLt).2.2.1 (ix2 k j) = ((outsAt0 m c (t.val - 1) (by omega)).2.2.1 (ix2 k j) : EReal) + ∑ r : Fin 256, (args m c).gukv k j (row t r) := by
  have out : (outsAt0 m c t.val t.isLt).2.2.1 = k0_pay64 (dkv2B m c t) (outsAt0 m c (t.val - 1) (by omega)).2.2.1 (iblk m c 5 t) := by
    rw [outsAt0_B m c t h]; frame_out; rfl
  have hD := dkv2_at m c t
  rw [out]
  generalize dkv2B m c t = D at hD ⊢
  pointwise [k0_pay64]
  simp only [hD, blk5]
  rfl

theorem final_13 : (dats m 0 c).arrAt 13 (cfgs 0).N = (fun i => ∑ s : Fin 4096, (args m c).guq (i 0) (i 1) s : FVec Ideal S256x2048 .f32) := by
  refine (dats m 0 c).arrAt_eq_of_after_last 13 t0_15 (by decide +kernel) _ fun j => ?_
  blk_simp
  idx_vars j
  rw [after0_13, Pipeline.eq_sum_fin_of_reset_step_apply_last (fun n h => (outsAt0 m c n h).2.1) 16 (fun _ => (0 : EReal))
    (fun t j => (∑ r : Fin 256, (args m c).guq (j 0) (j 1) (row t r) : EReal))
    (fun t h j => by idx_vars j; exact stepq_A m c t h j0 j1) (fun t h j => by idx_vars j; exact stepq_B m c t h j0 j1) (le_of_eq N_0) t0_15 rfl (ix2 j0 j1), zero_add]
  exact (Fin.sum_univ_tiles 16 256 rfl (fun s => (args m c).guq j0 j1 s)).symm

theorem final_14 : (dats m 0 c).arrAt 14 (cfgs 0).N = (fun i => ∑ s : Fin 4096, (args m c).gukv (i 0) (i 1) s : FVec Ideal S256x2048 .f32) := by
  refine (dats m 0 c).arrAt_eq_of_after_last 14 t0_15 (by decide +kernel) _ fun j => ?_
  blk_simp
  idx_vars j
  rw [after0_14, Pipeline.eq_sum_fin_of_reset_step_apply_last (fun n h => (outsAt0 m c n h).2.2.1) 16 (fun _ => (0 : EReal))
    (fun t j => (∑ r : Fin 256, (args m c).gukv (j 0) (j 1) (row t r) : EReal))
    (fun t h j => by idx_vars j; exact stepk_A m c t h j0 j1) (fun t h j => by idx_vars j; exact stepk_B m c t h j0 j1) (le_of_eq N_0) t0_15 rfl (ix2 j0 j1), zero_add]
  exact (Fin.sum_univ_tiles 16 256 rfl (fun s => (args m c).gukv j0 j1 s)).symm

/-- What one row of the sequence adds to row `a` of the gradients of the two norms' weights. -/
def Args.gv (p : Args) (a : Fin 8) (k : Fin 256) (s : Fin 4096) : EReal :=
  if a.val = 1 then p.dkvn2 s k * hat (p.ckvr s) k else if a.val = 0 then p.dqn2 s k * hat (p.cqr s) k else 0

theorem zero_fill (i : S8x256.Idx) : k0_pay8 (F := Ideal) i = (0 : EReal) := by
  idx_vars i
  pointwise [k0_pay8]
/-- A sum over the rows of one block, for each of the two weights. -/
theorem sumk_at (z : FVec Ideal S1x256 .f32) (k : Fin 256) : (k0_pay2 (F := Ideal) (k0_pay78 (dkv2B m c t) (ckvB m c t) (iblk m c 9 t)) z (ix2 0 k) : EReal)
    = z (ix2 0 k) + ∑ r : Fin 256, (args m c).dkvn2 (row t r) k * hat ((args m c).ckvr (row t r)) k := by
  have hD := fun r => dkvn_at m c t r k
  have hx := ckvB_at m c t
  generalize dkv2B m c t = D at hD ⊢
  generalize ckvB m c t = x at hx ⊢
  pointwise [k0_pay2, k0_pay78, k0_pay73, k0_pay74, k0_pay75, k0_pay76]
  simp only [hx]
  exact congrArg (fun y => z (ix2 0 k) + y) (Finset.sum_congr rfl fun r _ => congrArg (fun y => y * _) (hD r))
theorem sumq_at (z : FVec Ideal S1x256 .f32) (k : Fin 256) : (k0_pay1 (F := Ideal) (k0_pay72 (k0_pay66 (dq2B m c t) (iblk m c 8 t)) (k0_pay68 (cqB m c t))) (k0_pay79 z) (ix2 0 k) : EReal)
    = z (ix2 0 k) + ∑ r : Fin 256, (args m c).dqn2 (row t r) k * hat ((args m c).cqr (row t r)) k := by
  have hD := fun r => dqn_at m c t r k
  have hx := cqB_at m c t
  generalize dq2B m c t = D at hD ⊢
  generalize cqB m c t = x at hx ⊢
  pointwise [k0_pay1, k0_pay72, k0_pay79, k0_pay66, k0_pay68, k0_pay67, k0_pay65]
  simp only [hx]
  exact congrArg (fun y => z (ix2 0 k) + y) (Finset.sum_congr rfl fun r _ => congrArg (fun y => y * _) (hD r))

theorem stepv_A (h : t.val % 16 = 0) (a : Fin 8) (k : Fin 256) :
    (outsAt0 m c t.val t.isLt).2.2.2 (ix2 a k) = (0 : EReal) + ∑ r : Fin 256, (args m c).gv a k (row t r) := by
  have out : (outsAt0 m c t.val t.isLt).2.2.2 = View.canon
      [⟨Rect.unit (s := S8x256) ![1, 0] ![1, 256] inb_S8x256_S1x256_1_0, k0_pay2 (k0_pay78 (dkv2B m c t) (ckvB m c t) (iblk m c 9 t))
          (View.ld (k0_pay8 (F := Ideal)) (Rect.unit (s := S8x256) ![1, 0] ![1, 256] inb_S8x256_S1x256_1_0))⟩,
        ⟨Rect.unit (s := S8x256) ![0, 0] ![1, 256] inb_S8x256_S1x256_0_0, k0_pay1 (k0_pay72 (k0_pay66 (dq2B m c t) (iblk m c 8 t)) (k0_pay68 (cqB m c t)))
          (k0_pay79 (View.ld (k0_pay8 (F := Ideal)) (Rect.unit (s := S8x256) ![0, 0] ![1, 256] inb_S8x256_S1x256_0_0)))⟩,
        ⟨Rect.unit (s := S8x256) ![0, 0] ![8, 256] inb_S8x256_S8x256_0_0, k0_pay8 (F := Ideal)⟩] := by
    rw [outsAt0_A m c t h]; frame_open
    simp (disch := decide) only [↓ View.readCov_skip, ↓ View.readCov_cons_toLoadRect, ↓ View.readCov_fill]
    frame_out; rfl
  rw [out]
  by_cases h1 : a.val = 1
  · obtain rfl : a = 1 := Fin.ext h1
    rw [Cert.Rows.canon_hit _ _ _ 1 k h1, sumk_at, ldb_at _ 1 0 _ 0 k 1 k rfl (by omega), zero_fill]
    rfl
  rw [Cert.Rows.canon_miss _ _ _ a k h1]
  by_cases h0 : a.val = 0
  · obtain rfl : a = 0 := Fin.ext h0
    rw [Cert.Rows.canon_hit _ _ _ 0 k h0, sumq_at, ldb_at _ 0 0 _ 0 k 0 k rfl (by omega), zero_fill]
    rfl
  rw [Cert.Rows.canon_miss _ _ _ a k h0]
  simp only [Args.gv, if_neg h1, if_neg h0, Finset.sum_const_zero, add_zero]
  rw [View.canon_cons_unit_lit' _ _ _ (by decide)]
  exact zero_fill _
theorem stepv_B (h : ¬ t.val % 16 = 0) (a : Fin 8) (k : Fin 256) :
    (outsAt0 m c t.val t.isLt).2.2.2 (ix2 a k) = ((outsAt0 m c (t.val - 1) (by omega)).2.2.2 (ix2 a k) : EReal) + ∑ r : Fin 256, (args m c).gv a k (row t r) := by
  rw [outsAt0_B m c t h]; frame_out
  by_cases h1 : a.val = 1
  · obtain rfl : a = 1 := Fin.ext h1
    refine (Cert.Rows.writes_hit _ _ _ _ _ 1 k h1).trans ?_
    refine (sumk_at m c t _ k).trans ?_
    rw [ldb_at _ 1 0 _ 0 k 1 k rfl (by omega)]
    rfl
  refine (Cert.Rows.writes_miss _ _ _ _ _ a k h1).trans ?_
  by_cases h0 : a.val = 0
  · obtain rfl : a = 0 := Fin.ext h0
    refine (Cert.Rows.writes_hit _ _ _ _ _ 0 k h0).trans ?_
    refine (sumq_at m c t _ k).trans ?_
    rw [ldb_at _ 0 0 _ 0 k 0 k rfl (by omega)]
    rfl
  refine (Cert.Rows.writes_miss _ _ _ _ _ a k h0).trans ?_
  simp only [Args.gv, if_neg h1, if_neg h0, Finset.sum_const_zero, add_zero]
  exact congrFun ((hs0_15 t).read_unread _) _

theorem final_15 : (dats m 0 c).arrAt 15 (cfgs 0).N = (fun i => ∑ s : Fin 4096, (args m c).gv (i 0) (i 1) s : FVec Ideal S8x256 .f32) := by
  refine (dats m 0 c).arrAt_eq_of_after_last 15 t0_15 (by decide +kernel) _ fun j => ?_
  blk_simp
  idx_vars j
  rw [after0_15, Pipeline.eq_sum_fin_of_reset_step_apply_last (fun n h => (outsAt0 m c n h).2.2.2) 16 (fun _ => (0 : EReal))
    (fun t j => (∑ r : Fin 256, (args m c).gv (j 0) (j 1) (row t r) : EReal))
    (fun t h j => by idx_vars j; exact stepv_A m c t h j0 j1) (fun t h j => by idx_vars j; exact stepv_B m c t h j0 j1) (le_of_eq N_0) t0_15 rfl (ix2 j0 j1), zero_add]
  exact (Fin.sum_univ_tiles 16 256 rfl (fun s => (args m c).gv j0 j1 s)).symm

end Cert.PrepBwdIdeal.Value

end
-- ==== Proof.PrepEq.lean ====
/- The gradient of the latent projections: the kernel's results are the reference's. -/
module

public import proofs.«01_k».proof.Proof.PrepRef
public import proofs.«01_k».proof.Proof.PrepOut
public import proofs.«01_k».proof.Proof.Gen.Pre_prep_finite

@[expose] public section

set_option maxRecDepth 16384
set_option maxHeartbeats 4000000

noncomputable section

open Idealize.ShloMosaic Idealize.ShloMosaic.TcCoe Idealize.SL.Sem
open scoped BigOperators

namespace Cert.PrepRefIdeal.Value

open Cert.PrepRefIdeal Cert.PrepRefIdeal.Gen
open Cert.PrepBwdIdeal.Value (Args ms rs hat back SC rope)
open Cert.Reals (Rl)

theorem k256_eq : Ideal.ofBits .f32 0x43800000#32 = ((256 : ℝ) : EReal) := by
  simp [Ideal.ofBits, Ideal.ieee, -EReal.coe_mul]; norm_num
theorem k64_eq : Ideal.ofBits .f32 0x42800000#32 = ((64 : ℝ) : EReal) := by
  simp [Ideal.ofBits, Ideal.ieee, -EReal.coe_mul]; norm_num
theorem k2_eq : Ideal.ofBits .f32 0x40000000#32 = ((2 : ℝ) : EReal) := by
  simp [Ideal.ofBits, Ideal.ieee, -EReal.coe_mul]; norm_num
theorem k10000_eq : Ideal.ofBits .f32 0x461C4000#32 = ((10000 : ℝ) : EReal) := by
  simp [Ideal.ofBits, Ideal.ieee, -EReal.coe_mul]; norm_num
theorem SC_real : Rl SC := ⟨9686330 / 134217728, by simp [SC, Ideal.ofBits, Ideal.ieee, -EReal.coe_mul]; norm_num⟩

/-- The arguments but the positions and the shared key are reals. -/
structure Rls (p : Args) : Prop where
  cq : ∀ i, Rl (p.cq i)
  ckv : ∀ i, Rl (p.ckv i)
  qw : ∀ i, Rl (p.qw i)
  wuq : ∀ i, Rl (p.wuq i)
  kvw : ∀ i, Rl (p.kvw i)
  wukv : ∀ i, Rl (p.wukv i)
  dqn : ∀ i, Rl (p.dqn i)
  dqr : ∀ i, Rl (p.dqr i)
  dkn : ∀ i, Rl (p.dkn i)
  dkr : ∀ i, Rl (p.dkr i)
  dv : ∀ i, Rl (p.dv i)

/-- The mean square of a row of reals and the constant. -/
def msR (X : Fin 256 → ℝ) : ℝ := (∑ k, X k * X k) / 256 + Cert.Reals.eps
theorem msR_pos (X : Fin 256 → ℝ) : 0 < msR X := Cert.Reals.ms_pos 256 (by norm_num) _
theorem ms_eq (X : Fin 256 → ℝ) : ms (fun k => (X k : EReal)) = ((msR X : ℝ) : EReal) := by
  unfold ms
  simp only [← EReal.coe_mul, Cert.Reals.coe_sum]
  rw [k256_eq, Cert.Reals.eps_eq, Cert.Reals.div_coe' (by norm_num), ← EReal.coe_add]; rfl

/-- The two ways of writing a row's gradient through its norm agree at reals. -/
theorem back_eq {v d : Fin 256 → EReal} (hv : ∀ k, Rl (v k)) (hd : ∀ k, Rl (d k)) (k : Fin 256) :
    d k * rs v + v k * qE v d + qE v d * v k = back v d k := by
  choose X hX using hv
  choose G hG using hd
  obtain rfl : v = fun k => (X k : EReal) := funext hX
  obtain rfl : d = fun k => (G k : EReal) := funext hG
  have hp := msR_pos X
  unfold back qE hat rs
  simp only [ms_eq, Cert.Reals.rsqrt_pos hp, k256_eq, Cert.Reals.neg_half_eq, ← EReal.coe_mul, Cert.Reals.coe_sum, Cert.Reals.div_coe' hp.ne',
    Cert.Reals.div_coe' (show (256 : ℝ) ≠ 0 by norm_num), ← EReal.coe_sub, ← EReal.coe_add]
  congr 1
  have hr := Cert.Reals.inv_sqrt_sq hp
  set r := (Real.sqrt (msR X))⁻¹
  have hs : (∑ i : Fin 256, G i * (X i * r)) = (∑ i : Fin 256, X i * G i) * r := by
    rw [Finset.sum_mul]; exact Finset.sum_congr rfl fun _ _ => by ring
  rw [hs]
  have : r / msR X = r * (r * r) := by rw [hr]; ring
  rw [this]; ring

theorem ang_real (p : Args) (s : Fin 4096) (i : Fin 32) : Rl (p.ang s i) := by
  have e : (FloatOps.sitofp (F := Ideal) .f32 (BitVec.ofNat 32 i.val) : EReal) = (((BitVec.ofNat 32 i.val).toInt : ℝ) : EReal) := rfl
  unfold Args.ang
  rw [e, k2_eq, k64_eq, k10000_eq, ← EReal.coe_mul, ← EReal.coe_neg, Cert.Reals.div_coe' (by norm_num), Ideal.pow_coe_coe]
  exact Rl.mul ⟨_, rfl⟩ ⟨_, rfl⟩

section
variable {p : Args} (h : Rls p) (s : Fin 4096)

theorem cosT_real (l : Fin 128) : Rl (p.cosT s l) := (ang_real p s _).cos
theorem sinT_real (l : Fin 128) : Rl (p.sinT s l) := by
  unfold Args.sinT; split_ifs
  · exact (ang_real p s _).sin.neg
  · exact (ang_real p s _).sin
theorem rope_real (g : Fin 128 → EReal) (hg : ∀ l, Rl (g l)) (l : Fin 128) : Rl (rope (p.cosT s) (p.sinT s) g l) := by
  unfold rope
  refine ((hg _).mul ((cosT_real s _).mul SC_real)).add ?_
  split_ifs <;> exact (hg _).mul ((sinT_real s _).mul SC_real)
include h
theorem dq_real (a : Fin 8) (l : Fin 256) : Rl (p.dq s a l) := by
  unfold Args.dq; split_ifs
  · exact h.dqn _
  · exact h.dqr _
  · exact ⟨0, rfl⟩
theorem dk_real (a : Fin 8) (l : Fin 256) : Rl (p.dk s a l) := by
  unfold Args.dk; split_ifs
  · exact h.dkn _
  · exact h.dkr _
  · exact ⟨0, rfl⟩
theorem dqn2_real (k : Fin 256) : Rl (p.dqn2 s k) := by
  refine Rl.sum fun j => Rl.mul ?_ ?_
  · unfold Args.dq2; split_ifs
    · exact (dq_real h s _ _).mul SC_real
    · exact rope_real s _ (fun l => dq_real h s _ _) _
  · unfold Args.wq2; split_ifs
    · exact h.wuq _
    · exact h.wuq _
    · exact ⟨0, rfl⟩
theorem dkvn2_real (k : Fin 256) : Rl (p.dkvn2 s k) := by
  refine Rl.sum fun j => Rl.mul ?_ (h.wukv _)
  unfold Args.dkv2; split_ifs
  · exact (dk_real h s _ _).mul SC_real
  · exact h.dv _

theorem scale_sum (l : Fin 64) : (∑ a : Fin 8, p.dkr (ix3 s a l)) * SC = ∑ a : Fin 8, p.dkr (ix3 s a l) * SC := by
  obtain ⟨c, hc⟩ := SC_real
  choose X hX using fun a => h.dkr (ix3 s a l)
  simp only [hX, hc, ← EReal.coe_mul, Cert.Reals.coe_sum, Finset.sum_mul]

/-- The gradient of the shared key, and nothing in the lanes that fill its row up. -/
theorem dpe_lo (l : Fin 64) : p.dpe s ⟨l.val, by omega⟩ = rot p s (fun i => ∑ a : Fin 8, p.dkr (ix3 s a i) * SC) l := by
  refine (rope_lo p s _ l).trans (congrArg (fun g => rot p s g l) (funext fun i => ?_))
  refine Eq.trans ?_ (scale_sum h s i)
  refine congrArg (fun y : EReal => y * SC) (Finset.sum_congr rfl fun a _ => ?_)
  have hi := i.isLt
  have e3 : 128 + i.val - 128 = i.val := by omega
  unfold Args.dk
  simp only [dif_neg (show ¬ 128 + i.val < 128 by omega), e3, dif_pos hi]
omit h in
theorem dpe_hi (l : Fin 64) : p.dpe s ⟨64 + l.val, by omega⟩ = 0 := by
  refine rope_hi p s _ (fun i => Finset.sum_eq_zero fun a _ => ?_) l
  unfold Args.dk
  rw [dif_neg (by show ¬ 128 + (64 + i.val) < 128; omega), dif_neg (by show ¬ 128 + (64 + i.val) - 128 < 64; omega)]
end

/-- The condition says that the arguments it names are reals. -/
theorem rls (p : Args) (h : Cert.Pre_prep_finite.fn (F := Ideal) p.pos p.cq p.ckv p.kpe p.qw p.wuq p.kvw p.wukv p.dqn p.dqr p.dkn p.dkr p.dv = fun _ => 1#1) : Rls p := by
  have e := congrFun h (fun a => a.elim0)
  simp only [Cert.Pre_prep_finite.fn, Cert.Pre_prep_finite.fn_part1, Cert.Pre_prep_finite.fn_part2, Cert.Pre_prep_finite.fn_part3, andi, IntOp.andi_eq_one] at e
  obtain ⟨⟨⟨⟨⟨⟨⟨⟨⟨⟨h0, h1⟩, h2⟩, h3⟩, h4⟩, h5⟩, h6⟩, h7⟩, h8⟩, h9⟩, h10⟩ := e
  have on {t : Shape} {a : FVec Ideal t .f32} : (∃ x : t.Idx → ℝ, a = fun i => ((x i : ℝ) : EReal)) → ∀ i, Rl (a i) :=
    fun ⟨x, hx⟩ i => ⟨x i, congrFun hx i⟩
  exact ⟨on (Cert.Reals.real_of_all _ _ _ _ _ _ _ h0), on (Cert.Reals.real_of_all _ _ _ _ _ _ _ h1), on (Cert.Reals.real_of_all _ _ _ _ _ _ _ h2),
    on (Cert.Reals.real_of_all _ _ _ _ _ _ _ h3), on (Cert.Reals.real_of_all _ _ _ _ _ _ _ h4), on (Cert.Reals.real_of_all _ _ _ _ _ _ _ h5),
    on (Cert.Reals.real_of_all _ _ _ _ _ _ _ h6), on (Cert.Reals.real_of_all _ _ _ _ _ _ _ h7), on (Cert.Reals.real_of_all _ _ _ _ _ _ _ h8),
    on (Cert.Reals.real_of_all _ _ _ _ _ _ _ h9), on (Cert.Reals.real_of_all _ _ _ _ _ _ _ h10)⟩

section
variable {W : Valuation τ sig (Elt Ideal)} (h : Rls (rargs W)) (s : Fin 4096) (d : Fin 256)
include h
theorem dcq_at : ((rargs W).dqn2 s d * (rargs W).qw (ix1 d) * rs ((rargs W).cqr s) + (rargs W).cqr s d * qE ((rargs W).cqr s) (fun k => (rargs W).dqn2 s k * (rargs W).qw (ix1 k))
    + qE ((rargs W).cqr s) (fun k => (rargs W).dqn2 s k * (rargs W).qw (ix1 k)) * (rargs W).cqr s d : EReal) = (rargs W).dcq s d :=
  back_eq (fun k => h.cq _) (d := fun k => (rargs W).dqn2 s k * (rargs W).qw (ix1 k)) (fun k => (dqn2_real h s k).mul (h.qw _)) d
theorem dckv_at : ((rargs W).dkvn2 s d * (rargs W).kvw (ix1 d) * rs ((rargs W).ckvr s) + (rargs W).ckvr s d * qE ((rargs W).ckvr s) (fun k => (rargs W).dkvn2 s k * (rargs W).kvw (ix1 k))
    + qE ((rargs W).ckvr s) (fun k => (rargs W).dkvn2 s k * (rargs W).kvw (ix1 k)) * (rargs W).ckvr s d : EReal) = (rargs W).dckv s d :=
  back_eq (fun k => h.ckv _) (d := fun k => (rargs W).dkvn2 s k * (rargs W).kvw (ix1 k)) (fun k => (dkvn2_real h s k).mul (h.kvw _)) d
theorem dpe_at (l : Fin 64) : (halves2 (res_main_v103 W) (res_main_v104 W) (res_main_v16 W) (res_main_v17 W) (ix2 s l) : EReal) = (rargs W).dpe s ⟨l.val, by omega⟩ := by
  have e103 : ∀ i : Fin 32, res_main_v103 W (ix2 s i) = ∑ a : Fin 8, (rargs W).dkr (ix3 s a ⟨i.val, by omega⟩) * SC := fun i => by
    pointwise [res_main_v103]; exact v102_at W s ⟨i.val, by omega⟩
  have e104 : ∀ i : Fin 32, res_main_v104 W (ix2 s i) = ∑ a : Fin 8, (rargs W).dkr (ix3 s a ⟨32 + i.val, by omega⟩) * SC := fun i => by
    pointwise [res_main_v104]; exact v102_at W s ⟨32 + i.val, by omega⟩
  rw [halves2_at, dpe_lo h]
  unfold rot
  refine dite_congr rfl (fun q => ?_) fun q => ?_
  · rw [e103, e104, v16_at, v17_at]
  · have q' : ¬ l.val < 32 := q
    have e : (⟨32 + (l.val - 32), by omega⟩ : Fin 64) = l := Fin.ext (by show 32 + (l.val - 32) = l.val; omega)
    rw [e103, e104, v16_at, v17_at, e]
end

/-- The reference's gradient of the latents, its four bands side by side. -/
def dplR (W : Valuation τ sig (Elt Ideal)) (y : FVec Ideal S4096x64 .f32) : FVec Ideal S4096x640 .bf16 :=
  truncf .bf16 ((concatenate S4096x640 1 [⟨S4096x256, (addf (addf (mulf (res_main_v169 W) (broadcastInDim S4096x256 ![0, 1] bcast_S4096x1_S4096x256_0_1 (res_main_v25 W))) (mulf (W (Proc.devRef .tc main_arg1)) (res_main_v180 W))) (mulf (res_main_v180 W) (W (Proc.devRef .tc main_arg1))) : FVec Ideal S4096x256 .f32)⟩,
    ⟨S4096x256, (addf (addf (mulf (res_main_v142 W) (broadcastInDim S4096x256 ![0, 1] bcast_S4096x1_S4096x256_0_1 (res_main_v45 W))) (mulf (W (Proc.devRef .tc main_arg2)) (res_main_v153 W))) (mulf (res_main_v153 W) (W (Proc.devRef .tc main_arg2))) : FVec Ideal S4096x256 .f32)⟩,
    ⟨S4096x64, y⟩, ⟨S4096x64, (broadcastInDim S4096x64 ![] bcast_S_S4096x64 (constant S_ .f32 0x00000000#32) : FVec Ideal S4096x64 .f32)⟩] concatenates_S4096x256_S4096x256_S4096x64_S4096x64_S4096x640_d1 : FVec Ideal S4096x640 .f32)) bitsLt_bf16_f32

open Cert.PrepBwdIdeal.Value (args) in
theorem algebraic : Cert.algebraic_PrepBwdIdeal_PrepRefIdeal_pre_prep_finite (hPrepBwdIdeal := Cert.PrepBwdIdeal.Gen.facts)
    (hPrepRefIdeal := Cert.PrepRefIdeal.Gen.facts) (hPre_prep_finite := Cert.Pre_prep_finite.Gen.facts) := by
  intro m g m' g' hpre hargs
  refine ⟨_, _, _, _, Cert.PrepBwdIdeal.Value.run_blocks m g, (θ_run _ _ _).mono (fun r h c => ?_) (Cert.PrepRefIdeal.Value.run m' g')⟩
  obtain ⟨e0, e1, e2, e3, e4, e5, e6, e7, e8, e9, e10, e11, e12⟩ := hargs c
  obtain ⟨v0, v1, v2, v3, hk⟩ := h c
  have hr : Rls (args m c) := rls (args m c) (hpre c)
  have hw : rargs (StableHlo.launchContents m' c) = args m c := Args.ext e0 e1 e2 e3 e4 e5 e6 e7 e8 e9 e10 e11 e12
  clear h hargs hpre
  generalize StableHlo.launchContents m' c = W at *
  rw [← hw] at hr
  refine ⟨v0.trans ?_, v1.trans ?_, v2.trans ?_, v3.trans ?_, hk⟩
  all_goals clear v0 v1 v2 v3 hk e0 e1 e2 e3 e4 e5 e6 e7 e8 e9 e10 e11 e12
  · rw [Cert.PrepBwdIdeal.Value.final_12, ← hw]
    funext i; idx_vars i
    show dplR W (halves2 (res_main_v103 W) (res_main_v104 W) (res_main_v16 W) (res_main_v17 W)) (ix2 i0 i1) = (rargs W).dpl i0 i1
    have hy := dpe_at hr i0
    generalize halves2 (res_main_v103 W) (res_main_v104 W) (res_main_v16 W) (res_main_v17 W) = y at hy ⊢
    pointwise [dplR]
    have hi := i1.isLt
    unfold Args.dpl
    refine dite_congr rfl (fun q => ?_) fun q => dite_congr rfl (fun q2 => ?_) fun q2 => ?_
    · rw [v169_at, v25_at, v180_at]; exact dcq_at hr i0 _
    · rw [v142_at, v45_at, v153_at]; exact dckv_at hr i0 _
    · by_cases q3 : i1.val - 256 - 256 < 64
      · exact (dif_pos q3).trans (hy ⟨_, q3⟩)
      · refine (dif_neg q3).trans (Eq.trans ?_ (dpe_hi (p := rargs W) i0 ⟨i1.val - 256 - 256 - 64, by omega⟩)).symm
        exact congrArg ((rargs W).dpe i0) (Fin.ext (by show i1.val - 256 - 256 = 64 + (i1.val - 256 - 256 - 64); omega))
  · rw [Cert.PrepBwdIdeal.Value.final_13, ← hw]
    funext i; idx_vars i
    have hi := i1.isLt
    pointwise
    unfold Args.guq
    by_cases q : i1.val < 1024
    · rw [dif_pos q, v187_at]
      refine congrArg (fun f : Fin 4096 → EReal => ∑ s, f s) (funext fun s => (mul_comm _ _).trans (congrArg (fun x : EReal => hat ((rargs W).cqr s) i0 * (rargs W).qw (ix1 i0) * x) ?_))
      have e := dq2_lo (rargs W) s ⟨i1.val / 128, by omega⟩ ⟨i1.val % 128, by omega⟩
      refine (dif_pos (by show i1.val % 128 < 128; omega)).trans (e.symm.trans (congrArg ((rargs W).dq2 s) (Fin.ext ?_)))
      show i1.val / 128 * 128 + i1.val % 128 = i1.val; omega
    by_cases q2 : (i1.val - 1024) % 128 < 64
    · rw [dif_neg q, dif_pos q2, v187_at]
      refine congrArg (fun f : Fin 4096 → EReal => ∑ s, f s) (funext fun s => (mul_comm _ _).trans (congrArg (fun x : EReal => hat ((rargs W).cqr s) i0 * (rargs W).qw (ix1 i0) * x) ?_))
      have e := dq2_hi (rargs W) s ⟨(i1.val - 1024) / 128, by omega⟩ ⟨(i1.val - 1024) % 128, q2⟩
      refine (dif_neg (by show ¬ 128 + (i1.val - 1024) % 128 < 128; omega)).trans (Eq.trans ?_ (e.symm.trans (congrArg ((rargs W).dq2 s) (Fin.ext ?_))))
      · exact congrArg (rot _ s _) (Fin.ext (by show 128 + (i1.val - 1024) % 128 - 128 = (i1.val - 1024) % 128; omega))
      · show 1024 + ((i1.val - 1024) / 128 * 128 + (i1.val - 1024) % 128) = i1.val; omega
    · rw [dif_neg q, dif_neg q2]
      show (0 : EReal) = _
      refine (Finset.sum_eq_zero fun s _ => ?_).symm
      have e := dq2_none (rargs W) s ⟨(i1.val - 1024) / 128, by omega⟩ ⟨(i1.val - 1024) % 128 - 64, by omega⟩
      have e2 : i1 = ⟨1024 + ((i1.val - 1024) / 128 * 128 + (64 + ((i1.val - 1024) % 128 - 64))), by omega⟩ := Fin.ext (by show i1.val = 1024 + ((i1.val - 1024) / 128 * 128 + (64 + ((i1.val - 1024) % 128 - 64))); omega)
      rw [e2]
      exact (congrArg (fun x : EReal => hat ((rargs W).cqr s) i0 * (rargs W).qw (ix1 i0) * x) e).trans (mul_zero _)
  · rw [Cert.PrepBwdIdeal.Value.final_14, ← hw]
    funext i; idx_vars i
    pointwise
    simp only [v134_at, v53_at]
    exact congrArg (fun f : Fin 4096 → EReal => ∑ s, f s) (funext fun s => mul_comm _ _)
  · rw [Cert.PrepBwdIdeal.Value.final_15, ← hw]
    funext i; idx_vars i
    fin_cases i0 <;> pointwise
    all_goals (try simp only [Finset.univ_unique, Finset.sum_singleton, v30_at, v50_at, v164_at, v137_at])
    · exact Finset.sum_congr rfl fun k _ => mul_comm _ _
    · exact Finset.sum_congr rfl fun k _ => mul_comm _ _
    all_goals exact (Finset.sum_eq_zero fun k _ => rfl).symm

end Cert.PrepRefIdeal.Value

end
-- ==== Proof.NormEq.lean ====
/- The norm before the layer with its modulation: the kernel's result and the reference's are the same function. -/
module

public import proofs.«01_k».proof.Defs
public import proofs.«01_k».proof.Proof.Gen.AdaNormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdaNormIdeal.Value

open Cert.AdaNormIdeal Cert.AdaNormIdeal.Gen

/-- Row `s` of `x` divided by the root of its mean square, times the weight, then scaled and shifted by the modulation. -/
def normed (x : FVec Ideal S4096x1024 .f32) (w sh sc : FVec Ideal S1024 .f32) (s : Fin 4096) (d : Fin 1024) : EReal :=
  x (ix2 s d) * Ideal.rsqrt (Ideal.div (∑ k : Fin 1024, x (ix2 s k) * x (ix2 s k)) (Ideal.ofBits .f32 0x44800000#32) + Ideal.ofBits .f32 0x358637BD#32)
    * w (ix1 d) * (1 + sc (ix1 d)) + sh (ix1 d)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- The array row of row `r` of block `t`. -/
def row (t : Fin cfg0.N) (r : Fin 256) : Fin 4096 := ⟨t.val * 256 + r.val, by have := t.isLt; have : cfg0.N = 16 := N_0; omega⟩

theorem blk0 (c : Dev nD) (t : Fin cfg0.N) (r : Fin 256) (d : Fin 1024) :
    iblk m c 0 t (ix2 r d) = (m ((c : Thread nD τ).loc main_arg0) : FVec Ideal S4096x1024 .f32) (ix2 (row t r) d) := by
  blk_ext [iblk, V, idx t, row]

theorem blk1 (c : Dev nD) (t : Fin cfg0.N) (d : Fin 1024) :
    iblk m c 1 t (ix2 0 d) = (m ((c : Thread nD τ).loc main_arg1) : FVec Ideal S1024 .f32) (ix1 d) := by
  blk_simp [iblk, idx t]
  simp only [V, hostOps0]
  entry_read
  pointwise
  blk_ext [idx t, row]
theorem blk2 (c : Dev nD) (t : Fin cfg0.N) (d : Fin 1024) :
    iblk m c 2 t (ix2 0 d) = (m ((c : Thread nD τ).loc main_arg2) : FVec Ideal S1024 .f32) (ix1 d) := by
  blk_simp [iblk, idx t]
  simp only [V, hostOps0]
  entry_read
  pointwise
  blk_ext [idx t, row]
theorem blk3 (c : Dev nD) (t : Fin cfg0.N) (d : Fin 1024) :
    iblk m c 3 t (ix2 0 d) = (m ((c : Thread nD τ).loc main_arg3) : FVec Ideal S1024 .f32) (ix1 d) := by
  blk_simp [iblk, idx t]
  simp only [V, hostOps0]
  entry_read
  pointwise
  blk_ext [idx t, row]

theorem final_4 (c : Dev nD) : (dats m 0 c).arrAt 4 (cfgs 0).N
    = (fun i => normed (m ((c : Thread nD τ).loc main_arg0)) (m ((c : Thread nD τ).loc main_arg1)) (m ((c : Thread nD τ).loc main_arg2))
        (m ((c : Thread nD τ).loc main_arg3)) (i 0) (i 1) : FVec Ideal S4096x1024 .bf16) := by
  refine (dats m 0 c).arrAt_eq_of_covers 4 _ (by decide +kernel) fun t hf y => ?_
  blk_simp; rw [after0_4]
  have out : out0_4 (iblk m c 0 t) (iblk m c 1 t) (iblk m c 2 t) (iblk m c 3 t) = k0_pay1 (iblk m c 0 t) (iblk m c 1 t) (iblk m c 3 t) (iblk m c 2 t) := by frame_out
  rw [out]
  idx_vars y
  have e0 : (((cfgs 0).win 4).blk t).view.emb (ix2 y0 y1) = (ix2 (row t y0) y1 : S4096x1024.Idx) := by blk_ext [idx t, row]
  have e : k0_pay1 (iblk m c 0 t) (iblk m c 1 t) (iblk m c 3 t) (iblk m c 2 t) (ix2 y0 y1)
      = normed (m ((c : Thread nD τ).loc main_arg0)) (m ((c : Thread nD τ).loc main_arg1)) (m ((c : Thread nD τ).loc main_arg2))
        (m ((c : Thread nD τ).loc main_arg3)) (row t y0) y1 := by
    pointwise [k0_pay1]; simp only [blk0, blk1, blk2, blk3]; rfl
  rw [e]
  exact (congrArg (fun i : S4096x1024.Idx => normed (m ((c : Thread nD τ).loc main_arg0)) (m ((c : Thread nD τ).loc main_arg1)) (m ((c : Thread nD τ).loc main_arg2))
        (m ((c : Thread nD τ).loc main_arg3)) (i 0) (i 1)) e0).symm

theorem algebraic : Cert.algebraic_AdaNormIdeal_NormRefIdeal (hAdaNormIdeal := Cert.AdaNormIdeal.Gen.facts)
    (hNormRefIdeal := Cert.NormRefIdeal.Gen.facts) := by
  intro m g m' g' _ hargs
  refine ⟨_, run_blocks m g, (θ_run _ _ _).mono (fun r h c => ?_) (Cert.NormRefIdeal.Value.run m' g')⟩
  obtain ⟨e0, e1, e2, e3⟩ := hargs c
  obtain ⟨v0, hk⟩ := h c
  refine ⟨v0.trans ?_, hk⟩
  rw [final_4, ← e0, ← e1, ← e2, ← e3]
  funext i; idx_vars i
  pointwise
  rfl

end Cert.AdaNormIdeal.Value

end
-- ==== Proof.PrepFwdPt.lean ====
/- From the latents to the attention's operands: what the kernel reads, and its formulas over the whole arrays. -/
module

public import proofs.«01_k».proof.Defs
public import proofs.«01_k».proof.Proof.Gen.PrepFwdIdeal.Value
public import Idealize.ShloMosaic.Lib.Pipeline.ValueKit
public import Idealize.ShloMosaic.Lib.Pointwise
public import Idealize.ShloMosaic.Lib.WritesUnit
public import proofs.«01_k».proof.Proof.Rows
public import proofs.«01_k».proof.Proof.Reals

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen

/-- The arguments of the call. -/
@[ext] structure Args where
  pos : IVec S4096 32
  cq : FVec Ideal S4096x256 .f32
  ckv : FVec Ideal S4096x256 .f32
  kpe : FVec Ideal S4096x64 .f32
  qw : FVec Ideal S256 .f32
  wuq : FVec Ideal S256x1536 .f32
  kvw : FVec Ideal S256 .f32
  wukv : FVec Ideal S256x2048 .f32

variable (m : (ℓ : Loc nD τ sig) → Buf (Elt Ideal) ℓ)

/-- The arguments one device holds. -/
abbrev args (c : Dev nD) : Args where
  pos := m ((c : Thread nD τ).loc main_arg0)
  cq := m ((c : Thread nD τ).loc main_arg1)
  ckv := m ((c : Thread nD τ).loc main_arg2)
  kpe := m ((c : Thread nD τ).loc main_arg3)
  qw := m ((c : Thread nD τ).loc main_arg4)
  wuq := m ((c : Thread nD τ).loc main_arg5)
  kvw := m ((c : Thread nD τ).loc main_arg6)
  wukv := m ((c : Thread nD τ).loc main_arg7)

/-- A row of 256 divided by the root of its mean square. -/
def unit (v : Fin 256 → EReal) (k : Fin 256) : EReal :=
  v k * Ideal.rsqrt (Ideal.div (∑ k, v k * v k) (Ideal.ofBits .f32 0x43800000#32) + Ideal.ofBits .f32 0x358637BD#32)

/-- The rotation of a row of 128 by tables of cosines and of signed sines. -/
def turn (cs sn g : Fin 128 → EReal) (l : Fin 128) : EReal :=
  g l * cs l + (if l.val % 64 < 32 then g ⟨(l.val + 128 - 96) % 128, by omega⟩ else g ⟨(l.val + 128 - 32) % 128, by omega⟩) * sn l

namespace Args
variable (p : Args) (s : Fin 4096)

/-- The angle of position `s` at frequency `i`. -/
def ang (i : Fin 32) : EReal :=
  (FloatOps.sitofp (F := Ideal) .f32 (p.pos (ix1 s)) : EReal) * Ideal.pow (Ideal.ofBits .f32 0x461C4000#32)
    (Ideal.div (-(Ideal.ofBits .f32 0x40000000#32 * (FloatOps.sitofp (F := Ideal) .f32 (BitVec.ofNat 32 i.val) : EReal))) (Ideal.ofBits .f32 0x42800000#32))
/-- The cosine and the signed sine as the kernel's tables hold them, lane by lane. -/
def cosT (l : Fin 128) : EReal := Ideal.cos (p.ang s ⟨l.val % 32, by omega⟩)
def sinT (l : Fin 128) : EReal :=
  if l.val % 64 < 32 then -Ideal.sin (p.ang s ⟨l.val % 32, by omega⟩) else Ideal.sin (p.ang s ⟨l.val % 32, by omega⟩)
/-- The weights of the query heads as the kernel's layout holds them: the first parts of all heads, then the second parts filled up with zeros. -/
def wq2 (k : Fin 256) (j : Fin 2048) : EReal :=
  if h0 : j.val < 1024 then p.wuq (ix2 k ⟨j.val / 128 * 192 + j.val % 128, by omega⟩)
  else if h1 : (j.val - 1024) % 128 < 64 then p.wuq (ix2 k ⟨(j.val - 1024) / 128 * 192 + (128 + (j.val - 1024) % 128), by omega⟩) else 0
/-- The normed latents, and the shared rotary key filled up with zeros. -/
def qn (k : Fin 256) : EReal := unit (fun k => p.cq (ix2 s k)) k * p.qw (ix1 k)
def kvn (k : Fin 256) : EReal := unit (fun k => p.ckv (ix2 s k)) k * p.kvw (ix1 k)
def kpe2 (l : Fin 128) : EReal := if h : l.val < 64 then p.kpe (ix2 s ⟨l.val, h⟩) else 0
/-- The up-projected queries in the kernel's layout, and the up-projected keys and values. -/
def uq2 (j : Fin 2048) : EReal := ∑ k, p.qn s k * p.wq2 k j
def ukv (j : Fin 2048) : EReal := ∑ k, p.kvn s k * p.wukv (ix2 k j)
/-- The attention's operands, head by head. -/
def oq (h : Fin 8) (l : Fin 256) : EReal :=
  if l.val < 128 then p.uq2 s ⟨128 * h.val + l.val % 128, by omega⟩
  else turn (p.cosT s) (p.sinT s) (fun i => p.uq2 s ⟨1024 + 128 * h.val + i.val, by omega⟩) ⟨l.val - 128, by omega⟩
def ok (h : Fin 8) (l : Fin 256) : EReal :=
  if l.val < 128 then p.ukv s ⟨256 * h.val + l.val % 128, by omega⟩ else turn (p.cosT s) (p.sinT s) (p.kpe2 s) ⟨l.val - 128, by omega⟩
def ov (h : Fin 8) (l : Fin 256) : EReal :=
  if l.val < 128 then p.ukv s ⟨256 * h.val + 128 + l.val % 128, by omega⟩ else 1

theorem oq_lo (h : Fin 8) (i : Fin 128) : p.oq s h ⟨i.val, by omega⟩ = p.uq2 s ⟨128 * h.val + i.val, by omega⟩ := by
  unfold oq
  rw [if_pos i.isLt]
  exact congrArg (p.uq2 s) (Fin.ext (by show 128 * h.val + i.val % 128 = 128 * h.val + i.val; omega))
theorem oq_hi (h : Fin 8) (i : Fin 128) : p.oq s h ⟨128 + i.val, by omega⟩
    = turn (p.cosT s) (p.sinT s) (fun i => p.uq2 s ⟨1024 + 128 * h.val + i.val, by omega⟩) i := by
  unfold oq
  rw [if_neg (by show ¬ 128 + i.val < 128; omega)]
  exact congrArg (turn _ _ _) (Fin.ext (by show 128 + i.val - 128 = i.val; omega))
theorem ok_lo (h : Fin 8) (i : Fin 128) : p.ok s h ⟨i.val, by omega⟩ = p.ukv s ⟨256 * h.val + i.val, by omega⟩ := by
  unfold ok
  rw [if_pos i.isLt]
  exact congrArg (p.ukv s) (Fin.ext (by show 256 * h.val + i.val % 128 = 256 * h.val + i.val; omega))
theorem ok_hi (h : Fin 8) (i : Fin 128) : p.ok s h ⟨128 + i.val, by omega⟩ = turn (p.cosT s) (p.sinT s) (p.kpe2 s) i := by
  unfold ok
  rw [if_neg (by show ¬ 128 + i.val < 128; omega)]
  exact congrArg (turn _ _ _) (Fin.ext (by show 128 + i.val - 128 = i.val; omega))
theorem ov_lo (h : Fin 8) (i : Fin 128) : p.ov s h ⟨i.val, by omega⟩ = p.ukv s ⟨256 * h.val + 128 + i.val, by omega⟩ := by
  unfold ov
  rw [if_pos i.isLt]
  exact congrArg (p.ukv s) (Fin.ext (by show 256 * h.val + 128 + i.val % 128 = 256 * h.val + 128 + i.val; omega))
theorem ov_hi (h : Fin 8) (i : Fin 128) : p.ov s h ⟨128 + i.val, by omega⟩ = 1 := by
  unfold ov
  rw [if_neg (by show ¬ 128 + i.val < 128; omega)]
end Args

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, t.val, 0]
    ∧ win0_10.index t = ![0, t.val, 0] ∧ win0_11.index t = ![0, t.val, 0] :=
  (by decide +kernel : ∀ t : Fin grid0.N, _)

/-- The array row of row `r` of block `t`. -/
def row (t : Fin cfg0.N) (r : Fin 256) : Fin 4096 := ⟨t.val * 256 + r.val, by have := t.isLt; have : cfg0.N = 16 := N_0; omega⟩

/-- The latents side by side. -/
def lat (x y : FVec Ideal S4096x256 .f32) (z : FVec Ideal S4096x64 .f32) : FVec Ideal S4096x640 .f32 :=
  concatenate S4096x640 1 [⟨S4096x256, x⟩, ⟨S4096x256, y⟩, ⟨S4096x64, z⟩,
    ⟨S4096x64, broadcastInDim S4096x64 ![] bcast_S_S4096x64 (constant (F := Ideal) S_ .f32 0x00000000#32)⟩]
    concatenates_S4096x256_S4096x256_S4096x64_S4096x64_S4096x640_d1

theorem lat_at (x y : FVec Ideal S4096x256 .f32) (z : FVec Ideal S4096x64 .f32) (r : Fin 4096) (l : Fin 640) :
    lat x y z (ix2 r l) = if h0 : l.val < 256 then x (ix2 r ⟨l.val, h0⟩) else if h1 : l.val - 256 < 256 then y (ix2 r ⟨l.val - 256, h1⟩)
      else if h2 : l.val - 256 - 256 < 64 then z (ix2 r ⟨l.val - 256 - 256, h2⟩) else (0 : EReal) := by
  unfold lat
  pointwise

theorem host0 (c : Dev nD) : V m c main_v35 = lat (m ((c : Thread nD τ).loc main_arg1)) (m ((c : Thread nD τ).loc main_arg2)) (m ((c : Thread nD τ).loc main_arg3)) := by
  simp only [V, hostOps0, hostOps0_1, hostOps0_2, List.flatten_cons, List.flatten_nil, List.cons_append, List.nil_append, List.append_nil]
  after_results_simp
  try dsimp only [Matrix.cons_val]
  try after_results_simp
  rfl

section
variable (c : Dev nD) (t : Fin cfg0.N)

theorem blk0 (r : Fin 256) (l : Fin 640) : iblk m c 0 t (ix2 r l) = lat (args m c).cq (args m c).ckv (args m c).kpe (ix2 (row t r) l) := by
  have e : (win0_0.blk t).view.emb (ix2 r l) = ix2 (row t r) l := by blk_ext [idx t, row]
  exact (congrFun (host0 m c) _).trans (congrArg _ e)

theorem blk1 (k : Fin 256) : iblk m c 1 t (ix2 0 k) = (args m c).qw (ix1 k) := by
  blk_simp [iblk, idx t]
  simp only [V, hostOps0, hostOps0_1, hostOps0_2, List.flatten_cons, List.flatten_nil, List.cons_append, List.nil_append, List.append_nil]
  entry_read
  pointwise
  blk_ext [idx t, row]

theorem blk2 (k : Fin 256) : iblk m c 2 t (ix2 0 k) = (args m c).kvw (ix1 k) := by
  blk_simp [iblk, idx t]
  simp only [V, hostOps0, hostOps0_1, hostOps0_2, List.flatten_cons, List.flatten_nil, List.cons_append, List.nil_append, List.append_nil]
  entry_read
  pointwise
  blk_ext [idx t, row]

theorem blk3 (k : Fin 256) (j : Fin 2048) : iblk m c 3 t (ix2 k j) = (args m c).wq2 k j := by
  blk_simp [iblk, idx t]
  simp only [V, hostOps0, hostOps0_1, hostOps0_2, List.flatten_cons, List.flatten_nil, List.cons_append, List.nil_append, List.append_nil]
  entry_read
  simp -implicitDefEqProofs only [StableHlo.TRef.toBuf, StableHlo.TRef.ofBuf, cast_cast, cast_eq]
  pointwise
  blk_simp [idx t]
  unfold Args.wq2
  refine dite_congr rfl (fun h0 => ?_) fun h0 => dite_congr (propext ⟨fun h => h.2, fun h => ⟨by omega, h⟩⟩) (fun h1 => ?_) fun h1 => ?_
  · blk_ext [idx t, row]
  · blk_ext [idx t, row]
  · exact Cert.Reals.sitofp_zero

theorem blk4 (k : Fin 256) (j : Fin 2048) : iblk m c 4 t (ix2 k j) = (args m c).wukv (ix2 k j) := by
  blk_simp [iblk, idx t]
  simp only [V, hostOps0, hostOps0_1, hostOps0_2, List.flatten_cons, List.flatten_nil, List.cons_append, List.nil_append, List.append_nil]
  entry_read
  pointwise
  blk_ext [idx t, row]

theorem blk5 (r : Fin 256) (l : Fin 128) : iblk m c 5 t (ix2 r l) = (args m c).cosT (row t r) l := by
  blk_simp [iblk, idx t]
  simp only [V, hostOps0, hostOps0_1, hostOps0_2, List.flatten_cons, List.flatten_nil, List.cons_append, List.nil_append, List.append_nil]
  entry_read
  pointwise
  have e : (win0_5.blk t).view.emb (ix2 r l) = ix2 (row t r) l := by blk_ext [idx t, row]
  rw [e]; rfl

theorem blk6 (r : Fin 256) (l : Fin 128) : iblk m c 6 t (ix2 r l) = (args m c).sinT (row t r) l := by
  blk_simp [iblk, idx t]
  simp only [V, hostOps0, hostOps0_1, hostOps0_2, List.flatten_cons, List.flatten_nil, List.cons_append, List.nil_append, List.append_nil]
  entry_read
  pointwise
  have e : (win0_6.blk t).view.emb (ix2 r l) = ix2 (row t r) l := by blk_ext [idx t, row]
  blk_simp [idx t]
  unfold Args.sinT
  by_cases h : l.val % 64 < 32
  · rw [dif_pos h, if_pos h, e]
    have h' : l.val % 64 = l.val % 32 := by omega
    simp only [h']; rfl
  · rw [dif_neg h, if_neg h, e]
    have h' : l.val % 64 - 32 = l.val % 32 := by omega
    simp only [h']; rfl

end

end Cert.PrepFwdIdeal.Value

end
-- ==== Proof.PrepFwdRef.lean ====
/- From the latents to the attention's operands: the entries of the reference's values. -/
module

public import proofs.«01_k».proof.Proof.PrepFwdPt
public import proofs.«01_k».proof.Proof.Gen.PrepFwdRefIdeal.Run

@[expose] public section

set_option maxRecDepth 16384
set_option maxHeartbeats 4000000

noncomputable section

open Idealize.ShloMosaic Idealize.ShloMosaic.TcCoe Idealize.SL.Sem
open scoped BigOperators

namespace Cert.PrepFwdRefIdeal.Value

open Cert.PrepFwdRefIdeal Cert.PrepFwdRefIdeal.Gen
open Cert.PrepFwdIdeal.Value (Args unit turn)

/-- The angles, the norm, the two rotations, and the layout of the heads, as the reference's operations. -/
def ang2 (pos : IVec S4096 32) : FVec Ideal S4096x32 .f32 :=
  mulf (broadcastInDim S4096x32 ![0, 1] bcast_S4096x1_S4096x32_0_1 (broadcastInDim S4096x1 ![0] bcast_S4096_S4096x1_0 (sitofp .f32 pos)))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
            (mulf (broadcastInDim S32 ![] bcast_S_S32 (constant S_ .f32 0x40000000#32)) (sitofp .f32 (iotaInDim S32 32 0)))))
          (broadcastInDim S32 ![] bcast_S_S32 (constant S_ .f32 0x42800000#32))))))
def normed (x : FVec Ideal S4096x256 .f32) (w : FVec Ideal S256 .f32) : FVec Ideal S4096x256 .f32 :=
  mulf (mulf x (broadcastInDim S4096x256 ![0, 1] bcast_S4096x1_S4096x256_0_1 (Host.rsqrt (addf (Host.divf
      (broadcastInDim S4096x1 ![0] bcast_S4096_S4096x1_0 (Host.reduceAdd (mulf x x) (constant S_ .f32 0x00000000#32) reducesTo_S4096x256_S4096_d1 h_S_))
      (broadcastInDim S4096x1 ![] bcast_S_S4096x1 (constant S_ .f32 0x43800000#32))) (broadcastInDim S4096x1 ![] bcast_S_S4096x1 (constant S_ .f32 0x358637BD#32))))))
    (broadcastInDim S4096x256 ![0, 1] bcast_S1x256_S4096x256_0_1 (broadcastInDim S1x256 ![1] bcast_S256_S1x256_1 w))
def upq (n : FVec Ideal S4096x256 .f32) (w : FVec Ideal S256x1536 .f32) : FVec Ideal S4096x8x192 .f32 :=
  shapeCast _ (Host.dotGeneral dot_S4096x256_S256x1536_S4096x1536_1_0_0_1_n_n none n w) shapeCasts_S4096x1536_S4096x8x192
def upkv (n : FVec Ideal S4096x256 .f32) (w : FVec Ideal S256x2048 .f32) : FVec Ideal S4096x8x256 .f32 :=
  shapeCast _ (Host.dotGeneral dot_S4096x256_S256x2048_S4096x2048_1_0_0_1_n_n none n w) shapeCasts_S4096x2048_S4096x8x256
def rot3 (u : FVec Ideal S4096x8x64 .f32) (cs sn : FVec Ideal S4096x32 .f32) : FVec Ideal S4096x8x64 .f32 :=
  concatenate S4096x8x64 2 [⟨S4096x8x32, subf
      (mulf (extractStridedSlice S4096x8x32 ![0, 0, 0] u slices_S4096x8x64_S4096x8x32_0_0_0)
        (broadcastInDim S4096x8x32 ![0, 1, 2] bcast_S4096x1x32_S4096x8x32_0_1_2 (broadcastInDim S4096x1x32 ![0, 2] bcast_S4096x32_S4096x1x32_0_2 cs)))
      (mulf (extractStridedSlice S4096x8x32 ![0, 0, 32] u slices_S4096x8x64_S4096x8x32_0_0_32)
        (broadcastInDim S4096x8x32 ![0, 1, 2] bcast_S4096x1x32_S4096x8x32_0_1_2 (broadcastInDim S4096x1x32 ![0, 2] bcast_S4096x32_S4096x1x32_0_2 sn)))⟩,
    ⟨S4096x8x32, addf
      (mulf (extractStridedSlice S4096x8x32 ![0, 0, 0] u slices_S4096x8x64_S4096x8x32_0_0_0)
        (broadcastInDim S4096x8x32 ![0, 1, 2] bcast_S4096x1x32_S4096x8x32_0_1_2 (broadcastInDim S4096x1x32 ![0, 2] bcast_S4096x32_S4096x1x32_0_2 sn)))
      (mulf (extractStridedSlice S4096x8x32 ![0, 0, 32] u slices_S4096x8x64_S4096x8x32_0_0_32)
        (broadcastInDim S4096x8x32 ![0, 1, 2] bcast_S4096x1x32_S4096x8x32_0_1_2 (broadcastInDim S4096x1x32 ![0, 2] bcast_S4096x32_S4096x1x32_0_2 cs)))⟩]
    concatenates_S4096x8x32_S4096x8x32_S4096x8x64_d2
def rot2 (u : FVec Ideal S4096x64 .f32) (cs sn : FVec Ideal S4096x32 .f32) : FVec Ideal S4096x64 .f32 :=
  concatenate S4096x64 1 [⟨S4096x32, subf (mulf (extractStridedSlice S4096x32 ![0, 0] u slices_S4096x64_S4096x32_0_0) cs)
      (mulf (extractStridedSlice S4096x32 ![0, 32] u slices_S4096x64_S4096x32_0_32) sn)⟩,
    ⟨S4096x32, addf (mulf (extractStridedSlice S4096x32 ![0, 0] u slices_S4096x64_S4096x32_0_0) sn)
      (mulf (extractStridedSlice S4096x32 ![0, 32] u slices_S4096x64_S4096x32_0_32) cs)⟩] concatenates_S4096x32_S4096x32_S4096x64_d1
def fill (a : FVec Ideal S4096x8x128 .f32) (b : FVec Ideal S4096x8x64 .f32) : FVec Ideal S8x4096x256 .bf16 :=
  truncf .bf16 (transpose S8x4096x256 [1, 0, 2] (concatenate S4096x8x256 2 [⟨S4096x8x128, a⟩, ⟨S4096x8x64, b⟩,
    ⟨S4096x8x64, broadcastInDim S4096x8x64 ![] bcast_S_S4096x8x64 (constant (F := Ideal) S_ .f32 0x00000000#32)⟩]
    concatenates_S4096x8x128_S4096x8x64_S4096x8x64_S4096x8x256_d2) transposes_S4096x8x256_S8x4096x256_1_0_2) bitsLt_bf16_f32
def ones (a : FVec Ideal S4096x8x128 .f32) : FVec Ideal S8x4096x256 .bf16 :=
  truncf .bf16 (transpose S8x4096x256 [1, 0, 2] (concatenate S4096x8x256 2 [⟨S4096x8x128, a⟩,
    ⟨S4096x8x128, broadcastInDim S4096x8x128 ![] bcast_S_S4096x8x128 (constant (F := Ideal) S_ .f32 0x3F800000#32)⟩]
    concatenates_S4096x8x128_S4096x8x128_S4096x8x256_d2) transposes_S4096x8x256_S8x4096x256_1_0_2) bitsLt_bf16_f32

section entries
variable (p : Args) (s : Fin 4096) (h : Fin 8)

/-- The rotation of a row of 64. -/
def rot (p : Args) (s : Fin 4096) (g : Fin 64 → EReal) (l : Fin 64) : EReal :=
  if q : l.val < 32 then g ⟨l.val, by omega⟩ * Ideal.cos (p.ang s ⟨l.val, q⟩) - g ⟨32 + l.val, by omega⟩ * Ideal.sin (p.ang s ⟨l.val, q⟩)
  else g ⟨l.val - 32, by omega⟩ * Ideal.sin (p.ang s ⟨l.val - 32, by omega⟩) + g ⟨32 + (l.val - 32), by omega⟩ * Ideal.cos (p.ang s ⟨l.val - 32, by omega⟩)
/-- The up-projected queries, column by column. -/
def uq (p : Args) (s : Fin 4096) (j : Fin 1536) : EReal := ∑ k, p.qn s k * p.wuq (ix2 k j)

theorem ang_at (i : Fin 32) : ang2 p.pos (ix2 s i) = p.ang s i := by
  pointwise [ang2]; rfl
theorem cos_at (i : Fin 32) : Host.cos (ang2 p.pos) (ix2 s i) = Ideal.cos (p.ang s i) :=
  congrArg Ideal.cos (ang_at p s i)
theorem sin_at (i : Fin 32) : Host.sin (ang2 p.pos) (ix2 s i) = Ideal.sin (p.ang s i) :=
  congrArg Ideal.sin (ang_at p s i)
theorem qn_at (k : Fin 256) : normed p.cq p.qw (ix2 s k) = p.qn s k := by
  pointwise [normed]; rfl
theorem kvn_at (k : Fin 256) : normed p.ckv p.kvw (ix2 s k) = p.kvn s k := by
  pointwise [normed]; rfl
theorem upq_at (l : Fin 192) : upq (normed p.cq p.qw) p.wuq (ix3 s h l) = uq p s ⟨h.val * 192 + l.val, by omega⟩ := by
  have hn := qn_at p
  generalize normed p.cq p.qw = N at hn ⊢
  pointwise [upq]
  simp only [hn]; rfl
theorem upkv_at (l : Fin 256) : upkv (normed p.ckv p.kvw) p.wukv (ix3 s h l) = p.ukv s ⟨h.val * 256 + l.val, by omega⟩ := by
  have hn := kvn_at p
  generalize normed p.ckv p.kvw = N at hn ⊢
  pointwise [upkv]
  simp only [hn]; rfl
theorem rot3_at (u : FVec Ideal S4096x8x64 .f32) (l : Fin 64) :
    rot3 u (Host.cos (ang2 p.pos)) (Host.sin (ang2 p.pos)) (ix3 s h l) = rot p s (fun l => u (ix3 s h l)) l := by
  have hc := cos_at p
  have hs := sin_at p
  generalize Host.cos (ang2 p.pos) = C at hc ⊢
  generalize Host.sin (ang2 p.pos) = S at hs ⊢
  pointwise [rot3]
  simp only [hc, hs]
  rfl
theorem rot2_at (u : FVec Ideal S4096x64 .f32) (l : Fin 64) :
    rot2 u (Host.cos (ang2 p.pos)) (Host.sin (ang2 p.pos)) (ix2 s l) = rot p s (fun l => u (ix2 s l)) l := by
  have hc := cos_at p
  have hs := sin_at p
  generalize Host.cos (ang2 p.pos) = C at hc ⊢
  generalize Host.sin (ang2 p.pos) = S at hs ⊢
  pointwise [rot2]
  simp only [hc, hs]
  rfl
theorem fill_at (a : FVec Ideal S4096x8x128 .f32) (b : FVec Ideal S4096x8x64 .f32) (l : Fin 256) : fill a b (ix3 h s l)
    = if h0 : l.val < 128 then a (ix3 s h ⟨l.val, h0⟩) else if h1 : l.val - 128 < 64 then b (ix3 s h ⟨l.val - 128, h1⟩) else (0 : EReal) := by
  pointwise [fill]
theorem ones_at (a : FVec Ideal S4096x8x128 .f32) (l : Fin 256) : ones a (ix3 h s l)
    = if h0 : l.val < 128 then a (ix3 s h ⟨l.val, h0⟩) else (1 : EReal) := by
  pointwise [ones]

/-- The kernel's rotation of a row of 128, of which the second half is zero. -/
theorem turn_lo (g : Fin 128 → EReal) (l : Fin 64) : turn (p.cosT s) (p.sinT s) g ⟨l.val, by omega⟩ = rot p s (fun i => g ⟨i.val, by omega⟩) l := by
  have hl := l.isLt
  unfold turn rot Args.cosT Args.sinT
  by_cases q : l.val < 32
  · have e0 : l.val % 64 < 32 := by omega
    have e1 : l.val % 32 = l.val := by omega
    have e2 : (l.val + 128 - 96) % 128 = 32 + l.val := by omega
    simp only [dif_pos q, if_pos e0, e2, e1]
    rw [mul_neg, ← sub_eq_add_neg]
  · have e0 : ¬ l.val % 64 < 32 := by omega
    have e1 : l.val % 32 = l.val - 32 := by omega
    have e2 : (l.val + 128 - 32) % 128 = l.val - 32 := by omega
    have e3 : 32 + (l.val - 32) = l.val := by omega
    simp only [dif_neg q, if_neg e0, e2, e1, e3]
    exact add_comm _ _
theorem turn_hi (g : Fin 128 → EReal) (hz : ∀ i : Fin 128, 64 ≤ i.val → g i = 0) (l : Fin 128) (hl : 64 ≤ l.val) :
    turn (p.cosT s) (p.sinT s) g l = 0 := by
  unfold turn
  rw [hz l hl, zero_mul, zero_add]
  split_ifs with q
  · rw [hz _ (by show 64 ≤ (l.val + 128 - 96) % 128; omega), zero_mul]
  · rw [hz _ (by show 64 ≤ (l.val + 128 - 32) % 128; omega), zero_mul]

theorem uq2_lo (l : Fin 128) : p.uq2 s ⟨128 * h.val + l.val % 128, by omega⟩ = uq p s ⟨h.val * 192 + l.val, by omega⟩ := by
  refine Finset.sum_congr rfl fun k _ => congrArg (fun x : EReal => p.qn s k * x) ?_
  have e1 : (128 * h.val + l.val % 128) / 128 = h.val := by omega
  have e2 : (128 * h.val + l.val % 128) % 128 = l.val := by omega
  unfold Args.wq2
  simp only [dif_pos (show 128 * h.val + l.val % 128 < 1024 by omega), e1, e2]
theorem uq2_hi (l : Fin 64) : p.uq2 s ⟨1024 + 128 * h.val + l.val, by omega⟩ = uq p s ⟨h.val * 192 + (128 + l.val), by omega⟩ := by
  refine Finset.sum_congr rfl fun k _ => congrArg (fun x : EReal => p.qn s k * x) ?_
  have hl := l.isLt
  have e0 : 1024 + 128 * h.val + l.val - 1024 = 128 * h.val + l.val := by omega
  have e1 : (128 * h.val + l.val) / 128 = h.val := by omega
  have e2 : (128 * h.val + l.val) % 128 = l.val := by omega
  unfold Args.wq2
  simp only [dif_neg (show ¬ 1024 + 128 * h.val + l.val < 1024 by omega), e0, e1, e2, dif_pos hl]
/-- The columns that fill a head up are zero. -/
theorem uq2_none (l : Fin 128) (hl : 64 ≤ l.val) : p.uq2 s ⟨1024 + 128 * h.val + l.val, by omega⟩ = 0 := by
  refine Finset.sum_eq_zero fun k _ => ?_
  have e2 : ¬ (1024 + 128 * h.val + l.val - 1024) % 128 < 64 := by omega
  unfold Args.wq2
  simp only [dif_neg (show ¬ 1024 + 128 * h.val + l.val < 1024 by omega), dif_neg e2, mul_zero]

end entries

end Cert.PrepFwdRefIdeal.Value

end
-- ==== Proof.Heads.lean ====
/- Reading an array of heads that was stored in two halves of columns, one head at a time. -/
module

public import Idealize.ShloMosaic.Lib.Pipeline.ValueKit
public import Idealize.ShloMosaic.Lib.Pipeline.ReadBack
public import Idealize.ShloMosaic.Lib.Pointwise
public import Idealize.ShloMosaic.Lib.WritesUnit

@[expose] public section

noncomputable section

open Idealize.ShloMosaic
open scoped BigOperators

namespace Cert.Heads

section
variable {Val : EltTy → Type} {e : EltTy} {m n k q h o : ℕ}

/-- The newest piece is a band of columns of one head, and the index lies in it. -/
theorem hit [∀ e, Nonempty (Val e)] (inb : ∀ a, (![h, 0, o] : Fin 3 → ℕ) a + (![1, n, k] : Fin 3 → ℕ) a ≤ (⟨3, ![m, n, q]⟩ : Shape).size a)
    (w : (⟨3, ![1, n, k]⟩ : Shape).Idx → Val e) (L : List (View.Piece Val (⟨3, ![m, n, q]⟩ : Shape) e)) (y : Fin m) (a : Fin n) (j : Fin q) (i : Fin k)
    (hy : y.val = h) (hj : j.val = o + i.val) :
    View.canon ((⟨Rect.unit (s := (⟨3, ![m, n, q]⟩ : Shape)) ![h, 0, o] ![1, n, k] inb, w⟩ : View.Piece Val (⟨3, ![m, n, q]⟩ : Shape) e) :: L) (ix3 y a j)
      = w (ix3 0 a i) := by
  have : (Rect.unit (s := (⟨3, ![m, n, q]⟩ : Shape)) ![h, 0, o] ![1, n, k] inb).emb (ix3 0 a i) = (ix3 y a j : (⟨3, ![m, n, q]⟩ : Shape).Idx) := by
    funext x
    refine Fin.cases ?_ (fun x => Fin.cases ?_ (fun x => ?_) x) x
    · exact Fin.ext (by show h + 1 * 0 = y.val; omega)
    · exact Fin.ext (by show 0 + 1 * a.val = a.val; omega)
    · obtain rfl : x = 0 := Subsingleton.elim _ _
      exact Fin.ext (by show o + 1 * i.val = j.val; omega)
  rw [← this]
  exact View.canon_cons_emb _ _ _ _

/-- The newest piece is a band of columns of one head, and the index lies outside it. -/
theorem miss [∀ e, Nonempty (Val e)] (inb : ∀ a, (![h, 0, o] : Fin 3 → ℕ) a + (![1, n, k] : Fin 3 → ℕ) a ≤ (⟨3, ![m, n, q]⟩ : Shape).size a)
    (w : (⟨3, ![1, n, k]⟩ : Shape).Idx → Val e) (L : List (View.Piece Val (⟨3, ![m, n, q]⟩ : Shape) e)) (y : Fin m) (a : Fin n) (j : Fin q)
    (hm : y.val ≠ h ∨ j.val < o ∨ o + k ≤ j.val) :
    View.canon ((⟨Rect.unit (s := (⟨3, ![m, n, q]⟩ : Shape)) ![h, 0, o] ![1, n, k] inb, w⟩ : View.Piece Val (⟨3, ![m, n, q]⟩ : Shape) e) :: L) (ix3 y a j)
      = View.canon L (ix3 y a j) := by
  refine View.canon_cons_of_not_mem _ L ?_
  rw [Rect.mem_set_unit]
  intro hall
  have h0 : h ≤ y.val ∧ y.val < h + 1 := hall (0 : Fin 3)
  have h1 : o ≤ j.val ∧ j.val < o + k := hall (2 : Fin 3)
  omega

/-- A rectangle of a matrix, read at an entry. -/
theorem ld_at {p d a : ℕ} (X : (⟨2, ![p, q]⟩ : Shape).Idx → Val e) (inb : ∀ x, (![a, o] : Fin 2 → ℕ) x + (![n, d] : Fin 2 → ℕ) x ≤ (⟨2, ![p, q]⟩ : Shape).size x)
    (r : Fin n) (i : Fin d) (r' : Fin p) (j : Fin q) (hr : r'.val = a + r.val) (hj : j.val = o + i.val) :
    View.ld X (Rect.unit (s := (⟨2, ![p, q]⟩ : Shape)) ![a, o] ![n, d] inb) (ix2 r i) = X (ix2 r' j) := by
  refine congrArg X (funext fun x => ?_)
  refine Fin.cases ?_ (fun x => ?_) x
  · exact Fin.ext (by show a + 1 * r.val = r'.val; omega)
  · obtain rfl : x = 0 := Subsingleton.elim _ _
    exact Fin.ext (by show o + 1 * i.val = j.val; omega)

/-- The two newest pieces are the two halves of head `h`: where they hold `G`, the array is `G` if it is so at the other heads. -/
theorem step [∀ e, Nonempty (Val e)] (h : Fin m)
    (inb1 : ∀ a, (![h.val, 0, 128] : Fin 3 → ℕ) a + (![1, n, 128] : Fin 3 → ℕ) a ≤ (⟨3, ![m, n, 256]⟩ : Shape).size a)
    (inb0 : ∀ a, (![h.val, 0, 0] : Fin 3 → ℕ) a + (![1, n, 128] : Fin 3 → ℕ) a ≤ (⟨3, ![m, n, 256]⟩ : Shape).size a)
    (w1 w0 : (⟨3, ![1, n, 128]⟩ : Shape).Idx → Val e) (L : List (View.Piece Val (⟨3, ![m, n, 256]⟩ : Shape) e)) (y : Fin m) (a : Fin n) (j : Fin 256)
    (G : Fin m → Fin n → Fin 256 → Val e)
    (h1 : ∀ (a : Fin n) (i : Fin 128), w1 (ix3 0 a i) = G h a ⟨128 + i.val, by omega⟩)
    (h0 : ∀ (a : Fin n) (i : Fin 128), w0 (ix3 0 a i) = G h a ⟨i.val, by omega⟩)
    (rest : y.val ≠ h.val → View.canon L (ix3 y a j) = G y a j) :
    View.canon ((⟨Rect.unit (s := (⟨3, ![m, n, 256]⟩ : Shape)) ![h.val, 0, 128] ![1, n, 128] inb1, w1⟩ : View.Piece Val (⟨3, ![m, n, 256]⟩ : Shape) e)
      :: (⟨Rect.unit (s := (⟨3, ![m, n, 256]⟩ : Shape)) ![h.val, 0, 0] ![1, n, 128] inb0, w0⟩ : View.Piece Val (⟨3, ![m, n, 256]⟩ : Shape) e) :: L) (ix3 y a j) = G y a j := by
  by_cases hy : y.val = h.val
  · obtain rfl : y = h := Fin.ext hy
    by_cases hj : j.val < 128
    · refine (miss inb1 w1 _ y a j (by omega)).trans ((hit inb0 w0 L y a j ⟨j.val, hj⟩ rfl (by show j.val = 0 + j.val; omega)).trans ?_)
      exact h0 a ⟨j.val, hj⟩
    · refine (hit inb1 w1 _ y a j ⟨j.val - 128, by omega⟩ rfl (by show j.val = 128 + (j.val - 128); omega)).trans ?_
      exact (h1 a ⟨j.val - 128, by omega⟩).trans (congrArg (G y a) (Fin.ext (by show 128 + (j.val - 128) = j.val; omega)))
  · exact (miss inb1 w1 _ y a j (.inl hy)).trans ((miss inb0 w0 L y a j (.inl hy)).trans (rest hy))

end

end Cert.Heads

end
-- ==== Proof.PrepFwdOut.lean ====
/- From the latents to the attention's operands: what the kernel computes at a block. -/
module

public import proofs.«01_k».proof.Proof.PrepFwdPt
public import proofs.«01_k».proof.Proof.Heads
public import proofs.«01_k».proof.Proof.Bands

@[expose] public section

set_option maxRecDepth 16384
set_option maxHeartbeats 4000000

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen

variable (m : (ℓ : Loc nD τ sig) → Buf (Elt Ideal) ℓ) (c : Dev nD)

theorem mask_at (r : Fin 256) (l : Fin 128) : k0_pay2 (ix2 r l) = (if l.val % 64 < 32 then 1#1 else 0#1 : BitVec 1) := by
  pointwise [k0_pay2]
  revert l
  decide +kernel

section
variable (t : Fin cfg0.N) (r : Fin 256)

/-- The blocks one point reads, and the values it computes from them before it stores. -/
abbrev cqB : FVec Ideal S256x256 .f32 := View.ld (iblk m c 0 t) r0_1
abbrev ckvB : FVec Ideal S256x256 .f32 := View.ld (iblk m c 0 t) r0_3
abbrev kpeB : FVec Ideal S256x128 .f32 := View.ld (iblk m c 0 t) r0_6
abbrev qwB : FVec Ideal S1x256 .f32 := View.ld (iblk m c 1 t) r0_2
abbrev kvwB : FVec Ideal S1x256 .f32 := View.ld (iblk m c 2 t) r0_2
abbrev wqB : FVec Ideal S256x2048 .bf16 := View.ld (iblk m c 3 t) r0_5
abbrev wkvB : FVec Ideal S256x2048 .bf16 := View.ld (iblk m c 4 t) r0_5
abbrev csB : FVec Ideal S256x128 .f32 := View.ld (iblk m c 5 t) r0_0
abbrev snB : FVec Ideal S256x128 .f32 := View.ld (iblk m c 6 t) r0_0

theorem cqB_at (k : Fin 256) : cqB m c t (ix2 r k) = (args m c).cq (ix2 (row t r) k) := by
  refine (Cert.Heads.ld_at (iblk m c 0 t : FVec Ideal S256x640 .f32) _ r k r ⟨k.val, by omega⟩ (Nat.zero_add _).symm (Nat.zero_add _).symm).trans ((blk0 m c t r _).trans ((lat_at _ _ _ _ _).trans ?_))
  rw [dif_pos k.isLt]
theorem ckvB_at (k : Fin 256) : ckvB m c t (ix2 r k) = (args m c).ckv (ix2 (row t r) k) := by
  refine (Cert.Heads.ld_at (iblk m c 0 t : FVec Ideal S256x640 .f32) _ r k r ⟨256 + k.val, by omega⟩ (Nat.zero_add _).symm rfl).trans ((blk0 m c t r _).trans ((lat_at _ _ _ _ _).trans ?_))
  have hk := k.isLt
  rw [dif_neg (by show ¬ 256 + k.val < 256; omega), dif_pos (by show 256 + k.val - 256 < 256; omega)]
  exact congrArg (fun x => (args m c).ckv (ix2 (row t r) x)) (Fin.ext (by show 256 + k.val - 256 = k.val; omega))
theorem kpeB_at (l : Fin 128) : kpeB m c t (ix2 r l) = (args m c).kpe2 (row t r) l := by
  refine (Cert.Heads.ld_at (iblk m c 0 t : FVec Ideal S256x640 .f32) _ r l r ⟨512 + l.val, by omega⟩ (Nat.zero_add _).symm rfl).trans ((blk0 m c t r _).trans ((lat_at _ _ _ _ _).trans ?_))
  have e : 512 + l.val - 256 - 256 = l.val := by omega
  rw [dif_neg (by show ¬ 512 + l.val < 256; omega), dif_neg (by show ¬ 512 + l.val - 256 < 256; omega)]
  unfold Args.kpe2
  simp only [e]
theorem qwB_at (k : Fin 256) : qwB m c t (ix2 0 k) = (args m c).qw (ix1 k) :=
  (Cert.Heads.ld_at _ _ 0 k 0 k rfl (Nat.zero_add _).symm).trans (blk1 m c t k)
theorem kvwB_at (k : Fin 256) : kvwB m c t (ix2 0 k) = (args m c).kvw (ix1 k) :=
  (Cert.Heads.ld_at _ _ 0 k 0 k rfl (Nat.zero_add _).symm).trans (blk2 m c t k)
theorem wqB_at (k : Fin 256) (j : Fin 2048) : wqB m c t (ix2 k j) = (args m c).wq2 k j :=
  (Cert.Heads.ld_at _ _ k j k j (Nat.zero_add _).symm (Nat.zero_add _).symm).trans (blk3 m c t k j)
theorem wkvB_at (k : Fin 256) (j : Fin 2048) : wkvB m c t (ix2 k j) = (args m c).wukv (ix2 k j) :=
  (Cert.Heads.ld_at _ _ k j k j (Nat.zero_add _).symm (Nat.zero_add _).symm).trans (blk4 m c t k j)
theorem csB_at (l : Fin 128) : csB m c t (ix2 r l) = (args m c).cosT (row t r) l :=
  (Cert.Heads.ld_at _ _ r l r l (Nat.zero_add _).symm (Nat.zero_add _).symm).trans (blk5 m c t r l)
theorem snB_at (l : Fin 128) : snB m c t (ix2 r l) = (args m c).sinT (row t r) l :=
  (Cert.Heads.ld_at _ _ r l r l (Nat.zero_add _).symm (Nat.zero_add _).symm).trans (blk6 m c t r l)

/-- The norm of a block of rows, for both latents. -/
theorem norm_at (X : FVec Ideal S256x256 .f32) (w : FVec Ideal S1x256 .f32) (k : Fin 256) : (k0_pay5 (F := Ideal) X w (ix2 r k) : EReal)
    = unit (fun k => X (ix2 r k)) k * w (ix2 0 k) := by
  pointwise [k0_pay5]
  rfl
theorem norm2_at (X : FVec Ideal S256x256 .f32) (w : FVec Ideal S1x256 .f32) (k : Fin 256) : (k0_pay6 (F := Ideal) X w (ix2 r k) : EReal)
    = unit (fun k => X (ix2 r k)) k * w (ix2 0 k) := by
  pointwise [k0_pay6]
  rfl
theorem qn_at (k : Fin 256) : k0_pay5 (F := Ideal) (cqB m c t) (qwB m c t) (ix2 r k) = (args m c).qn (row t r) k := by
  rw [norm_at]
  simp only [cqB_at, qwB_at]
  rfl
theorem kvn_at (k : Fin 256) : k0_pay6 (F := Ideal) (ckvB m c t) (kvwB m c t) (ix2 r k) = (args m c).kvn (row t r) k := by
  rw [norm2_at]
  simp only [ckvB_at, kvwB_at]
  rfl
theorem uq_at (j : Fin 2048) : k0_pay7 (F := Ideal) (k0_pay5 (F := Ideal) (cqB m c t) (qwB m c t)) (wqB m c t) (ix2 r j) = (args m c).uq2 (row t r) j := by
  have h := qn_at m c t
  have hw := wqB_at m c t
  generalize k0_pay5 (F := Ideal) (cqB m c t) (qwB m c t) = N at h ⊢
  generalize wqB m c t = W at hw ⊢
  pointwise [k0_pay7]
  simp only [h, hw]
  rfl
theorem ukv_at (j : Fin 2048) : k0_pay8 (F := Ideal) (ckvB m c t) (kvwB m c t) (wkvB m c t) (ix2 r j) = (args m c).ukv (row t r) j := by
  have h := kvn_at m c t
  have hw := wkvB_at m c t
  unfold k0_pay8
  generalize k0_pay6 (F := Ideal) (ckvB m c t) (kvwB m c t) = N at h ⊢
  generalize wkvB m c t = W at hw ⊢
  pointwise
  simp only [h, hw]
  rfl
theorem kr_at (l : Fin 128) : k0_pay9 (F := Ideal) k0_pay2 (k0_pay3 (csB m c t)) (k0_pay4 (snB m c t)) (kpeB m c t) (ix2 r l)
    = turn ((args m c).cosT (row t r)) ((args m c).sinT (row t r)) ((args m c).kpe2 (row t r)) l := by
  have h0 := csB_at m c t
  have h1 := snB_at m c t
  have h2 := kpeB_at m c t
  generalize csB m c t = C at h0 ⊢
  generalize snB m c t = S at h1 ⊢
  generalize kpeB m c t = X at h2 ⊢
  pointwise [k0_pay9, k0_pay3, k0_pay4]
  rw [mask_at]
  simp only [h0, h1, h2]
  unfold turn
  split_ifs <;> rfl
end

theorem final_7 : (dats m 0 c).arrAt 7 (cfgs 0).N = (fun i => (args m c).qn (i 0) (i 1) : FVec Ideal S4096x256 .bf16) := by
  refine (dats m 0 c).arrAt_eq_of_covers 7 _ (by decide +kernel) fun t hf y => ?_
  blk_simp; rw [after0_7]
  idx_vars y
  have e0 : (((cfgs 0).win 7).blk t).view.emb (ix2 y0 y1) = (ix2 (row t y0) y1 : S4096x256.Idx) := by blk_ext [idx t, row]
  refine Eq.trans ?_ (congrArg (fun i : S4096x256.Idx => (args m c).qn (i 0) (i 1)) e0).symm
  refine Eq.trans ?_ (qn_at m c t y0 y1)
  unfold out0_7
  exact Cert.Bands.band_hit _ _ [] y0 y1 y1 (Nat.zero_add _).symm

theorem final_8 : (dats m 0 c).arrAt 8 (cfgs 0).N = (fun i => (args m c).kvn (i 0) (i 1) : FVec Ideal S4096x256 .bf16) := by
  refine (dats m 0 c).arrAt_eq_of_covers 8 _ (by decide +kernel) fun t hf y => ?_
  blk_simp; rw [after0_8]
  idx_vars y
  have e0 : (((cfgs 0).win 8).blk t).view.emb (ix2 y0 y1) = (ix2 (row t y0) y1 : S4096x256.Idx) := by blk_ext [idx t, row]
  refine Eq.trans ?_ (congrArg (fun i : S4096x256.Idx => (args m c).kvn (i 0) (i 1)) e0).symm
  refine Eq.trans ?_ (kvn_at m c t y0 y1)
  unfold out0_8
  exact Cert.Bands.band_hit _ _ [] y0 y1 y1 (Nat.zero_add _).symm

theorem final_9 : (dats m 0 c).arrAt 9 (cfgs 0).N = (fun i => (args m c).oq (i 1) (i 0) (i 2) : FVec Ideal S8x4096x256 .bf16) := by
  refine (dats m 0 c).arrAt_eq_of_covers 9 _ (by decide +kernel) fun t hf y => ?_
  blk_simp; rw [after0_9]
  idx_vars y
  have e0 : (((cfgs 0).win 9).blk t).view.emb (ix3 y0 y1 y2) = (ix3 y0 (row t y1) y2 : S8x4096x256.Idx) := by blk_ext [idx t, row]
  refine Eq.trans ?_ (congrArg (fun i : S8x4096x256.Idx => (args m c).oq (i 1) (i 0) (i 2)) e0).symm
  show _ = (args m c).oq (row t y1) y0 y2
  unfold out0_9
  have hX := uq_at m c t
  unfold k0_pay66 k0_pay67 k0_pay68 k0_pay70 k0_pay69 k0_pay10
  generalize k0_pay7 (F := Ideal) (k0_pay5 (F := Ideal) (cqB m c t) (qwB m c t)) (wqB m c t) = X at hX ⊢
  have st := fun (h : Fin 8) inb1 inb0 w1 w0 L => Cert.Heads.step (Val := Elt Ideal) (e := .bf16) h inb1 inb0 w1 w0 L y0 y1 y2
    (fun (h : Fin 8) (r l : Fin 256) => ((args m c).oq (row t r) h l : EReal))
  refine st 7 _ _ _ _ _ ?_ ?_ fun n7 => ?_; rotate_left 2
  refine st 6 _ _ _ _ _ ?_ ?_ fun n6 => ?_; rotate_left 2
  refine st 5 _ _ _ _ _ ?_ ?_ fun n5 => ?_; rotate_left 2
  refine st 4 _ _ _ _ _ ?_ ?_ fun n4 => ?_; rotate_left 2
  refine st 3 _ _ _ _ _ ?_ ?_ fun n3 => ?_; rotate_left 2
  refine st 2 _ _ _ _ _ ?_ ?_ fun n2 => ?_; rotate_left 2
  refine st 1 _ _ _ _ _ ?_ ?_ fun n1 => ?_; rotate_left 2
  refine st 0 _ _ _ _ _ ?_ ?_ fun n0 => ?_; rotate_left 2
  · exfalso
    have := y0.isLt
    simp only [Fin.val_zero, Fin.val_one, Fin.isValue, show (2 : Fin 8).val = 2 from rfl, show (3 : Fin 8).val = 3 from rfl, show (4 : Fin 8).val = 4 from rfl,
      show (5 : Fin 8).val = 5 from rfl, show (6 : Fin 8).val = 6 from rfl, show (7 : Fin 8).val = 7 from rfl] at n0 n1 n2 n3 n4 n5 n6 n7
    omega
  all_goals intro a i
  all_goals first
    | (refine Eq.trans ?_ ((args m c).oq_hi (row t a) _ i).symm; pointwise [k0_pay3, k0_pay4, k0_pay12, k0_pay19, k0_pay26, k0_pay33, k0_pay40, k0_pay47, k0_pay54, k0_pay61]; rw [mask_at]; simp only [hX, blk5, blk6]; unfold turn; split_ifs <;> rfl)
    | (refine Eq.trans ?_ ((args m c).oq_lo (row t a) _ i).symm; pointwise [k0_pay11, k0_pay18, k0_pay17, k0_pay25, k0_pay24, k0_pay32, k0_pay31, k0_pay39, k0_pay38, k0_pay46, k0_pay45, k0_pay53, k0_pay52, k0_pay60, k0_pay59]; simp only [hX])

theorem final_10 : (dats m 0 c).arrAt 10 (cfgs 0).N = (fun i => (args m c).ok (i 1) (i 0) (i 2) : FVec Ideal S8x4096x256 .bf16) := by
  refine (dats m 0 c).arrAt_eq_of_covers 10 _ (by decide +kernel) fun t hf y => ?_
  blk_simp; rw [after0_10]
  idx_vars y
  have e0 : (((cfgs 0).win 10).blk t).view.emb (ix3 y0 y1 y2) = (ix3 y0 (row t y1) y2 : S8x4096x256.Idx) := by blk_ext [idx t, row]
  refine Eq.trans ?_ (congrArg (fun i : S8x4096x256.Idx => (args m c).ok (i 1) (i 0) (i 2)) e0).symm
  show _ = (args m c).ok (row t y1) y0 y2
  unfold out0_10
  have hX := ukv_at m c t
  have hR := kr_at m c t
  unfold k0_pay72 k0_pay66 k0_pay67 k0_pay68 k0_pay71
  generalize k0_pay8 (F := Ideal) (ckvB m c t) (kvwB m c t) (wkvB m c t) = X at hX ⊢
  generalize k0_pay9 (F := Ideal) k0_pay2 (k0_pay3 (csB m c t)) (k0_pay4 (snB m c t)) (kpeB m c t) = R at hR ⊢
  have st := fun (h : Fin 8) inb1 inb0 w1 w0 L => Cert.Heads.step (Val := Elt Ideal) (e := .bf16) h inb1 inb0 w1 w0 L y0 y1 y2
    (fun (h : Fin 8) (r l : Fin 256) => ((args m c).ok (row t r) h l : EReal))
  refine st 7 _ _ _ _ _ ?_ ?_ fun n7 => ?_; rotate_left 2
  refine st 6 _ _ _ _ _ ?_ ?_ fun n6 => ?_; rotate_left 2
  refine st 5 _ _ _ _ _ ?_ ?_ fun n5 => ?_; rotate_left 2
  refine st 4 _ _ _ _ _ ?_ ?_ fun n4 => ?_; rotate_left 2
  refine st 3 _ _ _ _ _ ?_ ?_ fun n3 => ?_; rotate_left 2
  refine st 2 _ _ _ _ _ ?_ ?_ fun n2 => ?_; rotate_left 2
  refine st 1 _ _ _ _ _ ?_ ?_ fun n1 => ?_; rotate_left 2
  refine st 0 _ _ _ _ _ ?_ ?_ fun n0 => ?_; rotate_left 2
  · exfalso
    have := y0.isLt
    simp only [Fin.val_zero, Fin.val_one, Fin.isValue, show (2 : Fin 8).val = 2 from rfl, show (3 : Fin 8).val = 3 from rfl, show (4 : Fin 8).val = 4 from rfl,
      show (5 : Fin 8).val = 5 from rfl, show (6 : Fin 8).val = 6 from rfl, show (7 : Fin 8).val = 7 from rfl] at n0 n1 n2 n3 n4 n5 n6 n7
    omega
  all_goals intro a i
  all_goals first
    | (refine Eq.trans ?_ ((args m c).ok_hi (row t a) _ i).symm; pointwise [k0_pay14, k0_pay21, k0_pay28, k0_pay35, k0_pay42, k0_pay49, k0_pay56, k0_pay63]; simp only [hR])
    | (refine Eq.trans ?_ ((args m c).ok_lo (row t a) _ i).symm; pointwise [k0_pay13, k0_pay20, k0_pay27, k0_pay34, k0_pay41, k0_pay48, k0_pay55, k0_pay62]; simp only [hX])

theorem final_11 : (dats m 0 c).arrAt 11 (cfgs 0).N = (fun i => (args m c).ov (i 1) (i 0) (i 2) : FVec Ideal S8x4096x256 .bf16) := by
  refine (dats m 0 c).arrAt_eq_of_covers 11 _ (by decide +kernel) fun t hf y => ?_
  blk_simp; rw [after0_11]
  idx_vars y
  have e0 : (((cfgs 0).win 11).blk t).view.emb (ix3 y0 y1 y2) = (ix3 y0 (row t y1) y2 : S8x4096x256.Idx) := by blk_ext [idx t, row]
  refine Eq.trans ?_ (congrArg (fun i : S8x4096x256.Idx => (args m c).ov (i 1) (i 0) (i 2)) e0).symm
  show _ = (args m c).ov (row t y1) y0 y2
  unfold out0_11
  have hX := ukv_at m c t
  unfold k0_pay71
  generalize k0_pay8 (F := Ideal) (ckvB m c t) (kvwB m c t) (wkvB m c t) = X at hX ⊢
  have st := fun (h : Fin 8) inb1 inb0 w1 w0 L => Cert.Heads.step (Val := Elt Ideal) (e := .bf16) h inb1 inb0 w1 w0 L y0 y1 y2
    (fun (h : Fin 8) (r l : Fin 256) => ((args m c).ov (row t r) h l : EReal))
  refine st 7 _ _ _ _ _ ?_ ?_ fun n7 => ?_; rotate_left 2
  refine st 6 _ _ _ _ _ ?_ ?_ fun n6 => ?_; rotate_left 2
  refine st 5 _ _ _ _ _ ?_ ?_ fun n5 => ?_; rotate_left 2
  refine st 4 _ _ _ _ _ ?_ ?_ fun n4 => ?_; rotate_left 2
  refine st 3 _ _ _ _ _ ?_ ?_ fun n3 => ?_; rotate_left 2
  refine st 2 _ _ _ _ _ ?_ ?_ fun n2 => ?_; rotate_left 2
  refine st 1 _ _ _ _ _ ?_ ?_ fun n1 => ?_; rotate_left 2
  refine st 0 _ _ _ _ _ ?_ ?_ fun n0 => ?_; rotate_left 2
  · exfalso
    have := y0.isLt
    simp only [Fin.val_zero, Fin.val_one, Fin.isValue, show (2 : Fin 8).val = 2 from rfl, show (3 : Fin 8).val = 3 from rfl, show (4 : Fin 8).val = 4 from rfl,
      show (5 : Fin 8).val = 5 from rfl, show (6 : Fin 8).val = 6 from rfl, show (7 : Fin 8).val = 7 from rfl] at n0 n1 n2 n3 n4 n5 n6 n7
    omega
  all_goals intro a i
  all_goals first
    | (refine Eq.trans ?_ ((args m c).ov_hi (row t a) _ i).symm; pointwise [k0_pay1, k0_pay65, k0_pay16, k0_pay23, k0_pay30, k0_pay37, k0_pay44, k0_pay51, k0_pay58])
    | (refine Eq.trans ?_ ((args m c).ov_lo (row t a) _ i).symm; pointwise [k0_pay15, k0_pay22, k0_pay29, k0_pay36, k0_pay43, k0_pay50, k0_pay57, k0_pay64]; simp only [hX])

end Cert.PrepFwdIdeal.Value

end
-- ==== Proof.PrepFwdEq.lean ====
/- From the latents to the attention's operands: the kernel's results are the reference's. -/
module

public import proofs.«01_k».proof.Proof.PrepFwdRef
public import proofs.«01_k».proof.Proof.PrepFwdOut

@[expose] public section

set_option maxRecDepth 16384
set_option maxHeartbeats 4000000

noncomputable section

open Idealize.ShloMosaic Idealize.ShloMosaic.TcCoe Idealize.SL.Sem
open scoped BigOperators

namespace Cert.PrepFwdRefIdeal.Value

open Cert.PrepFwdRefIdeal Cert.PrepFwdRefIdeal.Gen
open Cert.PrepFwdIdeal.Value (Args unit turn)

/-- The attention's queries, keys and values of the reference. -/
def qs (p : Args) : FVec Ideal S8x4096x256 .bf16 :=
  fill (extractStridedSlice S4096x8x128 ![0, 0, 0] (upq (normed p.cq p.qw) p.wuq) slices_S4096x8x192_S4096x8x128_0_0_0)
    (rot3 (extractStridedSlice S4096x8x64 ![0, 0, 128] (upq (normed p.cq p.qw) p.wuq) slices_S4096x8x192_S4096x8x64_0_0_128)
      (Host.cos (ang2 p.pos)) (Host.sin (ang2 p.pos)))
def ks (p : Args) : FVec Ideal S8x4096x256 .bf16 :=
  fill (extractStridedSlice S4096x8x128 ![0, 0, 0] (upkv (normed p.ckv p.kvw) p.wukv) slices_S4096x8x256_S4096x8x128_0_0_0)
    (broadcastInDim S4096x8x64 ![0, 1, 2] bcast_S4096x1x64_S4096x8x64_0_1_2 (broadcastInDim S4096x1x64 ![0, 2] bcast_S4096x64_S4096x1x64_0_2
      (rot2 p.kpe (Host.cos (ang2 p.pos)) (Host.sin (ang2 p.pos)))))
def vs (p : Args) : FVec Ideal S8x4096x256 .bf16 :=
  ones (extractStridedSlice S4096x8x128 ![0, 0, 128] (upkv (normed p.ckv p.kvw) p.wukv) slices_S4096x8x256_S4096x8x128_0_0_128)

section
variable (p : Args) (s : Fin 4096) (h : Fin 8) (l : Fin 256)

theorem qs_at : qs p (ix3 h s l) = p.oq s h l := by
  have hu := upq_at p s h
  unfold qs
  generalize upq (normed p.cq p.qw) p.wuq = U at hu ⊢
  rw [fill_at]
  unfold Args.oq
  by_cases q : l.val < 128
  · rw [dif_pos q, if_pos q]
    pointwise
    rw [hu]
    exact (uq2_lo p s h ⟨l.val, q⟩).symm
  · rw [dif_neg q, if_neg q]
    by_cases q1 : l.val - 128 < 64
    · rw [dif_pos q1, rot3_at]
      refine Eq.trans (congrArg (fun g => rot p s g ⟨l.val - 128, q1⟩) (funext fun i => ?_)) (turn_lo p s _ ⟨l.val - 128, q1⟩).symm
      pointwise
      rw [hu]
      exact (uq2_hi p s h i).symm
    · rw [dif_neg q1]
      exact (turn_hi p s _ (uq2_none p s h) ⟨l.val - 128, by omega⟩ (by show 64 ≤ l.val - 128; omega)).symm

theorem ks_at : ks p (ix3 h s l) = p.ok s h l := by
  have hu := upkv_at p s h
  have hr := rot2_at p s p.kpe
  unfold ks
  generalize upkv (normed p.ckv p.kvw) p.wukv = U at hu ⊢
  generalize rot2 p.kpe (Host.cos (ang2 p.pos)) (Host.sin (ang2 p.pos)) = R at hr ⊢
  rw [fill_at]
  unfold Args.ok
  by_cases q : l.val < 128
  · rw [dif_pos q, if_pos q]
    pointwise
    rw [hu]
    exact congrArg (p.ukv s) (Fin.ext (by show h.val * 256 + l.val = 256 * h.val + l.val % 128; omega))
  · rw [dif_neg q, if_neg q]
    by_cases q1 : l.val - 128 < 64
    · rw [dif_pos q1]
      pointwise
      rw [hr]
      refine Eq.trans (congrArg (fun g => rot p s g ⟨l.val - 128, q1⟩) (funext fun i => ?_)) (turn_lo p s _ ⟨l.val - 128, q1⟩).symm
      unfold Args.kpe2
      rw [dif_pos (show (⟨i.val, by omega⟩ : Fin 128).val < 64 from i.isLt)]
    · rw [dif_neg q1]
      exact (turn_hi p s _ (fun i hi => dif_neg (show ¬ i.val < 64 by omega)) ⟨l.val - 128, by omega⟩ (by show 64 ≤ l.val - 128; omega)).symm

theorem vs_at : vs p (ix3 h s l) = p.ov s h l := by
  have hu := upkv_at p s h
  unfold vs
  generalize upkv (normed p.ckv p.kvw) p.wukv = U at hu ⊢
  rw [ones_at]
  unfold Args.ov
  by_cases q : l.val < 128
  · rw [dif_pos q, if_pos q]
    pointwise
    rw [hu]
    exact congrArg (p.ukv s) (Fin.ext (by show h.val * 256 + (128 + l.val) = 256 * h.val + 128 + l.val % 128; omega))
  · rw [dif_neg q, if_neg q]
end

variable (W : (ℓ : Loc nD τ sig) → Buf (Elt Ideal) ℓ) (c : Dev nD)

/-- The reference's arguments. -/
abbrev rargs : Args where
  pos := W ((c.tc : Thread nD τ).loc main_arg0)
  cq := W ((c.tc : Thread nD τ).loc main_arg1)
  ckv := W ((c.tc : Thread nD τ).loc main_arg2)
  kpe := W ((c.tc : Thread nD τ).loc main_arg3)
  qw := W ((c.tc : Thread nD τ).loc main_arg4)
  wuq := W ((c.tc : Thread nD τ).loc main_arg5)
  kvw := W ((c.tc : Thread nD τ).loc main_arg6)
  wukv := W ((c.tc : Thread nD τ).loc main_arg7)

theorem v81_eq : res_main_v81 W c = qs (rargs W c) := by
  unfold res_main_v81; rfl
theorem v85_eq : res_main_v85 W c = ks (rargs W c) := by
  unfold res_main_v85; rfl

end Cert.PrepFwdRefIdeal.Value

namespace Cert.PrepFwdIdeal.Value

open Cert.PrepFwdRefIdeal.Value

theorem algebraic : Cert.algebraic_PrepFwdIdeal_PrepFwdRefIdeal (hPrepFwdIdeal := Cert.PrepFwdIdeal.Gen.facts)
    (hPrepFwdRefIdeal := Cert.PrepFwdRefIdeal.Gen.facts) := by
  intro m g m' g' _ hargs
  refine ⟨_, _, _, _, _, run_blocks m g, (θ_run _ _ _).mono (fun r h c => ?_) (Cert.PrepFwdRefIdeal.Value.run m' g')⟩
  obtain ⟨e0, e1, e2, e3, e4, e5, e6, e7⟩ := hargs c
  have hw : rargs m' c = args m c := Args.ext e0 e1 e2 e3 e4 e5 e6 e7
  obtain ⟨v0, v1, v2, v3, v4, hk⟩ := h c
  refine ⟨v0.trans ?_, v1.trans ?_, v2.trans ?_, v3.trans ?_, v4.trans ?_, hk⟩
  · rw [final_7, ← hw]
    funext i; idx_vars i
    exact Cert.PrepFwdRefIdeal.Value.qn_at (rargs m' c) i0 i1
  · rw [final_8, ← hw]
    funext i; idx_vars i
    exact Cert.PrepFwdRefIdeal.Value.kvn_at (rargs m' c) i0 i1
  · rw [final_9, ← hw, v81_eq]
    funext i; idx_vars i
    exact qs_at (rargs m' c) i1 i0 i2
  · rw [final_10, ← hw, v85_eq]
    funext i; idx_vars i
    exact ks_at (rargs m' c) i1 i0 i2
  · rw [final_11, ← hw]
    funext i; idx_vars i
    exact vs_at (rargs m' c) i1 i0 i2

end Cert.PrepFwdIdeal.Value

end
-- ==== Proof.AdaFwdEq.lean ====
/- The modulation: the kernel's result and the reference's are the same sums. -/
module

public import proofs.«01_k».proof.Defs
public import proofs.«01_k».proof.Proof.Gen.AdaFwdIdeal.Value
public import proofs.«01_k».proof.Proof.Gen.AdaFwdRefIdeal.Run
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.AdaFwdIdeal.Value

open Cert.AdaFwdIdeal Cert.AdaFwdIdeal.Gen

/-- The modulation of one row. -/
def mod (c : FVec Ideal S8x1024 .f32) (w : FVec Ideal S1024x768 .f32) (b : FVec Ideal S768 .f32) (r : Fin 8) (j : Fin 768) : EReal :=
  (∑ d : Fin 1024, c (ix2 r d) * Ideal.logistic (c (ix2 r d)) * w (ix2 d j)) + b (ix1 j)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem blk0 (c : Dev nD) (t : Fin cfg0.N) (b : Fin 8) (d : Fin 1024) :
    iblk m c 0 t (ix2 b d) = (m ((c : Thread nD τ).loc main_arg0) : FVec Ideal S8x1024 .f32) (ix2 b d) := by
  blk_ext [iblk, V, idx t]
theorem blk1 (c : Dev nD) (t : Fin cfg0.N) (d : Fin 1024) (j : Fin 768) :
    iblk m c 1 t (ix2 d j) = (m ((c : Thread nD τ).loc main_arg1) : FVec Ideal S1024x768 .f32) (ix2 d j) := by
  blk_ext [iblk, V, idx t]
theorem blk2 (c : Dev nD) (t : Fin cfg0.N) (j : Fin 768) :
    iblk m c 2 t (ix2 0 j) = (m ((c : Thread nD τ).loc main_arg2) : FVec Ideal S768 .f32) (ix1 j) := by
  blk_simp [iblk, idx t]
  simp only [V, hostOps0]
  entry_read
  pointwise
  blk_ext [idx t]

theorem final_3 (c : Dev nD) : (dats m 0 c).arrAt 3 (cfgs 0).N
    = (fun i => mod (m ((c : Thread nD τ).loc main_arg0)) (m ((c : Thread nD τ).loc main_arg1)) (m ((c : Thread nD τ).loc main_arg2)) (i 0) (i 1) : FVec Ideal S8x768 .f32) := by
  refine (dats m 0 c).arrAt_eq_of_covers 3 _ (by decide +kernel) fun t hf y => ?_
  blk_simp; rw [after0_3]
  have out : out0_3 (iblk m c 0 t) (iblk m c 1 t) (iblk m c 2 t) = k0_pay1 (iblk m c 0 t) (iblk m c 1 t) (iblk m c 2 t) := by frame_out
  rw [out]
  idx_vars y
  have e0 : (((cfgs 0).win 3).blk t).view.emb (ix2 y0 y1) = (ix2 y0 y1 : S8x768.Idx) := by blk_ext [idx t]
  have e : k0_pay1 (iblk m c 0 t) (iblk m c 1 t) (iblk m c 2 t) (ix2 y0 y1)
      = mod (m ((c : Thread nD τ).loc main_arg0)) (m ((c : Thread nD τ).loc main_arg1)) (m ((c : Thread nD τ).loc main_arg2)) y0 y1 := by
    pointwise [k0_pay1]; simp only [blk0, blk1, blk2]; rfl
  rw [e]
  exact (congrArg (fun i : S8x768.Idx => mod (m ((c : Thread nD τ).loc main_arg0)) (m ((c : Thread nD τ).loc main_arg1)) (m ((c : Thread nD τ).loc main_arg2)) (i 0) (i 1)) e0).symm

theorem algebraic : Cert.algebraic_AdaFwdIdeal_AdaFwdRefIdeal (hAdaFwdIdeal := Cert.AdaFwdIdeal.Gen.facts)
    (hAdaFwdRefIdeal := Cert.AdaFwdRefIdeal.Gen.facts) := by
  intro m g m' g' _ hargs
  refine ⟨_, run_blocks m g, (θ_run _ _ _).mono (fun r h c => ?_) (Cert.AdaFwdRefIdeal.Value.run m' g')⟩
  obtain ⟨e0, e1, e2⟩ := hargs c
  obtain ⟨v0, hk⟩ := h c
  refine ⟨v0.trans ?_, hk⟩
  rw [final_3, ← e0, ← e1, ← e2]
  funext i; idx_vars i
  pointwise
  refine congrArg (fun x : EReal => x + _) (Finset.sum_congr rfl fun b _ => ?_)
  rw [Cert.Reals.logistic_eq]

end Cert.AdaFwdIdeal.Value

end
-- ==== Proof.ProjEq.lean ====
/- A plain product: the kernel's blocks make up the reference's product. -/
module

public import proofs.«01_k».proof.Defs
public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.ProjIdeal.Value

open Cert.ProjIdeal Cert.ProjIdeal.Gen

variable (m : (ℓ : Loc nD τ sig) → Buf (Elt Ideal) ℓ)

theorem idx : ∀ t : Fin cfg0.N, win0_0.index t = ![t.val % 4, 0] ∧ win0_1.index t = ![0, t.val / 4] ∧ win0_2.index t = ![t.val % 4, t.val / 4] :=
  (by decide +kernel : ∀ t : Fin grid0.N, _)

/-- The row and the column of the result at an entry of block `t`. -/
def row (t : Fin cfg0.N) (r : Fin 1024) : Fin 4096 := ⟨t.val % 4 * 1024 + r.val, by omega⟩
def col (t : Fin cfg0.N) (j : Fin 1024) : Fin 3072 := ⟨t.val / 4 * 1024 + j.val, by have := t.isLt; have : cfg0.N = 12 := N_0; omega⟩

theorem blk0 (c : Dev nD) (t : Fin cfg0.N) (r : Fin 1024) (k : Fin 1024) :
    iblk m c 0 t (ix2 r k) = (m ((c : Thread nD τ).loc main_arg0) : FVec Ideal S4096x1024 .f32) (ix2 (row t r) k) := by
  blk_simp [iblk, idx t]
  simp only [V, hostOps0]
  entry_read
  pointwise
  blk_ext [idx t, row]
theorem blk1 (c : Dev nD) (t : Fin cfg0.N) (k : Fin 1024) (j : Fin 1024) :
    iblk m c 1 t (ix2 k j) = (m ((c : Thread nD τ).loc main_arg1) : FVec Ideal S1024x3072 .f32) (ix2 k (col t j)) := by
  blk_simp [iblk, idx t]
  simp only [V, hostOps0]
  entry_read
  pointwise
  blk_ext [idx t, col]

/-- The product's entries. -/
def prod (a : FVec Ideal S4096x1024 .f32) (b : FVec Ideal S1024x3072 .f32) (r : Fin 4096) (j : Fin 3072) : EReal := ∑ k : Fin 1024, a (ix2 r k) * b (ix2 k j)

theorem final_2 (c : Dev nD) : (dats m 0 c).arrAt 2 (cfgs 0).N
    = (fun i => prod (m ((c : Thread nD τ).loc main_arg0)) (m ((c : Thread nD τ).loc main_arg1)) (i 0) (i 1) : FVec Ideal S4096x3072 .f32) := by
  refine (dats m 0 c).arrAt_eq_of_covers 2 _ (by decide +kernel) fun t hf y => ?_
  blk_simp; rw [after0_2]
  have out : out0_2 (iblk m c 0 t) (iblk m c 1 t) = k0_pay1 (iblk m c 0 t) (iblk m c 1 t) := by frame_out
  rw [out]
  idx_vars y
  have e0 : (((cfgs 0).win 2).blk t).view.emb (ix2 y0 y1) = (ix2 (row t y0) (col t y1) : S4096x3072.Idx) := by blk_ext [idx t, row, col]
  have e : k0_pay1 (iblk m c 0 t) (iblk m c 1 t) (ix2 y0 y1)
      = prod (m ((c : Thread nD τ).loc main_arg0)) (m ((c : Thread nD τ).loc main_arg1)) (row t y0) (col t y1) := by
    pointwise [k0_pay1]; simp only [blk0, blk1]; rfl
  rw [e]
  exact (congrArg (fun i : S4096x3072.Idx => prod (m ((c : Thread nD τ).loc main_arg0)) (m ((c : Thread nD τ).loc main_arg1)) (i 0) (i 1)) e0).symm

theorem algebraic : Cert.algebraic_ProjIdeal_ProjRefIdeal (hProjIdeal := Cert.ProjIdeal.Gen.facts)
    (hProjRefIdeal := Cert.ProjRefIdeal.Gen.facts) := by
  intro m g m' g' _ hargs
  refine ⟨_, run_blocks m g, (θ_run _ _ _).mono (fun r h c => ?_) (Cert.ProjRefIdeal.Value.run m' g')⟩
  obtain ⟨e0, e1⟩ := hargs c
  obtain ⟨v0, hk⟩ := h c
  refine ⟨v0.trans ?_, hk⟩
  rw [final_2, ← e0, ← e1]
  funext i; idx_vars i
  pointwise
  rfl

end Cert.ProjIdeal.Value

end
-- ==== Proof.GradInEq.lean ====
/- The gradient of a plain product: the two halves of the rows are added in the kernel's scratch. -/
module

public import proofs.«01_k».proof.Defs
public import proofs.«01_k».proof.Proof.Gen.GradInIdeal.Value
public import proofs.«01_k».proof.Proof.Gen.GradInRefIdeal.Run
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.GradInIdeal.Value

open Cert.GradInIdeal Cert.GradInIdeal.Gen

/-- The gradient's entries, and the sum over one half of the rows. -/
def grad (a : FVec Ideal S4096x3072 .f32) (b : FVec Ideal S4096x1024 .f32) (j : Fin 3072) (k : Fin 1024) : EReal := ∑ s : Fin 4096, a (ix2 s j) * b (ix2 s k)
def half (a : FVec Ideal S4096x3072 .f32) (b : FVec Ideal S4096x1024 .f32) (q : Fin 2) (j : Fin 3072) (k : Fin 1024) : EReal :=
  ∑ s : Fin 2048, a (ix2 ⟨q.val * 2048 + s.val, by omega⟩ j) * b (ix2 ⟨q.val * 2048 + s.val, by omega⟩ k)

theorem halves (a : FVec Ideal S4096x3072 .f32) (b : FVec Ideal S4096x1024 .f32) (j : Fin 3072) (k : Fin 1024) :
    half a b 0 j k + half a b 1 j k = grad a b j k := by
  unfold grad half
  refine Eq.trans ?_ (Fin.sum_univ_add (a := 2048) (b := 2048) (fun s : Fin (2048 + 2048) => a (ix2 (s : Fin 4096) j) * b (ix2 (s : Fin 4096) k))).symm
  refine congrArg₂ (· + ·) (Finset.sum_congr rfl fun s _ => ?_) (Finset.sum_congr rfl fun s _ => ?_)
  · have e : (⟨(0 : Fin 2).val * 2048 + s.val, by have := s.isLt; simp; omega⟩ : Fin 4096) = Fin.castAdd 2048 s := Fin.ext (by simp)
    exact congrArg (fun i : Fin 4096 => a (ix2 i j) * b (ix2 i k)) e
  · have e : (⟨(1 : Fin 2).val * 2048 + s.val, by have := s.isLt; simp; omega⟩ : Fin 4096) = Fin.natAdd 2048 s := Fin.ext (by simp; omega)
    exact congrArg (fun i : Fin 4096 => a (ix2 i j) * b (ix2 i k)) e

variable (m : (ℓ : Loc nD τ sig) → Buf (Elt Ideal) ℓ)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The row of the arguments, and the row of the result, at a row of block `t`. -/
def row (t : Fin cfg0.N) (s : Fin 2048) : Fin 4096 := ⟨t.val % 2 * 2048 + s.val, by omega⟩
def col (t : Fin cfg0.N) (j : Fin 1024) : Fin 3072 := ⟨t.val / 2 * 1024 + j.val, by have := t.isLt; have : cfg0.N = 6 := N_0; omega⟩

theorem blk0 (c : Dev nD) (t : Fin cfg0.N) (s : Fin 2048) (j : Fin 1024) :
    iblk m c 0 t (ix2 s j) = (m ((c : Thread nD τ).loc main_arg2) : FVec Ideal S4096x3072 .f32) (ix2 (row t s) (col t j)) := by
  blk_simp [iblk, idx t]
  simp only [V, hostOps0]
  entry_read
  pointwise
  blk_ext [idx t, row, col]
theorem blk1 (c : Dev nD) (t : Fin cfg0.N) (s : Fin 2048) (k : Fin 1024) :
    iblk m c 1 t (ix2 s k) = (m ((c : Thread nD τ).loc main_arg0) : FVec Ideal S4096x1024 .f32) (ix2 (row t s) k) := by
  blk_simp [iblk, idx t]
  simp only [V, hostOps0]
  entry_read
  pointwise
  blk_ext [idx t, row]

/-- The half a point adds. -/
theorem pay_at (c : Dev nD) (t : Fin cfg0.N) (v : FVec Ideal S1024x1024 .f32) (j k : Fin 1024) :
    k0_pay2 v (iblk m c 0 t) (iblk m c 1 t) (ix2 j k)
      = v (ix2 j k) + half (m ((c : Thread nD τ).loc main_arg2)) (m ((c : Thread nD τ).loc main_arg0)) ⟨t.val % 2, by omega⟩ (col t j) k := by
  pointwise [k0_pay2]; simp only [blk0, blk1]; rfl

theorem first (c : Dev nD) (t : Fin cfg0.N) (h : t.val % 2 = 0) :
    (outsAt0 m c t.val t.isLt).2 = k0_pay2 (k0_pay1 (F := Ideal)) (iblk m c 0 t) (iblk m c 1 t) := by
  rw [outsAt0_A m c t h (by omega)]
  dsimp only
  frame_out
theorem last (c : Dev nD) (t : Fin cfg0.N) (h : t.val % 2 = 1) :
    (outsAt0 m c t.val t.isLt).1 = k0_pay2 (outsAt0 m c (t.val - 1) (Nat.lt_of_le_of_lt (Nat.sub_le _ _) t.isLt)).2 (iblk m c 0 t) (iblk m c 1 t) := by
  rw [outsAt0_B m c t (by omega) h]
  dsimp only
  frame_out
  exact congrArg (fun v => k0_pay2 v (iblk m c 0 t) (iblk m c 1 t)) (Memref.IsWhole.read_unread _ _)

theorem final_2 (c : Dev nD) : (dats m 0 c).arrAt 2 (cfgs 0).N
    = (fun i => grad (m ((c : Thread nD τ).loc main_arg2)) (m ((c : Thread nD τ).loc main_arg0)) (i 0) (i 1) : FVec Ideal S3072x1024 .f32) := by
  refine (dats m 0 c).arrAt_eq_of_covers 2 _ (by decide +kernel) fun t hf y => ?_
  have ho : t.val % 2 = 1 := (flush0_2 t).mp hf
  have hN : t.val < 6 := lt_of_lt_of_eq t.isLt N_0
  blk_simp; rw [after0_2, last m c t ho]
  idx_vars y
  have e0 : (((cfgs 0).win 2).blk t).view.emb (ix2 y0 y1) = (ix2 (col t y0) y1 : S3072x1024.Idx) := by blk_ext [idx t, col]
  have f := first m c ⟨t.val - 1, Nat.lt_of_le_of_lt (Nat.sub_le _ _) t.isLt⟩ (by show (t.val - 1) % 2 = 0; omega)
  refine Eq.trans (pay_at m c t _ y0 y1) ?_
  refine Eq.trans ?_ (congrArg (fun i : S3072x1024.Idx => grad (m ((c : Thread nD τ).loc main_arg2)) (m ((c : Thread nD τ).loc main_arg0)) (i 0) (i 1)) e0).symm
  refine Eq.trans ?_ (halves _ _ (col t y0) y1)
  rw [f, pay_at]
  refine congrArg₂ (fun x y : EReal => x + y) ?_ ?_
  · rw [show k0_pay1 (F := Ideal) (ix2 y0 y1) = (0 : EReal) by pointwise [k0_pay1], zero_add]
    refine congrArg₂ (fun q j => half (m ((c : Thread nD τ).loc main_arg2)) (m ((c : Thread nD τ).loc main_arg0)) q j y1) (Fin.ext ?_) (Fin.ext ?_)
    · show (t.val - 1) % 2 = 0; omega
    · show (t.val - 1) / 2 * 1024 + y0.val = t.val / 2 * 1024 + y0.val; omega
  · exact congrArg (fun q => half (m ((c : Thread nD τ).loc main_arg2)) (m ((c : Thread nD τ).loc main_arg0)) q (col t y0) y1) (Fin.ext ho)

theorem algebraic : Cert.algebraic_GradInIdeal_GradInRefIdeal (hGradInIdeal := Cert.GradInIdeal.Gen.facts)
    (hGradInRefIdeal := Cert.GradInRefIdeal.Gen.facts) := by
  intro m g m' g' _ hargs
  refine ⟨_, run_blocks m g, (θ_run _ _ _).mono (fun r h c => ?_) (Cert.GradInRefIdeal.Value.run m' g')⟩
  obtain ⟨e0, e1, e2⟩ := hargs c
  obtain ⟨v0, hk⟩ := h c
  refine ⟨v0.trans ?_, hk⟩
  rw [final_2, ← e0, ← e2]
  funext i; idx_vars i
  pointwise
  rfl

end Cert.GradInIdeal.Value

end
-- ==== Proof.AdamEq.lean ====
/- The optimiser's step: the kernel's results are the reference's, entry by entry. -/
module

public import proofs.«01_k».proof.Defs
public import proofs.«01_k».proof.Proof.Gen.AdamIdeal.Value
public import proofs.«01_k».proof.Proof.Gen.AdamRefIdeal.Run
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.AdamIdeal.Value

open Cert.AdamIdeal Cert.AdamIdeal.Gen

/-- The new moments and the step at one entry. -/
def mom (g v : EReal) : EReal := Ideal.ofBits .f32 0x3F666666#32 * v + Ideal.ofBits .f32 0x3DCCCCCD#32 * g
def sq (g v : EReal) : EReal := Ideal.ofBits .f32 0x3F7FBE77#32 * v + Ideal.ofBits .f32 0x3A83126F#32 * (g * g)
def step (w g u v : EReal) : EReal :=
  Ideal.ofBits .f32 0xBA83126F#32 * (Ideal.div (Ideal.div (mom g u) (Ideal.ofBits .f32 0x3F26BD02#32))
    (Ideal.sqrt (Ideal.div (sq g v) (Ideal.ofBits .f32 0x3C231ACC#32)) + Ideal.ofBits .f32 0x322BCC77#32) + Ideal.ofBits .f32 0x3C23D70A#32 * w)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The array row of row `r` of block `t`. -/
def row (t : Fin cfg0.N) (r : Fin 336) : Fin 1680 := ⟨t.val * 336 + r.val, by have := t.isLt; have : cfg0.N = 5 := N_0; omega⟩

theorem blk0 (c : Dev nD) (t : Fin cfg0.N) (r : Fin 336) (d : Fin 1024) :
    iblk m c 0 t (ix2 r d) = (m ((c : Thread nD τ).loc main_arg0) : FVec Ideal S1024x1680 .f32) (ix2 d (row t r)) := by
  blk_simp [iblk, idx t]
  simp only [V, hostOps0]
  entry_read
  pointwise
  blk_ext [idx t, row]
theorem blk1 (c : Dev nD) (t : Fin cfg0.N) (r : Fin 336) (d : Fin 1024) :
    iblk m c 1 t (ix2 r d) = (m ((c : Thread nD τ).loc main_arg1) : FVec Ideal S1024x1680 .f32) (ix2 d (row t r)) := by
  blk_simp [iblk, idx t]
  simp only [V, hostOps0]
  entry_read
  pointwise
  blk_ext [idx t, row]
theorem blk2 (c : Dev nD) (t : Fin cfg0.N) (r : Fin 336) (d : Fin 1024) :
    iblk m c 2 t (ix2 r d) = (m ((c : Thread nD τ).loc main_arg2) : FVec Ideal S1024x1680 .f32) (ix2 d (row t r)) := by
  blk_simp [iblk, idx t]
  simp only [V, hostOps0]
  entry_read
  pointwise
  blk_ext [idx t, row]
theorem blk3 (c : Dev nD) (t : Fin cfg0.N) (r : Fin 336) (d : Fin 1024) :
    iblk m c 3 t (ix2 r d) = (m ((c : Thread nD τ).loc main_arg3) : FVec Ideal S1024x1680 .f32) (ix2 d (row t r)) := by
  blk_simp [iblk, idx t]
  simp only [V, hostOps0]
  entry_read
  pointwise
  blk_ext [idx t, row]

theorem final_4 (c : Dev nD) : (dats m 0 c).arrAt 4 (cfgs 0).N
    = (fun i => step ((m ((c : Thread nD τ).loc main_arg0) : FVec Ideal S1024x1680 .f32) (ix2 (i 1) (i 0))) ((m ((c : Thread nD τ).loc main_arg1) : FVec Ideal S1024x1680 .f32) (ix2 (i 1) (i 0))) ((m ((c : Thread nD τ).loc main_arg2) : FVec Ideal S1024x1680 .f32) (ix2 (i 1) (i 0))) ((m ((c : Thread nD τ).loc main_arg3) : FVec Ideal S1024x1680 .f32) (ix2 (i 1) (i 0))) : FVec Ideal S1680x1024 .f32) := by
  refine (dats m 0 c).arrAt_eq_of_covers 4 _ (by decide +kernel) fun t hf y => ?_
  blk_simp; rw [after0_4]
  have out : out0_4 (iblk m c 0 t) (iblk m c 1 t) (iblk m c 2 t) (iblk m c 3 t) = k0_pay4 (iblk m c 0 t) (iblk m c 1 t) (iblk m c 2 t) (iblk m c 3 t) := by frame_out
  rw [out]
  idx_vars y
  have e0 : (((cfgs 0).win 4).blk t).view.emb (ix2 y0 y1) = (ix2 (row t y0) y1 : S1680x1024.Idx) := by blk_ext [idx t, row]
  have e : k0_pay4 (iblk m c 0 t) (iblk m c 1 t) (iblk m c 2 t) (iblk m c 3 t) (ix2 y0 y1) = step ((m ((c : Thread nD τ).loc main_arg0) : FVec Ideal S1024x1680 .f32) (ix2 y1 (row t y0))) ((m ((c : Thread nD τ).loc main_arg1) : FVec Ideal S1024x1680 .f32) (ix2 y1 (row t y0))) ((m ((c : Thread nD τ).loc main_arg2) : FVec Ideal S1024x1680 .f32) (ix2 y1 (row t y0))) ((m ((c : Thread nD τ).loc main_arg3) : FVec Ideal S1024x1680 .f32) (ix2 y1 (row t y0))) := by
    pointwise [k0_pay4, k0_pay3, k0_pay2, k0_pay1]; simp only [blk0, blk1, blk2, blk3]; rfl
  rw [e]
  exact (congrArg (fun i : S1680x1024.Idx => step ((m ((c : Thread nD τ).loc main_arg0) : FVec Ideal S1024x1680 .f32) (ix2 (i 1) (i 0))) ((m ((c : Thread nD τ).loc main_arg1) : FVec Ideal S1024x1680 .f32) (ix2 (i 1) (i 0))) ((m ((c : Thread nD τ).loc main_arg2) : FVec Ideal S1024x1680 .f32) (ix2 (i 1) (i 0))) ((m ((c : Thread nD τ).loc main_arg3) : FVec Ideal S1024x1680 .f32) (ix2 (i 1) (i 0)))) e0).symm

theorem final_5 (c : Dev nD) : (dats m 0 c).arrAt 5 (cfgs 0).N
    = (fun i => mom ((m ((c : Thread nD τ).loc main_arg1) : FVec Ideal S1024x1680 .f32) (ix2 (i 1) (i 0))) ((m ((c : Thread nD τ).loc main_arg2) : FVec Ideal S1024x1680 .f32) (ix2 (i 1) (i 0))) : FVec Ideal S1680x1024 .f32) := by
  refine (dats m 0 c).arrAt_eq_of_covers 5 _ (by decide +kernel) fun t hf y => ?_
  blk_simp; rw [after0_5]
  have out : out0_5 (iblk m c 0 t) (iblk m c 1 t) (iblk m c 2 t) (iblk m c 3 t) = k0_pay2 (iblk m c 1 t) (iblk m c 2 t) := by frame_out
  rw [out]
  idx_vars y
  have e0 : (((cfgs 0).win 5).blk t).view.emb (ix2 y0 y1) = (ix2 (row t y0) y1 : S1680x1024.Idx) := by blk_ext [idx t, row]
  have e : k0_pay2 (iblk m c 1 t) (iblk m c 2 t) (ix2 y0 y1) = mom ((m ((c : Thread nD τ).loc main_arg1) : FVec Ideal S1024x1680 .f32) (ix2 y1 (row t y0))) ((m ((c : Thread nD τ).loc main_arg2) : FVec Ideal S1024x1680 .f32) (ix2 y1 (row t y0))) := by
    pointwise [k0_pay2, k0_pay1]; simp only [blk1, blk2]; rfl
  rw [e]
  exact (congrArg (fun i : S1680x1024.Idx => mom ((m ((c : Thread nD τ).loc main_arg1) : FVec Ideal S1024x1680 .f32) (ix2 (i 1) (i 0))) ((m ((c : Thread nD τ).loc main_arg2) : FVec Ideal S1024x1680 .f32) (ix2 (i 1) (i 0)))) e0).symm

theorem final_6 (c : Dev nD) : (dats m 0 c).arrAt 6 (cfgs 0).N
    = (fun i => sq ((m ((c : Thread nD τ).loc main_arg1) : FVec Ideal S1024x1680 .f32) (ix2 (i 1) (i 0))) ((m ((c : Thread nD τ).loc main_arg3) : FVec Ideal S1024x1680 .f32) (ix2 (i 1) (i 0))) : FVec Ideal S1680x1024 .f32) := by
  refine (dats m 0 c).arrAt_eq_of_covers 6 _ (by decide +kernel) fun t hf y => ?_
  blk_simp; rw [after0_6]
  have out : out0_6 (iblk m c 0 t) (iblk m c 1 t) (iblk m c 2 t) (iblk m c 3 t) = k0_pay3 (iblk m c 1 t) (iblk m c 3 t) := by frame_out
  rw [out]
  idx_vars y
  have e0 : (((cfgs 0).win 6).blk t).view.emb (ix2 y0 y1) = (ix2 (row t y0) y1 : S1680x1024.Idx) := by blk_ext [idx t, row]
  have e : k0_pay3 (iblk m c 1 t) (iblk m c 3 t) (ix2 y0 y1) = sq ((m ((c : Thread nD τ).loc main_arg1) : FVec Ideal S1024x1680 .f32) (ix2 y1 (row t y0))) ((m ((c : Thread nD τ).loc main_arg3) : FVec Ideal S1024x1680 .f32) (ix2 y1 (row t y0))) := by
    pointwise [k0_pay3, k0_pay1]; simp only [blk1, blk3]; rfl
  rw [e]
  exact (congrArg (fun i : S1680x1024.Idx => sq ((m ((c : Thread nD τ).loc main_arg1) : FVec Ideal S1024x1680 .f32) (ix2 (i 1) (i 0))) ((m ((c : Thread nD τ).loc main_arg3) : FVec Ideal S1024x1680 .f32) (ix2 (i 1) (i 0)))) e0).symm

theorem algebraic : Cert.algebraic_AdamIdeal_AdamRefIdeal (hAdamIdeal := Cert.AdamIdeal.Gen.facts)
    (hAdamRefIdeal := Cert.AdamRefIdeal.Gen.facts) := by
  intro m g m' g' _ hargs
  refine ⟨_, _, _, run_blocks m g, (θ_run _ _ _).mono (fun r h c => ?_) (Cert.AdamRefIdeal.Value.run m' g')⟩
  obtain ⟨e0, e1, e2, e3⟩ := hargs c
  obtain ⟨v0, v1, v2, hk⟩ := h c
  refine ⟨v0.trans ?_, v1.trans ?_, v2.trans ?_, hk⟩
  · rw [final_4, ← e0, ← e1, ← e2, ← e3]
    funext i; idx_vars i
    pointwise; rfl
  · rw [final_5, ← e1, ← e2]
    funext i; idx_vars i
    pointwise; rfl
  · rw [final_6, ← e1, ← e3]
    funext i; idx_vars i
    pointwise; rfl

end Cert.AdamIdeal.Value

end
-- ==== Proof.lean ====
module

public import proofs.«01_k».proof.Defs
public import proofs.«01_k».proof.Proof.Gen.InputBwd
public import proofs.«01_k».proof.Proof.Gen.InputBwd.Skeleton
public import proofs.«01_k».proof.Proof.Gen.InputBwd.Launch
public import proofs.«01_k».proof.Proof.Gen.InputBwd.Points
public import proofs.«01_k».proof.Proof.Gen.InputBwd.Frame
public import proofs.«01_k».proof.Proof.Gen.InputBwdIdeal
public import proofs.«01_k».proof.Proof.Gen.InputBwdIdeal.Skeleton
public import proofs.«01_k».proof.Proof.Gen.InputBwdIdeal.Launch
public import proofs.«01_k».proof.Proof.Gen.InputBwdIdeal.Points
public import proofs.«01_k».proof.Proof.Gen.InputBwdIdeal.Frame
public import proofs.«01_k».proof.Proof.Gen.InputBwdIdeal.Value
public import proofs.«01_k».proof.Proof.Gen.InputRefIdeal
public import proofs.«01_k».proof.Proof.Gen.InputRefIdeal.Run
public import proofs.«01_k».proof.Proof.Gen.Pre_input_finite
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Flash
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Flash
public import proofs.«01_k».proof.Proof.Gen.AttnRefIdeal
public import proofs.«01_k».proof.Proof.Gen.AttnRefIdeal.Run
public import proofs.«01_k».proof.Proof.Gen.Pre_attn_finite
public import proofs.«01_k».proof.Proof.Gen.Middle
public import proofs.«01_k».proof.Proof.Gen.Middle.Skeleton
public import proofs.«01_k».proof.Proof.Gen.Middle.Launch
public import proofs.«01_k».proof.Proof.Gen.Middle.Points
public import proofs.«01_k».proof.Proof.Gen.Middle.Frame
public import proofs.«01_k».proof.Proof.Gen.MiddleIdeal
public import proofs.«01_k».proof.Proof.Gen.MiddleIdeal.Skeleton
public import proofs.«01_k».proof.Proof.Gen.MiddleIdeal.Launch
public import proofs.«01_k».proof.Proof.Gen.MiddleIdeal.Points
public import proofs.«01_k».proof.Proof.Gen.MiddleIdeal.Frame
public import proofs.«01_k».proof.Proof.Gen.MiddleIdeal.Value
public import proofs.«01_k».proof.Proof.Gen.MiddleRefIdeal
public import proofs.«01_k».proof.Proof.Gen.MiddleRefIdeal.Run
public import proofs.«01_k».proof.Proof.Gen.Pre_middle_finite
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaRefIdeal
public import proofs.«01_k».proof.Proof.Gen.AdaRefIdeal.Run
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvRefIdeal
public import proofs.«01_k».proof.Proof.Gen.ConvRefIdeal.Run
public import proofs.«01_k».proof.Proof.Gen.PrepBwd
public import proofs.«01_k».proof.Proof.Gen.PrepBwd.Skeleton
public import proofs.«01_k».proof.Proof.Gen.PrepBwd.Launch
public import proofs.«01_k».proof.Proof.Gen.PrepBwd.Points
public import proofs.«01_k».proof.Proof.Gen.PrepBwd.Frame
public import proofs.«01_k».proof.Proof.Gen.PrepBwdIdeal
public import proofs.«01_k».proof.Proof.Gen.PrepBwdIdeal.Skeleton
public import proofs.«01_k».proof.Proof.Gen.PrepBwdIdeal.Launch
public import proofs.«01_k».proof.Proof.Gen.PrepBwdIdeal.Points
public import proofs.«01_k».proof.Proof.Gen.PrepBwdIdeal.Frame
public import proofs.«01_k».proof.Proof.Gen.PrepBwdIdeal.Value
public import proofs.«01_k».proof.Proof.Gen.PrepRefIdeal
public import proofs.«01_k».proof.Proof.Gen.PrepRefIdeal.Run
public import proofs.«01_k».proof.Proof.Gen.Pre_prep_finite
public import proofs.«01_k».proof.Proof.Gen.AdaNorm
public import proofs.«01_k».proof.Proof.Gen.AdaNorm.Skeleton
public import proofs.«01_k».proof.Proof.Gen.AdaNorm.Launch
public import proofs.«01_k».proof.Proof.Gen.AdaNorm.Points
public import proofs.«01_k».proof.Proof.Gen.AdaNorm.Frame
public import proofs.«01_k».proof.Proof.Gen.AdaNormIdeal
public import proofs.«01_k».proof.Proof.Gen.AdaNormIdeal.Skeleton
public import proofs.«01_k».proof.Proof.Gen.AdaNormIdeal.Launch
public import proofs.«01_k».proof.Proof.Gen.AdaNormIdeal.Points
public import proofs.«01_k».proof.Proof.Gen.AdaNormIdeal.Frame
public import proofs.«01_k».proof.Proof.Gen.AdaNormIdeal.Value
public import proofs.«01_k».proof.Proof.Gen.NormRefIdeal
public import proofs.«01_k».proof.Proof.Gen.NormRefIdeal.Run
public import proofs.«01_k».proof.Proof.Gen.PrepFwd
public import proofs.«01_k».proof.Proof.Gen.PrepFwd.Skeleton
public import proofs.«01_k».proof.Proof.Gen.PrepFwd.Launch
public import proofs.«01_k».proof.Proof.Gen.PrepFwd.Points
public import proofs.«01_k».proof.Proof.Gen.PrepFwd.Frame
public import proofs.«01_k».proof.Proof.Gen.PrepFwdIdeal
public import proofs.«01_k».proof.Proof.Gen.PrepFwdIdeal.Skeleton
public import proofs.«01_k».proof.Proof.Gen.PrepFwdIdeal.Launch
public import proofs.«01_k».proof.Proof.Gen.PrepFwdIdeal.Points
public import proofs.«01_k».proof.Proof.Gen.PrepFwdIdeal.Frame
public import proofs.«01_k».proof.Proof.Gen.PrepFwdIdeal.Value
public import proofs.«01_k».proof.Proof.Gen.PrepFwdRefIdeal
public import proofs.«01_k».proof.Proof.Gen.PrepFwdRefIdeal.Run
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.ConvFwdRefIdeal.Run
public import proofs.«01_k».proof.Proof.InputEq
public import proofs.«01_k».proof.Proof.AttnAlg
public import proofs.«01_k».proof.Proof.AttnKeeps
public import proofs.«01_k».proof.Proof.MiddleEq
public import proofs.«01_k».proof.Proof.AdaEq
public import proofs.«01_k».proof.Proof.PrepEq
public import proofs.«01_k».proof.Proof.NormEq
public import proofs.«01_k».proof.Proof.PrepFwdEq
public import proofs.«01_k».proof.Proof.AdaFwdEq
public import proofs.«01_k».proof.Proof.ProjEq
public import proofs.«01_k».proof.Proof.GradInEq
public import proofs.«01_k».proof.Proof.AdamEq
public import Idealize.ShloMosaic.Adequacy
public import Idealize.ShloMosaic.Init

@[expose] public section

noncomputable section

namespace Cert.Proof

open Idealize.ShloMosaic Idealize.SL.Sem Cert.InputBwd

/-- The reference of the gradient of the input projection runs, and leaves its arguments alone. -/
theorem input_reference : Cert.quiescent_InputRefIdeal (hInputRefIdeal := Cert.InputRefIdeal.Gen.facts) := fun m g _ =>
  (θ_run (Cert.InputRefIdeal.defs (F := Ideal)) _ _).mono (fun r h => ⟨fun c => (h c).2.2, sem_eq_zero_of_no_sems (by decide) r.2⟩)
    (Cert.InputRefIdeal.Value.run m g)

/-- The reference of the attention's gradient runs, and leaves its arguments alone. -/
theorem attn_reference : Cert.quiescent_AttnRefIdeal (hAttnRefIdeal := Cert.AttnRefIdeal.Gen.facts) := fun m g _ =>
  (θ_run (Cert.AttnRefIdeal.defs (F := Ideal)) _ _).mono (fun r h => ⟨fun c => (h c).2.2.2, sem_eq_zero_of_no_sems (by decide) r.2⟩)
    (Cert.AttnRefIdeal.Value.run m g)

/-- The reference of the gradient from the loss to the branches runs, and leaves its arguments alone. -/
theorem middle_reference : Cert.quiescent_MiddleRefIdeal (hMiddleRefIdeal := Cert.MiddleRefIdeal.Gen.facts) := fun m g _ =>
  (θ_run (Cert.MiddleRefIdeal.defs (F := Ideal)) _ _).mono (fun r h => ⟨fun c => (h c).2.2.2.2.2.2.2.2.2.2.2, sem_eq_zero_of_no_sems (by decide) r.2⟩)
    (Cert.MiddleRefIdeal.Value.run m g)

/-- The reference of the gradient of the modulation weights runs, and leaves its arguments alone. -/
theorem ada_reference : Cert.quiescent_AdaRefIdeal (hAdaRefIdeal := Cert.AdaRefIdeal.Gen.facts) := fun m g _ =>
  (θ_run (Cert.AdaRefIdeal.defs (F := Ideal)) _ _).mono (fun r h => ⟨fun c => (h c).2, sem_eq_zero_of_no_sems (by decide) r.2⟩)
    (Cert.AdaRefIdeal.Value.run m g)

/-- The reference of the gradient of the convolution runs, and leaves its arguments alone. -/
theorem conv_reference : Cert.quiescent_ConvRefIdeal (hConvRefIdeal := Cert.ConvRefIdeal.Gen.facts) := fun m g _ =>
  (θ_run (Cert.ConvRefIdeal.defs (F := Ideal)) _ _).mono (fun r h => ⟨fun c => (h c).2.2.2, sem_eq_zero_of_no_sems (by decide) r.2⟩)
    (Cert.ConvRefIdeal.Value.run m g)

/-- The reference of the latent projections' gradient runs, and leaves its arguments alone. -/
theorem prep_reference : Cert.quiescent_PrepRefIdeal (hPrepRefIdeal := Cert.PrepRefIdeal.Gen.facts) := fun m g _ =>
  (θ_run (Cert.PrepRefIdeal.defs (F := Ideal)) _ _).mono (fun r h => ⟨fun c => (h c).2.2.2.2, sem_eq_zero_of_no_sems (by decide) r.2⟩)
    (Cert.PrepRefIdeal.Value.run m g)

/-- The reference of the input norm runs, and leaves its arguments alone. -/
theorem norm_reference : Cert.quiescent_NormRefIdeal (hNormRefIdeal := Cert.NormRefIdeal.Gen.facts) := fun m g _ =>
  (θ_run (Cert.NormRefIdeal.defs (F := Ideal)) _ _).mono (fun r h => ⟨fun c => (h c).2, sem_eq_zero_of_no_sems (by decide) r.2⟩)
    (Cert.NormRefIdeal.Value.run m g)

/-- The reference of the attention's operands runs, and leaves its arguments alone. -/
theorem prep_fwd_reference : Cert.quiescent_PrepFwdRefIdeal (hPrepFwdRefIdeal := Cert.PrepFwdRefIdeal.Gen.facts) := fun m g _ =>
  (θ_run (Cert.PrepFwdRefIdeal.defs (F := Ideal)) _ _).mono (fun r h => ⟨fun c => (h c).2.2.2.2.2, sem_eq_zero_of_no_sems (by decide) r.2⟩)
    (Cert.PrepFwdRefIdeal.Value.run m g)

/-- The reference of the modulation runs, and leaves its arguments alone. -/
theorem ada_fwd_reference : Cert.quiescent_AdaFwdRefIdeal (hAdaFwdRefIdeal := Cert.AdaFwdRefIdeal.Gen.facts) := fun m g _ =>
  (θ_run (Cert.AdaFwdRefIdeal.defs (F := Ideal)) _ _).mono (fun r h => ⟨fun c => (h c).2, sem_eq_zero_of_no_sems (by decide) r.2⟩)
    (Cert.AdaFwdRefIdeal.Value.run m g)

/-- The reference of the product runs, and leaves its arguments alone. -/
theorem proj_reference : Cert.quiescent_ProjRefIdeal (hProjRefIdeal := Cert.ProjRefIdeal.Gen.facts) := fun m g _ =>
  (θ_run (Cert.ProjRefIdeal.defs (F := Ideal)) _ _).mono (fun r h => ⟨fun c => (h c).2, sem_eq_zero_of_no_sems (by decide) r.2⟩)
    (Cert.ProjRefIdeal.Value.run m g)

/-- The reference of the product's gradient runs, and leaves its arguments alone. -/
theorem grad_in_reference : Cert.quiescent_GradInRefIdeal (hGradInRefIdeal := Cert.GradInRefIdeal.Gen.facts) := fun m g _ =>
  (θ_run (Cert.GradInRefIdeal.defs (F := Ideal)) _ _).mono (fun r h => ⟨fun c => (h c).2, sem_eq_zero_of_no_sems (by decide) r.2⟩)
    (Cert.GradInRefIdeal.Value.run m g)

/-- The reference of the optimiser's step runs, and leaves its arguments alone. -/
theorem adam_reference : Cert.quiescent_AdamRefIdeal (hAdamRefIdeal := Cert.AdamRefIdeal.Gen.facts) := fun m g _ =>
  (θ_run (Cert.AdamRefIdeal.defs (F := Ideal)) _ _).mono (fun r h => ⟨fun c => (h c).2.2.2, sem_eq_zero_of_no_sems (by decide) r.2⟩)
    (Cert.AdamRefIdeal.Value.run m g)

/-- The reference of the convolution branch runs, and leaves its arguments alone. -/
theorem conv_fwd_reference : Cert.quiescent_ConvFwdRefIdeal (hConvFwdRefIdeal := Cert.ConvFwdRefIdeal.Gen.facts) := fun m g _ =>
  (θ_run (Cert.ConvFwdRefIdeal.defs (F := Ideal)) _ _).mono (fun r h => ⟨fun c => (h c).2.2.2, sem_eq_zero_of_no_sems (by decide) r.2⟩)
    (Cert.ConvFwdRefIdeal.Value.run m g)

theorem claim : Cert.Claim := ⟨Cert.InputBwd.Gen.facts, Cert.InputBwdIdeal.Gen.facts, Cert.InputRefIdeal.Gen.facts,
  Cert.AttnBwd.Gen.facts, Cert.AttnBwdIdeal.Gen.facts, Cert.AttnRefIdeal.Gen.facts,
  Cert.Middle.Gen.facts, Cert.MiddleIdeal.Gen.facts, Cert.MiddleRefIdeal.Gen.facts,
  Cert.AdaBwd.Gen.facts, Cert.AdaBwdIdeal.Gen.facts, Cert.AdaRefIdeal.Gen.facts,
  Cert.ConvBwd.Gen.facts, Cert.ConvBwdIdeal.Gen.facts, Cert.ConvRefIdeal.Gen.facts,
  Cert.PrepBwd.Gen.facts, Cert.PrepBwdIdeal.Gen.facts, Cert.PrepRefIdeal.Gen.facts,
  Cert.AdaNorm.Gen.facts, Cert.AdaNormIdeal.Gen.facts, Cert.NormRefIdeal.Gen.facts,
  Cert.PrepFwd.Gen.facts, Cert.PrepFwdIdeal.Gen.facts, Cert.PrepFwdRefIdeal.Gen.facts,
  Cert.AdaFwd.Gen.facts, Cert.AdaFwdIdeal.Gen.facts, Cert.AdaFwdRefIdeal.Gen.facts,
  Cert.Proj.Gen.facts, Cert.ProjIdeal.Gen.facts, Cert.ProjRefIdeal.Gen.facts,
  Cert.GradIn.Gen.facts, Cert.GradInIdeal.Gen.facts, Cert.GradInRefIdeal.Gen.facts,
  Cert.Adam.Gen.facts, Cert.AdamIdeal.Gen.facts, Cert.AdamRefIdeal.Gen.facts,
  Cert.ConvFwd.Gen.facts, Cert.ConvFwdIdeal.Gen.facts, Cert.ConvFwdRefIdeal.Gen.facts,
  Cert.Pre_input_finite.Gen.facts, Cert.Pre_attn_finite.Gen.facts, Cert.Pre_middle_finite.Gen.facts, Cert.Pre_prep_finite.Gen.facts,
  fun m g _ => Cert.InputBwd.Gen.frame m g, fun m g _ => Cert.InputBwdIdeal.Gen.frame m g, fun m g _ => Cert.InputBwdIdeal.Gen.frame m g,
  fun m g _ => input_reference m g trivial, fun m g _ => input_reference m g trivial,
  fun m g _ => Cert.AttnBwd.Run.keeps m g, fun m g _ => Cert.AttnBwdIdeal.Run.keeps Ideal m g, fun m g _ => Cert.AttnBwdIdeal.Run.keeps Ideal m g,
  fun m g _ => attn_reference m g trivial, fun m g _ => attn_reference m g trivial,
  fun m g _ => Cert.Middle.Gen.frame m g, fun m g _ => Cert.MiddleIdeal.Gen.frame m g, fun m g _ => Cert.MiddleIdeal.Gen.frame m g,
  fun m g _ => middle_reference m g trivial, fun m g _ => middle_reference m g trivial,
  fun m g _ => Cert.AdaBwd.Gen.frame m g, fun m g _ => Cert.AdaBwdIdeal.Gen.frame m g, fun m g _ => ada_reference m g trivial,
  fun m g _ => Cert.ConvBwd.Gen.frame m g, fun m g _ => Cert.ConvBwdIdeal.Gen.frame m g, fun m g _ => conv_reference m g trivial,
  fun m g _ => Cert.PrepBwd.Gen.frame m g, fun m g _ => Cert.PrepBwdIdeal.Gen.frame m g, fun m g _ => Cert.PrepBwdIdeal.Gen.frame m g,
  fun m g _ => prep_reference m g trivial, fun m g _ => prep_reference m g trivial,
  fun m g _ => Cert.AdaNorm.Gen.frame m g, fun m g _ => Cert.AdaNormIdeal.Gen.frame m g, fun m g _ => norm_reference m g trivial,
  fun m g _ => Cert.PrepFwd.Gen.frame m g, fun m g _ => Cert.PrepFwdIdeal.Gen.frame m g, fun m g _ => prep_fwd_reference m g trivial,
  fun m g _ => Cert.AdaFwd.Gen.frame m g, fun m g _ => Cert.AdaFwdIdeal.Gen.frame m g, fun m g _ => ada_fwd_reference m g trivial,
  fun m g _ => Cert.Proj.Gen.frame m g, fun m g _ => Cert.ProjIdeal.Gen.frame m g, fun m g _ => proj_reference m g trivial,
  fun m g _ => Cert.GradIn.Gen.frame m g, fun m g _ => Cert.GradInIdeal.Gen.frame m g, fun m g _ => grad_in_reference m g trivial,
  fun m g _ => Cert.Adam.Gen.frame m g, fun m g _ => Cert.AdamIdeal.Gen.frame m g, fun m g _ => adam_reference m g trivial,
  fun m g _ => Cert.ConvFwd.Gen.frame m g, fun m g _ => Cert.ConvFwdIdeal.Gen.frame m g, fun m g _ => conv_fwd_reference m g trivial,
  trivial, Cert.InputBwdIdeal.Value.algebraic,
  ⟨IdealRules.named_const.statement _ _ _ _ _ rfl, IdealRules.named_const.statement _ _ _ _ _ rfl⟩, Cert.AttnBwdIdeal.Run.algebraic,
  trivial, Cert.MiddleRefIdeal.Value.algebraic,
  trivial, Cert.AdaBwdIdeal.Value.algebraic,
  trivial,
  trivial, Cert.PrepRefIdeal.Value.algebraic,
  trivial, Cert.AdaNormIdeal.Value.algebraic,
  trivial, Cert.PrepFwdIdeal.Value.algebraic,
  trivial, Cert.AdaFwdIdeal.Value.algebraic,
  trivial, Cert.ProjIdeal.Value.algebraic,
  trivial, Cert.GradInIdeal.Value.algebraic,
  trivial, Cert.AdamIdeal.Value.algebraic,
  trivial⟩

end Cert.Proof

end
